-- ==== Defs.lean ====
def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_finite_final [hPre_finite_final : Cert.Pre_finite_final.Facts] (m : (ℓ : Loc Cert.FinalIdeal.nD Cert.FinalIdeal.τ Cert.FinalIdeal.sig) → Buf (Elt Ideal) ℓ) : Prop :=
  ∀ c : Dev Cert.FinalIdeal.nD,
    (Cert.Pre_finite_final.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2))) = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_finite_final [hPre_finite_final : Cert.Pre_finite_final.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_finite_final.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2))) = (fun _ => 1#1)

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutIdeal_finite_co [hPre_finite_co : Cert.Pre_finite_co.Facts] (m : (ℓ : Loc Cert.ConvOutIdeal.nD Cert.ConvOutIdeal.τ Cert.ConvOutIdeal.sig) → Buf (Elt Ideal) ℓ) : Prop :=
  ∀ c : Dev Cert.ConvOutIdeal.nD,
    (Cert.Pre_finite_co.fn (F := Ideal) (m ((c.tc : Thread Cert.ConvOutIdeal.nD Cert.ConvOutIdeal.τ).loc Cert.ConvOutIdeal.main_arg0)) (m ((c.tc : Thread Cert.ConvOutIdeal.nD Cert.ConvOutIdeal.τ).loc Cert.ConvOutIdeal.main_arg1)) (m ((c.tc : Thread Cert.ConvOutIdeal.nD Cert.ConvOutIdeal.τ).loc Cert.ConvOutIdeal.main_arg2)) (m ((c.tc : Thread Cert.ConvOutIdeal.nD Cert.ConvOutIdeal.τ).loc Cert.ConvOutIdeal.main_arg3)) (m ((c.tc : Thread Cert.ConvOutIdeal.nD Cert.ConvOutIdeal.τ).loc Cert.ConvOutIdeal.main_arg4)) (m ((c.tc : Thread Cert.ConvOutIdeal.nD Cert.ConvOutIdeal.τ).loc Cert.ConvOutIdeal.main_arg5)) (m ((c.tc : Thread Cert.ConvOutIdeal.nD Cert.ConvOutIdeal.τ).loc Cert.ConvOutIdeal.main_arg6)) (m ((c.tc : Thread Cert.ConvOutIdeal.nD Cert.ConvOutIdeal.τ).loc Cert.ConvOutIdeal.main_arg7)) (m ((c.tc : Thread Cert.ConvOutIdeal.nD Cert.ConvOutIdeal.τ).loc Cert.ConvOutIdeal.main_arg8))) = (fun _ => 1#1)

def Pre_ConvOutRefIdeal (m : (ℓ : Loc Cert.ConvOutRefIdeal.nD Cert.ConvOutRefIdeal.τ Cert.ConvOutRefIdeal.sig) → Buf (Elt Ideal) ℓ) : Prop :=
  True

def Pre_ConvOutRefIdeal_finite_co [hPre_finite_co : Cert.Pre_finite_co.Facts] (m : (ℓ : Loc Cert.ConvOutRefIdeal.nD Cert.ConvOutRefIdeal.τ Cert.ConvOutRefIdeal.sig) → Buf (Elt Ideal) ℓ) : Prop :=
  ∀ c : Dev Cert.ConvOutRefIdeal.nD,
    (Cert.Pre_finite_co.fn (F := Ideal) (m ((c.tc : Thread Cert.ConvOutRefIdeal.nD Cert.ConvOutRefIdeal.τ).loc Cert.ConvOutRefIdeal.main_arg0)) (m ((c.tc : Thread Cert.ConvOutRefIdeal.nD Cert.ConvOutRefIdeal.τ).loc Cert.ConvOutRefIdeal.main_arg1)) (m ((c.tc : Thread Cert.ConvOutRefIdeal.nD Cert.ConvOutRefIdeal.τ).loc Cert.ConvOutRefIdeal.main_arg2)) (m ((c.tc : Thread Cert.ConvOutRefIdeal.nD Cert.ConvOutRefIdeal.τ).loc Cert.ConvOutRefIdeal.main_arg3)) (m ((c.tc : Thread Cert.ConvOutRefIdeal.nD Cert.ConvOutRefIdeal.τ).loc Cert.ConvOutRefIdeal.main_arg4)) (m ((c.tc : Thread Cert.ConvOutRefIdeal.nD Cert.ConvOutRefIdeal.τ).loc Cert.ConvOutRefIdeal.main_arg5)) (m ((c.tc : Thread Cert.ConvOutRefIdeal.nD Cert.ConvOutRefIdeal.τ).loc Cert.ConvOutRefIdeal.main_arg6)) (m ((c.tc : Thread Cert.ConvOutRefIdeal.nD Cert.ConvOutRefIdeal.τ).loc Cert.ConvOutRefIdeal.main_arg7)) (m ((c.tc : Thread Cert.ConvOutRefIdeal.nD Cert.ConvOutRefIdeal.τ).loc Cert.ConvOutRefIdeal.main_arg8))) = (fun _ => 1#1)

def Pre_WPw (m : (ℓ : Loc Cert.WPw.nD Cert.WPw.τ Cert.WPw.sig) → Buf (Elt Bits) ℓ) : Prop :=
  True

def Pre_WPwIdeal (m : (ℓ : Loc Cert.WPwIdeal.nD Cert.WPwIdeal.τ Cert.WPwIdeal.sig) → Buf (Elt Ideal) ℓ) : Prop :=
  True

def Pre_WPwIdeal_finite_wg [hPre_finite_wg : Cert.Pre_finite_wg.Facts] (m : (ℓ : Loc Cert.WPwIdeal.nD Cert.WPwIdeal.τ Cert.WPwIdeal.sig) → Buf (Elt Ideal) ℓ) : Prop :=
  ∀ c : Dev Cert.WPwIdeal.nD,
    (Cert.Pre_finite_wg.fn (F := Ideal) (m ((c.tc : Thread Cert.WPwIdeal.nD Cert.WPwIdeal.τ).loc Cert.WPwIdeal.main_arg0)) (m ((c.tc : Thread Cert.WPwIdeal.nD Cert.WPwIdeal.τ).loc Cert.WPwIdeal.main_arg1)) (m ((c.tc : Thread Cert.WPwIdeal.nD Cert.WPwIdeal.τ).loc Cert.WPwIdeal.main_arg2)) (m ((c.tc : Thread Cert.WPwIdeal.nD Cert.WPwIdeal.τ).loc Cert.WPwIdeal.main_arg3)) (m ((c.tc : Thread Cert.WPwIdeal.nD Cert.WPwIdeal.τ).loc Cert.WPwIdeal.main_arg4)) (m ((c.tc : Thread Cert.WPwIdeal.nD Cert.WPwIdeal.τ).loc Cert.WPwIdeal.main_arg5)) (m ((c.tc : Thread Cert.WPwIdeal.nD Cert.WPwIdeal.τ).loc Cert.WPwIdeal.main_arg6)) (m ((c.tc : Thread Cert.WPwIdeal.nD Cert.WPwIdeal.τ).loc Cert.WPwIdeal.main_arg7))) = (fun _ => 1#1)

def Pre_WPwRefIdeal (m : (ℓ : Loc Cert.WPwRefIdeal.nD Cert.WPwRefIdeal.τ Cert.WPwRefIdeal.sig) → Buf (Elt Ideal) ℓ) : Prop :=
  True

def Pre_WPwRefIdeal_finite_wg [hPre_finite_wg : Cert.Pre_finite_wg.Facts] (m : (ℓ : Loc Cert.WPwRefIdeal.nD Cert.WPwRefIdeal.τ Cert.WPwRefIdeal.sig) → Buf (Elt Ideal) ℓ) : Prop :=
  ∀ c : Dev Cert.WPwRefIdeal.nD,
    (Cert.Pre_finite_wg.fn (F := Ideal) (m ((c.tc : Thread Cert.WPwRefIdeal.nD Cert.WPwRefIdeal.τ).loc Cert.WPwRefIdeal.main_arg0)) (m ((c.tc : Thread Cert.WPwRefIdeal.nD Cert.WPwRefIdeal.τ).loc Cert.WPwRefIdeal.main_arg1)) (m ((c.tc : Thread Cert.WPwRefIdeal.nD Cert.WPwRefIdeal.τ).loc Cert.WPwRefIdeal.main_arg2)) (m ((c.tc : Thread Cert.WPwRefIdeal.nD Cert.WPwRefIdeal.τ).loc Cert.WPwRefIdeal.main_arg3)) (m ((c.tc : Thread Cert.WPwRefIdeal.nD Cert.WPwRefIdeal.τ).loc Cert.WPwRefIdeal.main_arg4)) (m ((c.tc : Thread Cert.WPwRefIdeal.nD Cert.WPwRefIdeal.τ).loc Cert.WPwRefIdeal.main_arg5)) (m ((c.tc : Thread Cert.WPwRefIdeal.nD Cert.WPwRefIdeal.τ).loc Cert.WPwRefIdeal.main_arg6)) (m ((c.tc : Thread Cert.WPwRefIdeal.nD Cert.WPwRefIdeal.τ).loc Cert.WPwRefIdeal.main_arg7))) = (fun _ => 1#1)

def Pre_ModW (m : (ℓ : Loc Cert.ModW.nD Cert.ModW.τ Cert.ModW.sig) → Buf (Elt Bits) ℓ) : Prop :=
  True

def Pre_ModWIdeal (m : (ℓ : Loc Cert.ModWIdeal.nD Cert.ModWIdeal.τ Cert.ModWIdeal.sig) → Buf (Elt Ideal) ℓ) : Prop :=
  True

def Pre_ModWIdeal_finite_mw [hPre_finite_mw : Cert.Pre_finite_mw.Facts] (m : (ℓ : Loc Cert.ModWIdeal.nD Cert.ModWIdeal.τ Cert.ModWIdeal.sig) → Buf (Elt Ideal) ℓ) : Prop :=
  ∀ c : Dev Cert.ModWIdeal.nD,
    (Cert.Pre_finite_mw.fn (F := Ideal) (m ((c.tc : Thread Cert.ModWIdeal.nD Cert.ModWIdeal.τ).loc Cert.ModWIdeal.main_arg0)) (m ((c.tc : Thread Cert.ModWIdeal.nD Cert.ModWIdeal.τ).loc Cert.ModWIdeal.main_arg1))) = (fun _ => 1#1)

def Pre_ModWRefIdeal (m : (ℓ : Loc Cert.ModWRefIdeal.nD Cert.ModWRefIdeal.τ Cert.ModWRefIdeal.sig) → Buf (Elt Ideal) ℓ) : Prop :=
  True

def Pre_ModWRefIdeal_finite_mw [hPre_finite_mw : Cert.Pre_finite_mw.Facts] (m : (ℓ : Loc Cert.ModWRefIdeal.nD Cert.ModWRefIdeal.τ Cert.ModWRefIdeal.sig) → Buf (Elt Ideal) ℓ) : Prop :=
  ∀ c : Dev Cert.ModWRefIdeal.nD,
    (Cert.Pre_finite_mw.fn (F := Ideal) (m ((c.tc : Thread Cert.ModWRefIdeal.nD Cert.ModWRefIdeal.τ).loc Cert.ModWRefIdeal.main_arg0)) (m ((c.tc : Thread Cert.ModWRefIdeal.nD Cert.ModWRefIdeal.τ).loc Cert.ModWRefIdeal.main_arg1))) = (fun _ => 1#1)

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutIdeal_finite_ao [hPre_finite_ao : Cert.Pre_finite_ao.Facts] (m : (ℓ : Loc Cert.AttnOutIdeal.nD Cert.AttnOutIdeal.τ Cert.AttnOutIdeal.sig) → Buf (Elt Ideal) ℓ) : Prop :=
  ∀ c : Dev Cert.AttnOutIdeal.nD,
    (Cert.Pre_finite_ao.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3))) = (fun _ => 1#1)

def Pre_AttnOutRefIdeal (m : (ℓ : Loc Cert.AttnOutRefIdeal.nD Cert.AttnOutRefIdeal.τ Cert.AttnOutRefIdeal.sig) → Buf (Elt Ideal) ℓ) : Prop :=
  True

def Pre_AttnOutRefIdeal_finite_ao [hPre_finite_ao : Cert.Pre_finite_ao.Facts] (m : (ℓ : Loc Cert.AttnOutRefIdeal.nD Cert.AttnOutRefIdeal.τ Cert.AttnOutRefIdeal.sig) → Buf (Elt Ideal) ℓ) : Prop :=
  ∀ c : Dev Cert.AttnOutRefIdeal.nD,
    (Cert.Pre_finite_ao.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdIdeal_finite_q [hPre_finite_q : Cert.Pre_finite_q.Facts] (m : (ℓ : Loc Cert.QBwdIdeal.nD Cert.QBwdIdeal.τ Cert.QBwdIdeal.sig) → Buf (Elt Ideal) ℓ) : Prop :=
  ∀ c : Dev Cert.QBwdIdeal.nD,
    (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4)) (m ((c.tc : Thread Cert.QBwdIdeal.nD Cert.QBwdIdeal.τ).loc Cert.QBwdIdeal.main_arg5)) (m ((c.tc : Thread Cert.QBwdIdeal.nD Cert.QBwdIdeal.τ).loc Cert.QBwdIdeal.main_arg6)) (m ((c.tc : Thread Cert.QBwdIdeal.nD Cert.QBwdIdeal.τ).loc Cert.QBwdIdeal.main_arg7)) (m ((c.tc : Thread Cert.QBwdIdeal.nD Cert.QBwdIdeal.τ).loc Cert.QBwdIdeal.main_arg8)) (m ((c.tc : Thread Cert.QBwdIdeal.nD Cert.QBwdIdeal.τ).loc Cert.QBwdIdeal.main_arg9)) (m ((c.tc : Thread Cert.QBwdIdeal.nD Cert.QBwdIdeal.τ).loc Cert.QBwdIdeal.main_arg10)) (m ((c.tc : Thread Cert.QBwdIdeal.nD Cert.QBwdIdeal.τ).loc Cert.QBwdIdeal.main_arg11))) = (fun _ => 1#1)

def Pre_QBwdRefIdeal (m : (ℓ : Loc Cert.QBwdRefIdeal.nD Cert.QBwdRefIdeal.τ Cert.QBwdRefIdeal.sig) → Buf (Elt Ideal) ℓ) : Prop :=
  True

def Pre_QBwdRefIdeal_finite_q [hPre_finite_q : Cert.Pre_finite_q.Facts] (m : (ℓ : Loc Cert.QBwdRefIdeal.nD Cert.QBwdRefIdeal.τ Cert.QBwdRefIdeal.sig) → Buf (Elt Ideal) ℓ) : Prop :=
  ∀ c : Dev Cert.QBwdRefIdeal.nD,
    (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4)) (m ((c.tc : Thread Cert.QBwdRefIdeal.nD Cert.QBwdRefIdeal.τ).loc Cert.QBwdRefIdeal.main_arg5)) (m ((c.tc : Thread Cert.QBwdRefIdeal.nD Cert.QBwdRefIdeal.τ).loc Cert.QBwdRefIdeal.main_arg6)) (m ((c.tc : Thread Cert.QBwdRefIdeal.nD Cert.QBwdRefIdeal.τ).loc Cert.QBwdRefIdeal.main_arg7)) (m ((c.tc : Thread Cert.QBwdRefIdeal.nD Cert.QBwdRefIdeal.τ).loc Cert.QBwdRefIdeal.main_arg8)) (m ((c.tc : Thread Cert.QBwdRefIdeal.nD Cert.QBwdRefIdeal.τ).loc Cert.QBwdRefIdeal.main_arg9)) (m ((c.tc : Thread Cert.QBwdRefIdeal.nD Cert.QBwdRefIdeal.τ).loc Cert.QBwdRefIdeal.main_arg10)) (m ((c.tc : Thread Cert.QBwdRefIdeal.nD Cert.QBwdRefIdeal.τ).loc Cert.QBwdRefIdeal.main_arg11))) = (fun _ => 1#1)

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdIdeal_finite_kv [hPre_finite_kv : Cert.Pre_finite_kv.Facts] (m : (ℓ : Loc Cert.KvBwdIdeal.nD Cert.KvBwdIdeal.τ Cert.KvBwdIdeal.sig) → Buf (Elt Ideal) ℓ) : Prop :=
  ∀ c : Dev Cert.KvBwdIdeal.nD,
    (Cert.Pre_finite_kv.fn (F := Ideal) (m ((c.tc : Thread Cert.KvBwdIdeal.nD Cert.KvBwdIdeal.τ).loc Cert.KvBwdIdeal.main_arg0)) (m ((c.tc : Thread Cert.KvBwdIdeal.nD Cert.KvBwdIdeal.τ).loc Cert.KvBwdIdeal.main_arg1)) (m ((c.tc : Thread Cert.KvBwdIdeal.nD Cert.KvBwdIdeal.τ).loc Cert.KvBwdIdeal.main_arg2)) (m ((c.tc : Thread Cert.KvBwdIdeal.nD Cert.KvBwdIdeal.τ).loc Cert.KvBwdIdeal.main_arg3)) (m ((c.tc : Thread Cert.KvBwdIdeal.nD Cert.KvBwdIdeal.τ).loc Cert.KvBwdIdeal.main_arg4)) (m ((c.tc : Thread Cert.KvBwdIdeal.nD Cert.KvBwdIdeal.τ).loc Cert.KvBwdIdeal.main_arg5)) (m ((c.tc : Thread Cert.KvBwdIdeal.nD Cert.KvBwdIdeal.τ).loc Cert.KvBwdIdeal.main_arg6)) (m ((c.tc : Thread Cert.KvBwdIdeal.nD Cert.KvBwdIdeal.τ).loc Cert.KvBwdIdeal.main_arg7)) (m ((c.tc : Thread Cert.KvBwdIdeal.nD Cert.KvBwdIdeal.τ).loc Cert.KvBwdIdeal.main_arg8)) (m ((c.tc : Thread Cert.KvBwdIdeal.nD Cert.KvBwdIdeal.τ).loc Cert.KvBwdIdeal.main_arg9)) (m ((c.tc : Thread Cert.KvBwdIdeal.nD Cert.KvBwdIdeal.τ).loc Cert.KvBwdIdeal.main_arg10)) (m ((c.tc : Thread Cert.KvBwdIdeal.nD Cert.KvBwdIdeal.τ).loc Cert.KvBwdIdeal.main_arg11))) = (fun _ => 1#1)

def Pre_KvBwdRefIdeal (m : (ℓ : Loc Cert.KvBwdRefIdeal.nD Cert.KvBwdRefIdeal.τ Cert.KvBwdRefIdeal.sig) → Buf (Elt Ideal) ℓ) : Prop :=
  True

def Pre_KvBwdRefIdeal_finite_kv [hPre_finite_kv : Cert.Pre_finite_kv.Facts] (m : (ℓ : Loc Cert.KvBwdRefIdeal.nD Cert.KvBwdRefIdeal.τ Cert.KvBwdRefIdeal.sig) → Buf (Elt Ideal) ℓ) : Prop :=
  ∀ c : Dev Cert.KvBwdRefIdeal.nD,
    (Cert.Pre_finite_kv.fn (F := Ideal) (m ((c.tc : Thread Cert.KvBwdRefIdeal.nD Cert.KvBwdRefIdeal.τ).loc Cert.KvBwdRefIdeal.main_arg0)) (m ((c.tc : Thread Cert.KvBwdRefIdeal.nD Cert.KvBwdRefIdeal.τ).loc Cert.KvBwdRefIdeal.main_arg1)) (m ((c.tc : Thread Cert.KvBwdRefIdeal.nD Cert.KvBwdRefIdeal.τ).loc Cert.KvBwdRefIdeal.main_arg2)) (m ((c.tc : Thread Cert.KvBwdRefIdeal.nD Cert.KvBwdRefIdeal.τ).loc Cert.KvBwdRefIdeal.main_arg3)) (m ((c.tc : Thread Cert.KvBwdRefIdeal.nD Cert.KvBwdRefIdeal.τ).loc Cert.KvBwdRefIdeal.main_arg4)) (m ((c.tc : Thread Cert.KvBwdRefIdeal.nD Cert.KvBwdRefIdeal.τ).loc Cert.KvBwdRefIdeal.main_arg5)) (m ((c.tc : Thread Cert.KvBwdRefIdeal.nD Cert.KvBwdRefIdeal.τ).loc Cert.KvBwdRefIdeal.main_arg6)) (m ((c.tc : Thread Cert.KvBwdRefIdeal.nD Cert.KvBwdRefIdeal.τ).loc Cert.KvBwdRefIdeal.main_arg7)) (m ((c.tc : Thread Cert.KvBwdRefIdeal.nD Cert.KvBwdRefIdeal.τ).loc Cert.KvBwdRefIdeal.main_arg8)) (m ((c.tc : Thread Cert.KvBwdRefIdeal.nD Cert.KvBwdRefIdeal.τ).loc Cert.KvBwdRefIdeal.main_arg9)) (m ((c.tc : Thread Cert.KvBwdRefIdeal.nD Cert.KvBwdRefIdeal.τ).loc Cert.KvBwdRefIdeal.main_arg10)) (m ((c.tc : Thread Cert.KvBwdRefIdeal.nD Cert.KvBwdRefIdeal.τ).loc Cert.KvBwdRefIdeal.main_arg11))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_at [hPre_finite_at : Cert.Pre_finite_at.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_at.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_at [hPre_finite_at : Cert.Pre_finite_at.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_at.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdRefIdeal (m : (ℓ : Loc Cert.ModFwdRefIdeal.nD Cert.ModFwdRefIdeal.τ Cert.ModFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ConvInFwd (m : (ℓ : Loc Cert.ConvInFwd.nD Cert.ConvInFwd.τ Cert.ConvInFwd.sig) → Buf (Elt Bits) ℓ) : Prop :=
  True

def Pre_ConvInFwdIdeal (m : (ℓ : Loc Cert.ConvInFwdIdeal.nD Cert.ConvInFwdIdeal.τ Cert.ConvInFwdIdeal.sig) → Buf (Elt Ideal) ℓ) : Prop :=
  True

def Pre_ConvInFwdRefIdeal (m : (ℓ : Loc Cert.ConvInFwdRefIdeal.nD Cert.ConvInFwdRefIdeal.τ Cert.ConvInFwdRefIdeal.sig) → Buf (Elt Ideal) ℓ) : Prop :=
  True

def Pre_QFwd (m : (ℓ : Loc Cert.QFwd.nD Cert.QFwd.τ Cert.QFwd.sig) → Buf (Elt Bits) ℓ) : Prop :=
  True

def Pre_QFwdIdeal (m : (ℓ : Loc Cert.QFwdIdeal.nD Cert.QFwdIdeal.τ Cert.QFwdIdeal.sig) → Buf (Elt Ideal) ℓ) : Prop :=
  True

def Pre_QFwdRefIdeal (m : (ℓ : Loc Cert.QFwdRefIdeal.nD Cert.QFwdRefIdeal.τ Cert.QFwdRefIdeal.sig) → Buf (Elt Ideal) ℓ) : Prop :=
  True

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalIdeal_pre_finite_final [hFinalIdeal : Cert.FinalIdeal.Facts] [hPre_finite_final : Cert.Pre_finite_final.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_finite_final m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_FinalRefIdeal_pre_finite_final [hFinalRefIdeal : Cert.FinalRefIdeal.Facts] [hPre_finite_final : Cert.Pre_finite_final.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_finite_final m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4)
      ∧ r.2.mem ((c.tc : Thread Cert.ConvOut.nD Cert.ConvOut.τ).loc Cert.ConvOut.main_arg5) = m ((c.tc : Thread Cert.ConvOut.nD Cert.ConvOut.τ).loc Cert.ConvOut.main_arg5)
      ∧ r.2.mem ((c.tc : Thread Cert.ConvOut.nD Cert.ConvOut.τ).loc Cert.ConvOut.main_arg6) = m ((c.tc : Thread Cert.ConvOut.nD Cert.ConvOut.τ).loc Cert.ConvOut.main_arg6)
      ∧ r.2.mem ((c.tc : Thread Cert.ConvOut.nD Cert.ConvOut.τ).loc Cert.ConvOut.main_arg7) = m ((c.tc : Thread Cert.ConvOut.nD Cert.ConvOut.τ).loc Cert.ConvOut.main_arg7)
      ∧ r.2.mem ((c.tc : Thread Cert.ConvOut.nD Cert.ConvOut.τ).loc Cert.ConvOut.main_arg8) = m ((c.tc : Thread Cert.ConvOut.nD Cert.ConvOut.τ).loc Cert.ConvOut.main_arg8))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
      ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
      ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6)
      ∧ r.2.mem ((c.tc : Thread Cert.ConvOutIdeal.nD Cert.ConvOutIdeal.τ).loc Cert.ConvOutIdeal.main_arg7) = m ((c.tc : Thread Cert.ConvOutIdeal.nD Cert.ConvOutIdeal.τ).loc Cert.ConvOutIdeal.main_arg7)
      ∧ r.2.mem ((c.tc : Thread Cert.ConvOutIdeal.nD Cert.ConvOutIdeal.τ).loc Cert.ConvOutIdeal.main_arg8) = m ((c.tc : Thread Cert.ConvOutIdeal.nD Cert.ConvOutIdeal.τ).loc Cert.ConvOutIdeal.main_arg8))
      ∧ r.2.sem = fun _ => 0)

def quiescent_ConvOutIdeal_pre_finite_co [hConvOutIdeal : Cert.ConvOutIdeal.Facts] [hPre_finite_co : Cert.Pre_finite_co.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal_finite_co m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
      ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
      ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6)
      ∧ r.2.mem ((c.tc : Thread Cert.ConvOutIdeal.nD Cert.ConvOutIdeal.τ).loc Cert.ConvOutIdeal.main_arg7) = m ((c.tc : Thread Cert.ConvOutIdeal.nD Cert.ConvOutIdeal.τ).loc Cert.ConvOutIdeal.main_arg7)
      ∧ r.2.mem ((c.tc : Thread Cert.ConvOutIdeal.nD Cert.ConvOutIdeal.τ).loc Cert.ConvOutIdeal.main_arg8) = m ((c.tc : Thread Cert.ConvOutIdeal.nD Cert.ConvOutIdeal.τ).loc Cert.ConvOutIdeal.main_arg8))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4)
      ∧ r.2.mem ((c.tc : Thread Cert.ConvOutRefIdeal.nD Cert.ConvOutRefIdeal.τ).loc Cert.ConvOutRefIdeal.main_arg5) = m ((c.tc : Thread Cert.ConvOutRefIdeal.nD Cert.ConvOutRefIdeal.τ).loc Cert.ConvOutRefIdeal.main_arg5)
      ∧ r.2.mem ((c.tc : Thread Cert.ConvOutRefIdeal.nD Cert.ConvOutRefIdeal.τ).loc Cert.ConvOutRefIdeal.main_arg6) = m ((c.tc : Thread Cert.ConvOutRefIdeal.nD Cert.ConvOutRefIdeal.τ).loc Cert.ConvOutRefIdeal.main_arg6)
      ∧ r.2.mem ((c.tc : Thread Cert.ConvOutRefIdeal.nD Cert.ConvOutRefIdeal.τ).loc Cert.ConvOutRefIdeal.main_arg7) = m ((c.tc : Thread Cert.ConvOutRefIdeal.nD Cert.ConvOutRefIdeal.τ).loc Cert.ConvOutRefIdeal.main_arg7)
      ∧ r.2.mem ((c.tc : Thread Cert.ConvOutRefIdeal.nD Cert.ConvOutRefIdeal.τ).loc Cert.ConvOutRefIdeal.main_arg8) = m ((c.tc : Thread Cert.ConvOutRefIdeal.nD Cert.ConvOutRefIdeal.τ).loc Cert.ConvOutRefIdeal.main_arg8))
      ∧ r.2.sem = fun _ => 0)

def quiescent_ConvOutRefIdeal_pre_finite_co [hConvOutRefIdeal : Cert.ConvOutRefIdeal.Facts] [hPre_finite_co : Cert.Pre_finite_co.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal_finite_co m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4)
      ∧ r.2.mem ((c.tc : Thread Cert.ConvOutRefIdeal.nD Cert.ConvOutRefIdeal.τ).loc Cert.ConvOutRefIdeal.main_arg5) = m ((c.tc : Thread Cert.ConvOutRefIdeal.nD Cert.ConvOutRefIdeal.τ).loc Cert.ConvOutRefIdeal.main_arg5)
      ∧ r.2.mem ((c.tc : Thread Cert.ConvOutRefIdeal.nD Cert.ConvOutRefIdeal.τ).loc Cert.ConvOutRefIdeal.main_arg6) = m ((c.tc : Thread Cert.ConvOutRefIdeal.nD Cert.ConvOutRefIdeal.τ).loc Cert.ConvOutRefIdeal.main_arg6)
      ∧ r.2.mem ((c.tc : Thread Cert.ConvOutRefIdeal.nD Cert.ConvOutRefIdeal.τ).loc Cert.ConvOutRefIdeal.main_arg7) = m ((c.tc : Thread Cert.ConvOutRefIdeal.nD Cert.ConvOutRefIdeal.τ).loc Cert.ConvOutRefIdeal.main_arg7)
      ∧ r.2.mem ((c.tc : Thread Cert.ConvOutRefIdeal.nD Cert.ConvOutRefIdeal.τ).loc Cert.ConvOutRefIdeal.main_arg8) = m ((c.tc : Thread Cert.ConvOutRefIdeal.nD Cert.ConvOutRefIdeal.τ).loc Cert.ConvOutRefIdeal.main_arg8))
      ∧ r.2.sem = fun _ => 0)

def quiescent_WPw [hWPw : Cert.WPw.Facts] : Prop :=
  ∀ (m : (ℓ : Loc Cert.WPw.nD Cert.WPw.τ Cert.WPw.sig) → Buf (Elt Bits) ℓ) (g : Dev Cert.WPw.nD → PrngReg), Pre_WPw m →
    θ_run (Cert.WPw.defs (F := Bits)) (onTc (τ := Cert.WPw.τ) (Cert.WPw.main (F := Bits))) ⟨m, fun _ => 0, g⟩ (fun r => (∀ c : Dev Cert.WPw.nD,
      r.2.mem ((c.tc : Thread Cert.WPw.nD Cert.WPw.τ).loc Cert.WPw.main_arg0) = m ((c.tc : Thread Cert.WPw.nD Cert.WPw.τ).loc Cert.WPw.main_arg0)
      ∧ r.2.mem ((c.tc : Thread Cert.WPw.nD Cert.WPw.τ).loc Cert.WPw.main_arg1) = m ((c.tc : Thread Cert.WPw.nD Cert.WPw.τ).loc Cert.WPw.main_arg1)
      ∧ r.2.mem ((c.tc : Thread Cert.WPw.nD Cert.WPw.τ).loc Cert.WPw.main_arg2) = m ((c.tc : Thread Cert.WPw.nD Cert.WPw.τ).loc Cert.WPw.main_arg2)
      ∧ r.2.mem ((c.tc : Thread Cert.WPw.nD Cert.WPw.τ).loc Cert.WPw.main_arg3) = m ((c.tc : Thread Cert.WPw.nD Cert.WPw.τ).loc Cert.WPw.main_arg3)
      ∧ r.2.mem ((c.tc : Thread Cert.WPw.nD Cert.WPw.τ).loc Cert.WPw.main_arg4) = m ((c.tc : Thread Cert.WPw.nD Cert.WPw.τ).loc Cert.WPw.main_arg4)
      ∧ r.2.mem ((c.tc : Thread Cert.WPw.nD Cert.WPw.τ).loc Cert.WPw.main_arg5) = m ((c.tc : Thread Cert.WPw.nD Cert.WPw.τ).loc Cert.WPw.main_arg5)
      ∧ r.2.mem ((c.tc : Thread Cert.WPw.nD Cert.WPw.τ).loc Cert.WPw.main_arg6) = m ((c.tc : Thread Cert.WPw.nD Cert.WPw.τ).loc Cert.WPw.main_arg6)
      ∧ r.2.mem ((c.tc : Thread Cert.WPw.nD Cert.WPw.τ).loc Cert.WPw.main_arg7) = m ((c.tc : Thread Cert.WPw.nD Cert.WPw.τ).loc Cert.WPw.main_arg7))
      ∧ r.2.sem = fun _ => 0)

def quiescent_WPwIdeal [hWPwIdeal : Cert.WPwIdeal.Facts] : Prop :=
  ∀ (m : (ℓ : Loc Cert.WPwIdeal.nD Cert.WPwIdeal.τ Cert.WPwIdeal.sig) → Buf (Elt Ideal) ℓ) (g : Dev Cert.WPwIdeal.nD → PrngReg), Pre_WPwIdeal m →
    θ_run (Cert.WPwIdeal.defs (F := Ideal)) (onTc (τ := Cert.WPwIdeal.τ) (Cert.WPwIdeal.main (F := Ideal))) ⟨m, fun _ => 0, g⟩ (fun r => (∀ c : Dev Cert.WPwIdeal.nD,
      r.2.mem ((c.tc : Thread Cert.WPwIdeal.nD Cert.WPwIdeal.τ).loc Cert.WPwIdeal.main_arg0) = m ((c.tc : Thread Cert.WPwIdeal.nD Cert.WPwIdeal.τ).loc Cert.WPwIdeal.main_arg0)
      ∧ r.2.mem ((c.tc : Thread Cert.WPwIdeal.nD Cert.WPwIdeal.τ).loc Cert.WPwIdeal.main_arg1) = m ((c.tc : Thread Cert.WPwIdeal.nD Cert.WPwIdeal.τ).loc Cert.WPwIdeal.main_arg1)
      ∧ r.2.mem ((c.tc : Thread Cert.WPwIdeal.nD Cert.WPwIdeal.τ).loc Cert.WPwIdeal.main_arg2) = m ((c.tc : Thread Cert.WPwIdeal.nD Cert.WPwIdeal.τ).loc Cert.WPwIdeal.main_arg2)
      ∧ r.2.mem ((c.tc : Thread Cert.WPwIdeal.nD Cert.WPwIdeal.τ).loc Cert.WPwIdeal.main_arg3) = m ((c.tc : Thread Cert.WPwIdeal.nD Cert.WPwIdeal.τ).loc Cert.WPwIdeal.main_arg3)
      ∧ r.2.mem ((c.tc : Thread Cert.WPwIdeal.nD Cert.WPwIdeal.τ).loc Cert.WPwIdeal.main_arg4) = m ((c.tc : Thread Cert.WPwIdeal.nD Cert.WPwIdeal.τ).loc Cert.WPwIdeal.main_arg4)
      ∧ r.2.mem ((c.tc : Thread Cert.WPwIdeal.nD Cert.WPwIdeal.τ).loc Cert.WPwIdeal.main_arg5) = m ((c.tc : Thread Cert.WPwIdeal.nD Cert.WPwIdeal.τ).loc Cert.WPwIdeal.main_arg5)
      ∧ r.2.mem ((c.tc : Thread Cert.WPwIdeal.nD Cert.WPwIdeal.τ).loc Cert.WPwIdeal.main_arg6) = m ((c.tc : Thread Cert.WPwIdeal.nD Cert.WPwIdeal.τ).loc Cert.WPwIdeal.main_arg6)
      ∧ r.2.mem ((c.tc : Thread Cert.WPwIdeal.nD Cert.WPwIdeal.τ).loc Cert.WPwIdeal.main_arg7) = m ((c.tc : Thread Cert.WPwIdeal.nD Cert.WPwIdeal.τ).loc Cert.WPwIdeal.main_arg7))
      ∧ r.2.sem = fun _ => 0)

def quiescent_WPwIdeal_pre_finite_wg [hWPwIdeal : Cert.WPwIdeal.Facts] [hPre_finite_wg : Cert.Pre_finite_wg.Facts] : Prop :=
  ∀ (m : (ℓ : Loc Cert.WPwIdeal.nD Cert.WPwIdeal.τ Cert.WPwIdeal.sig) → Buf (Elt Ideal) ℓ) (g : Dev Cert.WPwIdeal.nD → PrngReg), Pre_WPwIdeal_finite_wg m →
    θ_run (Cert.WPwIdeal.defs (F := Ideal)) (onTc (τ := Cert.WPwIdeal.τ) (Cert.WPwIdeal.main (F := Ideal))) ⟨m, fun _ => 0, g⟩ (fun r => (∀ c : Dev Cert.WPwIdeal.nD,
      r.2.mem ((c.tc : Thread Cert.WPwIdeal.nD Cert.WPwIdeal.τ).loc Cert.WPwIdeal.main_arg0) = m ((c.tc : Thread Cert.WPwIdeal.nD Cert.WPwIdeal.τ).loc Cert.WPwIdeal.main_arg0)
      ∧ r.2.mem ((c.tc : Thread Cert.WPwIdeal.nD Cert.WPwIdeal.τ).loc Cert.WPwIdeal.main_arg1) = m ((c.tc : Thread Cert.WPwIdeal.nD Cert.WPwIdeal.τ).loc Cert.WPwIdeal.main_arg1)
      ∧ r.2.mem ((c.tc : Thread Cert.WPwIdeal.nD Cert.WPwIdeal.τ).loc Cert.WPwIdeal.main_arg2) = m ((c.tc : Thread Cert.WPwIdeal.nD Cert.WPwIdeal.τ).loc Cert.WPwIdeal.main_arg2)
      ∧ r.2.mem ((c.tc : Thread Cert.WPwIdeal.nD Cert.WPwIdeal.τ).loc Cert.WPwIdeal.main_arg3) = m ((c.tc : Thread Cert.WPwIdeal.nD Cert.WPwIdeal.τ).loc Cert.WPwIdeal.main_arg3)
      ∧ r.2.mem ((c.tc : Thread Cert.WPwIdeal.nD Cert.WPwIdeal.τ).loc Cert.WPwIdeal.main_arg4) = m ((c.tc : Thread Cert.WPwIdeal.nD Cert.WPwIdeal.τ).loc Cert.WPwIdeal.main_arg4)
      ∧ r.2.mem ((c.tc : Thread Cert.WPwIdeal.nD Cert.WPwIdeal.τ).loc Cert.WPwIdeal.main_arg5) = m ((c.tc : Thread Cert.WPwIdeal.nD Cert.WPwIdeal.τ).loc Cert.WPwIdeal.main_arg5)
      ∧ r.2.mem ((c.tc : Thread Cert.WPwIdeal.nD Cert.WPwIdeal.τ).loc Cert.WPwIdeal.main_arg6) = m ((c.tc : Thread Cert.WPwIdeal.nD Cert.WPwIdeal.τ).loc Cert.WPwIdeal.main_arg6)
      ∧ r.2.mem ((c.tc : Thread Cert.WPwIdeal.nD Cert.WPwIdeal.τ).loc Cert.WPwIdeal.main_arg7) = m ((c.tc : Thread Cert.WPwIdeal.nD Cert.WPwIdeal.τ).loc Cert.WPwIdeal.main_arg7))
      ∧ r.2.sem = fun _ => 0)

def quiescent_WPwRefIdeal [hWPwRefIdeal : Cert.WPwRefIdeal.Facts] : Prop :=
  ∀ (m : (ℓ : Loc Cert.WPwRefIdeal.nD Cert.WPwRefIdeal.τ Cert.WPwRefIdeal.sig) → Buf (Elt Ideal) ℓ) (g : Dev Cert.WPwRefIdeal.nD → PrngReg), Pre_WPwRefIdeal m →
    θ_run (Cert.WPwRefIdeal.defs (F := Ideal)) (onTc (τ := Cert.WPwRefIdeal.τ) (Cert.WPwRefIdeal.main (F := Ideal))) ⟨m, fun _ => 0, g⟩ (fun r => (∀ c : Dev Cert.WPwRefIdeal.nD,
      r.2.mem ((c.tc : Thread Cert.WPwRefIdeal.nD Cert.WPwRefIdeal.τ).loc Cert.WPwRefIdeal.main_arg0) = m ((c.tc : Thread Cert.WPwRefIdeal.nD Cert.WPwRefIdeal.τ).loc Cert.WPwRefIdeal.main_arg0)
      ∧ r.2.mem ((c.tc : Thread Cert.WPwRefIdeal.nD Cert.WPwRefIdeal.τ).loc Cert.WPwRefIdeal.main_arg1) = m ((c.tc : Thread Cert.WPwRefIdeal.nD Cert.WPwRefIdeal.τ).loc Cert.WPwRefIdeal.main_arg1)
      ∧ r.2.mem ((c.tc : Thread Cert.WPwRefIdeal.nD Cert.WPwRefIdeal.τ).loc Cert.WPwRefIdeal.main_arg2) = m ((c.tc : Thread Cert.WPwRefIdeal.nD Cert.WPwRefIdeal.τ).loc Cert.WPwRefIdeal.main_arg2)
      ∧ r.2.mem ((c.tc : Thread Cert.WPwRefIdeal.nD Cert.WPwRefIdeal.τ).loc Cert.WPwRefIdeal.main_arg3) = m ((c.tc : Thread Cert.WPwRefIdeal.nD Cert.WPwRefIdeal.τ).loc Cert.WPwRefIdeal.main_arg3)
      ∧ r.2.mem ((c.tc : Thread Cert.WPwRefIdeal.nD Cert.WPwRefIdeal.τ).loc Cert.WPwRefIdeal.main_arg4) = m ((c.tc : Thread Cert.WPwRefIdeal.nD Cert.WPwRefIdeal.τ).loc Cert.WPwRefIdeal.main_arg4)
      ∧ r.2.mem ((c.tc : Thread Cert.WPwRefIdeal.nD Cert.WPwRefIdeal.τ).loc Cert.WPwRefIdeal.main_arg5) = m ((c.tc : Thread Cert.WPwRefIdeal.nD Cert.WPwRefIdeal.τ).loc Cert.WPwRefIdeal.main_arg5)
      ∧ r.2.mem ((c.tc : Thread Cert.WPwRefIdeal.nD Cert.WPwRefIdeal.τ).loc Cert.WPwRefIdeal.main_arg6) = m ((c.tc : Thread Cert.WPwRefIdeal.nD Cert.WPwRefIdeal.τ).loc Cert.WPwRefIdeal.main_arg6)
      ∧ r.2.mem ((c.tc : Thread Cert.WPwRefIdeal.nD Cert.WPwRefIdeal.τ).loc Cert.WPwRefIdeal.main_arg7) = m ((c.tc : Thread Cert.WPwRefIdeal.nD Cert.WPwRefIdeal.τ).loc Cert.WPwRefIdeal.main_arg7))
      ∧ r.2.sem = fun _ => 0)

def quiescent_WPwRefIdeal_pre_finite_wg [hWPwRefIdeal : Cert.WPwRefIdeal.Facts] [hPre_finite_wg : Cert.Pre_finite_wg.Facts] : Prop :=
  ∀ (m : (ℓ : Loc Cert.WPwRefIdeal.nD Cert.WPwRefIdeal.τ Cert.WPwRefIdeal.sig) → Buf (Elt Ideal) ℓ) (g : Dev Cert.WPwRefIdeal.nD → PrngReg), Pre_WPwRefIdeal_finite_wg m →
    θ_run (Cert.WPwRefIdeal.defs (F := Ideal)) (onTc (τ := Cert.WPwRefIdeal.τ) (Cert.WPwRefIdeal.main (F := Ideal))) ⟨m, fun _ => 0, g⟩ (fun r => (∀ c : Dev Cert.WPwRefIdeal.nD,
      r.2.mem ((c.tc : Thread Cert.WPwRefIdeal.nD Cert.WPwRefIdeal.τ).loc Cert.WPwRefIdeal.main_arg0) = m ((c.tc : Thread Cert.WPwRefIdeal.nD Cert.WPwRefIdeal.τ).loc Cert.WPwRefIdeal.main_arg0)
      ∧ r.2.mem ((c.tc : Thread Cert.WPwRefIdeal.nD Cert.WPwRefIdeal.τ).loc Cert.WPwRefIdeal.main_arg1) = m ((c.tc : Thread Cert.WPwRefIdeal.nD Cert.WPwRefIdeal.τ).loc Cert.WPwRefIdeal.main_arg1)
      ∧ r.2.mem ((c.tc : Thread Cert.WPwRefIdeal.nD Cert.WPwRefIdeal.τ).loc Cert.WPwRefIdeal.main_arg2) = m ((c.tc : Thread Cert.WPwRefIdeal.nD Cert.WPwRefIdeal.τ).loc Cert.WPwRefIdeal.main_arg2)
      ∧ r.2.mem ((c.tc : Thread Cert.WPwRefIdeal.nD Cert.WPwRefIdeal.τ).loc Cert.WPwRefIdeal.main_arg3) = m ((c.tc : Thread Cert.WPwRefIdeal.nD Cert.WPwRefIdeal.τ).loc Cert.WPwRefIdeal.main_arg3)
      ∧ r.2.mem ((c.tc : Thread Cert.WPwRefIdeal.nD Cert.WPwRefIdeal.τ).loc Cert.WPwRefIdeal.main_arg4) = m ((c.tc : Thread Cert.WPwRefIdeal.nD Cert.WPwRefIdeal.τ).loc Cert.WPwRefIdeal.main_arg4)
      ∧ r.2.mem ((c.tc : Thread Cert.WPwRefIdeal.nD Cert.WPwRefIdeal.τ).loc Cert.WPwRefIdeal.main_arg5) = m ((c.tc : Thread Cert.WPwRefIdeal.nD Cert.WPwRefIdeal.τ).loc Cert.WPwRefIdeal.main_arg5)
      ∧ r.2.mem ((c.tc : Thread Cert.WPwRefIdeal.nD Cert.WPwRefIdeal.τ).loc Cert.WPwRefIdeal.main_arg6) = m ((c.tc : Thread Cert.WPwRefIdeal.nD Cert.WPwRefIdeal.τ).loc Cert.WPwRefIdeal.main_arg6)
      ∧ r.2.mem ((c.tc : Thread Cert.WPwRefIdeal.nD Cert.WPwRefIdeal.τ).loc Cert.WPwRefIdeal.main_arg7) = m ((c.tc : Thread Cert.WPwRefIdeal.nD Cert.WPwRefIdeal.τ).loc Cert.WPwRefIdeal.main_arg7))
      ∧ r.2.sem = fun _ => 0)

def quiescent_ModW [hModW : Cert.ModW.Facts] : Prop :=
  ∀ (m : (ℓ : Loc Cert.ModW.nD Cert.ModW.τ Cert.ModW.sig) → Buf (Elt Bits) ℓ) (g : Dev Cert.ModW.nD → PrngReg), Pre_ModW m →
    θ_run (Cert.ModW.defs (F := Bits)) (onTc (τ := Cert.ModW.τ) (Cert.ModW.main (F := Bits))) ⟨m, fun _ => 0, g⟩ (fun r => (∀ c : Dev Cert.ModW.nD,
      r.2.mem ((c.tc : Thread Cert.ModW.nD Cert.ModW.τ).loc Cert.ModW.main_arg0) = m ((c.tc : Thread Cert.ModW.nD Cert.ModW.τ).loc Cert.ModW.main_arg0)
      ∧ r.2.mem ((c.tc : Thread Cert.ModW.nD Cert.ModW.τ).loc Cert.ModW.main_arg1) = m ((c.tc : Thread Cert.ModW.nD Cert.ModW.τ).loc Cert.ModW.main_arg1))
      ∧ r.2.sem = fun _ => 0)

def quiescent_ModWIdeal [hModWIdeal : Cert.ModWIdeal.Facts] : Prop :=
  ∀ (m : (ℓ : Loc Cert.ModWIdeal.nD Cert.ModWIdeal.τ Cert.ModWIdeal.sig) → Buf (Elt Ideal) ℓ) (g : Dev Cert.ModWIdeal.nD → PrngReg), Pre_ModWIdeal m →
    θ_run (Cert.ModWIdeal.defs (F := Ideal)) (onTc (τ := Cert.ModWIdeal.τ) (Cert.ModWIdeal.main (F := Ideal))) ⟨m, fun _ => 0, g⟩ (fun r => (∀ c : Dev Cert.ModWIdeal.nD,
      r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
      ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1))
      ∧ r.2.sem = fun _ => 0)

def quiescent_ModWIdeal_pre_finite_mw [hModWIdeal : Cert.ModWIdeal.Facts] [hPre_finite_mw : Cert.Pre_finite_mw.Facts] : Prop :=
  ∀ (m : (ℓ : Loc Cert.ModWIdeal.nD Cert.ModWIdeal.τ Cert.ModWIdeal.sig) → Buf (Elt Ideal) ℓ) (g : Dev Cert.ModWIdeal.nD → PrngReg), Pre_ModWIdeal_finite_mw m →
    θ_run (Cert.ModWIdeal.defs (F := Ideal)) (onTc (τ := Cert.ModWIdeal.τ) (Cert.ModWIdeal.main (F := Ideal))) ⟨m, fun _ => 0, g⟩ (fun r => (∀ c : Dev Cert.ModWIdeal.nD,
      r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
      ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1))
      ∧ r.2.sem = fun _ => 0)

def quiescent_ModWRefIdeal [hModWRefIdeal : Cert.ModWRefIdeal.Facts] : Prop :=
  ∀ (m : (ℓ : Loc Cert.ModWRefIdeal.nD Cert.ModWRefIdeal.τ Cert.ModWRefIdeal.sig) → Buf (Elt Ideal) ℓ) (g : Dev Cert.ModWRefIdeal.nD → PrngReg), Pre_ModWRefIdeal m →
    θ_run (Cert.ModWRefIdeal.defs (F := Ideal)) (onTc (τ := Cert.ModWRefIdeal.τ) (Cert.ModWRefIdeal.main (F := Ideal))) ⟨m, fun _ => 0, g⟩ (fun r => (∀ c : Dev Cert.ModWRefIdeal.nD,
      r.2.mem ((c.tc : Thread Cert.ModWRefIdeal.nD Cert.ModWRefIdeal.τ).loc Cert.ModWRefIdeal.main_arg0) = m ((c.tc : Thread Cert.ModWRefIdeal.nD Cert.ModWRefIdeal.τ).loc Cert.ModWRefIdeal.main_arg0)
      ∧ r.2.mem ((c.tc : Thread Cert.ModWRefIdeal.nD Cert.ModWRefIdeal.τ).loc Cert.ModWRefIdeal.main_arg1) = m ((c.tc : Thread Cert.ModWRefIdeal.nD Cert.ModWRefIdeal.τ).loc Cert.ModWRefIdeal.main_arg1))
      ∧ r.2.sem = fun _ => 0)

def quiescent_ModWRefIdeal_pre_finite_mw [hModWRefIdeal : Cert.ModWRefIdeal.Facts] [hPre_finite_mw : Cert.Pre_finite_mw.Facts] : Prop :=
  ∀ (m : (ℓ : Loc Cert.ModWRefIdeal.nD Cert.ModWRefIdeal.τ Cert.ModWRefIdeal.sig) → Buf (Elt Ideal) ℓ) (g : Dev Cert.ModWRefIdeal.nD → PrngReg), Pre_ModWRefIdeal_finite_mw m →
    θ_run (Cert.ModWRefIdeal.defs (F := Ideal)) (onTc (τ := Cert.ModWRefIdeal.τ) (Cert.ModWRefIdeal.main (F := Ideal))) ⟨m, fun _ => 0, g⟩ (fun r => (∀ c : Dev Cert.ModWRefIdeal.nD,
      r.2.mem ((c.tc : Thread Cert.ModWRefIdeal.nD Cert.ModWRefIdeal.τ).loc Cert.ModWRefIdeal.main_arg0) = m ((c.tc : Thread Cert.ModWRefIdeal.nD Cert.ModWRefIdeal.τ).loc Cert.ModWRefIdeal.main_arg0)
      ∧ r.2.mem ((c.tc : Thread Cert.ModWRefIdeal.nD Cert.ModWRefIdeal.τ).loc Cert.ModWRefIdeal.main_arg1) = m ((c.tc : Thread Cert.ModWRefIdeal.nD Cert.ModWRefIdeal.τ).loc Cert.ModWRefIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutIdeal_pre_finite_ao [hAttnOutIdeal : Cert.AttnOutIdeal.Facts] [hPre_finite_ao : Cert.Pre_finite_ao.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal_finite_ao m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_AttnOutRefIdeal_pre_finite_ao [hAttnOutRefIdeal : Cert.AttnOutRefIdeal.Facts] [hPre_finite_ao : Cert.Pre_finite_ao.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal_finite_ao m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2)
      ∧ r.2.mem ((c.tc : Thread Cert.QBwd.nD Cert.QBwd.τ).loc Cert.QBwd.main_arg3) = m ((c.tc : Thread Cert.QBwd.nD Cert.QBwd.τ).loc Cert.QBwd.main_arg3)
      ∧ r.2.mem ((c.tc : Thread Cert.QBwd.nD Cert.QBwd.τ).loc Cert.QBwd.main_arg4) = m ((c.tc : Thread Cert.QBwd.nD Cert.QBwd.τ).loc Cert.QBwd.main_arg4)
      ∧ r.2.mem ((c.tc : Thread Cert.QBwd.nD Cert.QBwd.τ).loc Cert.QBwd.main_arg5) = m ((c.tc : Thread Cert.QBwd.nD Cert.QBwd.τ).loc Cert.QBwd.main_arg5)
      ∧ r.2.mem ((c.tc : Thread Cert.QBwd.nD Cert.QBwd.τ).loc Cert.QBwd.main_arg6) = m ((c.tc : Thread Cert.QBwd.nD Cert.QBwd.τ).loc Cert.QBwd.main_arg6)
      ∧ r.2.mem ((c.tc : Thread Cert.QBwd.nD Cert.QBwd.τ).loc Cert.QBwd.main_arg7) = m ((c.tc : Thread Cert.QBwd.nD Cert.QBwd.τ).loc Cert.QBwd.main_arg7)
      ∧ r.2.mem ((c.tc : Thread Cert.QBwd.nD Cert.QBwd.τ).loc Cert.QBwd.main_arg8) = m ((c.tc : Thread Cert.QBwd.nD Cert.QBwd.τ).loc Cert.QBwd.main_arg8)
      ∧ r.2.mem ((c.tc : Thread Cert.QBwd.nD Cert.QBwd.τ).loc Cert.QBwd.main_arg9) = m ((c.tc : Thread Cert.QBwd.nD Cert.QBwd.τ).loc Cert.QBwd.main_arg9)
      ∧ r.2.mem ((c.tc : Thread Cert.QBwd.nD Cert.QBwd.τ).loc Cert.QBwd.main_arg10) = m ((c.tc : Thread Cert.QBwd.nD Cert.QBwd.τ).loc Cert.QBwd.main_arg10)
      ∧ r.2.mem ((c.tc : Thread Cert.QBwd.nD Cert.QBwd.τ).loc Cert.QBwd.main_arg11) = m ((c.tc : Thread Cert.QBwd.nD Cert.QBwd.τ).loc Cert.QBwd.main_arg11))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
      ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5)
      ∧ r.2.mem ((c.tc : Thread Cert.QBwdIdeal.nD Cert.QBwdIdeal.τ).loc Cert.QBwdIdeal.main_arg6) = m ((c.tc : Thread Cert.QBwdIdeal.nD Cert.QBwdIdeal.τ).loc Cert.QBwdIdeal.main_arg6)
      ∧ r.2.mem ((c.tc : Thread Cert.QBwdIdeal.nD Cert.QBwdIdeal.τ).loc Cert.QBwdIdeal.main_arg7) = m ((c.tc : Thread Cert.QBwdIdeal.nD Cert.QBwdIdeal.τ).loc Cert.QBwdIdeal.main_arg7)
      ∧ r.2.mem ((c.tc : Thread Cert.QBwdIdeal.nD Cert.QBwdIdeal.τ).loc Cert.QBwdIdeal.main_arg8) = m ((c.tc : Thread Cert.QBwdIdeal.nD Cert.QBwdIdeal.τ).loc Cert.QBwdIdeal.main_arg8)
      ∧ r.2.mem ((c.tc : Thread Cert.QBwdIdeal.nD Cert.QBwdIdeal.τ).loc Cert.QBwdIdeal.main_arg9) = m ((c.tc : Thread Cert.QBwdIdeal.nD Cert.QBwdIdeal.τ).loc Cert.QBwdIdeal.main_arg9)
      ∧ r.2.mem ((c.tc : Thread Cert.QBwdIdeal.nD Cert.QBwdIdeal.τ).loc Cert.QBwdIdeal.main_arg10) = m ((c.tc : Thread Cert.QBwdIdeal.nD Cert.QBwdIdeal.τ).loc Cert.QBwdIdeal.main_arg10)
      ∧ r.2.mem ((c.tc : Thread Cert.QBwdIdeal.nD Cert.QBwdIdeal.τ).loc Cert.QBwdIdeal.main_arg11) = m ((c.tc : Thread Cert.QBwdIdeal.nD Cert.QBwdIdeal.τ).loc Cert.QBwdIdeal.main_arg11))
      ∧ r.2.sem = fun _ => 0)

def quiescent_QBwdIdeal_pre_finite_q [hQBwdIdeal : Cert.QBwdIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal_finite_q m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
      ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5)
      ∧ r.2.mem ((c.tc : Thread Cert.QBwdIdeal.nD Cert.QBwdIdeal.τ).loc Cert.QBwdIdeal.main_arg6) = m ((c.tc : Thread Cert.QBwdIdeal.nD Cert.QBwdIdeal.τ).loc Cert.QBwdIdeal.main_arg6)
      ∧ r.2.mem ((c.tc : Thread Cert.QBwdIdeal.nD Cert.QBwdIdeal.τ).loc Cert.QBwdIdeal.main_arg7) = m ((c.tc : Thread Cert.QBwdIdeal.nD Cert.QBwdIdeal.τ).loc Cert.QBwdIdeal.main_arg7)
      ∧ r.2.mem ((c.tc : Thread Cert.QBwdIdeal.nD Cert.QBwdIdeal.τ).loc Cert.QBwdIdeal.main_arg8) = m ((c.tc : Thread Cert.QBwdIdeal.nD Cert.QBwdIdeal.τ).loc Cert.QBwdIdeal.main_arg8)
      ∧ r.2.mem ((c.tc : Thread Cert.QBwdIdeal.nD Cert.QBwdIdeal.τ).loc Cert.QBwdIdeal.main_arg9) = m ((c.tc : Thread Cert.QBwdIdeal.nD Cert.QBwdIdeal.τ).loc Cert.QBwdIdeal.main_arg9)
      ∧ r.2.mem ((c.tc : Thread Cert.QBwdIdeal.nD Cert.QBwdIdeal.τ).loc Cert.QBwdIdeal.main_arg10) = m ((c.tc : Thread Cert.QBwdIdeal.nD Cert.QBwdIdeal.τ).loc Cert.QBwdIdeal.main_arg10)
      ∧ r.2.mem ((c.tc : Thread Cert.QBwdIdeal.nD Cert.QBwdIdeal.τ).loc Cert.QBwdIdeal.main_arg11) = m ((c.tc : Thread Cert.QBwdIdeal.nD Cert.QBwdIdeal.τ).loc Cert.QBwdIdeal.main_arg11))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4)
      ∧ r.2.mem ((c.tc : Thread Cert.QBwdRefIdeal.nD Cert.QBwdRefIdeal.τ).loc Cert.QBwdRefIdeal.main_arg5) = m ((c.tc : Thread Cert.QBwdRefIdeal.nD Cert.QBwdRefIdeal.τ).loc Cert.QBwdRefIdeal.main_arg5)
      ∧ r.2.mem ((c.tc : Thread Cert.QBwdRefIdeal.nD Cert.QBwdRefIdeal.τ).loc Cert.QBwdRefIdeal.main_arg6) = m ((c.tc : Thread Cert.QBwdRefIdeal.nD Cert.QBwdRefIdeal.τ).loc Cert.QBwdRefIdeal.main_arg6)
      ∧ r.2.mem ((c.tc : Thread Cert.QBwdRefIdeal.nD Cert.QBwdRefIdeal.τ).loc Cert.QBwdRefIdeal.main_arg7) = m ((c.tc : Thread Cert.QBwdRefIdeal.nD Cert.QBwdRefIdeal.τ).loc Cert.QBwdRefIdeal.main_arg7)
      ∧ r.2.mem ((c.tc : Thread Cert.QBwdRefIdeal.nD Cert.QBwdRefIdeal.τ).loc Cert.QBwdRefIdeal.main_arg8) = m ((c.tc : Thread Cert.QBwdRefIdeal.nD Cert.QBwdRefIdeal.τ).loc Cert.QBwdRefIdeal.main_arg8)
      ∧ r.2.mem ((c.tc : Thread Cert.QBwdRefIdeal.nD Cert.QBwdRefIdeal.τ).loc Cert.QBwdRefIdeal.main_arg9) = m ((c.tc : Thread Cert.QBwdRefIdeal.nD Cert.QBwdRefIdeal.τ).loc Cert.QBwdRefIdeal.main_arg9)
      ∧ r.2.mem ((c.tc : Thread Cert.QBwdRefIdeal.nD Cert.QBwdRefIdeal.τ).loc Cert.QBwdRefIdeal.main_arg10) = m ((c.tc : Thread Cert.QBwdRefIdeal.nD Cert.QBwdRefIdeal.τ).loc Cert.QBwdRefIdeal.main_arg10)
      ∧ r.2.mem ((c.tc : Thread Cert.QBwdRefIdeal.nD Cert.QBwdRefIdeal.τ).loc Cert.QBwdRefIdeal.main_arg11) = m ((c.tc : Thread Cert.QBwdRefIdeal.nD Cert.QBwdRefIdeal.τ).loc Cert.QBwdRefIdeal.main_arg11))
      ∧ r.2.sem = fun _ => 0)

def quiescent_QBwdRefIdeal_pre_finite_q [hQBwdRefIdeal : Cert.QBwdRefIdeal.Facts] [hPre_finite_q : Cert.Pre_finite_q.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal_finite_q m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4)
      ∧ r.2.mem ((c.tc : Thread Cert.QBwdRefIdeal.nD Cert.QBwdRefIdeal.τ).loc Cert.QBwdRefIdeal.main_arg5) = m ((c.tc : Thread Cert.QBwdRefIdeal.nD Cert.QBwdRefIdeal.τ).loc Cert.QBwdRefIdeal.main_arg5)
      ∧ r.2.mem ((c.tc : Thread Cert.QBwdRefIdeal.nD Cert.QBwdRefIdeal.τ).loc Cert.QBwdRefIdeal.main_arg6) = m ((c.tc : Thread Cert.QBwdRefIdeal.nD Cert.QBwdRefIdeal.τ).loc Cert.QBwdRefIdeal.main_arg6)
      ∧ r.2.mem ((c.tc : Thread Cert.QBwdRefIdeal.nD Cert.QBwdRefIdeal.τ).loc Cert.QBwdRefIdeal.main_arg7) = m ((c.tc : Thread Cert.QBwdRefIdeal.nD Cert.QBwdRefIdeal.τ).loc Cert.QBwdRefIdeal.main_arg7)
      ∧ r.2.mem ((c.tc : Thread Cert.QBwdRefIdeal.nD Cert.QBwdRefIdeal.τ).loc Cert.QBwdRefIdeal.main_arg8) = m ((c.tc : Thread Cert.QBwdRefIdeal.nD Cert.QBwdRefIdeal.τ).loc Cert.QBwdRefIdeal.main_arg8)
      ∧ r.2.mem ((c.tc : Thread Cert.QBwdRefIdeal.nD Cert.QBwdRefIdeal.τ).loc Cert.QBwdRefIdeal.main_arg9) = m ((c.tc : Thread Cert.QBwdRefIdeal.nD Cert.QBwdRefIdeal.τ).loc Cert.QBwdRefIdeal.main_arg9)
      ∧ r.2.mem ((c.tc : Thread Cert.QBwdRefIdeal.nD Cert.QBwdRefIdeal.τ).loc Cert.QBwdRefIdeal.main_arg10) = m ((c.tc : Thread Cert.QBwdRefIdeal.nD Cert.QBwdRefIdeal.τ).loc Cert.QBwdRefIdeal.main_arg10)
      ∧ r.2.mem ((c.tc : Thread Cert.QBwdRefIdeal.nD Cert.QBwdRefIdeal.τ).loc Cert.QBwdRefIdeal.main_arg11) = m ((c.tc : Thread Cert.QBwdRefIdeal.nD Cert.QBwdRefIdeal.τ).loc Cert.QBwdRefIdeal.main_arg11))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3)
      ∧ r.2.mem ((c.tc : Thread Cert.KvBwd.nD Cert.KvBwd.τ).loc Cert.KvBwd.main_arg4) = m ((c.tc : Thread Cert.KvBwd.nD Cert.KvBwd.τ).loc Cert.KvBwd.main_arg4)
      ∧ r.2.mem ((c.tc : Thread Cert.KvBwd.nD Cert.KvBwd.τ).loc Cert.KvBwd.main_arg5) = m ((c.tc : Thread Cert.KvBwd.nD Cert.KvBwd.τ).loc Cert.KvBwd.main_arg5)
      ∧ r.2.mem ((c.tc : Thread Cert.KvBwd.nD Cert.KvBwd.τ).loc Cert.KvBwd.main_arg6) = m ((c.tc : Thread Cert.KvBwd.nD Cert.KvBwd.τ).loc Cert.KvBwd.main_arg6)
      ∧ r.2.mem ((c.tc : Thread Cert.KvBwd.nD Cert.KvBwd.τ).loc Cert.KvBwd.main_arg7) = m ((c.tc : Thread Cert.KvBwd.nD Cert.KvBwd.τ).loc Cert.KvBwd.main_arg7)
      ∧ r.2.mem ((c.tc : Thread Cert.KvBwd.nD Cert.KvBwd.τ).loc Cert.KvBwd.main_arg8) = m ((c.tc : Thread Cert.KvBwd.nD Cert.KvBwd.τ).loc Cert.KvBwd.main_arg8)
      ∧ r.2.mem ((c.tc : Thread Cert.KvBwd.nD Cert.KvBwd.τ).loc Cert.KvBwd.main_arg9) = m ((c.tc : Thread Cert.KvBwd.nD Cert.KvBwd.τ).loc Cert.KvBwd.main_arg9)
      ∧ r.2.mem ((c.tc : Thread Cert.KvBwd.nD Cert.KvBwd.τ).loc Cert.KvBwd.main_arg10) = m ((c.tc : Thread Cert.KvBwd.nD Cert.KvBwd.τ).loc Cert.KvBwd.main_arg10)
      ∧ r.2.mem ((c.tc : Thread Cert.KvBwd.nD Cert.KvBwd.τ).loc Cert.KvBwd.main_arg11) = m ((c.tc : Thread Cert.KvBwd.nD Cert.KvBwd.τ).loc Cert.KvBwd.main_arg11))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5)
      ∧ r.2.mem ((c.tc : Thread Cert.KvBwdIdeal.nD Cert.KvBwdIdeal.τ).loc Cert.KvBwdIdeal.main_arg6) = m ((c.tc : Thread Cert.KvBwdIdeal.nD Cert.KvBwdIdeal.τ).loc Cert.KvBwdIdeal.main_arg6)
      ∧ r.2.mem ((c.tc : Thread Cert.KvBwdIdeal.nD Cert.KvBwdIdeal.τ).loc Cert.KvBwdIdeal.main_arg7) = m ((c.tc : Thread Cert.KvBwdIdeal.nD Cert.KvBwdIdeal.τ).loc Cert.KvBwdIdeal.main_arg7)
      ∧ r.2.mem ((c.tc : Thread Cert.KvBwdIdeal.nD Cert.KvBwdIdeal.τ).loc Cert.KvBwdIdeal.main_arg8) = m ((c.tc : Thread Cert.KvBwdIdeal.nD Cert.KvBwdIdeal.τ).loc Cert.KvBwdIdeal.main_arg8)
      ∧ r.2.mem ((c.tc : Thread Cert.KvBwdIdeal.nD Cert.KvBwdIdeal.τ).loc Cert.KvBwdIdeal.main_arg9) = m ((c.tc : Thread Cert.KvBwdIdeal.nD Cert.KvBwdIdeal.τ).loc Cert.KvBwdIdeal.main_arg9)
      ∧ r.2.mem ((c.tc : Thread Cert.KvBwdIdeal.nD Cert.KvBwdIdeal.τ).loc Cert.KvBwdIdeal.main_arg10) = m ((c.tc : Thread Cert.KvBwdIdeal.nD Cert.KvBwdIdeal.τ).loc Cert.KvBwdIdeal.main_arg10)
      ∧ r.2.mem ((c.tc : Thread Cert.KvBwdIdeal.nD Cert.KvBwdIdeal.τ).loc Cert.KvBwdIdeal.main_arg11) = m ((c.tc : Thread Cert.KvBwdIdeal.nD Cert.KvBwdIdeal.τ).loc Cert.KvBwdIdeal.main_arg11))
      ∧ r.2.sem = fun _ => 0)

def quiescent_KvBwdIdeal_pre_finite_kv [hKvBwdIdeal : Cert.KvBwdIdeal.Facts] [hPre_finite_kv : Cert.Pre_finite_kv.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal_finite_kv m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5)
      ∧ r.2.mem ((c.tc : Thread Cert.KvBwdIdeal.nD Cert.KvBwdIdeal.τ).loc Cert.KvBwdIdeal.main_arg6) = m ((c.tc : Thread Cert.KvBwdIdeal.nD Cert.KvBwdIdeal.τ).loc Cert.KvBwdIdeal.main_arg6)
      ∧ r.2.mem ((c.tc : Thread Cert.KvBwdIdeal.nD Cert.KvBwdIdeal.τ).loc Cert.KvBwdIdeal.main_arg7) = m ((c.tc : Thread Cert.KvBwdIdeal.nD Cert.KvBwdIdeal.τ).loc Cert.KvBwdIdeal.main_arg7)
      ∧ r.2.mem ((c.tc : Thread Cert.KvBwdIdeal.nD Cert.KvBwdIdeal.τ).loc Cert.KvBwdIdeal.main_arg8) = m ((c.tc : Thread Cert.KvBwdIdeal.nD Cert.KvBwdIdeal.τ).loc Cert.KvBwdIdeal.main_arg8)
      ∧ r.2.mem ((c.tc : Thread Cert.KvBwdIdeal.nD Cert.KvBwdIdeal.τ).loc Cert.KvBwdIdeal.main_arg9) = m ((c.tc : Thread Cert.KvBwdIdeal.nD Cert.KvBwdIdeal.τ).loc Cert.KvBwdIdeal.main_arg9)
      ∧ r.2.mem ((c.tc : Thread Cert.KvBwdIdeal.nD Cert.KvBwdIdeal.τ).loc Cert.KvBwdIdeal.main_arg10) = m ((c.tc : Thread Cert.KvBwdIdeal.nD Cert.KvBwdIdeal.τ).loc Cert.KvBwdIdeal.main_arg10)
      ∧ r.2.mem ((c.tc : Thread Cert.KvBwdIdeal.nD Cert.KvBwdIdeal.τ).loc Cert.KvBwdIdeal.main_arg11) = m ((c.tc : Thread Cert.KvBwdIdeal.nD Cert.KvBwdIdeal.τ).loc Cert.KvBwdIdeal.main_arg11))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3)
      ∧ r.2.mem ((c.tc : Thread Cert.KvBwdRefIdeal.nD Cert.KvBwdRefIdeal.τ).loc Cert.KvBwdRefIdeal.main_arg4) = m ((c.tc : Thread Cert.KvBwdRefIdeal.nD Cert.KvBwdRefIdeal.τ).loc Cert.KvBwdRefIdeal.main_arg4)
      ∧ r.2.mem ((c.tc : Thread Cert.KvBwdRefIdeal.nD Cert.KvBwdRefIdeal.τ).loc Cert.KvBwdRefIdeal.main_arg5) = m ((c.tc : Thread Cert.KvBwdRefIdeal.nD Cert.KvBwdRefIdeal.τ).loc Cert.KvBwdRefIdeal.main_arg5)
      ∧ r.2.mem ((c.tc : Thread Cert.KvBwdRefIdeal.nD Cert.KvBwdRefIdeal.τ).loc Cert.KvBwdRefIdeal.main_arg6) = m ((c.tc : Thread Cert.KvBwdRefIdeal.nD Cert.KvBwdRefIdeal.τ).loc Cert.KvBwdRefIdeal.main_arg6)
      ∧ r.2.mem ((c.tc : Thread Cert.KvBwdRefIdeal.nD Cert.KvBwdRefIdeal.τ).loc Cert.KvBwdRefIdeal.main_arg7) = m ((c.tc : Thread Cert.KvBwdRefIdeal.nD Cert.KvBwdRefIdeal.τ).loc Cert.KvBwdRefIdeal.main_arg7)
      ∧ r.2.mem ((c.tc : Thread Cert.KvBwdRefIdeal.nD Cert.KvBwdRefIdeal.τ).loc Cert.KvBwdRefIdeal.main_arg8) = m ((c.tc : Thread Cert.KvBwdRefIdeal.nD Cert.KvBwdRefIdeal.τ).loc Cert.KvBwdRefIdeal.main_arg8)
      ∧ r.2.mem ((c.tc : Thread Cert.KvBwdRefIdeal.nD Cert.KvBwdRefIdeal.τ).loc Cert.KvBwdRefIdeal.main_arg9) = m ((c.tc : Thread Cert.KvBwdRefIdeal.nD Cert.KvBwdRefIdeal.τ).loc Cert.KvBwdRefIdeal.main_arg9)
      ∧ r.2.mem ((c.tc : Thread Cert.KvBwdRefIdeal.nD Cert.KvBwdRefIdeal.τ).loc Cert.KvBwdRefIdeal.main_arg10) = m ((c.tc : Thread Cert.KvBwdRefIdeal.nD Cert.KvBwdRefIdeal.τ).loc Cert.KvBwdRefIdeal.main_arg10)
      ∧ r.2.mem ((c.tc : Thread Cert.KvBwdRefIdeal.nD Cert.KvBwdRefIdeal.τ).loc Cert.KvBwdRefIdeal.main_arg11) = m ((c.tc : Thread Cert.KvBwdRefIdeal.nD Cert.KvBwdRefIdeal.τ).loc Cert.KvBwdRefIdeal.main_arg11))
      ∧ r.2.sem = fun _ => 0)

def quiescent_KvBwdRefIdeal_pre_finite_kv [hKvBwdRefIdeal : Cert.KvBwdRefIdeal.Facts] [hPre_finite_kv : Cert.Pre_finite_kv.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal_finite_kv m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3)
      ∧ r.2.mem ((c.tc : Thread Cert.KvBwdRefIdeal.nD Cert.KvBwdRefIdeal.τ).loc Cert.KvBwdRefIdeal.main_arg4) = m ((c.tc : Thread Cert.KvBwdRefIdeal.nD Cert.KvBwdRefIdeal.τ).loc Cert.KvBwdRefIdeal.main_arg4)
      ∧ r.2.mem ((c.tc : Thread Cert.KvBwdRefIdeal.nD Cert.KvBwdRefIdeal.τ).loc Cert.KvBwdRefIdeal.main_arg5) = m ((c.tc : Thread Cert.KvBwdRefIdeal.nD Cert.KvBwdRefIdeal.τ).loc Cert.KvBwdRefIdeal.main_arg5)
      ∧ r.2.mem ((c.tc : Thread Cert.KvBwdRefIdeal.nD Cert.KvBwdRefIdeal.τ).loc Cert.KvBwdRefIdeal.main_arg6) = m ((c.tc : Thread Cert.KvBwdRefIdeal.nD Cert.KvBwdRefIdeal.τ).loc Cert.KvBwdRefIdeal.main_arg6)
      ∧ r.2.mem ((c.tc : Thread Cert.KvBwdRefIdeal.nD Cert.KvBwdRefIdeal.τ).loc Cert.KvBwdRefIdeal.main_arg7) = m ((c.tc : Thread Cert.KvBwdRefIdeal.nD Cert.KvBwdRefIdeal.τ).loc Cert.KvBwdRefIdeal.main_arg7)
      ∧ r.2.mem ((c.tc : Thread Cert.KvBwdRefIdeal.nD Cert.KvBwdRefIdeal.τ).loc Cert.KvBwdRefIdeal.main_arg8) = m ((c.tc : Thread Cert.KvBwdRefIdeal.nD Cert.KvBwdRefIdeal.τ).loc Cert.KvBwdRefIdeal.main_arg8)
      ∧ r.2.mem ((c.tc : Thread Cert.KvBwdRefIdeal.nD Cert.KvBwdRefIdeal.τ).loc Cert.KvBwdRefIdeal.main_arg9) = m ((c.tc : Thread Cert.KvBwdRefIdeal.nD Cert.KvBwdRefIdeal.τ).loc Cert.KvBwdRefIdeal.main_arg9)
      ∧ r.2.mem ((c.tc : Thread Cert.KvBwdRefIdeal.nD Cert.KvBwdRefIdeal.τ).loc Cert.KvBwdRefIdeal.main_arg10) = m ((c.tc : Thread Cert.KvBwdRefIdeal.nD Cert.KvBwdRefIdeal.τ).loc Cert.KvBwdRefIdeal.main_arg10)
      ∧ r.2.mem ((c.tc : Thread Cert.KvBwdRefIdeal.nD Cert.KvBwdRefIdeal.τ).loc Cert.KvBwdRefIdeal.main_arg11) = m ((c.tc : Thread Cert.KvBwdRefIdeal.nD Cert.KvBwdRefIdeal.τ).loc Cert.KvBwdRefIdeal.main_arg11))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_at [hAttnBwdIdeal : Cert.AttnBwdIdeal.Facts] [hPre_finite_at : Cert.Pre_finite_at.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_at m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_at [hAttnBwdRefIdeal : Cert.AttnBwdRefIdeal.Facts] [hPre_finite_at : Cert.Pre_finite_at.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_at m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3)
      ∧ r.2.mem ((c.tc : Thread Cert.ConvIn.nD Cert.ConvIn.τ).loc Cert.ConvIn.main_arg4) = m ((c.tc : Thread Cert.ConvIn.nD Cert.ConvIn.τ).loc Cert.ConvIn.main_arg4)
      ∧ r.2.mem ((c.tc : Thread Cert.ConvIn.nD Cert.ConvIn.τ).loc Cert.ConvIn.main_arg5) = m ((c.tc : Thread Cert.ConvIn.nD Cert.ConvIn.τ).loc Cert.ConvIn.main_arg5)
      ∧ r.2.mem ((c.tc : Thread Cert.ConvIn.nD Cert.ConvIn.τ).loc Cert.ConvIn.main_arg6) = m ((c.tc : Thread Cert.ConvIn.nD Cert.ConvIn.τ).loc Cert.ConvIn.main_arg6)
      ∧ r.2.mem ((c.tc : Thread Cert.ConvIn.nD Cert.ConvIn.τ).loc Cert.ConvIn.main_arg7) = m ((c.tc : Thread Cert.ConvIn.nD Cert.ConvIn.τ).loc Cert.ConvIn.main_arg7)
      ∧ r.2.mem ((c.tc : Thread Cert.ConvIn.nD Cert.ConvIn.τ).loc Cert.ConvIn.main_arg8) = m ((c.tc : Thread Cert.ConvIn.nD Cert.ConvIn.τ).loc Cert.ConvIn.main_arg8)
      ∧ r.2.mem ((c.tc : Thread Cert.ConvIn.nD Cert.ConvIn.τ).loc Cert.ConvIn.main_arg9) = m ((c.tc : Thread Cert.ConvIn.nD Cert.ConvIn.τ).loc Cert.ConvIn.main_arg9)
      ∧ r.2.mem ((c.tc : Thread Cert.ConvIn.nD Cert.ConvIn.τ).loc Cert.ConvIn.main_arg10) = m ((c.tc : Thread Cert.ConvIn.nD Cert.ConvIn.τ).loc Cert.ConvIn.main_arg10)
      ∧ r.2.mem ((c.tc : Thread Cert.ConvIn.nD Cert.ConvIn.τ).loc Cert.ConvIn.main_arg11) = m ((c.tc : Thread Cert.ConvIn.nD Cert.ConvIn.τ).loc Cert.ConvIn.main_arg11)
      ∧ r.2.mem ((c.tc : Thread Cert.ConvIn.nD Cert.ConvIn.τ).loc Cert.ConvIn.main_arg12) = m ((c.tc : Thread Cert.ConvIn.nD Cert.ConvIn.τ).loc Cert.ConvIn.main_arg12)
      ∧ r.2.mem ((c.tc : Thread Cert.ConvIn.nD Cert.ConvIn.τ).loc Cert.ConvIn.main_arg13) = m ((c.tc : Thread Cert.ConvIn.nD Cert.ConvIn.τ).loc Cert.ConvIn.main_arg13))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
      ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4)
      ∧ r.2.mem ((c.tc : Thread Cert.ConvInIdeal.nD Cert.ConvInIdeal.τ).loc Cert.ConvInIdeal.main_arg5) = m ((c.tc : Thread Cert.ConvInIdeal.nD Cert.ConvInIdeal.τ).loc Cert.ConvInIdeal.main_arg5)
      ∧ r.2.mem ((c.tc : Thread Cert.ConvInIdeal.nD Cert.ConvInIdeal.τ).loc Cert.ConvInIdeal.main_arg6) = m ((c.tc : Thread Cert.ConvInIdeal.nD Cert.ConvInIdeal.τ).loc Cert.ConvInIdeal.main_arg6)
      ∧ r.2.mem ((c.tc : Thread Cert.ConvInIdeal.nD Cert.ConvInIdeal.τ).loc Cert.ConvInIdeal.main_arg7) = m ((c.tc : Thread Cert.ConvInIdeal.nD Cert.ConvInIdeal.τ).loc Cert.ConvInIdeal.main_arg7)
      ∧ r.2.mem ((c.tc : Thread Cert.ConvInIdeal.nD Cert.ConvInIdeal.τ).loc Cert.ConvInIdeal.main_arg8) = m ((c.tc : Thread Cert.ConvInIdeal.nD Cert.ConvInIdeal.τ).loc Cert.ConvInIdeal.main_arg8)
      ∧ r.2.mem ((c.tc : Thread Cert.ConvInIdeal.nD Cert.ConvInIdeal.τ).loc Cert.ConvInIdeal.main_arg9) = m ((c.tc : Thread Cert.ConvInIdeal.nD Cert.ConvInIdeal.τ).loc Cert.ConvInIdeal.main_arg9)
      ∧ r.2.mem ((c.tc : Thread Cert.ConvInIdeal.nD Cert.ConvInIdeal.τ).loc Cert.ConvInIdeal.main_arg10) = m ((c.tc : Thread Cert.ConvInIdeal.nD Cert.ConvInIdeal.τ).loc Cert.ConvInIdeal.main_arg10)
      ∧ r.2.mem ((c.tc : Thread Cert.ConvInIdeal.nD Cert.ConvInIdeal.τ).loc Cert.ConvInIdeal.main_arg11) = m ((c.tc : Thread Cert.ConvInIdeal.nD Cert.ConvInIdeal.τ).loc Cert.ConvInIdeal.main_arg11)
      ∧ r.2.mem ((c.tc : Thread Cert.ConvInIdeal.nD Cert.ConvInIdeal.τ).loc Cert.ConvInIdeal.main_arg12) = m ((c.tc : Thread Cert.ConvInIdeal.nD Cert.ConvInIdeal.τ).loc Cert.ConvInIdeal.main_arg12)
      ∧ r.2.mem ((c.tc : Thread Cert.ConvInIdeal.nD Cert.ConvInIdeal.τ).loc Cert.ConvInIdeal.main_arg13) = m ((c.tc : Thread Cert.ConvInIdeal.nD Cert.ConvInIdeal.τ).loc Cert.ConvInIdeal.main_arg13))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3)
      ∧ r.2.mem ((c.tc : Thread Cert.ConvInRefIdeal.nD Cert.ConvInRefIdeal.τ).loc Cert.ConvInRefIdeal.main_arg4) = m ((c.tc : Thread Cert.ConvInRefIdeal.nD Cert.ConvInRefIdeal.τ).loc Cert.ConvInRefIdeal.main_arg4)
      ∧ r.2.mem ((c.tc : Thread Cert.ConvInRefIdeal.nD Cert.ConvInRefIdeal.τ).loc Cert.ConvInRefIdeal.main_arg5) = m ((c.tc : Thread Cert.ConvInRefIdeal.nD Cert.ConvInRefIdeal.τ).loc Cert.ConvInRefIdeal.main_arg5)
      ∧ r.2.mem ((c.tc : Thread Cert.ConvInRefIdeal.nD Cert.ConvInRefIdeal.τ).loc Cert.ConvInRefIdeal.main_arg6) = m ((c.tc : Thread Cert.ConvInRefIdeal.nD Cert.ConvInRefIdeal.τ).loc Cert.ConvInRefIdeal.main_arg6)
      ∧ r.2.mem ((c.tc : Thread Cert.ConvInRefIdeal.nD Cert.ConvInRefIdeal.τ).loc Cert.ConvInRefIdeal.main_arg7) = m ((c.tc : Thread Cert.ConvInRefIdeal.nD Cert.ConvInRefIdeal.τ).loc Cert.ConvInRefIdeal.main_arg7)
      ∧ r.2.mem ((c.tc : Thread Cert.ConvInRefIdeal.nD Cert.ConvInRefIdeal.τ).loc Cert.ConvInRefIdeal.main_arg8) = m ((c.tc : Thread Cert.ConvInRefIdeal.nD Cert.ConvInRefIdeal.τ).loc Cert.ConvInRefIdeal.main_arg8)
      ∧ r.2.mem ((c.tc : Thread Cert.ConvInRefIdeal.nD Cert.ConvInRefIdeal.τ).loc Cert.ConvInRefIdeal.main_arg9) = m ((c.tc : Thread Cert.ConvInRefIdeal.nD Cert.ConvInRefIdeal.τ).loc Cert.ConvInRefIdeal.main_arg9)
      ∧ r.2.mem ((c.tc : Thread Cert.ConvInRefIdeal.nD Cert.ConvInRefIdeal.τ).loc Cert.ConvInRefIdeal.main_arg10) = m ((c.tc : Thread Cert.ConvInRefIdeal.nD Cert.ConvInRefIdeal.τ).loc Cert.ConvInRefIdeal.main_arg10)
      ∧ r.2.mem ((c.tc : Thread Cert.ConvInRefIdeal.nD Cert.ConvInRefIdeal.τ).loc Cert.ConvInRefIdeal.main_arg11) = m ((c.tc : Thread Cert.ConvInRefIdeal.nD Cert.ConvInRefIdeal.τ).loc Cert.ConvInRefIdeal.main_arg11)
      ∧ r.2.mem ((c.tc : Thread Cert.ConvInRefIdeal.nD Cert.ConvInRefIdeal.τ).loc Cert.ConvInRefIdeal.main_arg12) = m ((c.tc : Thread Cert.ConvInRefIdeal.nD Cert.ConvInRefIdeal.τ).loc Cert.ConvInRefIdeal.main_arg12)
      ∧ r.2.mem ((c.tc : Thread Cert.ConvInRefIdeal.nD Cert.ConvInRefIdeal.τ).loc Cert.ConvInRefIdeal.main_arg13) = m ((c.tc : Thread Cert.ConvInRefIdeal.nD Cert.ConvInRefIdeal.τ).loc Cert.ConvInRefIdeal.main_arg13))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2)
      ∧ r.2.mem ((c.tc : Thread Cert.ModFwd.nD Cert.ModFwd.τ).loc Cert.ModFwd.main_arg3) = m ((c.tc : Thread Cert.ModFwd.nD Cert.ModFwd.τ).loc Cert.ModFwd.main_arg3))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
      ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ r.2.sem = fun _ => 0)

def quiescent_ModFwdRefIdeal [hModFwdRefIdeal : Cert.ModFwdRefIdeal.Facts] : Prop :=
  ∀ (m : (ℓ : Loc Cert.ModFwdRefIdeal.nD Cert.ModFwdRefIdeal.τ Cert.ModFwdRefIdeal.sig) → Buf (Elt Ideal) ℓ) (g : Dev Cert.ModFwdRefIdeal.nD → PrngReg), Pre_ModFwdRefIdeal m →
    θ_run (Cert.ModFwdRefIdeal.defs (F := Ideal)) (onTc (τ := Cert.ModFwdRefIdeal.τ) (Cert.ModFwdRefIdeal.main (F := Ideal))) ⟨m, fun _ => 0, g⟩ (fun r => (∀ c : Dev Cert.ModFwdRefIdeal.nD,
      r.2.mem ((c.tc : Thread Cert.ModFwdRefIdeal.nD Cert.ModFwdRefIdeal.τ).loc Cert.ModFwdRefIdeal.main_arg0) = m ((c.tc : Thread Cert.ModFwdRefIdeal.nD Cert.ModFwdRefIdeal.τ).loc Cert.ModFwdRefIdeal.main_arg0)
      ∧ r.2.mem ((c.tc : Thread Cert.ModFwdRefIdeal.nD Cert.ModFwdRefIdeal.τ).loc Cert.ModFwdRefIdeal.main_arg1) = m ((c.tc : Thread Cert.ModFwdRefIdeal.nD Cert.ModFwdRefIdeal.τ).loc Cert.ModFwdRefIdeal.main_arg1)
      ∧ r.2.mem ((c.tc : Thread Cert.ModFwdRefIdeal.nD Cert.ModFwdRefIdeal.τ).loc Cert.ModFwdRefIdeal.main_arg2) = m ((c.tc : Thread Cert.ModFwdRefIdeal.nD Cert.ModFwdRefIdeal.τ).loc Cert.ModFwdRefIdeal.main_arg2)
      ∧ r.2.mem ((c.tc : Thread Cert.ModFwdRefIdeal.nD Cert.ModFwdRefIdeal.τ).loc Cert.ModFwdRefIdeal.main_arg3) = m ((c.tc : Thread Cert.ModFwdRefIdeal.nD Cert.ModFwdRefIdeal.τ).loc Cert.ModFwdRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_ConvInFwd [hConvInFwd : Cert.ConvInFwd.Facts] : Prop :=
  ∀ (m : (ℓ : Loc Cert.ConvInFwd.nD Cert.ConvInFwd.τ Cert.ConvInFwd.sig) → Buf (Elt Bits) ℓ) (g : Dev Cert.ConvInFwd.nD → PrngReg), Pre_ConvInFwd m →
    θ_run (Cert.ConvInFwd.defs (F := Bits)) (onTc (τ := Cert.ConvInFwd.τ) (Cert.ConvInFwd.main (F := Bits))) ⟨m, fun _ => 0, g⟩ (fun r => (∀ c : Dev Cert.ConvInFwd.nD,
      r.2.mem ((c.tc : Thread Cert.ConvInFwd.nD Cert.ConvInFwd.τ).loc Cert.ConvInFwd.main_arg0) = m ((c.tc : Thread Cert.ConvInFwd.nD Cert.ConvInFwd.τ).loc Cert.ConvInFwd.main_arg0)
      ∧ r.2.mem ((c.tc : Thread Cert.ConvInFwd.nD Cert.ConvInFwd.τ).loc Cert.ConvInFwd.main_arg1) = m ((c.tc : Thread Cert.ConvInFwd.nD Cert.ConvInFwd.τ).loc Cert.ConvInFwd.main_arg1)
      ∧ r.2.mem ((c.tc : Thread Cert.ConvInFwd.nD Cert.ConvInFwd.τ).loc Cert.ConvInFwd.main_arg2) = m ((c.tc : Thread Cert.ConvInFwd.nD Cert.ConvInFwd.τ).loc Cert.ConvInFwd.main_arg2)
      ∧ r.2.mem ((c.tc : Thread Cert.ConvInFwd.nD Cert.ConvInFwd.τ).loc Cert.ConvInFwd.main_arg3) = m ((c.tc : Thread Cert.ConvInFwd.nD Cert.ConvInFwd.τ).loc Cert.ConvInFwd.main_arg3)
      ∧ r.2.mem ((c.tc : Thread Cert.ConvInFwd.nD Cert.ConvInFwd.τ).loc Cert.ConvInFwd.main_arg4) = m ((c.tc : Thread Cert.ConvInFwd.nD Cert.ConvInFwd.τ).loc Cert.ConvInFwd.main_arg4)
      ∧ r.2.mem ((c.tc : Thread Cert.ConvInFwd.nD Cert.ConvInFwd.τ).loc Cert.ConvInFwd.main_arg5) = m ((c.tc : Thread Cert.ConvInFwd.nD Cert.ConvInFwd.τ).loc Cert.ConvInFwd.main_arg5)
      ∧ r.2.mem ((c.tc : Thread Cert.ConvInFwd.nD Cert.ConvInFwd.τ).loc Cert.ConvInFwd.main_arg6) = m ((c.tc : Thread Cert.ConvInFwd.nD Cert.ConvInFwd.τ).loc Cert.ConvInFwd.main_arg6))
      ∧ r.2.sem = fun _ => 0)

def quiescent_ConvInFwdIdeal [hConvInFwdIdeal : Cert.ConvInFwdIdeal.Facts] : Prop :=
  ∀ (m : (ℓ : Loc Cert.ConvInFwdIdeal.nD Cert.ConvInFwdIdeal.τ Cert.ConvInFwdIdeal.sig) → Buf (Elt Ideal) ℓ) (g : Dev Cert.ConvInFwdIdeal.nD → PrngReg), Pre_ConvInFwdIdeal m →
    θ_run (Cert.ConvInFwdIdeal.defs (F := Ideal)) (onTc (τ := Cert.ConvInFwdIdeal.τ) (Cert.ConvInFwdIdeal.main (F := Ideal))) ⟨m, fun _ => 0, g⟩ (fun r => (∀ c : Dev Cert.ConvInFwdIdeal.nD,
      r.2.mem ((c.tc : Thread Cert.ConvInFwdIdeal.nD Cert.ConvInFwdIdeal.τ).loc Cert.ConvInFwdIdeal.main_arg0) = m ((c.tc : Thread Cert.ConvInFwdIdeal.nD Cert.ConvInFwdIdeal.τ).loc Cert.ConvInFwdIdeal.main_arg0)
      ∧ r.2.mem ((c.tc : Thread Cert.ConvInFwdIdeal.nD Cert.ConvInFwdIdeal.τ).loc Cert.ConvInFwdIdeal.main_arg1) = m ((c.tc : Thread Cert.ConvInFwdIdeal.nD Cert.ConvInFwdIdeal.τ).loc Cert.ConvInFwdIdeal.main_arg1)
      ∧ r.2.mem ((c.tc : Thread Cert.ConvInFwdIdeal.nD Cert.ConvInFwdIdeal.τ).loc Cert.ConvInFwdIdeal.main_arg2) = m ((c.tc : Thread Cert.ConvInFwdIdeal.nD Cert.ConvInFwdIdeal.τ).loc Cert.ConvInFwdIdeal.main_arg2)
      ∧ r.2.mem ((c.tc : Thread Cert.ConvInFwdIdeal.nD Cert.ConvInFwdIdeal.τ).loc Cert.ConvInFwdIdeal.main_arg3) = m ((c.tc : Thread Cert.ConvInFwdIdeal.nD Cert.ConvInFwdIdeal.τ).loc Cert.ConvInFwdIdeal.main_arg3)
      ∧ r.2.mem ((c.tc : Thread Cert.ConvInFwdIdeal.nD Cert.ConvInFwdIdeal.τ).loc Cert.ConvInFwdIdeal.main_arg4) = m ((c.tc : Thread Cert.ConvInFwdIdeal.nD Cert.ConvInFwdIdeal.τ).loc Cert.ConvInFwdIdeal.main_arg4)
      ∧ r.2.mem ((c.tc : Thread Cert.ConvInFwdIdeal.nD Cert.ConvInFwdIdeal.τ).loc Cert.ConvInFwdIdeal.main_arg5) = m ((c.tc : Thread Cert.ConvInFwdIdeal.nD Cert.ConvInFwdIdeal.τ).loc Cert.ConvInFwdIdeal.main_arg5)
      ∧ r.2.mem ((c.tc : Thread Cert.ConvInFwdIdeal.nD Cert.ConvInFwdIdeal.τ).loc Cert.ConvInFwdIdeal.main_arg6) = m ((c.tc : Thread Cert.ConvInFwdIdeal.nD Cert.ConvInFwdIdeal.τ).loc Cert.ConvInFwdIdeal.main_arg6))
      ∧ r.2.sem = fun _ => 0)

def quiescent_ConvInFwdRefIdeal [hConvInFwdRefIdeal : Cert.ConvInFwdRefIdeal.Facts] : Prop :=
  ∀ (m : (ℓ : Loc Cert.ConvInFwdRefIdeal.nD Cert.ConvInFwdRefIdeal.τ Cert.ConvInFwdRefIdeal.sig) → Buf (Elt Ideal) ℓ) (g : Dev Cert.ConvInFwdRefIdeal.nD → PrngReg), Pre_ConvInFwdRefIdeal m →
    θ_run (Cert.ConvInFwdRefIdeal.defs (F := Ideal)) (onTc (τ := Cert.ConvInFwdRefIdeal.τ) (Cert.ConvInFwdRefIdeal.main (F := Ideal))) ⟨m, fun _ => 0, g⟩ (fun r => (∀ c : Dev Cert.ConvInFwdRefIdeal.nD,
      r.2.mem ((c.tc : Thread Cert.ConvInFwdRefIdeal.nD Cert.ConvInFwdRefIdeal.τ).loc Cert.ConvInFwdRefIdeal.main_arg0) = m ((c.tc : Thread Cert.ConvInFwdRefIdeal.nD Cert.ConvInFwdRefIdeal.τ).loc Cert.ConvInFwdRefIdeal.main_arg0)
      ∧ r.2.mem ((c.tc : Thread Cert.ConvInFwdRefIdeal.nD Cert.ConvInFwdRefIdeal.τ).loc Cert.ConvInFwdRefIdeal.main_arg1) = m ((c.tc : Thread Cert.ConvInFwdRefIdeal.nD Cert.ConvInFwdRefIdeal.τ).loc Cert.ConvInFwdRefIdeal.main_arg1)
      ∧ r.2.mem ((c.tc : Thread Cert.ConvInFwdRefIdeal.nD Cert.ConvInFwdRefIdeal.τ).loc Cert.ConvInFwdRefIdeal.main_arg2) = m ((c.tc : Thread Cert.ConvInFwdRefIdeal.nD Cert.ConvInFwdRefIdeal.τ).loc Cert.ConvInFwdRefIdeal.main_arg2)
      ∧ r.2.mem ((c.tc : Thread Cert.ConvInFwdRefIdeal.nD Cert.ConvInFwdRefIdeal.τ).loc Cert.ConvInFwdRefIdeal.main_arg3) = m ((c.tc : Thread Cert.ConvInFwdRefIdeal.nD Cert.ConvInFwdRefIdeal.τ).loc Cert.ConvInFwdRefIdeal.main_arg3)
      ∧ r.2.mem ((c.tc : Thread Cert.ConvInFwdRefIdeal.nD Cert.ConvInFwdRefIdeal.τ).loc Cert.ConvInFwdRefIdeal.main_arg4) = m ((c.tc : Thread Cert.ConvInFwdRefIdeal.nD Cert.ConvInFwdRefIdeal.τ).loc Cert.ConvInFwdRefIdeal.main_arg4)
      ∧ r.2.mem ((c.tc : Thread Cert.ConvInFwdRefIdeal.nD Cert.ConvInFwdRefIdeal.τ).loc Cert.ConvInFwdRefIdeal.main_arg5) = m ((c.tc : Thread Cert.ConvInFwdRefIdeal.nD Cert.ConvInFwdRefIdeal.τ).loc Cert.ConvInFwdRefIdeal.main_arg5)
      ∧ r.2.mem ((c.tc : Thread Cert.ConvInFwdRefIdeal.nD Cert.ConvInFwdRefIdeal.τ).loc Cert.ConvInFwdRefIdeal.main_arg6) = m ((c.tc : Thread Cert.ConvInFwdRefIdeal.nD Cert.ConvInFwdRefIdeal.τ).loc Cert.ConvInFwdRefIdeal.main_arg6))
      ∧ r.2.sem = fun _ => 0)

def quiescent_QFwd [hQFwd : Cert.QFwd.Facts] : Prop :=
  ∀ (m : (ℓ : Loc Cert.QFwd.nD Cert.QFwd.τ Cert.QFwd.sig) → Buf (Elt Bits) ℓ) (g : Dev Cert.QFwd.nD → PrngReg), Pre_QFwd m →
    θ_run (Cert.QFwd.defs (F := Bits)) (onTc (τ := Cert.QFwd.τ) (Cert.QFwd.main (F := Bits))) ⟨m, fun _ => 0, g⟩ (fun r => (∀ c : Dev Cert.QFwd.nD,
      r.2.mem ((c.tc : Thread Cert.QFwd.nD Cert.QFwd.τ).loc Cert.QFwd.main_arg0) = m ((c.tc : Thread Cert.QFwd.nD Cert.QFwd.τ).loc Cert.QFwd.main_arg0)
      ∧ r.2.mem ((c.tc : Thread Cert.QFwd.nD Cert.QFwd.τ).loc Cert.QFwd.main_arg1) = m ((c.tc : Thread Cert.QFwd.nD Cert.QFwd.τ).loc Cert.QFwd.main_arg1)
      ∧ r.2.mem ((c.tc : Thread Cert.QFwd.nD Cert.QFwd.τ).loc Cert.QFwd.main_arg2) = m ((c.tc : Thread Cert.QFwd.nD Cert.QFwd.τ).loc Cert.QFwd.main_arg2)
      ∧ r.2.mem ((c.tc : Thread Cert.QFwd.nD Cert.QFwd.τ).loc Cert.QFwd.main_arg3) = m ((c.tc : Thread Cert.QFwd.nD Cert.QFwd.τ).loc Cert.QFwd.main_arg3)
      ∧ r.2.mem ((c.tc : Thread Cert.QFwd.nD Cert.QFwd.τ).loc Cert.QFwd.main_arg4) = m ((c.tc : Thread Cert.QFwd.nD Cert.QFwd.τ).loc Cert.QFwd.main_arg4)
      ∧ r.2.mem ((c.tc : Thread Cert.QFwd.nD Cert.QFwd.τ).loc Cert.QFwd.main_arg5) = m ((c.tc : Thread Cert.QFwd.nD Cert.QFwd.τ).loc Cert.QFwd.main_arg5)
      ∧ r.2.mem ((c.tc : Thread Cert.QFwd.nD Cert.QFwd.τ).loc Cert.QFwd.main_arg6) = m ((c.tc : Thread Cert.QFwd.nD Cert.QFwd.τ).loc Cert.QFwd.main_arg6)
      ∧ r.2.mem ((c.tc : Thread Cert.QFwd.nD Cert.QFwd.τ).loc Cert.QFwd.main_arg7) = m ((c.tc : Thread Cert.QFwd.nD Cert.QFwd.τ).loc Cert.QFwd.main_arg7)
      ∧ r.2.mem ((c.tc : Thread Cert.QFwd.nD Cert.QFwd.τ).loc Cert.QFwd.main_arg8) = m ((c.tc : Thread Cert.QFwd.nD Cert.QFwd.τ).loc Cert.QFwd.main_arg8)
      ∧ r.2.mem ((c.tc : Thread Cert.QFwd.nD Cert.QFwd.τ).loc Cert.QFwd.main_arg9) = m ((c.tc : Thread Cert.QFwd.nD Cert.QFwd.τ).loc Cert.QFwd.main_arg9))
      ∧ r.2.sem = fun _ => 0)

def quiescent_QFwdIdeal [hQFwdIdeal : Cert.QFwdIdeal.Facts] : Prop :=
  ∀ (m : (ℓ : Loc Cert.QFwdIdeal.nD Cert.QFwdIdeal.τ Cert.QFwdIdeal.sig) → Buf (Elt Ideal) ℓ) (g : Dev Cert.QFwdIdeal.nD → PrngReg), Pre_QFwdIdeal m →
    θ_run (Cert.QFwdIdeal.defs (F := Ideal)) (onTc (τ := Cert.QFwdIdeal.τ) (Cert.QFwdIdeal.main (F := Ideal))) ⟨m, fun _ => 0, g⟩ (fun r => (∀ c : Dev Cert.QFwdIdeal.nD,
      r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
      ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
      ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2)
      ∧ r.2.mem ((c.tc : Thread Cert.QFwdIdeal.nD Cert.QFwdIdeal.τ).loc Cert.QFwdIdeal.main_arg3) = m ((c.tc : Thread Cert.QFwdIdeal.nD Cert.QFwdIdeal.τ).loc Cert.QFwdIdeal.main_arg3)
      ∧ r.2.mem ((c.tc : Thread Cert.QFwdIdeal.nD Cert.QFwdIdeal.τ).loc Cert.QFwdIdeal.main_arg4) = m ((c.tc : Thread Cert.QFwdIdeal.nD Cert.QFwdIdeal.τ).loc Cert.QFwdIdeal.main_arg4)
      ∧ r.2.mem ((c.tc : Thread Cert.QFwdIdeal.nD Cert.QFwdIdeal.τ).loc Cert.QFwdIdeal.main_arg5) = m ((c.tc : Thread Cert.QFwdIdeal.nD Cert.QFwdIdeal.τ).loc Cert.QFwdIdeal.main_arg5)
      ∧ r.2.mem ((c.tc : Thread Cert.QFwdIdeal.nD Cert.QFwdIdeal.τ).loc Cert.QFwdIdeal.main_arg6) = m ((c.tc : Thread Cert.QFwdIdeal.nD Cert.QFwdIdeal.τ).loc Cert.QFwdIdeal.main_arg6)
      ∧ r.2.mem ((c.tc : Thread Cert.QFwdIdeal.nD Cert.QFwdIdeal.τ).loc Cert.QFwdIdeal.main_arg7) = m ((c.tc : Thread Cert.QFwdIdeal.nD Cert.QFwdIdeal.τ).loc Cert.QFwdIdeal.main_arg7)
      ∧ r.2.mem ((c.tc : Thread Cert.QFwdIdeal.nD Cert.QFwdIdeal.τ).loc Cert.QFwdIdeal.main_arg8) = m ((c.tc : Thread Cert.QFwdIdeal.nD Cert.QFwdIdeal.τ).loc Cert.QFwdIdeal.main_arg8)
      ∧ r.2.mem ((c.tc : Thread Cert.QFwdIdeal.nD Cert.QFwdIdeal.τ).loc Cert.QFwdIdeal.main_arg9) = m ((c.tc : Thread Cert.QFwdIdeal.nD Cert.QFwdIdeal.τ).loc Cert.QFwdIdeal.main_arg9))
      ∧ r.2.sem = fun _ => 0)

def quiescent_QFwdRefIdeal [hQFwdRefIdeal : Cert.QFwdRefIdeal.Facts] : Prop :=
  ∀ (m : (ℓ : Loc Cert.QFwdRefIdeal.nD Cert.QFwdRefIdeal.τ Cert.QFwdRefIdeal.sig) → Buf (Elt Ideal) ℓ) (g : Dev Cert.QFwdRefIdeal.nD → PrngReg), Pre_QFwdRefIdeal m →
    θ_run (Cert.QFwdRefIdeal.defs (F := Ideal)) (onTc (τ := Cert.QFwdRefIdeal.τ) (Cert.QFwdRefIdeal.main (F := Ideal))) ⟨m, fun _ => 0, g⟩ (fun r => (∀ c : Dev Cert.QFwdRefIdeal.nD,
      r.2.mem ((c.tc : Thread Cert.QFwdRefIdeal.nD Cert.QFwdRefIdeal.τ).loc Cert.QFwdRefIdeal.main_arg0) = m ((c.tc : Thread Cert.QFwdRefIdeal.nD Cert.QFwdRefIdeal.τ).loc Cert.QFwdRefIdeal.main_arg0)
      ∧ r.2.mem ((c.tc : Thread Cert.QFwdRefIdeal.nD Cert.QFwdRefIdeal.τ).loc Cert.QFwdRefIdeal.main_arg1) = m ((c.tc : Thread Cert.QFwdRefIdeal.nD Cert.QFwdRefIdeal.τ).loc Cert.QFwdRefIdeal.main_arg1)
      ∧ r.2.mem ((c.tc : Thread Cert.QFwdRefIdeal.nD Cert.QFwdRefIdeal.τ).loc Cert.QFwdRefIdeal.main_arg2) = m ((c.tc : Thread Cert.QFwdRefIdeal.nD Cert.QFwdRefIdeal.τ).loc Cert.QFwdRefIdeal.main_arg2)
      ∧ r.2.mem ((c.tc : Thread Cert.QFwdRefIdeal.nD Cert.QFwdRefIdeal.τ).loc Cert.QFwdRefIdeal.main_arg3) = m ((c.tc : Thread Cert.QFwdRefIdeal.nD Cert.QFwdRefIdeal.τ).loc Cert.QFwdRefIdeal.main_arg3)
      ∧ r.2.mem ((c.tc : Thread Cert.QFwdRefIdeal.nD Cert.QFwdRefIdeal.τ).loc Cert.QFwdRefIdeal.main_arg4) = m ((c.tc : Thread Cert.QFwdRefIdeal.nD Cert.QFwdRefIdeal.τ).loc Cert.QFwdRefIdeal.main_arg4)
      ∧ r.2.mem ((c.tc : Thread Cert.QFwdRefIdeal.nD Cert.QFwdRefIdeal.τ).loc Cert.QFwdRefIdeal.main_arg5) = m ((c.tc : Thread Cert.QFwdRefIdeal.nD Cert.QFwdRefIdeal.τ).loc Cert.QFwdRefIdeal.main_arg5)
      ∧ r.2.mem ((c.tc : Thread Cert.QFwdRefIdeal.nD Cert.QFwdRefIdeal.τ).loc Cert.QFwdRefIdeal.main_arg6) = m ((c.tc : Thread Cert.QFwdRefIdeal.nD Cert.QFwdRefIdeal.τ).loc Cert.QFwdRefIdeal.main_arg6)
      ∧ r.2.mem ((c.tc : Thread Cert.QFwdRefIdeal.nD Cert.QFwdRefIdeal.τ).loc Cert.QFwdRefIdeal.main_arg7) = m ((c.tc : Thread Cert.QFwdRefIdeal.nD Cert.QFwdRefIdeal.τ).loc Cert.QFwdRefIdeal.main_arg7)
      ∧ r.2.mem ((c.tc : Thread Cert.QFwdRefIdeal.nD Cert.QFwdRefIdeal.τ).loc Cert.QFwdRefIdeal.main_arg8) = m ((c.tc : Thread Cert.QFwdRefIdeal.nD Cert.QFwdRefIdeal.τ).loc Cert.QFwdRefIdeal.main_arg8)
      ∧ r.2.mem ((c.tc : Thread Cert.QFwdRefIdeal.nD Cert.QFwdRefIdeal.τ).loc Cert.QFwdRefIdeal.main_arg9) = m ((c.tc : Thread Cert.QFwdRefIdeal.nD Cert.QFwdRefIdeal.τ).loc Cert.QFwdRefIdeal.main_arg9))
      ∧ r.2.sem = fun _ => 0)

def preserves_Final_FinalIdeal : Prop :=
  True

def algebraic_FinalIdeal_FinalRefIdeal_pre_finite_final [hFinalIdeal : Cert.FinalIdeal.Facts] [hFinalRefIdeal : Cert.FinalRefIdeal.Facts] [hPre_finite_final : Cert.Pre_finite_final.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_finite_final m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v3_0)) (v1 : (c : Dev Cert.FinalIdeal.nD) → Buf (Elt Ideal) ((c.tc : Thread Cert.FinalIdeal.nD Cert.FinalIdeal.τ).loc Cert.FinalIdeal.main_v3_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3_0) = v0 c
          ∧ r.2.mem ((c.tc : Thread Cert.FinalIdeal.nD Cert.FinalIdeal.τ).loc Cert.FinalIdeal.main_v3_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v50) = v0 c
          ∧ r.2.mem ((c.tc : Thread Cert.FinalRefIdeal.nD Cert.FinalRefIdeal.τ).loc Cert.FinalRefIdeal.main_v54) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_ConvOut_ConvOutIdeal : Prop :=
  True

def algebraic_ConvOutIdeal_ConvOutRefIdeal_pre_finite_co [hConvOutIdeal : Cert.ConvOutIdeal.Facts] [hConvOutRefIdeal : Cert.ConvOutRefIdeal.Facts] [hPre_finite_co : Cert.Pre_finite_co.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal_finite_co m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)
      ∧ m' ((c.tc : Thread Cert.ConvOutRefIdeal.nD Cert.ConvOutRefIdeal.τ).loc Cert.ConvOutRefIdeal.main_arg4) = m ((c.tc : Thread Cert.ConvOutIdeal.nD Cert.ConvOutIdeal.τ).loc Cert.ConvOutIdeal.main_arg4)
      ∧ m' ((c.tc : Thread Cert.ConvOutRefIdeal.nD Cert.ConvOutRefIdeal.τ).loc Cert.ConvOutRefIdeal.main_arg5) = m ((c.tc : Thread Cert.ConvOutIdeal.nD Cert.ConvOutIdeal.τ).loc Cert.ConvOutIdeal.main_arg5)
      ∧ m' ((c.tc : Thread Cert.ConvOutRefIdeal.nD Cert.ConvOutRefIdeal.τ).loc Cert.ConvOutRefIdeal.main_arg6) = m ((c.tc : Thread Cert.ConvOutIdeal.nD Cert.ConvOutIdeal.τ).loc Cert.ConvOutIdeal.main_arg6)
      ∧ m' ((c.tc : Thread Cert.ConvOutRefIdeal.nD Cert.ConvOutRefIdeal.τ).loc Cert.ConvOutRefIdeal.main_arg7) = m ((c.tc : Thread Cert.ConvOutIdeal.nD Cert.ConvOutIdeal.τ).loc Cert.ConvOutIdeal.main_arg7)
      ∧ m' ((c.tc : Thread Cert.ConvOutRefIdeal.nD Cert.ConvOutRefIdeal.τ).loc Cert.ConvOutRefIdeal.main_arg8) = m ((c.tc : Thread Cert.ConvOutIdeal.nD Cert.ConvOutIdeal.τ).loc Cert.ConvOutIdeal.main_arg8)) →
    ∃ (v0 : (c : Dev Cert.ConvOutIdeal.nD) → Buf (Elt Ideal) ((c.tc : Thread Cert.ConvOutIdeal.nD Cert.ConvOutIdeal.τ).loc Cert.ConvOutIdeal.main_v35_0)) (v1 : (c : Dev Cert.ConvOutIdeal.nD) → Buf (Elt Ideal) ((c.tc : Thread Cert.ConvOutIdeal.nD Cert.ConvOutIdeal.τ).loc Cert.ConvOutIdeal.main_v35_1)) (v2 : (c : Dev Cert.ConvOutIdeal.nD) → Buf (Elt Ideal) ((c.tc : Thread Cert.ConvOutIdeal.nD Cert.ConvOutIdeal.τ).loc Cert.ConvOutIdeal.main_v35_2)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v35_0) = v0 c
          ∧ r.2.mem ((c.tc : Thread Cert.ConvOutIdeal.nD Cert.ConvOutIdeal.τ).loc Cert.ConvOutIdeal.main_v35_1) = v1 c
          ∧ r.2.mem ((c.tc : Thread Cert.ConvOutIdeal.nD Cert.ConvOutIdeal.τ).loc Cert.ConvOutIdeal.main_v35_2) = v2 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
          ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
          ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6)
          ∧ r.2.mem ((c.tc : Thread Cert.ConvOutIdeal.nD Cert.ConvOutIdeal.τ).loc Cert.ConvOutIdeal.main_arg7) = m ((c.tc : Thread Cert.ConvOutIdeal.nD Cert.ConvOutIdeal.τ).loc Cert.ConvOutIdeal.main_arg7)
          ∧ r.2.mem ((c.tc : Thread Cert.ConvOutIdeal.nD Cert.ConvOutIdeal.τ).loc Cert.ConvOutIdeal.main_arg8) = m ((c.tc : Thread Cert.ConvOutIdeal.nD Cert.ConvOutIdeal.τ).loc Cert.ConvOutIdeal.main_arg8))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v100) = v0 c
          ∧ r.2.mem ((c.tc : Thread Cert.ConvOutRefIdeal.nD Cert.ConvOutRefIdeal.τ).loc Cert.ConvOutRefIdeal.main_v101) = v1 c
          ∧ r.2.mem ((c.tc : Thread Cert.ConvOutRefIdeal.nD Cert.ConvOutRefIdeal.τ).loc Cert.ConvOutRefIdeal.main_v107) = v2 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3)
          ∧ r.2.mem ((c.tc : Thread Cert.ConvOutRefIdeal.nD Cert.ConvOutRefIdeal.τ).loc Cert.ConvOutRefIdeal.main_arg4) = m' ((c.tc : Thread Cert.ConvOutRefIdeal.nD Cert.ConvOutRefIdeal.τ).loc Cert.ConvOutRefIdeal.main_arg4)
          ∧ r.2.mem ((c.tc : Thread Cert.ConvOutRefIdeal.nD Cert.ConvOutRefIdeal.τ).loc Cert.ConvOutRefIdeal.main_arg5) = m' ((c.tc : Thread Cert.ConvOutRefIdeal.nD Cert.ConvOutRefIdeal.τ).loc Cert.ConvOutRefIdeal.main_arg5)
          ∧ r.2.mem ((c.tc : Thread Cert.ConvOutRefIdeal.nD Cert.ConvOutRefIdeal.τ).loc Cert.ConvOutRefIdeal.main_arg6) = m' ((c.tc : Thread Cert.ConvOutRefIdeal.nD Cert.ConvOutRefIdeal.τ).loc Cert.ConvOutRefIdeal.main_arg6)
          ∧ r.2.mem ((c.tc : Thread Cert.ConvOutRefIdeal.nD Cert.ConvOutRefIdeal.τ).loc Cert.ConvOutRefIdeal.main_arg7) = m' ((c.tc : Thread Cert.ConvOutRefIdeal.nD Cert.ConvOutRefIdeal.τ).loc Cert.ConvOutRefIdeal.main_arg7)
          ∧ r.2.mem ((c.tc : Thread Cert.ConvOutRefIdeal.nD Cert.ConvOutRefIdeal.τ).loc Cert.ConvOutRefIdeal.main_arg8) = m' ((c.tc : Thread Cert.ConvOutRefIdeal.nD Cert.ConvOutRefIdeal.τ).loc Cert.ConvOutRefIdeal.main_arg8))

def preserves_WPw_WPwIdeal : Prop :=
  True

def algebraic_WPwIdeal_WPwRefIdeal_pre_finite_wg [hWPwIdeal : Cert.WPwIdeal.Facts] [hWPwRefIdeal : Cert.WPwRefIdeal.Facts] [hPre_finite_wg : Cert.Pre_finite_wg.Facts] : Prop :=
  ∀ (m : (ℓ : Loc Cert.WPwIdeal.nD Cert.WPwIdeal.τ Cert.WPwIdeal.sig) → Buf (Elt Ideal) ℓ) (g : Dev Cert.WPwIdeal.nD → PrngReg)
    (m' : (ℓ : Loc Cert.WPwRefIdeal.nD Cert.WPwRefIdeal.τ Cert.WPwRefIdeal.sig) → Buf (Elt Ideal) ℓ) (g' : Dev Cert.WPwRefIdeal.nD → PrngReg), Pre_WPwIdeal_finite_wg m →
    (∀ c : Dev Cert.WPwIdeal.nD,
      m' ((c.tc : Thread Cert.WPwRefIdeal.nD Cert.WPwRefIdeal.τ).loc Cert.WPwRefIdeal.main_arg0) = m ((c.tc : Thread Cert.WPwIdeal.nD Cert.WPwIdeal.τ).loc Cert.WPwIdeal.main_arg0)
      ∧ m' ((c.tc : Thread Cert.WPwRefIdeal.nD Cert.WPwRefIdeal.τ).loc Cert.WPwRefIdeal.main_arg1) = m ((c.tc : Thread Cert.WPwIdeal.nD Cert.WPwIdeal.τ).loc Cert.WPwIdeal.main_arg1)
      ∧ m' ((c.tc : Thread Cert.WPwRefIdeal.nD Cert.WPwRefIdeal.τ).loc Cert.WPwRefIdeal.main_arg2) = m ((c.tc : Thread Cert.WPwIdeal.nD Cert.WPwIdeal.τ).loc Cert.WPwIdeal.main_arg2)
      ∧ m' ((c.tc : Thread Cert.WPwRefIdeal.nD Cert.WPwRefIdeal.τ).loc Cert.WPwRefIdeal.main_arg3) = m ((c.tc : Thread Cert.WPwIdeal.nD Cert.WPwIdeal.τ).loc Cert.WPwIdeal.main_arg3)
      ∧ m' ((c.tc : Thread Cert.WPwRefIdeal.nD Cert.WPwRefIdeal.τ).loc Cert.WPwRefIdeal.main_arg4) = m ((c.tc : Thread Cert.WPwIdeal.nD Cert.WPwIdeal.τ).loc Cert.WPwIdeal.main_arg4)
      ∧ m' ((c.tc : Thread Cert.WPwRefIdeal.nD Cert.WPwRefIdeal.τ).loc Cert.WPwRefIdeal.main_arg5) = m ((c.tc : Thread Cert.WPwIdeal.nD Cert.WPwIdeal.τ).loc Cert.WPwIdeal.main_arg5)
      ∧ m' ((c.tc : Thread Cert.WPwRefIdeal.nD Cert.WPwRefIdeal.τ).loc Cert.WPwRefIdeal.main_arg6) = m ((c.tc : Thread Cert.WPwIdeal.nD Cert.WPwIdeal.τ).loc Cert.WPwIdeal.main_arg6)
      ∧ m' ((c.tc : Thread Cert.WPwRefIdeal.nD Cert.WPwRefIdeal.τ).loc Cert.WPwRefIdeal.main_arg7) = m ((c.tc : Thread Cert.WPwIdeal.nD Cert.WPwIdeal.τ).loc Cert.WPwIdeal.main_arg7)) →
    ∃ (v0 : (c : Dev Cert.WPwIdeal.nD) → Buf (Elt Ideal) ((c.tc : Thread Cert.WPwIdeal.nD Cert.WPwIdeal.τ).loc Cert.WPwIdeal.main_v58_0)) (v1 : (c : Dev Cert.WPwIdeal.nD) → Buf (Elt Ideal) ((c.tc : Thread Cert.WPwIdeal.nD Cert.WPwIdeal.τ).loc Cert.WPwIdeal.main_v58_1)),
      θ_run (Cert.WPwIdeal.defs (F := Ideal)) (onTc (τ := Cert.WPwIdeal.τ) (Cert.WPwIdeal.main (F := Ideal))) ⟨m, fun _ => 0, g⟩ (fun r => ∀ c : Dev Cert.WPwIdeal.nD,
          r.2.mem ((c.tc : Thread Cert.WPwIdeal.nD Cert.WPwIdeal.τ).loc Cert.WPwIdeal.main_v58_0) = v0 c
          ∧ r.2.mem ((c.tc : Thread Cert.WPwIdeal.nD Cert.WPwIdeal.τ).loc Cert.WPwIdeal.main_v58_1) = v1 c
          ∧ r.2.mem ((c.tc : Thread Cert.WPwIdeal.nD Cert.WPwIdeal.τ).loc Cert.WPwIdeal.main_arg0) = m ((c.tc : Thread Cert.WPwIdeal.nD Cert.WPwIdeal.τ).loc Cert.WPwIdeal.main_arg0)
          ∧ r.2.mem ((c.tc : Thread Cert.WPwIdeal.nD Cert.WPwIdeal.τ).loc Cert.WPwIdeal.main_arg1) = m ((c.tc : Thread Cert.WPwIdeal.nD Cert.WPwIdeal.τ).loc Cert.WPwIdeal.main_arg1)
          ∧ r.2.mem ((c.tc : Thread Cert.WPwIdeal.nD Cert.WPwIdeal.τ).loc Cert.WPwIdeal.main_arg2) = m ((c.tc : Thread Cert.WPwIdeal.nD Cert.WPwIdeal.τ).loc Cert.WPwIdeal.main_arg2)
          ∧ r.2.mem ((c.tc : Thread Cert.WPwIdeal.nD Cert.WPwIdeal.τ).loc Cert.WPwIdeal.main_arg3) = m ((c.tc : Thread Cert.WPwIdeal.nD Cert.WPwIdeal.τ).loc Cert.WPwIdeal.main_arg3)
          ∧ r.2.mem ((c.tc : Thread Cert.WPwIdeal.nD Cert.WPwIdeal.τ).loc Cert.WPwIdeal.main_arg4) = m ((c.tc : Thread Cert.WPwIdeal.nD Cert.WPwIdeal.τ).loc Cert.WPwIdeal.main_arg4)
          ∧ r.2.mem ((c.tc : Thread Cert.WPwIdeal.nD Cert.WPwIdeal.τ).loc Cert.WPwIdeal.main_arg5) = m ((c.tc : Thread Cert.WPwIdeal.nD Cert.WPwIdeal.τ).loc Cert.WPwIdeal.main_arg5)
          ∧ r.2.mem ((c.tc : Thread Cert.WPwIdeal.nD Cert.WPwIdeal.τ).loc Cert.WPwIdeal.main_arg6) = m ((c.tc : Thread Cert.WPwIdeal.nD Cert.WPwIdeal.τ).loc Cert.WPwIdeal.main_arg6)
          ∧ r.2.mem ((c.tc : Thread Cert.WPwIdeal.nD Cert.WPwIdeal.τ).loc Cert.WPwIdeal.main_arg7) = m ((c.tc : Thread Cert.WPwIdeal.nD Cert.WPwIdeal.τ).loc Cert.WPwIdeal.main_arg7))
      ∧ θ_run (Cert.WPwRefIdeal.defs (F := Ideal)) (onTc (τ := Cert.WPwRefIdeal.τ) (Cert.WPwRefIdeal.main (F := Ideal))) ⟨m', fun _ => 0, g'⟩ (fun r => ∀ c : Dev Cert.WPwRefIdeal.nD,
          r.2.mem ((c.tc : Thread Cert.WPwRefIdeal.nD Cert.WPwRefIdeal.τ).loc Cert.WPwRefIdeal.main_v64) = v0 c
          ∧ r.2.mem ((c.tc : Thread Cert.WPwRefIdeal.nD Cert.WPwRefIdeal.τ).loc Cert.WPwRefIdeal.main_v65) = v1 c
          ∧ r.2.mem ((c.tc : Thread Cert.WPwRefIdeal.nD Cert.WPwRefIdeal.τ).loc Cert.WPwRefIdeal.main_arg0) = m' ((c.tc : Thread Cert.WPwRefIdeal.nD Cert.WPwRefIdeal.τ).loc Cert.WPwRefIdeal.main_arg0)
          ∧ r.2.mem ((c.tc : Thread Cert.WPwRefIdeal.nD Cert.WPwRefIdeal.τ).loc Cert.WPwRefIdeal.main_arg1) = m' ((c.tc : Thread Cert.WPwRefIdeal.nD Cert.WPwRefIdeal.τ).loc Cert.WPwRefIdeal.main_arg1)
          ∧ r.2.mem ((c.tc : Thread Cert.WPwRefIdeal.nD Cert.WPwRefIdeal.τ).loc Cert.WPwRefIdeal.main_arg2) = m' ((c.tc : Thread Cert.WPwRefIdeal.nD Cert.WPwRefIdeal.τ).loc Cert.WPwRefIdeal.main_arg2)
          ∧ r.2.mem ((c.tc : Thread Cert.WPwRefIdeal.nD Cert.WPwRefIdeal.τ).loc Cert.WPwRefIdeal.main_arg3) = m' ((c.tc : Thread Cert.WPwRefIdeal.nD Cert.WPwRefIdeal.τ).loc Cert.WPwRefIdeal.main_arg3)
          ∧ r.2.mem ((c.tc : Thread Cert.WPwRefIdeal.nD Cert.WPwRefIdeal.τ).loc Cert.WPwRefIdeal.main_arg4) = m' ((c.tc : Thread Cert.WPwRefIdeal.nD Cert.WPwRefIdeal.τ).loc Cert.WPwRefIdeal.main_arg4)
          ∧ r.2.mem ((c.tc : Thread Cert.WPwRefIdeal.nD Cert.WPwRefIdeal.τ).loc Cert.WPwRefIdeal.main_arg5) = m' ((c.tc : Thread Cert.WPwRefIdeal.nD Cert.WPwRefIdeal.τ).loc Cert.WPwRefIdeal.main_arg5)
          ∧ r.2.mem ((c.tc : Thread Cert.WPwRefIdeal.nD Cert.WPwRefIdeal.τ).loc Cert.WPwRefIdeal.main_arg6) = m' ((c.tc : Thread Cert.WPwRefIdeal.nD Cert.WPwRefIdeal.τ).loc Cert.WPwRefIdeal.main_arg6)
          ∧ r.2.mem ((c.tc : Thread Cert.WPwRefIdeal.nD Cert.WPwRefIdeal.τ).loc Cert.WPwRefIdeal.main_arg7) = m' ((c.tc : Thread Cert.WPwRefIdeal.nD Cert.WPwRefIdeal.τ).loc Cert.WPwRefIdeal.main_arg7))

def preserves_ModW_ModWIdeal : Prop :=
  True

def algebraic_ModWIdeal_ModWRefIdeal_pre_finite_mw [hModWIdeal : Cert.ModWIdeal.Facts] [hModWRefIdeal : Cert.ModWRefIdeal.Facts] [hPre_finite_mw : Cert.Pre_finite_mw.Facts] : Prop :=
  ∀ (m : (ℓ : Loc Cert.ModWIdeal.nD Cert.ModWIdeal.τ Cert.ModWIdeal.sig) → Buf (Elt Ideal) ℓ) (g : Dev Cert.ModWIdeal.nD → PrngReg)
    (m' : (ℓ : Loc Cert.ModWRefIdeal.nD Cert.ModWRefIdeal.τ Cert.ModWRefIdeal.sig) → Buf (Elt Ideal) ℓ) (g' : Dev Cert.ModWRefIdeal.nD → PrngReg), Pre_ModWIdeal_finite_mw m →
    (∀ c : Dev Cert.ModWIdeal.nD,
      m' ((c.tc : Thread Cert.ModWRefIdeal.nD Cert.ModWRefIdeal.τ).loc Cert.ModWRefIdeal.main_arg0) = m ((c.tc : Thread Cert.ModWIdeal.nD Cert.ModWIdeal.τ).loc Cert.ModWIdeal.main_arg0)
      ∧ m' ((c.tc : Thread Cert.ModWRefIdeal.nD Cert.ModWRefIdeal.τ).loc Cert.ModWRefIdeal.main_arg1) = m ((c.tc : Thread Cert.ModWIdeal.nD Cert.ModWIdeal.τ).loc Cert.ModWIdeal.main_arg1)) →
    ∃ (v0 : (c : Dev Cert.ModWIdeal.nD) → Buf (Elt Ideal) ((c.tc : Thread Cert.ModWIdeal.nD Cert.ModWIdeal.τ).loc Cert.ModWIdeal.main_v1)),
      θ_run (Cert.ModWIdeal.defs (F := Ideal)) (onTc (τ := Cert.ModWIdeal.τ) (Cert.ModWIdeal.main (F := Ideal))) ⟨m, fun _ => 0, g⟩ (fun r => ∀ c : Dev Cert.ModWIdeal.nD,
          r.2.mem ((c.tc : Thread Cert.ModWIdeal.nD Cert.ModWIdeal.τ).loc Cert.ModWIdeal.main_v1) = v0 c
          ∧ r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
          ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1))
      ∧ θ_run (Cert.ModWRefIdeal.defs (F := Ideal)) (onTc (τ := Cert.ModWRefIdeal.τ) (Cert.ModWRefIdeal.main (F := Ideal))) ⟨m', fun _ => 0, g'⟩ (fun r => ∀ c : Dev Cert.ModWRefIdeal.nD,
          r.2.mem ((c.tc : Thread Cert.ModWRefIdeal.nD Cert.ModWRefIdeal.τ).loc Cert.ModWRefIdeal.main_v4) = v0 c
          ∧ r.2.mem ((c.tc : Thread Cert.ModWRefIdeal.nD Cert.ModWRefIdeal.τ).loc Cert.ModWRefIdeal.main_arg0) = m' ((c.tc : Thread Cert.ModWRefIdeal.nD Cert.ModWRefIdeal.τ).loc Cert.ModWRefIdeal.main_arg0)
          ∧ r.2.mem ((c.tc : Thread Cert.ModWRefIdeal.nD Cert.ModWRefIdeal.τ).loc Cert.ModWRefIdeal.main_arg1) = m' ((c.tc : Thread Cert.ModWRefIdeal.nD Cert.ModWRefIdeal.τ).loc Cert.ModWRefIdeal.main_arg1))

def preserves_AttnOut_AttnOutIdeal : Prop :=
  True

def algebraic_AttnOutIdeal_AttnOutRefIdeal_pre_finite_ao [hAttnOutIdeal : Cert.AttnOutIdeal.Facts] [hAttnOutRefIdeal : Cert.AttnOutRefIdeal.Facts] [hPre_finite_ao : Cert.Pre_finite_ao.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal_finite_ao m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v15_0)) (v1 : (c : Dev Cert.AttnOutIdeal.nD) → Buf (Elt Ideal) ((c.tc : Thread Cert.AttnOutIdeal.nD Cert.AttnOutIdeal.τ).loc Cert.AttnOutIdeal.main_v15_1)) (v2 : (c : Dev Cert.AttnOutIdeal.nD) → Buf (Elt Ideal) ((c.tc : Thread Cert.AttnOutIdeal.nD Cert.AttnOutIdeal.τ).loc Cert.AttnOutIdeal.main_v15_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v15_0) = v0 c
          ∧ r.2.mem ((c.tc : Thread Cert.AttnOutIdeal.nD Cert.AttnOutIdeal.τ).loc Cert.AttnOutIdeal.main_v15_1) = v1 c
          ∧ r.2.mem ((c.tc : Thread Cert.AttnOutIdeal.nD Cert.AttnOutIdeal.τ).loc Cert.AttnOutIdeal.main_v15_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v15) = v0 c
          ∧ r.2.mem ((c.tc : Thread Cert.AttnOutRefIdeal.nD Cert.AttnOutRefIdeal.τ).loc Cert.AttnOutRefIdeal.main_v12) = v1 c
          ∧ r.2.mem ((c.tc : Thread Cert.AttnOutRefIdeal.nD Cert.AttnOutRefIdeal.τ).loc Cert.AttnOutRefIdeal.main_v16) = v2 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v34_0)) (v1 : (c : Dev Cert.FfnIdeal.nD) → Buf (Elt Ideal) ((c.tc : Thread Cert.FfnIdeal.nD Cert.FfnIdeal.τ).loc Cert.FfnIdeal.main_v34_1)) (v2 : (c : Dev Cert.FfnIdeal.nD) → Buf (Elt Ideal) ((c.tc : Thread Cert.FfnIdeal.nD Cert.FfnIdeal.τ).loc Cert.FfnIdeal.main_v34_2)) (v3 : (c : Dev Cert.FfnIdeal.nD) → Buf (Elt Ideal) ((c.tc : Thread Cert.FfnIdeal.nD Cert.FfnIdeal.τ).loc Cert.FfnIdeal.main_v34_3)) (v4 : (c : Dev Cert.FfnIdeal.nD) → Buf (Elt Ideal) ((c.tc : Thread Cert.FfnIdeal.nD Cert.FfnIdeal.τ).loc Cert.FfnIdeal.main_v34_4)) (v5 : (c : Dev Cert.FfnIdeal.nD) → Buf (Elt Ideal) ((c.tc : Thread Cert.FfnIdeal.nD Cert.FfnIdeal.τ).loc Cert.FfnIdeal.main_v34_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v34_0) = v0 c
          ∧ r.2.mem ((c.tc : Thread Cert.FfnIdeal.nD Cert.FfnIdeal.τ).loc Cert.FfnIdeal.main_v34_1) = v1 c
          ∧ r.2.mem ((c.tc : Thread Cert.FfnIdeal.nD Cert.FfnIdeal.τ).loc Cert.FfnIdeal.main_v34_2) = v2 c
          ∧ r.2.mem ((c.tc : Thread Cert.FfnIdeal.nD Cert.FfnIdeal.τ).loc Cert.FfnIdeal.main_v34_3) = v3 c
          ∧ r.2.mem ((c.tc : Thread Cert.FfnIdeal.nD Cert.FfnIdeal.τ).loc Cert.FfnIdeal.main_v34_4) = v4 c
          ∧ r.2.mem ((c.tc : Thread Cert.FfnIdeal.nD Cert.FfnIdeal.τ).loc Cert.FfnIdeal.main_v34_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v76) = v0 c
          ∧ r.2.mem ((c.tc : Thread Cert.FfnRefIdeal.nD Cert.FfnRefIdeal.τ).loc Cert.FfnRefIdeal.main_v79) = v1 c
          ∧ r.2.mem ((c.tc : Thread Cert.FfnRefIdeal.nD Cert.FfnRefIdeal.τ).loc Cert.FfnRefIdeal.main_v80) = v2 c
          ∧ r.2.mem ((c.tc : Thread Cert.FfnRefIdeal.nD Cert.FfnRefIdeal.τ).loc Cert.FfnRefIdeal.main_v81) = v3 c
          ∧ r.2.mem ((c.tc : Thread Cert.FfnRefIdeal.nD Cert.FfnRefIdeal.τ).loc Cert.FfnRefIdeal.main_v82) = v4 c
          ∧ r.2.mem ((c.tc : Thread Cert.FfnRefIdeal.nD Cert.FfnRefIdeal.τ).loc Cert.FfnRefIdeal.main_v87) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_QBwd_QBwdIdeal : Prop :=
  True

def algebraic_QBwdIdeal_QBwdRefIdeal_pre_finite_q [hQBwdIdeal : Cert.QBwdIdeal.Facts] [hQBwdRefIdeal : Cert.QBwdRefIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal_finite_q m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)
      ∧ m' ((c.tc : Thread Cert.QBwdRefIdeal.nD Cert.QBwdRefIdeal.τ).loc Cert.QBwdRefIdeal.main_arg3) = m ((c.tc : Thread Cert.QBwdIdeal.nD Cert.QBwdIdeal.τ).loc Cert.QBwdIdeal.main_arg3)
      ∧ m' ((c.tc : Thread Cert.QBwdRefIdeal.nD Cert.QBwdRefIdeal.τ).loc Cert.QBwdRefIdeal.main_arg4) = m ((c.tc : Thread Cert.QBwdIdeal.nD Cert.QBwdIdeal.τ).loc Cert.QBwdIdeal.main_arg4)
      ∧ m' ((c.tc : Thread Cert.QBwdRefIdeal.nD Cert.QBwdRefIdeal.τ).loc Cert.QBwdRefIdeal.main_arg5) = m ((c.tc : Thread Cert.QBwdIdeal.nD Cert.QBwdIdeal.τ).loc Cert.QBwdIdeal.main_arg5)
      ∧ m' ((c.tc : Thread Cert.QBwdRefIdeal.nD Cert.QBwdRefIdeal.τ).loc Cert.QBwdRefIdeal.main_arg6) = m ((c.tc : Thread Cert.QBwdIdeal.nD Cert.QBwdIdeal.τ).loc Cert.QBwdIdeal.main_arg6)
      ∧ m' ((c.tc : Thread Cert.QBwdRefIdeal.nD Cert.QBwdRefIdeal.τ).loc Cert.QBwdRefIdeal.main_arg7) = m ((c.tc : Thread Cert.QBwdIdeal.nD Cert.QBwdIdeal.τ).loc Cert.QBwdIdeal.main_arg7)
      ∧ m' ((c.tc : Thread Cert.QBwdRefIdeal.nD Cert.QBwdRefIdeal.τ).loc Cert.QBwdRefIdeal.main_arg8) = m ((c.tc : Thread Cert.QBwdIdeal.nD Cert.QBwdIdeal.τ).loc Cert.QBwdIdeal.main_arg8)
      ∧ m' ((c.tc : Thread Cert.QBwdRefIdeal.nD Cert.QBwdRefIdeal.τ).loc Cert.QBwdRefIdeal.main_arg9) = m ((c.tc : Thread Cert.QBwdIdeal.nD Cert.QBwdIdeal.τ).loc Cert.QBwdIdeal.main_arg9)
      ∧ m' ((c.tc : Thread Cert.QBwdRefIdeal.nD Cert.QBwdRefIdeal.τ).loc Cert.QBwdRefIdeal.main_arg10) = m ((c.tc : Thread Cert.QBwdIdeal.nD Cert.QBwdIdeal.τ).loc Cert.QBwdIdeal.main_arg10)
      ∧ m' ((c.tc : Thread Cert.QBwdRefIdeal.nD Cert.QBwdRefIdeal.τ).loc Cert.QBwdRefIdeal.main_arg11) = m ((c.tc : Thread Cert.QBwdIdeal.nD Cert.QBwdIdeal.τ).loc Cert.QBwdIdeal.main_arg11)) →
    ∃ (v0 : (c : Dev Cert.QBwdIdeal.nD) → Buf (Elt Ideal) ((c.tc : Thread Cert.QBwdIdeal.nD Cert.QBwdIdeal.τ).loc Cert.QBwdIdeal.main_v44_0)) (v1 : (c : Dev Cert.QBwdIdeal.nD) → Buf (Elt Ideal) ((c.tc : Thread Cert.QBwdIdeal.nD Cert.QBwdIdeal.τ).loc Cert.QBwdIdeal.main_v44_1)) (v2 : (c : Dev Cert.QBwdIdeal.nD) → Buf (Elt Ideal) ((c.tc : Thread Cert.QBwdIdeal.nD Cert.QBwdIdeal.τ).loc Cert.QBwdIdeal.main_v44_2)) (v3 : (c : Dev Cert.QBwdIdeal.nD) → Buf (Elt Ideal) ((c.tc : Thread Cert.QBwdIdeal.nD Cert.QBwdIdeal.τ).loc Cert.QBwdIdeal.main_v44_3)) (v4 : (c : Dev Cert.QBwdIdeal.nD) → Buf (Elt Ideal) ((c.tc : Thread Cert.QBwdIdeal.nD Cert.QBwdIdeal.τ).loc Cert.QBwdIdeal.main_v44_4)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v44_0) = v0 c
          ∧ r.2.mem ((c.tc : Thread Cert.QBwdIdeal.nD Cert.QBwdIdeal.τ).loc Cert.QBwdIdeal.main_v44_1) = v1 c
          ∧ r.2.mem ((c.tc : Thread Cert.QBwdIdeal.nD Cert.QBwdIdeal.τ).loc Cert.QBwdIdeal.main_v44_2) = v2 c
          ∧ r.2.mem ((c.tc : Thread Cert.QBwdIdeal.nD Cert.QBwdIdeal.τ).loc Cert.QBwdIdeal.main_v44_3) = v3 c
          ∧ r.2.mem ((c.tc : Thread Cert.QBwdIdeal.nD Cert.QBwdIdeal.τ).loc Cert.QBwdIdeal.main_v44_4) = v4 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
          ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
          ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
          ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5)
          ∧ r.2.mem ((c.tc : Thread Cert.QBwdIdeal.nD Cert.QBwdIdeal.τ).loc Cert.QBwdIdeal.main_arg6) = m ((c.tc : Thread Cert.QBwdIdeal.nD Cert.QBwdIdeal.τ).loc Cert.QBwdIdeal.main_arg6)
          ∧ r.2.mem ((c.tc : Thread Cert.QBwdIdeal.nD Cert.QBwdIdeal.τ).loc Cert.QBwdIdeal.main_arg7) = m ((c.tc : Thread Cert.QBwdIdeal.nD Cert.QBwdIdeal.τ).loc Cert.QBwdIdeal.main_arg7)
          ∧ r.2.mem ((c.tc : Thread Cert.QBwdIdeal.nD Cert.QBwdIdeal.τ).loc Cert.QBwdIdeal.main_arg8) = m ((c.tc : Thread Cert.QBwdIdeal.nD Cert.QBwdIdeal.τ).loc Cert.QBwdIdeal.main_arg8)
          ∧ r.2.mem ((c.tc : Thread Cert.QBwdIdeal.nD Cert.QBwdIdeal.τ).loc Cert.QBwdIdeal.main_arg9) = m ((c.tc : Thread Cert.QBwdIdeal.nD Cert.QBwdIdeal.τ).loc Cert.QBwdIdeal.main_arg9)
          ∧ r.2.mem ((c.tc : Thread Cert.QBwdIdeal.nD Cert.QBwdIdeal.τ).loc Cert.QBwdIdeal.main_arg10) = m ((c.tc : Thread Cert.QBwdIdeal.nD Cert.QBwdIdeal.τ).loc Cert.QBwdIdeal.main_arg10)
          ∧ r.2.mem ((c.tc : Thread Cert.QBwdIdeal.nD Cert.QBwdIdeal.τ).loc Cert.QBwdIdeal.main_arg11) = m ((c.tc : Thread Cert.QBwdIdeal.nD Cert.QBwdIdeal.τ).loc Cert.QBwdIdeal.main_arg11))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v134) = v0 c
          ∧ r.2.mem ((c.tc : Thread Cert.QBwdRefIdeal.nD Cert.QBwdRefIdeal.τ).loc Cert.QBwdRefIdeal.main_v138) = v1 c
          ∧ r.2.mem ((c.tc : Thread Cert.QBwdRefIdeal.nD Cert.QBwdRefIdeal.τ).loc Cert.QBwdRefIdeal.main_v139) = v2 c
          ∧ r.2.mem ((c.tc : Thread Cert.QBwdRefIdeal.nD Cert.QBwdRefIdeal.τ).loc Cert.QBwdRefIdeal.main_v144) = v3 c
          ∧ r.2.mem ((c.tc : Thread Cert.QBwdRefIdeal.nD Cert.QBwdRefIdeal.τ).loc Cert.QBwdRefIdeal.main_v147) = v4 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2)
          ∧ r.2.mem ((c.tc : Thread Cert.QBwdRefIdeal.nD Cert.QBwdRefIdeal.τ).loc Cert.QBwdRefIdeal.main_arg3) = m' ((c.tc : Thread Cert.QBwdRefIdeal.nD Cert.QBwdRefIdeal.τ).loc Cert.QBwdRefIdeal.main_arg3)
          ∧ r.2.mem ((c.tc : Thread Cert.QBwdRefIdeal.nD Cert.QBwdRefIdeal.τ).loc Cert.QBwdRefIdeal.main_arg4) = m' ((c.tc : Thread Cert.QBwdRefIdeal.nD Cert.QBwdRefIdeal.τ).loc Cert.QBwdRefIdeal.main_arg4)
          ∧ r.2.mem ((c.tc : Thread Cert.QBwdRefIdeal.nD Cert.QBwdRefIdeal.τ).loc Cert.QBwdRefIdeal.main_arg5) = m' ((c.tc : Thread Cert.QBwdRefIdeal.nD Cert.QBwdRefIdeal.τ).loc Cert.QBwdRefIdeal.main_arg5)
          ∧ r.2.mem ((c.tc : Thread Cert.QBwdRefIdeal.nD Cert.QBwdRefIdeal.τ).loc Cert.QBwdRefIdeal.main_arg6) = m' ((c.tc : Thread Cert.QBwdRefIdeal.nD Cert.QBwdRefIdeal.τ).loc Cert.QBwdRefIdeal.main_arg6)
          ∧ r.2.mem ((c.tc : Thread Cert.QBwdRefIdeal.nD Cert.QBwdRefIdeal.τ).loc Cert.QBwdRefIdeal.main_arg7) = m' ((c.tc : Thread Cert.QBwdRefIdeal.nD Cert.QBwdRefIdeal.τ).loc Cert.QBwdRefIdeal.main_arg7)
          ∧ r.2.mem ((c.tc : Thread Cert.QBwdRefIdeal.nD Cert.QBwdRefIdeal.τ).loc Cert.QBwdRefIdeal.main_arg8) = m' ((c.tc : Thread Cert.QBwdRefIdeal.nD Cert.QBwdRefIdeal.τ).loc Cert.QBwdRefIdeal.main_arg8)
          ∧ r.2.mem ((c.tc : Thread Cert.QBwdRefIdeal.nD Cert.QBwdRefIdeal.τ).loc Cert.QBwdRefIdeal.main_arg9) = m' ((c.tc : Thread Cert.QBwdRefIdeal.nD Cert.QBwdRefIdeal.τ).loc Cert.QBwdRefIdeal.main_arg9)
          ∧ r.2.mem ((c.tc : Thread Cert.QBwdRefIdeal.nD Cert.QBwdRefIdeal.τ).loc Cert.QBwdRefIdeal.main_arg10) = m' ((c.tc : Thread Cert.QBwdRefIdeal.nD Cert.QBwdRefIdeal.τ).loc Cert.QBwdRefIdeal.main_arg10)
          ∧ r.2.mem ((c.tc : Thread Cert.QBwdRefIdeal.nD Cert.QBwdRefIdeal.τ).loc Cert.QBwdRefIdeal.main_arg11) = m' ((c.tc : Thread Cert.QBwdRefIdeal.nD Cert.QBwdRefIdeal.τ).loc Cert.QBwdRefIdeal.main_arg11))

def preserves_KvBwd_KvBwdIdeal : Prop :=
  True

def algebraic_KvBwdIdeal_KvBwdRefIdeal_pre_finite_kv [hKvBwdIdeal : Cert.KvBwdIdeal.Facts] [hKvBwdRefIdeal : Cert.KvBwdRefIdeal.Facts] [hPre_finite_kv : Cert.Pre_finite_kv.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal_finite_kv m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)
      ∧ m' ((c.tc : Thread Cert.KvBwdRefIdeal.nD Cert.KvBwdRefIdeal.τ).loc Cert.KvBwdRefIdeal.main_arg4) = m ((c.tc : Thread Cert.KvBwdIdeal.nD Cert.KvBwdIdeal.τ).loc Cert.KvBwdIdeal.main_arg4)
      ∧ m' ((c.tc : Thread Cert.KvBwdRefIdeal.nD Cert.KvBwdRefIdeal.τ).loc Cert.KvBwdRefIdeal.main_arg5) = m ((c.tc : Thread Cert.KvBwdIdeal.nD Cert.KvBwdIdeal.τ).loc Cert.KvBwdIdeal.main_arg5)
      ∧ m' ((c.tc : Thread Cert.KvBwdRefIdeal.nD Cert.KvBwdRefIdeal.τ).loc Cert.KvBwdRefIdeal.main_arg6) = m ((c.tc : Thread Cert.KvBwdIdeal.nD Cert.KvBwdIdeal.τ).loc Cert.KvBwdIdeal.main_arg6)
      ∧ m' ((c.tc : Thread Cert.KvBwdRefIdeal.nD Cert.KvBwdRefIdeal.τ).loc Cert.KvBwdRefIdeal.main_arg7) = m ((c.tc : Thread Cert.KvBwdIdeal.nD Cert.KvBwdIdeal.τ).loc Cert.KvBwdIdeal.main_arg7)
      ∧ m' ((c.tc : Thread Cert.KvBwdRefIdeal.nD Cert.KvBwdRefIdeal.τ).loc Cert.KvBwdRefIdeal.main_arg8) = m ((c.tc : Thread Cert.KvBwdIdeal.nD Cert.KvBwdIdeal.τ).loc Cert.KvBwdIdeal.main_arg8)
      ∧ m' ((c.tc : Thread Cert.KvBwdRefIdeal.nD Cert.KvBwdRefIdeal.τ).loc Cert.KvBwdRefIdeal.main_arg9) = m ((c.tc : Thread Cert.KvBwdIdeal.nD Cert.KvBwdIdeal.τ).loc Cert.KvBwdIdeal.main_arg9)
      ∧ m' ((c.tc : Thread Cert.KvBwdRefIdeal.nD Cert.KvBwdRefIdeal.τ).loc Cert.KvBwdRefIdeal.main_arg10) = m ((c.tc : Thread Cert.KvBwdIdeal.nD Cert.KvBwdIdeal.τ).loc Cert.KvBwdIdeal.main_arg10)
      ∧ m' ((c.tc : Thread Cert.KvBwdRefIdeal.nD Cert.KvBwdRefIdeal.τ).loc Cert.KvBwdRefIdeal.main_arg11) = m ((c.tc : Thread Cert.KvBwdIdeal.nD Cert.KvBwdIdeal.τ).loc Cert.KvBwdIdeal.main_arg11)) →
    ∃ (v0 : (c : Dev Cert.KvBwdIdeal.nD) → Buf (Elt Ideal) ((c.tc : Thread Cert.KvBwdIdeal.nD Cert.KvBwdIdeal.τ).loc Cert.KvBwdIdeal.main_v48_0)) (v1 : (c : Dev Cert.KvBwdIdeal.nD) → Buf (Elt Ideal) ((c.tc : Thread Cert.KvBwdIdeal.nD Cert.KvBwdIdeal.τ).loc Cert.KvBwdIdeal.main_v48_1)) (v2 : (c : Dev Cert.KvBwdIdeal.nD) → Buf (Elt Ideal) ((c.tc : Thread Cert.KvBwdIdeal.nD Cert.KvBwdIdeal.τ).loc Cert.KvBwdIdeal.main_v48_2)) (v3 : (c : Dev Cert.KvBwdIdeal.nD) → Buf (Elt Ideal) ((c.tc : Thread Cert.KvBwdIdeal.nD Cert.KvBwdIdeal.τ).loc Cert.KvBwdIdeal.main_v48_3)) (v4 : (c : Dev Cert.KvBwdIdeal.nD) → Buf (Elt Ideal) ((c.tc : Thread Cert.KvBwdIdeal.nD Cert.KvBwdIdeal.τ).loc Cert.KvBwdIdeal.main_v48_4)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v48_0) = v0 c
          ∧ r.2.mem ((c.tc : Thread Cert.KvBwdIdeal.nD Cert.KvBwdIdeal.τ).loc Cert.KvBwdIdeal.main_v48_1) = v1 c
          ∧ r.2.mem ((c.tc : Thread Cert.KvBwdIdeal.nD Cert.KvBwdIdeal.τ).loc Cert.KvBwdIdeal.main_v48_2) = v2 c
          ∧ r.2.mem ((c.tc : Thread Cert.KvBwdIdeal.nD Cert.KvBwdIdeal.τ).loc Cert.KvBwdIdeal.main_v48_3) = v3 c
          ∧ r.2.mem ((c.tc : Thread Cert.KvBwdIdeal.nD Cert.KvBwdIdeal.τ).loc Cert.KvBwdIdeal.main_v48_4) = v4 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
          ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
          ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5)
          ∧ r.2.mem ((c.tc : Thread Cert.KvBwdIdeal.nD Cert.KvBwdIdeal.τ).loc Cert.KvBwdIdeal.main_arg6) = m ((c.tc : Thread Cert.KvBwdIdeal.nD Cert.KvBwdIdeal.τ).loc Cert.KvBwdIdeal.main_arg6)
          ∧ r.2.mem ((c.tc : Thread Cert.KvBwdIdeal.nD Cert.KvBwdIdeal.τ).loc Cert.KvBwdIdeal.main_arg7) = m ((c.tc : Thread Cert.KvBwdIdeal.nD Cert.KvBwdIdeal.τ).loc Cert.KvBwdIdeal.main_arg7)
          ∧ r.2.mem ((c.tc : Thread Cert.KvBwdIdeal.nD Cert.KvBwdIdeal.τ).loc Cert.KvBwdIdeal.main_arg8) = m ((c.tc : Thread Cert.KvBwdIdeal.nD Cert.KvBwdIdeal.τ).loc Cert.KvBwdIdeal.main_arg8)
          ∧ r.2.mem ((c.tc : Thread Cert.KvBwdIdeal.nD Cert.KvBwdIdeal.τ).loc Cert.KvBwdIdeal.main_arg9) = m ((c.tc : Thread Cert.KvBwdIdeal.nD Cert.KvBwdIdeal.τ).loc Cert.KvBwdIdeal.main_arg9)
          ∧ r.2.mem ((c.tc : Thread Cert.KvBwdIdeal.nD Cert.KvBwdIdeal.τ).loc Cert.KvBwdIdeal.main_arg10) = m ((c.tc : Thread Cert.KvBwdIdeal.nD Cert.KvBwdIdeal.τ).loc Cert.KvBwdIdeal.main_arg10)
          ∧ r.2.mem ((c.tc : Thread Cert.KvBwdIdeal.nD Cert.KvBwdIdeal.τ).loc Cert.KvBwdIdeal.main_arg11) = m ((c.tc : Thread Cert.KvBwdIdeal.nD Cert.KvBwdIdeal.τ).loc Cert.KvBwdIdeal.main_arg11))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v132) = v0 c
          ∧ r.2.mem ((c.tc : Thread Cert.KvBwdRefIdeal.nD Cert.KvBwdRefIdeal.τ).loc Cert.KvBwdRefIdeal.main_v138) = v1 c
          ∧ r.2.mem ((c.tc : Thread Cert.KvBwdRefIdeal.nD Cert.KvBwdRefIdeal.τ).loc Cert.KvBwdRefIdeal.main_v139) = v2 c
          ∧ r.2.mem ((c.tc : Thread Cert.KvBwdRefIdeal.nD Cert.KvBwdRefIdeal.τ).loc Cert.KvBwdRefIdeal.main_v144) = v3 c
          ∧ r.2.mem ((c.tc : Thread Cert.KvBwdRefIdeal.nD Cert.KvBwdRefIdeal.τ).loc Cert.KvBwdRefIdeal.main_v147) = v4 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3)
          ∧ r.2.mem ((c.tc : Thread Cert.KvBwdRefIdeal.nD Cert.KvBwdRefIdeal.τ).loc Cert.KvBwdRefIdeal.main_arg4) = m' ((c.tc : Thread Cert.KvBwdRefIdeal.nD Cert.KvBwdRefIdeal.τ).loc Cert.KvBwdRefIdeal.main_arg4)
          ∧ r.2.mem ((c.tc : Thread Cert.KvBwdRefIdeal.nD Cert.KvBwdRefIdeal.τ).loc Cert.KvBwdRefIdeal.main_arg5) = m' ((c.tc : Thread Cert.KvBwdRefIdeal.nD Cert.KvBwdRefIdeal.τ).loc Cert.KvBwdRefIdeal.main_arg5)
          ∧ r.2.mem ((c.tc : Thread Cert.KvBwdRefIdeal.nD Cert.KvBwdRefIdeal.τ).loc Cert.KvBwdRefIdeal.main_arg6) = m' ((c.tc : Thread Cert.KvBwdRefIdeal.nD Cert.KvBwdRefIdeal.τ).loc Cert.KvBwdRefIdeal.main_arg6)
          ∧ r.2.mem ((c.tc : Thread Cert.KvBwdRefIdeal.nD Cert.KvBwdRefIdeal.τ).loc Cert.KvBwdRefIdeal.main_arg7) = m' ((c.tc : Thread Cert.KvBwdRefIdeal.nD Cert.KvBwdRefIdeal.τ).loc Cert.KvBwdRefIdeal.main_arg7)
          ∧ r.2.mem ((c.tc : Thread Cert.KvBwdRefIdeal.nD Cert.KvBwdRefIdeal.τ).loc Cert.KvBwdRefIdeal.main_arg8) = m' ((c.tc : Thread Cert.KvBwdRefIdeal.nD Cert.KvBwdRefIdeal.τ).loc Cert.KvBwdRefIdeal.main_arg8)
          ∧ r.2.mem ((c.tc : Thread Cert.KvBwdRefIdeal.nD Cert.KvBwdRefIdeal.τ).loc Cert.KvBwdRefIdeal.main_arg9) = m' ((c.tc : Thread Cert.KvBwdRefIdeal.nD Cert.KvBwdRefIdeal.τ).loc Cert.KvBwdRefIdeal.main_arg9)
          ∧ r.2.mem ((c.tc : Thread Cert.KvBwdRefIdeal.nD Cert.KvBwdRefIdeal.τ).loc Cert.KvBwdRefIdeal.main_arg10) = m' ((c.tc : Thread Cert.KvBwdRefIdeal.nD Cert.KvBwdRefIdeal.τ).loc Cert.KvBwdRefIdeal.main_arg10)
          ∧ r.2.mem ((c.tc : Thread Cert.KvBwdRefIdeal.nD Cert.KvBwdRefIdeal.τ).loc Cert.KvBwdRefIdeal.main_arg11) = m' ((c.tc : Thread Cert.KvBwdRefIdeal.nD Cert.KvBwdRefIdeal.τ).loc Cert.KvBwdRefIdeal.main_arg11))

def preserves_AttnBwd_AttnBwdIdeal : Prop :=
  IdealRules.named_const.Statement Cert.AttnBwdIdeal.κ "ln2" .f32 0x3F317218#32 ((Real.log 2 : ℝ) : EReal)

def algebraic_AttnBwdIdeal_AttnBwdRefIdeal_pre_finite_at [hAttnBwdIdeal : Cert.AttnBwdIdeal.Facts] [hAttnBwdRefIdeal : Cert.AttnBwdRefIdeal.Facts] [hPre_finite_at : Cert.Pre_finite_at.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_at m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v49_0)) (v1 : (c : Dev Cert.AttnBwdIdeal.nD) → Buf (Elt Ideal) ((c.tc : Thread Cert.AttnBwdIdeal.nD Cert.AttnBwdIdeal.τ).loc Cert.AttnBwdIdeal.main_v49_1)) (v2 : (c : Dev Cert.AttnBwdIdeal.nD) → Buf (Elt Ideal) ((c.tc : Thread Cert.AttnBwdIdeal.nD Cert.AttnBwdIdeal.τ).loc Cert.AttnBwdIdeal.main_v49_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v49_0) = v0 c
          ∧ r.2.mem ((c.tc : Thread Cert.AttnBwdIdeal.nD Cert.AttnBwdIdeal.τ).loc Cert.AttnBwdIdeal.main_v49_1) = v1 c
          ∧ r.2.mem ((c.tc : Thread Cert.AttnBwdIdeal.nD Cert.AttnBwdIdeal.τ).loc Cert.AttnBwdIdeal.main_v49_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v61) = v0 c
          ∧ r.2.mem ((c.tc : Thread Cert.AttnBwdRefIdeal.nD Cert.AttnBwdRefIdeal.τ).loc Cert.AttnBwdRefIdeal.main_v63) = v1 c
          ∧ r.2.mem ((c.tc : Thread Cert.AttnBwdRefIdeal.nD Cert.AttnBwdRefIdeal.τ).loc Cert.AttnBwdRefIdeal.main_v65) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_ConvIn_ConvInIdeal : Prop :=
  True

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v15)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v15) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v4) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_ModFwd_ModFwdIdeal : Prop :=
  True

def algebraic_ModFwdIdeal_ModFwdRefIdeal [hModFwdIdeal : Cert.ModFwdIdeal.Facts] [hModFwdRefIdeal : Cert.ModFwdRefIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdRefIdeal.nD Cert.ModFwdRefIdeal.τ Cert.ModFwdRefIdeal.sig) → Buf (Elt Ideal) ℓ) (g' : Dev Cert.ModFwdRefIdeal.nD → PrngReg), Pre_ModFwdIdeal m →
    (∀ c : Dev Cert.ModFwdIdeal.nD,
      m' ((c.tc : Thread Cert.ModFwdRefIdeal.nD Cert.ModFwdRefIdeal.τ).loc Cert.ModFwdRefIdeal.main_arg0) = m ((c.tc : Thread Cert.ModFwdIdeal.nD Cert.ModFwdIdeal.τ).loc Cert.ModFwdIdeal.main_arg0)
      ∧ m' ((c.tc : Thread Cert.ModFwdRefIdeal.nD Cert.ModFwdRefIdeal.τ).loc Cert.ModFwdRefIdeal.main_arg1) = m ((c.tc : Thread Cert.ModFwdIdeal.nD Cert.ModFwdIdeal.τ).loc Cert.ModFwdIdeal.main_arg1)
      ∧ m' ((c.tc : Thread Cert.ModFwdRefIdeal.nD Cert.ModFwdRefIdeal.τ).loc Cert.ModFwdRefIdeal.main_arg2) = m ((c.tc : Thread Cert.ModFwdIdeal.nD Cert.ModFwdIdeal.τ).loc Cert.ModFwdIdeal.main_arg2)
      ∧ m' ((c.tc : Thread Cert.ModFwdRefIdeal.nD Cert.ModFwdRefIdeal.τ).loc Cert.ModFwdRefIdeal.main_arg3) = m ((c.tc : Thread Cert.ModFwdIdeal.nD Cert.ModFwdIdeal.τ).loc Cert.ModFwdIdeal.main_arg3)) →
    ∃ (v0 : (c : Dev Cert.ModFwdIdeal.nD) → Buf (Elt Ideal) ((c.tc : Thread Cert.ModFwdIdeal.nD Cert.ModFwdIdeal.τ).loc Cert.ModFwdIdeal.main_v0)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v0) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
          ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ θ_run (Cert.ModFwdRefIdeal.defs (F := Ideal)) (onTc (τ := Cert.ModFwdRefIdeal.τ) (Cert.ModFwdRefIdeal.main (F := Ideal))) ⟨m', fun _ => 0, g'⟩ (fun r => ∀ c : Dev Cert.ModFwdRefIdeal.nD,
          r.2.mem ((c.tc : Thread Cert.ModFwdRefIdeal.nD Cert.ModFwdRefIdeal.τ).loc Cert.ModFwdRefIdeal.main_v4) = v0 c
          ∧ r.2.mem ((c.tc : Thread Cert.ModFwdRefIdeal.nD Cert.ModFwdRefIdeal.τ).loc Cert.ModFwdRefIdeal.main_arg0) = m' ((c.tc : Thread Cert.ModFwdRefIdeal.nD Cert.ModFwdRefIdeal.τ).loc Cert.ModFwdRefIdeal.main_arg0)
          ∧ r.2.mem ((c.tc : Thread Cert.ModFwdRefIdeal.nD Cert.ModFwdRefIdeal.τ).loc Cert.ModFwdRefIdeal.main_arg1) = m' ((c.tc : Thread Cert.ModFwdRefIdeal.nD Cert.ModFwdRefIdeal.τ).loc Cert.ModFwdRefIdeal.main_arg1)
          ∧ r.2.mem ((c.tc : Thread Cert.ModFwdRefIdeal.nD Cert.ModFwdRefIdeal.τ).loc Cert.ModFwdRefIdeal.main_arg2) = m' ((c.tc : Thread Cert.ModFwdRefIdeal.nD Cert.ModFwdRefIdeal.τ).loc Cert.ModFwdRefIdeal.main_arg2)
          ∧ r.2.mem ((c.tc : Thread Cert.ModFwdRefIdeal.nD Cert.ModFwdRefIdeal.τ).loc Cert.ModFwdRefIdeal.main_arg3) = m' ((c.tc : Thread Cert.ModFwdRefIdeal.nD Cert.ModFwdRefIdeal.τ).loc Cert.ModFwdRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v8_0)) (v1 : (c : Dev Cert.FfnFwdIdeal.nD) → Buf (Elt Ideal) ((c.tc : Thread Cert.FfnFwdIdeal.nD Cert.FfnFwdIdeal.τ).loc Cert.FfnFwdIdeal.main_v8_1)) (v2 : (c : Dev Cert.FfnFwdIdeal.nD) → Buf (Elt Ideal) ((c.tc : Thread Cert.FfnFwdIdeal.nD Cert.FfnFwdIdeal.τ).loc Cert.FfnFwdIdeal.main_v8_2)) (v3 : (c : Dev Cert.FfnFwdIdeal.nD) → Buf (Elt Ideal) ((c.tc : Thread Cert.FfnFwdIdeal.nD Cert.FfnFwdIdeal.τ).loc Cert.FfnFwdIdeal.main_v8_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v8_0) = v0 c
          ∧ r.2.mem ((c.tc : Thread Cert.FfnFwdIdeal.nD Cert.FfnFwdIdeal.τ).loc Cert.FfnFwdIdeal.main_v8_1) = v1 c
          ∧ r.2.mem ((c.tc : Thread Cert.FfnFwdIdeal.nD Cert.FfnFwdIdeal.τ).loc Cert.FfnFwdIdeal.main_v8_2) = v2 c
          ∧ r.2.mem ((c.tc : Thread Cert.FfnFwdIdeal.nD Cert.FfnFwdIdeal.τ).loc Cert.FfnFwdIdeal.main_v8_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v32) = v0 c
          ∧ r.2.mem ((c.tc : Thread Cert.FfnFwdRefIdeal.nD Cert.FfnFwdRefIdeal.τ).loc Cert.FfnFwdRefIdeal.main_v33) = v1 c
          ∧ r.2.mem ((c.tc : Thread Cert.FfnFwdRefIdeal.nD Cert.FfnFwdRefIdeal.τ).loc Cert.FfnFwdRefIdeal.main_v34) = v2 c
          ∧ r.2.mem ((c.tc : Thread Cert.FfnFwdRefIdeal.nD Cert.FfnFwdRefIdeal.τ).loc Cert.FfnFwdRefIdeal.main_v35) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_ConvInFwd_ConvInFwdIdeal : Prop :=
  True

def algebraic_ConvInFwdIdeal_ConvInFwdRefIdeal [hConvInFwdIdeal : Cert.ConvInFwdIdeal.Facts] [hConvInFwdRefIdeal : Cert.ConvInFwdRefIdeal.Facts] : Prop :=
  ∀ (m : (ℓ : Loc Cert.ConvInFwdIdeal.nD Cert.ConvInFwdIdeal.τ Cert.ConvInFwdIdeal.sig) → Buf (Elt Ideal) ℓ) (g : Dev Cert.ConvInFwdIdeal.nD → PrngReg)
    (m' : (ℓ : Loc Cert.ConvInFwdRefIdeal.nD Cert.ConvInFwdRefIdeal.τ Cert.ConvInFwdRefIdeal.sig) → Buf (Elt Ideal) ℓ) (g' : Dev Cert.ConvInFwdRefIdeal.nD → PrngReg), Pre_ConvInFwdIdeal m →
    (∀ c : Dev Cert.ConvInFwdIdeal.nD,
      m' ((c.tc : Thread Cert.ConvInFwdRefIdeal.nD Cert.ConvInFwdRefIdeal.τ).loc Cert.ConvInFwdRefIdeal.main_arg0) = m ((c.tc : Thread Cert.ConvInFwdIdeal.nD Cert.ConvInFwdIdeal.τ).loc Cert.ConvInFwdIdeal.main_arg0)
      ∧ m' ((c.tc : Thread Cert.ConvInFwdRefIdeal.nD Cert.ConvInFwdRefIdeal.τ).loc Cert.ConvInFwdRefIdeal.main_arg1) = m ((c.tc : Thread Cert.ConvInFwdIdeal.nD Cert.ConvInFwdIdeal.τ).loc Cert.ConvInFwdIdeal.main_arg1)
      ∧ m' ((c.tc : Thread Cert.ConvInFwdRefIdeal.nD Cert.ConvInFwdRefIdeal.τ).loc Cert.ConvInFwdRefIdeal.main_arg2) = m ((c.tc : Thread Cert.ConvInFwdIdeal.nD Cert.ConvInFwdIdeal.τ).loc Cert.ConvInFwdIdeal.main_arg2)
      ∧ m' ((c.tc : Thread Cert.ConvInFwdRefIdeal.nD Cert.ConvInFwdRefIdeal.τ).loc Cert.ConvInFwdRefIdeal.main_arg3) = m ((c.tc : Thread Cert.ConvInFwdIdeal.nD Cert.ConvInFwdIdeal.τ).loc Cert.ConvInFwdIdeal.main_arg3)
      ∧ m' ((c.tc : Thread Cert.ConvInFwdRefIdeal.nD Cert.ConvInFwdRefIdeal.τ).loc Cert.ConvInFwdRefIdeal.main_arg4) = m ((c.tc : Thread Cert.ConvInFwdIdeal.nD Cert.ConvInFwdIdeal.τ).loc Cert.ConvInFwdIdeal.main_arg4)
      ∧ m' ((c.tc : Thread Cert.ConvInFwdRefIdeal.nD Cert.ConvInFwdRefIdeal.τ).loc Cert.ConvInFwdRefIdeal.main_arg5) = m ((c.tc : Thread Cert.ConvInFwdIdeal.nD Cert.ConvInFwdIdeal.τ).loc Cert.ConvInFwdIdeal.main_arg5)
      ∧ m' ((c.tc : Thread Cert.ConvInFwdRefIdeal.nD Cert.ConvInFwdRefIdeal.τ).loc Cert.ConvInFwdRefIdeal.main_arg6) = m ((c.tc : Thread Cert.ConvInFwdIdeal.nD Cert.ConvInFwdIdeal.τ).loc Cert.ConvInFwdIdeal.main_arg6)) →
    ∃ (v0 : (c : Dev Cert.ConvInFwdIdeal.nD) → Buf (Elt Ideal) ((c.tc : Thread Cert.ConvInFwdIdeal.nD Cert.ConvInFwdIdeal.τ).loc Cert.ConvInFwdIdeal.main_v10_0)) (v1 : (c : Dev Cert.ConvInFwdIdeal.nD) → Buf (Elt Ideal) ((c.tc : Thread Cert.ConvInFwdIdeal.nD Cert.ConvInFwdIdeal.τ).loc Cert.ConvInFwdIdeal.main_v10_1)),
      θ_run (Cert.ConvInFwdIdeal.defs (F := Ideal)) (onTc (τ := Cert.ConvInFwdIdeal.τ) (Cert.ConvInFwdIdeal.main (F := Ideal))) ⟨m, fun _ => 0, g⟩ (fun r => ∀ c : Dev Cert.ConvInFwdIdeal.nD,
          r.2.mem ((c.tc : Thread Cert.ConvInFwdIdeal.nD Cert.ConvInFwdIdeal.τ).loc Cert.ConvInFwdIdeal.main_v10_0) = v0 c
          ∧ r.2.mem ((c.tc : Thread Cert.ConvInFwdIdeal.nD Cert.ConvInFwdIdeal.τ).loc Cert.ConvInFwdIdeal.main_v10_1) = v1 c
          ∧ r.2.mem ((c.tc : Thread Cert.ConvInFwdIdeal.nD Cert.ConvInFwdIdeal.τ).loc Cert.ConvInFwdIdeal.main_arg0) = m ((c.tc : Thread Cert.ConvInFwdIdeal.nD Cert.ConvInFwdIdeal.τ).loc Cert.ConvInFwdIdeal.main_arg0)
          ∧ r.2.mem ((c.tc : Thread Cert.ConvInFwdIdeal.nD Cert.ConvInFwdIdeal.τ).loc Cert.ConvInFwdIdeal.main_arg1) = m ((c.tc : Thread Cert.ConvInFwdIdeal.nD Cert.ConvInFwdIdeal.τ).loc Cert.ConvInFwdIdeal.main_arg1)
          ∧ r.2.mem ((c.tc : Thread Cert.ConvInFwdIdeal.nD Cert.ConvInFwdIdeal.τ).loc Cert.ConvInFwdIdeal.main_arg2) = m ((c.tc : Thread Cert.ConvInFwdIdeal.nD Cert.ConvInFwdIdeal.τ).loc Cert.ConvInFwdIdeal.main_arg2)
          ∧ r.2.mem ((c.tc : Thread Cert.ConvInFwdIdeal.nD Cert.ConvInFwdIdeal.τ).loc Cert.ConvInFwdIdeal.main_arg3) = m ((c.tc : Thread Cert.ConvInFwdIdeal.nD Cert.ConvInFwdIdeal.τ).loc Cert.ConvInFwdIdeal.main_arg3)
          ∧ r.2.mem ((c.tc : Thread Cert.ConvInFwdIdeal.nD Cert.ConvInFwdIdeal.τ).loc Cert.ConvInFwdIdeal.main_arg4) = m ((c.tc : Thread Cert.ConvInFwdIdeal.nD Cert.ConvInFwdIdeal.τ).loc Cert.ConvInFwdIdeal.main_arg4)
          ∧ r.2.mem ((c.tc : Thread Cert.ConvInFwdIdeal.nD Cert.ConvInFwdIdeal.τ).loc Cert.ConvInFwdIdeal.main_arg5) = m ((c.tc : Thread Cert.ConvInFwdIdeal.nD Cert.ConvInFwdIdeal.τ).loc Cert.ConvInFwdIdeal.main_arg5)
          ∧ r.2.mem ((c.tc : Thread Cert.ConvInFwdIdeal.nD Cert.ConvInFwdIdeal.τ).loc Cert.ConvInFwdIdeal.main_arg6) = m ((c.tc : Thread Cert.ConvInFwdIdeal.nD Cert.ConvInFwdIdeal.τ).loc Cert.ConvInFwdIdeal.main_arg6))
      ∧ θ_run (Cert.ConvInFwdRefIdeal.defs (F := Ideal)) (onTc (τ := Cert.ConvInFwdRefIdeal.τ) (Cert.ConvInFwdRefIdeal.main (F := Ideal))) ⟨m', fun _ => 0, g'⟩ (fun r => ∀ c : Dev Cert.ConvInFwdRefIdeal.nD,
          r.2.mem ((c.tc : Thread Cert.ConvInFwdRefIdeal.nD Cert.ConvInFwdRefIdeal.τ).loc Cert.ConvInFwdRefIdeal.main_v21) = v0 c
          ∧ r.2.mem ((c.tc : Thread Cert.ConvInFwdRefIdeal.nD Cert.ConvInFwdRefIdeal.τ).loc Cert.ConvInFwdRefIdeal.main_v25) = v1 c
          ∧ r.2.mem ((c.tc : Thread Cert.ConvInFwdRefIdeal.nD Cert.ConvInFwdRefIdeal.τ).loc Cert.ConvInFwdRefIdeal.main_arg0) = m' ((c.tc : Thread Cert.ConvInFwdRefIdeal.nD Cert.ConvInFwdRefIdeal.τ).loc Cert.ConvInFwdRefIdeal.main_arg0)
          ∧ r.2.mem ((c.tc : Thread Cert.ConvInFwdRefIdeal.nD Cert.ConvInFwdRefIdeal.τ).loc Cert.ConvInFwdRefIdeal.main_arg1) = m' ((c.tc : Thread Cert.ConvInFwdRefIdeal.nD Cert.ConvInFwdRefIdeal.τ).loc Cert.ConvInFwdRefIdeal.main_arg1)
          ∧ r.2.mem ((c.tc : Thread Cert.ConvInFwdRefIdeal.nD Cert.ConvInFwdRefIdeal.τ).loc Cert.ConvInFwdRefIdeal.main_arg2) = m' ((c.tc : Thread Cert.ConvInFwdRefIdeal.nD Cert.ConvInFwdRefIdeal.τ).loc Cert.ConvInFwdRefIdeal.main_arg2)
          ∧ r.2.mem ((c.tc : Thread Cert.ConvInFwdRefIdeal.nD Cert.ConvInFwdRefIdeal.τ).loc Cert.ConvInFwdRefIdeal.main_arg3) = m' ((c.tc : Thread Cert.ConvInFwdRefIdeal.nD Cert.ConvInFwdRefIdeal.τ).loc Cert.ConvInFwdRefIdeal.main_arg3)
          ∧ r.2.mem ((c.tc : Thread Cert.ConvInFwdRefIdeal.nD Cert.ConvInFwdRefIdeal.τ).loc Cert.ConvInFwdRefIdeal.main_arg4) = m' ((c.tc : Thread Cert.ConvInFwdRefIdeal.nD Cert.ConvInFwdRefIdeal.τ).loc Cert.ConvInFwdRefIdeal.main_arg4)
          ∧ r.2.mem ((c.tc : Thread Cert.ConvInFwdRefIdeal.nD Cert.ConvInFwdRefIdeal.τ).loc Cert.ConvInFwdRefIdeal.main_arg5) = m' ((c.tc : Thread Cert.ConvInFwdRefIdeal.nD Cert.ConvInFwdRefIdeal.τ).loc Cert.ConvInFwdRefIdeal.main_arg5)
          ∧ r.2.mem ((c.tc : Thread Cert.ConvInFwdRefIdeal.nD Cert.ConvInFwdRefIdeal.τ).loc Cert.ConvInFwdRefIdeal.main_arg6) = m' ((c.tc : Thread Cert.ConvInFwdRefIdeal.nD Cert.ConvInFwdRefIdeal.τ).loc Cert.ConvInFwdRefIdeal.main_arg6))

def preserves_QFwd_QFwdIdeal : Prop :=
  True

def algebraic_QFwdIdeal_QFwdRefIdeal [hQFwdIdeal : Cert.QFwdIdeal.Facts] [hQFwdRefIdeal : Cert.QFwdRefIdeal.Facts] : Prop :=
  ∀ (m : (ℓ : Loc Cert.QFwdIdeal.nD Cert.QFwdIdeal.τ Cert.QFwdIdeal.sig) → Buf (Elt Ideal) ℓ) (g : Dev Cert.QFwdIdeal.nD → PrngReg)
    (m' : (ℓ : Loc Cert.QFwdRefIdeal.nD Cert.QFwdRefIdeal.τ Cert.QFwdRefIdeal.sig) → Buf (Elt Ideal) ℓ) (g' : Dev Cert.QFwdRefIdeal.nD → PrngReg), Pre_QFwdIdeal m →
    (∀ c : Dev Cert.QFwdIdeal.nD,
      m' ((c.tc : Thread Cert.QFwdRefIdeal.nD Cert.QFwdRefIdeal.τ).loc Cert.QFwdRefIdeal.main_arg0) = m ((c.tc : Thread Cert.QFwdIdeal.nD Cert.QFwdIdeal.τ).loc Cert.QFwdIdeal.main_arg0)
      ∧ m' ((c.tc : Thread Cert.QFwdRefIdeal.nD Cert.QFwdRefIdeal.τ).loc Cert.QFwdRefIdeal.main_arg1) = m ((c.tc : Thread Cert.QFwdIdeal.nD Cert.QFwdIdeal.τ).loc Cert.QFwdIdeal.main_arg1)
      ∧ m' ((c.tc : Thread Cert.QFwdRefIdeal.nD Cert.QFwdRefIdeal.τ).loc Cert.QFwdRefIdeal.main_arg2) = m ((c.tc : Thread Cert.QFwdIdeal.nD Cert.QFwdIdeal.τ).loc Cert.QFwdIdeal.main_arg2)
      ∧ m' ((c.tc : Thread Cert.QFwdRefIdeal.nD Cert.QFwdRefIdeal.τ).loc Cert.QFwdRefIdeal.main_arg3) = m ((c.tc : Thread Cert.QFwdIdeal.nD Cert.QFwdIdeal.τ).loc Cert.QFwdIdeal.main_arg3)
      ∧ m' ((c.tc : Thread Cert.QFwdRefIdeal.nD Cert.QFwdRefIdeal.τ).loc Cert.QFwdRefIdeal.main_arg4) = m ((c.tc : Thread Cert.QFwdIdeal.nD Cert.QFwdIdeal.τ).loc Cert.QFwdIdeal.main_arg4)
      ∧ m' ((c.tc : Thread Cert.QFwdRefIdeal.nD Cert.QFwdRefIdeal.τ).loc Cert.QFwdRefIdeal.main_arg5) = m ((c.tc : Thread Cert.QFwdIdeal.nD Cert.QFwdIdeal.τ).loc Cert.QFwdIdeal.main_arg5)
      ∧ m' ((c.tc : Thread Cert.QFwdRefIdeal.nD Cert.QFwdRefIdeal.τ).loc Cert.QFwdRefIdeal.main_arg6) = m ((c.tc : Thread Cert.QFwdIdeal.nD Cert.QFwdIdeal.τ).loc Cert.QFwdIdeal.main_arg6)
      ∧ m' ((c.tc : Thread Cert.QFwdRefIdeal.nD Cert.QFwdRefIdeal.τ).loc Cert.QFwdRefIdeal.main_arg7) = m ((c.tc : Thread Cert.QFwdIdeal.nD Cert.QFwdIdeal.τ).loc Cert.QFwdIdeal.main_arg7)
      ∧ m' ((c.tc : Thread Cert.QFwdRefIdeal.nD Cert.QFwdRefIdeal.τ).loc Cert.QFwdRefIdeal.main_arg8) = m ((c.tc : Thread Cert.QFwdIdeal.nD Cert.QFwdIdeal.τ).loc Cert.QFwdIdeal.main_arg8)
      ∧ m' ((c.tc : Thread Cert.QFwdRefIdeal.nD Cert.QFwdRefIdeal.τ).loc Cert.QFwdRefIdeal.main_arg9) = m ((c.tc : Thread Cert.QFwdIdeal.nD Cert.QFwdIdeal.τ).loc Cert.QFwdIdeal.main_arg9)) →
    ∃ (v0 : (c : Dev Cert.QFwdIdeal.nD) → Buf (Elt Ideal) ((c.tc : Thread Cert.QFwdIdeal.nD Cert.QFwdIdeal.τ).loc Cert.QFwdIdeal.main_v20_0)) (v1 : (c : Dev Cert.QFwdIdeal.nD) → Buf (Elt Ideal) ((c.tc : Thread Cert.QFwdIdeal.nD Cert.QFwdIdeal.τ).loc Cert.QFwdIdeal.main_v20_1)) (v2 : (c : Dev Cert.QFwdIdeal.nD) → Buf (Elt Ideal) ((c.tc : Thread Cert.QFwdIdeal.nD Cert.QFwdIdeal.τ).loc Cert.QFwdIdeal.main_v20_2)) (v3 : (c : Dev Cert.QFwdIdeal.nD) → Buf (Elt Ideal) ((c.tc : Thread Cert.QFwdIdeal.nD Cert.QFwdIdeal.τ).loc Cert.QFwdIdeal.main_v20_3)),
      θ_run (Cert.QFwdIdeal.defs (F := Ideal)) (onTc (τ := Cert.QFwdIdeal.τ) (Cert.QFwdIdeal.main (F := Ideal))) ⟨m, fun _ => 0, g⟩ (fun r => ∀ c : Dev Cert.QFwdIdeal.nD,
          r.2.mem ((c.tc : Thread Cert.QFwdIdeal.nD Cert.QFwdIdeal.τ).loc Cert.QFwdIdeal.main_v20_0) = v0 c
          ∧ r.2.mem ((c.tc : Thread Cert.QFwdIdeal.nD Cert.QFwdIdeal.τ).loc Cert.QFwdIdeal.main_v20_1) = v1 c
          ∧ r.2.mem ((c.tc : Thread Cert.QFwdIdeal.nD Cert.QFwdIdeal.τ).loc Cert.QFwdIdeal.main_v20_2) = v2 c
          ∧ r.2.mem ((c.tc : Thread Cert.QFwdIdeal.nD Cert.QFwdIdeal.τ).loc Cert.QFwdIdeal.main_v20_3) = v3 c
          ∧ r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
          ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
          ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2)
          ∧ r.2.mem ((c.tc : Thread Cert.QFwdIdeal.nD Cert.QFwdIdeal.τ).loc Cert.QFwdIdeal.main_arg3) = m ((c.tc : Thread Cert.QFwdIdeal.nD Cert.QFwdIdeal.τ).loc Cert.QFwdIdeal.main_arg3)
          ∧ r.2.mem ((c.tc : Thread Cert.QFwdIdeal.nD Cert.QFwdIdeal.τ).loc Cert.QFwdIdeal.main_arg4) = m ((c.tc : Thread Cert.QFwdIdeal.nD Cert.QFwdIdeal.τ).loc Cert.QFwdIdeal.main_arg4)
          ∧ r.2.mem ((c.tc : Thread Cert.QFwdIdeal.nD Cert.QFwdIdeal.τ).loc Cert.QFwdIdeal.main_arg5) = m ((c.tc : Thread Cert.QFwdIdeal.nD Cert.QFwdIdeal.τ).loc Cert.QFwdIdeal.main_arg5)
          ∧ r.2.mem ((c.tc : Thread Cert.QFwdIdeal.nD Cert.QFwdIdeal.τ).loc Cert.QFwdIdeal.main_arg6) = m ((c.tc : Thread Cert.QFwdIdeal.nD Cert.QFwdIdeal.τ).loc Cert.QFwdIdeal.main_arg6)
          ∧ r.2.mem ((c.tc : Thread Cert.QFwdIdeal.nD Cert.QFwdIdeal.τ).loc Cert.QFwdIdeal.main_arg7) = m ((c.tc : Thread Cert.QFwdIdeal.nD Cert.QFwdIdeal.τ).loc Cert.QFwdIdeal.main_arg7)
          ∧ r.2.mem ((c.tc : Thread Cert.QFwdIdeal.nD Cert.QFwdIdeal.τ).loc Cert.QFwdIdeal.main_arg8) = m ((c.tc : Thread Cert.QFwdIdeal.nD Cert.QFwdIdeal.τ).loc Cert.QFwdIdeal.main_arg8)
          ∧ r.2.mem ((c.tc : Thread Cert.QFwdIdeal.nD Cert.QFwdIdeal.τ).loc Cert.QFwdIdeal.main_arg9) = m ((c.tc : Thread Cert.QFwdIdeal.nD Cert.QFwdIdeal.τ).loc Cert.QFwdIdeal.main_arg9))
      ∧ θ_run (Cert.QFwdRefIdeal.defs (F := Ideal)) (onTc (τ := Cert.QFwdRefIdeal.τ) (Cert.QFwdRefIdeal.main (F := Ideal))) ⟨m', fun _ => 0, g'⟩ (fun r => ∀ c : Dev Cert.QFwdRefIdeal.nD,
          r.2.mem ((c.tc : Thread Cert.QFwdRefIdeal.nD Cert.QFwdRefIdeal.τ).loc Cert.QFwdRefIdeal.main_v57) = v0 c
          ∧ r.2.mem ((c.tc : Thread Cert.QFwdRefIdeal.nD Cert.QFwdRefIdeal.τ).loc Cert.QFwdRefIdeal.main_v21) = v1 c
          ∧ r.2.mem ((c.tc : Thread Cert.QFwdRefIdeal.nD Cert.QFwdRefIdeal.τ).loc Cert.QFwdRefIdeal.main_v58) = v2 c
          ∧ r.2.mem ((c.tc : Thread Cert.QFwdRefIdeal.nD Cert.QFwdRefIdeal.τ).loc Cert.QFwdRefIdeal.main_v61) = v3 c
          ∧ r.2.mem ((c.tc : Thread Cert.QFwdRefIdeal.nD Cert.QFwdRefIdeal.τ).loc Cert.QFwdRefIdeal.main_arg0) = m' ((c.tc : Thread Cert.QFwdRefIdeal.nD Cert.QFwdRefIdeal.τ).loc Cert.QFwdRefIdeal.main_arg0)
          ∧ r.2.mem ((c.tc : Thread Cert.QFwdRefIdeal.nD Cert.QFwdRefIdeal.τ).loc Cert.QFwdRefIdeal.main_arg1) = m' ((c.tc : Thread Cert.QFwdRefIdeal.nD Cert.QFwdRefIdeal.τ).loc Cert.QFwdRefIdeal.main_arg1)
          ∧ r.2.mem ((c.tc : Thread Cert.QFwdRefIdeal.nD Cert.QFwdRefIdeal.τ).loc Cert.QFwdRefIdeal.main_arg2) = m' ((c.tc : Thread Cert.QFwdRefIdeal.nD Cert.QFwdRefIdeal.τ).loc Cert.QFwdRefIdeal.main_arg2)
          ∧ r.2.mem ((c.tc : Thread Cert.QFwdRefIdeal.nD Cert.QFwdRefIdeal.τ).loc Cert.QFwdRefIdeal.main_arg3) = m' ((c.tc : Thread Cert.QFwdRefIdeal.nD Cert.QFwdRefIdeal.τ).loc Cert.QFwdRefIdeal.main_arg3)
          ∧ r.2.mem ((c.tc : Thread Cert.QFwdRefIdeal.nD Cert.QFwdRefIdeal.τ).loc Cert.QFwdRefIdeal.main_arg4) = m' ((c.tc : Thread Cert.QFwdRefIdeal.nD Cert.QFwdRefIdeal.τ).loc Cert.QFwdRefIdeal.main_arg4)
          ∧ r.2.mem ((c.tc : Thread Cert.QFwdRefIdeal.nD Cert.QFwdRefIdeal.τ).loc Cert.QFwdRefIdeal.main_arg5) = m' ((c.tc : Thread Cert.QFwdRefIdeal.nD Cert.QFwdRefIdeal.τ).loc Cert.QFwdRefIdeal.main_arg5)
          ∧ r.2.mem ((c.tc : Thread Cert.QFwdRefIdeal.nD Cert.QFwdRefIdeal.τ).loc Cert.QFwdRefIdeal.main_arg6) = m' ((c.tc : Thread Cert.QFwdRefIdeal.nD Cert.QFwdRefIdeal.τ).loc Cert.QFwdRefIdeal.main_arg6)
          ∧ r.2.mem ((c.tc : Thread Cert.QFwdRefIdeal.nD Cert.QFwdRefIdeal.τ).loc Cert.QFwdRefIdeal.main_arg7) = m' ((c.tc : Thread Cert.QFwdRefIdeal.nD Cert.QFwdRefIdeal.τ).loc Cert.QFwdRefIdeal.main_arg7)
          ∧ r.2.mem ((c.tc : Thread Cert.QFwdRefIdeal.nD Cert.QFwdRefIdeal.τ).loc Cert.QFwdRefIdeal.main_arg8) = m' ((c.tc : Thread Cert.QFwdRefIdeal.nD Cert.QFwdRefIdeal.τ).loc Cert.QFwdRefIdeal.main_arg8)
          ∧ r.2.mem ((c.tc : Thread Cert.QFwdRefIdeal.nD Cert.QFwdRefIdeal.τ).loc Cert.QFwdRefIdeal.main_arg9) = m' ((c.tc : Thread Cert.QFwdRefIdeal.nD Cert.QFwdRefIdeal.τ).loc Cert.QFwdRefIdeal.main_arg9))

def Claim : Prop :=
  ∃ (hFinal : Cert.Final.Facts) (hFinalIdeal : Cert.FinalIdeal.Facts) (hFinalRefIdeal : Cert.FinalRefIdeal.Facts) (hConvOut : Cert.ConvOut.Facts) (hConvOutIdeal : Cert.ConvOutIdeal.Facts) (hConvOutRefIdeal : Cert.ConvOutRefIdeal.Facts) (hWPw : Cert.WPw.Facts) (hWPwIdeal : Cert.WPwIdeal.Facts) (hWPwRefIdeal : Cert.WPwRefIdeal.Facts) (hModW : Cert.ModW.Facts) (hModWIdeal : Cert.ModWIdeal.Facts) (hModWRefIdeal : Cert.ModWRefIdeal.Facts) (hAttnOut : Cert.AttnOut.Facts) (hAttnOutIdeal : Cert.AttnOutIdeal.Facts) (hAttnOutRefIdeal : Cert.AttnOutRefIdeal.Facts) (hFfn : Cert.Ffn.Facts) (hFfnIdeal : Cert.FfnIdeal.Facts) (hFfnRefIdeal : Cert.FfnRefIdeal.Facts) (hQBwd : Cert.QBwd.Facts) (hQBwdIdeal : Cert.QBwdIdeal.Facts) (hQBwdRefIdeal : Cert.QBwdRefIdeal.Facts) (hKvBwd : Cert.KvBwd.Facts) (hKvBwdIdeal : Cert.KvBwdIdeal.Facts) (hKvBwdRefIdeal : Cert.KvBwdRefIdeal.Facts) (hAttnBwd : Cert.AttnBwd.Facts) (hAttnBwdIdeal : Cert.AttnBwdIdeal.Facts) (hAttnBwdRefIdeal : Cert.AttnBwdRefIdeal.Facts) (hConvIn : Cert.ConvIn.Facts) (hConvInIdeal : Cert.ConvInIdeal.Facts) (hConvInRefIdeal : Cert.ConvInRefIdeal.Facts) (hOutFwd : Cert.OutFwd.Facts) (hOutFwdIdeal : Cert.OutFwdIdeal.Facts) (hOutFwdRefIdeal : Cert.OutFwdRefIdeal.Facts) (hModFwd : Cert.ModFwd.Facts) (hModFwdIdeal : Cert.ModFwdIdeal.Facts) (hModFwdRefIdeal : Cert.ModFwdRefIdeal.Facts) (hFfnFwd : Cert.FfnFwd.Facts) (hFfnFwdIdeal : Cert.FfnFwdIdeal.Facts) (hFfnFwdRefIdeal : Cert.FfnFwdRefIdeal.Facts) (hConvInFwd : Cert.ConvInFwd.Facts) (hConvInFwdIdeal : Cert.ConvInFwdIdeal.Facts) (hConvInFwdRefIdeal : Cert.ConvInFwdRefIdeal.Facts) (hQFwd : Cert.QFwd.Facts) (hQFwdIdeal : Cert.QFwdIdeal.Facts) (hQFwdRefIdeal : Cert.QFwdRefIdeal.Facts) (hPre_finite_final : Cert.Pre_finite_final.Facts) (hPre_finite_co : Cert.Pre_finite_co.Facts) (hPre_finite_wg : Cert.Pre_finite_wg.Facts) (hPre_finite_mw : Cert.Pre_finite_mw.Facts) (hPre_finite_ao : Cert.Pre_finite_ao.Facts) (hPre_finite_ffn : Cert.Pre_finite_ffn.Facts) (hPre_finite_q : Cert.Pre_finite_q.Facts) (hPre_finite_kv : Cert.Pre_finite_kv.Facts) (hPre_finite_at : Cert.Pre_finite_at.Facts),
    quiescent_Final (hFinal := hFinal)
    ∧ quiescent_FinalIdeal (hFinalIdeal := hFinalIdeal)
    ∧ quiescent_FinalIdeal_pre_finite_final (hFinalIdeal := hFinalIdeal) (hPre_finite_final := hPre_finite_final)
    ∧ quiescent_FinalRefIdeal (hFinalRefIdeal := hFinalRefIdeal)
    ∧ quiescent_FinalRefIdeal_pre_finite_final (hFinalRefIdeal := hFinalRefIdeal) (hPre_finite_final := hPre_finite_final)
    ∧ quiescent_ConvOut (hConvOut := hConvOut)
    ∧ quiescent_ConvOutIdeal (hConvOutIdeal := hConvOutIdeal)
    ∧ quiescent_ConvOutIdeal_pre_finite_co (hConvOutIdeal := hConvOutIdeal) (hPre_finite_co := hPre_finite_co)
    ∧ quiescent_ConvOutRefIdeal (hConvOutRefIdeal := hConvOutRefIdeal)
    ∧ quiescent_ConvOutRefIdeal_pre_finite_co (hConvOutRefIdeal := hConvOutRefIdeal) (hPre_finite_co := hPre_finite_co)
    ∧ quiescent_WPw (hWPw := hWPw)
    ∧ quiescent_WPwIdeal (hWPwIdeal := hWPwIdeal)
    ∧ quiescent_WPwIdeal_pre_finite_wg (hWPwIdeal := hWPwIdeal) (hPre_finite_wg := hPre_finite_wg)
    ∧ quiescent_WPwRefIdeal (hWPwRefIdeal := hWPwRefIdeal)
    ∧ quiescent_WPwRefIdeal_pre_finite_wg (hWPwRefIdeal := hWPwRefIdeal) (hPre_finite_wg := hPre_finite_wg)
    ∧ quiescent_ModW (hModW := hModW)
    ∧ quiescent_ModWIdeal (hModWIdeal := hModWIdeal)
    ∧ quiescent_ModWIdeal_pre_finite_mw (hModWIdeal := hModWIdeal) (hPre_finite_mw := hPre_finite_mw)
    ∧ quiescent_ModWRefIdeal (hModWRefIdeal := hModWRefIdeal)
    ∧ quiescent_ModWRefIdeal_pre_finite_mw (hModWRefIdeal := hModWRefIdeal) (hPre_finite_mw := hPre_finite_mw)
    ∧ quiescent_AttnOut (hAttnOut := hAttnOut)
    ∧ quiescent_AttnOutIdeal (hAttnOutIdeal := hAttnOutIdeal)
    ∧ quiescent_AttnOutIdeal_pre_finite_ao (hAttnOutIdeal := hAttnOutIdeal) (hPre_finite_ao := hPre_finite_ao)
    ∧ quiescent_AttnOutRefIdeal (hAttnOutRefIdeal := hAttnOutRefIdeal)
    ∧ quiescent_AttnOutRefIdeal_pre_finite_ao (hAttnOutRefIdeal := hAttnOutRefIdeal) (hPre_finite_ao := hPre_finite_ao)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_QBwd (hQBwd := hQBwd)
    ∧ quiescent_QBwdIdeal (hQBwdIdeal := hQBwdIdeal)
    ∧ quiescent_QBwdIdeal_pre_finite_q (hQBwdIdeal := hQBwdIdeal) (hPre_finite_q := hPre_finite_q)
    ∧ quiescent_QBwdRefIdeal (hQBwdRefIdeal := hQBwdRefIdeal)
    ∧ quiescent_QBwdRefIdeal_pre_finite_q (hQBwdRefIdeal := hQBwdRefIdeal) (hPre_finite_q := hPre_finite_q)
    ∧ quiescent_KvBwd (hKvBwd := hKvBwd)
    ∧ quiescent_KvBwdIdeal (hKvBwdIdeal := hKvBwdIdeal)
    ∧ quiescent_KvBwdIdeal_pre_finite_kv (hKvBwdIdeal := hKvBwdIdeal) (hPre_finite_kv := hPre_finite_kv)
    ∧ quiescent_KvBwdRefIdeal (hKvBwdRefIdeal := hKvBwdRefIdeal)
    ∧ quiescent_KvBwdRefIdeal_pre_finite_kv (hKvBwdRefIdeal := hKvBwdRefIdeal) (hPre_finite_kv := hPre_finite_kv)
    ∧ quiescent_AttnBwd (hAttnBwd := hAttnBwd)
    ∧ quiescent_AttnBwdIdeal (hAttnBwdIdeal := hAttnBwdIdeal)
    ∧ quiescent_AttnBwdIdeal_pre_finite_at (hAttnBwdIdeal := hAttnBwdIdeal) (hPre_finite_at := hPre_finite_at)
    ∧ quiescent_AttnBwdRefIdeal (hAttnBwdRefIdeal := hAttnBwdRefIdeal)
    ∧ quiescent_AttnBwdRefIdeal_pre_finite_at (hAttnBwdRefIdeal := hAttnBwdRefIdeal) (hPre_finite_at := hPre_finite_at)
    ∧ quiescent_ConvIn (hConvIn := hConvIn)
    ∧ quiescent_ConvInIdeal (hConvInIdeal := hConvInIdeal)
    ∧ quiescent_ConvInRefIdeal (hConvInRefIdeal := hConvInRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_ModFwd (hModFwd := hModFwd)
    ∧ quiescent_ModFwdIdeal (hModFwdIdeal := hModFwdIdeal)
    ∧ quiescent_ModFwdRefIdeal (hModFwdRefIdeal := hModFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ConvInFwd (hConvInFwd := hConvInFwd)
    ∧ quiescent_ConvInFwdIdeal (hConvInFwdIdeal := hConvInFwdIdeal)
    ∧ quiescent_ConvInFwdRefIdeal (hConvInFwdRefIdeal := hConvInFwdRefIdeal)
    ∧ quiescent_QFwd (hQFwd := hQFwd)
    ∧ quiescent_QFwdIdeal (hQFwdIdeal := hQFwdIdeal)
    ∧ quiescent_QFwdRefIdeal (hQFwdRefIdeal := hQFwdRefIdeal)
    ∧ preserves_Final_FinalIdeal
    ∧ algebraic_FinalIdeal_FinalRefIdeal_pre_finite_final (hFinalIdeal := hFinalIdeal) (hFinalRefIdeal := hFinalRefIdeal) (hPre_finite_final := hPre_finite_final)
    ∧ preserves_ConvOut_ConvOutIdeal
    ∧ algebraic_ConvOutIdeal_ConvOutRefIdeal_pre_finite_co (hConvOutIdeal := hConvOutIdeal) (hConvOutRefIdeal := hConvOutRefIdeal) (hPre_finite_co := hPre_finite_co)
    ∧ preserves_WPw_WPwIdeal
    ∧ algebraic_WPwIdeal_WPwRefIdeal_pre_finite_wg (hWPwIdeal := hWPwIdeal) (hWPwRefIdeal := hWPwRefIdeal) (hPre_finite_wg := hPre_finite_wg)
    ∧ preserves_ModW_ModWIdeal
    ∧ algebraic_ModWIdeal_ModWRefIdeal_pre_finite_mw (hModWIdeal := hModWIdeal) (hModWRefIdeal := hModWRefIdeal) (hPre_finite_mw := hPre_finite_mw)
    ∧ preserves_AttnOut_AttnOutIdeal
    ∧ algebraic_AttnOutIdeal_AttnOutRefIdeal_pre_finite_ao (hAttnOutIdeal := hAttnOutIdeal) (hAttnOutRefIdeal := hAttnOutRefIdeal) (hPre_finite_ao := hPre_finite_ao)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_QBwd_QBwdIdeal
    ∧ algebraic_QBwdIdeal_QBwdRefIdeal_pre_finite_q (hQBwdIdeal := hQBwdIdeal) (hQBwdRefIdeal := hQBwdRefIdeal) (hPre_finite_q := hPre_finite_q)
    ∧ preserves_KvBwd_KvBwdIdeal
    ∧ algebraic_KvBwdIdeal_KvBwdRefIdeal_pre_finite_kv (hKvBwdIdeal := hKvBwdIdeal) (hKvBwdRefIdeal := hKvBwdRefIdeal) (hPre_finite_kv := hPre_finite_kv)
    ∧ preserves_AttnBwd_AttnBwdIdeal
    ∧ algebraic_AttnBwdIdeal_AttnBwdRefIdeal_pre_finite_at (hAttnBwdIdeal := hAttnBwdIdeal) (hAttnBwdRefIdeal := hAttnBwdRefIdeal) (hPre_finite_at := hPre_finite_at)
    ∧ preserves_ConvIn_ConvInIdeal
    ∧ preserves_OutFwd_OutFwdIdeal
    ∧ algebraic_OutFwdIdeal_OutFwdRefIdeal (hOutFwdIdeal := hOutFwdIdeal) (hOutFwdRefIdeal := hOutFwdRefIdeal)
    ∧ preserves_ModFwd_ModFwdIdeal
    ∧ algebraic_ModFwdIdeal_ModFwdRefIdeal (hModFwdIdeal := hModFwdIdeal) (hModFwdRefIdeal := hModFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ConvInFwd_ConvInFwdIdeal
    ∧ algebraic_ConvInFwdIdeal_ConvInFwdRefIdeal (hConvInFwdIdeal := hConvInFwdIdeal) (hConvInFwdRefIdeal := hConvInFwdRefIdeal)
    ∧ preserves_QFwd_QFwdIdeal
    ∧ algebraic_QFwdIdeal_QFwdRefIdeal (hQFwdIdeal := hQFwdIdeal) (hQFwdRefIdeal := hQFwdRefIdeal)
-- ==== Pre_finite_ao.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S8192x1024 .f32) (main_arg2 : FVec F S1024x1024 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_v3 main_v7 main_v11 main_v15
-- ==== Pre_finite_at.lean ====
abbrev S8192x16x96 : Shape := ⟨3, ![8192, 16, 96]⟩
abbrev S8192x16x64 : Shape := ⟨3, ![8192, 16, 64]⟩
abbrev S_ : Shape := ⟨0, ![]⟩

class Facts : Prop where
  bcast_S_S8192x16x96 : S_.BroadcastsInDim S8192x16x96 (![] : Fin 0 → Fin S8192x16x96.rank)
  reducesTo_S8192x16x96_S_d0_1_2 : S8192x16x96.ReducesTo [0, 1, 2] S_
  h_S_ : 0 < S_.numel
  bcast_S_S8192x16x64 : S_.BroadcastsInDim S8192x16x64 (![] : Fin 0 → Fin S8192x16x64.rank)
  reducesTo_S8192x16x64_S_d0_1_2 : S8192x16x64.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x16x96 .f32) (main_arg1 : FVec F S8192x16x96 .f32) (main_arg2 : FVec F S8192x16x64 .f32) (main_arg3 : FVec F S8192x16x64 .f32) : IVec S_ 1 :=
  let main_v0 : FVec F S8192x16x96 .f32 := Host.absf main_arg0
  let main_cst : FVec F S_ .f32 := constant S_ .f32 0x7F800000#32
  let main_v1 : FVec F S8192x16x96 .f32 := broadcastInDim S8192x16x96 ![] bcast_S_S8192x16x96 main_cst
  let main_v2 : IVec S8192x16x96 1 := cmpf .olt main_v0 main_v1
  let main_c : IVec S_ 1 := constantI S_ 1 1#1
  let main_v3 : IVec S_ 1 := (fun x v => Host.reduce IntOp.andi x v reducesTo_S8192x16x96_S_d0_1_2 h_S_) main_v2 main_c
  let main_v4 : FVec F S8192x16x96 .f32 := Host.absf main_arg1
  let main_cst_0 : FVec F S_ .f32 := constant S_ .f32 0x7F800000#32
  let main_v5 : FVec F S8192x16x96 .f32 := broadcastInDim S8192x16x96 ![] bcast_S_S8192x16x96 main_cst_0
  let main_v6 : IVec S8192x16x96 1 := cmpf .olt main_v4 main_v5
  let main_c_1 : IVec S_ 1 := constantI S_ 1 1#1
  let main_v7 : IVec S_ 1 := (fun x v => Host.reduce IntOp.andi x v reducesTo_S8192x16x96_S_d0_1_2 h_S_) main_v6 main_c_1
  let main_v8 : FVec F S8192x16x64 .f32 := Host.absf main_arg2
  let main_cst_2 : FVec F S_ .f32 := constant S_ .f32 0x7F800000#32
  let main_v9 : FVec F S8192x16x64 .f32 := broadcastInDim S8192x16x64 ![] bcast_S_S8192x16x64 main_cst_2
  let main_v10 : IVec S8192x16x64 1 := cmpf .olt main_v8 main_v9
  let main_c_3 : IVec S_ 1 := constantI S_ 1 1#1
  let main_v11 : IVec S_ 1 := (fun x v => Host.reduce IntOp.andi x v reducesTo_S8192x16x64_S_d0_1_2 h_S_) main_v10 main_c_3
  let main_v12 : FVec F S8192x16x64 .f32 := Host.absf main_arg3
  let main_cst_4 : FVec F S_ .f32 := constant S_ .f32 0x7F800000#32
  let main_v13 : FVec F S8192x16x64 .f32 := broadcastInDim S8192x16x64 ![] bcast_S_S8192x16x64 main_cst_4
  let main_v14 : IVec S8192x16x64 1 := cmpf .olt main_v12 main_v13
  let main_c_5 : IVec S_ 1 := constantI S_ 1 1#1
  let main_v15 : IVec S_ 1 := (fun x v => Host.reduce IntOp.andi x v reducesTo_S8192x16x64_S_d0_1_2 h_S_) main_v14 main_c_5
  fn_part1 (F := F) main_v3 main_v7 main_v11 main_v15
-- ==== Pre_finite_co.lean ====
abbrev S8192x1024 : Shape := ⟨2, ![8192, 1024]⟩
abbrev S8192x2048 : Shape := ⟨2, ![8192, 2048]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S31x1024 : S_.BroadcastsInDim S31x1024 (![] : Fin 0 → Fin S31x1024.rank)
  reducesTo_S31x1024_S_d0_1 : S31x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024 .f32) (main_arg5 : FVec F S1024 .f32) (main_arg6 : FVec F S1024x1024 .f32) (main_arg8 : FVec F S1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S1024 .f32 := Host.absf main_arg8
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S8192x2048 .f32) (main_arg2 : FVec F S31x1024 .f32) (main_arg3 : FVec F S1024 .f32) (main_arg4 : FVec F S1024 .f32) (main_arg5 : FVec F S1024 .f32) (main_arg6 : FVec F S1024x1024 .f32) (main_arg7 : FVec F S1024 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S31x1024 .f32 := Host.absf main_arg2
  let main_cst_2 : FVec F S_ .f32 := constant S_ .f32 0x7F800000#32
  let main_v9 : FVec F S31x1024 .f32 := broadcastInDim S31x1024 ![] bcast_S_S31x1024 main_cst_2
  let main_v10 : IVec S31x1024 1 := cmpf .olt main_v8 main_v9
  let main_c_3 : IVec S_ 1 := constantI S_ 1 1#1
  let main_v11 : IVec S_ 1 := (fun x v => Host.reduce IntOp.andi x v reducesTo_S31x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_arg8 main_v3 main_v7 main_v11 main_v15
-- ==== Pre_finite_ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024 .f32) (main_arg5 : FVec F S1024 .f32) (main_arg6 : FVec F S1024x5632 .f32) (main_arg7 : FVec F S2816x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x5632 .f32 := Host.absf main_arg6
  let main_cst_10 : FVec F S_ .f32 := constant S_ .f32 0x7F800000#32
  let main_v25 : FVec F S1024x5632 .f32 := broadcastInDim S1024x5632 ![] bcast_S_S1024x5632 main_cst_10
  let main_v26 : IVec S1024x5632 1 := cmpf .olt main_v24 main_v25
  let main_c_11 : IVec S_ 1 := constantI S_ 1 1#1
  let main_v27 : IVec S_ 1 := (fun x v => Host.reduce IntOp.andi x v reducesTo_S1024x5632_S_d0_1 h_S_) main_v26 main_c_11
  let main_v28 : FVec F S2816x1024 .f32 := Host.absf main_arg7
  let main_cst_12 : FVec F S_ .f32 := constant S_ .f32 0x7F800000#32
  let main_v29 : FVec F S2816x1024 .f32 := broadcastInDim S2816x1024 ![] bcast_S_S2816x1024 main_cst_12
  let main_v30 : IVec S2816x1024 1 := cmpf .olt main_v28 main_v29
  let main_c_13 : IVec S_ 1 := constantI S_ 1 1#1
  let main_v31 : IVec S_ 1 := (fun x v => Host.reduce IntOp.andi x v reducesTo_S2816x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S8192x1024 .f32) (main_arg2 : FVec F S1024 .f32) (main_arg3 : FVec F S1024 .f32) (main_arg4 : FVec F S1024 .f32) (main_arg5 : FVec F S1024 .f32) (main_arg6 : FVec F S1024x5632 .f32) (main_arg7 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_arg7 main_v3 main_v7 main_v11 main_v15
-- ==== Pre_finite_final.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S8192x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v3 main_v7
  let main_v13 : IVec S_ 1 := andi main_v12 main_v11
  main_v13
-- ==== Pre_finite_kv.lean ====
abbrev S8192x16x96 : Shape := ⟨3, ![8192, 16, 96]⟩
abbrev S8192x16x64 : Shape := ⟨3, ![8192, 16, 64]⟩
abbrev S8192x1024 : Shape := ⟨2, ![8192, 1024]⟩
abbrev S1024 : Shape := ⟨1, ![1024]⟩
abbrev S1024x288 : Shape := ⟨2, ![1024, 288]⟩
abbrev S256 : Shape := ⟨1, ![256]⟩
abbrev S256x2048 : Shape := ⟨2, ![256, 2048]⟩
abbrev S8192x16 : Shape := ⟨2, ![8192, 16]⟩
abbrev S_ : Shape := ⟨0, ![]⟩

class Facts : Prop where
  bcast_S_S8192x16x96 : S_.BroadcastsInDim S8192x16x96 (![] : Fin 0 → Fin S8192x16x96.rank)
  reducesTo_S8192x16x96_S_d0_1_2 : S8192x16x96.ReducesTo [0, 1, 2] S_
  h_S_ : 0 < S_.numel
  bcast_S_S8192x16x64 : S_.BroadcastsInDim S8192x16x64 (![] : Fin 0 → Fin S8192x16x64.rank)
  reducesTo_S8192x16x64_S_d0_1_2 : S8192x16x64.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x288 : S_.BroadcastsInDim S1024x288 (![] : Fin 0 → Fin S1024x288.rank)
  reducesTo_S1024x288_S_d0_1 : S1024x288.ReducesTo [0, 1] S_
  bcast_S_S256 : S_.BroadcastsInDim S256 (![] : Fin 0 → Fin S256.rank)
  reducesTo_S256_S_d0 : S256.ReducesTo [0] S_
  bcast_S_S256x2048 : S_.BroadcastsInDim S256x2048 (![] : Fin 0 → Fin S256x2048.rank)
  reducesTo_S256x2048_S_d0_1 : S256x2048.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg8 : FVec F S256 .f32) (main_arg9 : FVec F S256x2048 .f32) (main_arg10 : FVec F S8192x16 .f32) (main_arg11 : FVec F S8192x16 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S256 .f32 := Host.absf main_arg8
  let main_cst_14 : FVec F S_ .f32 := constant S_ .f32 0x7F800000#32
  let main_v33 : FVec F S256 .f32 := broadcastInDim S256 ![] bcast_S_S256 main_cst_14
  let main_v34 : IVec S256 1 := cmpf .olt main_v32 main_v33
  let main_c_15 : IVec S_ 1 := constantI S_ 1 1#1
  let main_v35 : IVec S_ 1 := (fun x v => Host.reduce IntOp.andi x v reducesTo_S256_S_d0 h_S_) main_v34 main_c_15
  let main_v36 : FVec F S256x2048 .f32 := Host.absf main_arg9
  let main_cst_16 : FVec F S_ .f32 := constant S_ .f32 0x7F800000#32
  let main_v37 : FVec F S256x2048 .f32 := broadcastInDim S256x2048 ![] bcast_S_S256x2048 main_cst_16
  let main_v38 : IVec S256x2048 1 := cmpf .olt main_v36 main_v37
  let main_c_17 : IVec S_ 1 := constantI S_ 1 1#1
  let main_v39 : IVec S_ 1 := (fun x v => Host.reduce IntOp.andi x v reducesTo_S256x2048_S_d0_1 h_S_) main_v38 main_c_17
  let main_v40 : FVec F S8192x16 .f32 := Host.absf main_arg10
  let main_cst_18 : FVec F S_ .f32 := constant S_ .f32 0x7F800000#32
  let main_v41 : FVec F S8192x16 .f32 := broadcastInDim S8192x16 ![] bcast_S_S8192x16 main_cst_18
  let main_v42 : IVec S8192x16 1 := cmpf .olt main_v40 main_v41
  let main_c_19 : IVec S_ 1 := constantI S_ 1 1#1
  let main_v43 : IVec S_ 1 := (fun x v => Host.reduce IntOp.andi x v reducesTo_S8192x16_S_d0_1 h_S_) main_v42 main_c_19
  let main_v44 : FVec F S8192x16 .f32 := Host.absf main_arg11
  let main_cst_20 : FVec F S_ .f32 := constant S_ .f32 0x7F800000#32
  let main_v45 : FVec F S8192x16 .f32 := broadcastInDim S8192x16 ![] bcast_S_S8192x16 main_cst_20
  let main_v46 : IVec S8192x16 1 := cmpf .olt main_v44 main_v45
  let main_c_21 : IVec S_ 1 := constantI S_ 1 1#1
  let main_v47 : IVec S_ 1 := (fun x v => Host.reduce IntOp.andi x v reducesTo_S8192x16_S_d0_1 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S1024 .f32) (main_arg5 : FVec F S1024 .f32) (main_arg6 : FVec F S1024 .f32) (main_arg7 : FVec F S1024x288 .f32) (main_arg8 : FVec F S256 .f32) (main_arg9 : FVec F S256x2048 .f32) (main_arg10 : FVec F S8192x16 .f32) (main_arg11 : FVec F S8192x16 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S1024x288 .f32 := Host.absf main_arg7
  let main_cst_12 : FVec F S_ .f32 := constant S_ .f32 0x7F800000#32
  let main_v29 : FVec F S1024x288 .f32 := broadcastInDim S1024x288 ![] bcast_S_S1024x288 main_cst_12
  let main_v30 : IVec S1024x288 1 := cmpf .olt main_v28 main_v29
  let main_c_13 : IVec S_ 1 := constantI S_ 1 1#1
  let main_v31 : IVec S_ 1 := (fun x v => Host.reduce IntOp.andi x v reducesTo_S1024x288_S_d0_1 h_S_) main_v30 main_c_13
  fn_part2 (F := F) main_arg8 main_arg9 main_arg10 main_arg11 main_v3 main_v7 main_v11 main_v15 main_v19 main_v23 main_v27 main_v31

def fn {F : FTy → Type} [FloatOps F] (main_arg0 : FVec F S8192x16x96 .f32) (main_arg1 : FVec F S8192x16x64 .f32) (main_arg2 : FVec F S8192x1024 .f32) (main_arg3 : FVec F S8192x1024 .f32) (main_arg4 : FVec F S1024 .f32) (main_arg5 : FVec F S1024 .f32) (main_arg6 : FVec F S1024 .f32) (main_arg7 : FVec F S1024x288 .f32) (main_arg8 : FVec F S256 .f32) (main_arg9 : FVec F S256x2048 .f32) (main_arg10 : FVec F S8192x16 .f32) (main_arg11 : FVec F S8192x16 .f32) : IVec S_ 1 :=
  let main_v0 : FVec F S8192x16x96 .f32 := Host.absf main_arg0
  let main_cst : FVec F S_ .f32 := constant S_ .f32 0x7F800000#32
  let main_v1 : FVec F S8192x16x96 .f32 := broadcastInDim S8192x16x96 ![] bcast_S_S8192x16x96 main_cst
  let main_v2 : IVec S8192x16x96 1 := cmpf .olt main_v0 main_v1
  let main_c : IVec S_ 1 := constantI S_ 1 1#1
  let main_v3 : IVec S_ 1 := (fun x v => Host.reduce IntOp.andi x v reducesTo_S8192x16x96_S_d0_1_2 h_S_) main_v2 main_c
  let main_v4 : FVec F S8192x16x64 .f32 := Host.absf main_arg1
  let main_cst_0 : FVec F S_ .f32 := constant S_ .f32 0x7F800000#32
  let main_v5 : FVec F S8192x16x64 .f32 := broadcastInDim S8192x16x64 ![] bcast_S_S8192x16x64 main_cst_0
  let main_v6 : IVec S8192x16x64 1 := cmpf .olt main_v4 main_v5
  let main_c_1 : IVec S_ 1 := constantI S_ 1 1#1
  let main_v7 : IVec S_ 1 := (fun x v => Host.reduce IntOp.andi x v reducesTo_S8192x16x64_S_d0_1_2 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_arg5 main_arg6 main_arg7 main_arg8 main_arg9 main_arg10 main_arg11 main_v3 main_v7 main_v11 main_v15
-- ==== Pre_finite_mw.lean ====
abbrev S8x1024 : Shape := ⟨2, ![8, 1024]⟩
abbrev S8x1152 : Shape := ⟨2, ![8, 1152]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S8x1152 : S_.BroadcastsInDim S8x1152 (![] : Fin 0 → Fin S8x1152.rank)
  reducesTo_S8x1152_S_d0_1 : S8x1152.ReducesTo [0, 1] S_

variable [Facts]

def fn {F : FTy → Type} [FloatOps F] (main_arg0 : FVec F S8x1024 .f32) (main_arg1 : FVec F S8x1152 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S8x1152 .f32 := Host.absf main_arg1
  let main_cst_0 : FVec F S_ .f32 := constant S_ .f32 0x7F800000#32
  let main_v5 : FVec F S8x1152 .f32 := broadcastInDim S8x1152 ![] bcast_S_S8x1152 main_cst_0
  let main_v6 : IVec S8x1152 1 := cmpf .olt main_v4 main_v5
  let main_c_1 : IVec S_ 1 := constantI S_ 1 1#1
  let main_v7 : IVec S_ 1 := (fun x v => Host.reduce IntOp.andi x v reducesTo_S8x1152_S_d0_1 h_S_) main_v6 main_c_1
  let main_v8 : IVec S_ 1 := andi main_v3 main_v7
  main_v8
-- ==== Pre_finite_q.lean ====
abbrev S8192x16x96 : Shape := ⟨3, ![8192, 16, 96]⟩
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S8192x16 : Shape := ⟨2, ![8192, 16]⟩
abbrev S_ : Shape := ⟨0, ![]⟩

class Facts : Prop where
  bcast_S_S8192x16x96 : S_.BroadcastsInDim S8192x16x96 (![] : Fin 0 → Fin S8192x16x96.rank)
  reducesTo_S8192x16x96_S_d0_1_2 : S8192x16x96.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg9 : FVec F S512x1536 .f32) (main_arg10 : FVec F S8192x16 .f32) (main_arg11 : FVec F S8192x16 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512x1536 .f32 := Host.absf main_arg9
  let main_cst_14 : FVec F S_ .f32 := constant S_ .f32 0x7F800000#32
  let main_v33 : FVec F S512x1536 .f32 := broadcastInDim S512x1536 ![] bcast_S_S512x1536 main_cst_14
  let main_v34 : IVec S512x1536 1 := cmpf .olt main_v32 main_v33
  let main_c_15 : IVec S_ 1 := constantI S_ 1 1#1
  let main_v35 : IVec S_ 1 := (fun x v => Host.reduce IntOp.andi x v reducesTo_S512x1536_S_d0_1 h_S_) main_v34 main_c_15
  let main_v36 : FVec F S8192x16 .f32 := Host.absf main_arg10
  let main_cst_16 : FVec F S_ .f32 := constant S_ .f32 0x7F800000#32
  let main_v37 : FVec F S8192x16 .f32 := broadcastInDim S8192x16 ![] bcast_S_S8192x16 main_cst_16
  let main_v38 : IVec S8192x16 1 := cmpf .olt main_v36 main_v37
  let main_c_17 : IVec S_ 1 := constantI S_ 1 1#1
  let main_v39 : IVec S_ 1 := (fun x v => Host.reduce IntOp.andi x v reducesTo_S8192x16_S_d0_1 h_S_) main_v38 main_c_17
  let main_v40 : FVec F S8192x16 .f32 := Host.absf main_arg11
  let main_cst_18 : FVec F S_ .f32 := constant S_ .f32 0x7F800000#32
  let main_v41 : FVec F S8192x16 .f32 := broadcastInDim S8192x16 ![] bcast_S_S8192x16 main_cst_18
  let main_v42 : IVec S8192x16 1 := cmpf .olt main_v40 main_v41
  let main_c_19 : IVec S_ 1 := constantI S_ 1 1#1
  let main_v43 : IVec S_ 1 := (fun x v => Host.reduce IntOp.andi x v reducesTo_S8192x16_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1024 .f32) (main_arg5 : FVec F S1024 .f32) (main_arg7 : FVec F S1024x512 .f32) (main_arg8 : FVec F S512 .f32) (main_arg9 : FVec F S512x1536 .f32) (main_arg10 : FVec F S8192x16 .f32) (main_arg11 : FVec F S8192x16 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x512 .f32 := Host.absf main_arg7
  let main_cst_10 : FVec F S_ .f32 := constant S_ .f32 0x7F800000#32
  let main_v25 : FVec F S1024x512 .f32 := broadcastInDim S1024x512 ![] bcast_S_S1024x512 main_cst_10
  let main_v26 : IVec S1024x512 1 := cmpf .olt main_v24 main_v25
  let main_c_11 : IVec S_ 1 := constantI S_ 1 1#1
  let main_v27 : IVec S_ 1 := (fun x v => Host.reduce IntOp.andi x v reducesTo_S1024x512_S_d0_1 h_S_) main_v26 main_c_11
  let main_v28 : FVec F S512 .f32 := Host.absf main_arg8
  let main_cst_12 : FVec F S_ .f32 := constant S_ .f32 0x7F800000#32
  let main_v29 : FVec F S512 .f32 := broadcastInDim S512 ![] bcast_S_S512 main_cst_12
  let main_v30 : IVec S512 1 := cmpf .olt main_v28 main_v29
  let main_c_13 : IVec S_ 1 := constantI S_ 1 1#1
  let main_v31 : IVec S_ 1 := (fun x v => Host.reduce IntOp.andi x v reducesTo_S512_S_d0 h_S_) main_v30 main_c_13
  fn_part2 (F := F) main_arg9 main_arg10 main_arg11 main_v3 main_v7 main_v11 main_v15 main_v19 main_v23 main_v27 main_v31

def fn {F : FTy → Type} [FloatOps F] (main_arg0 : FVec F S8192x16x96 .f32) (main_arg1 : FVec F S8192x1024 .f32) (main_arg2 : FVec F S8192x1024 .f32) (main_arg3 : FVec F S1024 .f32) (main_arg4 : FVec F S1024 .f32) (main_arg5 : FVec F S1024 .f32) (main_arg6 : FVec F S1024 .f32) (main_arg7 : FVec F S1024x512 .f32) (main_arg8 : FVec F S512 .f32) (main_arg9 : FVec F S512x1536 .f32) (main_arg10 : FVec F S8192x16 .f32) (main_arg11 : FVec F S8192x16 .f32) : IVec S_ 1 :=
  let main_v0 : FVec F S8192x16x96 .f32 := Host.absf main_arg0
  let main_cst : FVec F S_ .f32 := constant S_ .f32 0x7F800000#32
  let main_v1 : FVec F S8192x16x96 .f32 := broadcastInDim S8192x16x96 ![] bcast_S_S8192x16x96 main_cst
  let main_v2 : IVec S8192x16x96 1 := cmpf .olt main_v0 main_v1
  let main_c : IVec S_ 1 := constantI S_ 1 1#1
  let main_v3 : IVec S_ 1 := (fun x v => Host.reduce IntOp.andi x v reducesTo_S8192x16x96_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg7 main_arg8 main_arg9 main_arg10 main_arg11 main_v3 main_v7 main_v11 main_v15
-- ==== Pre_finite_wg.lean ====
abbrev S8192x2048 : Shape := ⟨2, ![8192, 2048]⟩
abbrev S8192x1024 : Shape := ⟨2, ![8192, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S31x1024 : S_.BroadcastsInDim S31x1024 (![] : Fin 0 → Fin S31x1024.rank)
  reducesTo_S31x1024_S_d0_1 : S31x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024 .f32) (main_arg5 : FVec F S1024 .f32) (main_arg6 : FVec F S1024x1024 .f32) (main_arg7 : FVec F S1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S1024 .f32 := Host.absf main_arg7
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_v3 main_v7 main_v11 main_v15 main_v19 main_v23 main_v27 main_v31

def fn {F : FTy → Type} [FloatOps F] (main_arg0 : FVec F S8192x2048 .f32) (main_arg1 : FVec F S8192x1024 .f32) (main_arg2 : FVec F S31x1024 .f32) (main_arg3 : FVec F S1024 .f32) (main_arg4 : FVec F S1024 .f32) (main_arg5 : FVec F S1024 .f32) (main_arg6 : FVec F S1024x1024 .f32) (main_arg7 : FVec F S1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S31x1024 .f32 := Host.absf main_arg2
  let main_cst_2 : FVec F S_ .f32 := constant S_ .f32 0x7F800000#32
  let main_v9 : FVec F S31x1024 .f32 := broadcastInDim S31x1024 ![] bcast_S_S31x1024 main_cst_2
  let main_v10 : IVec S31x1024 1 := cmpf .olt main_v8 main_v9
  let main_c_3 : IVec S_ 1 := constantI S_ 1 1#1
  let main_v11 : IVec S_ 1 := (fun x v => Host.reduce IntOp.andi x v reducesTo_S31x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_arg7 main_v3 main_v7 main_v11 main_v15
-- ==== Final.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S7x1024, .f32⟩
  | .hbm, ⟨6, _⟩ => ⟨S8x1024, .f32⟩
  | .hbm, ⟨7, _⟩ => ⟨S8192x1024, .f32⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FinalRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S6x1024, .f32⟩
  | .hbm, ⟨75, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== ConvOut.lean ====
abbrev S8192x1024 : Shape := ⟨2, ![8192, 1024]⟩
abbrev S8192x2048 : Shape := ⟨2, ![8192, 2048]⟩
abbrev S31x1024 : Shape := ⟨2, ![31, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4x1024 : Shape := ⟨2, ![4, 1024]⟩
abbrev S40x1024 : Shape := ⟨2, ![40, 1024]⟩
abbrev S8222x1024 : Shape := ⟨2, ![8222, 1024]⟩
abbrev S31x8192 : Shape := ⟨2, ![31, 8192]⟩
abbrev S31x8192x1 : Shape := ⟨3, ![31, 8192, 1]⟩
abbrev S31x8192x1024 : Shape := ⟨3, ![31, 8192, 1024]⟩
abbrev S31x1x1024 : Shape := ⟨3, ![31, 1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 55
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S4x1024, .f32⟩
  | .hbm, ⟨16, _⟩ => ⟨S40x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .i32⟩
  | .hbm, ⟨29, _⟩ => ⟨S_, .f32⟩
  | .hbm, ⟨30, _⟩ => ⟨S8222x1024, .f32⟩
  | .hbm, ⟨31, _⟩ => ⟨S31x8192, .i32⟩
  | .hbm, ⟨32, _⟩ => ⟨S31x8192, .i32⟩
  | .hbm, ⟨33, _⟩ => ⟨S31x8192, .i32⟩
  | .hbm, ⟨34, _⟩ => ⟨S_, .i32⟩
  | .hbm, ⟨35, _⟩ => ⟨S31x8192, .i32⟩
  | .hbm, ⟨36, _⟩ => ⟨S31x8192, .i1⟩
  | .hbm, ⟨37, _⟩ => ⟨S_, .i32⟩
  | .hbm, ⟨38, _⟩ => ⟨S31x8192, .i32⟩
  | .hbm, ⟨39, _⟩ => ⟨S31x8192, .i32⟩
  | .hbm, ⟨40, _⟩ => ⟨S31x8192, .i32⟩
  | .hbm, ⟨41, _⟩ => ⟨S31x8192x1, .i32⟩
  | .hbm, ⟨42, _⟩ => ⟨S31x8192x1024, .f32⟩
  | .hbm, ⟨43, _⟩ => ⟨S31x1x1024, .f32⟩
  | .hbm, ⟨44, _⟩ => ⟨S31x8192x1024, .f32⟩
  | .hbm, ⟨45, _⟩ => ⟨S31x8192x1024, .f32⟩
  | .hbm, ⟨46, _⟩ => ⟨S_, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S1024x1024, .bf16⟩
  | .hbm, ⟨52, _⟩ => ⟨S8192x1024, .f32⟩
  | .hbm, ⟨53, _⟩ => ⟨S8192x1024, .bf16⟩
  | .hbm, ⟨54, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S40x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvOutRefIdeal.lean ====
abbrev S8192x1024 : Shape := ⟨2, ![8192, 1024]⟩
abbrev S8192x2048 : Shape := ⟨2, ![8192, 2048]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S8222x1024 : Shape := ⟨2, ![8222, 1024]⟩
abbrev S31x8192 : Shape := ⟨2, ![31, 8192]⟩
abbrev S31x8192x1 : Shape := ⟨3, ![31, 8192, 1]⟩
abbrev S31x8192x1024 : Shape := ⟨3, ![31, 8192, 1024]⟩
abbrev S31x1x1024 : Shape := ⟨3, ![31, 1, 1024]⟩
abbrev S1x1024 : Shape := ⟨2, ![1, 1024]⟩
abbrev S8192 : Shape := ⟨1, ![8192]⟩
abbrev S8192x1 : Shape := ⟨2, ![8192, 1]⟩
abbrev S5x1024 : Shape := ⟨2, ![5, 1024]⟩
abbrev S8x1024 : Shape := ⟨2, ![8, 1024]⟩

abbrev nBuf : Space → Nat
  | .hbm => 159
  | .vmem => 0
  | .smem => 0
  | _ => 0

abbrev hbmTy0_0 (i : Nat) : BufTy := match i % 128 with
  | 0 => ⟨S8192x1024, .f32⟩
  | 1 => ⟨S8192x2048, .f32⟩
  | 2 => ⟨S31x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S_, .i32⟩
  | 21 => ⟨S_, .f32⟩
  | 22 => ⟨S8222x1024, .f32⟩
  | 23 => ⟨S31x8192, .i32⟩
  | 24 => ⟨S31x8192, .i32⟩
  | 25 => ⟨S31x8192, .i32⟩
  | 26 => ⟨S_, .i32⟩
  | 27 => ⟨S31x8192, .i32⟩
  | 28 => ⟨S31x8192, .i1⟩
  | 29 => ⟨S_, .i32⟩
  | 30 => ⟨S31x8192, .i32⟩
  | 31 => ⟨S31x8192, .i32⟩
  | 32 => ⟨S31x8192, .i32⟩
  | 33 => ⟨S31x8192x1, .i32⟩
  | 34 => ⟨S31x8192x1024, .f32⟩
  | 35 => ⟨S31x1x1024, .f32⟩
  | 36 => ⟨S31x8192x1024, .f32⟩
  | 37 => ⟨S31x8192x1024, .f32⟩
  | 38 => ⟨S_, .f32⟩
  | 39 => ⟨S8192x1024, .f32⟩
  | 40 => ⟨S1x1024, .f32⟩
  | 41 => ⟨S8192x1024, .f32⟩
  | 42 => ⟨S8192x1024, .f32⟩
  | 43 => ⟨S1x1024, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S1x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S8192x1024, .f32⟩
  | 127 => ⟨S_, .f32⟩
  | _ => ⟨S8192x1024, .f32⟩

abbrev hbmTy0_1 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S8192x1024, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192, .f32⟩
  | 20 => ⟨S8192x1024, .f32⟩
  | 21 => ⟨S8192x1024, .f32⟩
  | 22 => ⟨S8192x1024, .bf16⟩
  | 23 => ⟨S_, .f32⟩
  | 24 => ⟨S1024, .f32⟩
  | 25 => ⟨S1x1024, .f32⟩
  | 26 => ⟨S1x1024, .f32⟩
  | 27 => ⟨S1x1024, .f32⟩
  | 28 => ⟨S_, .f32⟩
  | 29 => ⟨S5x1024, .f32⟩
  | 30 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_v57_2 : Ref sig .tc := ⟨.hbm, 87, rfl⟩
abbrev main_call1_cst_1 : Ref sig .tc := ⟨.hbm, 88, rfl⟩
abbrev main_call1_v6 : Ref sig .tc := ⟨.hbm, 89, rfl⟩
abbrev main_call1_v7 : Ref sig .tc := ⟨.hbm, 90, rfl⟩
abbrev main_v57_1 : Ref sig .tc := ⟨.hbm, 91, rfl⟩
abbrev main_v57_0 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v67 : Ref sig .tc := ⟨.hbm, 105, rfl⟩
abbrev main_cst_11 : Ref sig .tc := ⟨.hbm, 106, rfl⟩
abbrev main_v68 : Ref sig .tc := ⟨.hbm, 107, rfl⟩
abbrev main_v69 : Ref sig .tc := ⟨.hbm, 108, rfl⟩
abbrev main_cst_12 : Ref sig .tc := ⟨.hbm, 109, rfl⟩
abbrev main_v70 : Ref sig .tc := ⟨.hbm, 110, rfl⟩
abbrev main_v71 : Ref sig .tc := ⟨.hbm, 111, rfl⟩
abbrev main_cst_13 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_14 : Ref sig .tc := ⟨.hbm, 117, rfl⟩
abbrev main_v76 : Ref sig .tc := ⟨.hbm, 118, rfl⟩
abbrev main_v77 : Ref sig .tc := ⟨.hbm, 119, rfl⟩
abbrev main_cst_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_16 : Ref sig .tc := ⟨.hbm, 127, rfl⟩
abbrev main_v84 : Ref sig .tc := ⟨.hbm, 128, rfl⟩
abbrev main_v85 : Ref sig .tc := ⟨.hbm, 129, rfl⟩
abbrev main_cst_17 : Ref sig .tc := ⟨.hbm, 130, rfl⟩
abbrev main_v86 : Ref sig .tc := ⟨.hbm, 131, rfl⟩
abbrev main_v87 : Ref sig .tc := ⟨.hbm, 132, rfl⟩
abbrev main_cst_18 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_19 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_20 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_22 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_23 : Ref sig .tc := ⟨.hbm, 156, rfl⟩
abbrev main_v106 : Ref sig .tc := ⟨.hbm, 157, rfl⟩
abbrev main_v107 : Ref sig .tc := ⟨.hbm, 158, rfl⟩

abbrev nD : Nat := 1
abbrev τ : Topo := Topo.v7x

variable {F : FTy → Type} [FloatOps F]
-- ==== WPw.lean ====
abbrev S8192x2048 : Shape := ⟨2, ![8192, 2048]⟩
abbrev S8192x1024 : Shape := ⟨2, ![8192, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S8222x1024 : Shape := ⟨2, ![8222, 1024]⟩
abbrev S31x8192 : Shape := ⟨2, ![31, 8192]⟩
abbrev S31x8192x1 : Shape := ⟨3, ![31, 8192, 1]⟩
abbrev S31x8192x1024 : Shape := ⟨3, ![31, 8192, 1024]⟩
abbrev S31x1x1024 : Shape := ⟨3, ![31, 1, 1024]⟩
abbrev S1x1024 : Shape := ⟨2, ![1, 1024]⟩
abbrev S8192 : Shape := ⟨1, ![8192]⟩
abbrev S8192x1 : Shape := ⟨2, ![8192, 1]⟩
abbrev S7x1024 : Shape := ⟨2, ![7, 1024]⟩
abbrev S8x1024 : Shape := ⟨2, ![8, 1024]⟩
abbrev S1x8x1024 : Shape := ⟨3, ![1, 8, 1024]⟩
abbrev S2048x1024 : Shape := ⟨2, ![2048, 1024]⟩

abbrev nBuf : Space → Nat
  | .hbm => 89
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .i32⟩
  | .hbm, ⟨20, _⟩ => ⟨S_, .f32⟩
  | .hbm, ⟨21, _⟩ => ⟨S8222x1024, .f32⟩
  | .hbm, ⟨22, _⟩ => ⟨S31x8192, .i32⟩
  | .hbm, ⟨23, _⟩ => ⟨S31x8192, .i32⟩
  | .hbm, ⟨24, _⟩ => ⟨S31x8192, .i32⟩
  | .hbm, ⟨25, _⟩ => ⟨S_, .i32⟩
  | .hbm, ⟨26, _⟩ => ⟨S31x8192, .i32⟩
  | .hbm, ⟨27, _⟩ => ⟨S31x8192, .i1⟩
  | .hbm, ⟨28, _⟩ => ⟨S_, .i32⟩
  | .hbm, ⟨29, _⟩ => ⟨S31x8192, .i32⟩
  | .hbm, ⟨30, _⟩ => ⟨S31x8192, .i32⟩
  | .hbm, ⟨31, _⟩ => ⟨S31x8192, .i32⟩
  | .hbm, ⟨32, _⟩ => ⟨S31x8192x1, .i32⟩
  | .hbm, ⟨33, _⟩ => ⟨S31x8192x1024, .f32⟩
  | .hbm, ⟨34, _⟩ => ⟨S31x1x1024, .f32⟩
  | .hbm, ⟨35, _⟩ => ⟨S31x8192x1024, .f32⟩
  | .hbm, ⟨36, _⟩ => ⟨S31x8192x1024, .f32⟩
  | .hbm, ⟨37, _⟩ => ⟨S_, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .bf16⟩
  | .hbm, ⟨81, _⟩ => ⟨S8192x1024, .bf16⟩
  | .hbm, ⟨82, _⟩ => ⟨S1024x1024, .bf16⟩
  | .hbm, ⟨83, _⟩ => ⟨S1x1024, .f32⟩
  | .hbm, ⟨84, _⟩ => ⟨S_, .f32⟩
  | .hbm, ⟨85, _⟩ => ⟨S7x1024, .f32⟩
  | .hbm, ⟨86, _⟩ => ⟨S8x1024, .f32⟩
  | .hbm, ⟨87, _⟩ => ⟨S1024x1024, .bf16⟩
  | .hbm, ⟨88, _⟩ => ⟨S1x8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S8x1024, .f32⟩
  | .local _ .vmem, ⟨6, _⟩ => ⟨S1024x1024, .bf16⟩
  | .local _ .vmem, ⟨7, _⟩ => ⟨S1x8x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58_0 : Ref sig .tc := ⟨.hbm, 87, rfl⟩
abbrev main_v58_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== WPwRefIdeal.lean ====
abbrev S8192x2048 : Shape := ⟨2, ![8192, 2048]⟩
abbrev S8192x1024 : Shape := ⟨2, ![8192, 1024]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S8222x1024 : Shape := ⟨2, ![8222, 1024]⟩
abbrev S31x8192 : Shape := ⟨2, ![31, 8192]⟩
abbrev S31x8192x1 : Shape := ⟨3, ![31, 8192, 1]⟩
abbrev S31x8192x1024 : Shape := ⟨3, ![31, 8192, 1024]⟩
abbrev S31x1x1024 : Shape := ⟨3, ![31, 1, 1024]⟩
abbrev S1x1024 : Shape := ⟨2, ![1, 1024]⟩
abbrev S8192 : Shape := ⟨1, ![8192]⟩
abbrev S8192x1 : Shape := ⟨2, ![8192, 1]⟩
abbrev S1x8x1024 : Shape := ⟨3, ![1, 8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .i32⟩
  | .hbm, ⟨20, _⟩ => ⟨S_, .f32⟩
  | .hbm, ⟨21, _⟩ => ⟨S8222x1024, .f32⟩
  | .hbm, ⟨22, _⟩ => ⟨S31x8192, .i32⟩
  | .hbm, ⟨23, _⟩ => ⟨S31x8192, .i32⟩
  | .hbm, ⟨24, _⟩ => ⟨S31x8192, .i32⟩
  | .hbm, ⟨25, _⟩ => ⟨S_, .i32⟩
  | .hbm, ⟨26, _⟩ => ⟨S31x8192, .i32⟩
  | .hbm, ⟨27, _⟩ => ⟨S31x8192, .i1⟩
  | .hbm, ⟨28, _⟩ => ⟨S_, .i32⟩
  | .hbm, ⟨29, _⟩ => ⟨S31x8192, .i32⟩
  | .hbm, ⟨30, _⟩ => ⟨S31x8192, .i32⟩
  | .hbm, ⟨31, _⟩ => ⟨S31x8192, .i32⟩
  | .hbm, ⟨32, _⟩ => ⟨S31x8192x1, .i32⟩
  | .hbm, ⟨33, _⟩ => ⟨S31x8192x1024, .f32⟩
  | .hbm, ⟨34, _⟩ => ⟨S31x1x1024, .f32⟩
  | .hbm, ⟨35, _⟩ => ⟨S31x8192x1024, .f32⟩
  | .hbm, ⟨36, _⟩ => ⟨S31x8192x1024, .f32⟩
  | .hbm, ⟨37, _⟩ => ⟨S_, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S1024x1024, .f32⟩
  | .hbm, ⟨91, _⟩ => ⟨S1024x1024, .f32⟩
  | .hbm, ⟨92, _⟩ => ⟨S_, .f32⟩
  | .hbm, ⟨93, _⟩ => ⟨S1024, .f32⟩
  | .hbm, ⟨94, _⟩ => ⟨S1024x1024, .bf16⟩
  | .hbm, ⟨95, _⟩ => ⟨S1x8x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_10 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== ModW.lean ====
abbrev S8x1024 : Shape := ⟨2, ![8, 1024]⟩
abbrev S8x1152 : Shape := ⟨2, ![8, 1152]⟩
abbrev S1024x8 : Shape := ⟨2, ![1024, 8]⟩
abbrev S1024x1152 : Shape := ⟨2, ![1024, 1152]⟩
abbrev S256x8 : Shape := ⟨2, ![256, 8]⟩
abbrev S256x1152 : Shape := ⟨2, ![256, 1152]⟩
abbrev S256 : Shape := ⟨1, ![256]⟩
abbrev S256x1 : Shape := ⟨2, ![256, 1]⟩
abbrev S1x1152 : Shape := ⟨2, ![1, 1152]⟩

abbrev nBuf : Space → Nat
  | .hbm => 4
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x8, .f32⟩
  | .hbm, ⟨3, _⟩ => ⟨S1024x1152, .f32⟩
  | .local _ .vmem, ⟨0, _⟩ => ⟨S256x8, .f32⟩
  | .local _ .vmem, ⟨1, _⟩ => ⟨S256x8, .f32⟩
  | .local _ .vmem, ⟨2, _⟩ => ⟨S8x1152, .f32⟩
  | .local _ .vmem, ⟨3, _⟩ => ⟨S256x1152, .f32⟩
  | .local _ .vmem, ⟨4, _⟩ => ⟨S256x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModWRefIdeal.lean ====
abbrev S8x1024 : Shape := ⟨2, ![8, 1024]⟩
abbrev S8x1152 : Shape := ⟨2, ![8, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S_, .f32⟩
  | .hbm, ⟨3, _⟩ => ⟨S1024x1152, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1152, .f32⟩
  | .hbm, ⟨14, _⟩ => ⟨S1152x1024, .f32⟩
  | .hbm, ⟨15, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AttnOut.lean ====
abbrev S8192x1024 : Shape := ⟨2, ![8192, 1024]⟩
abbrev S1024x1024 : Shape := ⟨2, ![1024, 1024]⟩
abbrev S1024 : Shape := ⟨1, ![1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S8192x16x64 : Shape := ⟨3, ![8192, 16, 64]⟩
abbrev S8192x16x128 : Shape := ⟨3, ![8192, 16, 128]⟩
abbrev S8192x2048 : Shape := ⟨2, ![8192, 2048]⟩
abbrev S1x1024 : Shape := ⟨2, ![1, 1024]⟩
abbrev S4x1024 : Shape := ⟨2, ![4, 1024]⟩
abbrev S8x1024 : Shape := ⟨2, ![8, 1024]⟩
abbrev S16x8192x1 : Shape := ⟨3, ![16, 8192, 1]⟩
abbrev S512x1024 : Shape := ⟨2, ![512, 1024]⟩
abbrev S512x2048 : Shape := ⟨2, ![512, 2048]⟩
abbrev S16x512x1 : Shape := ⟨3, ![16, 512, 1]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩

abbrev nBuf : Space → Nat
  | .hbm => 28
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S16x64x1024, .bf16⟩
  | .hbm, ⟨6, _⟩ => ⟨S_, .i32⟩
  | .hbm, ⟨7, _⟩ => ⟨S_, .bf16⟩
  | .hbm, ⟨8, _⟩ => ⟨S16x128x1024, .bf16⟩
  | .hbm, ⟨9, _⟩ => ⟨S2048x1024, .bf16⟩
  | .hbm, ⟨10, _⟩ => ⟨S8192x16x64, .f32⟩
  | .hbm, ⟨11, _⟩ => ⟨S_, .i32⟩
  | .hbm, ⟨12, _⟩ => ⟨S_, .f32⟩
  | .hbm, ⟨13, _⟩ => ⟨S8192x16x128, .f32⟩
  | .hbm, ⟨14, _⟩ => ⟨S8192x2048, .f32⟩
  | .hbm, ⟨15, _⟩ => ⟨S8192x2048, .bf16⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S4x1024, .f32⟩
  | .hbm, ⟨24, _⟩ => ⟨S8x1024, .f32⟩
  | .hbm, ⟨25, _⟩ => ⟨S8192x2048, .bf16⟩
  | .hbm, ⟨26, _⟩ => ⟨S16x8192x1, .f32⟩
  | .hbm, ⟨27, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S8x1024, .f32⟩
  | .local _ .vmem, ⟨6, _⟩ => ⟨S512x2048, .bf16⟩
  | .local _ .vmem, ⟨7, _⟩ => ⟨S512x2048, .bf16⟩
  | .local _ .vmem, ⟨8, _⟩ => ⟨S16x512x1, .f32⟩
  | .local _ .vmem, ⟨9, _⟩ => ⟨S16x512x1, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnOutRefIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S16x8192x1 : Shape := ⟨3, ![16, 8192, 1]⟩
abbrev S8192x16x128 : Shape := ⟨3, ![8192, 16, 128]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x16x64, .f32⟩
  | .hbm, ⟨12, _⟩ => ⟨S8192x16x64, .f32⟩
  | .hbm, ⟨13, _⟩ => ⟨S8192x16x64, .f32⟩
  | .hbm, ⟨14, _⟩ => ⟨S_, .f32⟩
  | .hbm, ⟨15, _⟩ => ⟨S8192x16, .f32⟩
  | .hbm, ⟨16, _⟩ => ⟨S8192x16x1, .f32⟩
  | .hbm, ⟨17, _⟩ => ⟨S16x8192x1, .f32⟩
  | .hbm, ⟨18, _⟩ => ⟨S_, .i32⟩
  | .hbm, ⟨19, _⟩ => ⟨S_, .f32⟩
  | .hbm, ⟨20, _⟩ => ⟨S8192x16x128, .f32⟩
  | .hbm, ⟨21, _⟩ => ⟨S8192x2048, .f32⟩
  | .hbm, ⟨22, _⟩ => ⟨S8192x2048, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S4x1024 : Shape := ⟨2, ![4, 1024]⟩
abbrev S8x1024 : Shape := ⟨2, ![8, 1024]⟩
abbrev S256x1024 : Shape := ⟨2, ![256, 1024]⟩
abbrev S256x2816 : Shape := ⟨2, ![256, 2816]⟩
abbrev S256x1536 : Shape := ⟨2, ![256, 1536]⟩
abbrev S1536x1024 : Shape := ⟨2, ![1536, 1024]⟩
abbrev S1024x1536 : Shape := ⟨2, ![1024, 1536]⟩
abbrev S256x1280 : Shape := ⟨2, ![256, 1280]⟩
abbrev S1280x1024 : Shape := ⟨2, ![1280, 1024]⟩
abbrev S1024x1280 : Shape := ⟨2, ![1024, 1280]⟩
abbrev S256 : Shape := ⟨1, ![256]⟩
abbrev S256x1 : Shape := ⟨2, ![256, 1]⟩

abbrev nBuf : Space → Nat
  | .hbm => 53
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S8192x2816, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S4x1024, .f32⟩
  | .hbm, ⟨44, _⟩ => ⟨S8x1024, .f32⟩
  | .hbm, ⟨45, _⟩ => ⟨S1024x5632, .bf16⟩
  | .hbm, ⟨46, _⟩ => ⟨S2816x1024, .bf16⟩
  | .hbm, ⟨47, _⟩ => ⟨S8192x1024, .f32⟩
  | .hbm, ⟨48, _⟩ => ⟨S8192x2816, .bf16⟩
  | .hbm, ⟨49, _⟩ => ⟨S8192x2816, .bf16⟩
  | .hbm, ⟨50, _⟩ => ⟨S8192x2816, .bf16⟩
  | .hbm, ⟨51, _⟩ => ⟨S8192x1024, .bf16⟩
  | .hbm, ⟨52, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S8x1024, .f32⟩
  | .local _ .vmem, ⟨9, _⟩ => ⟨S1024x5632, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev main_v34_4 : Ref sig .tc := ⟨.hbm, 51, rfl⟩
abbrev main_v34_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S5x1024 : Shape := ⟨2, ![5, 1024]⟩
abbrev S8x1024 : Shape := ⟨2, ![8, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S_, .f32⟩
  | .hbm, ⟨9, _⟩ => ⟨S8192x5632, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x5632, .f32⟩
  | .hbm, ⟨40, _⟩ => ⟨S8192x5632, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x5632, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S1024, .f32⟩
  | .hbm, ⟨98, _⟩ => ⟨S8192x1024, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S_, .f32⟩
  | .hbm, ⟨110, _⟩ => ⟨S8192, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x2816, .f32⟩
  | .hbm, ⟨117, _⟩ => ⟨S8192x2816, .f32⟩
  | .hbm, ⟨118, _⟩ => ⟨S8192x2816, .bf16⟩
  | .hbm, ⟨119, _⟩ => ⟨S8192x2816, .bf16⟩
  | .hbm, ⟨120, _⟩ => ⟨S8192x2816, .bf16⟩
  | .hbm, ⟨121, _⟩ => ⟨S8192x1024, .bf16⟩
  | .hbm, ⟨122, _⟩ => ⟨S1x1024, .f32⟩
  | .hbm, ⟨123, _⟩ => ⟨S1x1024, .f32⟩
  | .hbm, ⟨124, _⟩ => ⟨S1x1024, .f32⟩
  | .hbm, ⟨125, _⟩ => ⟨S_, .f32⟩
  | .hbm, ⟨126, _⟩ => ⟨S5x1024, .f32⟩
  | .hbm, ⟨127, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v29_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v29_1 : Ref sig .tc := ⟨.hbm, 54, rfl⟩
abbrev main_v29_0 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_6 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_9 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_13 : Ref sig .tc := ⟨.hbm, 106, rfl⟩
abbrev main_v69 : Ref sig .tc := ⟨.hbm, 107, rfl⟩
abbrev main_v70 : Ref sig .tc := ⟨.hbm, 108, rfl⟩
abbrev main_cst_14 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_15 : Ref sig .tc := ⟨.hbm, 125, rfl⟩
abbrev main_v86 : Ref sig .tc := ⟨.hbm, 126, rfl⟩
abbrev main_v87 : Ref sig .tc := ⟨.hbm, 127, rfl⟩

abbrev nD : Nat := 1
abbrev τ : Topo := Topo.v7x

variable {F : FTy → Type} [FloatOps F]
-- ==== QBwd.lean ====
abbrev S8192x16x96 : Shape := ⟨3, ![8192, 16, 96]⟩
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S512x16x96 : Shape := ⟨3, ![512, 16, 96]⟩
abbrev S512x16x128 : Shape := ⟨3, ![512, 16, 128]⟩
abbrev S512x2048 : Shape := ⟨2, ![512, 2048]⟩
abbrev S8192x16x128 : Shape := ⟨3, ![8192, 16, 128]⟩
abbrev S8192x2048 : Shape := ⟨2, ![8192, 2048]⟩
abbrev S4x1024 : Shape := ⟨2, ![4, 1024]⟩
abbrev S8x1024 : Shape := ⟨2, ![8, 1024]⟩
abbrev S1x512 : Shape := ⟨2, ![1, 512]⟩
abbrev S7x512 : Shape := ⟨2, ![7, 512]⟩
abbrev S8x512 : Shape := ⟨2, ![8, 512]⟩
abbrev S8192x32 : Shape := ⟨2, ![8192, 32]⟩
abbrev S8192x64 : Shape := ⟨2, ![8192, 64]⟩
abbrev S8192x384 : Shape := ⟨2, ![8192, 384]⟩
abbrev S512x1024 : Shape := ⟨2, ![512, 1024]⟩
abbrev S512x512 : Shape := ⟨2, ![512, 512]⟩
abbrev S512x384 : Shape := ⟨2, ![512, 384]⟩
abbrev S512x128 : Shape := ⟨2, ![512, 128]⟩
abbrev S512x1 : Shape := ⟨2, ![512, 1]⟩

abbrev nBuf : Space → Nat
  | .hbm => 75
  | .vmem => 22
  | .smem => 0
  | _ => 0

abbrev bufTy : (tb : Table) → Fin (tcTables nBuf tb) → BufTy
  | .hbm, ⟨0, _⟩ => ⟨S8192x16x96, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x1536, .f32⟩
  | .hbm, ⟨10, _⟩ => ⟨S8192x16, .f32⟩
  | .hbm, ⟨11, _⟩ => ⟨S8192x16, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x512, .f32⟩
  | .hbm, ⟨38, _⟩ => ⟨S512x1536, .bf16⟩
  | .hbm, ⟨39, _⟩ => ⟨S512x16x96, .bf16⟩
  | .hbm, ⟨40, _⟩ => ⟨S_, .i32⟩
  | .hbm, ⟨41, _⟩ => ⟨S_, .bf16⟩
  | .hbm, ⟨42, _⟩ => ⟨S512x16x128, .bf16⟩
  | .hbm, ⟨43, _⟩ => ⟨S512x2048, .bf16⟩
  | .hbm, ⟨44, _⟩ => ⟨S_, .i32⟩
  | .hbm, ⟨45, _⟩ => ⟨S_, .f32⟩
  | .hbm, ⟨46, _⟩ => ⟨S8192x16x128, .f32⟩
  | .hbm, ⟨47, _⟩ => ⟨S8192x2048, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S4x1024, .f32⟩
  | .hbm, ⟨54, _⟩ => ⟨S8x1024, .f32⟩
  | .hbm, ⟨55, _⟩ => ⟨S1024x512, .bf16⟩
  | .hbm, ⟨56, _⟩ => ⟨S1x512, .f32⟩
  | .hbm, ⟨57, _⟩ => ⟨S_, .f32⟩
  | .hbm, ⟨58, _⟩ => ⟨S7x512, .f32⟩
  | .hbm, ⟨59, _⟩ => ⟨S8x512, .f32⟩
  | .hbm, ⟨60, _⟩ => ⟨S_, .f32⟩
  | .hbm, ⟨61, _⟩ => ⟨S8192x16, .f32⟩
  | .hbm, ⟨62, _⟩ => ⟨S_, .f32⟩
  | .hbm, ⟨63, _⟩ => ⟨S8192x32, .f32⟩
  | .hbm, ⟨64, _⟩ => ⟨S_, .f32⟩
  | .hbm, ⟨65, _⟩ => ⟨S8192x64, .f32⟩
  | .hbm, ⟨66, _⟩ => ⟨S_, .f32⟩
  | .hbm, ⟨67, _⟩ => ⟨S8192x64, .f32⟩
  | .hbm, ⟨68, _⟩ => ⟨S8192x16, .f32⟩
  | .hbm, ⟨69, _⟩ => ⟨S8192x384, .f32⟩
  | .hbm, ⟨70, _⟩ => ⟨S8192x1024, .f32⟩
  | .hbm, ⟨71, _⟩ => ⟨S8192x2048, .bf16⟩
  | .hbm, ⟨72, _⟩ => ⟨S8192x512, .bf16⟩
  | .hbm, ⟨73, _⟩ => ⟨S8x1024, .f32⟩
  | .hbm, ⟨74, _⟩ => ⟨S8x512, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S1024x512, .bf16⟩
  | .local _ .vmem, ⟨10, _⟩ => ⟨S8x512, .f32⟩
  | .local _ .vmem, ⟨11, _⟩ => ⟨S512x2048, .bf16⟩
  | .local _ .vmem, ⟨12, _⟩ => ⟨S512x384, .f32⟩
  | .local _ .vmem, ⟨13, _⟩ => ⟨S512x384, .f32⟩
  | .local _ .vmem, ⟨14, _⟩ => ⟨S512x1024, .f32⟩
  | .local _ .vmem, ⟨15, _⟩ => ⟨S512x1024, .f32⟩
  | .local _ .vmem, ⟨16, _⟩ => ⟨S512x2048, .bf16⟩
  | .local _ .vmem, ⟨17, _⟩ => ⟨S512x2048, .bf16⟩
  | .local _ .vmem, ⟨18, _⟩ => ⟨S512x512, .bf16⟩
  | .local _ .vmem, ⟨19, _⟩ => ⟨S512x512, .bf16⟩
  | .local _ .vmem, ⟨20, _⟩ => ⟨S8x1024, .f32⟩
  | .local _ .vmem, ⟨21, _⟩ => ⟨S8x512, .f32⟩
  | _, _ => ⟨S8192x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev main_v44_2 : Ref sig .tc := ⟨.hbm, 72, rfl⟩
abbrev main_v44_3 : Ref sig .tc := ⟨.hbm, 73, rfl⟩
abbrev main_v44_4 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== QBwdRefIdeal.lean ====
abbrev S8192x16x96 : Shape := ⟨3, ![8192, 16, 96]⟩
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S8192x16 : Shape := ⟨2, ![8192, 16]⟩
abbrev S_ : Shape := ⟨0, ![]⟩
abbrev S8192x512 : Shape := ⟨2, ![8192, 512]⟩
abbrev S8192x1536 : Shape := ⟨2, ![8192, 1536]⟩
abbrev S8192 : Shape := ⟨1, ![8192]⟩
abbrev S8192x1 : Shape := ⟨2, ![8192, 1]⟩
abbrev S1x1024 : Shape := ⟨2, ![1, 1024]⟩
abbrev S1x512 : Shape := ⟨2, ![1, 512]⟩
abbrev S8192x16x64 : Shape := ⟨3, ![8192, 16, 64]⟩
abbrev S8192x16x32 : Shape := ⟨3, ![8192, 16, 32]⟩
abbrev S8192x1x16 : Shape := ⟨3, ![8192, 1, 16]⟩
abbrev S8192x16x16 : Shape := ⟨3, ![8192, 16, 16]⟩
abbrev S8192x16x128 : Shape := ⟨3, ![8192, 16, 128]⟩
abbrev S8192x2048 : Shape := ⟨2, ![8192, 2048]⟩
abbrev S5x1024 : Shape := ⟨2, ![5, 1024]⟩
abbrev S8x1024 : Shape := ⟨2, ![8, 1024]⟩
abbrev S7x512 : Shape := ⟨2, ![7, 512]⟩
abbrev S8x512 : Shape := ⟨2, ![8, 512]⟩

abbrev nBuf : Space → Nat
  | .hbm => 189
  | .vmem => 0
  | .smem => 0
  | _ => 0

abbrev hbmTy0_0 (i : Nat) : BufTy := match i % 128 with
  | 0 => ⟨S8192x16x96, .f32⟩
  | 1 => ⟨S8192x1024, .f32⟩
  | 2 => ⟨S8192x1024, .f32⟩
  | 3 => ⟨S1024, .f32⟩
  | 4 => ⟨S1024, .f32⟩
  | 5 => ⟨S1024, .f32⟩
  | 6 => ⟨S1024, .f32⟩
  | 7 => ⟨S1024x512, .f32⟩
  | 8 => ⟨S512, .f32⟩
  | 9 => ⟨S512x1536, .f32⟩
  | 10 => ⟨S8192x16, .f32⟩
  | 11 => ⟨S8192x16, .f32⟩
  | 12 => ⟨S_, .f32⟩
  | 13 => ⟨S8192x512, .f32⟩
  | 14 => ⟨S_, .f32⟩
  | 15 => ⟨S8192x1536, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S1x1024, .f32⟩
  | 37 => ⟨S_, .f32⟩
  | 38 => ⟨S1x1024, .f32⟩
  | 39 => ⟨S1x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x512, .f32⟩
  | 46 => ⟨S8192x512, .f32⟩
  | 47 => ⟨S8192x512, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x512, .f32⟩
  | 63 => ⟨S8192x512, .f32⟩
  | 64 => ⟨S1x512, .f32⟩
  | 65 => ⟨S8192x512, .f32⟩
  | 66 => ⟨S8192x512, .f32⟩
  | 67 => ⟨S8192x1536, .f32⟩
  | 68 => ⟨S8192x1536, .f32⟩
  | 69 => ⟨S8192x16x96, .f32⟩
  | 70 => ⟨S8192x16x64, .f32⟩
  | 71 => ⟨S8192x16x32, .f32⟩
  | 72 => ⟨S8192x1x16, .f32⟩
  | 73 => ⟨S8192x1x16, .f32⟩
  | 74 => ⟨S8192x16x16, .f32⟩
  | 75 => ⟨S8192x16x16, .f32⟩
  | 76 => ⟨S8192x16x16, .f32⟩
  | 77 => ⟨S8192x16x16, .f32⟩
  | 78 => ⟨S8192x16x16, .f32⟩
  | 79 => ⟨S8192x16x16, .f32⟩
  | 80 => ⟨S8192x16x16, .f32⟩
  | 81 => ⟨S8192x16x16, .f32⟩
  | 82 => ⟨S8192x16x16, .f32⟩
  | 83 => ⟨S8192x16x16, .f32⟩
  | 84 => ⟨S8192x16x16, .f32⟩
  | 85 => ⟨S8192x16x16, .f32⟩
  | 86 => ⟨S8192x16x32, .f32⟩
  | 87 => ⟨S8192x16x96, .f32⟩
  | 88 => ⟨S8192x16x64, .f32⟩
  | 89 => ⟨S8192x16x32, .f32⟩
  | 90 => ⟨S8192x16x16, .f32⟩
  | 91 => ⟨S8192x16x16, .f32⟩
  | 92 => ⟨S8192x16x16, .f32⟩
  | 93 => ⟨S8192x16x16, .f32⟩
  | 94 => ⟨S8192x16x16, .f32⟩
  | 95 => ⟨S8192x16x16, .f32⟩
  | 96 => ⟨S8192x16x16, .f32⟩
  | 97 => ⟨S8192x16x16, .f32⟩
  | 98 => ⟨S8192x16x16, .f32⟩
  | 99 => ⟨S8192x16x16, .f32⟩
  | 100 => ⟨S8192x16x16, .f32⟩
  | 101 => ⟨S8192x16x16, .f32⟩
  | 102 => ⟨S8192x16x16, .f32⟩
  | 103 => ⟨S8192x16x32, .f32⟩
  | 104 => ⟨S8192x16x96, .f32⟩
  | 105 => ⟨S8192x1536, .f32⟩
  | 106 => ⟨S8192x512, .f32⟩
  | 107 => ⟨S8192x512, .f32⟩
  | 108 => ⟨S_, .f32⟩
  | 109 => ⟨S512, .f32⟩
  | 110 => ⟨S1x512, .f32⟩
  | 111 => ⟨S8192x512, .f32⟩
  | 112 => ⟨S8192x512, .f32⟩
  | 113 => ⟨S_, .f32⟩
  | 114 => ⟨S512, .f32⟩
  | 115 => ⟨S8192x512, .f32⟩
  | 116 => ⟨S_, .f32⟩
  | 117 => ⟨S8192, .f32⟩
  | 118 => ⟨S8192x1, .f32⟩
  | 119 => ⟨S8192x512, .f32⟩
  | 120 => ⟨S8192x512, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x512, .f32⟩
  | _ => ⟨S8192x16x96, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x1024, .f32⟩
  | 5 => ⟨S_, .f32⟩
  | 6 => ⟨S1024, .f32⟩
  | 7 => ⟨S1x1024, .f32⟩
  | 8 => ⟨S_, .f32⟩
  | 9 => ⟨S1024, .f32⟩
  | 10 => ⟨S8192x1024, .f32⟩
  | 11 => ⟨S_, .f32⟩
  | 12 => ⟨S1024, .f32⟩
  | 13 => ⟨S1x1024, .f32⟩
  | 14 => ⟨S8192x1024, .f32⟩
  | 15 => ⟨S8192x1024, .f32⟩
  | 16 => ⟨S_, .f32⟩
  | 17 => ⟨S1024, .f32⟩
  | 18 => ⟨S8192x1024, .f32⟩
  | 19 => ⟨S_, .f32⟩
  | 20 => ⟨S1024, .f32⟩
  | 21 => ⟨S1x1024, .f32⟩
  | 22 => ⟨S8192x1024, .f32⟩
  | 23 => ⟨S8192x1024, .f32⟩
  | 24 => ⟨S_, .f32⟩
  | 25 => ⟨S1024, .f32⟩
  | 26 => ⟨S8192x1024, .f32⟩
  | 27 => ⟨S_, .f32⟩
  | 28 => ⟨S8192, .f32⟩
  | 29 => ⟨S8192x1, .f32⟩
  | 30 => ⟨S8192x1024, .f32⟩
  | 31 => ⟨S8192x1024, .f32⟩
  | 32 => ⟨S8192x1024, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x16x96, .f32⟩
  | 45 => ⟨S_, .i32⟩
  | 46 => ⟨S_, .f32⟩
  | 47 => ⟨S8192x16x128, .f32⟩
  | 48 => ⟨S8192x2048, .f32⟩
  | 49 => ⟨S8192x2048, .bf16⟩
  | 50 => ⟨S8192x512, .bf16⟩
  | 51 => ⟨S1x1024, .f32⟩
  | 52 => ⟨S1x1024, .f32⟩
  | 53 => ⟨S1x1024, .f32⟩
  | 54 => ⟨S_, .f32⟩
  | 55 => ⟨S5x1024, .f32⟩
  | 56 => ⟨S8x1024, .f32⟩
  | 57 => ⟨S1x512, .f32⟩
  | 58 => ⟨S_, .f32⟩
  | 59 => ⟨S7x512, .f32⟩
  | 60 => ⟨S8x512, .f32⟩
  | _ => ⟨S8192x16x96, .f32⟩

abbrev hbmTy (i : Nat) : BufTy := match i / 128 with
  | 0 => hbmTy0_0 i
  | 1 => hbmTy0_1 i
  | _ => ⟨S8192x16x96, .f32⟩

abbrev bufTy : (tb : Table) → Fin (tcTables nBuf tb) → BufTy
  | .hbm, ⟨i, _⟩ => hbmTy i
  | _, _ => ⟨S8192x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_10 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_11 : Ref sig .tc := ⟨.hbm, 113, rfl⟩
abbrev main_v89 : Ref sig .tc := ⟨.hbm, 114, rfl⟩
abbrev main_v90 : Ref sig .tc := ⟨.hbm, 115, rfl⟩
abbrev main_cst_12 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_13 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_15 : Ref sig .tc := ⟨.hbm, 133, rfl⟩
abbrev main_v105 : Ref sig .tc := ⟨.hbm, 134, rfl⟩
abbrev main_v106 : Ref sig .tc := ⟨.hbm, 135, rfl⟩
abbrev main_cst_16 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_v114 : Ref sig .tc := ⟨.hbm, 146, rfl⟩
abbrev main_cst_19 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_20 : Ref sig .tc := ⟨.hbm, 152, rfl⟩
abbrev main_v119 : Ref sig .tc := ⟨.hbm, 153, rfl⟩
abbrev main_v120 : Ref sig .tc := ⟨.hbm, 154, rfl⟩
abbrev main_cst_21 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_22 : Ref sig .tc := ⟨.hbm, 162, rfl⟩
abbrev main_v127 : Ref sig .tc := ⟨.hbm, 163, rfl⟩
abbrev main_v128 : Ref sig .tc := ⟨.hbm, 164, rfl⟩
abbrev main_cst_23 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_c : Ref sig .tc := ⟨.hbm, 173, rfl⟩
abbrev main_call0_v0 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_24 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_25 : Ref sig .tc := ⟨.hbm, 186, rfl⟩
abbrev main_v146 : Ref sig .tc := ⟨.hbm, 187, rfl⟩
abbrev main_v147 : Ref sig .tc := ⟨.hbm, 188, rfl⟩

abbrev nD : Nat := 1
abbrev τ : Topo := Topo.v7x

variable {F : FTy → Type} [FloatOps F]
-- ==== KvBwd.lean ====
abbrev S8192x16x96 : Shape := ⟨3, ![8192, 16, 96]⟩
abbrev S8192x16x64 : Shape := ⟨3, ![8192, 16, 64]⟩
abbrev S8192x1024 : Shape := ⟨2, ![8192, 1024]⟩
abbrev S1024 : Shape := ⟨1, ![1024]⟩
abbrev S1024x288 : Shape := ⟨2, ![1024, 288]⟩
abbrev S256 : Shape := ⟨1, ![256]⟩
abbrev S256x2048 : Shape := ⟨2, ![256, 2048]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩
abbrev S8192x256 : Shape := ⟨2, ![8192, 256]⟩
abbrev S1024x64 : Shape := ⟨2, ![1024, 64]⟩
abbrev S1024x32 : Shape := ⟨2, ![1024, 32]⟩
abbrev S1024x384 : Shape := ⟨2, ![1024, 384]⟩
abbrev S8192x16x128 : Shape := ⟨3, ![8192, 16, 128]⟩
abbrev S8192x2048 : Shape := ⟨2, ![8192, 2048]⟩
abbrev S5x1024 : Shape := ⟨2, ![5, 1024]⟩
abbrev S8x1024 : Shape := ⟨2, ![8, 1024]⟩
abbrev S1x256 : Shape := ⟨2, ![1, 256]⟩
abbrev S7x256 : Shape := ⟨2, ![7, 256]⟩
abbrev S8x256 : Shape := ⟨2, ![8, 256]⟩
abbrev S8192x32 : Shape := ⟨2, ![8192, 32]⟩
abbrev S8192x64 : Shape := ⟨2, ![8192, 64]⟩
abbrev S8192x384 : Shape := ⟨2, ![8192, 384]⟩
abbrev S512x2048 : Shape := ⟨2, ![512, 2048]⟩
abbrev S512x1024 : Shape := ⟨2, ![512, 1024]⟩
abbrev S512x256 : Shape := ⟨2, ![512, 256]⟩
abbrev S512x384 : Shape := ⟨2, ![512, 384]⟩
abbrev S512x128 : Shape := ⟨2, ![512, 128]⟩
abbrev S512 : Shape := ⟨1, ![512]⟩
abbrev S512x1 : Shape := ⟨2, ![512, 1]⟩

abbrev nBuf : Space → Nat
  | .hbm => 81
  | .vmem => 24
  | .smem => 0
  | _ => 0

abbrev bufTy : (tb : Table) → Fin (tcTables nBuf tb) → BufTy
  | .hbm, ⟨0, _⟩ => ⟨S8192x16x96, .f32⟩
  | .hbm, ⟨1, _⟩ => ⟨S8192x16x64, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x288, .f32⟩
  | .hbm, ⟨8, _⟩ => ⟨S256, .f32⟩
  | .hbm, ⟨9, _⟩ => ⟨S256x2048, .f32⟩
  | .hbm, ⟨10, _⟩ => ⟨S8192x16, .f32⟩
  | .hbm, ⟨11, _⟩ => ⟨S8192x16, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1024x256, .f32⟩
  | .hbm, ⟨38, _⟩ => ⟨S8192x256, .f32⟩
  | .hbm, ⟨39, _⟩ => ⟨S1024x288, .bf16⟩
  | .hbm, ⟨40, _⟩ => ⟨S1024x256, .bf16⟩
  | .hbm, ⟨41, _⟩ => ⟨S_, .bf16⟩
  | .hbm, ⟨42, _⟩ => ⟨S1024x64, .bf16⟩
  | .hbm, ⟨43, _⟩ => ⟨S1024x32, .bf16⟩
  | .hbm, ⟨44, _⟩ => ⟨S_, .bf16⟩
  | .hbm, ⟨45, _⟩ => ⟨S1024x32, .bf16⟩
  | .hbm, ⟨46, _⟩ => ⟨S1024x384, .bf16⟩
  | .hbm, ⟨47, _⟩ => ⟨S_, .i32⟩
  | .hbm, ⟨48, _⟩ => ⟨S_, .f32⟩
  | .hbm, ⟨49, _⟩ => ⟨S8192x16x128, .f32⟩
  | .hbm, ⟨50, _⟩ => ⟨S8192x2048, .f32⟩
  | .hbm, ⟨51, _⟩ => ⟨S_, .i32⟩
  | .hbm, ⟨52, _⟩ => ⟨S_, .f32⟩
  | .hbm, ⟨53, _⟩ => ⟨S8192x16x128, .f32⟩
  | .hbm, ⟨54, _⟩ => ⟨S8192x2048, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S5x1024, .f32⟩
  | .hbm, ⟨60, _⟩ => ⟨S8x1024, .f32⟩
  | .hbm, ⟨61, _⟩ => ⟨S1x256, .f32⟩
  | .hbm, ⟨62, _⟩ => ⟨S_, .f32⟩
  | .hbm, ⟨63, _⟩ => ⟨S7x256, .f32⟩
  | .hbm, ⟨64, _⟩ => ⟨S8x256, .f32⟩
  | .hbm, ⟨65, _⟩ => ⟨S256x2048, .bf16⟩
  | .hbm, ⟨66, _⟩ => ⟨S_, .f32⟩
  | .hbm, ⟨67, _⟩ => ⟨S8192x16, .f32⟩
  | .hbm, ⟨68, _⟩ => ⟨S_, .f32⟩
  | .hbm, ⟨69, _⟩ => ⟨S8192x32, .f32⟩
  | .hbm, ⟨70, _⟩ => ⟨S_, .f32⟩
  | .hbm, ⟨71, _⟩ => ⟨S8192x64, .f32⟩
  | .hbm, ⟨72, _⟩ => ⟨S_, .f32⟩
  | .hbm, ⟨73, _⟩ => ⟨S8192x64, .f32⟩
  | .hbm, ⟨74, _⟩ => ⟨S8192x16, .f32⟩
  | .hbm, ⟨75, _⟩ => ⟨S8192x384, .f32⟩
  | .hbm, ⟨76, _⟩ => ⟨S8192x1024, .f32⟩
  | .hbm, ⟨77, _⟩ => ⟨S8192x384, .bf16⟩
  | .hbm, ⟨78, _⟩ => ⟨S8192x2048, .bf16⟩
  | .hbm, ⟨79, _⟩ => ⟨S8x1024, .f32⟩
  | .hbm, ⟨80, _⟩ => ⟨S8x256, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S1024x384, .bf16⟩
  | .local _ .vmem, ⟨12, _⟩ => ⟨S8x256, .f32⟩
  | .local _ .vmem, ⟨13, _⟩ => ⟨S256x2048, .bf16⟩
  | .local _ .vmem, ⟨14, _⟩ => ⟨S512x384, .f32⟩
  | .local _ .vmem, ⟨15, _⟩ => ⟨S512x384, .f32⟩
  | .local _ .vmem, ⟨16, _⟩ => ⟨S512x1024, .f32⟩
  | .local _ .vmem, ⟨17, _⟩ => ⟨S512x1024, .f32⟩
  | .local _ .vmem, ⟨18, _⟩ => ⟨S512x384, .bf16⟩
  | .local _ .vmem, ⟨19, _⟩ => ⟨S512x384, .bf16⟩
  | .local _ .vmem, ⟨20, _⟩ => ⟨S512x2048, .bf16⟩
  | .local _ .vmem, ⟨21, _⟩ => ⟨S512x2048, .bf16⟩
  | .local _ .vmem, ⟨22, _⟩ => ⟨S8x1024, .f32⟩
  | .local _ .vmem, ⟨23, _⟩ => ⟨S8x256, .f32⟩
  | _, _ => ⟨S8192x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48_0 : Ref sig .tc := ⟨.hbm, 76, rfl⟩
abbrev main_v48_1 : Ref sig .tc := ⟨.hbm, 77, rfl⟩
abbrev main_v48_2 : Ref sig .tc := ⟨.hbm, 78, rfl⟩
abbrev main_v48_3 : Ref sig .tc := ⟨.hbm, 79, rfl⟩
abbrev main_v48_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KvBwdRefIdeal.lean ====
abbrev S8192x16x96 : Shape := ⟨3, ![8192, 16, 96]⟩
abbrev S8192x16x64 : Shape := ⟨3, ![8192, 16, 64]⟩
abbrev S8192x1024 : Shape := ⟨2, ![8192, 1024]⟩
abbrev S1024 : Shape := ⟨1, ![1024]⟩
abbrev S1024x288 : Shape := ⟨2, ![1024, 288]⟩
abbrev S256 : Shape := ⟨1, ![256]⟩
abbrev S256x2048 : Shape := ⟨2, ![256, 2048]⟩
abbrev S8192x16 : Shape := ⟨2, ![8192, 16]⟩
abbrev S_ : Shape := ⟨0, ![]⟩
abbrev S8192x288 : Shape := ⟨2, ![8192, 288]⟩
abbrev S8192x2048 : Shape := ⟨2, ![8192, 2048]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S8192x32 : Shape := ⟨2, ![8192, 32]⟩
abbrev S1x256 : Shape := ⟨2, ![1, 256]⟩
abbrev S8192x16x128 : Shape := ⟨3, ![8192, 16, 128]⟩
abbrev S8192x1x32 : Shape := ⟨3, ![8192, 1, 32]⟩
abbrev S8192x16x32 : Shape := ⟨3, ![8192, 16, 32]⟩
abbrev S8192x64 : Shape := ⟨2, ![8192, 64]⟩
abbrev S8192x384 : Shape := ⟨2, ![8192, 384]⟩
abbrev S5x1024 : Shape := ⟨2, ![5, 1024]⟩
abbrev S8x1024 : Shape := ⟨2, ![8, 1024]⟩
abbrev S7x256 : Shape := ⟨2, ![7, 256]⟩
abbrev S8x256 : Shape := ⟨2, ![8, 256]⟩

abbrev nBuf : Space → Nat
  | .hbm => 191
  | .vmem => 0
  | .smem => 0
  | _ => 0

abbrev hbmTy0_0 (i : Nat) : BufTy := match i % 128 with
  | 0 => ⟨S8192x16x96, .f32⟩
  | 1 => ⟨S8192x16x64, .f32⟩
  | 2 => ⟨S8192x1024, .f32⟩
  | 3 => ⟨S8192x1024, .f32⟩
  | 4 => ⟨S1024, .f32⟩
  | 5 => ⟨S1024, .f32⟩
  | 6 => ⟨S1024, .f32⟩
  | 7 => ⟨S1024x288, .f32⟩
  | 8 => ⟨S256, .f32⟩
  | 9 => ⟨S256x2048, .f32⟩
  | 10 => ⟨S8192x16, .f32⟩
  | 11 => ⟨S8192x16, .f32⟩
  | 12 => ⟨S_, .f32⟩
  | 13 => ⟨S8192x288, .f32⟩
  | 14 => ⟨S_, .f32⟩
  | 15 => ⟨S8192x2048, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S1x1024, .f32⟩
  | 37 => ⟨S_, .f32⟩
  | 38 => ⟨S1x1024, .f32⟩
  | 39 => ⟨S1x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x288, .f32⟩
  | 46 => ⟨S8192x288, .f32⟩
  | 47 => ⟨S8192x256, .f32⟩
  | 48 => ⟨S8192x32, .f32⟩
  | 49 => ⟨S8192x256, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x256, .f32⟩
  | 65 => ⟨S8192x256, .f32⟩
  | 66 => ⟨S1x256, .f32⟩
  | 67 => ⟨S8192x256, .f32⟩
  | 68 => ⟨S8192x256, .f32⟩
  | 69 => ⟨S8192x2048, .f32⟩
  | 70 => ⟨S8192x2048, .f32⟩
  | 71 => ⟨S8192x16x128, .f32⟩
  | 72 => ⟨S8192x16x64, .f32⟩
  | 73 => ⟨S8192x16x64, .f32⟩
  | 74 => ⟨S8192x16, .f32⟩
  | 75 => ⟨S8192x16, .f32⟩
  | 76 => ⟨S8192x16, .f32⟩
  | 77 => ⟨S8192x16, .f32⟩
  | 78 => ⟨S8192x16, .f32⟩
  | 79 => ⟨S8192x16, .f32⟩
  | 80 => ⟨S8192x16, .f32⟩
  | 81 => ⟨S8192x16, .f32⟩
  | 82 => ⟨S8192x32, .f32⟩
  | 83 => ⟨S8192x1x32, .f32⟩
  | 84 => ⟨S8192x16x32, .f32⟩
  | 85 => ⟨S8192x16x96, .f32⟩
  | 86 => ⟨S8192x16x64, .f32⟩
  | 87 => ⟨S8192x16x32, .f32⟩
  | 88 => ⟨S_, .f32⟩
  | 89 => ⟨S8192x32, .f32⟩
  | 90 => ⟨S8192x1x32, .f32⟩
  | 91 => ⟨S_, .f32⟩
  | 92 => ⟨S8192x32, .f32⟩
  | 93 => ⟨S8192x16, .f32⟩
  | 94 => ⟨S8192x16, .f32⟩
  | 95 => ⟨S8192x16, .f32⟩
  | 96 => ⟨S8192x16, .f32⟩
  | 97 => ⟨S8192x16, .f32⟩
  | 98 => ⟨S8192x16, .f32⟩
  | 99 => ⟨S8192x16, .f32⟩
  | 100 => ⟨S8192x16, .f32⟩
  | 101 => ⟨S8192x16, .f32⟩
  | 102 => ⟨S8192x32, .f32⟩
  | 103 => ⟨S8192x16x128, .f32⟩
  | 104 => ⟨S8192x2048, .f32⟩
  | 105 => ⟨S8192x256, .f32⟩
  | 106 => ⟨S8192x256, .f32⟩
  | 107 => ⟨S_, .f32⟩
  | 108 => ⟨S256, .f32⟩
  | 109 => ⟨S1x256, .f32⟩
  | 110 => ⟨S8192x256, .f32⟩
  | 111 => ⟨S8192x256, .f32⟩
  | 112 => ⟨S_, .f32⟩
  | 113 => ⟨S256, .f32⟩
  | 114 => ⟨S8192x256, .f32⟩
  | 115 => ⟨S_, .f32⟩
  | 116 => ⟨S8192, .f32⟩
  | 117 => ⟨S8192x1, .f32⟩
  | 118 => ⟨S8192x256, .f32⟩
  | 119 => ⟨S8192x256, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x256, .f32⟩
  | 127 => ⟨S8192x256, .f32⟩
  | _ => ⟨S8192x16x96, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x288, .f32⟩
  | 4 => ⟨S8192x1024, .f32⟩
  | 5 => ⟨S_, .f32⟩
  | 6 => ⟨S1024, .f32⟩
  | 7 => ⟨S1x1024, .f32⟩
  | 8 => ⟨S_, .f32⟩
  | 9 => ⟨S1024, .f32⟩
  | 10 => ⟨S8192x1024, .f32⟩
  | 11 => ⟨S_, .f32⟩
  | 12 => ⟨S1024, .f32⟩
  | 13 => ⟨S1x1024, .f32⟩
  | 14 => ⟨S8192x1024, .f32⟩
  | 15 => ⟨S8192x1024, .f32⟩
  | 16 => ⟨S_, .f32⟩
  | 17 => ⟨S1024, .f32⟩
  | 18 => ⟨S8192x1024, .f32⟩
  | 19 => ⟨S_, .f32⟩
  | 20 => ⟨S1024, .f32⟩
  | 21 => ⟨S1x1024, .f32⟩
  | 22 => ⟨S8192x1024, .f32⟩
  | 23 => ⟨S8192x1024, .f32⟩
  | 24 => ⟨S_, .f32⟩
  | 25 => ⟨S1024, .f32⟩
  | 26 => ⟨S8192x1024, .f32⟩
  | 27 => ⟨S_, .f32⟩
  | 28 => ⟨S8192, .f32⟩
  | 29 => ⟨S8192x1, .f32⟩
  | 30 => ⟨S8192x1024, .f32⟩
  | 31 => ⟨S8192x1024, .f32⟩
  | 32 => ⟨S8192x1024, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x256, .f32⟩
  | 45 => ⟨S_, .f32⟩
  | 46 => ⟨S8192x64, .f32⟩
  | 47 => ⟨S8192x32, .f32⟩
  | 48 => ⟨S_, .f32⟩
  | 49 => ⟨S8192x32, .f32⟩
  | 50 => ⟨S8192x384, .f32⟩
  | 51 => ⟨S8192x384, .bf16⟩
  | 52 => ⟨S8192x2048, .bf16⟩
  | 53 => ⟨S1x1024, .f32⟩
  | 54 => ⟨S1x1024, .f32⟩
  | 55 => ⟨S1x1024, .f32⟩
  | 56 => ⟨S_, .f32⟩
  | 57 => ⟨S5x1024, .f32⟩
  | 58 => ⟨S8x1024, .f32⟩
  | 59 => ⟨S1x256, .f32⟩
  | 60 => ⟨S_, .f32⟩
  | 61 => ⟨S7x256, .f32⟩
  | 62 => ⟨S8x256, .f32⟩
  | _ => ⟨S8192x16x96, .f32⟩

abbrev hbmTy (i : Nat) : BufTy := match i / 128 with
  | 0 => hbmTy0_0 i
  | 1 => hbmTy0_1 i
  | _ => ⟨S8192x16x96, .f32⟩

abbrev bufTy : (tb : Table) → Fin (tcTables nBuf tb) → BufTy
  | .hbm, ⟨i, _⟩ => hbmTy i
  | _, _ => ⟨S8192x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_13 : Ref sig .tc := ⟨.hbm, 112, rfl⟩
abbrev main_v86 : Ref sig .tc := ⟨.hbm, 113, rfl⟩
abbrev main_v87 : Ref sig .tc := ⟨.hbm, 114, rfl⟩
abbrev main_cst_14 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_15 : Ref sig .tc := ⟨.hbm, 121, rfl⟩
abbrev main_v93 : Ref sig .tc := ⟨.hbm, 122, rfl⟩
abbrev main_v94 : Ref sig .tc := ⟨.hbm, 123, rfl⟩
abbrev main_cst_16 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_17 : Ref sig .tc := ⟨.hbm, 133, rfl⟩
abbrev main_v103 : Ref sig .tc := ⟨.hbm, 134, rfl⟩
abbrev main_v104 : Ref sig .tc := ⟨.hbm, 135, rfl⟩
abbrev main_cst_18 : Ref sig .tc := ⟨.hbm, 136, rfl⟩
abbrev main_v105 : Ref sig .tc := ⟨.hbm, 137, rfl⟩
abbrev main_v106 : Ref sig .tc := ⟨.hbm, 138, rfl⟩
abbrev main_cst_19 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_20 : Ref sig .tc := ⟨.hbm, 144, rfl⟩
abbrev main_v111 : Ref sig .tc := ⟨.hbm, 145, rfl⟩
abbrev main_v112 : Ref sig .tc := ⟨.hbm, 146, rfl⟩
abbrev main_cst_21 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_22 : Ref sig .tc := ⟨.hbm, 152, rfl⟩
abbrev main_v117 : Ref sig .tc := ⟨.hbm, 153, rfl⟩
abbrev main_v118 : Ref sig .tc := ⟨.hbm, 154, rfl⟩
abbrev main_cst_23 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_24 : Ref sig .tc := ⟨.hbm, 162, rfl⟩
abbrev main_v125 : Ref sig .tc := ⟨.hbm, 163, rfl⟩
abbrev main_v126 : Ref sig .tc := ⟨.hbm, 164, rfl⟩
abbrev main_cst_25 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_26 : Ref sig .tc := ⟨.hbm, 173, rfl⟩
abbrev main_v134 : Ref sig .tc := ⟨.hbm, 174, rfl⟩
abbrev main_v135 : Ref sig .tc := ⟨.hbm, 175, rfl⟩
abbrev main_cst_27 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_28 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_29 : Ref sig .tc := ⟨.hbm, 188, rfl⟩
abbrev main_v146 : Ref sig .tc := ⟨.hbm, 189, rfl⟩
abbrev main_v147 : Ref sig .tc := ⟨.hbm, 190, rfl⟩

abbrev nD : Nat := 1
abbrev τ : Topo := Topo.v7x

variable {F : FTy → Type} [FloatOps F]
-- ==== AttnBwd.lean ====
abbrev S8192x16x96 : Shape := ⟨3, ![8192, 16, 96]⟩
abbrev S8192x16x64 : Shape := ⟨3, ![8192, 16, 64]⟩
abbrev S_ : Shape := ⟨0, ![]⟩
abbrev S16x8192x8192 : Shape := ⟨3, ![16, 8192, 8192]⟩
abbrev S8192x8192 : Shape := ⟨2, ![8192, 8192]⟩
abbrev S16x8192 : Shape := ⟨2, ![16, 8192]⟩
abbrev S16x8192x1 : Shape := ⟨3, ![16, 8192, 1]⟩
abbrev S16x64x8192 : Shape := ⟨3, ![16, 64, 8192]⟩
abbrev S8192x16 : Shape := ⟨2, ![8192, 16]⟩
abbrev S8192x16x1 : Shape := ⟨3, ![8192, 16, 1]⟩
abbrev S8192x16x128 : Shape := ⟨3, ![8192, 16, 128]⟩
abbrev S8192x2048 : Shape := ⟨2, ![8192, 2048]⟩
abbrev S8192x128 : Shape := ⟨2, ![8192, 128]⟩
abbrev S1x8192x1 : Shape := ⟨3, ![1, 8192, 1]⟩
abbrev S1024x128 : Shape := ⟨2, ![1024, 128]⟩
abbrev S256x128 : Shape := ⟨2, ![256, 128]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S256x1024 : Shape := ⟨2, ![256, 1024]⟩
abbrev S1x256x1 : Shape := ⟨3, ![1, 256, 1]⟩
abbrev S256x1 : Shape := ⟨2, ![256, 1]⟩
abbrev S512x1024 : Shape := ⟨2, ![512, 1024]⟩
abbrev S1x512x1 : Shape := ⟨3, ![1, 512, 1]⟩
abbrev S512x1 : Shape := ⟨2, ![512, 1]⟩

abbrev nBuf : Space → Nat
  | .hbm => 77
  | .vmem => 20
  | .smem => 0
  | _ => 0

abbrev bufTy : (tb : Table) → Fin (tcTables nBuf tb) → BufTy
  | .hbm, ⟨0, _⟩ => ⟨S8192x16x96, .f32⟩
  | .hbm, ⟨1, _⟩ => ⟨S8192x16x96, .f32⟩
  | .hbm, ⟨2, _⟩ => ⟨S8192x16x64, .f32⟩
  | .hbm, ⟨3, _⟩ => ⟨S8192x16x64, .f32⟩
  | .hbm, ⟨4, _⟩ => ⟨S_, .f32⟩
  | .hbm, ⟨5, _⟩ => ⟨S_, .f32⟩
  | .hbm, ⟨6, _⟩ => ⟨S16x8192x8192, .f32⟩
  | .hbm, ⟨7, _⟩ => ⟨S_, .f32⟩
  | .hbm, ⟨8, _⟩ => ⟨S16x8192x8192, .f32⟩
  | .hbm, ⟨9, _⟩ => ⟨S16x8192x8192, .f32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S16x8192x8192, .i1⟩
  | .hbm, ⟨16, _⟩ => ⟨S16x8192x8192, .f32⟩
  | .hbm, ⟨17, _⟩ => ⟨S16x8192x8192, .f32⟩
  | .hbm, ⟨18, _⟩ => ⟨S_, .f32⟩
  | .hbm, ⟨19, _⟩ => ⟨S16x8192, .f32⟩
  | .hbm, ⟨20, _⟩ => ⟨S16x8192x1, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192, .f32⟩
  | .hbm, ⟨26, _⟩ => ⟨S16x8192x1, .f32⟩
  | .hbm, ⟨27, _⟩ => ⟨S16x8192x8192, .f32⟩
  | .hbm, ⟨28, _⟩ => ⟨S16x8192x8192, .f32⟩
  | .hbm, ⟨29, _⟩ => ⟨S16x64x8192, .f32⟩
  | .hbm, ⟨30, _⟩ => ⟨S8192x16x64, .f32⟩
  | .hbm, ⟨31, _⟩ => ⟨S16x8192x1, .f32⟩
  | .hbm, ⟨32, _⟩ => ⟨S16x8192x1, .f32⟩
  | .hbm, ⟨33, _⟩ => ⟨S16x8192x1, .f32⟩
  | .hbm, ⟨34, _⟩ => ⟨S16x8192x1, .f32⟩
  | .hbm, ⟨35, _⟩ => ⟨S16x8192x1, .f32⟩
  | .hbm, ⟨36, _⟩ => ⟨S16x8192x1, .f32⟩
  | .hbm, ⟨37, _⟩ => ⟨S8192x16x64, .f32⟩
  | .hbm, ⟨38, _⟩ => ⟨S_, .f32⟩
  | .hbm, ⟨39, _⟩ => ⟨S8192x16, .f32⟩
  | .hbm, ⟨40, _⟩ => ⟨S8192x16x1, .f32⟩
  | .hbm, ⟨41, _⟩ => ⟨S16x8192x1, .f32⟩
  | .hbm, ⟨42, _⟩ => ⟨S_, .f32⟩
  | .hbm, ⟨43, _⟩ => ⟨S_, .f32⟩
  | .hbm, ⟨44, _⟩ => ⟨S8192x16x96, .f32⟩
  | .hbm, ⟨45, _⟩ => ⟨S8192x16x96, .f32⟩
  | .hbm, ⟨46, _⟩ => ⟨S_, .i32⟩
  | .hbm, ⟨47, _⟩ => ⟨S_, .f32⟩
  | .hbm, ⟨48, _⟩ => ⟨S8192x16x128, .f32⟩
  | .hbm, ⟨49, _⟩ => ⟨S8192x2048, .f32⟩
  | .hbm, ⟨50, _⟩ => ⟨S8192x2048, .bf16⟩
  | .hbm, ⟨51, _⟩ => ⟨S_, .i32⟩
  | .hbm, ⟨52, _⟩ => ⟨S_, .f32⟩
  | .hbm, ⟨53, _⟩ => ⟨S8192x16x128, .f32⟩
  | .hbm, ⟨54, _⟩ => ⟨S8192x2048, .f32⟩
  | .hbm, ⟨55, _⟩ => ⟨S8192x2048, .bf16⟩
  | .hbm, ⟨56, _⟩ => ⟨S8192x16x64, .i32⟩
  | .hbm, ⟨57, _⟩ => ⟨S_, .i32⟩
  | .hbm, ⟨58, _⟩ => ⟨S8192x16x64, .i32⟩
  | .hbm, ⟨59, _⟩ => ⟨S8192x16x64, .i1⟩
  | .hbm, ⟨60, _⟩ => ⟨S_, .f32⟩
  | .hbm, ⟨61, _⟩ => ⟨S_, .f32⟩
  | .hbm, ⟨62, _⟩ => ⟨S8192x16x64, .f32⟩
  | .hbm, ⟨63, _⟩ => ⟨S8192x16x64, .f32⟩
  | .hbm, ⟨64, _⟩ => ⟨S8192x16x64, .f32⟩
  | .hbm, ⟨65, _⟩ => ⟨S8192x16x64, .f32⟩
  | .hbm, ⟨66, _⟩ => ⟨S8192x16x128, .f32⟩
  | .hbm, ⟨67, _⟩ => ⟨S8192x2048, .f32⟩
  | .hbm, ⟨68, _⟩ => ⟨S8192x2048, .bf16⟩
  | .hbm, ⟨69, _⟩ => ⟨S_, .i32⟩
  | .hbm, ⟨70, _⟩ => ⟨S_, .f32⟩
  | .hbm, ⟨71, _⟩ => ⟨S8192x16x128, .f32⟩
  | .hbm, ⟨72, _⟩ => ⟨S8192x2048, .f32⟩
  | .hbm, ⟨73, _⟩ => ⟨S8192x2048, .bf16⟩
  | .hbm, ⟨74, _⟩ => ⟨S8192x2048, .f32⟩
  | .hbm, ⟨75, _⟩ => ⟨S8192x2048, .f32⟩
  | .hbm, ⟨76, _⟩ => ⟨S8192x2048, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S1x8192x1, .f32⟩
  | .local _ .vmem, ⟨5, _⟩ => ⟨S1x8192x1, .f32⟩
  | .local _ .vmem, ⟨6, _⟩ => ⟨S1x8192x1, .f32⟩
  | .local _ .vmem, ⟨7, _⟩ => ⟨S1x8192x1, .f32⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S8192x128, .f32⟩
  | .local _ .vmem, ⟨13, _⟩ => ⟨S8192x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S8192x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_call2_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_call4_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v49_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v15 : BitVec 32 := Scalar.muli arg1 c1024_i32
  let c0_i32_9 : BitVec 32 := 0#32
  let v16 : BitVec 32 := Scalar.addi v15 c0_i32_9
  v16
def k0_mult2 (i : grid0.Coords) : BitVec 32 :=
  let arg1 : BitVec 32 := BitVec.ofNat 32 (i 1).val
  let c1024_i32_10 : BitVec 32 := 1024#32
  let v18 : BitVec 32 := Scalar.muli arg1 c1024_i32_10
  let c256_i32 : BitVec 32 := 256#32
  let v19 : BitVec 32 := Scalar.addi v18 c256_i32
  v19
def k0_mult3 (i : grid0.Coords) : BitVec 32 :=
  let arg1 : BitVec 32 := BitVec.ofNat 32 (i 1).val
  let c1024_i32_11 : BitVec 32 := 1024#32
  let v21 : BitVec 32 := Scalar.muli arg1 c1024_i32_11
  let c512_i32 : BitVec 32 := 512#32
  let v22 : BitVec 32 := Scalar.addi v21 c512_i32
  v22
def k0_mult4 (i : grid0.Coords) : BitVec 32 :=
  let arg1 : BitVec 32 := BitVec.ofNat 32 (i 1).val
  let c1024_i32_12 : BitVec 32 := 1024#32
  let v24 : BitVec 32 := Scalar.muli arg1 c1024_i32_12
  let c768_i32 : BitVec 32 := 768#32
  let v25 : BitVec 32 := Scalar.addi v24 c768_i32
  v25
def k0_off1 (i : grid0.Coords) (c0_i32_9 : BitVec 32) : Fin 2 → Nat :=
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v27 : Index := Scalar.indexCast v17
  let c0_13 : Index := 0#32
  ![v27.toNat, 0]
def k0_off2 (i : grid0.Coords) (c0_i32_9 : BitVec 32) : Fin 3 → Nat :=
  let c0_29 : Index := 0#32
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v65 : Index := Scalar.indexCast v17
  let c0_30 : Index := 0#32
  ![0, v65.toNat, 0]
@[reducible] def k0_t1_loop (i : grid0.Coords) : Scf.Loop 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_111 : BitVec 32 := 1#32
  ⟨v236, v241, c1_i32_111⟩
def k0_mult5 (i : grid0.Coords) (k0_t1 : Fin (k0_t1_loop i).trips) : BitVec 32 :=
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_122 : BitVec 32 := 1024#32
  let v248 : BitVec 32 := Scalar.muli arg13 c1024_i32_122
  let c0_i32_123 : BitVec 32 := 0#32
  let v249 : BitVec 32 := Scalar.addi v248 c0_i32_123
  v249
def k0_mult6 (i : grid0.Coords) (k0_t1 : Fin (k0_t1_loop i).trips) : BitVec 32 :=
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_124 : BitVec 32 := 1024#32
  let v251 : BitVec 32 := Scalar.muli arg13 c1024_i32_124
  let c512_i32_125 : BitVec 32 := 512#32
  let v252 : BitVec 32 := Scalar.addi v251 c512_i32_125
  v252
def k0_off3 (i : grid0.Coords) (k0_t1 : Fin (k0_t1_loop i).trips) (c0_i32_123 : BitVec 32) : Fin 2 → Nat :=
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_122 : BitVec 32 := 1024#32
  let v248 : BitVec 32 := Scalar.muli arg13 c1024_i32_122
  let v249 : BitVec 32 := Scalar.addi v248 c0_i32_123
  let v250 : BitVec 32 := v249
  let v254 : Index := Scalar.indexCast v250
  let c0_126 : Index := 0#32
  ![v254.toNat, 0]
def k0_off4 (i : grid0.Coords) (k0_t1 : Fin (k0_t1_loop i).trips) (c0_i32_123 : BitVec 32) : Fin 3 → Nat :=
  let c0_134 : Index := 0#32
  let arg1 : BitVec 32 := BitVec.ofNat 32 (i 1).val
  let c1_i32 : BitVec 32 := 1#32
  let v236 : BitVec 32 := Scalar.addi arg1 c1_i32
  let c1_i32_111 : BitVec 32 := 1#32
  let arg13 : BitVec 32 := Scf.iv v236 c1_i32_111 k0_t1
  let c1024_i32_122 : BitVec 32 := 1024#32
  let v248 : BitVec 32 := Scalar.muli arg13 c1024_i32_122
  let v249 : BitVec 32 := Scalar.addi v248 c0_i32_123
  let v250 : BitVec 32 := v249
  let v270 : Index := Scalar.indexCast v250
  let c0_135 : Index := 0#32
  ![0, v270.toNat, 0]
@[reducible] def k0_t2_loop (i : grid0.Coords) : Scf.Loop 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let v238 : BitVec 32 := Scalar.addi v236 v237
  let c1_i32_112 : BitVec 32 := 1#32
  ⟨v241, v238, c1_i32_112⟩
def k0_mult7 (i : grid0.Coords) (k0_t2 : Fin (k0_t2_loop i).trips) : BitVec 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_122 : BitVec 32 := 1024#32
  let v248 : BitVec 32 := Scalar.muli arg13 c1024_i32_122
  let c0_i32_123 : BitVec 32 := 0#32
  let v249 : BitVec 32 := Scalar.addi v248 c0_i32_123
  v249
def k0_mult8 (i : grid0.Coords) (k0_t2 : Fin (k0_t2_loop i).trips) : BitVec 32 :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_124 : BitVec 32 := 1024#32
  let v251 : BitVec 32 := Scalar.muli arg13 c1024_i32_124
  let c512_i32_125 : BitVec 32 := 512#32
  let v252 : BitVec 32 := Scalar.addi v251 c512_i32_125
  v252
def k0_off5 (i : grid0.Coords) (k0_t2 : Fin (k0_t2_loop i).trips) (c0_i32_123 : BitVec 32) : Fin 2 → Nat :=
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_122 : BitVec 32 := 1024#32
  let v248 : BitVec 32 := Scalar.muli arg13 c1024_i32_122
  let v249 : BitVec 32 := Scalar.addi v248 c0_i32_123
  let v250 : BitVec 32 := v249
  let v254 : Index := Scalar.indexCast v250
  let c0_126 : Index := 0#32
  ![v254.toNat, 0]
def k0_off6 (i : grid0.Coords) (k0_t2 : Fin (k0_t2_loop i).trips) (c0_i32_123 : BitVec 32) : Fin 3 → Nat :=
  let c0_134 : Index := 0#32
  let arg1 : BitVec 32 := BitVec.ofNat 32 (i 1).val
  let c1_i32 : BitVec 32 := 1#32
  let v236 : BitVec 32 := Scalar.addi arg1 c1_i32
  let c8_i32 : BitVec 32 := 8#32
  let v237 : BitVec 32 := Scalar.subi c8_i32 v236
  let c1_i32_110 : BitVec 32 := 1#32
  let v239 : BitVec 32 := Scalar.divsi v237 c1_i32_110
  let v240 : BitVec 32 := Scalar.muli v239 c1_i32_110
  let v241 : BitVec 32 := Scalar.addi v236 v240
  let c1_i32_112 : BitVec 32 := 1#32
  let arg13 : BitVec 32 := Scf.iv v241 c1_i32_112 k0_t2
  let c1024_i32_122 : BitVec 32 := 1024#32
  let v248 : BitVec 32 := Scalar.muli arg13 c1024_i32_122
  let v249 : BitVec 32 := Scalar.addi v248 c0_i32_123
  let v250 : BitVec 32 := v249
  let v270 : Index := Scalar.indexCast v250
  let c0_135 : Index := 0#32
  ![0, v270.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "ln2" => some ((Real.log 2 : ℝ) : EReal)
  | _ => none
-- ==== AttnBwdRefIdeal.lean ====
abbrev S8192x16x96 : Shape := ⟨3, ![8192, 16, 96]⟩
abbrev S8192x16x64 : Shape := ⟨3, ![8192, 16, 64]⟩
abbrev S16x8192x8192 : Shape := ⟨3, ![16, 8192, 8192]⟩
abbrev S_ : Shape := ⟨0, ![]⟩
abbrev S8192x8192 : Shape := ⟨2, ![8192, 8192]⟩
abbrev S16x8192 : Shape := ⟨2, ![16, 8192]⟩
abbrev S16x8192x1 : Shape := ⟨3, ![16, 8192, 1]⟩
abbrev S16x64x8192 : Shape := ⟨3, ![16, 64, 8192]⟩
abbrev S16x8192x96 : Shape := ⟨3, ![16, 8192, 96]⟩
abbrev S8192x16x128 : Shape := ⟨3, ![8192, 16, 128]⟩
abbrev S8192x2048 : Shape := ⟨2, ![8192, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8192x16x96, .f32⟩
  | .hbm, ⟨1, _⟩ => ⟨S8192x16x96, .f32⟩
  | .hbm, ⟨2, _⟩ => ⟨S8192x16x64, .f32⟩
  | .hbm, ⟨3, _⟩ => ⟨S8192x16x64, .f32⟩
  | .hbm, ⟨4, _⟩ => ⟨S16x8192x8192, .f32⟩
  | .hbm, ⟨5, _⟩ => ⟨S_, .f32⟩
  | .hbm, ⟨6, _⟩ => ⟨S16x8192x8192, .f32⟩
  | .hbm, ⟨7, _⟩ => ⟨S16x8192x8192, .f32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S_, .f32⟩
  | .hbm, ⟨12, _⟩ => ⟨S_, .f32⟩
  | .hbm, ⟨13, _⟩ => ⟨S16x8192x8192, .i1⟩
  | .hbm, ⟨14, _⟩ => ⟨S16x8192x8192, .f32⟩
  | .hbm, ⟨15, _⟩ => ⟨S16x8192x8192, .f32⟩
  | .hbm, ⟨16, _⟩ => ⟨S_, .f32⟩
  | .hbm, ⟨17, _⟩ => ⟨S16x8192x8192, .f32⟩
  | .hbm, ⟨18, _⟩ => ⟨S_, .f32⟩
  | .hbm, ⟨19, _⟩ => ⟨S16x8192, .f32⟩
  | .hbm, ⟨20, _⟩ => ⟨S16x8192x1, .f32⟩
  | .hbm, ⟨21, _⟩ => ⟨S16x8192x8192, .f32⟩
  | .hbm, ⟨22, _⟩ => ⟨S16x8192x8192, .i1⟩
  | .hbm, ⟨23, _⟩ => ⟨S16x8192x8192, .f32⟩
  | .hbm, ⟨24, _⟩ => ⟨S_, .f32⟩
  | .hbm, ⟨25, _⟩ => ⟨S16x8192, .f32⟩
  | .hbm, ⟨26, _⟩ => ⟨S_, .f32⟩
  | .hbm, ⟨27, _⟩ => ⟨S16x8192, .f32⟩
  | .hbm, ⟨28, _⟩ => ⟨S16x8192, .f32⟩
  | .hbm, ⟨29, _⟩ => ⟨S_, .f32⟩
  | .hbm, ⟨30, _⟩ => ⟨S16x8192, .f32⟩
  | .hbm, ⟨31, _⟩ => ⟨S16x8192, .i1⟩
  | .hbm, ⟨32, _⟩ => ⟨S_, .f32⟩
  | .hbm, ⟨33, _⟩ => ⟨S16x8192, .f32⟩
  | .hbm, ⟨34, _⟩ => ⟨S16x8192, .i1⟩
  | .hbm, ⟨35, _⟩ => ⟨S_, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .f32⟩
  | .hbm, ⟨42, _⟩ => ⟨S16x8192, .f32⟩
  | .hbm, ⟨43, _⟩ => ⟨S16x8192x1, .f32⟩
  | .hbm, ⟨44, _⟩ => ⟨S16x8192x8192, .f32⟩
  | .hbm, ⟨45, _⟩ => ⟨S16x8192x8192, .f32⟩
  | .hbm, ⟨46, _⟩ => ⟨S16x8192x8192, .f32⟩
  | .hbm, ⟨47, _⟩ => ⟨S_, .f32⟩
  | .hbm, ⟨48, _⟩ => ⟨S16x8192, .f32⟩
  | .hbm, ⟨49, _⟩ => ⟨S16x8192x1, .f32⟩
  | .hbm, ⟨50, _⟩ => ⟨S16x8192x8192, .f32⟩
  | .hbm, ⟨51, _⟩ => ⟨S16x8192x8192, .f32⟩
  | .hbm, ⟨52, _⟩ => ⟨S16x8192x1, .f32⟩
  | .hbm, ⟨53, _⟩ => ⟨S_, .f32⟩
  | .hbm, ⟨54, _⟩ => ⟨S16x8192x1, .f32⟩
  | .hbm, ⟨55, _⟩ => ⟨S16x8192x1, .f32⟩
  | .hbm, ⟨56, _⟩ => ⟨S16x64x8192, .f32⟩
  | .hbm, ⟨57, _⟩ => ⟨S8192x16x64, .f32⟩
  | .hbm, ⟨58, _⟩ => ⟨S16x64x8192, .f32⟩
  | .hbm, ⟨59, _⟩ => ⟨S16x8192x8192, .f32⟩
  | .hbm, ⟨60, _⟩ => ⟨S16x64x8192, .f32⟩
  | .hbm, ⟨61, _⟩ => ⟨S8192x16x64, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S_, .f32⟩
  | .hbm, ⟨66, _⟩ => ⟨S16x8192, .f32⟩
  | .hbm, ⟨67, _⟩ => ⟨S16x8192x1, .f32⟩
  | .hbm, ⟨68, _⟩ => ⟨S16x8192x1, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S16x8192, .f32⟩
  | .hbm, ⟨73, _⟩ => ⟨S16x8192x8192, .f32⟩
  | .hbm, ⟨74, _⟩ => ⟨S16x8192x8192, .f32⟩
  | .hbm, ⟨75, _⟩ => ⟨S16x8192x8192, .f32⟩
  | .hbm, ⟨76, _⟩ => ⟨S_, .f32⟩
  | .hbm, ⟨77, _⟩ => ⟨S16x8192x8192, .f32⟩
  | .hbm, ⟨78, _⟩ => ⟨S16x8192x8192, .f32⟩
  | .hbm, ⟨79, _⟩ => ⟨S_, .f32⟩
  | .hbm, ⟨80, _⟩ => ⟨S16x8192x8192, .f32⟩
  | .hbm, ⟨81, _⟩ => ⟨S16x8192x8192, .f32⟩
  | .hbm, ⟨82, _⟩ => ⟨S16x8192x96, .f32⟩
  | .hbm, ⟨83, _⟩ => ⟨S8192x16x96, .f32⟩
  | .hbm, ⟨84, _⟩ => ⟨S16x8192x96, .f32⟩
  | .hbm, ⟨85, _⟩ => ⟨S8192x16x96, .f32⟩
  | .hbm, ⟨86, _⟩ => ⟨S_, .i32⟩
  | .hbm, ⟨87, _⟩ => ⟨S_, .f32⟩
  | .hbm, ⟨88, _⟩ => ⟨S8192x16x128, .f32⟩
  | .hbm, ⟨89, _⟩ => ⟨S8192x2048, .f32⟩
  | .hbm, ⟨90, _⟩ => ⟨S_, .i32⟩
  | .hbm, ⟨91, _⟩ => ⟨S_, .f32⟩
  | .hbm, ⟨92, _⟩ => ⟨S8192x16x128, .f32⟩
  | .hbm, ⟨93, _⟩ => ⟨S8192x2048, .f32⟩
  | .hbm, ⟨94, _⟩ => ⟨S_, .i32⟩
  | .hbm, ⟨95, _⟩ => ⟨S_, .f32⟩
  | .hbm, ⟨96, _⟩ => ⟨S8192x16x128, .f32⟩
  | .hbm, ⟨97, _⟩ => ⟨S8192x2048, .f32⟩
  | _, _ => ⟨S8192x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_v6_1 : Ref sig .tc := ⟨.hbm, 13, rfl⟩
abbrev main_call0_v2 : Ref sig .tc := ⟨.hbm, 14, rfl⟩
abbrev main_v6_0 : Ref sig .tc := ⟨.hbm, 15, rfl⟩
abbrev main_call0_cst : Ref sig .tc := ⟨.hbm, 16, rfl⟩
abbrev main_v6_2 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c : Ref sig .tc := ⟨.hbm, 86, rfl⟩
abbrev main_call2_v0 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_call3_v0 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_call4_v0 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== ConvIn.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1x1024 : Shape := ⟨2, ![1, 1024]⟩
abbrev S_ : Shape := ⟨0, ![]⟩
abbrev S4x1024 : Shape := ⟨2, ![4, 1024]⟩
abbrev S40x1024 : Shape := ⟨2, ![40, 1024]⟩
abbrev S8192 : Shape := ⟨1, ![8192]⟩
abbrev S8192x1 : Shape := ⟨2, ![8192, 1]⟩
abbrev S8192x2048 : Shape := ⟨2, ![8192, 2048]⟩
abbrev S1x2048 : Shape := ⟨2, ![1, 2048]⟩
abbrev S8x1024 : Shape := ⟨2, ![8, 1024]⟩
abbrev S32x1024 : Shape := ⟨2, ![32, 1024]⟩
abbrev S8x2048 : Shape := ⟨2, ![8, 2048]⟩
abbrev S512x1024 : Shape := ⟨2, ![512, 1024]⟩
abbrev S512x2048 : Shape := ⟨2, ![512, 2048]⟩
abbrev S32x2048 : Shape := ⟨2, ![32, 2048]⟩
abbrev S544x1024 : Shape := ⟨2, ![544, 1024]⟩
abbrev S536x1024 : Shape := ⟨2, ![536, 1024]⟩
abbrev S528x1024 : Shape := ⟨2, ![528, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 64
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x2048, .f32⟩
  | .hbm, ⟨8, _⟩ => ⟨S2048, .f32⟩
  | .hbm, ⟨9, _⟩ => ⟨S31x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S4x1024, .f32⟩
  | .hbm, ⟨21, _⟩ => ⟨S40x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S4x1024, .f32⟩
  | .hbm, ⟨57, _⟩ => ⟨S8x1024, .f32⟩
  | .hbm, ⟨58, _⟩ => ⟨S1024x2048, .bf16⟩
  | .hbm, ⟨59, _⟩ => ⟨S8192x1024, .f32⟩
  | .hbm, ⟨60, _⟩ => ⟨S8192x2048, .bf16⟩
  | .hbm, ⟨61, _⟩ => ⟨S8x1024, .f32⟩
  | .hbm, ⟨62, _⟩ => ⟨S32x1024, .f32⟩
  | .hbm, ⟨63, _⟩ => ⟨S8x2048, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x2048, .f32⟩
  | .local _ .vmem, ⟨5, _⟩ => ⟨S512x2048, .f32⟩
  | .local _ .vmem, ⟨6, _⟩ => ⟨S32x2048, .f32⟩
  | .local _ .vmem, ⟨7, _⟩ => ⟨S32x2048, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S40x1024, .f32⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S8x1024, .f32⟩
  | .local _ .vmem, ⟨20, _⟩ => ⟨S32x1024, .f32⟩
  | .local _ .vmem, ⟨21, _⟩ => ⟨S8x2048, .f32⟩
  | .local _ .vmem, ⟨22, _⟩ => ⟨S544x1024, .f32⟩
  | .local _ .vmem, ⟨23, _⟩ => ⟨S544x1024, .f32⟩
  | .local _ .vmem, ⟨24, _⟩ => ⟨S544x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ConvInRefIdeal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x1024 : Shape := ⟨2, ![1, 1024]⟩
abbrev S1x2048 : Shape := ⟨2, ![1, 2048]⟩
abbrev S31x8192x8192 : Shape := ⟨3, ![31, 8192, 8192]⟩
abbrev S31x8192x1024 : Shape := ⟨3, ![31, 8192, 1024]⟩
abbrev S31x1x1024 : Shape := ⟨3, ![31, 1, 1024]⟩
abbrev S1024x8192 : Shape := ⟨2, ![1024, 8192]⟩
abbrev S5x1024 : Shape := ⟨2, ![5, 1024]⟩
abbrev S8x1024 : Shape := ⟨2, ![8, 1024]⟩
abbrev S32x1024 : Shape := ⟨2, ![32, 1024]⟩
abbrev S7x2048 : Shape := ⟨2, ![7, 2048]⟩
abbrev S8x2048 : Shape := ⟨2, ![8, 2048]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1024, .f32⟩
  | 4 => ⟨S1024, .f32⟩
  | 5 => ⟨S1024, .f32⟩
  | 6 => ⟨S1024, .f32⟩
  | 7 => ⟨S1024x2048, .f32⟩
  | 8 => ⟨S2048, .f32⟩
  | 9 => ⟨S31x1024, .f32⟩
  | 10 => ⟨S1024, .f32⟩
  | 11 => ⟨S1024, .f32⟩
  | 12 => ⟨S1024, .f32⟩
  | 13 => ⟨S1024, .f32⟩
  | 14 => ⟨S_, .f32⟩
  | 15 => ⟨S8192x2048, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S1x1024, .f32⟩
  | 37 => ⟨S_, .f32⟩
  | 38 => ⟨S1x1024, .f32⟩
  | 39 => ⟨S1x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x2048, .f32⟩
  | 46 => ⟨S1x2048, .f32⟩
  | 47 => ⟨S8192x2048, .f32⟩
  | 48 => ⟨S8192x2048, .f32⟩
  | 49 => ⟨S8192x2048, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S8192x1024, .f32⟩
  | 65 => ⟨S31x8192x8192, .i32⟩
  | 66 => ⟨S31x8192x8192, .i32⟩
  | 67 => ⟨S31x8192x8192, .i32⟩
  | 68 => ⟨S31x8192x8192, .i32⟩
  | 69 => ⟨S_, .i32⟩
  | 70 => ⟨S31x8192x8192, .i32⟩
  | 71 => ⟨S31x8192x8192, .i32⟩
  | 72 => ⟨S31x8192x8192, .i1⟩
  | 73 => ⟨S31x8192x8192, .f32⟩
  | 74 => ⟨S31x8192x1024, .f32⟩
  | 75 => ⟨S31x1x1024, .f32⟩
  | 76 => ⟨S31x8192x1024, .f32⟩
  | 77 => ⟨S31x8192x1024, .f32⟩
  | 78 => ⟨S_, .f32⟩
  | 79 => ⟨S8192x1024, .f32⟩
  | 80 => ⟨S1x1024, .f32⟩
  | 81 => ⟨S8192x1024, .f32⟩
  | 82 => ⟨S8192x1024, .f32⟩
  | 83 => ⟨S8192x1024, .f32⟩
  | 84 => ⟨S_, .f32⟩
  | 85 => ⟨S1024, .f32⟩
  | 86 => ⟨S1x1024, .f32⟩
  | 87 => ⟨S_, .f32⟩
  | 88 => ⟨S1024, .f32⟩
  | 89 => ⟨S31x8192x1024, .f32⟩
  | 90 => ⟨S31x8192x1024, .f32⟩
  | 91 => ⟨S_, .f32⟩
  | 92 => ⟨S31x1024, .f32⟩
  | 93 => ⟨S31x1x1024, .f32⟩
  | 94 => ⟨S31x8192x1024, .f32⟩
  | 95 => ⟨S31x8192x1024, .f32⟩
  | 96 => ⟨S_, .f32⟩
  | 97 => ⟨S31x1024, .f32⟩
  | 98 => ⟨S1024x8192, .f32⟩
  | 99 => ⟨S8192x1024, .f32⟩
  | 100 => ⟨S8192x1024, .f32⟩
  | 101 => ⟨S8192x1024, .f32⟩
  | 102 => ⟨S8192x1024, .f32⟩
  | 103 => ⟨S8192x2048, .f32⟩
  | 104 => ⟨S_, .f32⟩
  | 105 => ⟨S2048, .f32⟩
  | 106 => ⟨S1x2048, .f32⟩
  | 107 => ⟨S_, .f32⟩
  | 108 => ⟨S2048, .f32⟩
  | 109 => ⟨S8192x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S_, .f32⟩
  | 122 => ⟨S1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1024, .f32⟩
  | 9 => ⟨S8192x1024, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x2048, .bf16⟩
  | 22 => ⟨S1x1024, .f32⟩
  | 23 => ⟨S1x1024, .f32⟩
  | 24 => ⟨S1x1024, .f32⟩
  | 25 => ⟨S_, .f32⟩
  | 26 => ⟨S5x1024, .f32⟩
  | 27 => ⟨S8x1024, .f32⟩
  | 28 => ⟨S1x1024, .f32⟩
  | 29 => ⟨S32x1024, .f32⟩
  | 30 => ⟨S1x2048, .f32⟩
  | 31 => ⟨S_, .f32⟩
  | 32 => ⟨S7x2048, .f32⟩
  | 33 => ⟨S8x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_cst_16 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_v93 : Ref sig .tc := ⟨.hbm, 130, rfl⟩
abbrev main_v94 : Ref sig .tc := ⟨.hbm, 131, rfl⟩
abbrev main_cst_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_24 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_25 : Ref sig .tc := ⟨.hbm, 159, rfl⟩
abbrev main_v118 : Ref sig .tc := ⟨.hbm, 160, rfl⟩
abbrev main_v119 : Ref sig .tc := ⟨.hbm, 161, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩
abbrev S1024 : Shape := ⟨1, ![1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S8192x16x64 : Shape := ⟨3, ![8192, 16, 64]⟩
abbrev S8192x16x128 : Shape := ⟨3, ![8192, 16, 128]⟩
abbrev S8192x2048 : Shape := ⟨2, ![8192, 2048]⟩
abbrev S1x1024 : Shape := ⟨2, ![1, 1024]⟩
abbrev S4x1024 : Shape := ⟨2, ![4, 1024]⟩
abbrev S8x1024 : Shape := ⟨2, ![8, 1024]⟩
abbrev S512x2048 : Shape := ⟨2, ![512, 2048]⟩
abbrev S512x1024 : Shape := ⟨2, ![512, 1024]⟩

abbrev nBuf : Space → Nat
  | .hbm => 26
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S16x64x1024, .bf16⟩
  | .hbm, ⟨6, _⟩ => ⟨S_, .i32⟩
  | .hbm, ⟨7, _⟩ => ⟨S_, .bf16⟩
  | .hbm, ⟨8, _⟩ => ⟨S16x128x1024, .bf16⟩
  | .hbm, ⟨9, _⟩ => ⟨S2048x1024, .bf16⟩
  | .hbm, ⟨10, _⟩ => ⟨S8192x16x64, .f32⟩
  | .hbm, ⟨11, _⟩ => ⟨S_, .i32⟩
  | .hbm, ⟨12, _⟩ => ⟨S_, .f32⟩
  | .hbm, ⟨13, _⟩ => ⟨S8192x16x128, .f32⟩
  | .hbm, ⟨14, _⟩ => ⟨S8192x2048, .f32⟩
  | .hbm, ⟨15, _⟩ => ⟨S8192x2048, .bf16⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S4x1024, .f32⟩
  | .hbm, ⟨24, _⟩ => ⟨S8x1024, .f32⟩
  | .hbm, ⟨25, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutFwdRefIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== ModFwd.lean ====
abbrev S8x1024 : Shape := ⟨2, ![8, 1024]⟩
abbrev S1024x1152 : Shape := ⟨2, ![1024, 1152]⟩
abbrev S1024x256 : Shape := ⟨2, ![1024, 256]⟩
abbrev S8x2560 : Shape := ⟨2, ![8, 2560]⟩
abbrev S8x1152 : Shape := ⟨2, ![8, 1152]⟩
abbrev S8x256 : Shape := ⟨2, ![8, 256]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1024x1152, .f32⟩
  | .hbm, ⟨3, _⟩ => ⟨S1024x256, .f32⟩
  | .hbm, ⟨4, _⟩ => ⟨S8x2560, .f32⟩
  | .local _ .vmem, ⟨0, _⟩ => ⟨S8x1024, .f32⟩
  | .local _ .vmem, ⟨1, _⟩ => ⟨S1024x1152, .f32⟩
  | .local _ .vmem, ⟨2, _⟩ => ⟨S1024x1152, .f32⟩
  | .local _ .vmem, ⟨3, _⟩ => ⟨S1024x256, .f32⟩
  | .local _ .vmem, ⟨4, _⟩ => ⟨S8x2560, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ModFwdRefIdeal.lean ====
abbrev S8x1024 : Shape := ⟨2, ![8, 1024]⟩
abbrev S1024x1152 : Shape := ⟨2, ![1024, 1152]⟩
abbrev S1024x256 : Shape := ⟨2, ![1024, 256]⟩
abbrev S_ : Shape := ⟨0, ![]⟩
abbrev S8x1152 : Shape := ⟨2, ![8, 1152]⟩
abbrev S8x256 : Shape := ⟨2, ![8, 256]⟩
abbrev S8x2560 : Shape := ⟨2, ![8, 2560]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1024x1152, .f32⟩
  | .hbm, ⟨3, _⟩ => ⟨S1024x256, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1152, .f32⟩
  | .hbm, ⟨14, _⟩ => ⟨S8x1152, .f32⟩
  | .hbm, ⟨15, _⟩ => ⟨S8x256, .f32⟩
  | .hbm, ⟨16, _⟩ => ⟨S8x2560, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 20
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S4x1024, .f32⟩
  | .hbm, ⟨13, _⟩ => ⟨S8x1024, .f32⟩
  | .hbm, ⟨14, _⟩ => ⟨S1024x5632, .bf16⟩
  | .hbm, ⟨15, _⟩ => ⟨S2816x1024, .bf16⟩
  | .hbm, ⟨16, _⟩ => ⟨S8192x1024, .f32⟩
  | .hbm, ⟨17, _⟩ => ⟨S8192x1024, .bf16⟩
  | .hbm, ⟨18, _⟩ => ⟨S8192x2816, .bf16⟩
  | .hbm, ⟨19, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S8192x2816, .bf16⟩
  | .hbm, ⟨55, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== ConvInFwd.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1x2048 : Shape := ⟨2, ![1, 2048]⟩
abbrev S7x2048 : Shape := ⟨2, ![7, 2048]⟩
abbrev S8x2048 : Shape := ⟨2, ![8, 2048]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S2048, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S4x1024, .f32⟩
  | .hbm, ⟨13, _⟩ => ⟨S8x1024, .f32⟩
  | .hbm, ⟨14, _⟩ => ⟨S1024x2048, .bf16⟩
  | .hbm, ⟨15, _⟩ => ⟨S1x2048, .f32⟩
  | .hbm, ⟨16, _⟩ => ⟨S_, .f32⟩
  | .hbm, ⟨17, _⟩ => ⟨S7x2048, .f32⟩
  | .hbm, ⟨18, _⟩ => ⟨S8x2048, .f32⟩
  | .hbm, ⟨19, _⟩ => ⟨S8192x1024, .bf16⟩
  | .hbm, ⟨20, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2048, .bf16⟩
  | .local _ .vmem, ⟨4, _⟩ => ⟨S8x2048, .f32⟩
  | .local _ .vmem, ⟨5, _⟩ => ⟨S512x1024, .bf16⟩
  | .local _ .vmem, ⟨6, _⟩ => ⟨S512x1024, .bf16⟩
  | .local _ .vmem, ⟨7, _⟩ => ⟨S512x2048, .f32⟩
  | .local _ .vmem, ⟨8, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvInFwdRefIdeal.lean ====
abbrev S8192x1024 : Shape := ⟨2, ![8192, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S2048, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== QFwd.lean ====
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S8192x16 : Shape := ⟨2, ![8192, 16]⟩
abbrev S512x16x96 : Shape := ⟨3, ![512, 16, 96]⟩
abbrev S_ : Shape := ⟨0, ![]⟩
abbrev S512x16x128 : Shape := ⟨3, ![512, 16, 128]⟩
abbrev S512x2048 : Shape := ⟨2, ![512, 2048]⟩
abbrev S1x1024 : Shape := ⟨2, ![1, 1024]⟩
abbrev S4x1024 : Shape := ⟨2, ![4, 1024]⟩
abbrev S8x1024 : Shape := ⟨2, ![8, 1024]⟩
abbrev S1x512 : Shape := ⟨2, ![1, 512]⟩
abbrev S7x512 : Shape := ⟨2, ![7, 512]⟩
abbrev S8x512 : Shape := ⟨2, ![8, 512]⟩
abbrev S8192x32 : Shape := ⟨2, ![8192, 32]⟩
abbrev S8192x64 : Shape := ⟨2, ![8192, 64]⟩
abbrev S8192x384 : Shape := ⟨2, ![8192, 384]⟩
abbrev S8192x512 : Shape := ⟨2, ![8192, 512]⟩
abbrev S8192x2048 : Shape := ⟨2, ![8192, 2048]⟩
abbrev S512x1024 : Shape := ⟨2, ![512, 1024]⟩
abbrev S512x384 : Shape := ⟨2, ![512, 384]⟩
abbrev S512x512 : Shape := ⟨2, ![512, 512]⟩
abbrev S512x1 : Shape := ⟨2, ![512, 1]⟩
abbrev S512x128 : Shape := ⟨2, ![512, 128]⟩

abbrev nBuf : Space → Nat
  | .hbm => 42
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1536, .f32⟩
  | .hbm, ⟨8, _⟩ => ⟨S8192x16, .f32⟩
  | .hbm, ⟨9, _⟩ => ⟨S8192x16, .f32⟩
  | .hbm, ⟨10, _⟩ => ⟨S512x1536, .bf16⟩
  | .hbm, ⟨11, _⟩ => ⟨S512x16x96, .bf16⟩
  | .hbm, ⟨12, _⟩ => ⟨S_, .i32⟩
  | .hbm, ⟨13, _⟩ => ⟨S_, .bf16⟩
  | .hbm, ⟨14, _⟩ => ⟨S512x16x128, .bf16⟩
  | .hbm, ⟨15, _⟩ => ⟨S512x2048, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S4x1024, .f32⟩
  | .hbm, ⟨22, _⟩ => ⟨S8x1024, .f32⟩
  | .hbm, ⟨23, _⟩ => ⟨S1024x512, .bf16⟩
  | .hbm, ⟨24, _⟩ => ⟨S1x512, .f32⟩
  | .hbm, ⟨25, _⟩ => ⟨S_, .f32⟩
  | .hbm, ⟨26, _⟩ => ⟨S7x512, .f32⟩
  | .hbm, ⟨27, _⟩ => ⟨S8x512, .f32⟩
  | .hbm, ⟨28, _⟩ => ⟨S_, .f32⟩
  | .hbm, ⟨29, _⟩ => ⟨S8192x16, .f32⟩
  | .hbm, ⟨30, _⟩ => ⟨S_, .f32⟩
  | .hbm, ⟨31, _⟩ => ⟨S8192x32, .f32⟩
  | .hbm, ⟨32, _⟩ => ⟨S_, .f32⟩
  | .hbm, ⟨33, _⟩ => ⟨S8192x64, .f32⟩
  | .hbm, ⟨34, _⟩ => ⟨S_, .f32⟩
  | .hbm, ⟨35, _⟩ => ⟨S8192x64, .f32⟩
  | .hbm, ⟨36, _⟩ => ⟨S8192x16, .f32⟩
  | .hbm, ⟨37, _⟩ => ⟨S8192x384, .f32⟩
  | .hbm, ⟨38, _⟩ => ⟨S8192x1024, .bf16⟩
  | .hbm, ⟨39, _⟩ => ⟨S8192x512, .f32⟩
  | .hbm, ⟨40, _⟩ => ⟨S8192x512, .bf16⟩
  | .hbm, ⟨41, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x512, .bf16⟩
  | .local _ .vmem, ⟨4, _⟩ => ⟨S8x512, .f32⟩
  | .local _ .vmem, ⟨5, _⟩ => ⟨S512x2048, .bf16⟩
  | .local _ .vmem, ⟨6, _⟩ => ⟨S512x384, .f32⟩
  | .local _ .vmem, ⟨7, _⟩ => ⟨S512x384, .f32⟩
  | .local _ .vmem, ⟨8, _⟩ => ⟨S512x1024, .bf16⟩
  | .local _ .vmem, ⟨9, _⟩ => ⟨S512x1024, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x2048, .bf16⟩
  | .local _ .vmem, ⟨15, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v20_2 : Ref sig .tc := ⟨.hbm, 40, rfl⟩
abbrev main_v20_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QFwdRefIdeal.lean ====
abbrev S8192x1024 : Shape := ⟨2, ![8192, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S1x512 : Shape := ⟨2, ![1, 512]⟩
abbrev S8192x1536 : Shape := ⟨2, ![8192, 1536]⟩
abbrev S8192x16x96 : Shape := ⟨3, ![8192, 16, 96]⟩
abbrev S8192x16x64 : Shape := ⟨3, ![8192, 16, 64]⟩
abbrev S8192x16x32 : Shape := ⟨3, ![8192, 16, 32]⟩
abbrev S8192x1x16 : Shape := ⟨3, ![8192, 1, 16]⟩
abbrev S8192x16x16 : Shape := ⟨3, ![8192, 16, 16]⟩
abbrev S8192x16x128 : Shape := ⟨3, ![8192, 16, 128]⟩
abbrev S8192x2048 : Shape := ⟨2, ![8192, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1536, .f32⟩
  | .hbm, ⟨8, _⟩ => ⟨S8192x16, .f32⟩
  | .hbm, ⟨9, _⟩ => ⟨S8192x16, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x512, .f32⟩
  | .hbm, ⟨48, _⟩ => ⟨S8192x512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x1536, .f32⟩
  | .hbm, ⟨53, _⟩ => ⟨S8192x16x96, .f32⟩
  | .hbm, ⟨54, _⟩ => ⟨S8192x16x64, .f32⟩
  | .hbm, ⟨55, _⟩ => ⟨S8192x16x32, .f32⟩
  | .hbm, ⟨56, _⟩ => ⟨S8192x1x16, .f32⟩
  | .hbm, ⟨57, _⟩ => ⟨S8192x1x16, .f32⟩
  | .hbm, ⟨58, _⟩ => ⟨S8192x16x16, .f32⟩
  | .hbm, ⟨59, _⟩ => ⟨S8192x16x16, .f32⟩
  | .hbm, ⟨60, _⟩ => ⟨S8192x16x16, .f32⟩
  | .hbm, ⟨61, _⟩ => ⟨S8192x16x16, .f32⟩
  | .hbm, ⟨62, _⟩ => ⟨S8192x16x16, .f32⟩
  | .hbm, ⟨63, _⟩ => ⟨S8192x16x16, .f32⟩
  | .hbm, ⟨64, _⟩ => ⟨S8192x16x16, .f32⟩
  | .hbm, ⟨65, _⟩ => ⟨S8192x16x16, .f32⟩
  | .hbm, ⟨66, _⟩ => ⟨S8192x16x16, .f32⟩
  | .hbm, ⟨67, _⟩ => ⟨S8192x16x16, .f32⟩
  | .hbm, ⟨68, _⟩ => ⟨S8192x16x16, .f32⟩
  | .hbm, ⟨69, _⟩ => ⟨S8192x16x16, .f32⟩
  | .hbm, ⟨70, _⟩ => ⟨S8192x16x32, .f32⟩
  | .hbm, ⟨71, _⟩ => ⟨S8192x16x96, .f32⟩
  | .hbm, ⟨72, _⟩ => ⟨S_, .f32⟩
  | .hbm, ⟨73, _⟩ => ⟨S8192x16x96, .f32⟩
  | .hbm, ⟨74, _⟩ => ⟨S8192x16x96, .f32⟩
  | .hbm, ⟨75, _⟩ => ⟨S8192x1024, .bf16⟩
  | .hbm, ⟨76, _⟩ => ⟨S8192x512, .bf16⟩
  | .hbm, ⟨77, _⟩ => ⟨S_, .i32⟩
  | .hbm, ⟨78, _⟩ => ⟨S_, .f32⟩
  | .hbm, ⟨79, _⟩ => ⟨S8192x16x128, .f32⟩
  | .hbm, ⟨80, _⟩ => ⟨S8192x2048, .f32⟩
  | .hbm, ⟨81, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c : Ref sig .tc := ⟨.hbm, 77, rfl⟩
abbrev main_call0_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Proof.Lift.lean ====
/- Real numbers inside the extended reals: an array of finite elements is the coercion of a real array, and the
   operations that the programs apply to such arrays are the coercions of the operations on the reals. -/
module

public import Idealize.ShloMosaic.Lib.ReduceAll
public import Idealize.ShloMosaic.Lib.PointwiseCore
public import Idealize.ShloMosaic.PureOps.Ideal
public import Idealize.ShloMosaic.Lib.Pipeline.ValueKit

@[expose] public section

noncomputable section

open Idealize.ShloMosaic

namespace Cert.Lift

/-- A finite element: its magnitude is below the largest extended real. -/
theorem real_of_lt {x : EReal} (h : max x (-x) < ⊤) : ∃ r : ℝ, x = r := by
  induction x using EReal.rec with
  | bot => simp at h
  | top => simp at h
  | coe r => exact ⟨r, rfl⟩

theorem ofBits_inf : Ideal.ofBits .f32 0x7F800000#32 = (⊤ : EReal) := by
  simp [Ideal.ofBits, Ideal.ieee]

/-- `jnp.all(jnp.abs(x) < inf)` says that every element is a real number. -/
theorem real_of_all {s t u : Shape} {axes : List (Fin s.rank)} [Subsingleton t.Idx] (x : FVec Ideal s .f32) (b : FVec Ideal s .f32)
    (hb : ∀ i, b i = Ideal.ofBits .f32 0x7F800000#32) (init : IVec u 1) (h : s.ReducesTo axes t) (hu : 0 < u.numel)
    (j : t.Idx) (e : Host.reduce IntOp.andi (cmpf .olt (Host.absf x) b) init h hu j = 1#1) (i : s.Idx) : ∃ r : ℝ, x i = (r : EReal) := by
  have h1 := Host.reduce_andi_all _ init h hu j e i
  have h2 : Ideal.cmp .olt (max (x i) (-(x i))) (b i) = 1#1 := h1
  rw [hb, ofBits_inf] at h2
  refine real_of_lt ?_
  by_contra hn
  simp [Ideal.cmp, hn] at h2

/-- A one-axis array of reals as a function of the position. -/
theorem lift1 {a : ℕ} (x : Shape.Idx ⟨1, ![a]⟩ → EReal) (h : ∀ i, ∃ r : ℝ, x i = r) :
    ∃ H : ℕ → ℝ, ∀ i, x i = (H (i 0).val : EReal) := by
  choose g hg using h
  refine ⟨fun p => if hp : p < a then g (fun k => match k with | ⟨0, _⟩ => ⟨p, hp⟩) else 0, fun i => ?_⟩
  have hi : (i 0).val < a := (i 0).isLt
  rw [hg]; simp only [hi, dif_pos]
  refine congrArg (fun k => ((g k : ℝ) : EReal)) (funext fun k => ?_)
  match k with | ⟨0, _⟩ => rfl

/-- A two-axis array of reals as a function of the row and the column. -/
theorem lift2 {a b : ℕ} (x : Shape.Idx ⟨2, ![a, b]⟩ → EReal) (h : ∀ i, ∃ r : ℝ, x i = r) :
    ∃ H : ℕ → ℕ → ℝ, ∀ i, x i = (H (i 0).val (i 1).val : EReal) := by
  choose g hg using h
  refine ⟨fun p q => if hp : p < a ∧ q < b then g (fun k => match k with | ⟨0, _⟩ => ⟨p, hp.1⟩ | ⟨1, _⟩ => ⟨q, hp.2⟩) else 0, fun i => ?_⟩
  have hi : (i 0).val < a ∧ (i 1).val < b := ⟨(i 0).isLt, (i 1).isLt⟩
  rw [hg]; simp only [hi, dif_pos, and_self]
  refine congrArg (fun k => ((g k : ℝ) : EReal)) (funext fun k => ?_)
  match k with | ⟨0, _⟩ => rfl | ⟨1, _⟩ => rfl

/-- A two-axis array as a function of the two positions. -/
theorem lift2E {a b : ℕ} (x : Shape.Idx ⟨2, ![a, b]⟩ → EReal) : ∃ X : ℕ → ℕ → EReal, ∀ i, x i = X (i 0).val (i 1).val := by
  refine ⟨fun p q => if hp : p < a ∧ q < b then x (fun k => match k with | ⟨0, _⟩ => ⟨p, hp.1⟩ | ⟨1, _⟩ => ⟨q, hp.2⟩) else 0, fun i => ?_⟩
  have hi : (i 0).val < a ∧ (i 1).val < b := ⟨(i 0).isLt, (i 1).isLt⟩
  simp only [hi, dif_pos, and_self]
  refine congrArg x (funext fun k => ?_)
  match k with | ⟨0, _⟩ => rfl | ⟨1, _⟩ => rfl

@[pointwise] theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

@[pointwise] theorem sum_fin_one (f : Fin 1 → ℝ) : ∑ k, f k = f 0 := Fin.sum_univ_one f

/-- A sum over the positions of a one-axis array is a sum over its axis. -/
theorem sum_idx1 {n : ℕ} (f : ℕ → ℝ) : ∑ k : Shape.Idx ⟨1, ![n]⟩, f (k 0).val = ∑ k : Fin n, f k.val :=
  Fintype.sum_equiv ⟨fun k => k 0, fun k a => match a with | ⟨0, _⟩ => k, fun k => funext fun a => by match a with | ⟨0, _⟩ => rfl, fun _ => rfl⟩
    _ _ fun _ => rfl

/-- A sum over `n` blocks of `b` rows each. -/
theorem sum_blocks (n b : ℕ) (f : ℕ → ℝ) : ∑ s ∈ Finset.range n, ∑ q : Fin b, f (b * s + q.val) = ∑ p : Fin (n * b), f p.val := by
  rw [← Finset.sum_range f, Finset.sum_range_mul_split]
  exact Finset.sum_congr rfl fun s _ => by rw [Finset.sum_range]; exact Finset.sum_congr rfl fun q _ => by rw [mul_comm]

/-- A contents that the first point sets and every later point adds to, element by element. -/
theorem fold_real {ι : Type} {N : ℕ} (f : (n : ℕ) → n < N → ι → EReal) (term : ℕ → ι → ℝ)
    (h0 : ∀ h j, f 0 h j = (term 0 j : EReal)) (hs : ∀ n (h : n + 1 < N) j, f (n + 1) h j = f n (Nat.lt_of_succ_lt h) j + (term (n + 1) j : EReal)) :
    ∀ n (h : n < N) j, f n h j = ((∑ s ∈ Finset.range (n + 1), term s j : ℝ) : EReal)
  | 0, h, j => by rw [h0, Finset.sum_range_one]
  | n + 1, h, j => by rw [hs, fold_real f term h0 hs n, Finset.sum_range_succ _ (n + 1), EReal.coe_add]

@[pointwise] theorem mul_real (x y : ℝ) : (x : EReal) * (y : EReal) = ((x * y : ℝ) : EReal) := (EReal.coe_mul x y).symm
@[pointwise] theorem add_real (x y : ℝ) : (x : EReal) + (y : EReal) = ((x + y : ℝ) : EReal) := (EReal.coe_add x y).symm
@[pointwise] theorem sub_real (x y : ℝ) : (x : EReal) - (y : EReal) = ((x - y : ℝ) : EReal) := (EReal.coe_sub x y).symm
@[pointwise] theorem neg_real (x : ℝ) : -(x : EReal) = ((-x : ℝ) : EReal) := (EReal.coe_neg x).symm

theorem div_real (x : ℝ) {y : ℝ} (h : y ≠ 0) : Ideal.div (x : EReal) (y : EReal) = ((x / y : ℝ) : EReal) := by
  rw [Ideal.div_coe h, ← EReal.coe_mul, mul_one_div]
@[pointwise] theorem div_1024 (x : ℝ) : Ideal.div (x : EReal) ((1024 : ℝ) : EReal) = ((x / 1024 : ℝ) : EReal) := div_real x (by norm_num)

@[pointwise] theorem one_real : (1 : EReal) = ((1 : ℝ) : EReal) := rfl

/-- The logistic function. -/
def sg (x : ℝ) : ℝ := (1 + Real.exp (-x))⁻¹

@[pointwise] theorem logistic_real (x : ℝ) : Ideal.logistic (x : EReal) = (sg x : EReal) := Ideal.logistic_coe x
@[pointwise] theorem exp_real (x : ℝ) : Ideal.exp (x : EReal) = (Real.exp x : EReal) := Ideal.exp_coe x
/-- The logistic function as one over one and the exponential. -/
@[pointwise] theorem one_div_exp (x : ℝ) : Ideal.div ((1 : ℝ) : EReal) ((1 + Real.exp (-x) : ℝ) : EReal) = (sg x : EReal) := by
  rw [div_real 1 (by positivity), one_div]; rfl

theorem rsqrt_real {x : ℝ} (h : 0 < x) : Ideal.rsqrt (x : EReal) = (((√x)⁻¹ : ℝ) : EReal) := by
  rw [Ideal.rsqrt_coe, if_neg (not_lt.2 h.le), if_neg h.ne']

/-- The constants of the programs, as reals. -/
@[pointwise] theorem f32_0 : Ideal.ofBits .f32 0x00000000#32 = ((0 : ℝ) : EReal) := by
  simp [Ideal.ofBits, Ideal.ieee]
@[pointwise] theorem f32_1 : Ideal.ofBits .f32 0x3F800000#32 = ((1 : ℝ) : EReal) := by
  simp [Ideal.ofBits, Ideal.ieee, -EReal.coe_mul]; norm_num
@[pointwise] theorem f32_half : Ideal.ofBits .f32 0x3F000000#32 = ((1 / 2 : ℝ) : EReal) := by
  simp [Ideal.ofBits, Ideal.ieee, -EReal.coe_mul]; norm_num
@[pointwise] theorem f32_1024 : Ideal.ofBits .f32 0x44800000#32 = ((1024 : ℝ) : EReal) := by
  simp [Ideal.ofBits, Ideal.ieee, -EReal.coe_mul]; norm_num
@[pointwise] theorem f32_1024_inv : Ideal.ofBits .f32 0x3A800000#32 = ((1 / 1024 : ℝ) : EReal) := by
  simp [Ideal.ofBits, Ideal.ieee, -EReal.coe_mul]; norm_num
@[pointwise] theorem f32_2 : Ideal.ofBits .f32 0x40000000#32 = ((2 : ℝ) : EReal) := by
  simp [Ideal.ofBits, Ideal.ieee, -EReal.coe_mul]; norm_num
@[pointwise] theorem f32_neg_half : Ideal.ofBits .f32 0xBF000000#32 = ((-(1 / 2) : ℝ) : EReal) := by
  simp [Ideal.ofBits, Ideal.ieee, -EReal.coe_mul]; norm_num
/-- The small number under the roots: the float nearest to a millionth. -/
def eps : ℝ := 8796093 / 8796093022208
theorem eps_pos : 0 < eps := by norm_num [eps]
@[pointwise] theorem f32_eps : Ideal.ofBits .f32 0x358637BD#32 = (eps : EReal) := by
  simp [Ideal.ofBits, Ideal.ieee, -EReal.coe_mul, eps]; norm_num

end Cert.Lift

end
-- ==== Proof.Norm.lean ====
/- The root-mean-square norm of the rows of a real array, and its derivative. -/
module

public import proofs.«01_k».proof.Proof.Lift

@[expose] public section

noncomputable section

namespace Cert.Norm

open Cert.Lift

/-- The mean of the squares of row `p`, with the small number added. -/
def ms (H : ℕ → ℕ → ℝ) (p : ℕ) : ℝ := (∑ k : Fin 1024, H p k * H p k) / 1024 + eps

/-- The factor by which the norm multiplies row `p`. -/
def rr (H : ℕ → ℕ → ℝ) (p : ℕ) : ℝ := (√(ms H p))⁻¹

theorem ms_pos (H : ℕ → ℕ → ℝ) (p : ℕ) : 0 < ms H p :=
  add_pos_of_nonneg_of_pos (div_nonneg (Finset.sum_nonneg fun k _ => mul_self_nonneg _) (by norm_num)) eps_pos

theorem rr_div_ms (H : ℕ → ℕ → ℝ) (p : ℕ) : rr H p / ms H p = rr H p * rr H p * rr H p := by
  have h : √(ms H p) * √(ms H p) = ms H p := Real.mul_self_sqrt (ms_pos H p).le
  have h0 : √(ms H p) ≠ 0 := (Real.sqrt_pos.2 (ms_pos H p)).ne'
  unfold rr
  nth_rw 2 [← h]
  field_simp

/-- The derivative of the norm at row `p` applied to the cotangent `d`, as the chain rule writes it (the factor's own derivative is
    `-1/2` of the factor over the mean square) and in one product with the normalised row. -/
theorem bwd (H : ℕ → ℕ → ℝ) (d : ℕ → ℝ) (p j : ℕ) :
    d j * rr H p + H p j * ((∑ k : Fin 1024, H p k * d k) * (-(1 / 2) * (rr H p / ms H p)) / 1024)
        + (∑ k : Fin 1024, H p k * d k) * (-(1 / 2) * (rr H p / ms H p)) / 1024 * H p j
      = rr H p * (d j - H p j * rr H p * ((∑ k : Fin 1024, d k * (H p k * rr H p)) / 1024)) := by
  have h : ∑ k : Fin 1024, d k * (H p k * rr H p) = (∑ k : Fin 1024, H p k * d k) * rr H p := by
    rw [Finset.sum_mul]; exact Finset.sum_congr rfl fun k _ => by ring
  rw [h, rr_div_ms]; ring

/-- The mean of row `p`. -/
def mu (U : ℕ → ℕ → ℝ) (p : ℕ) : ℝ := (∑ k : Fin 1024, U p k) / 1024

/-- The mean of the squared distances of row `p` from its mean, with the small number added. -/
def va (U : ℕ → ℕ → ℝ) (p : ℕ) : ℝ := (∑ k : Fin 1024, (U p k - mu U p) * (U p k - mu U p)) / 1024 + eps

/-- The factor by which the mean-and-variance norm multiplies row `p`. -/
def rs (U : ℕ → ℕ → ℝ) (p : ℕ) : ℝ := (√(va U p))⁻¹

/-- Row `p` normalised by its mean and variance. -/
def xh (U : ℕ → ℕ → ℝ) (p j : ℕ) : ℝ := (U p j - mu U p) * rs U p

theorem va_pos (U : ℕ → ℕ → ℝ) (p : ℕ) : 0 < va U p :=
  add_pos_of_nonneg_of_pos (div_nonneg (Finset.sum_nonneg fun k _ => mul_self_nonneg _) (by norm_num)) eps_pos

theorem rs_div_va (U : ℕ → ℕ → ℝ) (p : ℕ) : rs U p / va U p = rs U p * rs U p * rs U p := by
  have h : √(va U p) * √(va U p) = va U p := Real.mul_self_sqrt (va_pos U p).le
  have h0 : √(va U p) ≠ 0 := (Real.sqrt_pos.2 (va_pos U p)).ne'
  unfold rs
  nth_rw 2 [← h]
  field_simp

/-- The derivative of the mean-and-variance norm at row `p` applied to the cotangent `d`, as the chain rule writes it (through the
    factor, the variance and the two means) and with the two means of the cotangent. -/
theorem ln_bwd (U : ℕ → ℕ → ℝ) (d : ℕ → ℝ) (p j : ℕ) :
    d j * rs U p + (∑ k : Fin 1024, (U p k - mu U p) * d k) * (-(1 / 2) * (rs U p / va U p)) / 1024 * (2 * (U p j - mu U p))
        + ((∑ k : Fin 1024, -(d k * rs U p))
            + ∑ k : Fin 1024, -((∑ k : Fin 1024, (U p k - mu U p) * d k) * (-(1 / 2) * (rs U p / va U p)) / 1024 * (2 * (U p k - mu U p)))) / 1024
      = rs U p * (d j - (∑ k : Fin 1024, d k) / 1024 - xh U p j * ((∑ k : Fin 1024, d k * xh U p k) / 1024)) := by
  have h : ∑ k : Fin 1024, d k * xh U p k = (∑ k : Fin 1024, (U p k - mu U p) * d k) * rs U p := by
    rw [Finset.sum_mul]; exact Finset.sum_congr rfl fun k _ => by unfold xh; ring
  have h0 : ∑ k : Fin 1024, (U p k - mu U p) = 0 := by
    rw [Finset.sum_sub_distrib, Finset.sum_const, Finset.card_univ, Fintype.card_fin, nsmul_eq_mul]
    unfold mu; push_cast; ring
  rw [h, rs_div_va, Finset.sum_neg_distrib, Finset.sum_neg_distrib, ← Finset.sum_mul, ← Finset.mul_sum, ← Finset.mul_sum, h0]
  unfold xh; ring

end Cert.Norm

end
-- ==== Proof.FinalRef.lean ====
/- What the reference of the final norm and loss computes, element by element, on real arrays. -/
module

public import proofs.«01_k».proof.Proof.Norm
public import proofs.«01_k».proof.Proof.Gen.FinalRefIdeal.Read

@[expose] public section

set_option maxRecDepth 16384

noncomputable section

open Idealize.ShloMosaic Cert.Lift Cert.Norm Cert.FinalRefIdeal Cert.FinalRefIdeal.Read

namespace Cert.FinalLoss

/-- The normalised row times the gain, less the target. -/
def err (H T : ℕ → ℕ → ℝ) (g : ℕ → ℝ) (p j : ℕ) : ℝ := H p j * rr H p * g j - T p j
/-- The gradient of the gain. -/
def dgain (H T : ℕ → ℕ → ℝ) (g : ℕ → ℝ) (j : ℕ) : ℝ := ∑ p : Fin 8192, err H T g p j * (1 / 1024) * (H p j * rr H p)
/-- The loss. -/
def loss (H T : ℕ → ℕ → ℝ) (g : ℕ → ℝ) : ℝ := 1 / 2 * ∑ p : Fin 8192, (∑ k : Fin 1024, err H T g p k * err H T g p k) / 1024
/-- The gradient of the residual stream. -/
def dh (H T : ℕ → ℕ → ℝ) (g : ℕ → ℝ) (p j : ℕ) : ℝ :=
  rr H p * (err H T g p j * (1 / 1024) * g j
    - H p j * rr H p * ((∑ k : Fin 1024, err H T g p k * (1 / 1024) * g k * (H p k * rr H p)) / 1024))

section reference

variable {x0 x1 : (⟨S8192x1024, .f32⟩ : BufTy).Contents (Elt Ideal)} {x2 : (⟨S1024, .f32⟩ : BufTy).Contents (Elt Ideal)}
  {H T : ℕ → ℕ → ℝ} {g : ℕ → ℝ} (h0 : ∀ i, x0 i = (H (i 0).val (i 1).val : EReal)) (h1 : ∀ i, x1 i = (T (i 0).val (i 1).val : EReal))
  (h2 : ∀ i, x2 i = (g (i 0).val : EReal))

attribute [local pointwise] val_main_v0_apply val_main_v1_apply val_main_v2_apply val_main_v3_apply val_main_v4_apply val_main_v5_apply val_main_v8_apply
  val_main_v9_apply val_main_v10_apply val_main_v11_apply val_main_v13_apply val_main_v14_apply val_main_v15_apply
  val_main_v17_apply val_main_v18_apply val_main_v19_apply val_main_v20_apply val_main_v21_apply val_main_v22_apply
  val_main_v23_apply val_main_v24_apply val_main_v25_apply val_main_v26_apply val_main_v27_apply val_main_v28_apply
  val_main_v29_apply val_main_v31_apply val_main_v32_apply val_main_v33_apply val_main_v34_apply val_main_v36_apply
  val_main_v37_apply val_main_v38_apply val_main_v39_apply val_main_v40_apply val_main_v41_apply val_main_v42_apply
  val_main_v43_apply val_main_v44_apply val_main_v45_apply val_main_v46_apply val_main_v47_apply val_main_v48_apply
  val_main_v49_apply val_main_v50_apply val_main_v51_apply val_main_v52_apply val_main_v53_apply val_main_cst_apply
  val_main_cst_0_apply val_main_cst_1_apply val_main_cst_2_apply val_main_cst_3_apply val_main_cst_4_apply val_main_cst_5_apply
  val_main_cst_6_apply val_main_cst_7_apply val_main_cst_8_apply val_main_cst_9_apply val_main_cst_10_apply
  val_main_cst_11_apply val_main_cst_12_apply val_main_cst_13_apply val_main_cst_14_apply val_main_cst_15_apply
  val_main_cst_16_apply

include h0 in
theorem ref_ms (i) : val_main_v6 (F := Ideal) x0 i = (ms H (i 0).val : EReal) := by
  pointwise [val_main_v6_apply, h0]; rfl

include h0 in
theorem ref_rr (i) : val_main_v7 (F := Ideal) x0 i = (rr H (i 0).val : EReal) := by
  pointwise [val_main_v7_apply, ref_ms h0, rsqrt_real (ms_pos H _)]; rfl

include h0 in
theorem ref_xn (i) : val_main_v12 (F := Ideal) x0 i = (H (i 0).val (i 1).val * rr H (i 0).val : ℝ) := by
  pointwise [val_main_v12_apply, ref_rr h0, h0]

include h0 h1 h2 in
theorem ref_err (i) : val_main_v16 (F := Ideal) x0 x1 x2 i = (err H T g (i 0).val (i 1).val : EReal) := by
  pointwise [val_main_v16_apply, ref_xn h0, h1, h2]; rfl

include h0 h1 h2 in
theorem ref_dy (i) : val_main_v30 (F := Ideal) x0 x1 x2 i = (err H T g (i 0).val (i 1).val * (1 / 1024) : ℝ) := by
  pointwise [val_main_v30_apply, ref_err h0 h1 h2]
  exact congrArg _ (by ring)

include h0 h1 h2 in
theorem ref_dxn (i) : val_main_v35 (F := Ideal) x0 x1 x2 i = (err H T g (i 0).val (i 1).val * (1 / 1024) * g (i 1).val : ℝ) := by
  pointwise [val_main_v35_apply, ref_dy h0 h1 h2, h2]

include h0 h1 h2 in
theorem ref_dh (i) : val_main_v50 (F := Ideal) x0 x1 x2 i = (dh H T g (i 0).val (i 1).val : EReal) := by
  pointwise [ref_dxn h0 h1 h2, ref_rr h0, ref_ms h0, div_real _ (ms_pos H _).ne', h0]
  exact congrArg _ (bwd H (fun k => err H T g (i 0).val k * (1 / 1024) * g k) (i 0).val (i 1).val)

include h0 h1 h2 in
theorem ref_dgain (i) : val_main_v51 (F := Ideal) x0 x1 x2 i = (dgain H T g (i 1).val : EReal) := by
  pointwise [ref_dy h0 h1 h2, ref_xn h0]
  exact congrArg _ (Finset.sum_congr rfl fun p _ => mul_comm _ _)

include h0 h1 h2 in
theorem ref_loss (i) : val_main_v52 (F := Ideal) x0 x1 x2 i = (loss H T g : EReal) := by
  pointwise [ref_err h0 h1 h2]
  exact congrArg (fun s : ℝ => ((1 / 2 * s : ℝ) : EReal)) (sum_idx1 fun p => (∑ k : Fin 1024, err H T g p k * err H T g p k) / 1024)

include h0 h1 h2 in
/-- The two sums, one to a row of eight, the others zero. -/
theorem ref_sums (i) : val_main_v54 (F := Ideal) x0 x1 x2 i
    = (if (i 0).val = 0 then dgain H T g (i 1).val else if (i 0).val = 1 then loss H T g else 0 : ℝ) := by
  pointwise [val_main_v54, ref_dgain h0 h1 h2, ref_loss h0 h1 h2]
  split_ifs <;> first | rfl | omega

end reference

end Cert.FinalLoss

end
-- ==== Proof.Rows.lean ====
/- Rows of a two-axis buffer: what a store of one row leaves, and what a load of one row reads. -/
module

public import proofs.«01_k».proof.Proof.Lift
public import Idealize.ShloMosaic.Lib.WritesUnit
public import Idealize.ShloMosaic.Lib.Pipeline.Value
public import Idealize.ShloMosaic.Lib.Pipeline.ReadBack

@[expose] public section

noncomputable section

open Idealize.ShloMosaic

namespace Cert.Rows

/-- The position of column `j 1` in a row by itself. -/
abbrev inRow {R n : ℕ} (j : Shape.Idx ⟨2, ![R, n]⟩) : Shape.Idx ⟨2, ![1, n]⟩ := fun a => match a with
  | ⟨0, _⟩ => ⟨0, Nat.one_pos⟩
  | ⟨1, _⟩ => j 1

variable {Val : EltTy → Type} {sig : RefSig} {κ : Kind} {sp : Space} {e : EltTy} {R n : ℕ}

/-- A buffer read at an index after stores of which the last is of row `k`. -/
theorem read_row (v : View sig κ sp ⟨2, ![R, n]⟩ e) (f : v.ty.Contents Val) (k : ℕ)
    (inb : ∀ a, (![k, 0] : Fin 2 → ℕ) a + (![1, n] : Fin 2 → ℕ) a ≤ (⟨2, ![R, n]⟩ : Shape).size a)
    (p : (Rect.unit (s := ⟨2, ![R, n]⟩) ![k, 0] ![1, n] inb).shape.Idx → Val e) (L : List (View.Piece Val (⟨2, ![R, n]⟩ : Shape) e))
    (j : Shape.Idx ⟨2, ![R, n]⟩) :
    v.read Val (v.writes Val f ((⟨Rect.unit (s := ⟨2, ![R, n]⟩) ![k, 0] ![1, n] inb, p⟩ : View.Piece Val (⟨2, ![R, n]⟩ : Shape) e) :: L)) j
      = if (j 0).val = k then p (inRow j) else v.read Val (v.writes Val f L) j := by
  split_ifs with h
  · exact View.read_writes_cons_unit_of_mem v f inb p L j (inRow j) rfl fun a => by
      match a with
      | ⟨0, _⟩ => exact h
      | ⟨1, _⟩ => exact (Nat.zero_add _).symm
  · refine View.read_writes_cons_unit_of_not_mem v f inb p L j rfl 0 ?_
    rcases Nat.lt_or_gt_of_ne h with h | h
    · exact Or.inl h
    · exact Or.inr h

/-- A buffer read at an index after stores of which the last is of the whole. -/
theorem read_all (v : View sig κ sp ⟨2, ![R, n]⟩ e) (f : v.ty.Contents Val)
    (inb : ∀ a, (![0, 0] : Fin 2 → ℕ) a + (![R, n] : Fin 2 → ℕ) a ≤ (⟨2, ![R, n]⟩ : Shape).size a)
    (p : (Rect.unit (s := ⟨2, ![R, n]⟩) ![0, 0] ![R, n] inb).shape.Idx → Val e) (L : List (View.Piece Val (⟨2, ![R, n]⟩ : Shape) e))
    (j : Shape.Idx ⟨2, ![R, n]⟩) :
    v.read Val (v.writes Val f ((⟨Rect.unit (s := ⟨2, ![R, n]⟩) ![0, 0] ![R, n] inb, p⟩ : View.Piece Val (⟨2, ![R, n]⟩ : Shape) e) :: L)) j = p j :=
  View.read_writes_cons_unit_of_mem v f inb p L j j rfl fun a => by
    match a with
    | ⟨0, _⟩ => exact (Nat.zero_add _).symm
    | ⟨1, _⟩ => exact (Nat.zero_add _).symm

/-- The index at which a load of row `k` reads. -/
abbrev ofRow (k : ℕ) (i : Shape.Idx ⟨2, ![1, n]⟩) (hk : k < R) : Shape.Idx ⟨2, ![R, n]⟩ := fun a => match a with
  | ⟨0, _⟩ => ⟨k, hk⟩
  | ⟨1, _⟩ => i 1

theorem ofRow_inRow {k : ℕ} {j : Shape.Idx ⟨2, ![R, n]⟩} (h : (j 0).val = k) {hk : k < R} : ofRow k (inRow j) hk = j := by
  funext a
  match a with
  | ⟨0, _⟩ => exact Fin.ext h.symm
  | ⟨1, _⟩ => rfl

theorem ld_row (X : Shape.Idx ⟨2, ![R, n]⟩ → Val e) (k : ℕ) (hk : k < R)
    (inb : ∀ a, (![k, 0] : Fin 2 → ℕ) a + (![1, n] : Fin 2 → ℕ) a ≤ (⟨2, ![R, n]⟩ : Shape).size a)
    (i : (Rect.unit (s := ⟨2, ![R, n]⟩) ![k, 0] ![1, n] inb).shape.Idx) :
    View.ld X (Rect.unit (s := ⟨2, ![R, n]⟩) ![k, 0] ![1, n] inb) i = X (ofRow k i hk) :=
  View.ld_unit_apply_of X ![k, 0] ![1, n] inb i (ofRow k i hk) fun a => by
    match a with
    | ⟨0, _⟩ =>
      have h : (i 0).val < 1 := (i 0).isLt
      show k = k + (i 0).val
      omega
    | ⟨1, _⟩ => exact (Nat.zero_add _).symm

/-- A concatenation of rows read at the place of a one-row piece. -/
theorem concat_row {α : Type} (xs : List ((s : Shape) × (s.Idx → α))) (h : Shape.Concatenates (xs.map (·.1)) ⟨2, ![R, n]⟩ 0)
    (j : Shape.Idx ⟨2, ![R, n]⟩) (k : ℕ) (hk : k < xs.length) (x : Shape.Idx ⟨2, ![1, n]⟩ → α) (hx : xs[k] = ⟨⟨2, ![1, n]⟩, x⟩) (pre : ℕ)
    (hpre : (((xs.take k).map (·.1)).map fun s => if h : s.rank = (⟨2, ![R, n]⟩ : Shape).rank then s.size ((0 : Fin 2).cast h.symm) else 0).sum = pre)
    (hj : (j 0).val = pre) : concatenate ⟨2, ![R, n]⟩ 0 xs h j = x (inRow j) :=
  concatenate_apply_piece 0 xs h j k hk _ x hx rfl pre hpre (inRow j)
    (fun b hb => match b with
      | ⟨0, _⟩ => absurd rfl hb
      | ⟨1, _⟩ => rfl)
    hj.symm

end Cert.Rows

end
-- ==== Proof.FinalKer.lean ====
/- What one grid point of the final norm and loss kernel computes, on real blocks. -/
module

public import proofs.«01_k».proof.Proof.FinalRef
public import proofs.«01_k».proof.Proof.Rows
public import proofs.«01_k».proof.Proof.Gen.FinalIdeal.Value

@[expose] public section

set_option maxRecDepth 16384

noncomputable section

open Idealize.ShloMosaic Idealize.ShloMosaic.TcCoe Idealize.SL.Sem
open Idealize.ShloMosaic.Pipeline (Dat)
open Cert.Lift Cert.Norm Cert.FinalIdeal Cert.FinalIdeal.Gen

namespace Cert.FinalLoss

section block

variable {v0 v15 : Vec Ideal S512x1024 .f32} {v1 : Vec Ideal S1x1024 .f32} {H T : ℕ → ℕ → ℝ} {g : ℕ → ℝ}
  (h0 : ∀ i, v0 i = (H (i 0).val (i 1).val : EReal)) (h1 : ∀ i, v1 i = (g (i 1).val : EReal))
  (h15 : ∀ i, v15 i = (T (i 0).val (i 1).val : EReal))

include h0 in
theorem pay_rr (i) : k0_pay5 (F := Ideal) v0 i = (rr H (i 0).val : EReal) := by
  pointwise [k0_pay5, h0]
  exact rsqrt_real (ms_pos H _)

include h0 in
theorem pay_xn (i) : k0_pay6 (F := Ideal) v0 i = (H (i 0).val (i 1).val * rr H (i 0).val : ℝ) := by
  pointwise [k0_pay6, pay_rr h0, h0]

include h0 h1 h15

theorem pay_err (i) : k0_pay7 (F := Ideal) v0 v1 v15 i = (err H T g (i 0).val (i 1).val : EReal) := by
  pointwise [k0_pay7, k0_pay4, pay_xn h0, h1, h15]; rfl

theorem pay_dy (i) : k0_pay9 (F := Ideal) v0 v1 v15 i = (err H T g (i 0).val (i 1).val * (1 / 1024) : ℝ) := by
  pointwise [k0_pay9, pay_err h0 h1 h15]

theorem pay_dh (i) : k0_pay10 (F := Ideal) v0 v1 v15 i = (dh H T g (i 0).val (i 1).val : EReal) := by
  pointwise [k0_pay10, k0_pay4, pay_dy h0 h1 h15, pay_xn h0, pay_rr h0, h1]
  rfl

theorem pay_loss (i) : k0_pay8 (F := Ideal) v0 v1 v15 i
    = (1 / 2 * ∑ p : Fin 512, (∑ k : Fin 1024, err H T g p k * err H T g p k) / 1024 : ℝ) := by
  pointwise [k0_pay8, pay_err h0 h1 h15]

/-- The row of the gain's gradient, one block of rows added to what it held. -/
theorem pay_row0 (w : Vec Ideal S1x1024 .f32) (i) : k0_pay2 (F := Ideal) (k0_pay6 v0) (k0_pay9 v0 v1 v15) w i
    = w i + (∑ p : Fin 512, err H T g p (i 1).val * (1 / 1024) * (H p (i 1).val * rr H p) : ℝ) := by
  pointwise [k0_pay2, pay_dy h0 h1 h15, pay_xn h0]

/-- The row of the loss, one block of rows added to what it held. -/
theorem pay_row1 (w : Vec Ideal S1x1024 .f32) (i) : k0_pay3 (F := Ideal) (k0_pay8 v0 v1 v15) w i
    = w i + (1 / 2 * ∑ p : Fin 512, (∑ k : Fin 1024, err H T g p k * err H T g p k) / 1024 : ℝ) := by
  pointwise [k0_pay3, pay_loss h0 h1 h15]

end block

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

section run

variable {H T : ℕ → ℕ → ℝ} {g : ℕ → ℝ} {c : Dev nD}
  (hH : ∀ i, m ((c : Thread nD τ).loc main_arg0) i = (H (i 0).val (i 1).val : EReal))
  (hT : ∀ i, m ((c : Thread nD τ).loc main_arg1) i = (T (i 0).val (i 1).val : EReal))
  (hg : ∀ i, m ((c : Thread nD τ).loc main_arg2) i = (g (i 0).val : EReal))

include hH in
theorem blk_h (t : Fin cfg0.N) (i : S512x1024.Idx) : (iblk m c 0 t : Vec Ideal S512x1024 .f32) i = (H (512 * t.val + (i 0).val) (i 1).val : EReal) := by
  blk_simp [iblk]
  rw [V_main_arg0, hH]
  blk_simp [idx t]
  rw [mul_comm]

include hT in
theorem blk_t (t : Fin cfg0.N) (i : S512x1024.Idx) : (iblk m c 1 t : Vec Ideal S512x1024 .f32) i = (T (512 * t.val + (i 0).val) (i 1).val : EReal) := by
  blk_simp [iblk]
  rw [V_main_arg1, hT]
  blk_simp [idx t]
  rw [mul_comm]

include hg in
/-- The first of the eight rows that the host lines prepare holds the gain. -/
theorem rows_g (i : S8x1024.Idx) (h : (i 0).val = 0) : (V m c main_v2 : Vec Ideal S8x1024 .f32) i = (g (i 1).val : EReal) := by
  entry_read
  pointwise
  rw [dif_pos (show (i 0).val < 1 by omega)]
  pointwise [hg]

include hg in
theorem blk_g (t : Fin cfg0.N) (i : S1x1024.Idx) :
    View.ld (iblk m c 2 t : Vec Ideal S8x1024 .f32) (Rect.unit ![0, 0] ![1, 1024] inb_S8x1024_S1x1024_0_0) i = (g (i 1).val : EReal) := by
  rw [Cert.Rows.ld_row _ 0 (by norm_num)]
  blk_simp [iblk]
  rw [rows_g m hg _ (by blk_simp [idx t])]
  blk_simp [idx t]

include hH hT hg

/-- What point `t` leaves of the gradient of the residual stream. -/
theorem out_dh (t : Fin cfg0.N) (j) : (outsAt0 m c t.val t.isLt).1 j = (dh H T g (512 * t.val + (j 0).val) (j 1).val : EReal) := by
  by_cases h : t.val % 16 = 0
  · rw [outsAt0_A m c t h]; frame_out
    exact pay_dh (H := fun p j => H (512 * t.val + p) j) (T := fun p j => T (512 * t.val + p) j) (g := g) (blk_h m hH t) (blk_g m hg t) (blk_t m hT t) j
  · rw [outsAt0_B m c t h]; frame_out
    exact pay_dh (H := fun p j => H (512 * t.val + p) j) (T := fun p j => T (512 * t.val + p) j) (g := g) (blk_h m hH t) (blk_g m hg t) (blk_t m hT t) j

omit hH hT hg in
/-- What block `t` of the rows adds to the two running sums. -/
def part (H T : ℕ → ℕ → ℝ) (g : ℕ → ℝ) (t i j : ℕ) : ℝ :=
  if i = 1 then 1 / 2 * ∑ p : Fin 512, (∑ k : Fin 1024, err H T g (512 * t + p) k * err H T g (512 * t + p) k) / 1024
  else if i = 0 then ∑ p : Fin 512, err H T g (512 * t + p) j * (1 / 1024) * (H (512 * t + p) j * rr H (512 * t + p))
  else 0

theorem out_first (t : Fin cfg0.N) (h : t.val % 16 = 0) (j) : (outsAt0 m c t.val t.isLt).2 j = (part H T g t.val (j 0).val (j 1).val : EReal) := by
  have hz : ∀ i, (k0_pay1 (F := Ideal)) i = ((0 : ℝ) : EReal) := fun i => by pointwise [k0_pay1]; rfl
  rw [outsAt0_A m c t h]; frame_out
  rw [← View.read_writes_junk_eq_canon (ms0_4 t).view, Cert.Rows.read_row, Cert.Rows.read_row, Cert.Rows.read_all]
  simp (disch := decide) only [View.readCov_skip, View.readCov_cons_toLoadRect, View.readCov_fill]
  simp only [part]
  split_ifs with h1 h0
  · refine (pay_row1 (H := fun p j => H (512 * t.val + p) j) (T := fun p j => T (512 * t.val + p) j) (g := g) (blk_h m hH t) (blk_g m hg t) (blk_t m hT t) _ _).trans ?_
    rw [Cert.Rows.ld_row _ 1 (by norm_num), hz, ← EReal.coe_add, zero_add]
    rfl
  · refine (pay_row0 (H := fun p j => H (512 * t.val + p) j) (T := fun p j => T (512 * t.val + p) j) (g := g) (blk_h m hH t) (blk_g m hg t) (blk_t m hT t) _ _).trans ?_
    rw [Cert.Rows.ld_row _ 0 (by norm_num), hz, ← EReal.coe_add, zero_add]
    rfl
  · exact hz j

theorem out_next (t : Fin cfg0.N) (h : ¬t.val % 16 = 0) (j) : (outsAt0 m c t.val t.isLt).2 j
    = (outsAt0 m c (t.val - 1) (Nat.lt_of_le_of_lt (Nat.sub_le _ _) t.isLt)).2 j + (part H T g t.val (j 0).val (j 1).val : EReal) := by
  rw [outsAt0_B m c t h]; frame_out
  rw [Cert.Rows.read_row, Cert.Rows.read_row]
  simp only [part]
  split_ifs with h1 h0
  · refine (pay_row1 (H := fun p j => H (512 * t.val + p) j) (T := fun p j => T (512 * t.val + p) j) (g := g) (blk_h m hH t) (blk_g m hg t) (blk_t m hT t) _ _).trans ?_
    rw [Cert.Rows.ld_row _ 1 (by norm_num), Cert.Rows.ofRow_inRow h1]
    rfl
  · refine (pay_row0 (H := fun p j => H (512 * t.val + p) j) (T := fun p j => T (512 * t.val + p) j) (g := g) (blk_h m hH t) (blk_g m hg t) (blk_t m hT t) _ _).trans ?_
    rw [Cert.Rows.ld_row _ 0 (by norm_num), Cert.Rows.ofRow_inRow h0]
    rfl
  · rw [EReal.coe_zero, add_zero]
    exact congrFun (Memref.IsWhole.read_unread _ _) j

/-- The running sums after `n` points. -/
theorem out_sum (n : ℕ) (h : n < cfg0.N) (j) : (outsAt0 m c n h).2 j
    = ((∑ s ∈ Finset.range (n + 1), part H T g s (j 0).val (j 1).val : ℝ) : EReal) := by
  refine fold_real (fun n h j => (outsAt0 m c n h).2 j) (fun t j => part H T g t (j 0).val (j 1).val) ?_ ?_ n h j
  · exact fun h j => out_first m hH hT hg ⟨0, h⟩ rfl j
  · exact fun n h j => out_next m hH hT hg ⟨n + 1, h⟩ (by have : n + 1 < 16 := h; show ¬(n + 1) % 16 = 0; omega) j

omit hH hT hg in
/-- The blocks' shares add to the sums over all rows. -/
theorem parts (i j : ℕ) : ∑ s ∈ Finset.range 16, part H T g s i j
    = if i = 0 then dgain H T g j else if i = 1 then loss H T g else 0 := by
  unfold part
  split_ifs with h1 h0 h0
  · omega
  · rw [← Finset.mul_sum, sum_blocks 16 512 fun p => (∑ k : Fin 1024, err H T g p k * err H T g p k) / 1024]; rfl
  · rw [sum_blocks 16 512 fun p => err H T g p j * (1 / 1024) * (H p j * rr H p)]; rfl
  · exact Finset.sum_const_zero

/-- The gradient of the residual stream after all points. -/
theorem arr_dh (i) : (dats m 0 c).arrAt 3 cfg0.N i = (dh H T g (i 0).val (i 1).val : EReal) := by
  refine congrFun ((dats m 0 c).arrAt_eq_of_covers 3 (fun i => (dh H T g (i 0).val (i 1).val : EReal)) (by decide +kernel) fun t _ y => ?_) i
  rw [after0_3, out_dh m hH hT hg t]
  blk_simp [idx t]
  rw [mul_comm]

/-- The two sums after all points. -/
theorem arr_sums (i : S8x1024.Idx) : (dats m 0 c).arrAt 4 cfg0.N i
    = ((if (i 0).val = 0 then dgain H T g (i 1).val else if (i 0).val = 1 then loss H T g else 0 : ℝ) : EReal) := by
  refine congrFun ((dats m 0 c).arrAt_eq_of_after_last 4 t0_15 (by decide +kernel)
    (fun i => ((if (i 0).val = 0 then dgain H T g (i 1).val else if (i 0).val = 1 then loss H T g else 0 : ℝ) : EReal)) fun j => ?_) i
  rw [after0_4, out_sum m hH hT hg, ← parts]
  blk_simp [idx t0_15]
  rfl

end run

end Cert.FinalLoss

end
-- ==== Proof.FinalEq.lean ====
/- The loss's call and its reference leave the same arrays on finite arguments. -/
module

public import proofs.«01_k».proof.Defs
public import proofs.«01_k».proof.Proof.FinalKer
public import proofs.«01_k».proof.Proof.Gen.Pre_finite_final

@[expose] public section

set_option maxRecDepth 16384

noncomputable section

open Idealize.ShloMosaic Cert.Lift

namespace Cert.FinalLoss

/-- The precondition says that every argument is an array of reals. -/
theorem reals {x0 x1 : FVec Ideal Pre_finite_final.S8192x1024 .f32} {x2 : FVec Ideal Pre_finite_final.S1024 .f32}
    (h : Pre_finite_final.fn (F := Ideal) x0 x1 x2 = fun _ => 1#1) :
    (∃ H : ℕ → ℕ → ℝ, ∀ i, x0 i = (H (i 0).val (i 1).val : EReal)) ∧ (∃ T : ℕ → ℕ → ℝ, ∀ i, x1 i = (T (i 0).val (i 1).val : EReal))
      ∧ ∃ g : ℕ → ℝ, ∀ i, x2 i = (g (i 0).val : EReal) := by
  have e := congrFun h fun a => a.elim0
  obtain ⟨e, e2⟩ := IntOp.andi_eq_one.1 e
  obtain ⟨e0, e1⟩ := IntOp.andi_eq_one.1 e
  exact ⟨lift2 _ (real_of_all x0 _ (fun _ => rfl) _ _ _ _ e0), lift2 _ (real_of_all x1 _ (fun _ => rfl) _ _ _ _ e1),
    lift1 _ (real_of_all x2 _ (fun _ => rfl) _ _ _ _ e2)⟩

/-- The reference runs and leaves its arguments as they were. -/
theorem frame_ref : quiescent_FinalRefIdeal := fun m ρ _ =>
  (θ_run FinalRefIdeal.defs _ _).mono (fun r h => ⟨fun c => (h c).2.2, sem_eq_zero_of_no_sems (by decide) r.2⟩) (FinalRefIdeal.Value.run m ρ)

/-- On finite arguments both programs leave the same gradient and the same two sums. -/
theorem algebraic : algebraic_FinalIdeal_FinalRefIdeal_pre_finite_final := by
  intro m ρ m' ρ' hpre harg
  refine ⟨fun c => (FinalIdeal.Gen.dats m 0 c).arrAt 3 _, fun c => (FinalIdeal.Gen.dats m 0 c).arrAt 4 _, FinalIdeal.Value.run_blocks m ρ, ?_⟩
  refine (θ_run FinalRefIdeal.defs _ _).mono (fun r h c => ?_) (FinalRefIdeal.Value.run m' ρ')
  obtain ⟨⟨H, hH⟩, ⟨T, hT⟩, g, hg⟩ := reals (hpre c)
  obtain ⟨a0, a1, a2⟩ := harg c
  obtain ⟨r0, r1, k⟩ := h c
  refine ⟨r0.trans ?_, r1.trans ?_, k⟩
  · rw [FinalRefIdeal.Read.val_main_v50_eq, a0, a1, a2]
    exact funext fun i => (ref_dh hH hT hg i).trans (arr_dh m hH hT hg i).symm
  · rw [FinalRefIdeal.Read.val_main_v54_eq, a0, a1, a2]
    exact funext fun i => (ref_sums hH hT hg i).trans (arr_sums m hH hT hg i).symm

end Cert.FinalLoss

end
-- ==== Proof.ConvOutRef.lean ====
/- What the reference of the convolution block's last stage computes, element by element, on real arrays. -/
module

public import proofs.«01_k».proof.Proof.Norm
public import proofs.«01_k».proof.Proof.Gen.ConvOutRefIdeal.Read

@[expose] public section

set_option maxRecDepth 16384

noncomputable section

open Idealize.ShloMosaic Cert.Lift Cert.Norm Cert.ConvOutRefIdeal Cert.ConvOutRefIdeal.Read

namespace Cert.ConvTail

section real
variable (Y U W : ℕ → ℕ → ℝ) (gl bl ga : ℕ → ℝ) (p j : ℕ)

/-- The gradient of the activation: the gated cotangent times the transposed weight. -/
def dz : ℝ := ∑ k : Fin 1024, ga k * Y p k * W j k
/-- The normalised row times the gain, with the bias. -/
def un : ℝ := xh U p j * gl j + bl j
/-- The gradient before the activation. -/
def dun : ℝ := dz Y W ga p j * (sg (un U gl bl p j) * (1 + un U gl bl p j * (1 - sg (un U gl bl p j))))
/-- The gradient of the normalised row. -/
def dxh : ℝ := dun Y U W gl bl ga p j * gl j
/-- The gradient of the norm's argument. -/
def du : ℝ := rs U p * (dxh Y U W gl bl ga p j - (∑ k : Fin 1024, dxh Y U W gl bl ga p k) / 1024
  - xh U p j * ((∑ k : Fin 1024, dxh Y U W gl bl ga p k * xh U p k) / 1024))
/-- The three sums over the rows: the gain's gradient, the bias's, and the cotangent's. -/
def sums (i : ℕ) : ℝ :=
  if i = 0 then ∑ q : Fin 8192, dun Y U W gl bl ga q j * xh U q j else if i = 1 then ∑ q : Fin 8192, dun Y U W gl bl ga q j
  else if i = 2 then ∑ q : Fin 8192, Y q j else 0
end real

section reference

variable {x0 : (⟨S8192x1024, .f32⟩ : BufTy).Contents (Elt Ideal)} {x1 : (⟨S8192x2048, .f32⟩ : BufTy).Contents (Elt Ideal)}
  {x2 : (⟨S31x1024, .f32⟩ : BufTy).Contents (Elt Ideal)} {x3 x4 x5 x8 : (⟨S1024, .f32⟩ : BufTy).Contents (Elt Ideal)}
  {x6 : (⟨S1024x1024, .f32⟩ : BufTy).Contents (Elt Ideal)} {Y U W : ℕ → ℕ → ℝ} {gl bl ga : ℕ → ℝ}
  (h0 : ∀ i, x0 i = (Y (i 0).val (i 1).val : EReal)) (h1 : ∀ i, val_main_v26 (F := Ideal) x1 x2 x3 i = (U (i 0).val (i 1).val : EReal))
  (h4 : ∀ i, x4 i = (gl (i 0).val : EReal)) (h5 : ∀ i, x5 i = (bl (i 0).val : EReal))
  (h6 : ∀ i, x6 i = (W (i 0).val (i 1).val : EReal)) (h8 : ∀ i, x8 i = (ga (i 0).val : EReal))

attribute [local pointwise] val_main_v0_apply val_main_v1_apply val_main_v2_apply val_main_v3_apply val_main_cst_apply val_main_v4_apply
  val_main_v5_apply val_main_cst_0_apply val_main_v6_apply val_main_v7_apply val_main_c_apply val_main_call0_v0_apply val_main_v10_apply
  val_main_v11_apply val_main_v12_apply val_main_c_1_apply val_main_v13_apply val_main_v14_apply val_main_c_2_apply val_main_v15_apply
  val_main_v16_apply val_main_v17_apply val_main_v18_apply val_main_v20_apply val_main_v21_apply val_main_cst_3_apply val_main_v23_apply
  val_main_v24_apply val_main_v25_apply val_main_v27_apply val_main_cst_4_apply val_main_v28_apply val_main_v29_apply val_main_cst_5_apply
  val_main_v30_apply val_main_v32_apply val_main_v34_apply val_main_cst_6_apply val_main_v35_apply val_main_v36_apply val_main_cst_7_apply
  val_main_v37_apply val_main_v38_apply val_main_cst_8_apply val_main_v39_apply val_main_v40_apply val_main_v41_apply val_main_cst_9_apply
  val_main_v43_apply val_main_v46_apply val_main_cst_10_apply val_main_v47_apply val_main_v48_apply val_main_v49_apply val_main_v51_apply
  val_main_v52_apply val_main_v53_apply val_main_v54_apply val_main_v55_apply val_main_call1_v0_apply val_main_call1_v1_apply val_main_call1_cst_apply
  val_main_call1_v2_apply val_main_call1_v3_apply val_main_call1_cst_0_apply val_main_call1_v4_apply val_main_call1_cst_1_apply
  val_main_call1_v6_apply val_main_call1_v7_apply val_main_v57_0_apply val_main_v58_apply val_main_v59_apply val_main_v60_apply val_main_v61_apply
  val_main_v62_apply val_main_v63_apply val_main_v64_apply val_main_v65_apply val_main_call2_v0_apply val_main_call2_v1_apply val_main_call2_v2_apply
  val_main_cst_11_apply val_main_v68_apply val_main_v69_apply val_main_cst_12_apply val_main_v70_apply val_main_v71_apply val_main_cst_13_apply
  val_main_v72_apply val_main_v73_apply val_main_v74_apply val_main_cst_14_apply val_main_v76_apply val_main_v77_apply val_main_cst_15_apply
  val_main_v78_apply val_main_v79_apply val_main_v80_apply val_main_v81_apply val_main_v82_apply val_main_v83_apply val_main_cst_16_apply
  val_main_v84_apply val_main_v85_apply val_main_cst_17_apply val_main_v86_apply val_main_v87_apply val_main_cst_18_apply val_main_v88_apply
  val_main_v89_apply val_main_v90_apply val_main_v91_apply val_main_cst_19_apply val_main_v92_apply val_main_v93_apply val_main_v94_apply
  val_main_v95_apply val_main_cst_20_apply val_main_v96_apply val_main_v97_apply val_main_cst_21_apply val_main_v98_apply val_main_v99_apply
  val_main_v101_apply val_main_cst_22_apply val_main_v102_apply val_main_cst_23_apply val_main_v106_apply

/-- What the convolution leaves is an array of reals when its arguments are. -/
theorem mid_real {P Wd : ℕ → ℕ → ℝ} {bd : ℕ → ℝ} (hP : ∀ i, x1 i = (P (i 0).val (i 1).val : EReal)) (hW : ∀ i, x2 i = (Wd (i 0).val (i 1).val : EReal))
    (hb : ∀ i, x3 i = (bd (i 0).val : EReal)) : ∃ U : ℕ → ℕ → ℝ, ∀ i, val_main_v26 (F := Ideal) x1 x2 x3 i = (U (i 0).val (i 1).val : EReal) := by
  have gate : ∀ i, val_main_v8 (F := Ideal) x1 i = (P (i 0).val (i 1).val * sg (P (i 0).val (1024 + (i 1).val)) : ℝ) := fun i => by
    pointwise [val_main_v8_apply, hP]
  have padded : ∀ i, ∃ r : ℝ, val_main_v9 (F := Ideal) x1 i = r := fun i => by
    unfold val_main_v9 pad
    split
    · exact ⟨_, gate _⟩
    · exact ⟨((0#32).toInt : ℝ), by pointwise; rfl⟩
  have taps : ∀ i, ∃ r : ℝ, val_main_v22 (F := Ideal) x1 x2 i = r := fun i => by
    obtain ⟨r, hr⟩ : ∃ r : ℝ, val_main_v19 (F := Ideal) x1 i = r := padded _
    exact ⟨r * Wd (i 0).val (i 2).val, by pointwise [val_main_v22_apply, hr, hW]⟩
  choose G hG using taps
  refine lift2 _ fun i => ⟨(∑ k : Fin 31, G (idx_main_v23 i k)) + bd (i 1).val, ?_⟩
  pointwise [val_main_v26_apply, hG, hb]

include h1 in
theorem ref_mu (i) : val_main_v31 (F := Ideal) x1 x2 x3 i = (mu U (i 0).val : EReal) := by
  pointwise [val_main_v31_apply, h1]; rfl

include h1 in
theorem ref_xm (i) : val_main_v42 (F := Ideal) x1 x2 x3 i = (U (i 0).val (i 1).val - mu U (i 0).val : ℝ) := by
  pointwise [val_main_v42_apply, ref_mu h1, h1]

include h1 in
theorem ref_va (i) : val_main_v44 (F := Ideal) x1 x2 x3 i = (va U (i 0).val : EReal) := by
  pointwise [val_main_v44_apply, val_main_v33_apply, ref_mu h1, h1]; rfl

include h1 in
theorem ref_rs (i) : val_main_v45 (F := Ideal) x1 x2 x3 i = (rs U (i 0).val : EReal) := by
  pointwise [val_main_v45_apply, ref_va h1, rsqrt_real (va_pos U _)]; rfl

include h1 in
theorem ref_xh (i) : val_main_v50 (F := Ideal) x1 x2 x3 i = (xh U (i 0).val (i 1).val : EReal) := by
  pointwise [val_main_v50_apply, ref_rs h1, ref_xm h1]; rfl

include h1 h4 h5 in
theorem ref_un (i) : val_main_v56 (F := Ideal) x1 x2 x3 x4 x5 i = (un U gl bl (i 0).val (i 1).val : EReal) := by
  pointwise [val_main_v56_apply, ref_xh h1, h4, h5]; rfl

include h1 h4 h5 in
theorem ref_sg (i) : val_main_v57_2 (F := Ideal) x1 x2 x3 x4 x5 i = (sg (un U gl bl (i 0).val (i 1).val) : EReal) := by
  pointwise [val_main_v57_2_apply, ref_un h1 h4 h5]

include h0 h6 h8 in
theorem ref_dz (i) : val_main_v66 (F := Ideal) x0 x6 x8 i = (dz Y W ga (i 0).val (i 1).val : EReal) := by
  pointwise [val_main_v66_apply, h0, h6, h8]; rfl

include h0 h1 h4 h5 h6 h8
theorem ref_dun (i) : val_main_v67 (F := Ideal) x0 x1 x2 x3 x4 x5 x6 x8 i = (dun Y U W gl bl ga (i 0).val (i 1).val : EReal) := by
  pointwise [val_main_v67_apply, val_main_v57_1_apply, ref_dz h0 h6 h8, ref_sg h1 h4 h5, ref_un h1 h4 h5]
  exact congrArg Real.toEReal (by unfold dun; ring)

theorem ref_dxh (i) : val_main_v75 (F := Ideal) x0 x1 x2 x3 x4 x5 x6 x8 i = (dxh Y U W gl bl ga (i 0).val (i 1).val : EReal) := by
  pointwise [val_main_v75_apply, ref_dun h0 h1 h4 h5 h6 h8, h4]; rfl

/-- The gradient of the norm's argument. -/
theorem ref_du (i) : val_main_v100 (F := Ideal) x0 x1 x2 x3 x4 x5 x6 x8 i = (du Y U W gl bl ga (i 0).val (i 1).val : EReal) := by
  pointwise [val_main_v100_apply, val_main_v33_apply, ref_mu h1, ref_dxh h0 h1 h4 h5 h6 h8, ref_xm h1, ref_rs h1, ref_va h1, div_real _ (va_pos U _).ne', h1]
  exact congrArg Real.toEReal (ln_bwd U (dxh Y U W gl bl ga (i 0).val) (i 0).val (i 1).val)

/-- The three sums, one to a row of eight, the others zero. -/
theorem ref_sums (i) : val_main_v107 (F := Ideal) x0 x1 x2 x3 x4 x5 x6 x8 i = (sums Y U W gl bl ga (i 1).val (i 0).val : EReal) := by
  pointwise [val_main_v107, val_main_v103_apply, val_main_v104_apply, val_main_v105_apply, ref_dun h0 h1 h4 h5 h6 h8, ref_xh h1, h0]
  unfold sums
  split_ifs <;> first | rfl | omega | exact congrArg Real.toEReal (Finset.sum_congr rfl fun q _ => mul_comm _ _)

end reference

end Cert.ConvTail

end
-- ==== Proof.ConvOutKer.lean ====
/- What the convolution block's last stage writes back: one block of rows, and the sums over all of them, on real arrays. -/
module

public import proofs.«01_k».proof.Proof.ConvOutRef
public import proofs.«01_k».proof.Proof.Rows
public import proofs.«01_k».proof.Proof.Gen.ConvOutIdeal.Value

@[expose] public section

set_option maxRecDepth 16384

noncomputable section

open Idealize.ShloMosaic Idealize.ShloMosaic.TcCoe Idealize.ShloMosaic.Pipeline Idealize.SL.Sem
open Cert.Lift Cert.Norm Cert.ConvOutIdeal Cert.ConvOutIdeal.Gen

namespace Cert.ConvTail

section block

variable {v0 v12 : Vec Ideal S512x1024 .f32} {v1 : Vec Ideal S40x1024 .f32} {v9 : Vec Ideal S1024x1024 .bf16} {Y U W : ℕ → ℕ → ℝ} {gl bl ga : ℕ → ℝ}
  {X : ℕ → ℕ → EReal} (h0 : ∀ i, v0 i = (Y (i 0).val (i 1).val : EReal)) (h12 : ∀ i, v12 i = (U (i 0).val (i 1).val : EReal))
  (h1 : ∀ i, v1 i = if (i 0).val = 32 then (gl (i 1).val : EReal) else if (i 0).val = 33 then (bl (i 1).val : EReal)
    else if (i 0).val = 35 then (ga (i 1).val : EReal) else X (i 0).val (i 1).val)
  (h9 : ∀ i, v9 i = (W (i 0).val (i 1).val : EReal))

include h0 h1 h9 in
theorem pay_dz (i) : k0_pay5 (F := Ideal) v0 v1 v9 i = (dz Y W ga (i 0).val (i 1).val : EReal) := by
  pointwise [k0_pay5, k0_pay3, h0, h1, h9]
  rfl

include h12 in
theorem pay_xm (i) : k0_pay6 (F := Ideal) v12 i = (U (i 0).val (i 1).val - mu U (i 0).val : ℝ) := by
  pointwise [k0_pay6, h12]
  rfl

include h12 in
theorem pay_rs (i) : k0_pay7 (F := Ideal) v12 i = (rs U (i 0).val : EReal) := by
  pointwise [k0_pay7, pay_xm h12]
  exact rsqrt_real (va_pos U _)

include h12 in
theorem pay_xh (i) : k0_pay8 (F := Ideal) v12 i = (xh U (i 0).val (i 1).val : EReal) := by
  pointwise [k0_pay8, pay_xm h12, pay_rs h12]
  rfl

include h12 h1 in
theorem pay_un (i) : k0_pay9 (F := Ideal) v1 v12 i = (un U gl bl (i 0).val (i 1).val : EReal) := by
  pointwise [k0_pay9, k0_pay3, pay_xh h12, h1]
  rfl

include h0 h1 h9 h12

/-- The gradient before the activation, as the block computes it. -/
theorem pay_dun {one : Ideal .f32} (h : one = ((1 : ℝ) : EReal)) (i) : k0_pay12 (F := Ideal) (k0_pay5 v0 v1 v9) (k0_pay10 v1 v12) (k0_pay11 v1 v12) one i = (dun Y U W gl bl ga (i 0).val (i 1).val : EReal) := by
  subst h
  pointwise [k0_pay12, k0_pay10, k0_pay11, pay_dz h0 h1 h9, pay_un h12 h1]
  rfl

theorem pay_du (i) : k0_pay13 (F := Ideal) (k0_pay3 v1) (k0_pay5 v0 v1 v9) (k0_pay7 v12) (k0_pay8 v12) (k0_pay10 v1 v12) (k0_pay11 v1 v12) (Scalar.ofBits .f32 0x3F800000#32) i
    = (du Y U W gl bl ga (i 0).val (i 1).val : EReal) := by
  pointwise [k0_pay13, k0_pay3, pay_dun h0 h12 h1 h9 (one := ((1 : ℝ) : EReal)) rfl, pay_rs h12, pay_xh h12, h1]
  rfl

/-- The rows of the three sums, one block of rows added to what they held. -/
theorem pay_row0 (w : Vec Ideal S1x1024 .f32) (i) :
    k0_pay17 (F := Ideal) (k0_pay5 v0 v1 v9) (k0_pay8 v12) (k0_pay10 v1 v12) (k0_pay11 v1 v12) (Scalar.ofBits .f32 0x3F800000#32) w i
      = w i + (∑ q : Fin 512, dun Y U W gl bl ga q (i 1).val * xh U q (i 1).val : ℝ) := by
  pointwise [k0_pay17, pay_dun h0 h12 h1 h9 (one := ((1 : ℝ) : EReal)) rfl, pay_xh h12]

theorem pay_row1 (w : Vec Ideal S1x1024 .f32) (i) :
    k0_pay1 (k0_pay14 (F := Ideal) (k0_pay5 v0 v1 v9) (k0_pay10 v1 v12) (k0_pay11 v1 v12) (Scalar.ofBits .f32 0x3F800000#32)) (k0_pay18 w) i
      = w i + (∑ q : Fin 512, dun Y U W gl bl ga q (i 1).val : ℝ) := by
  pointwise [k0_pay1, k0_pay14, k0_pay18, pay_dun h0 h12 h1 h9 (one := ((1 : ℝ) : EReal)) rfl]

omit h1 h9 h12 in
theorem pay_row2 (w : Vec Ideal S1x1024 .f32) (i) : k0_pay2 (F := Ideal) (k0_pay15 v0) w i = w i + (∑ q : Fin 512, Y q (i 1).val : ℝ) := by
  pointwise [k0_pay2, k0_pay15, h0]

end block

end Cert.ConvTail

end
-- ==== Proof.ConvOutRun.lean ====
/- What the convolution block's last stage writes back: one block of rows, and the sums over all of them, on real arrays. -/
module

public import proofs.«01_k».proof.Proof.ConvOutKer
public import proofs.«01_k».proof.Proof.Rows
public import proofs.«01_k».proof.Proof.Gen.ConvOutIdeal.Value

@[expose] public section

set_option maxRecDepth 16384

noncomputable section

open Idealize.ShloMosaic Idealize.ShloMosaic.TcCoe Idealize.ShloMosaic.Pipeline Idealize.SL.Sem
open Cert.Lift Cert.Norm Cert.ConvOutIdeal Cert.ConvOutIdeal.Gen

namespace Cert.ConvTail

section run

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ win0_5.index t = ![t.val, 0] ∧ win0_6.index t = ![0, 0] :=
  (by decide +kernel : ∀ t : Fin grid0.N, _)

/-- What the host lines before the call leave, one list of them after another. -/
theorem V_eq (c : Dev nD) (b : Ref sig .tc) : V m c b = StableHlo.after hostOps0_2 (StableHlo.after hostOps0_1 (StableHlo.after hostOps0 fun b => m (c, b))) (Proc.devRef .tc b) := by
  unfold V
  rw [List.flatten_cons, List.flatten_cons, List.flatten_cons, List.flatten_nil, List.append_nil, StableHlo.after_append, StableHlo.after_append]

variable {Y U W : ℕ → ℕ → ℝ} {gl bl ga : ℕ → ℝ} {c : Dev nD}
  (hY : ∀ i, m ((c : Thread nD τ).loc main_arg0) i = (Y (i 0).val (i 1).val : EReal))
  (hU : ∀ i, ConvOutRefIdeal.Read.val_main_v26 (F := Ideal) (m ((c : Thread nD τ).loc main_arg1)) (m ((c : Thread nD τ).loc main_arg2)) (m ((c : Thread nD τ).loc main_arg3)) i
    = (U (i 0).val (i 1).val : EReal))
  (hl : ∀ i, m ((c : Thread nD τ).loc main_arg4) i = (gl (i 0).val : EReal))
  (hb : ∀ i, m ((c : Thread nD τ).loc main_arg5) i = (bl (i 0).val : EReal))
  (hW : ∀ i, m ((c : Thread nD τ).loc main_arg6) i = (W (i 0).val (i 1).val : EReal))
  (ha : ∀ i, m ((c : Thread nD τ).loc main_arg8) i = (ga (i 0).val : EReal))

include hY in
theorem blk_y (t : Fin cfg0.N) (i : S512x1024.Idx) : (iblk m c 0 t : Vec Ideal S512x1024 .f32) i = (Y (512 * t.val + (i 0).val) (i 1).val : EReal) := by
  blk_simp [iblk]
  rw [V_main_arg0, hY]
  blk_simp [idx t]
  rw [mul_comm]

/-- What the host lines before the call compute of the convolution is what the reference computes. -/
theorem mid_eq : (V m c main_v33 : Vec Ideal S8192x1024 .f32)
    = ConvOutRefIdeal.Read.val_main_v26 (F := Ideal) (m ((c : Thread nD τ).loc main_arg1)) (m ((c : Thread nD τ).loc main_arg2)) (m ((c : Thread nD τ).loc main_arg3)) := by
  rw [V_eq]
  simp only [StableHlo.after_cons, StableHlo.after_nil]
  after_results_simp
  after_results_loop
  rfl

include hU in
theorem blk_u (t : Fin cfg0.N) (i : S512x1024.Idx) : (iblk m c 1 t : Vec Ideal S512x1024 .f32) i = (U (512 * t.val + (i 0).val) (i 1).val : EReal) := by
  blk_simp [iblk]
  rw [mid_eq, hU]
  blk_simp [idx t]
  rw [mul_comm]

/-- One of the rows that the host lines pack, read off the array they make. -/
theorem packed (k n : ℕ) (i : S40x1024.Idx) (y : ℕ → ℝ) (h : k = 2 ∧ n = 32 ∧ (∀ i, m ((c : Thread nD τ).loc main_arg4) i = (y (i 0).val : EReal))
      ∨ k = 3 ∧ n = 33 ∧ (∀ i, m ((c : Thread nD τ).loc main_arg5) i = (y (i 0).val : EReal))
      ∨ k = 5 ∧ n = 35 ∧ (∀ i, m ((c : Thread nD τ).loc main_arg8) i = (y (i 0).val : EReal)))
    (a : (i 0).val = n) : (V m c main_v6 : Vec Ideal S40x1024 .f32) i = (y (i 1).val : EReal) := by
  rw [V_eq]
  simp only [StableHlo.after_cons, StableHlo.after_nil]
  after_results_simp
  rcases h with ⟨rfl, rfl, h⟩ | ⟨rfl, rfl, h⟩ | ⟨rfl, rfl, h⟩
  · refine (Cert.Rows.concat_row _ _ i 2 (by simp) _ rfl 32 rfl a).trans ?_
    simp only [Matrix.cons_val]
    after_results_loop
    pointwise [h]
  · refine (Cert.Rows.concat_row _ _ i 3 (by simp) _ rfl 33 rfl a).trans ?_
    simp only [Matrix.cons_val]
    after_results_loop
    pointwise [h]
  · refine (Cert.Rows.concat_row _ _ i 5 (by simp) _ rfl 35 rfl a).trans ?_
    simp only [Matrix.cons_val]
    after_results_loop
    pointwise [h]

include hl hb ha in
/-- The packed rows: the gain, the bias and the gate are at rows 32, 33 and 35. -/
theorem blk_c : ∃ X : ℕ → ℕ → EReal, ∀ (t : Fin cfg0.N) (i : S40x1024.Idx), (iblk m c 2 t : Vec Ideal S40x1024 .f32) i
    = if (i 0).val = 32 then (gl (i 1).val : EReal) else if (i 0).val = 33 then (bl (i 1).val : EReal)
      else if (i 0).val = 35 then (ga (i 1).val : EReal) else X (i 0).val (i 1).val := by
  obtain ⟨X, hX⟩ := lift2E (V m c main_v6 : Vec Ideal S40x1024 .f32)
  refine ⟨X, fun t i => ?_⟩
  have e : (iblk m c 2 t : Vec Ideal S40x1024 .f32) i = (V m c main_v6 : Vec Ideal S40x1024 .f32) i := by
    blk_simp [iblk]
    exact congrArg (V m c main_v6 : Vec Ideal S40x1024 .f32) (by blk_ext [idx t])
  rw [e]
  split_ifs with a b d
  · exact packed m 2 32 i gl (.inl ⟨rfl, rfl, hl⟩) a
  · exact packed m 3 33 i bl (.inr (.inl ⟨rfl, rfl, hb⟩)) b
  · exact packed m 5 35 i ga (.inr (.inr ⟨rfl, rfl, ha⟩)) d
  · exact hX i

include hW in
theorem blk_w (t : Fin cfg0.N) (i : S1024x1024.Idx) : (iblk m c 3 t : Vec Ideal S1024x1024 .bf16) i = (W (i 0).val (i 1).val : EReal) := by
  blk_simp [iblk]
  rw [V_eq]
  simp only [StableHlo.after_cons, StableHlo.after_nil]
  after_results_simp
  after_results_loop
  pointwise [hW]
  blk_simp [idx t]

include hY hU hl hb hW ha

/-- What point `t` leaves of the gradient of the norm's argument. -/
theorem out_du (t : Fin cfg0.N) (j) : (outsAt0 m c t.val t.isLt).1 j = (du Y U W gl bl ga (512 * t.val + (j 0).val) (j 1).val : EReal) := by
  obtain ⟨X, hX⟩ := blk_c m hl hb ha
  have key := pay_du (Y := fun p j => Y (512 * t.val + p) j) (U := fun p j => U (512 * t.val + p) j) (W := W) (blk_y m hY t) (blk_u m hU t) (hX t) (blk_w m hW t) j
  by_cases h : t.val % 16 = 0
  · rw [outsAt0_A m c t h]; frame_out
    exact key
  · rw [outsAt0_B m c t h]; frame_out
    exact key

omit hU hl hb hW ha in
/-- What point `t` leaves of the rounded cotangent. -/
theorem out_y (t : Fin cfg0.N) (j) : (outsAt0 m c t.val t.isLt).2.1 j = (Y (512 * t.val + (j 0).val) (j 1).val : EReal) := by
  have key : (k0_pay4 (F := Ideal) (iblk m c 0 t)) j = (Y (512 * t.val + (j 0).val) (j 1).val : EReal) := by pointwise [k0_pay4, blk_y m hY t]
  by_cases h : t.val % 16 = 0
  · rw [outsAt0_A m c t h]; frame_out
    exact key
  · rw [outsAt0_B m c t h]; frame_out
    exact key

omit hY hU hl hb hW ha in
/-- What block `t` of the rows adds to the three running sums. -/
def part (Y U W : ℕ → ℕ → ℝ) (gl bl ga : ℕ → ℝ) (t i j : ℕ) : ℝ :=
  if i = 2 then ∑ q : Fin 512, Y (512 * t + q) j
  else if i = 1 then ∑ q : Fin 512, dun Y U W gl bl ga (512 * t + q) j
  else if i = 0 then ∑ q : Fin 512, dun Y U W gl bl ga (512 * t + q) j * xh U (512 * t + q) j
  else 0

theorem out_first (t : Fin cfg0.N) (h : t.val % 16 = 0) (j) : (outsAt0 m c t.val t.isLt).2.2 j = (part Y U W gl bl ga t.val (j 0).val (j 1).val : EReal) := by
  obtain ⟨X, hX⟩ := blk_c m hl hb ha
  have hz : ∀ i, (k0_pay16 (F := Ideal)) i = ((0 : ℝ) : EReal) := fun i => by pointwise [k0_pay16]; rfl
  rw [outsAt0_A m c t h]; frame_out
  rw [← View.read_writes_junk_eq_canon (ms0_6 t).view, Cert.Rows.read_row, Cert.Rows.read_row, Cert.Rows.read_row, Cert.Rows.read_all]
  simp (disch := decide) only [View.readCov_skip, View.readCov_cons_toLoadRect, View.readCov_fill]
  simp only [part]
  split_ifs with h2 h1 h0
  · refine (pay_row2 (Y := fun p j => Y (512 * t.val + p) j) (blk_y m hY t) _ _).trans ?_
    rw [Cert.Rows.ld_row _ 2 (by norm_num), hz, ← EReal.coe_add, zero_add]
  · refine (pay_row1 (Y := fun p j => Y (512 * t.val + p) j) (U := fun p j => U (512 * t.val + p) j) (W := W) (blk_y m hY t) (blk_u m hU t) (hX t) (blk_w m hW t) _ _).trans ?_
    rw [Cert.Rows.ld_row _ 1 (by norm_num), hz, ← EReal.coe_add, zero_add]
    rfl
  · refine (pay_row0 (Y := fun p j => Y (512 * t.val + p) j) (U := fun p j => U (512 * t.val + p) j) (W := W) (blk_y m hY t) (blk_u m hU t) (hX t) (blk_w m hW t) _ _).trans ?_
    rw [Cert.Rows.ld_row _ 0 (by norm_num), hz, ← EReal.coe_add, zero_add]
    rfl
  · exact hz j

theorem out_next (t : Fin cfg0.N) (h : ¬t.val % 16 = 0) (j) : (outsAt0 m c t.val t.isLt).2.2 j
    = (outsAt0 m c (t.val - 1) (Nat.lt_of_le_of_lt (Nat.sub_le _ _) t.isLt)).2.2 j + (part Y U W gl bl ga t.val (j 0).val (j 1).val : EReal) := by
  obtain ⟨X, hX⟩ := blk_c m hl hb ha
  rw [outsAt0_B m c t h]; frame_out
  rw [Cert.Rows.read_row, Cert.Rows.read_row, Cert.Rows.read_row]
  simp only [part]
  split_ifs with h2 h1 h0
  · refine (pay_row2 (Y := fun p j => Y (512 * t.val + p) j) (blk_y m hY t) _ _).trans ?_
    rw [Cert.Rows.ld_row _ 2 (by norm_num), Cert.Rows.ofRow_inRow h2]
  · refine (pay_row1 (Y := fun p j => Y (512 * t.val + p) j) (U := fun p j => U (512 * t.val + p) j) (W := W) (blk_y m hY t) (blk_u m hU t) (hX t) (blk_w m hW t) _ _).trans ?_
    rw [Cert.Rows.ld_row _ 1 (by norm_num), Cert.Rows.ofRow_inRow h1]
    rfl
  · refine (pay_row0 (Y := fun p j => Y (512 * t.val + p) j) (U := fun p j => U (512 * t.val + p) j) (W := W) (blk_y m hY t) (blk_u m hU t) (hX t) (blk_w m hW t) _ _).trans ?_
    rw [Cert.Rows.ld_row _ 0 (by norm_num), Cert.Rows.ofRow_inRow h0]
    rfl
  · rw [EReal.coe_zero, add_zero]
    exact congrFun (Memref.IsWhole.read_unread _ _) j

/-- The running sums after `n` points. -/
theorem out_sum (n : ℕ) (h : n < cfg0.N) (j) : (outsAt0 m c n h).2.2 j
    = ((∑ s ∈ Finset.range (n + 1), part Y U W gl bl ga s (j 0).val (j 1).val : ℝ) : EReal) := by
  refine fold_real (fun n h j => (outsAt0 m c n h).2.2 j) (fun t j => part Y U W gl bl ga t (j 0).val (j 1).val) ?_ ?_ n h j
  · exact fun h j => out_first m hY hU hl hb hW ha ⟨0, h⟩ rfl j
  · exact fun n h j => out_next m hY hU hl hb hW ha ⟨n + 1, h⟩ (by have : n + 1 < 16 := h; show ¬(n + 1) % 16 = 0; omega) j

omit hY hU hl hb hW ha in
/-- The blocks' shares add to the sums over all rows. -/
theorem parts (i j : ℕ) : ∑ s ∈ Finset.range 16, part Y U W gl bl ga s i j = sums Y U W gl bl ga j i := by
  unfold part sums
  split_ifs <;> first
    | omega
    | exact sum_blocks 16 512 fun q => Y q j
    | exact sum_blocks 16 512 fun q => dun Y U W gl bl ga q j
    | exact sum_blocks 16 512 fun q => dun Y U W gl bl ga q j * xh U q j
    | exact Finset.sum_const_zero

/-- The gradient of the norm's argument after all points. -/
theorem arr_du (i) : (dats m 0 c).arrAt 4 cfg0.N i = (du Y U W gl bl ga (i 0).val (i 1).val : EReal) := by
  refine congrFun ((dats m 0 c).arrAt_eq_of_covers 4 (fun i => (du Y U W gl bl ga (i 0).val (i 1).val : EReal)) (by decide +kernel) fun t _ y => ?_) i
  rw [after0_4, out_du m hY hU hl hb hW ha t]
  blk_simp [idx t]
  rw [mul_comm]

omit hU hl hb hW ha in
/-- The rounded cotangent after all points. -/
theorem arr_y (i) : (dats m 0 c).arrAt 5 cfg0.N i = (Y (i 0).val (i 1).val : EReal) := by
  refine congrFun ((dats m 0 c).arrAt_eq_of_covers 5 (fun i => (Y (i 0).val (i 1).val : EReal)) (by decide +kernel) fun t _ y => ?_) i
  rw [after0_5, out_y m hY t]
  blk_simp [idx t]
  rw [mul_comm]

/-- The three sums after all points. -/
theorem arr_sums (i : S8x1024.Idx) : (dats m 0 c).arrAt 6 cfg0.N i = (sums Y U W gl bl ga (i 1).val (i 0).val : EReal) := by
  refine congrFun ((dats m 0 c).arrAt_eq_of_after_last 6 t0_15 (by decide +kernel) (fun i => (sums Y U W gl bl ga (i 1).val (i 0).val : EReal)) fun j => ?_) i
  rw [after0_6, out_sum m hY hU hl hb hW ha, ← parts]
  blk_simp [idx t0_15]
  rfl

end run

end Cert.ConvTail

end
-- ==== Proof.ConvOutEq.lean ====
/- The convolution block's last stage, backward, and its reference leave the same arrays on finite arguments. -/
module

public import proofs.«01_k».proof.Defs
public import proofs.«01_k».proof.Proof.ConvOutRun
public import proofs.«01_k».proof.Proof.Gen.Pre_finite_co

@[expose] public section

set_option maxRecDepth 16384

noncomputable section

open Idealize.ShloMosaic Cert.Lift

namespace Cert.ConvTail

/-- The precondition says that the eight arguments it names are arrays of reals. -/
theorem reals {x0 : FVec Ideal Pre_finite_co.S8192x1024 .f32} {x1 : FVec Ideal Pre_finite_co.S8192x2048 .f32} {x2 : FVec Ideal Pre_finite_co.S31x1024 .f32}
    {x3 x4 x5 x7 x8 : FVec Ideal Pre_finite_co.S1024 .f32} {x6 : FVec Ideal Pre_finite_co.S1024x1024 .f32}
    (h : Pre_finite_co.fn (F := Ideal) x0 x1 x2 x3 x4 x5 x6 x7 x8 = fun _ => 1#1) :
    (∃ Y : ℕ → ℕ → ℝ, ∀ i, x0 i = (Y (i 0).val (i 1).val : EReal)) ∧ (∃ P : ℕ → ℕ → ℝ, ∀ i, x1 i = (P (i 0).val (i 1).val : EReal))
      ∧ (∃ D : ℕ → ℕ → ℝ, ∀ i, x2 i = (D (i 0).val (i 1).val : EReal)) ∧ (∃ b : ℕ → ℝ, ∀ i, x3 i = (b (i 0).val : EReal))
      ∧ (∃ g : ℕ → ℝ, ∀ i, x4 i = (g (i 0).val : EReal)) ∧ (∃ b : ℕ → ℝ, ∀ i, x5 i = (b (i 0).val : EReal))
      ∧ (∃ W : ℕ → ℕ → ℝ, ∀ i, x6 i = (W (i 0).val (i 1).val : EReal)) ∧ ∃ a : ℕ → ℝ, ∀ i, x8 i = (a (i 0).val : EReal) := by
  have e := congrFun h fun a => a.elim0
  obtain ⟨e, e8⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨lift2 _ (real_of_all x0 _ (fun _ => rfl) _ _ _ _ e0), lift2 _ (real_of_all x1 _ (fun _ => rfl) _ _ _ _ e1),
    lift2 _ (real_of_all x2 _ (fun _ => rfl) _ _ _ _ e2), lift1 _ (real_of_all x3 _ (fun _ => rfl) _ _ _ _ e3),
    lift1 _ (real_of_all x4 _ (fun _ => rfl) _ _ _ _ e4), lift1 _ (real_of_all x5 _ (fun _ => rfl) _ _ _ _ e5),
    lift2 _ (real_of_all x6 _ (fun _ => rfl) _ _ _ _ e6), lift1 _ (real_of_all x8 _ (fun _ => rfl) _ _ _ _ e8)⟩

/-- The reference runs and leaves its arguments as they were. -/
theorem frame_ref : quiescent_ConvOutRefIdeal := fun m ρ _ =>
  (θ_run ConvOutRefIdeal.defs _ _).mono (fun r h => ⟨fun c => (h c).2.2.2, sem_eq_zero_of_no_sems (by decide) r.2⟩) (ConvOutRefIdeal.Value.run m ρ)

/-- On finite arguments both programs leave the same gradient, the same rounded cotangent and the same sums. -/
theorem algebraic : algebraic_ConvOutIdeal_ConvOutRefIdeal_pre_finite_co := by
  intro m ρ m' ρ' hpre harg
  refine ⟨fun c => (ConvOutIdeal.Gen.dats m 0 c).arrAt 4 _, fun c => (ConvOutIdeal.Gen.dats m 0 c).arrAt 5 _, fun c => (ConvOutIdeal.Gen.dats m 0 c).arrAt 6 _,
    ConvOutIdeal.Value.run_blocks m ρ, ?_⟩
  refine (θ_run ConvOutRefIdeal.defs _ _).mono (fun r h c => ?_) (ConvOutRefIdeal.Value.run m' ρ')
  obtain ⟨⟨Y, hY⟩, ⟨P, hP⟩, ⟨Wd, hWd⟩, ⟨bd, hbd⟩, ⟨gl, hl⟩, ⟨bl, hb⟩, ⟨W, hW⟩, ga, ha⟩ := reals (hpre c)
  obtain ⟨U, hU⟩ := mid_real hP hWd hbd
  obtain ⟨a0, a1, a2, a3, a4, a5, a6, a7, a8⟩ := harg c
  obtain ⟨r0, r1, r2, k⟩ := h c
  refine ⟨r0.trans ?_, r1.trans ?_, r2.trans ?_, k⟩
  · rw [ConvOutRefIdeal.Read.val_main_v100_eq]
    simp only [StableHlo.launchContents_devRef, a0, a1, a2, a3, a4, a5, a6, a8]
    exact funext fun i => (ref_du hY hU hl hb hW ha i).trans (arr_du m hY hU hl hb hW ha i).symm
  · simp only [StableHlo.launchContents_devRef, a0]
    exact funext fun i => (hY i).trans (arr_y m hY i).symm
  · rw [ConvOutRefIdeal.Read.val_main_v107_eq]
    simp only [StableHlo.launchContents_devRef, a0, a1, a2, a3, a4, a5, a6, a8]
    exact funext fun i => (ref_sums hY hU hl hb hW ha i).trans (arr_sums m hY hU hl hb hW ha i).symm

end Cert.ConvTail

end
-- ==== Proof.WPwRef.lean ====
/- What the reference of the gradient of the convolution block's second weight computes, element by element, on real arrays. -/
module

public import proofs.«01_k».proof.Proof.ConvOutRef
public import proofs.«01_k».proof.Proof.Gen.WPwRefIdeal.Read

@[expose] public section

set_option maxRecDepth 16384

noncomputable section

open Idealize.ShloMosaic Cert.Lift Cert.Norm Cert.WPwRefIdeal Cert.WPwRefIdeal.Read

namespace Cert.ConvWgrad

section real
variable (U Y W : ℕ → ℕ → ℝ) (gl bl ga : ℕ → ℝ) (i j : ℕ)

/-- The activation of the normalised row. -/
def act : ℝ := ConvTail.un U gl bl i j * sg (ConvTail.un U gl bl i j)
/-- The product of the transposed activation and the cotangent. -/
def prod : ℝ := ∑ q : Fin 8192, act U gl bl q i * Y q j
/-- The weight's gradient. -/
def dw : ℝ := prod U Y gl bl i j * ga j
/-- The gate's gradient. -/
def dgate : ℝ := ∑ k : Fin 1024, prod U Y gl bl k j * W k j
end real

section reference

variable {x0 : (⟨S8192x2048, .f32⟩ : BufTy).Contents (Elt Ideal)} {x1 : (⟨S8192x1024, .f32⟩ : BufTy).Contents (Elt Ideal)}
  {x2 : (⟨S31x1024, .f32⟩ : BufTy).Contents (Elt Ideal)} {x3 x4 x5 x7 : (⟨S1024, .f32⟩ : BufTy).Contents (Elt Ideal)}
  {x6 : (⟨S1024x1024, .f32⟩ : BufTy).Contents (Elt Ideal)} {U Y W : ℕ → ℕ → ℝ} {gl bl ga : ℕ → ℝ}
  (h1 : ∀ i, x1 i = (Y (i 0).val (i 1).val : EReal)) (hU : ∀ i, ConvOutRefIdeal.Read.val_main_v26 (F := Ideal) x0 x2 x3 i = (U (i 0).val (i 1).val : EReal))
  (h4 : ∀ i, x4 i = (gl (i 0).val : EReal)) (h5 : ∀ i, x5 i = (bl (i 0).val : EReal))
  (h6 : ∀ i, x6 i = (W (i 0).val (i 1).val : EReal)) (h7 : ∀ i, x7 i = (ga (i 0).val : EReal))

attribute [local pointwise] val_main_v0_apply val_main_v1_apply val_main_v2_apply val_main_v3_apply val_main_cst_apply val_main_v4_apply
  val_main_v5_apply val_main_cst_0_apply val_main_v6_apply val_main_v7_apply val_main_v8_apply val_main_c_apply val_main_call0_v0_apply
  val_main_v10_apply val_main_v11_apply val_main_v12_apply val_main_c_1_apply val_main_v13_apply val_main_v14_apply val_main_c_2_apply
  val_main_v15_apply val_main_v16_apply val_main_v17_apply val_main_v18_apply val_main_v20_apply val_main_v21_apply val_main_v22_apply
  val_main_cst_3_apply val_main_v23_apply val_main_v24_apply val_main_v25_apply val_main_cst_4_apply val_main_v27_apply val_main_v28_apply
  val_main_cst_5_apply val_main_v29_apply val_main_v31_apply val_main_v32_apply val_main_v33_apply val_main_cst_6_apply val_main_v34_apply
  val_main_v35_apply val_main_cst_7_apply val_main_v36_apply val_main_v38_apply val_main_cst_8_apply val_main_v40_apply
  val_main_v43_apply val_main_v45_apply val_main_v46_apply val_main_v47_apply val_main_v48_apply val_main_v49_apply val_main_call1_v0_apply
  val_main_call1_v1_apply val_main_call1_cst_apply val_main_call1_v2_apply val_main_call1_v3_apply val_main_call1_cst_0_apply val_main_call1_v4_apply
  val_main_call1_v5_apply val_main_v52_apply val_main_v53_apply val_main_v54_apply val_main_v55_apply val_main_v56_apply val_main_v57_apply
  val_main_v58_apply val_main_cst_9_apply val_main_v60_apply val_main_v62_apply val_main_cst_10_apply val_main_v63_apply

/-- The convolution's lines are the ones of its last stage. -/
theorem mid (i) : val_main_v26 (F := Ideal) x0 x2 x3 i = ConvOutRefIdeal.Read.val_main_v26 (F := Ideal) x0 x2 x3 i := rfl

include hU in
theorem ref_mu (i) : val_main_v30 (F := Ideal) x0 x2 x3 i = (mu U (i 0).val : EReal) := by
  pointwise [val_main_v30_apply, mid, hU]; rfl

include hU in
theorem ref_va (i) : val_main_v41 (F := Ideal) x0 x2 x3 i = (va U (i 0).val : EReal) := by
  pointwise [val_main_v41_apply, val_main_v37_apply, ref_mu hU, mid, hU]; rfl

include hU in
theorem ref_rs (i) : val_main_v42 (F := Ideal) x0 x2 x3 i = (rs U (i 0).val : EReal) := by
  pointwise [val_main_v42_apply, ref_va hU, rsqrt_real (va_pos U _)]; rfl

include hU in
theorem ref_xh (i) : val_main_v44 (F := Ideal) x0 x2 x3 i = (xh U (i 0).val (i 1).val : EReal) := by
  pointwise [val_main_v44_apply, val_main_v39_apply, ref_rs hU, ref_mu hU, mid, hU]; rfl

include hU h4 h5 in
theorem ref_un (i) : val_main_v50 (F := Ideal) x0 x2 x3 x4 x5 i = (ConvTail.un U gl bl (i 0).val (i 1).val : EReal) := by
  pointwise [val_main_v50_apply, ref_xh hU, h4, h5]; rfl

include hU h4 h5
theorem ref_act (i) : val_main_v51 (F := Ideal) x0 x2 x3 x4 x5 i = (act U gl bl (i 0).val (i 1).val : EReal) := by
  pointwise [val_main_v51_apply, ref_un hU h4 h5]; rfl

include h1 h6 in
theorem ref_rowsum (i) : val_main_v59 (F := Ideal) x0 x1 x2 x3 x4 x5 x6 i = (dgate U Y W gl bl (i 0).val : EReal) := by
  pointwise [val_main_v59_apply, ref_act hU h4 h5, h1, h6]
  refine congrArg Real.toEReal ?_
  unfold dgate prod
  simp only [Finset.mul_sum, Finset.sum_mul]
  rw [Finset.sum_comm]
  exact Finset.sum_congr rfl fun _ _ => Finset.sum_congr rfl fun _ _ => by ring

include h1 h6 in
/-- The gate's gradient, eight times over. -/
theorem ref_dgate (i) : val_main_v65 (F := Ideal) x0 x1 x2 x3 x4 x5 x6 i = (dgate U Y W gl bl (i 2).val : EReal) := by
  pointwise [val_main_v65_apply, ref_rowsum h1 hU h4 h5 h6]

include h1 h7 in
/-- The weight's gradient. -/
theorem ref_dw (i) : val_main_v64 (F := Ideal) x0 x1 x2 x3 x4 x5 x7 i = (dw U Y gl bl ga (i 0).val (i 1).val : EReal) := by
  pointwise [val_main_v64_apply, val_main_v61_apply, ref_act hU h4 h5, h1, h7]
  refine congrArg Real.toEReal ?_
  unfold dw prod
  rw [Finset.sum_mul]
  exact Finset.sum_congr rfl fun _ _ => by ring

end reference

end Cert.ConvWgrad

end
-- ==== Proof.WPwRun.lean ====
/- What the gradient of the convolution block's second weight writes back on real arrays: the product summed over four blocks of rows, gated, and its sums with the weight. -/
module

public import proofs.«01_k».proof.Proof.WPwRef
public import proofs.«01_k».proof.Proof.Rows
public import proofs.«01_k».proof.Proof.Gen.WPwIdeal.Value

@[expose] public section

set_option maxRecDepth 16384

noncomputable section

open Idealize.ShloMosaic Idealize.ShloMosaic.TcCoe Idealize.ShloMosaic.Pipeline Idealize.SL.Sem
open Cert.Lift Cert.Norm Cert.WPwIdeal Cert.WPwIdeal.Gen

namespace Cert.ConvWgrad

section block
variable {v4 v6 : Vec Ideal S2048x1024 .bf16} {v16 : Vec Ideal S1024x1024 .f32} {v17 : Vec Ideal S1x1024 .f32} {v23 : Vec Ideal S1024x1024 .bf16}
  {Z Y R W : ℕ → ℕ → ℝ} {ga : ℕ → ℝ}

/-- The running product, one block of rows added. -/
theorem pay_acc (h4 : ∀ i, v4 i = (Z (i 0).val (i 1).val : EReal)) (h6 : ∀ i, v6 i = (Y (i 0).val (i 1).val : EReal))
    (h16 : ∀ i, v16 i = (R (i 0).val (i 1).val : EReal)) (i) :
    k0_pay2 (F := Ideal) v16 v4 v6 i = (R (i 0).val (i 1).val + ∑ q : Fin 2048, Z q (i 0).val * Y q (i 1).val : ℝ) := by
  pointwise [k0_pay2, h4, h6, h16]

theorem pay_dw (h16 : ∀ i, v16 i = (R (i 0).val (i 1).val : EReal)) (h17 : ∀ i, v17 i = (ga (i 1).val : EReal)) (i) :
    k0_pay3 (F := Ideal) v16 v17 i = (R (i 0).val (i 1).val * ga (i 1).val : ℝ) := by
  pointwise [k0_pay3, h16, h17]

theorem pay_dgate (h16 : ∀ i, v16 i = (R (i 0).val (i 1).val : EReal)) (h23 : ∀ i, v23 i = (W (i 0).val (i 1).val : EReal)) (i) :
    k0_pay4 (F := Ideal) v16 v23 i = (∑ k : Fin 1024, R k (i 2).val * W k (i 2).val : ℝ) := by
  pointwise [k0_pay4, h16, h23]
end block

section run

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![0, 0, 0] :=
  (by decide +kernel : ∀ t : Fin grid0.N, _)

/-- What the host lines before the call leave, one list of them after another. -/
theorem V_eq (c : Dev nD) (b : Ref sig .tc) : V m c b = StableHlo.after hostOps0_4 (StableHlo.after hostOps0_3 (StableHlo.after hostOps0_2 (StableHlo.after hostOps0_1
    (StableHlo.after hostOps0 fun b => m (c, b))))) (Proc.devRef .tc b) := by
  unfold V
  rw [List.flatten_cons, List.flatten_cons, List.flatten_cons, List.flatten_cons, List.flatten_cons, List.flatten_nil, List.append_nil,
    StableHlo.after_append, StableHlo.after_append, StableHlo.after_append, StableHlo.after_append]

variable {U Y W : ℕ → ℕ → ℝ} {gl bl ga : ℕ → ℝ} {c : Dev nD}
  (hU : ∀ i, ConvOutRefIdeal.Read.val_main_v26 (F := Ideal) (m ((c : Thread nD τ).loc main_arg0)) (m ((c : Thread nD τ).loc main_arg2)) (m ((c : Thread nD τ).loc main_arg3)) i
    = (U (i 0).val (i 1).val : EReal))
  (hY : ∀ i, m ((c : Thread nD τ).loc main_arg1) i = (Y (i 0).val (i 1).val : EReal))
  (hl : ∀ i, m ((c : Thread nD τ).loc main_arg4) i = (gl (i 0).val : EReal))
  (hb : ∀ i, m ((c : Thread nD τ).loc main_arg5) i = (bl (i 0).val : EReal))
  (hW : ∀ i, m ((c : Thread nD τ).loc main_arg6) i = (W (i 0).val (i 1).val : EReal))
  (ha : ∀ i, m ((c : Thread nD τ).loc main_arg7) i = (ga (i 0).val : EReal))

/-- The activation that the host lines before the call compute is the reference's. -/
theorem act_eq (i) : (V m c main_v52 : Vec Ideal S8192x1024 .bf16) i
    = WPwRefIdeal.Read.val_main_v51 (F := Ideal) (m ((c : Thread nD τ).loc main_arg0)) (m ((c : Thread nD τ).loc main_arg2)) (m ((c : Thread nD τ).loc main_arg3))
      (m ((c : Thread nD τ).loc main_arg4)) (m ((c : Thread nD τ).loc main_arg5)) i := by
  rw [V_eq]
  simp only [StableHlo.after_cons, StableHlo.after_nil]
  after_results_simp
  after_results_loop
  rfl

include hU hl hb in
theorem blk_z (t : Fin cfg0.N) (i : S2048x1024.Idx) : (iblk m c 0 t : Vec Ideal S2048x1024 .bf16) i = (act U gl bl (2048 * t.val + (i 0).val) (i 1).val : EReal) := by
  blk_simp [iblk]
  rw [act_eq, ref_act hU hl hb]
  blk_simp [idx t]
  rw [mul_comm]

include hY in
theorem blk_y (t : Fin cfg0.N) (i : S2048x1024.Idx) : (iblk m c 1 t : Vec Ideal S2048x1024 .bf16) i = (Y (2048 * t.val + (i 0).val) (i 1).val : EReal) := by
  blk_simp [iblk]
  rw [V_eq]
  simp only [StableHlo.after_cons, StableHlo.after_nil]
  after_results_simp
  pointwise [hY]
  blk_simp [idx t]
  rw [mul_comm]

include hW in
theorem blk_w (t : Fin cfg0.N) (i : S1024x1024.Idx) : (iblk m c 2 t : Vec Ideal S1024x1024 .bf16) i = (W (i 0).val (i 1).val : EReal) := by
  blk_simp [iblk]
  rw [V_eq]
  simp only [StableHlo.after_cons, StableHlo.after_nil]
  after_results_simp
  pointwise [hW]
  blk_simp [idx t]

include ha in
theorem vec_row (i : S8x1024.Idx) (h : (i 0).val = 0) : (V m c main_v57 : Vec Ideal S8x1024 .f32) i = (ga (i 1).val : EReal) := by
  rw [V_eq]
  simp only [StableHlo.after_cons, StableHlo.after_nil]
  after_results_simp
  after_results_loop
  pointwise [ha]
  exact dif_pos (by omega)

include ha in
theorem blk_g (t : Fin cfg0.N) (i : S8x1024.Idx) (h : (i 0).val = 0) : (iblk m c 3 t : Vec Ideal S8x1024 .f32) i = (ga (i 1).val : EReal) := by
  have e : (iblk m c 3 t : Vec Ideal S8x1024 .f32) i = (V m c main_v57 : Vec Ideal S8x1024 .f32) i := by
    blk_simp [iblk]
    exact congrArg (V m c main_v57 : Vec Ideal S8x1024 .f32) (by blk_ext [idx t])
  rw [e, vec_row m ha i h]

/-- What block `t` of the rows adds to the running product. -/
def part (U Y : ℕ → ℕ → ℝ) (gl bl : ℕ → ℝ) (t i j : ℕ) : ℝ := ∑ q : Fin 2048, act U gl bl (2048 * t + q) i * Y (2048 * t + q) j

include hU hY hl hb
theorem acc_first (t : Fin cfg0.N) (h : t.val % 4 = 0) (j) : (outsAt0 m c t.val t.isLt).2.2 j = (part U Y gl bl t.val (j 0).val (j 1).val : EReal) := by
  have hz : ∀ i, (k0_pay1 (F := Ideal)) i = (((fun _ _ => 0 : ℕ → ℕ → ℝ) (i 0).val (i 1).val : ℝ) : EReal) := fun i => by pointwise [k0_pay1]; rfl
  rw [outsAt0_A m c t h (by omega)]; frame_out
  refine (pay_acc (Z := fun p j => act U gl bl (2048 * t.val + p) j) (Y := fun p j => Y (2048 * t.val + p) j) (R := fun _ _ => 0) (blk_z m hU hl hb t) (blk_y m hY t) hz j).trans ?_
  rw [zero_add]; rfl

/-- The running product at a later point, from the one before it. -/
theorem pay_next (t : Fin cfg0.N) (R : ℕ → ℕ → ℝ)
    (hR : ∀ j, (outsAt0 m c (t.val - 1) (Nat.lt_of_le_of_lt (Nat.sub_le _ _) t.isLt)).2.2 j = (R (j 0).val (j 1).val : EReal)) (j) :
    k0_pay2 (F := Ideal) (View.read (Elt Ideal) (View.whole cc0_scratch0) ((Memref.isWhole_whole _).unread (outsAt0 m c (t.val - 1) (Nat.lt_of_le_of_lt (Nat.sub_le _ _) t.isLt)).2.2))
      (iblk m c 0 t) (iblk m c 1 t) j = (R (j 0).val (j 1).val + part U Y gl bl t.val (j 0).val (j 1).val : ℝ) :=
  pay_acc (Z := fun p j => act U gl bl (2048 * t.val + p) j) (Y := fun p j => Y (2048 * t.val + p) j) (R := R) (blk_z m hU hl hb t) (blk_y m hY t)
    (fun j => (congrFun (Memref.IsWhole.read_unread _ _) j).trans (hR j)) j

theorem acc_next (t : Fin cfg0.N) (h : ¬t.val % 4 = 0) (R : ℕ → ℕ → ℝ)
    (hR : ∀ j, (outsAt0 m c (t.val - 1) (Nat.lt_of_le_of_lt (Nat.sub_le _ _) t.isLt)).2.2 j = (R (j 0).val (j 1).val : EReal)) (j) :
    (outsAt0 m c t.val t.isLt).2.2 j = (R (j 0).val (j 1).val + part U Y gl bl t.val (j 0).val (j 1).val : ℝ) := by
  by_cases h3 : t.val % 4 = 3
  · rw [outsAt0_C m c t h h3]; frame_out
    exact pay_next m hU hY hl hb t R hR j
  · rw [outsAt0_B m c t h h3]; frame_out
    exact pay_next m hU hY hl hb t R hR j

/-- The running product after `n` points. -/
theorem acc_sum : ∀ (n : ℕ) (h : n < cfg0.N) (j), (outsAt0 m c n h).2.2 j = ((∑ s ∈ Finset.range (n + 1), part U Y gl bl s (j 0).val (j 1).val : ℝ) : EReal)
  | 0, h, j => (acc_first m hU hY hl hb ⟨0, h⟩ rfl j).trans (by rw [Finset.sum_range_one])
  | n + 1, h, j => by
    have e := acc_next m hU hY hl hb ⟨n + 1, h⟩ (by have : n + 1 < 4 := h; show ¬(n + 1) % 4 = 0; omega)
      (fun i j => ∑ s ∈ Finset.range (n + 1), part U Y gl bl s i j) (acc_sum n (Nat.lt_of_succ_lt h)) j
    rw [e, Finset.sum_range_succ _ (n + 1)]

omit hU hY hl hb in
/-- The blocks' shares add to the product over all rows. -/
theorem parts (i j : ℕ) : ∑ s ∈ Finset.range 3, part U Y gl bl s i j + part U Y gl bl 3 i j = prod U Y gl bl i j :=
  (Finset.sum_range_succ (fun s => part U Y gl bl s i j) 3).symm.trans (sum_blocks 4 2048 fun q => act U gl bl q i * Y q j)

/-- The running product at the last point is the product over all rows. -/
theorem pay_last (j) : k0_pay2 (F := Ideal) (View.read (Elt Ideal) (View.whole cc0_scratch0) ((Memref.isWhole_whole _).unread (outsAt0 m c (t0_3.val - 1) (Nat.lt_of_le_of_lt (Nat.sub_le _ _) t0_3.isLt)).2.2))
      (iblk m c 0 t0_3) (iblk m c 1 t0_3) j = (prod U Y gl bl (j 0).val (j 1).val : EReal) :=
  (pay_next m hU hY hl hb t0_3 (fun i j => ∑ s ∈ Finset.range 3, part U Y gl bl s i j) (acc_sum m hU hY hl hb 2 _) j).trans
    (congrArg Real.toEReal (parts (j 0).val (j 1).val))

include ha in
theorem out_dw (j) : (outsAt0 m c t0_3.val t0_3.isLt).1 j = (dw U Y gl bl ga (j 0).val (j 1).val : EReal) := by
  rw [outsAt0_C m c t0_3 (by decide) (by decide)]; frame_out
  refine pay_dw (R := prod U Y gl bl) (ga := ga) (pay_last m hU hY hl hb) (fun i => ?_) j
  rw [Cert.Rows.ld_row _ 0 (by norm_num)]
  exact blk_g m ha t0_3 _ rfl

include hW in
theorem out_dgate (j) : (outsAt0 m c t0_3.val t0_3.isLt).2.1 j = (dgate U Y W gl bl (j 2).val : EReal) := by
  rw [outsAt0_C m c t0_3 (by decide) (by decide)]; frame_out
  exact pay_dgate (R := prod U Y gl bl) (pay_last m hU hY hl hb) (blk_w m hW t0_3) j

include ha in
theorem arr_dw (i : S1024x1024.Idx) : (dats m 0 c).arrAt 4 cfg0.N i = (dw U Y gl bl ga (i 0).val (i 1).val : EReal) := by
  refine congrFun ((dats m 0 c).arrAt_eq_of_after_last 4 t0_3 (by decide +kernel) (fun i => (dw U Y gl bl ga (i 0).val (i 1).val : EReal)) fun j => ?_) i
  rw [after0_4, out_dw m hU hY hl hb ha]
  blk_simp [idx t0_3]

include hW in
theorem arr_dgate (i : S1x8x1024.Idx) : (dats m 0 c).arrAt 5 cfg0.N i = (dgate U Y W gl bl (i 2).val : EReal) := by
  refine congrFun ((dats m 0 c).arrAt_eq_of_after_last 5 t0_3 (by decide +kernel) (fun i => (dgate U Y W gl bl (i 2).val : EReal)) fun j => ?_) i
  rw [after0_5, out_dgate m hU hY hl hb hW]
  blk_simp [idx t0_3]

end run

end Cert.ConvWgrad

end
-- ==== Proof.WPwEq.lean ====
/- The gradient of the convolution block's second weight and its reference leave the same arrays on finite arguments. -/
module

public import proofs.«01_k».proof.Defs
public import proofs.«01_k».proof.Proof.WPwRun
public import proofs.«01_k».proof.Proof.Gen.WPwRefIdeal.Run
public import proofs.«01_k».proof.Proof.Gen.Pre_finite_wg

@[expose] public section

set_option maxRecDepth 16384

noncomputable section

open Idealize.ShloMosaic Cert.Lift

namespace Cert.ConvWgrad

/-- The precondition says that the arguments are arrays of reals. -/
theorem reals {x0 : FVec Ideal Pre_finite_wg.S8192x2048 .f32} {x1 : FVec Ideal Pre_finite_wg.S8192x1024 .f32} {x2 : FVec Ideal Pre_finite_wg.S31x1024 .f32}
    {x3 x4 x5 x7 : FVec Ideal Pre_finite_wg.S1024 .f32} {x6 : FVec Ideal Pre_finite_wg.S1024x1024 .f32}
    (h : Pre_finite_wg.fn (F := Ideal) x0 x1 x2 x3 x4 x5 x6 x7 = fun _ => 1#1) :
    (∃ P : ℕ → ℕ → ℝ, ∀ i, x0 i = (P (i 0).val (i 1).val : EReal)) ∧ (∃ Y : ℕ → ℕ → ℝ, ∀ i, x1 i = (Y (i 0).val (i 1).val : EReal))
      ∧ (∃ D : ℕ → ℕ → ℝ, ∀ i, x2 i = (D (i 0).val (i 1).val : EReal)) ∧ (∃ b : ℕ → ℝ, ∀ i, x3 i = (b (i 0).val : EReal))
      ∧ (∃ g : ℕ → ℝ, ∀ i, x4 i = (g (i 0).val : EReal)) ∧ (∃ b : ℕ → ℝ, ∀ i, x5 i = (b (i 0).val : EReal))
      ∧ (∃ W : ℕ → ℕ → ℝ, ∀ i, x6 i = (W (i 0).val (i 1).val : EReal)) ∧ ∃ a : ℕ → ℝ, ∀ i, x7 i = (a (i 0).val : EReal) := by
  have e := congrFun h fun a => a.elim0
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨lift2 _ (real_of_all x0 _ (fun _ => rfl) _ _ _ _ e0), lift2 _ (real_of_all x1 _ (fun _ => rfl) _ _ _ _ e1),
    lift2 _ (real_of_all x2 _ (fun _ => rfl) _ _ _ _ e2), lift1 _ (real_of_all x3 _ (fun _ => rfl) _ _ _ _ e3),
    lift1 _ (real_of_all x4 _ (fun _ => rfl) _ _ _ _ e4), lift1 _ (real_of_all x5 _ (fun _ => rfl) _ _ _ _ e5),
    lift2 _ (real_of_all x6 _ (fun _ => rfl) _ _ _ _ e6), lift1 _ (real_of_all x7 _ (fun _ => rfl) _ _ _ _ e7)⟩

/-- The reference runs and leaves its arguments as they were. -/
theorem frame_ref : quiescent_WPwRefIdeal := fun m ρ _ =>
  (θ_run WPwRefIdeal.defs _ _).mono (fun r h => ⟨fun c => (h c).2.2, sem_eq_zero_of_no_sems (by decide) r.2⟩) (WPwRefIdeal.Value.run m ρ)

/-- On finite arguments both programs leave the same gradients of the weight and of the gate. -/
theorem algebraic : algebraic_WPwIdeal_WPwRefIdeal_pre_finite_wg := by
  intro m ρ m' ρ' hpre harg
  refine ⟨fun c => (WPwIdeal.Gen.dats m 0 c).arrAt 4 _, fun c => (WPwIdeal.Gen.dats m 0 c).arrAt 5 _, WPwIdeal.Value.run_blocks m ρ, ?_⟩
  refine (θ_run WPwRefIdeal.defs _ _).mono (fun r h c => ?_) (WPwRefIdeal.Value.run m' ρ')
  obtain ⟨⟨P, hP⟩, ⟨Y, hY⟩, ⟨Wd, hWd⟩, ⟨bd, hbd⟩, ⟨gl, hl⟩, ⟨bl, hb⟩, ⟨W, hW⟩, ga, ha⟩ := reals (hpre c)
  obtain ⟨U, hU⟩ := ConvTail.mid_real hP hWd hbd
  obtain ⟨a0, a1, a2, a3, a4, a5, a6, a7⟩ := harg c
  obtain ⟨r0, r1, k⟩ := h c
  refine ⟨r0.trans ?_, r1.trans ?_, k⟩
  · rw [WPwRefIdeal.Read.val_main_v64_eq]
    simp only [StableHlo.launchContents_devRef, a0, a1, a2, a3, a4, a5, a7]
    exact funext fun i => (ref_dw hY hU hl hb ha i).trans (arr_dw m hU hY hl hb ha i).symm
  · rw [WPwRefIdeal.Read.val_main_v65_eq]
    simp only [StableHlo.launchContents_devRef, a0, a1, a2, a3, a4, a5, a6]
    exact funext fun i => (ref_dgate hY hU hl hb hW i).trans (arr_dgate m hU hY hl hb hW i).symm

end Cert.ConvWgrad

end
-- ==== Proof.ModWEq.lean ====
/- The gradient of the modulation's weight and its reference leave the same array on finite arguments. -/
module

public import proofs.«01_k».proof.Defs
public import proofs.«01_k».proof.Proof.Lift
public import proofs.«01_k».proof.Proof.Gen.ModWIdeal.Value
public import proofs.«01_k».proof.Proof.Gen.ModWRefIdeal.Run
public import proofs.«01_k».proof.Proof.Gen.ModWRefIdeal.Read
public import proofs.«01_k».proof.Proof.Gen.Pre_finite_mw

@[expose] public section

set_option maxRecDepth 16384

noncomputable section

open Idealize.ShloMosaic Idealize.ShloMosaic.TcCoe Idealize.ShloMosaic.Pipeline Idealize.SL.Sem
open Cert.Lift

namespace Cert.ModWgrad

/-- The weight's gradient: the activation of the condition times the cotangent, summed over the eight rows. -/
def dw (C Y : ℕ → ℕ → ℝ) (i j : ℕ) : ℝ := ∑ b : Fin 8, C b i * sg (C b i) * Y b j

section reference
open Cert.ModWRefIdeal Cert.ModWRefIdeal.Read
variable {x0 : (⟨S8x1024, .f32⟩ : BufTy).Contents (Elt Ideal)} {x1 : (⟨S8x1152, .f32⟩ : BufTy).Contents (Elt Ideal)} {C Y : ℕ → ℕ → ℝ}

attribute [local pointwise] val_main_cst_apply val_main_v0_apply val_main_call0_v0_apply val_main_call0_v1_apply val_main_call0_cst_apply
  val_main_call0_v2_apply val_main_call0_v3_apply val_main_call0_cst_0_apply val_main_call0_v4_apply val_main_call0_v5_apply val_main_v2_apply
  val_main_v3_apply

/-- The reference's result. -/
theorem ref_dw (h0 : ∀ i, x0 i = (C (i 0).val (i 1).val : EReal)) (h1 : ∀ i, x1 i = (Y (i 0).val (i 1).val : EReal)) (i) :
    val_main_v4 (F := Ideal) x0 x1 i = (dw C Y (i 0).val (i 1).val : EReal) := by
  pointwise [val_main_v4_apply, val_main_v1_apply, h0, h1]
  exact congrArg Real.toEReal (Finset.sum_congr rfl fun _ _ => mul_comm _ _)

end reference

section block
open Cert.ModWIdeal Cert.ModWIdeal.Gen
variable {v0 : Vec Ideal S256x8 .f32} {v4 : Vec Ideal S8x1152 .f32} {v5 : IVec S256x8 32} {v39 : Vec Ideal S256x1152 .f32} {v42 : Vec Ideal S256x8 .f32} {C Y R : ℕ → ℕ → ℝ}

/-- One column of the block, picked by its number. -/
theorem pick {w : BitVec 32} (f : Fin 8 → EReal) (k : Fin 8) (h : w = BitVec.ofNat 32 k.val) :
    (∑ x : Fin 8, Scalar.select (IntOp.cmpi CmpIPredicate.eq (BitVec.ofNat 32 x.val) w) (f x) 0) = f k := by
  subst h
  have e : ∀ x k : Fin 8, IntOp.cmpi CmpIPredicate.eq (BitVec.ofNat 32 x.val) (BitVec.ofNat 32 k.val) = if x = k then 1#1 else 0#1 := by decide
  rw [Finset.sum_eq_single k (fun b _ h => by rw [e, if_neg h]; rfl) (fun h => absurd (Finset.mem_univ k) h), e, if_pos rfl]
  rfl

theorem pay_act (h0 : ∀ i, v0 i = (C (i 1).val (i 0).val : EReal)) (i) : k0_pay2 (F := Ideal) v0 i = (C (i 1).val (i 0).val * sg (C (i 1).val (i 0).val) : ℝ) := by
  pointwise [k0_pay2, h0]

theorem pay_act' (h0 : ∀ i, v0 i = (C (i 1).val (i 0).val : EReal)) (i) : k0_pay9 (F := Ideal) v0 v4 i = (C (i 1).val (i 0).val * sg (C (i 1).val (i 0).val) : ℝ) := by
  pointwise [k0_pay9, k0_pay2, h0]

theorem pay_low (h0 : ∀ i, v0 i = (C (i 1).val (i 0).val : EReal)) (h4 : ∀ i, v4 i = (Y (i 0).val (i 1).val : EReal)) (i) :
    k0_pay3 (F := Ideal) v0 v4 i = (∑ b : Fin 3, C b (i 0).val * sg (C b (i 0).val) * Y b (i 1).val : ℝ) := by
  pointwise [k0_pay3, pay_act h0, h4]
  rw [pick (w := 0#32) _ 0 rfl, pick (w := 1#32) _ 1 rfl, pick (w := 2#32) _ 2 rfl]
  refine congrArg Real.toEReal ?_
  rw [Fin.sum_univ_three]
  rfl

theorem pay_out (h0 : ∀ i, v0 i = (C (i 1).val (i 0).val : EReal)) (h4 : ∀ i, v4 i = (Y (i 0).val (i 1).val : EReal)) (i) :
    k0_pay1 (F := Ideal) v4 (k0_pay6 (k0_pay9 v0 v4) v4 (k0_pay8 v0 v4) (k0_pay3 v0 v4) k0_pay4 k0_pay5)
      (k0_pay7 (k0_pay9 v0 v4) (k0_pay8 v0 v4)) i = (dw C Y (i 0).val (i 1).val : EReal) := by
  pointwise [k0_pay1, k0_pay6, k0_pay7, k0_pay4, k0_pay5, k0_pay8, pay_act' h0, pay_low h0 h4, h4]
  rw [pick (w := 3#32) _ 3 rfl, pick (w := 4#32) _ 4 rfl, pick (w := 5#32) _ 5 rfl, pick (w := 6#32) _ 6 rfl, pick (w := 7#32) _ 7 rfl]
  refine congrArg Real.toEReal ?_
  unfold dw
  rw [Fin.sum_univ_eight, Fin.sum_univ_three]
  rfl

variable (m : (ℓ : Loc nD τ sig) → Buf (Elt Ideal) ℓ) {c : Dev nD}
  (hC : ∀ i, m ((c : Thread nD τ).loc main_arg0) i = (C (i 0).val (i 1).val : EReal))
  (hY : ∀ i, m ((c : Thread nD τ).loc main_arg1) i = (Y (i 0).val (i 1).val : EReal))

theorem idx : ∀ t : Fin cfg0.N, win0_0.index t = ![t.val, 0] ∧ win0_1.index t = ![0, 0] ∧ win0_2.index t = ![t.val, 0] :=
  (by decide +kernel : ∀ t : Fin grid0.N, _)

include hC in
/-- The block of the transposed condition. -/
theorem blk_c (t : Fin cfg0.N) (i : S256x8.Idx) : (iblk m c 0 t : Vec Ideal S256x8 .f32) i = (C (i 1).val (256 * t.val + (i 0).val) : EReal) := by
  blk_simp [iblk]
  unfold V
  simp only [StableHlo.after_cons, StableHlo.after_nil]
  after_results_simp
  after_results_loop
  pointwise [hC]
  blk_simp [idx t]
  rw [mul_comm]

include hY in
theorem blk_y (t : Fin cfg0.N) (i : S8x1152.Idx) : (iblk m c 1 t : Vec Ideal S8x1152 .f32) i = (Y (i 0).val (i 1).val : EReal) := by
  blk_simp [iblk]
  rw [V_main_arg1, hY]
  blk_simp [idx t]

include hC hY in
/-- The kernel's result after all points. -/
theorem arr_dw (i) : (dats m 0 c).arrAt 2 cfg0.N i = (dw C Y (i 0).val (i 1).val : EReal) := by
  refine congrFun ((dats m 0 c).arrAt_eq_of_covers 2 (fun i => (dw C Y (i 0).val (i 1).val : EReal)) (by decide +kernel) fun t _ y => ?_) i
  have key (j) : out0_2 (iblk m c 0 t) (iblk m c 1 t) j = (dw C Y (256 * t.val + (j 0).val) (j 1).val : EReal) := by
    frame_out
    exact pay_out (C := fun b i => C b (256 * t.val + i)) (blk_c m hC t) (blk_y m hY t) j
  rw [after0_2, key]
  blk_simp [idx t]
  rw [mul_comm]

end block

/-- The precondition says that the arguments are arrays of reals. -/
theorem reals {x0 : FVec Ideal Pre_finite_mw.S8x1024 .f32} {x1 : FVec Ideal Pre_finite_mw.S8x1152 .f32}
    (h : Pre_finite_mw.fn (F := Ideal) x0 x1 = fun _ => 1#1) :
    (∃ C : ℕ → ℕ → ℝ, ∀ i, x0 i = (C (i 0).val (i 1).val : EReal)) ∧ ∃ Y : ℕ → ℕ → ℝ, ∀ i, x1 i = (Y (i 0).val (i 1).val : EReal) := by
  have e := congrFun h fun a => a.elim0
  obtain ⟨e0, e1⟩ := IntOp.andi_eq_one.1 e
  exact ⟨lift2 _ (real_of_all x0 _ (fun _ => rfl) _ _ _ _ e0), lift2 _ (real_of_all x1 _ (fun _ => rfl) _ _ _ _ e1)⟩

/-- The reference runs and leaves its arguments as they were. -/
theorem frame_ref : quiescent_ModWRefIdeal := fun m ρ _ =>
  (θ_run ModWRefIdeal.defs _ _).mono (fun r h => ⟨fun c => (h c).2, sem_eq_zero_of_no_sems (by decide) r.2⟩) (ModWRefIdeal.Value.run m ρ)

/-- On finite arguments both programs leave the same gradient. -/
theorem algebraic : algebraic_ModWIdeal_ModWRefIdeal_pre_finite_mw := by
  intro m ρ m' ρ' hpre harg
  refine ⟨fun c => (ModWIdeal.Gen.dats m 0 c).arrAt 2 _, ModWIdeal.Value.run_blocks m ρ, ?_⟩
  refine (θ_run ModWRefIdeal.defs _ _).mono (fun r h c => ?_) (ModWRefIdeal.Value.run m' ρ')
  obtain ⟨⟨C, hC⟩, Y, hY⟩ := reals (hpre c)
  obtain ⟨a0, a1⟩ := harg c
  obtain ⟨r0, k⟩ := h c
  refine ⟨r0.trans ?_, k⟩
  rw [ModWRefIdeal.Read.val_main_v4_eq]
  simp only [StableHlo.launchContents_devRef, a0, a1]
  exact funext fun i => (ref_dw hC hY i).trans (arr_dw m hC hY i).symm

end Cert.ModWgrad

end
-- ==== Proof.AttnOutRef.lean ====
/- The gradient of the attention's output product: the formula over the reals, and what the reference computes. -/
module

public import proofs.«01_k».proof.Defs
public import proofs.«01_k».proof.Proof.Lift
public import proofs.«01_k».proof.Proof.Gen.AttnOutRefIdeal.Run
public import proofs.«01_k».proof.Proof.Gen.AttnOutRefIdeal.Read

@[expose] public section

set_option maxRecDepth 16384

noncomputable section

open Idealize.ShloMosaic Idealize.ShloMosaic.TcCoe Idealize.ShloMosaic.Pipeline Idealize.SL.Sem
open Cert.Lift

namespace Cert.AttnTail

/-- The cotangent of the heads' outputs: the gated cotangent times the transposed weight. -/
def dout (A W : ℕ → ℕ → ℝ) (G : ℕ → ℝ) (i n : ℕ) : ℝ := ∑ j : Fin 1024, G j * A i j * W n j

/-- The same with every head's 64 columns behind 64 zeros. -/
def padded (f : ℕ → ℕ → ℝ) (i n : ℕ) : ℝ := if 64 ≤ n % 128 then f i (64 * (n / 128) + (n % 128 - 64)) else 0

/-- The row sum of cotangent times output of head `h`. -/
def rowsum (A O W : ℕ → ℕ → ℝ) (G : ℕ → ℝ) (h i : ℕ) : ℝ := ∑ e : Fin 64, dout A W G i (64 * h + e) * O i (64 * h + e)

/-- The padded products of a head summed over its 128 columns. -/
theorem sum_padded (f g : ℕ → ℕ → ℝ) (i h : ℕ) :
    (∑ l : Fin 128, padded f i (128 * h + l) * padded g i (128 * h + l)) = ∑ e : Fin 64, f i (64 * h + e) * g i (64 * h + e) := by
  have e := Fin.sum_univ_add (a := 64) (b := 64) fun l : Fin (64 + 64) => padded f i (128 * h + l) * padded g i (128 * h + l)
  refine e.trans ?_
  rw [Finset.sum_eq_zero fun k _ => ?_, zero_add]
  · refine Finset.sum_congr rfl fun k _ => ?_
    have hk := k.isLt
    unfold padded
    rw [Fin.val_natAdd, if_pos (by omega), if_pos (by omega), show 64 * ((128 * h + (64 + k.val)) / 128) + ((128 * h + (64 + k.val)) % 128 - 64) = 64 * h + k.val by omega]
  · have hk := k.isLt
    unfold padded
    rw [Fin.val_castAdd, if_neg (by omega), zero_mul]

/-- The gated product with the padded weight is the padded product. -/
theorem padded_dout (A W : ℕ → ℕ → ℝ) (G : ℕ → ℝ) (i n : ℕ) :
    (∑ j : Fin 1024, G j * A i j * padded (fun j m => W m j) j n) = padded (dout A W G) i n := by
  unfold padded
  split_ifs
  · rfl
  · exact Finset.sum_eq_zero fun _ _ => mul_zero _

section reference
open Cert.AttnOutRefIdeal Cert.AttnOutRefIdeal.Read
variable {x0 x1 : (⟨S8192x1024, .f32⟩ : BufTy).Contents (Elt Ideal)} {x2 : (⟨S1024x1024, .f32⟩ : BufTy).Contents (Elt Ideal)}
  {x3 : (⟨S1024, .f32⟩ : BufTy).Contents (Elt Ideal)} {A O W : ℕ → ℕ → ℝ} {G : ℕ → ℝ}
  (h0 : ∀ i, x0 i = (A (i 0).val (i 1).val : EReal)) (h1 : ∀ i, x1 i = (O (i 0).val (i 1).val : EReal))
  (h2 : ∀ i, x2 i = (W (i 0).val (i 1).val : EReal)) (h3 : ∀ i, x3 i = (G (i 0).val : EReal))

attribute [local pointwise] val_main_v0_apply val_main_v4_apply val_main_v5_apply val_main_v8_apply val_main_v9_apply val_main_cst_apply
  val_main_v11_apply val_main_c_apply val_main_call0_v0_apply val_main_v14_apply

include h0 h2 h3 in
theorem ref_do (i) : val_main_v6 (F := Ideal) x0 x2 x3 i = (dout A W G (i 0).val (i 1).val : EReal) := by
  pointwise [val_main_v6_apply, h0, h2, h3]
  rfl

include h0 h2 h3 in
theorem ref_heads (i) : val_main_v7 (F := Ideal) x0 x2 x3 i = (dout A W G (i 0).val (64 * (i 1).val + (i 2).val) : EReal) := by
  pointwise [val_main_v7_apply, ref_do h0 h2 h3]
  have a : (i 1).val < 16 := (i 1).isLt
  have b : (i 2).val < 64 := (i 2).isLt
  refine congrArg Real.toEReal (congrArg₂ _ ?_ ?_) <;> omega

include h0 h1 h2 h3 in
/-- The reference's row sums. -/
theorem ref_delta (i) : val_main_v12 (F := Ideal) x0 x1 x2 x3 i = (rowsum A O W G (i 0).val (i 1).val : EReal) := by
  pointwise [val_main_v12_apply, val_main_v10_apply, ref_heads h0 h2 h3, h1]
  refine congrArg Real.toEReal ?_
  unfold rowsum
  have a : (i 0).val < 16 := (i 0).isLt
  refine Finset.sum_congr rfl fun k _ => congrArg _ (congrArg₂ _ ?_ ?_) <;> omega

include h0 h2 h3 in
/-- The reference's padded cotangent. -/
theorem ref_pad (i) : val_main_v15 (F := Ideal) x0 x2 x3 i = (padded (dout A W G) (i 0).val (i 1).val : EReal) := by
  pointwise [val_main_v15_apply, val_main_v13, ref_heads h0 h2 h3]
  have b : (i 1).val < 2048 := (i 1).isLt
  unfold padded
  by_cases h : 64 ≤ (i 1).val % 128
  · rw [dif_pos (by omega), if_pos h]
    refine congrArg Real.toEReal (congrArg₂ _ ?_ ?_) <;> omega
  · rw [dif_neg (by omega), if_neg h]
    exact congrArg Real.toEReal (Int.cast_zero)

include h0 in
/-- The reference's cast cotangent. -/
theorem ref_cast (i) : val_main_v16 (F := Ideal) x0 i = (A (i 0).val (i 1).val : EReal) := by
  pointwise [val_main_v16_apply, h0]

end reference

end Cert.AttnTail

end
-- ==== Proof.AttnOutKer.lean ====
/- What one block of the output product's gradient kernel leaves in its three results. -/
module

public import proofs.«01_k».proof.Proof.AttnOutRef
public import proofs.«01_k».proof.Proof.Rows
public import proofs.«01_k».proof.Proof.Gen.AttnOutIdeal.Frame
public import Idealize.ShloMosaic.Lib.Pipeline.Value

@[expose] public section

set_option maxRecDepth 16384

noncomputable section

open Idealize.ShloMosaic Idealize.ShloMosaic.TcCoe Idealize.ShloMosaic.Pipeline Idealize.SL.Sem
open Cert.Lift

namespace Cert.AttnTail

open Cert.AttnOutIdeal Cert.AttnOutIdeal.Gen
variable {x0 : Vec Ideal S512x1024 .f32} {x1 : Vec Ideal S512x2048 .bf16} {x2 : Vec Ideal S2048x1024 .bf16} {x3 : Vec Ideal S8x1024 .f32}
  {A O W : ℕ → ℕ → ℝ} {G : ℕ → ℝ}
  (h0 : ∀ i, x0 i = (A (i 0).val (i 1).val : EReal)) (h1 : ∀ i, x1 i = (padded O (i 0).val (i 1).val : EReal))
  (h2 : ∀ i, x2 i = (padded (fun j n => W n j) (i 1).val (i 0).val : EReal))
  (h3 : ∀ i : S8x1024.Idx, (i 0).val = 3 → x3 i = (G (i 1).val : EReal))

include h0 h2 h3 in
theorem pay_do (i) : k0_pay5 (F := Ideal) x0 (View.ld x3 r0_1) x2 i = (padded (dout A W G) (i 0).val (i 1).val : EReal) := by
  have e : ∀ x : Fin 1024, x3 (ix2 3 x) = (G x.val : EReal) := fun x => h3 _ rfl
  pointwise [k0_pay5, h0, h2, e]
  exact congrArg Real.toEReal (padded_dout A W G _ _)

include h0 h2 h3 in
theorem pay_do_ld (i) : k0_pay5 (F := Ideal) (View.ld x0 r0_0) (View.ld x3 r0_1) (View.ld x2 r0_2) i = (padded (dout A W G) (i 0).val (i 1).val : EReal) := by
  have e : ∀ x : Fin 1024, x3 (ix2 3 x) = (G x.val : EReal) := fun x => h3 _ rfl
  pointwise [k0_pay5, h0, h2, e]
  exact congrArg Real.toEReal (padded_dout A W G _ _)

include h0 h1 h2 h3 in
theorem pay_prod_ld (i) : k0_pay7 (F := Ideal) (View.ld x0 r0_0) (View.ld x3 r0_1) (View.ld x2 r0_2) (View.ld x1 r0_3) i
    = (padded (dout A W G) (i 0).val (i 1).val * padded O (i 0).val (i 1).val : ℝ) := by
  pointwise [k0_pay7, pay_do_ld h0 h2 h3, h1]

include h0 h1 h2 h3 in
theorem pay_prod (i) : k0_pay23 (F := Ideal) x0 x1 x2 x3 i = (padded (dout A W G) (i 0).val (i 1).val * padded O (i 0).val (i 1).val : ℝ) :=
  pay_prod_ld h0 h1 h2 h3 i

/-- Head `k`'s sum of padded products, at the place it is stored. -/
theorem head_sum {i : ℕ} (k : ℕ) {h i' : ℕ} (eh : h = k) (ei : i' = i) :
    ((∑ l : Fin 128, padded (dout A W G) i (128 * k + l) * padded O i (128 * k + l) : ℝ) : EReal) = (rowsum A O W G h i' : EReal) := by
  subst eh ei
  exact congrArg Real.toEReal (sum_padded _ _ _ _)

include h0 h2 h3 in
theorem out_do (i) : out0_4 (F := Ideal) x0 x1 x2 x3 i = (padded (dout A W G) (i 0).val (i 1).val : EReal) := by
  frame_out
  pointwise [k0_pay6, pay_do h0 h2 h3]

include h0 in
theorem out_cast (i) : out0_6 (F := Ideal) x0 x1 x2 x3 i = (A (i 0).val (i 1).val : EReal) := by
  frame_out
  pointwise [k0_pay4, h0]

include h0 h1 h2 h3 in
theorem out_delta (i) : out0_5 (F := Ideal) x0 x1 x2 x3 i = (rowsum A O W G (i 0).val (i 1).val : EReal) := by
  unfold out0_5
  refine View.canon_apply_of_pieces (Val := Elt Ideal) (e := .f32) (fun i : S16x512x1.Idx => (rowsum A O W G (i 0).val (i 1).val : EReal)) _ ?_ i (cover0_5 _ _ _ _ _ _ _ _ _ _ _ _ _ _ _ _ i)
  simp only [List.forall_mem_cons, List.not_mem_nil, false_imp_iff, implies_true, and_true]
  refine ⟨?_, ?_, ?_, ?_, ?_, ?_, ?_, ?_, ?_, ?_, ?_, ?_, ?_, ?_, ?_, ?_⟩ <;> intro x
  all_goals try pointwise [k0_pay1, k0_pay2, k0_pay3, k0_pay8, k0_pay9, k0_pay10, k0_pay11, k0_pay12, k0_pay13, k0_pay14, k0_pay15, k0_pay16, k0_pay17, k0_pay18,
    k0_pay19, k0_pay20, k0_pay21, k0_pay22, pay_prod_ld h0 h1 h2 h3, pay_prod h0 h1 h2 h3]
  · exact head_sum 15 (h := 15 + 1 * (x 0).val) (i' := 0 + 1 * (x 1).val) (by have : (x 0).val < 1 := (x 0).isLt; omega) (by omega)
  · exact head_sum 14 (h := 14 + 1 * (x 0).val) (i' := 0 + 1 * (x 1).val) (by have : (x 0).val < 1 := (x 0).isLt; omega) (by omega)
  · exact head_sum 13 (h := 13 + 1 * (x 0).val) (i' := 0 + 1 * (x 1).val) (by have : (x 0).val < 1 := (x 0).isLt; omega) (by omega)
  · exact head_sum 12 (h := 12 + 1 * (x 0).val) (i' := 0 + 1 * (x 1).val) (by have : (x 0).val < 1 := (x 0).isLt; omega) (by omega)
  · exact head_sum 11 (h := 11 + 1 * (x 0).val) (i' := 0 + 1 * (x 1).val) (by have : (x 0).val < 1 := (x 0).isLt; omega) (by omega)
  · exact head_sum 10 (h := 10 + 1 * (x 0).val) (i' := 0 + 1 * (x 1).val) (by have : (x 0).val < 1 := (x 0).isLt; omega) (by omega)
  · exact head_sum 9 (h := 9 + 1 * (x 0).val) (i' := 0 + 1 * (x 1).val) (by have : (x 0).val < 1 := (x 0).isLt; omega) (by omega)
  · exact head_sum 8 (h := 8 + 1 * (x 0).val) (i' := 0 + 1 * (x 1).val) (by have : (x 0).val < 1 := (x 0).isLt; omega) (by omega)
  · exact head_sum 7 (h := 7 + 1 * (x 0).val) (i' := 0 + 1 * (x 1).val) (by have : (x 0).val < 1 := (x 0).isLt; omega) (by omega)
  · exact head_sum 6 (h := 6 + 1 * (x 0).val) (i' := 0 + 1 * (x 1).val) (by have : (x 0).val < 1 := (x 0).isLt; omega) (by omega)
  · exact head_sum 5 (h := 5 + 1 * (x 0).val) (i' := 0 + 1 * (x 1).val) (by have : (x 0).val < 1 := (x 0).isLt; omega) (by omega)
  · exact head_sum 4 (h := 4 + 1 * (x 0).val) (i' := 0 + 1 * (x 1).val) (by have : (x 0).val < 1 := (x 0).isLt; omega) (by omega)
  · exact head_sum 3 (h := 3 + 1 * (x 0).val) (i' := 0 + 1 * (x 1).val) (by have : (x 0).val < 1 := (x 0).isLt; omega) (by omega)
  · exact head_sum 2 (h := 2 + 1 * (x 0).val) (i' := 0 + 1 * (x 1).val) (by have : (x 0).val < 1 := (x 0).isLt; omega) (by omega)
  · exact head_sum 1 (h := 1 + 1 * (x 0).val) (i' := 0 + 1 * (x 1).val) (by have : (x 0).val < 1 := (x 0).isLt; omega) (by omega)
  · have e := head_sum (A := A) (O := O) (W := W) (G := G) (i := (x 1).val) 0 (h := 0 + 1 * (x 0).val) (i' := 0 + 1 * (x 1).val) (by have : (x 0).val < 1 := (x 0).isLt; omega) (by omega)
    simp only [Nat.mul_zero, Nat.zero_add] at e
    refine e.trans ?_
    rw [← Nat.zero_add (1 * (x 0).val), ← Nat.zero_add (1 * (x 1).val)]
    rfl

end Cert.AttnTail

end
-- ==== Proof.AttnOutRun.lean ====
/- What the output product's gradient kernel writes back: its three arrays, on real arguments. -/
module

public import proofs.«01_k».proof.Proof.AttnOutKer

@[expose] public section

set_option maxRecDepth 16384

noncomputable section

open Idealize.ShloMosaic Idealize.ShloMosaic.TcCoe Idealize.ShloMosaic.Pipeline Idealize.SL.Sem
open Cert.Lift Cert.AttnOutIdeal Cert.AttnOutIdeal.Gen

namespace Cert.AttnTail

section run

variable (m : (ℓ : Loc nD τ sig) → Buf (Elt Ideal) ℓ) (ρ : Dev nD → PrngReg)

/-- The call ends with its three results at what the points' blocks add up to, and its arguments as they were. -/
theorem run_blocks : θ_run (defs (F := Ideal)) (onTc (τ := τ) (main (F := Ideal))) ⟨m, fun _ => 0, ρ⟩ (fun r => ∀ c : Dev nD,
      r.2.mem ((c.tc : Thread nD τ).loc main_v15_0) = (dats m 0 c).arrAt 4 cfg0.N
      ∧ r.2.mem ((c.tc : Thread nD τ).loc main_v15_1) = (dats m 0 c).arrAt 5 cfg0.N
      ∧ r.2.mem ((c.tc : Thread nD τ).loc main_v15_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 4, (h c).1 5, (h c).1 6,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, t.val, 0] ∧ win0_6.index t = ![t.val, 0] :=
  (by decide +kernel : ∀ t : Fin grid0.N, _)

/-- What the host lines before the call leave, one list of them after another. -/
theorem V_eq (c : Dev nD) (b : Ref sig .tc) : V m c b = StableHlo.after hostOps0_4 (StableHlo.after hostOps0_3 (StableHlo.after hostOps0_2 (StableHlo.after hostOps0_1
    (StableHlo.after hostOps0 fun b => m (c, b))))) (Proc.devRef .tc b) := by
  unfold V
  rw [List.flatten_cons, List.flatten_cons, List.flatten_cons, List.flatten_cons, List.flatten_cons, List.flatten_nil, List.append_nil,
    StableHlo.after_append, StableHlo.after_append, StableHlo.after_append, StableHlo.after_append]

variable {A O W : ℕ → ℕ → ℝ} {G : ℕ → ℝ} {c : Dev nD}
  (hA : ∀ i, m ((c : Thread nD τ).loc main_arg0) i = (A (i 0).val (i 1).val : EReal))
  (hO : ∀ i, m ((c : Thread nD τ).loc main_arg1) i = (O (i 0).val (i 1).val : EReal))
  (hW : ∀ i, m ((c : Thread nD τ).loc main_arg2) i = (W (i 0).val (i 1).val : EReal))
  (hG : ∀ i, m ((c : Thread nD τ).loc main_arg3) i = (G (i 0).val : EReal))

include hA in
theorem blk_a (t : Fin cfg0.N) (i : S512x1024.Idx) : (iblk m c 0 t : Vec Ideal S512x1024 .f32) i = (A (512 * t.val + (i 0).val) (i 1).val : EReal) := by
  blk_simp [iblk]
  rw [V_main_arg0, hA]
  blk_simp [idx t]
  rw [mul_comm]

include hO in
theorem host_o (i : S8192x2048.Idx) : (V m c main_v7 : Vec Ideal S8192x2048 .bf16) i = (padded O (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hO]
  have b : (i 1).val < 2048 := (i 1).isLt
  unfold padded
  by_cases h : 64 ≤ (i 1).val % 128
  · rw [dif_pos (by omega), if_pos h]
    refine congrArg Real.toEReal (congrArg₂ _ ?_ ?_) <;> omega
  · rw [dif_neg (by omega), if_neg h]
    exact congrArg Real.toEReal Int.cast_zero

include hO in
theorem blk_o (t : Fin cfg0.N) (i : S512x2048.Idx) : (iblk m c 1 t : Vec Ideal S512x2048 .bf16) i = (padded O (512 * t.val + (i 0).val) (i 1).val : EReal) := by
  blk_simp [iblk]
  rw [host_o m hO]
  blk_simp [idx t]
  rw [mul_comm]

include hW in
theorem host_w (i : S2048x1024.Idx) : (V m c main_v3 : Vec Ideal S2048x1024 .bf16) i = (padded (fun j n => W n j) (i 1).val (i 0).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hW]
  have b : (i 0).val < 2048 := (i 0).isLt
  unfold padded
  by_cases h : 64 ≤ (i 0).val % 128
  · rw [dif_pos (by omega), if_pos h]
    refine congrArg Real.toEReal (congrArg₂ _ ?_ ?_) <;> omega
  · rw [dif_neg (by omega), if_neg h]
    exact congrArg Real.toEReal Int.cast_zero

include hW in
theorem blk_w (t : Fin cfg0.N) (i : S2048x1024.Idx) : (iblk m c 2 t : Vec Ideal S2048x1024 .bf16) i = (padded (fun j n => W n j) (i 1).val (i 0).val : EReal) := by
  blk_simp [iblk]
  rw [host_w m hW]
  blk_simp [idx t]

include hG in
theorem blk_g (t : Fin cfg0.N) (i : S8x1024.Idx) (h : (i 0).val = 3) : (iblk m c 3 t : Vec Ideal S8x1024 .f32) i = (G (i 1).val : EReal) := by
  have e : (iblk m c 3 t : Vec Ideal S8x1024 .f32) i = (V m c main_v14 : Vec Ideal S8x1024 .f32) i := by
    blk_simp [iblk]
    exact congrArg (V m c main_v14 : Vec Ideal S8x1024 .f32) (by blk_ext [idx t])
  rw [e, V_eq]
  simp only [StableHlo.after_cons, StableHlo.after_nil]
  after_results_simp
  refine (Cert.Rows.concat_row _ _ i 3 (by simp) _ rfl 3 rfl h).trans ?_
  simp only [Matrix.cons_val]
  after_results_loop
  pointwise [hG]

include hA hW hG in
/-- The padded cotangent after all points. -/
theorem arr_do (i) : (dats m 0 c).arrAt 4 cfg0.N i = (padded (dout A W G) (i 0).val (i 1).val : EReal) := by
  refine congrFun ((dats m 0 c).arrAt_eq_of_covers 4 (fun i => (padded (dout A W G) (i 0).val (i 1).val : EReal)) (by decide +kernel) fun t _ y => ?_) i
  rw [after0_4, out_do (A := fun p j => A (512 * t.val + p) j) (blk_a m hA t) (blk_w m hW t) (blk_g m hG t)]
  blk_simp [idx t]
  rw [mul_comm]
  rfl

include hA hO hW hG in
/-- The row sums after all points. -/
theorem arr_delta (i) : (dats m 0 c).arrAt 5 cfg0.N i = (rowsum A O W G (i 0).val (i 1).val : EReal) := by
  refine congrFun ((dats m 0 c).arrAt_eq_of_covers 5 (fun i => (rowsum A O W G (i 0).val (i 1).val : EReal)) (by decide +kernel) fun t _ y => ?_) i
  rw [after0_5, out_delta (A := fun p j => A (512 * t.val + p) j) (O := fun p j => O (512 * t.val + p) j) (blk_a m hA t) (blk_o m hO t) (blk_w m hW t) (blk_g m hG t)]
  blk_simp [idx t]
  rw [mul_comm]
  rfl

include hA in
/-- The rounded cotangent after all points. -/
theorem arr_cast (i) : (dats m 0 c).arrAt 6 cfg0.N i = (A (i 0).val (i 1).val : EReal) := by
  refine congrFun ((dats m 0 c).arrAt_eq_of_covers 6 (fun i => (A (i 0).val (i 1).val : EReal)) (by decide +kernel) fun t _ y => ?_) i
  rw [after0_6, out_cast (A := fun p j => A (512 * t.val + p) j) (blk_a m hA t)]
  blk_simp [idx t]
  rw [mul_comm]

end run

end Cert.AttnTail

end
-- ==== Proof.AttnOutEq.lean ====
/- The output product's gradient kernel and its reference leave the same arrays on finite arguments. -/
module

public import proofs.«01_k».proof.Proof.AttnOutRun
public import proofs.«01_k».proof.Proof.Gen.Pre_finite_ao

@[expose] public section

set_option maxRecDepth 16384

noncomputable section

open Idealize.ShloMosaic Cert.Lift

namespace Cert.AttnTail

/-- The precondition says that the arguments are arrays of reals. -/
theorem reals {x0 x1 : FVec Ideal Pre_finite_ao.S8192x1024 .f32} {x2 : FVec Ideal Pre_finite_ao.S1024x1024 .f32} {x3 : FVec Ideal Pre_finite_ao.S1024 .f32}
    (h : Pre_finite_ao.fn (F := Ideal) x0 x1 x2 x3 = fun _ => 1#1) :
    (∃ A : ℕ → ℕ → ℝ, ∀ i, x0 i = (A (i 0).val (i 1).val : EReal)) ∧ (∃ O : ℕ → ℕ → ℝ, ∀ i, x1 i = (O (i 0).val (i 1).val : EReal))
      ∧ (∃ W : ℕ → ℕ → ℝ, ∀ i, x2 i = (W (i 0).val (i 1).val : EReal)) ∧ ∃ G : ℕ → ℝ, ∀ i, x3 i = (G (i 0).val : EReal) := by
  have e := congrFun h fun a => a.elim0
  obtain ⟨e, e3⟩ := IntOp.andi_eq_one.1 e
  obtain ⟨e, e2⟩ := IntOp.andi_eq_one.1 e
  obtain ⟨e0, e1⟩ := IntOp.andi_eq_one.1 e
  exact ⟨lift2 _ (real_of_all x0 _ (fun _ => rfl) _ _ _ _ e0), lift2 _ (real_of_all x1 _ (fun _ => rfl) _ _ _ _ e1),
    lift2 _ (real_of_all x2 _ (fun _ => rfl) _ _ _ _ e2), lift1 _ (real_of_all x3 _ (fun _ => rfl) _ _ _ _ e3)⟩

/-- The reference runs and leaves its arguments as they were. -/
theorem frame_ref : quiescent_AttnOutRefIdeal := fun m ρ _ =>
  (θ_run AttnOutRefIdeal.defs _ _).mono (fun r h => ⟨fun c => (h c).2.2.2, sem_eq_zero_of_no_sems (by decide) r.2⟩) (AttnOutRefIdeal.Value.run m ρ)

/-- On finite arguments both programs leave the same padded cotangent, row sums and rounded cotangent. -/
theorem algebraic : algebraic_AttnOutIdeal_AttnOutRefIdeal_pre_finite_ao := by
  intro m ρ m' ρ' hpre harg
  refine ⟨fun c => (AttnOutIdeal.Gen.dats m 0 c).arrAt 4 _, fun c => (AttnOutIdeal.Gen.dats m 0 c).arrAt 5 _, fun c => (AttnOutIdeal.Gen.dats m 0 c).arrAt 6 _,
    run_blocks m ρ, ?_⟩
  refine (θ_run AttnOutRefIdeal.defs _ _).mono (fun r h c => ?_) (AttnOutRefIdeal.Value.run m' ρ')
  obtain ⟨⟨A, hA⟩, ⟨O, hO⟩, ⟨W, hW⟩, G, hG⟩ := reals (hpre c)
  obtain ⟨a0, a1, a2, a3⟩ := harg c
  obtain ⟨r0, r1, r2, k⟩ := h c
  refine ⟨r0.trans ?_, r1.trans ?_, r2.trans ?_, k⟩
  · rw [AttnOutRefIdeal.Read.val_main_v15_eq]
    simp only [StableHlo.launchContents_devRef, a0, a2, a3]
    exact funext fun i => (ref_pad hA hW hG i).trans (arr_do m hA hW hG i).symm
  · rw [AttnOutRefIdeal.Read.val_main_v12_eq]
    simp only [StableHlo.launchContents_devRef, a0, a1, a2, a3]
    exact funext fun i => (ref_delta hA hO hW hG i).trans (arr_delta m hA hO hW hG i).symm
  · rw [AttnOutRefIdeal.Read.val_main_v16_eq]
    simp only [StableHlo.launchContents_devRef, a0]
    exact funext fun i => (ref_cast hA i).trans (arr_cast m hA i).symm

end Cert.AttnTail

end
-- ==== Proof.AttnRunA.lean ====
/- The attention's backward body run once at a first tile of a head. -/
module

public import proofs.«01_k».proof.Proof.Gen.AttnBwdIdeal.Frame
public import proofs.«01_k».proof.Proof.Gen.AttnBwdIdeal.Loops

@[expose] public section

set_option maxRecDepth 16384

noncomputable section

namespace Cert.AttnBwdIdeal.Body

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row of key tiles is entered: the tile's number is zero. -/
abbrev first (i : grid0.Coords) : Prop := (Scalar.cmpi .ne (Scalar.extui (Scalar.cmpi .eq (BitVec.ofNat 32 (i 1).val) 0#32)) 0#32) = 1#1

set_option maxHeartbeats 4000000 in
/-- The body where the tile is the first of its head: the pieces it leaves in the three result blocks, with the run. -/
def runA (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S1x8192x1 .f32) (harg4 : arg4.IsWhole) (arg5 : Memref sig .tc .vmem S1x8192x1 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S8192x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : first i)
    (x0 : Vec F S8192x128 .bf16) (x1 : Vec F S8192x128 .bf16) (x2 : Vec F S1x8192x1 .f32) (x3 : Vec F S1x8192x1 .f32) (x4 : Vec F S1024x128 .bf16) (x5 : Vec F S1024x128 .bf16) :
    Σ' (L6 : List (View.Piece (Elt F) S8192x128 .f32)), Σ' (L7 : List (View.Piece (Elt F) S1024x128 .f32)), { L8 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [H8]
    · iexists _; iexact H8
    isplitl [H9]
    · iexists _; iexists _; isplitr
      swap; · iexact H9
      ipureintro; rfl
    · iexists _; iexists _; isplitr
      swap; · iexact H10
      ipureintro; rfl

end Cert.AttnBwdIdeal.Body

end
-- ==== Proof.AttnRunB.lean ====
/- The attention's backward body run once at a later tile of a head. -/
module

public import proofs.«01_k».proof.Proof.Gen.AttnBwdIdeal.Frame
public import proofs.«01_k».proof.Proof.AttnRunA

@[expose] public section

set_option maxRecDepth 16384

noncomputable section

namespace Cert.AttnBwdIdeal.Body

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the tile is not the first of its head: the pieces it leaves in the three result blocks, with the run. -/
def runB (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S1x8192x1 .f32) (harg4 : arg4.IsWhole) (arg5 : Memref sig .tc .vmem S1x8192x1 .f32) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S8192x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (hc0 : ¬first i)
    (x0 : Vec F S8192x128 .bf16) (x1 : Vec F S8192x128 .bf16) (x2 : Vec F S1x8192x1 .f32) (x3 : Vec F S1x8192x1 .f32) (x4 : Vec F S1024x128 .bf16) (x5 : Vec F S1024x128 .bf16) (x6 : Vec F S8192x128 .f32) :
    Σ' (L6 : List (View.Piece (Elt F) S8192x128 .f32)), Σ' (L7 : List (View.Piece (Elt F) S1024x128 .f32)), { L8 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ d, owns (c : Thread nD τ) arg11 fullShare d) ∗ (∃ d, owns (c : Thread nD τ) arg12 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [H7]
    · iexists _; iexact H7
    isplitl [H8]
    · iexists _; iexact H8
    isplitl [H9]
    · iexists _; iexists _; isplitr
      swap; · iexact H9
      ipureintro; rfl
    · iexists _; iexists _; isplitr
      swap; · iexact H10
      ipureintro; rfl

end Cert.AttnBwdIdeal.Body

end
-- ==== Proof.AttnMath.lean ====
/- Causal attention and its gradient over the reals, head by head. -/
module

public import proofs.«01_k».proof.Proof.Lift

@[expose] public section

noncomputable section

open Idealize.ShloMosaic
open Cert.Lift

namespace Cert.Attn

/-- A three-axis array of reals as a function of the three positions. -/
theorem lift3 {a b c : ℕ} (x : Shape.Idx ⟨3, ![a, b, c]⟩ → EReal) (h : ∀ i, ∃ r : ℝ, x i = r) :
    ∃ H : ℕ → ℕ → ℕ → ℝ, ∀ i, x i = (H (i 0).val (i 1).val (i 2).val : EReal) := by
  choose g hg using h
  refine ⟨fun p q r => if hp : p < a ∧ q < b ∧ r < c then g (fun k => match k with | ⟨0, _⟩ => ⟨p, hp.1⟩ | ⟨1, _⟩ => ⟨q, hp.2.1⟩ | ⟨2, _⟩ => ⟨r, hp.2.2⟩) else 0, fun i => ?_⟩
  have hi : (i 0).val < a ∧ (i 1).val < b ∧ (i 2).val < c := ⟨(i 0).isLt, (i 1).isLt, (i 2).isLt⟩
  rw [hg]; simp only [hi, dif_pos, and_self]
  refine congrArg (fun k => ((g k : ℝ) : EReal)) (funext fun k => ?_)
  match k with | ⟨0, _⟩ => rfl | ⟨1, _⟩ => rfl | ⟨2, _⟩ => rfl

/-- The factor of the scores: the float nearest to one over the root of 96. -/
def scale : ℝ := 3424635 / 33554432

@[pointwise] theorem f32_scale : Ideal.ofBits .f32 0x3DD105EC#32 = (scale : EReal) := by
  simp [Ideal.ofBits, Ideal.ieee, -EReal.coe_mul, scale]; norm_num
@[pointwise] theorem f32_neg_inf : Ideal.ofBits .f32 0xFF800000#32 = (⊥ : EReal) := by
  simp [Ideal.ofBits, Ideal.ieee]
@[pointwise] theorem log_two : Ideal.log ((2 : ℝ) : EReal) = ((Real.log 2 : ℝ) : EReal) := by
  rw [Ideal.log_coe, if_neg (by norm_num)]

theorem max_bot_left (x : ℝ) : max (⊥ : EReal) (x : EReal) = (x : EReal) := max_eq_right bot_le

/-- A choice by the comparison of two positions. -/
theorem select_le {α : Type} {a b : ℕ} (ha : a < 8192) (hb : b < 8192) (x y : α) :
    Scalar.select (IntOp.cmpi .sle (BitVec.ofNat 32 a) (BitVec.ofNat 32 b)) x y = if a ≤ b then x else y := by
  have e : ∀ n : ℕ, n < 8192 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  have h : IntOp.cmpi .sle (BitVec.ofNat 32 a) (BitVec.ofNat 32 b) = if a ≤ b then 1#1 else 0#1 := by
    simp only [IntOp.cmpi, BitVec.sle, e a ha, e b hb, Nat.cast_le]
    by_cases g : a ≤ b
    · rw [decide_eq_true g, if_pos g]; rfl
    · rw [decide_eq_false g, if_neg g]; rfl
  rw [h]
  split_ifs <;> rfl

variable (Q K V O : ℕ → ℕ → ℕ → ℝ)

/-- The 96 columns of a head before 32 zeros, head after head. -/
def rpad (f : ℕ → ℕ → ℕ → ℝ) (i n : ℕ) : ℝ := if n % 128 < 96 then f i (n / 128) (n % 128) else 0
/-- The 64 columns of a head behind 64 zeros, head after head. -/
def lpad (f : ℕ → ℕ → ℕ → ℝ) (i n : ℕ) : ℝ := if 64 ≤ n % 128 then f i (n / 128) (n % 128 - 64) else 0

/-- The scaled score of query `i` and key `j` of head `h`. -/
def sc (h i j : ℕ) : ℝ := (∑ d : Fin 96, Q i h d * K j h d) * scale

/-- A score where the key is not after the query, and `-∞` elsewhere. -/
def masked (h i j : ℕ) : EReal := if j ≤ i then (sc Q K h i j : EReal) else ⊥

/-- The largest score of a row. -/
def rowmax (h i : ℕ) : EReal := Finset.univ.fold max ⊥ fun j : Fin 8192 => masked Q K h i j
/-- The same as a real number. -/
def top (h i : ℕ) : ℝ := (rowmax Q K h i).toReal

/-- The exponential of a score less the row's largest, zero where the key is after the query. -/
def ex (h i j : ℕ) : ℝ := if j ≤ i then Real.exp (sc Q K h i j - top Q K h i) else 0
def den (h i : ℕ) : ℝ := ∑ j : Fin 8192, ex Q K h i j
/-- The attention's weight of key `j` for query `i`. -/
def prob (h i j : ℕ) : ℝ := ex Q K h i j / den Q K h i
/-- The cotangent (in `O`) of a weight. -/
def dp (h i j : ℕ) : ℝ := ∑ e : Fin 64, O i h e * V j h e
def dl (h i : ℕ) : ℝ := ∑ j : Fin 8192, prob Q K h i j * dp V O h i j
/-- The cotangent of a score. -/
def ds (h i j : ℕ) : ℝ := prob Q K h i j * (dp V O h i j - dl Q K V O h i)

/-- The gradients of the queries, the keys and the values. -/
def dq (i h d : ℕ) : ℝ := ∑ j : Fin 8192, ds Q K V O h i j * K j h d * scale
def dk (j h d : ℕ) : ℝ := ∑ i : Fin 8192, ds Q K V O h i j * Q i h d * scale
def dv (j h e : ℕ) : ℝ := ∑ i : Fin 8192, prob Q K h i j * O i h e

/-- The largest score is a real number: the first key is never after the query. -/
theorem top_eq (h i : ℕ) : rowmax Q K h i = (top Q K h i : EReal) := by
  refine (EReal.coe_toReal (ne_of_lt ?_) (ne_of_gt ?_)).symm
  · refine Finset.fold_max_lt _ |>.2 ⟨bot_lt_top, fun j _ => ?_⟩
    unfold masked
    split_ifs
    · exact EReal.coe_lt_top _
    · exact bot_lt_top
  · refine Finset.lt_fold_max _ |>.2 (Or.inr ⟨⟨0, by norm_num⟩, Finset.mem_univ _, ?_⟩)
    unfold masked
    rw [if_pos (Nat.zero_le _)]
    exact EReal.bot_lt_coe _

theorem ex_nonneg (h i j : ℕ) : 0 ≤ ex Q K h i j := by
  unfold ex
  split_ifs
  · exact (Real.exp_pos _).le
  · exact le_rfl

theorem den_pos (h i : ℕ) : 0 < den Q K h i := by
  refine Finset.sum_pos' (fun j _ => ex_nonneg Q K h i j) ⟨⟨0, by norm_num⟩, Finset.mem_univ _, ?_⟩
  unfold ex
  rw [if_pos (Nat.zero_le _)]
  exact Real.exp_pos _

/-- The exponential of a masked score. -/
theorem exp_masked (h i j : ℕ) : Ideal.exp (masked Q K h i j - (top Q K h i : EReal)) = (ex Q K h i j : EReal) := by
  unfold masked ex
  split_ifs
  · rw [sub_real, exp_real]
  · rw [EReal.bot_sub]; exact Ideal.exp_bot

/-- The weights vanish after the query. -/
theorem prob_zero {h i j : ℕ} (hj : i < j) : prob Q K h i j = 0 := by
  unfold prob ex; rw [if_neg (by omega), zero_div]

theorem ds_zero {h i j : ℕ} (hj : i < j) : ds Q K V O h i j = 0 := by
  unfold ds; rw [prob_zero Q K hj, zero_mul]

/-- The score's cotangent as the derivative of the quotient. -/
theorem ds_eq (h i j : ℕ) :
    (dp V O h i j / den Q K h i + -∑ k : Fin 8192, dp V O h i k * (1 / (den Q K h i * den Q K h i)) * ex Q K h i k) * ex Q K h i j = ds Q K V O h i j := by
  have hd := (den_pos Q K h i).ne'
  have e : (∑ k : Fin 8192, dp V O h i k * (1 / (den Q K h i * den Q K h i)) * ex Q K h i k) = dl Q K V O h i / den Q K h i := by
    unfold dl
    rw [Finset.sum_div]
    refine Finset.sum_congr rfl fun k _ => ?_
    unfold prob; field_simp
  rw [e]; unfold ds prob; field_simp; ring

end Cert.Attn

end
-- ==== Proof.AttnHold.lean ====
/- Buffers that hold real arrays: loads and stores of some rows, and where the rows of the attention's backward kernel begin. -/
module

public import proofs.«01_k».proof.Proof.AttnRunB
public import proofs.«01_k».proof.Proof.AttnMath
public import proofs.«01_k».proof.Proof.Rows
public import Idealize.ShloMosaic.Lib.WholeRead

@[expose] public section

set_option maxRecDepth 16384

noncomputable section

open Idealize.ShloMosaic Idealize.ShloMosaic.TcCoe
open Cert.Lift Cert.AttnBwdIdeal Cert.AttnBwdIdeal.Gen

namespace Cert.Attn

section generic
variable {sig : RefSig} {κ : Kind} {sp : Space} {e : EltTy} {R n h : ℕ}

/-- The index `o` rows below. -/
abbrev below (o : ℕ) (hoR : o + h ≤ R) (x : Shape.Idx ⟨2, ![h, n]⟩) : Shape.Idx ⟨2, ![R, n]⟩ := fun a => match a with
  | ⟨0, _⟩ => ⟨o + (x 0).val, Nat.lt_of_lt_of_le (Nat.add_lt_add_left (x 0).isLt o) hoR⟩
  | ⟨1, _⟩ => x 1

/-- A load of some rows reads the buffer that far below. -/
theorem load_rows {α : EltTy → Type} (v : View sig κ sp ⟨2, ![R, n]⟩ e) (f : v.ty.Contents α) (off : Fin 2 → ℕ) (o : ℕ) (ho : off = ![o, 0])
    (inb : ∀ a, off a + (![h, n] : Fin 2 → ℕ) a ≤ (⟨2, ![R, n]⟩ : Shape).size a) (x : Shape.Idx ⟨2, ![h, n]⟩) :
    View.readAt α v (Rect.unit (s := ⟨2, ![R, n]⟩) off ![h, n] inb).toLoadRect f x = v.read α f (below o (by subst ho; exact inb 0) x) := by
  subst ho
  exact View.ld_unit_apply_of (v.read α f) ![o, 0] ![h, n] inb x _ fun a => by
    match a with
    | ⟨0, _⟩ => rfl
    | ⟨1, _⟩ => exact (Nat.zero_add _).symm

/-- The buffer holds a real array. -/
def Holds (v : View sig κ sp ⟨2, ![R, n]⟩ .f32) (f : v.ty.Contents (Elt Ideal)) (D : ℕ → ℕ → ℝ) : Prop :=
  ∀ y, v.read (Elt Ideal) f y = (D (y 0).val (y 1).val : EReal)

/-- A store of some rows over a buffer that holds an array. -/
theorem Holds.put {v : View sig κ sp ⟨2, ![R, n]⟩ .f32} {f : v.ty.Contents (Elt Ideal)} {L : List (View.Piece (Elt Ideal) (⟨2, ![R, n]⟩ : Shape) .f32)} {D : ℕ → ℕ → ℝ}
    (H : Holds v (v.writes (Elt Ideal) f L) D) {off : Fin 2 → ℕ} {o : ℕ} (ho : off = ![o, 0])
    {inb : ∀ a, off a + (![h, n] : Fin 2 → ℕ) a ≤ (⟨2, ![R, n]⟩ : Shape).size a}
    {p : Shape.Idx ⟨2, ![h, n]⟩ → EReal} (D' : ℕ → ℕ → ℝ) (hp : ∀ x, p x = (D' (o + (x 0).val) (x 1).val : EReal))
    (hD : ∀ a b, a < o ∨ o + h ≤ a → D' a b = D a b) :
    Holds v (v.writes (Elt Ideal) f ((⟨Rect.unit (s := ⟨2, ![R, n]⟩) off ![h, n] inb, p⟩ : View.Piece (Elt Ideal) (⟨2, ![R, n]⟩ : Shape) .f32) :: L)) D' := by
  subst ho
  intro y
  by_cases g : o ≤ (y 0).val ∧ (y 0).val < o + h
  · refine (View.read_writes_cons_unit_of_mem v f inb p L y (fun a => match a with
      | ⟨0, _⟩ => ⟨(y 0).val - o, by show _ < h; omega⟩
      | ⟨1, _⟩ => y 1) rfl fun a => by
      match a with
      | ⟨0, _⟩ => show (y 0).val = o + ((y 0).val - o); omega
      | ⟨1, _⟩ => exact (Nat.zero_add _).symm).trans ((hp _).trans ?_)
    show ((D' (o + ((y 0).val - o)) (y 1).val : ℝ) : EReal) = _
    rw [Nat.add_sub_cancel' g.1]
  · have g' : (y 0).val < o ∨ o + h ≤ (y 0).val := by omega
    refine (View.read_writes_cons_unit_of_not_mem v f inb p L y rfl 0 ?_).trans ((H y).trans (by rw [hD _ _ g']))
    rcases g' with g' | g'
    · exact Or.inl g'
    · exact Or.inr g'

/-- A load of some rows of a buffer that holds an array. -/
theorem Holds.get {v : View sig κ sp ⟨2, ![R, n]⟩ .f32} {f : v.ty.Contents (Elt Ideal)} {D : ℕ → ℕ → ℝ} (H : Holds v f D)
    {off : Fin 2 → ℕ} {o : ℕ} (ho : off = ![o, 0])
    {inb : ∀ a, off a + (![h, n] : Fin 2 → ℕ) a ≤ (⟨2, ![R, n]⟩ : Shape).size a} (x : Shape.Idx ⟨2, ![h, n]⟩) :
    View.readAt (Elt Ideal) v (Rect.unit (s := ⟨2, ![R, n]⟩) off ![h, n] inb).toLoadRect f x = (D (o + (x 0).val) (x 1).val : EReal) :=
  (load_rows v f off o ho inb x).trans (H _)

/-- The row `o` further down of a column. -/
abbrev belowCol (o : ℕ) (hoR : o + h ≤ R) (x : Shape.Idx ⟨3, ![1, h, 1]⟩) : Shape.Idx ⟨3, ![1, R, 1]⟩ := fun a => match a with
  | ⟨0, _⟩ => x 0
  | ⟨1, _⟩ => ⟨o + (x 1).val, Nat.lt_of_lt_of_le (Nat.add_lt_add_left (x 1).isLt o) hoR⟩
  | ⟨2, _⟩ => x 2

/-- A load of some rows of a column. -/
theorem load_col {α : EltTy → Type} (v : View sig κ sp ⟨3, ![1, R, 1]⟩ e) (f : v.ty.Contents α) (off : Fin 3 → ℕ) (o : ℕ) (ho : off = ![0, o, 0])
    (inb : ∀ a, off a + (![1, h, 1] : Fin 3 → ℕ) a ≤ (⟨3, ![1, R, 1]⟩ : Shape).size a) (x : Shape.Idx ⟨3, ![1, h, 1]⟩) :
    View.readAt α v (Rect.unit (s := ⟨3, ![1, R, 1]⟩) off ![1, h, 1] inb).toLoadRect f x = v.read α f (belowCol o (by subst ho; exact inb 1) x) := by
  subst ho
  exact View.ld_unit_apply_of (v.read α f) ![0, o, 0] ![1, h, 1] inb x _ fun a => by
    match a with
    | ⟨0, _⟩ => exact (Nat.zero_add _).symm
    | ⟨1, _⟩ => rfl
    | ⟨2, _⟩ => exact (Nat.zero_add _).symm

end generic

/-- Where the diagonal groups begin. -/
theorem off1 (i : grid0.Coords) (g : ℕ) (hg : g < 1024) : k0_off1 i (BitVec.ofNat 32 g) = ![1024 * (i 1).val + g, 0] := by
  have hi : (i 1).val < 8 := (i 1).isLt
  have e : (BitVec.ofNat 32 (i 1).val * 1024#32 + BitVec.ofNat 32 g).toNat = 1024 * (i 1).val + g := by
    simp only [BitVec.toNat_add, BitVec.toNat_mul, BitVec.toNat_ofNat]; omega
  exact congrArg (fun n : ℕ => (![n, 0] : Fin 2 → ℕ)) e

theorem off2 (i : grid0.Coords) (g : ℕ) (hg : g < 1024) : k0_off2 i (BitVec.ofNat 32 g) = ![0, 1024 * (i 1).val + g, 0] := by
  have hi : (i 1).val < 8 := (i 1).isLt
  have e : (BitVec.ofNat 32 (i 1).val * 1024#32 + BitVec.ofNat 32 g).toNat = 1024 * (i 1).val + g := by
    simp only [BitVec.toNat_add, BitVec.toNat_mul, BitVec.toNat_ofNat]; omega
  exact congrArg (fun n : ℕ => (![0, n, 0] : Fin 3 → ℕ)) e

theorem trips (i : grid0.Coords) : (k0_t1_loop i).trips = 7 - (i 1).val := by
  have : ∀ j : Fin 8, Scf.trips (Scalar.addi (BitVec.ofNat 32 j.val) 1#32) (Scalar.addi (Scalar.addi (BitVec.ofNat 32 j.val) 1#32) (Scalar.muli (Scalar.divsi (Scalar.subi 8#32 (Scalar.addi (BitVec.ofNat 32 j.val) 1#32)) 1#32) 1#32)) 1#32 = 7 - j.val := by decide +kernel
  exact this (i 1)

/-- Where the groups of a later tile begin. -/
theorem off3 (i : grid0.Coords) (k : Fin (k0_t1_loop i).trips) (g : ℕ) (hg : g < 1024) : k0_off3 i k (BitVec.ofNat 32 g) = ![1024 * ((i 1).val + 1 + k.val) + g, 0] := by
  have hi : (i 1).val < 8 := (i 1).isLt
  have hk : k.val < 7 - (i 1).val := lt_of_lt_of_eq k.isLt (trips i)
  have e : ((BitVec.ofNat 32 (i 1).val + 1#32 + BitVec.ofNat 32 k.val * 1#32) * 1024#32 + BitVec.ofNat 32 g).toNat = 1024 * ((i 1).val + 1 + k.val) + g := by
    simp only [BitVec.toNat_add, BitVec.toNat_mul, BitVec.toNat_ofNat]; omega
  exact congrArg (fun n : ℕ => (![n, 0] : Fin 2 → ℕ)) e

theorem off4 (i : grid0.Coords) (k : Fin (k0_t1_loop i).trips) (g : ℕ) (hg : g < 1024) : k0_off4 i k (BitVec.ofNat 32 g) = ![0, 1024 * ((i 1).val + 1 + k.val) + g, 0] := by
  have e := congrFun (off3 i k g hg) 0
  exact congrArg (fun n : ℕ => (![0, n, 0] : Fin 3 → ℕ)) e

end Cert.Attn

end
-- ==== Proof.AttnDiag.lean ====
/- The diagonal tile of the attention's backward kernel: the weights, their gradients and the products of each group of rows, on real arrays. -/
module

public import proofs.«01_k».proof.Proof.AttnHold

@[expose] public section

set_option maxRecDepth 16384

noncomputable section

open Idealize.ShloMosaic Idealize.ShloMosaic.TcCoe
open Cert.Lift Cert.AttnBwdIdeal Cert.AttnBwdIdeal.Gen Cert.AttnBwdIdeal.Body

namespace Cert.Attn

/-- A sum whose terms vanish from some index on, run further. -/
theorem sum_longer {W N : ℕ} (hW : W ≤ N) (f : ℕ → ℝ) (hf : ∀ j, W ≤ j → f j = 0) : ∑ k : Fin W, f k = ∑ k : Fin N, f k := by
  rw [Fin.sum_univ_eq_sum_range f W, Fin.sum_univ_eq_sum_range f N]
  exact Finset.sum_subset (Finset.range_mono hW) fun j _ h => hf j (by simpa using h)

/-- The masked weight of a score. -/
theorem select_weight {col row g : ℕ} (hc : col < 1024) (hr : row < 256) (hg : g ≤ 768) {x p : ℝ} {z : EReal} (hz : z = 0)
    (h1 : col ≤ row + g → Real.rpow 2 x = p) (h2 : row + g < col → p = 0) :
    Scalar.select (IntOp.cmpi .sle (BitVec.ofNat 32 col) (IntOp.addi (BitVec.ofNat 32 row) (BitVec.ofNat 32 g))) (FloatOps.exp2 (F := Ideal) (φ := .f32) (x : EReal)) z = (p : EReal) := by
  have e : IntOp.addi (BitVec.ofNat 32 row) (BitVec.ofNat 32 g) = BitVec.ofNat 32 (row + g) := (BitVec.ofNat_add row g).symm
  rw [e, select_le (by omega) (by omega), hz]
  split_ifs with h
  · exact congrArg Real.toEReal (h1 h)
  · rw [h2 (by omega)]; rfl

variable {c : Dev nD} {i : grid0.Coords} {arg2 arg3 : Memref sig .tc .vmem S8192x128 .bf16} {harg2 : arg2.IsWhole} {harg3 : arg3.IsWhole}
  {arg4 arg5 : Memref sig .tc .vmem S1x8192x1 .f32} {harg4 : arg4.IsWhole} {harg5 : arg5.IsWhole}
  {arg6 arg7 : Memref sig .tc .vmem S1024x128 .bf16} {harg6 : arg6.IsWhole} {harg7 : arg7.IsWhole}
  {x0 x1 : Vec Ideal S8192x128 .bf16} {x2 x3 : Vec Ideal S1x8192x1 .f32} {x4 x5 : Vec Ideal S1024x128 .bf16}
  {A B Kt Vt P G : ℕ → ℕ → ℝ} {L M : ℕ → ℝ}
  (hA : ∀ y, x0 y = (A (y 0).val (y 1).val : EReal)) (hB : ∀ y, x1 y = (B (y 0).val (y 1).val : EReal))
  (hL : ∀ y, x2 y = (L (y 1).val : EReal)) (hM : ∀ y, x3 y = (M (y 1).val : EReal))
  (hK : ∀ y, x4 y = (Kt (y 0).val (y 1).val : EReal)) (hV : ∀ y, x5 y = (Vt (y 0).val (y 1).val : EReal))
  (hP : ∀ r j, 1024 * (i 1).val + j ≤ r → Real.rpow 2 (∑ d : Fin 128, A r d * Kt j d - L r) = P r j)
  (hZ : ∀ r j, r < 1024 * (i 1).val + j → P r j = 0)
  (hG : ∀ r j, P r j * (∑ e : Fin 128, B r e * Vt j e - M r) = G r j)

include hA in
/-- Rows of the queries' block. -/
theorem rows_q {h : ℕ} (arg2 : Memref sig .tc .vmem S8192x128 .bf16) (harg2 : arg2.IsWhole) {off : Fin 2 → ℕ} {o : ℕ} (ho : off = ![o, 0]) (inb) (y) :
    View.readAt (Elt Ideal) arg2.view (Rect.unit (s := S8192x128) off ![h, 128] inb).toLoadRect (harg2.unread x0) y = (A (o + (y 0).val) (y 1).val : EReal) := by
  refine (load_rows arg2.view _ off o ho inb y).trans ?_
  rw [harg2.read_unread, hA]

include hL in
/-- Rows of a column. -/
theorem rows_l {h : ℕ} (arg4 : Memref sig .tc .vmem S1x8192x1 .f32) (harg4 : arg4.IsWhole) {off : Fin 3 → ℕ} {o : ℕ} (ho : off = ![0, o, 0]) (inb) (y) :
    View.readAt (Elt Ideal) arg4.view (Rect.unit (s := S1x8192x1) off ![1, h, 1] inb).toLoadRect (harg4.unread x2) y = (L (o + (y 1).val) : EReal) := by
  refine (load_col arg4.view _ off o ho inb y).trans ?_
  rw [harg4.read_unread, hL]

include hK in
theorem key (y) : runB.sl.v12 (F := Ideal) c arg6 harg6 x4 y = (Kt (y 0).val (y 1).val : EReal) := by
  rw [runB.sl.v12, shapeCast_self]
  refine (load_rows arg6.view _ ![0, 0] 0 rfl _ y).trans ?_
  rw [harg6.read_unread, hK]
  simp only [Nat.zero_add]

include hV in
theorem value (y) : runB.sl.v14 (F := Ideal) c arg7 harg7 x5 y = (Vt (y 0).val (y 1).val : EReal) := by
  rw [runB.sl.v14, shapeCast_self]
  refine (load_rows arg7.view _ ![0, 0] 0 rfl _ y).trans ?_
  rw [harg7.read_unread, hV]
  simp only [Nat.zero_add]

/- The rows from 0 on of the tile. -/
include hA in
theorem q0 (y) : runB.sl.v29 (F := Ideal) c i arg2 harg2 x0 y = (A (1024 * (i 1).val + (y 0).val) (y 1).val : EReal) := by
  rw [runB.sl.v29, shapeCast_self]
  exact rows_q hA arg2 harg2 (off1 i 0 (by norm_num)) _ y

include hB in
theorem do0 (y) : runB.sl.v41 (F := Ideal) c i arg3 harg3 x1 y = (B (1024 * (i 1).val + (y 0).val) (y 1).val : EReal) := by
  rw [runB.sl.v41, shapeCast_self]
  exact rows_q hB arg3 harg3 (off1 i 0 (by norm_num)) _ y

include hL in
theorem lse0 (y) : runB.sl.v67 (F := Ideal) c i arg4 harg4 x2 y = (L (1024 * (i 1).val + (y 0).val) : EReal) := by
  pointwise [runB.sl.v67]
  exact rows_l hL arg4 harg4 (off2 i 0 (by norm_num)) _ _

include hM in
theorem delta0 (y) : runB.sl.v80 (F := Ideal) c i arg5 harg5 x3 y = (M (1024 * (i 1).val + (y 0).val) : EReal) := by
  pointwise [runB.sl.v80]
  exact rows_l hM arg5 harg5 (off2 i 0 (by norm_num)) _ _

include hA hL hK hP hZ in
theorem p0 (y) : runB.sl.v77 (F := Ideal) c i arg2 harg2 arg4 harg4 arg6 harg6 x0 x2 x4 y = (P (1024 * (i 1).val + (y 0).val) (y 1).val : EReal) := by
  have h0 : (y 0).val < 256 := (y 0).isLt
  have h1 : (y 1).val < 256 := (y 1).isLt
  pointwise [runB.sl.v77, runB.sl.v75, runB.sl.v71, runB.sl.v72, runB.sl.v73, runB.sl.v70, runB.sl.v69, runB.sl.v68, runB.sl.v52, runB.sl.v51, runB.sl.cst_21, q0 hA, key hK, lse0 hL]
  exact select_weight (by omega) h0 (by norm_num) (by pointwise [runB.sl.v76, runB.sl.cst]) (fun h => hP _ _ (by omega)) (fun h => hZ _ _ (by omega))

include hA hB hL hM hK hV hP hZ hG in
theorem ds0 (y) : runB.sl.v83 (F := Ideal) c i arg2 harg2 arg3 harg3 arg4 harg4 arg5 harg5 arg6 harg6 arg7 harg7 x0 x1 x2 x3 x4 x5 y = (G (1024 * (i 1).val + (y 0).val) (y 1).val : EReal) := by
  pointwise [runB.sl.v83, runB.sl.v82, runB.sl.v81, runB.sl.v59, runB.sl.v58, runB.sl.cst_21, p0 hA hL hK hP hZ, do0 hB, value hV, delta0 hM]
  exact congrArg Real.toEReal (hG _ _)

include hA hB hL hK hP hZ in
theorem pdo0 (y) : runB.sl.v87 (F := Ideal) c i arg2 harg2 arg3 harg3 arg4 harg4 arg6 harg6 x0 x1 x2 x4 y
    = (∑ r : Fin 256, P (1024 * (i 1).val + r) (y 0).val * B (1024 * (i 1).val + r) (y 1).val : ℝ) := by
  pointwise [runB.sl.v87, runB.sl.v84, p0 hA hL hK hP hZ, do0 hB, runB.sl.cst_37]

include hA hB hL hM hK hV hP hZ hG in
theorem dsq0 (y) : runB.sl.v93 (F := Ideal) c i arg2 harg2 arg3 harg3 arg4 harg4 arg5 harg5 arg6 harg6 arg7 harg7 x0 x1 x2 x3 x4 x5 y
    = (∑ r : Fin 256, G (1024 * (i 1).val + r) (y 0).val * A (1024 * (i 1).val + r) (y 1).val : ℝ) := by
  pointwise [runB.sl.v93, runB.sl.v85, ds0 hA hB hL hM hK hV hP hZ hG, q0 hA, runB.sl.cst_37]

include hA hB hL hM hK hV hP hZ hG in
theorem dsk0 (y) : runB.sl.v104 (F := Ideal) c i arg2 harg2 arg3 harg3 arg4 harg4 arg5 harg5 arg6 harg6 arg7 harg7 x0 x1 x2 x3 x4 x5 y
    = ((∑ j : Fin 1024, G (1024 * (i 1).val + (y 0).val) j * Kt j (y 1).val) * scale : ℝ) := by
  have h0 : (y 0).val < 256 := (y 0).isLt
  rw [← sum_longer (W := 256) (by norm_num) (fun j => G (1024 * (i 1).val + (y 0).val) j * Kt j (y 1).val) fun j hj => by
    rw [← hG, hZ _ _ (by omega), zero_mul, zero_mul]]
  pointwise [runB.sl.v104, runB.sl.v102, runB.sl.v103, runB.sl.cst_47, f32_scale, runB.sl.v85, ds0 hA hB hL hM hK hV hP hZ hG, key hK, runB.sl.v51, runB.sl.cst_37]

/- The rows from 256 on of the tile. -/
include hA in
theorem q1 (y) : runB.sl.v32 (F := Ideal) c i arg2 harg2 x0 y = (A (1024 * (i 1).val + 256 + (y 0).val) (y 1).val : EReal) := by
  rw [runB.sl.v32, shapeCast_self]
  exact rows_q hA arg2 harg2 (off1 i 256 (by norm_num)) _ y

include hB in
theorem do1 (y) : runB.sl.v44 (F := Ideal) c i arg3 harg3 x1 y = (B (1024 * (i 1).val + 256 + (y 0).val) (y 1).val : EReal) := by
  rw [runB.sl.v44, shapeCast_self]
  exact rows_q hB arg3 harg3 (off1 i 256 (by norm_num)) _ y

include hL in
theorem lse1 (y) : runB.sl.v110 (F := Ideal) c i arg4 harg4 x2 y = (L (1024 * (i 1).val + 256 + (y 0).val) : EReal) := by
  pointwise [runB.sl.v110]
  exact rows_l hL arg4 harg4 (off2 i 256 (by norm_num)) _ _

include hM in
theorem delta1 (y) : runB.sl.v123 (F := Ideal) c i arg5 harg5 x3 y = (M (1024 * (i 1).val + 256 + (y 0).val) : EReal) := by
  pointwise [runB.sl.v123]
  exact rows_l hM arg5 harg5 (off2 i 256 (by norm_num)) _ _

include hA hL hK hP hZ in
theorem p1 (y) : runB.sl.v120 (F := Ideal) c i arg2 harg2 arg4 harg4 arg6 harg6 x0 x2 x4 y = (P (1024 * (i 1).val + 256 + (y 0).val) (y 1).val : EReal) := by
  have h0 : (y 0).val < 256 := (y 0).isLt
  have h1 : (y 1).val < 512 := (y 1).isLt
  pointwise [runB.sl.v120, runB.sl.v118, runB.sl.v114, runB.sl.v115, runB.sl.v116, runB.sl.v113, runB.sl.v112, runB.sl.v111, runB.sl.v54, runB.sl.v53, runB.sl.cst_22, q1 hA, key hK, lse1 hL]
  exact select_weight (by omega) h0 (by norm_num) (by pointwise [runB.sl.v119, runB.sl.cst]) (fun h => hP _ _ (by omega)) (fun h => hZ _ _ (by omega))

include hA hB hL hM hK hV hP hZ hG in
theorem ds1 (y) : runB.sl.v126 (F := Ideal) c i arg2 harg2 arg3 harg3 arg4 harg4 arg5 harg5 arg6 harg6 arg7 harg7 x0 x1 x2 x3 x4 x5 y = (G (1024 * (i 1).val + 256 + (y 0).val) (y 1).val : EReal) := by
  pointwise [runB.sl.v126, runB.sl.v125, runB.sl.v124, runB.sl.v61, runB.sl.v60, runB.sl.cst_22, p1 hA hL hK hP hZ, do1 hB, value hV, delta1 hM]
  exact congrArg Real.toEReal (hG _ _)

include hA hB hL hK hP hZ in
theorem pdo1 (y) : runB.sl.v130 (F := Ideal) c i arg2 harg2 arg3 harg3 arg4 harg4 arg6 harg6 x0 x1 x2 x4 y
    = (∑ r : Fin 256, P (1024 * (i 1).val + 256 + r) (y 0).val * B (1024 * (i 1).val + 256 + r) (y 1).val : ℝ) := by
  pointwise [runB.sl.v130, runB.sl.v127, p1 hA hL hK hP hZ, do1 hB, runB.sl.cst_57]

include hA hB hL hM hK hV hP hZ hG in
theorem dsq1 (y) : runB.sl.v136 (F := Ideal) c i arg2 harg2 arg3 harg3 arg4 harg4 arg5 harg5 arg6 harg6 arg7 harg7 x0 x1 x2 x3 x4 x5 y
    = (∑ r : Fin 256, G (1024 * (i 1).val + 256 + r) (y 0).val * A (1024 * (i 1).val + 256 + r) (y 1).val : ℝ) := by
  pointwise [runB.sl.v136, runB.sl.v128, ds1 hA hB hL hM hK hV hP hZ hG, q1 hA, runB.sl.cst_57]

include hA hB hL hM hK hV hP hZ hG in
theorem dsk1 (y) : runB.sl.v147 (F := Ideal) c i arg2 harg2 arg3 harg3 arg4 harg4 arg5 harg5 arg6 harg6 arg7 harg7 x0 x1 x2 x3 x4 x5 y
    = ((∑ j : Fin 1024, G (1024 * (i 1).val + 256 + (y 0).val) j * Kt j (y 1).val) * scale : ℝ) := by
  have h0 : (y 0).val < 256 := (y 0).isLt
  rw [← sum_longer (W := 512) (by norm_num) (fun j => G (1024 * (i 1).val + 256 + (y 0).val) j * Kt j (y 1).val) fun j hj => by
    rw [← hG, hZ _ _ (by omega), zero_mul, zero_mul]]
  pointwise [runB.sl.v147, runB.sl.v145, runB.sl.v103, runB.sl.cst_47, f32_scale, runB.sl.v128, ds1 hA hB hL hM hK hV hP hZ hG, key hK, runB.sl.v53, runB.sl.cst_37]

/- The rows from 512 on of the tile. -/
include hA in
theorem q2 (y) : runB.sl.v35 (F := Ideal) c i arg2 harg2 x0 y = (A (1024 * (i 1).val + 512 + (y 0).val) (y 1).val : EReal) := by
  rw [runB.sl.v35, shapeCast_self]
  exact rows_q hA arg2 harg2 (off1 i 512 (by norm_num)) _ y

include hB in
theorem do2 (y) : runB.sl.v47 (F := Ideal) c i arg3 harg3 x1 y = (B (1024 * (i 1).val + 512 + (y 0).val) (y 1).val : EReal) := by
  rw [runB.sl.v47, shapeCast_self]
  exact rows_q hB arg3 harg3 (off1 i 512 (by norm_num)) _ y

include hL in
theorem lse2 (y) : runB.sl.v153 (F := Ideal) c i arg4 harg4 x2 y = (L (1024 * (i 1).val + 512 + (y 0).val) : EReal) := by
  pointwise [runB.sl.v153]
  exact rows_l hL arg4 harg4 (off2 i 512 (by norm_num)) _ _

include hM in
theorem delta2 (y) : runB.sl.v166 (F := Ideal) c i arg5 harg5 x3 y = (M (1024 * (i 1).val + 512 + (y 0).val) : EReal) := by
  pointwise [runB.sl.v166]
  exact rows_l hM arg5 harg5 (off2 i 512 (by norm_num)) _ _

include hA hL hK hP hZ in
theorem p2 (y) : runB.sl.v163 (F := Ideal) c i arg2 harg2 arg4 harg4 arg6 harg6 x0 x2 x4 y = (P (1024 * (i 1).val + 512 + (y 0).val) (y 1).val : EReal) := by
  have h0 : (y 0).val < 256 := (y 0).isLt
  have h1 : (y 1).val < 768 := (y 1).isLt
  pointwise [runB.sl.v163, runB.sl.v161, runB.sl.v157, runB.sl.v158, runB.sl.v159, runB.sl.v156, runB.sl.v155, runB.sl.v154, runB.sl.v56, runB.sl.v55, runB.sl.cst_23, q2 hA, key hK, lse2 hL]
  exact select_weight (by omega) h0 (by norm_num) (by pointwise [runB.sl.v162, runB.sl.cst]) (fun h => hP _ _ (by omega)) (fun h => hZ _ _ (by omega))

include hA hB hL hM hK hV hP hZ hG in
theorem ds2 (y) : runB.sl.v169 (F := Ideal) c i arg2 harg2 arg3 harg3 arg4 harg4 arg5 harg5 arg6 harg6 arg7 harg7 x0 x1 x2 x3 x4 x5 y = (G (1024 * (i 1).val + 512 + (y 0).val) (y 1).val : EReal) := by
  pointwise [runB.sl.v169, runB.sl.v168, runB.sl.v167, runB.sl.v63, runB.sl.v62, runB.sl.cst_23, p2 hA hL hK hP hZ, do2 hB, value hV, delta2 hM]
  exact congrArg Real.toEReal (hG _ _)

include hA hB hL hK hP hZ in
theorem pdo2 (y) : runB.sl.v173 (F := Ideal) c i arg2 harg2 arg3 harg3 arg4 harg4 arg6 harg6 x0 x1 x2 x4 y
    = (∑ r : Fin 256, P (1024 * (i 1).val + 512 + r) (y 0).val * B (1024 * (i 1).val + 512 + r) (y 1).val : ℝ) := by
  pointwise [runB.sl.v173, runB.sl.v170, p2 hA hL hK hP hZ, do2 hB, runB.sl.cst_77]

include hA hB hL hM hK hV hP hZ hG in
theorem dsq2 (y) : runB.sl.v179 (F := Ideal) c i arg2 harg2 arg3 harg3 arg4 harg4 arg5 harg5 arg6 harg6 arg7 harg7 x0 x1 x2 x3 x4 x5 y
    = (∑ r : Fin 256, G (1024 * (i 1).val + 512 + r) (y 0).val * A (1024 * (i 1).val + 512 + r) (y 1).val : ℝ) := by
  pointwise [runB.sl.v179, runB.sl.v171, ds2 hA hB hL hM hK hV hP hZ hG, q2 hA, runB.sl.cst_77]

include hA hB hL hM hK hV hP hZ hG in
theorem dsk2 (y) : runB.sl.v190 (F := Ideal) c i arg2 harg2 arg3 harg3 arg4 harg4 arg5 harg5 arg6 harg6 arg7 harg7 x0 x1 x2 x3 x4 x5 y
    = ((∑ j : Fin 1024, G (1024 * (i 1).val + 512 + (y 0).val) j * Kt j (y 1).val) * scale : ℝ) := by
  have h0 : (y 0).val < 256 := (y 0).isLt
  rw [← sum_longer (W := 768) (by norm_num) (fun j => G (1024 * (i 1).val + 512 + (y 0).val) j * Kt j (y 1).val) fun j hj => by
    rw [← hG, hZ _ _ (by omega), zero_mul, zero_mul]]
  pointwise [runB.sl.v190, runB.sl.v188, runB.sl.v103, runB.sl.cst_47, f32_scale, runB.sl.v171, ds2 hA hB hL hM hK hV hP hZ hG, key hK, runB.sl.v55, runB.sl.cst_37]

/- The rows from 768 on of the tile. -/
include hA in
theorem q3 (y) : runB.sl.v38 (F := Ideal) c i arg2 harg2 x0 y = (A (1024 * (i 1).val + 768 + (y 0).val) (y 1).val : EReal) := by
  rw [runB.sl.v38, shapeCast_self]
  exact rows_q hA arg2 harg2 (off1 i 768 (by norm_num)) _ y

include hB in
theorem do3 (y) : runB.sl.v50 (F := Ideal) c i arg3 harg3 x1 y = (B (1024 * (i 1).val + 768 + (y 0).val) (y 1).val : EReal) := by
  rw [runB.sl.v50, shapeCast_self]
  exact rows_q hB arg3 harg3 (off1 i 768 (by norm_num)) _ y

include hL in
theorem lse3 (y) : runB.sl.v196 (F := Ideal) c i arg4 harg4 x2 y = (L (1024 * (i 1).val + 768 + (y 0).val) : EReal) := by
  pointwise [runB.sl.v196]
  exact rows_l hL arg4 harg4 (off2 i 768 (by norm_num)) _ _

include hM in
theorem delta3 (y) : runB.sl.v209 (F := Ideal) c i arg5 harg5 x3 y = (M (1024 * (i 1).val + 768 + (y 0).val) : EReal) := by
  pointwise [runB.sl.v209]
  exact rows_l hM arg5 harg5 (off2 i 768 (by norm_num)) _ _

include hA hL hK hP hZ in
theorem p3 (y) : runB.sl.v206 (F := Ideal) c i arg2 harg2 arg4 harg4 arg6 harg6 x0 x2 x4 y = (P (1024 * (i 1).val + 768 + (y 0).val) (y 1).val : EReal) := by
  have h0 : (y 0).val < 256 := (y 0).isLt
  have h1 : (y 1).val < 1024 := (y 1).isLt
  pointwise [runB.sl.v206, runB.sl.v204, runB.sl.v200, runB.sl.v201, runB.sl.v202, runB.sl.v199, runB.sl.v198, runB.sl.v197, runB.sl.v57, runB.sl.cst_24, q3 hA, key hK, lse3 hL]
  exact select_weight (by omega) h0 (by norm_num) (by pointwise [runB.sl.v205, runB.sl.cst]) (fun h => hP _ _ (by omega)) (fun h => hZ _ _ (by omega))

include hA hB hL hM hK hV hP hZ hG in
theorem ds3 (y) : runB.sl.v212 (F := Ideal) c i arg2 harg2 arg3 harg3 arg4 harg4 arg5 harg5 arg6 harg6 arg7 harg7 x0 x1 x2 x3 x4 x5 y = (G (1024 * (i 1).val + 768 + (y 0).val) (y 1).val : EReal) := by
  pointwise [runB.sl.v212, runB.sl.v211, runB.sl.v210, runB.sl.v64, runB.sl.cst_24, p3 hA hL hK hP hZ, do3 hB, value hV, delta3 hM]
  exact congrArg Real.toEReal (hG _ _)

include hA hB hL hK hP hZ in
theorem pdo3 (y) : runB.sl.v216 (F := Ideal) c i arg2 harg2 arg3 harg3 arg4 harg4 arg6 harg6 x0 x1 x2 x4 y
    = (∑ r : Fin 256, P (1024 * (i 1).val + 768 + r) (y 0).val * B (1024 * (i 1).val + 768 + r) (y 1).val : ℝ) := by
  pointwise [runB.sl.v216, runB.sl.v213, p3 hA hL hK hP hZ, do3 hB, runB.sl.cst_97]

include hA hB hL hM hK hV hP hZ hG in
theorem dsq3 (y) : runB.sl.v222 (F := Ideal) c i arg2 harg2 arg3 harg3 arg4 harg4 arg5 harg5 arg6 harg6 arg7 harg7 x0 x1 x2 x3 x4 x5 y
    = (∑ r : Fin 256, G (1024 * (i 1).val + 768 + r) (y 0).val * A (1024 * (i 1).val + 768 + r) (y 1).val : ℝ) := by
  pointwise [runB.sl.v222, runB.sl.v214, ds3 hA hB hL hM hK hV hP hZ hG, q3 hA, runB.sl.cst_97]

end Cert.Attn

end
-- ==== Proof.AttnAcc.lean ====
/- The two accumulators of the attention's backward kernel after the diagonal tile. -/
module

public import proofs.«01_k».proof.Proof.AttnDiag

@[expose] public section

set_option maxRecDepth 16384

noncomputable section

open Idealize.ShloMosaic Idealize.ShloMosaic.TcCoe
open Cert.Lift Cert.AttnBwdIdeal Cert.AttnBwdIdeal.Gen Cert.AttnBwdIdeal.Body

namespace Cert.Attn

/-- The product of the weights' columns with an array, summed over the rows from `a` to before `b`. -/
def part (W X : ℕ → ℕ → ℝ) (a b j e : ℕ) : ℝ := ∑ r ∈ Finset.Ico a b, W r j * X r e

theorem part_add (W X : ℕ → ℕ → ℝ) {a b : ℕ} (n : ℕ) (h : a ≤ b) (j e : ℕ) : part W X a (b + n) j e = part W X a b j e + ∑ r : Fin n, W (b + r) j * X (b + r) e := by
  unfold part
  rw [Fin.sum_univ_eq_sum_range (fun r => W (b + r) j * X (b + r) e) n, ← Finset.sum_Ico_consecutive _ h (Nat.le_add_right b n), Finset.sum_Ico_eq_sum_range _ b, Nat.add_sub_cancel_left]

section generic
variable {sig : RefSig} {κ : Kind} {sp : Space} {R n : ℕ} {v : View sig κ sp ⟨2, ![R, n]⟩ .f32}

/-- A store of the whole buffer. -/
theorem Holds.all {f : v.ty.Contents (Elt Ideal)} {L : List (View.Piece (Elt Ideal) (⟨2, ![R, n]⟩ : Shape) .f32)} {inb}
    {p : Shape.Idx ⟨2, ![R, n]⟩ → EReal} {D : ℕ → ℕ → ℝ} (hp : ∀ x, p x = (D (x 0).val (x 1).val : EReal)) :
    Holds v (v.writes (Elt Ideal) f ((⟨Rect.unit (s := ⟨2, ![R, n]⟩) ![0, 0] ![R, n] inb, p⟩ : View.Piece (Elt Ideal) (⟨2, ![R, n]⟩ : Shape) .f32) :: L)) D := fun y =>
  (View.read_writes_cons_unit_of_mem v f inb p L y y rfl fun a => match a with
    | ⟨0, _⟩ => (Nat.zero_add _).symm
    | ⟨1, _⟩ => (Nat.zero_add _).symm).trans (hp y)

/-- A group of rows added to the accumulator's first `h` rows, where the weights of the later rows vanish. -/
theorem Holds.step {W X : ℕ → ℕ → ℝ} {f : v.ty.Contents (Elt Ideal)} {L : List (View.Piece (Elt Ideal) (⟨2, ![R, n]⟩ : Shape) .f32)} {a b m h : ℕ} (hab : a ≤ b)
    (H : Holds v (v.writes (Elt Ideal) f L) (part W X a b)) {inb} {p : Shape.Idx ⟨2, ![h, n]⟩ → EReal}
    (hp : ∀ x, p x = View.readAt (Elt Ideal) v (Rect.unit (s := ⟨2, ![R, n]⟩) ![0, 0] ![h, n] inb).toLoadRect (v.writes (Elt Ideal) f L) x
      + ((∑ r : Fin m, W (b + r) (x 0).val * X (b + r) (x 1).val : ℝ) : EReal))
    (hz : ∀ r j, r < b + m → h ≤ j → W r j = 0) :
    Holds v (v.writes (Elt Ideal) f ((⟨Rect.unit (s := ⟨2, ![R, n]⟩) ![0, 0] ![h, n] inb, p⟩ : View.Piece (Elt Ideal) (⟨2, ![R, n]⟩ : Shape) .f32) :: L)) (part W X a (b + m)) := by
  refine H.put rfl _ (fun x => ?_) fun j e hj => ?_
  · rw [hp, H.get rfl, ← EReal.coe_add, part_add W X m hab]
    simp only [Nat.zero_add]
  · rw [part_add W X m hab, Finset.sum_eq_zero fun r _ => by rw [hz _ _ (Nat.add_lt_add_left r.isLt b) (by omega), zero_mul], add_zero]

end generic

variable {c : Dev nD} {i : grid0.Coords} {arg2 arg3 : Memref sig .tc .vmem S8192x128 .bf16} {harg2 : arg2.IsWhole} {harg3 : arg3.IsWhole}
  {arg4 arg5 : Memref sig .tc .vmem S1x8192x1 .f32} {harg4 : arg4.IsWhole} {harg5 : arg5.IsWhole}
  {arg6 arg7 : Memref sig .tc .vmem S1024x128 .bf16} {harg6 : arg6.IsWhole} {harg7 : arg7.IsWhole}
  {arg11 arg12 : Memref sig .tc .vmem S1024x128 .f32}
  {x0 x1 : Vec Ideal S8192x128 .bf16} {x2 x3 : Vec Ideal S1x8192x1 .f32} {x4 x5 : Vec Ideal S1024x128 .bf16}
  {A B Kt Vt P G : ℕ → ℕ → ℝ} {L M : ℕ → ℝ}
  (hA : ∀ y, x0 y = (A (y 0).val (y 1).val : EReal)) (hB : ∀ y, x1 y = (B (y 0).val (y 1).val : EReal))
  (hL : ∀ y, x2 y = (L (y 1).val : EReal)) (hM : ∀ y, x3 y = (M (y 1).val : EReal))
  (hK : ∀ y, x4 y = (Kt (y 0).val (y 1).val : EReal)) (hV : ∀ y, x5 y = (Vt (y 0).val (y 1).val : EReal))
  (hP : ∀ r j, 1024 * (i 1).val + j ≤ r → Real.rpow 2 (∑ d : Fin 128, A r d * Kt j d - L r) = P r j)
  (hZ : ∀ r j, r < 1024 * (i 1).val + j → P r j = 0)
  (hG : ∀ r j, P r j * (∑ e : Fin 128, B r e * Vt j e - M r) = G r j)

/-- The accumulators are cleared first. -/
theorem acc_zero {arg : Memref sig .tc .vmem S1024x128 .f32} {W X : ℕ → ℕ → ℝ} {a : ℕ} :
    Holds arg.view (arg.view.writes (Elt Ideal) arg.view.junk (runB.sl.H10_1 (F := Ideal))) (part W X a a) := by
  refine Holds.all fun x => ?_
  pointwise [runB.sl.v6, runB.sl.v3, runB.sl.cst, part, Finset.Ico_self]
  exact (congrArg Real.toEReal Finset.sum_empty).symm

include hA hB hL hK hP hZ in
/-- What the value gradient's accumulator holds after the diagonal tile. -/
theorem acc_dv : Holds arg12.view (arg12.view.writes (Elt Ideal) arg12.view.junk (runB.sl.H10_5 (F := Ideal) c i arg2 harg2 arg3 harg3 arg4 harg4 arg6 harg6 arg12 x0 x1 x2 x4))
    (part P B (1024 * (i 1).val) (1024 * (i 1).val + 1024)) := by
  refine Holds.step (b := 1024 * (i 1).val + 768) (m := 256) (by omega) (Holds.step (b := 1024 * (i 1).val + 512) (m := 256) (by omega) (Holds.step (b := 1024 * (i 1).val + 256) (m := 256) (by omega)
    (Holds.step (b := 1024 * (i 1).val) (m := 256) (by omega) acc_zero (fun x => ?_) fun r j h1 h2 => hZ r j (by omega)) (fun x => ?_) fun r j h1 h2 => hZ r j (by omega))
    (fun x => ?_) fun r j h1 h2 => hZ r j (by omega)) (fun x => ?_) fun r j h1 h2 => hZ r j (by omega)
  · pointwise [runB.sl.v91, runB.sl.v88, pdo0 hA hB hL hK hP hZ]; rfl
  · pointwise [runB.sl.v134, runB.sl.v131, pdo1 hA hB hL hK hP hZ]; rfl
  · pointwise [runB.sl.v177, runB.sl.v174, pdo2 hA hB hL hK hP hZ]; rfl
  · pointwise [runB.sl.v220, runB.sl.v217, pdo3 hA hB hL hK hP hZ]; rfl

include hA hB hL hM hK hV hP hZ hG in
/-- What the key gradient's accumulator holds after the diagonal tile. -/
theorem acc_dk : Holds arg11.view (arg11.view.writes (Elt Ideal) arg11.view.junk (runB.sl.H9_5 (F := Ideal) c i arg2 harg2 arg3 harg3 arg4 harg4 arg5 harg5 arg6 harg6 arg7 harg7 arg11 x0 x1 x2 x3 x4 x5))
    (part G A (1024 * (i 1).val) (1024 * (i 1).val + 1024)) := by
  have hz : ∀ r j, r < 1024 * (i 1).val + j → G r j = 0 := fun r j h => by rw [← hG, hZ r j h, zero_mul]
  refine Holds.step (b := 1024 * (i 1).val + 768) (m := 256) (by omega) (Holds.step (b := 1024 * (i 1).val + 512) (m := 256) (by omega) (Holds.step (b := 1024 * (i 1).val + 256) (m := 256) (by omega)
    (Holds.step (b := 1024 * (i 1).val) (m := 256) (by omega) acc_zero (fun x => ?_) fun r j h1 h2 => hz r j (by omega)) (fun x => ?_) fun r j h1 h2 => hz r j (by omega))
    (fun x => ?_) fun r j h1 h2 => hz r j (by omega)) (fun x => ?_) fun r j h1 h2 => hz r j (by omega)
  · pointwise [runB.sl.v97, runB.sl.v94, dsq0 hA hB hL hM hK hV hP hZ hG]; rfl
  · pointwise [runB.sl.v140, runB.sl.v137, dsq1 hA hB hL hM hK hV hP hZ hG]; rfl
  · pointwise [runB.sl.v183, runB.sl.v180, dsq2 hA hB hL hM hK hV hP hZ hG]; rfl
  · pointwise [runB.sl.v226, runB.sl.v223, dsq3 hA hB hL hM hK hV hP hZ hG]; rfl

end Cert.Attn

end
-- ==== Proof.AttnTrip.lean ====
/- One trip of the attention's backward loop: a tile wholly below the diagonal, on real arrays. -/
module

public import proofs.«01_k».proof.Proof.AttnAcc

@[expose] public section

set_option maxRecDepth 16384

noncomputable section

open Idealize.ShloMosaic Idealize.ShloMosaic.TcCoe
open Cert.Lift Cert.AttnBwdIdeal Cert.AttnBwdIdeal.Gen Cert.AttnBwdIdeal.Body

namespace Cert.Attn

/-- An array to whose rows from `a` to before `b` another has been added. -/
def upto (D C : ℕ → ℕ → ℝ) (a b r d : ℕ) : ℝ := D r d + if a ≤ r ∧ r < b then C r d else 0

theorem upto_self (D C : ℕ → ℕ → ℝ) (a : ℕ) : upto D C a a = D := by
  funext r d
  unfold upto
  rw [if_neg (by omega), add_zero]

/-- The next rows added. -/
theorem Holds.rows {sig : RefSig} {κ : Kind} {sp : Space} {R n : ℕ} {v : View sig κ sp ⟨2, ![R, n]⟩ .f32} {D C : ℕ → ℕ → ℝ} {f g : v.ty.Contents (Elt Ideal)}
    {L : List (View.Piece (Elt Ideal) (⟨2, ![R, n]⟩ : Shape) .f32)} {a b b' h : ℕ} (hab : a ≤ b) (H : Holds v (v.writes (Elt Ideal) f L) (upto D C a b)) (hb : b' ≤ b)
    (Hg : Holds v g (upto D C a b')) {off : Fin 2 → ℕ} (ho : off = ![b, 0]) {inb} {p : Shape.Idx ⟨2, ![h, n]⟩ → EReal}
    (hp : ∀ x, p x = View.readAt (Elt Ideal) v (Rect.unit (s := ⟨2, ![R, n]⟩) off ![h, n] inb).toLoadRect g x + (C (b + (x 0).val) (x 1).val : EReal)) :
    Holds v (v.writes (Elt Ideal) f ((⟨Rect.unit (s := ⟨2, ![R, n]⟩) off ![h, n] inb, p⟩ : View.Piece (Elt Ideal) (⟨2, ![R, n]⟩ : Shape) .f32) :: L)) (upto D C a (b + h)) := by
  refine H.put ho _ (fun x => ?_) fun r d hr => ?_
  · rw [hp, Hg.get ho, ← EReal.coe_add]
    have hx : (x 0).val < h := (x 0).isLt
    unfold upto
    rw [if_neg (show ¬(a ≤ b + (x 0).val ∧ b + (x 0).val < b') by omega), if_pos (by omega), add_zero]
  · unfold upto
    congr 1
    by_cases g : a ≤ r ∧ r < b
    · rw [if_pos g, if_pos (by omega)]
    · rw [if_neg g, if_neg (by omega)]

/-- What the queries' gradient of a row gets from one tile of keys. -/
def cq (G Kt : ℕ → ℕ → ℝ) (r d : ℕ) : ℝ := (∑ j : Fin 1024, G r j * Kt j d) * scale

variable {c : Dev nD} {i : grid0.Coords} {k : Fin (k0_t1_loop i).trips} {arg2 arg3 : Memref sig .tc .vmem S8192x128 .bf16} {harg2 : arg2.IsWhole} {harg3 : arg3.IsWhole}
  {arg4 arg5 : Memref sig .tc .vmem S1x8192x1 .f32} {harg4 : arg4.IsWhole} {harg5 : arg5.IsWhole}
  {arg8 : Memref sig .tc .vmem S8192x128 .f32} {arg11 arg12 : Memref sig .tc .vmem S1024x128 .f32}
  {x0 x1 : Vec Ideal S8192x128 .bf16} {x2 x3 : Vec Ideal S1x8192x1 .f32} {v12 v14 : FVec Ideal S1024x128 .bf16}
  {f8 : BufTy.Contents (Elt Ideal) arg8.view.ty} {f11 : BufTy.Contents (Elt Ideal) arg11.view.ty} {f12 : BufTy.Contents (Elt Ideal) arg12.view.ty}
  {A B Kt Vt P G : ℕ → ℕ → ℝ} {L M : ℕ → ℝ}
  (hA : ∀ y, x0 y = (A (y 0).val (y 1).val : EReal)) (hB : ∀ y, x1 y = (B (y 0).val (y 1).val : EReal))
  (hL : ∀ y, x2 y = (L (y 1).val : EReal)) (hM : ∀ y, x3 y = (M (y 1).val : EReal))
  (hK : ∀ y, v12 y = (Kt (y 0).val (y 1).val : EReal)) (hV : ∀ y, v14 y = (Vt (y 0).val (y 1).val : EReal))
  (hP : ∀ r j, 1024 * (i 1).val + j ≤ r → Real.rpow 2 (∑ d : Fin 128, A r d * Kt j d - L r) = P r j)
  (hG : ∀ r j, P r j * (∑ e : Fin 128, B r e * Vt j e - M r) = G r j)

/- The rows from 0 on of the tile. -/
include hA in
theorem tq0 (y) : trip_k0_t1.sl.v256 (F := Ideal) i arg2 (harg2.unread x0) k y = (A (1024 * ((i 1).val + 1 + k.val) + (y 0).val) (y 1).val : EReal) := by
  rw [trip_k0_t1.sl.v256, shapeCast_self]
  exact rows_q hA arg2 harg2 (off3 i k 0 (by norm_num)) _ y

include hB in
theorem tdo0 (y) : trip_k0_t1.sl.v262 (F := Ideal) i arg3 (harg3.unread x1) k y = (B (1024 * ((i 1).val + 1 + k.val) + (y 0).val) (y 1).val : EReal) := by
  rw [trip_k0_t1.sl.v262, shapeCast_self]
  exact rows_q hB arg3 harg3 (off3 i k 0 (by norm_num)) _ y

include hL in
theorem tlse0 (y) : trip_k0_t1.sl.v272 (F := Ideal) i arg4 (harg4.unread x2) k y = (L (1024 * ((i 1).val + 1 + k.val) + (y 0).val) : EReal) := by
  pointwise [trip_k0_t1.sl.v272]
  exact rows_l hL arg4 harg4 (off4 i k 0 (by norm_num)) _ _

include hM in
theorem tdelta0 (y) : trip_k0_t1.sl.v278 (F := Ideal) i arg5 (harg5.unread x3) k y = (M (1024 * ((i 1).val + 1 + k.val) + (y 0).val) : EReal) := by
  pointwise [trip_k0_t1.sl.v278]
  exact rows_l hM arg5 harg5 (off4 i k 0 (by norm_num)) _ _

include hA hL hK hP in
theorem tp0 (y) : trip_k0_t1.sl.v275 (F := Ideal) i arg2 arg4 v12 (harg2.unread x0) (harg4.unread x2) k y = (P (1024 * ((i 1).val + 1 + k.val) + (y 0).val) (y 1).val : EReal) := by
  have h1 : (y 1).val < 1024 := (y 1).isLt
  pointwise [trip_k0_t1.sl.v275, trip_k0_t1.sl.v274, trip_k0_t1.sl.v266, trip_k0_t1.sl.v273, trip_k0_t1.sl.cst_130, tq0 hA, hK, tlse0 hL]
  exact congrArg Real.toEReal (hP _ _ (by omega))

include hA hB hL hM hK hV hP hG in
theorem tds0 (y) : trip_k0_t1.sl.v281 (F := Ideal) i arg2 arg3 arg4 arg5 v12 v14 (harg2.unread x0) (harg3.unread x1) (harg4.unread x2) (harg5.unread x3) k y
    = (G (1024 * ((i 1).val + 1 + k.val) + (y 0).val) (y 1).val : EReal) := by
  pointwise [trip_k0_t1.sl.v281, trip_k0_t1.sl.v280, trip_k0_t1.sl.v279, trip_k0_t1.sl.v268, trip_k0_t1.sl.cst_130, tp0 hA hL hK hP, tdo0 hB, hV, tdelta0 hM]
  exact congrArg Real.toEReal (hG _ _)

include hA hB hL hK hP in
theorem tpdo0 (y) : trip_k0_t1.sl.v285 (F := Ideal) i arg2 arg3 arg4 v12 (harg2.unread x0) (harg3.unread x1) (harg4.unread x2) k y
    = (∑ r : Fin 512, P (1024 * ((i 1).val + 1 + k.val) + r) (y 0).val * B (1024 * ((i 1).val + 1 + k.val) + r) (y 1).val : ℝ) := by
  pointwise [trip_k0_t1.sl.v285, trip_k0_t1.sl.v282, tp0 hA hL hK hP, tdo0 hB, trip_k0_t1.sl.cst_140]

/- The rows from 512 on of the tile. -/
include hA in
theorem tq1 (y) : trip_k0_t1.sl.v259 (F := Ideal) i arg2 (harg2.unread x0) k y = (A (1024 * ((i 1).val + 1 + k.val) + 512 + (y 0).val) (y 1).val : EReal) := by
  rw [trip_k0_t1.sl.v259, shapeCast_self]
  exact rows_q hA arg2 harg2 (off3 i k 512 (by norm_num)) _ y

include hB in
theorem tdo1 (y) : trip_k0_t1.sl.v265 (F := Ideal) i arg3 (harg3.unread x1) k y = (B (1024 * ((i 1).val + 1 + k.val) + 512 + (y 0).val) (y 1).val : EReal) := by
  rw [trip_k0_t1.sl.v265, shapeCast_self]
  exact rows_q hB arg3 harg3 (off3 i k 512 (by norm_num)) _ y

include hL in
theorem tlse1 (y) : trip_k0_t1.sl.v307 (F := Ideal) i arg4 (harg4.unread x2) k y = (L (1024 * ((i 1).val + 1 + k.val) + 512 + (y 0).val) : EReal) := by
  pointwise [trip_k0_t1.sl.v307]
  exact rows_l hL arg4 harg4 (off4 i k 512 (by norm_num)) _ _

include hM in
theorem tdelta1 (y) : trip_k0_t1.sl.v313 (F := Ideal) i arg5 (harg5.unread x3) k y = (M (1024 * ((i 1).val + 1 + k.val) + 512 + (y 0).val) : EReal) := by
  pointwise [trip_k0_t1.sl.v313]
  exact rows_l hM arg5 harg5 (off4 i k 512 (by norm_num)) _ _

include hA hL hK hP in
theorem tp1 (y) : trip_k0_t1.sl.v310 (F := Ideal) i arg2 arg4 v12 (harg2.unread x0) (harg4.unread x2) k y = (P (1024 * ((i 1).val + 1 + k.val) + 512 + (y 0).val) (y 1).val : EReal) := by
  have h1 : (y 1).val < 1024 := (y 1).isLt
  pointwise [trip_k0_t1.sl.v310, trip_k0_t1.sl.v309, trip_k0_t1.sl.v267, trip_k0_t1.sl.v308, trip_k0_t1.sl.cst_130, tq1 hA, hK, tlse1 hL]
  exact congrArg Real.toEReal (hP _ _ (by omega))

include hA hB hL hM hK hV hP hG in
theorem tds1 (y) : trip_k0_t1.sl.v316 (F := Ideal) i arg2 arg3 arg4 arg5 v12 v14 (harg2.unread x0) (harg3.unread x1) (harg4.unread x2) (harg5.unread x3) k y
    = (G (1024 * ((i 1).val + 1 + k.val) + 512 + (y 0).val) (y 1).val : EReal) := by
  pointwise [trip_k0_t1.sl.v316, trip_k0_t1.sl.v315, trip_k0_t1.sl.v314, trip_k0_t1.sl.v269, trip_k0_t1.sl.cst_130, tp1 hA hL hK hP, tdo1 hB, hV, tdelta1 hM]
  exact congrArg Real.toEReal (hG _ _)

include hA hB hL hK hP in
theorem tpdo1 (y) : trip_k0_t1.sl.v320 (F := Ideal) i arg2 arg3 arg4 v12 (harg2.unread x0) (harg3.unread x1) (harg4.unread x2) k y
    = (∑ r : Fin 512, P (1024 * ((i 1).val + 1 + k.val) + 512 + r) (y 0).val * B (1024 * ((i 1).val + 1 + k.val) + 512 + r) (y 1).val : ℝ) := by
  pointwise [trip_k0_t1.sl.v320, trip_k0_t1.sl.v317, tp1 hA hL hK hP, tdo1 hB, trip_k0_t1.sl.cst_140]

include hA hB hL hK hP in
/-- The value gradient's accumulator after the first half of a trip. -/
theorem trip_dv0 (H : Holds arg12.view f12 (part P B (1024 * (i 1).val) (1024 * ((i 1).val + 1 + k.val)))) (x) :
    trip_k0_t1.sl.v289 (F := Ideal) i arg2 arg3 arg4 arg12 v12 (harg2.unread x0) (harg3.unread x1) (harg4.unread x2) k f12 x
      = (part P B (1024 * (i 1).val) (1024 * ((i 1).val + 1 + k.val) + 512) (x 0).val (x 1).val : EReal) := by
  pointwise [trip_k0_t1.sl.v289, trip_k0_t1.sl.v286, tpdo0 hA hB hL hK hP]
  rw [H.get rfl, ← EReal.coe_add, part_add P B 512 (by omega)]
  simp only [Nat.zero_add]

include hA hB hL hK hP in
/-- The value gradient's accumulator after a trip. -/
theorem trip_dv (H : Holds arg12.view f12 (part P B (1024 * (i 1).val) (1024 * ((i 1).val + 1 + k.val)))) (x) :
    trip_k0_t1.sl.v324 (F := Ideal) i arg2 arg3 arg4 arg12 v12 (harg2.unread x0) (harg3.unread x1) (harg4.unread x2) k f12 x
      = (part P B (1024 * (i 1).val) (1024 * ((i 1).val + 1 + k.val) + 1024) (x 0).val (x 1).val : EReal) := by
  pointwise [trip_k0_t1.sl.v324, trip_k0_t1.sl.v321, tpdo1 hA hB hL hK hP, trip_k0_t1.sl.v319, trip_k0_t1.sl.HW_arg12_1]
  refine (congrArg (· + _) ((Holds.all (f := arg12.view.junk) (L := []) (trip_dv0 hA hB hL hK hP H)).get rfl x)).trans ?_
  rw [← EReal.coe_add, part_add P B (b := 1024 * ((i 1).val + 1 + k.val) + 512) 512 (by omega)]
  simp only [Nat.zero_add]

include hA hB hL hM hK hV hP hG in
/-- The key gradient's accumulator after the first half of a trip. -/
theorem trip_dk0 (H : Holds arg11.view f11 (part G A (1024 * (i 1).val) (1024 * ((i 1).val + 1 + k.val)))) (x) :
    trip_k0_t1.sl.v295 (F := Ideal) i arg2 arg3 arg4 arg5 arg11 v12 v14 (harg2.unread x0) (harg3.unread x1) (harg4.unread x2) (harg5.unread x3) k f11 x
      = (part G A (1024 * (i 1).val) (1024 * ((i 1).val + 1 + k.val) + 512) (x 0).val (x 1).val : EReal) := by
  pointwise [trip_k0_t1.sl.v295, trip_k0_t1.sl.v292, trip_k0_t1.sl.v291, trip_k0_t1.sl.v283, tds0 hA hB hL hM hK hV hP hG, tq0 hA, trip_k0_t1.sl.cst_140]
  rw [H.get rfl, ← EReal.coe_add, part_add G A 512 (by omega)]
  simp only [Nat.zero_add]

include hA hB hL hM hK hV hP hG in
/-- The key gradient's accumulator after a trip. -/
theorem trip_dk (H : Holds arg11.view f11 (part G A (1024 * (i 1).val) (1024 * ((i 1).val + 1 + k.val)))) (x) :
    k0_pay2 (trip_k0_t1.sl.v259 (F := Ideal) i arg2 (harg2.unread x0) k) (trip_k0_t1.sl.v318 i arg2 arg3 arg4 arg5 v12 v14 (harg2.unread x0) (harg3.unread x1) (harg4.unread x2) (harg5.unread x3) k)
        (trip_k0_t1.sl.v325 i arg2 arg3 arg4 arg5 arg11 v12 v14 (harg2.unread x0) (harg3.unread x1) (harg4.unread x2) (harg5.unread x3) k f11) x
      = (part G A (1024 * (i 1).val) (1024 * ((i 1).val + 1 + k.val) + 1024) (x 0).val (x 1).val : EReal) := by
  pointwise [k0_pay2, trip_k0_t1.sl.v318, tds1 hA hB hL hM hK hV hP hG, tq1 hA, trip_k0_t1.sl.v325, trip_k0_t1.sl.HW_arg11_1]
  refine (congrArg (· + _) ((Holds.all (f := arg11.view.junk) (L := []) (trip_dk0 hA hB hL hM hK hV hP hG H)).get rfl x)).trans ?_
  rw [← EReal.coe_add, part_add G A (b := 1024 * ((i 1).val + 1 + k.val) + 512) 512 (by omega)]
  simp only [Nat.zero_add]

include hA hB hL hM hK hV hP hG in
/-- The queries' gradient after a trip. -/
theorem trip_dq {D : ℕ → ℕ → ℝ} {harg8 : arg8.IsWhole} {arg6 arg7 : Memref sig .tc .vmem S1024x128 .bf16} {harg6 : arg6.IsWhole} {harg7 : arg7.IsWhole}
    {arg9 arg10 : Memref sig .tc .vmem S1024x128 .f32} {harg9 : arg9.IsWhole} {harg10 : arg10.IsWhole} {harg11 : arg11.IsWhole} {harg12 : arg12.IsWhole} {w : BitVec 32}
    (H : Holds arg8.view f8 (upto D (cq G Kt) (1024 * (i 1).val) (1024 * ((i 1).val + 1 + k.val))))
    (H11 : Holds arg11.view f11 (part G A (1024 * (i 1).val) (1024 * ((i 1).val + 1 + k.val))))
    (H12 : Holds arg12.view f12 (part P B (1024 * (i 1).val) (1024 * ((i 1).val + 1 + k.val)))) :
    ∀ p, p = trip_k0_t1 (F := Ideal) Variants.none c none i arg2 harg2 arg3 harg3 arg4 harg4 arg5 harg5 arg6 harg6 arg7 harg7 arg8 harg8 arg9 harg9 arg10 harg10 arg11 harg11 arg12 harg12 v12 v14 w (harg2.unread x0) (harg3.unread x1) (harg4.unread x2) (harg5.unread x3) k →
    Holds arg8.view (arg8.view.writes (Elt Ideal) f8 (p.1 f8 f11 f12)) (upto D (cq G Kt) (1024 * (i 1).val) (1024 * ((i 1).val + 1 + k.val) + 1024))
      ∧ Holds arg11.view (arg11.view.writes (Elt Ideal) f11 (p.2.1 f8 f11 f12)) (part G A (1024 * (i 1).val) (1024 * ((i 1).val + 1 + k.val) + 1024))
      ∧ Holds arg12.view (arg12.view.writes (Elt Ideal) f12 (p.2.2.1 f8 f11 f12)) (part P B (1024 * (i 1).val) (1024 * ((i 1).val + 1 + k.val) + 1024)) := by
  rintro p rfl
  unfold trip_k0_t1
  refine ⟨Holds.rows (b := 1024 * ((i 1).val + 1 + k.val) + 512) (b' := 1024 * ((i 1).val + 1 + k.val)) (by omega) (Holds.rows (L := []) (b := 1024 * ((i 1).val + 1 + k.val)) (b' := 1024 * ((i 1).val + 1 + k.val)) (by omega) H le_rfl H (off3 i k 0 (by norm_num)) fun x => ?_)
    (by omega) H (off3 i k 512 (by norm_num)) fun x => ?_, Holds.all fun x => ?_, Holds.all fun x => ?_⟩
  · pointwise [trip_k0_t1.sl.v302, trip_k0_t1.sl.v298, trip_k0_t1.sl.v301, trip_k0_t1.sl.v300, trip_k0_t1.sl.v299, trip_k0_t1.sl.v283, tds0 hA hB hL hM hK hV hP hG, hK, trip_k0_t1.sl.cst_149, trip_k0_t1.sl.cst_150, f32_scale]
    rfl
  · pointwise [k0_pay3, trip_k0_t1.sl.v318, trip_k0_t1.sl.v332, tds1 hA hB hL hM hK hV hP hG, hK, f32_scale]
    rfl
  · exact trip_dk hA hB hL hM hK hV hP hG H11 x
  · exact trip_dv hA hB hL hK hP H12 x

end Cert.Attn

end
-- ==== Proof.AttnLoop.lean ====
/- The loop of the attention's backward kernel, and what one run of the body leaves. -/
module

public import proofs.«01_k».proof.Proof.AttnTrip

@[expose] public section

set_option maxRecDepth 16384

noncomputable section

open Idealize.ShloMosaic Idealize.ShloMosaic.TcCoe
open Cert.Lift Cert.AttnBwdIdeal Cert.AttnBwdIdeal.Gen Cert.AttnBwdIdeal.Body

namespace Cert.Attn

variable {c : Dev nD} {i : grid0.Coords} {arg2 arg3 : Memref sig .tc .vmem S8192x128 .bf16} {harg2 : arg2.IsWhole} {harg3 : arg3.IsWhole}
  {arg4 arg5 : Memref sig .tc .vmem S1x8192x1 .f32} {harg4 : arg4.IsWhole} {harg5 : arg5.IsWhole}
  {arg6 arg7 : Memref sig .tc .vmem S1024x128 .bf16} {harg6 : arg6.IsWhole} {harg7 : arg7.IsWhole}
  {arg8 : Memref sig .tc .vmem S8192x128 .f32} {arg9 arg10 arg11 arg12 : Memref sig .tc .vmem S1024x128 .f32}
  {harg8 : arg8.IsWhole} {harg9 : arg9.IsWhole} {harg10 : arg10.IsWhole} {harg11 : arg11.IsWhole} {harg12 : arg12.IsWhole}
  {x0 x1 : Vec Ideal S8192x128 .bf16} {x2 x3 : Vec Ideal S1x8192x1 .f32} {x4 x5 : Vec Ideal S1024x128 .bf16} {x6 : Vec Ideal S8192x128 .f32}
  {A B Kt Vt P G D : ℕ → ℕ → ℝ} {L M : ℕ → ℝ}
  (hA : ∀ y, x0 y = (A (y 0).val (y 1).val : EReal)) (hB : ∀ y, x1 y = (B (y 0).val (y 1).val : EReal))
  (hL : ∀ y, x2 y = (L (y 1).val : EReal)) (hM : ∀ y, x3 y = (M (y 1).val : EReal))
  (hK : ∀ y, x4 y = (Kt (y 0).val (y 1).val : EReal)) (hV : ∀ y, x5 y = (Vt (y 0).val (y 1).val : EReal))
  (hP : ∀ r j, 1024 * (i 1).val + j ≤ r → Real.rpow 2 (∑ d : Fin 128, A r d * Kt j d - L r) = P r j)
  (hZ : ∀ r j, r < 1024 * (i 1).val + j → P r j = 0)
  (hG : ∀ r j, P r j * (∑ e : Fin 128, B r e * Vt j e - M r) = G r j)

section loop
variable {v12 v14 : FVec Ideal S1024x128 .bf16} {w : BitVec 32} {f8 : BufTy.Contents (Elt Ideal) arg8.view.ty} {f11 : BufTy.Contents (Elt Ideal) arg11.view.ty} {f12 : BufTy.Contents (Elt Ideal) arg12.view.ty}
  (hk : ∀ y, v12 y = (Kt (y 0).val (y 1).val : EReal)) (hv : ∀ y, v14 y = (Vt (y 0).val (y 1).val : EReal))

include hA hB hL hM hk hv hP hG in
/-- What the three buffers hold after some trips. -/
theorem loop (H : Holds arg8.view f8 (upto D (cq G Kt) (1024 * (i 1).val) (1024 * (i 1).val + 1024)))
    (H11 : Holds arg11.view f11 (part G A (1024 * (i 1).val) (1024 * (i 1).val + 1024)))
    (H12 : Holds arg12.view f12 (part P B (1024 * (i 1).val) (1024 * (i 1).val + 1024))) :
    ∀ n, n ≤ (k0_t1_loop i).trips →
    ∀ p, p = pb_k0_t1 (F := Ideal) Variants.none c none i arg2 harg2 arg3 harg3 arg4 harg4 arg5 harg5 arg6 harg6 arg7 harg7 arg8 harg8 arg9 harg9 arg10 harg10 arg11 harg11 arg12 harg12 v12 v14 w
        (harg2.unread x0) (harg3.unread x1) (harg4.unread x2) (harg5.unread x3) f8 f11 f12 n →
    Holds arg8.view (arg8.view.writes (Elt Ideal) f8 p.1) (upto D (cq G Kt) (1024 * (i 1).val) (1024 * ((i 1).val + 1 + n)))
      ∧ Holds arg11.view (arg11.view.writes (Elt Ideal) f11 p.2.1) (part G A (1024 * (i 1).val) (1024 * ((i 1).val + 1 + n)))
      ∧ Holds arg12.view (arg12.view.writes (Elt Ideal) f12 p.2.2) (part P B (1024 * (i 1).val) (1024 * ((i 1).val + 1 + n))) := by
  intro n
  induction n with
  | zero =>
    rintro - p rfl
    exact ⟨H, H11, H12⟩
  | succ n ih =>
    rintro hn p rfl
    obtain ⟨h1, h2, h3⟩ := ih (by omega) _ rfl
    obtain ⟨g1, g2, g3⟩ := trip_dq (c := c) (k := ⟨n, by omega⟩) (harg6 := harg6) (harg7 := harg7) (harg8 := harg8) (harg9 := harg9) (harg10 := harg10) (harg11 := harg11) (harg12 := harg12) (w := w)
      hA hB hL hM hk hv hP hG h1 h2 h3 _ rfl
    rw [pb_k0_t1_succ (F := Ideal) Variants.none c none i arg2 harg2 arg3 harg3 arg4 harg4 arg5 harg5 arg6 harg6 arg7 harg7 arg8 harg8 arg9 harg9 arg10 harg10 arg11 harg11 arg12 harg12 v12 v14 w
        (harg2.unread x0) (harg3.unread x1) (harg4.unread x2) (harg5.unread x3) f8 f11 f12 ⟨n, by omega⟩]
    have e : 1024 * ((i 1).val + 1 + (n + 1)) = 1024 * ((i 1).val + 1 + n) + 1024 := by ring
    rw [e]
    refine ⟨?_, ?_, ?_⟩
    · rw [View.writes_append]; exact g1
    · rw [View.writes_append]; exact g2
    · rw [View.writes_append]; exact g3

end loop

/-- The second counted loop makes no trip. -/
theorem no_trips (i : grid0.Coords) : (k0_t2_loop i).trips = 0 := by
  have : ∀ j : Fin 8, Scf.trips (Scalar.addi (Scalar.addi (BitVec.ofNat 32 j.val) 1#32) (Scalar.muli (Scalar.divsi (Scalar.subi 8#32 (Scalar.addi (BitVec.ofNat 32 j.val) 1#32)) 1#32) 1#32)) (Scalar.addi (Scalar.addi (BitVec.ofNat 32 j.val) 1#32) (Scalar.subi 8#32 (Scalar.addi (BitVec.ofNat 32 j.val) 1#32))) 1#32 = 0 := by decide +kernel
  exact this (i 1)

end Cert.Attn

end
-- ==== Proof.AttnBody.lean ====
/- What one run of the attention's backward body leaves in the three result blocks. -/
module

public import proofs.«01_k».proof.Proof.AttnLoop

@[expose] public section

set_option maxRecDepth 16384

noncomputable section

open Idealize.ShloMosaic Idealize.ShloMosaic.TcCoe
open Cert.Lift Cert.AttnBwdIdeal Cert.AttnBwdIdeal.Gen Cert.AttnBwdIdeal.Body

namespace Cert.Attn

/-- A block written by one whole piece. -/
theorem canon_all {sig : RefSig} {κ : Kind} {sp : Space} {R n : ℕ} (v : View sig κ sp ⟨2, ![R, n]⟩ .f32) {inb} {p : Shape.Idx ⟨2, ![R, n]⟩ → EReal} (y) :
    View.canon (Val := Elt Ideal) (e := .f32) [(⟨Rect.unit (s := ⟨2, ![R, n]⟩) ![0, 0] ![R, n] inb, p⟩ : View.Piece (Elt Ideal) (⟨2, ![R, n]⟩ : Shape) .f32)] y = p y :=
  (congrFun (View.read_writes_junk_eq_canon v _) y).symm.trans (View.read_writes_cons_unit_of_mem (Val := Elt Ideal) v v.junk inb p [] y y rfl fun a => match a with
    | ⟨0, _⟩ => (Nat.zero_add _).symm
    | ⟨1, _⟩ => (Nat.zero_add _).symm)

variable {c : Dev nD} {i : grid0.Coords} {arg2 arg3 : Memref sig .tc .vmem S8192x128 .bf16} {harg2 : arg2.IsWhole} {harg3 : arg3.IsWhole}
  {arg4 arg5 : Memref sig .tc .vmem S1x8192x1 .f32} {harg4 : arg4.IsWhole} {harg5 : arg5.IsWhole}
  {arg6 arg7 : Memref sig .tc .vmem S1024x128 .bf16} {harg6 : arg6.IsWhole} {harg7 : arg7.IsWhole}
  {arg8 : Memref sig .tc .vmem S8192x128 .f32} {arg9 arg10 arg11 arg12 : Memref sig .tc .vmem S1024x128 .f32}
  {harg8 : arg8.IsWhole} {harg9 : arg9.IsWhole} {harg10 : arg10.IsWhole} {harg11 : arg11.IsWhole} {harg12 : arg12.IsWhole}
  {x0 x1 : Vec Ideal S8192x128 .bf16} {x2 x3 : Vec Ideal S1x8192x1 .f32} {x4 x5 : Vec Ideal S1024x128 .bf16} {x6 : Vec Ideal S8192x128 .f32}
  {A B Kt Vt P G D : ℕ → ℕ → ℝ} {L M : ℕ → ℝ}
  (hA : ∀ y, x0 y = (A (y 0).val (y 1).val : EReal)) (hB : ∀ y, x1 y = (B (y 0).val (y 1).val : EReal))
  (hL : ∀ y, x2 y = (L (y 1).val : EReal)) (hM : ∀ y, x3 y = (M (y 1).val : EReal))
  (hK : ∀ y, x4 y = (Kt (y 0).val (y 1).val : EReal)) (hV : ∀ y, x5 y = (Vt (y 0).val (y 1).val : EReal))
  (hP : ∀ r j, 1024 * (i 1).val + j ≤ r → Real.rpow 2 (∑ d : Fin 128, A r d * Kt j d - L r) = P r j)
  (hZ : ∀ r j, r < 1024 * (i 1).val + j → P r j = 0)
  (hG : ∀ r j, P r j * (∑ e : Fin 128, B r e * Vt j e - M r) = G r j)
  (hD : ∀ y, x6 y = (D (y 0).val (y 1).val : EReal))

/-- A diagonal group lies in the array. -/
theorem rows_inb (i : grid0.Coords) (g : ℕ) (hg : g + 256 ≤ 1024) (a) : k0_off1 i (BitVec.ofNat 32 g) a + S256x128.size a ≤ S8192x128.size a := by
  have hi : (i 1).val < 8 := (i 1).isLt
  rw [off1 i g (by omega)]
  match a with
  | ⟨0, _⟩ => exact (by omega : 1024 * (i 1).val + g + 256 ≤ 8192)
  | ⟨1, _⟩ => exact (by omega : 0 + 128 ≤ 128)

/-- No rows beyond the array. -/
theorem end_of_trips (i : grid0.Coords) : 1024 * ((i 1).val + 1 + (k0_t1_loop i).trips) = 8192 := by
  have hi : (i 1).val < 8 := (i 1).isLt
  rw [trips]
  omega

include hA hB hL hM hK hV hP hZ hG hD in
/-- The queries' gradient after the diagonal tile, when the block held an array before. -/
theorem diagB {n0 n1 n2 n3} : Holds arg8.view (arg8.view.writes (Elt Ideal) (harg8.unread x6)
    [⟨Rect.unit (s := S8192x128) (k0_off1 i 768#32) S256x128.size n3, k0_pay1 (runB.sl.v12 c arg6 harg6 x4) (runB.sl.v214 c i arg2 harg2 arg3 harg3 arg4 harg4 arg5 harg5 arg6 harg6 arg7 harg7 x0 x1 x2 x3 x4 x5) (runB.sl.v229 c i arg8 harg8 x6) runB.sl.cst_37⟩,
      ⟨Rect.unit (s := S8192x128) (k0_off1 i 512#32) S256x128.size n2, runB.sl.v191 c i arg2 harg2 arg3 harg3 arg4 harg4 arg5 harg5 arg6 harg6 arg7 harg7 arg8 harg8 x0 x1 x2 x3 x4 x5 x6⟩,
      ⟨Rect.unit (s := S8192x128) (k0_off1 i 256#32) S256x128.size n1, runB.sl.v148 c i arg2 harg2 arg3 harg3 arg4 harg4 arg5 harg5 arg6 harg6 arg7 harg7 arg8 harg8 x0 x1 x2 x3 x4 x5 x6⟩,
      ⟨Rect.unit (s := S8192x128) (k0_off1 i 0#32) S256x128.size n0, runB.sl.v105 c i arg2 harg2 arg3 harg3 arg4 harg4 arg5 harg5 arg6 harg6 arg7 harg7 arg8 harg8 x0 x1 x2 x3 x4 x5 x6⟩]) (upto D (cq G Kt) (1024 * (i 1).val) (1024 * (i 1).val + 1024)) := by
  have H : Holds arg8.view (harg8.unread x6) (upto D (cq G Kt) (1024 * (i 1).val) (1024 * (i 1).val)) := by
    rw [upto_self]
    intro y
    rw [harg8.read_unread, hD]
  refine Holds.rows (b := 1024 * (i 1).val + 768) (b' := 1024 * (i 1).val) (by omega) (Holds.rows (b := 1024 * (i 1).val + 512) (b' := 1024 * (i 1).val) (by omega) (Holds.rows (b := 1024 * (i 1).val + 256) (b' := 1024 * (i 1).val) (by omega)
    (Holds.rows (L := []) (b := 1024 * (i 1).val) (b' := 1024 * (i 1).val) (by omega) H (by omega) H (off1 i 0 (by norm_num)) fun x => ?_)
    (by omega) H (off1 i 256 (by norm_num)) fun x => ?_) (by omega) H (off1 i 512 (by norm_num)) fun x => ?_) (by omega) H (off1 i 768 (by norm_num)) fun x => ?_
  · pointwise [runB.sl.v105, runB.sl.v100, dsk0 hA hB hL hM hK hV hP hZ hG]; rfl
  · pointwise [runB.sl.v148, runB.sl.v143, runB.sl.v142, dsk1 hA hB hL hM hK hV hP hZ hG]; rfl
  · pointwise [runB.sl.v191, runB.sl.v186, runB.sl.v185, dsk2 hA hB hL hM hK hV hP hZ hG]; rfl
  · pointwise [k0_pay1, runB.sl.v229, runB.sl.v228, runB.sl.v214, ds3 hA hB hL hM hK hV hP hZ hG, key hK, runB.sl.cst_37, f32_scale]; rfl

include hA hB hL hM hK hV hP hZ hG in
/-- The queries' gradient after the diagonal tile, when the block is cleared first. -/
theorem diagA {n0 n1 n2 n3 n4} : Holds arg8.view (arg8.view.writes (Elt Ideal) arg8.view.junk
    [⟨Rect.unit (s := S8192x128) (k0_off1 i 768#32) S256x128.size n3, k0_pay1 (runA.sl.v12 c arg6 harg6 x4) (runA.sl.v214 c i arg2 harg2 arg3 harg3 arg4 harg4 arg5 harg5 arg6 harg6 arg7 harg7 x0 x1 x2 x3 x4 x5) (runA.sl.v229 c i arg2 harg2 arg3 harg3 arg4 harg4 arg5 harg5 arg6 harg6 arg7 harg7 arg8 x0 x1 x2 x3 x4 x5) runA.sl.cst_37⟩,
      ⟨Rect.unit (s := S8192x128) (k0_off1 i 512#32) S256x128.size n2, runA.sl.v191 c i arg2 harg2 arg3 harg3 arg4 harg4 arg5 harg5 arg6 harg6 arg7 harg7 arg8 x0 x1 x2 x3 x4 x5⟩,
      ⟨Rect.unit (s := S8192x128) (k0_off1 i 256#32) S256x128.size n1, runA.sl.v148 c i arg2 harg2 arg3 harg3 arg4 harg4 arg5 harg5 arg6 harg6 arg7 harg7 arg8 x0 x1 x2 x3 x4 x5⟩,
      ⟨Rect.unit (s := S8192x128) (k0_off1 i 0#32) S256x128.size n0, runA.sl.v105 c i arg2 harg2 arg3 harg3 arg4 harg4 arg5 harg5 arg6 harg6 arg7 harg7 arg8 x0 x1 x2 x3 x4 x5⟩,
      ⟨Rect.unit (s := S8192x128) ![0, 0] S8192x128.size n4, runA.sl.v248 (F := Ideal)⟩]) (upto (fun _ _ => 0) (cq G Kt) (1024 * (i 1).val) (1024 * (i 1).val + 1024)) := by
  have H : Holds arg8.view (arg8.view.writes (Elt Ideal) arg8.view.junk (runA.sl.H6_1 (F := Ideal))) (upto (fun _ _ => 0) (cq G Kt) (1024 * (i 1).val) (1024 * (i 1).val)) := by
    rw [upto_self]
    refine Holds.all fun x => ?_
    pointwise [runA.sl.v248, runA.sl.cst_122]
    exact EReal.coe_zero.symm
  have H1 : Holds arg8.view (arg8.view.writes (Elt Ideal) arg8.view.junk (runA.sl.H6_2 c i arg2 harg2 arg3 harg3 arg4 harg4 arg5 harg5 arg6 harg6 arg7 harg7 arg8 x0 x1 x2 x3 x4 x5)) (upto (fun _ _ => 0) (cq G Kt) (1024 * (i 1).val) (1024 * (i 1).val + 256)) := by
    refine Holds.rows (b := 1024 * (i 1).val) (b' := 1024 * (i 1).val) (by omega) H (by omega) H (off1 i 0 (by norm_num)) fun x => ?_
    pointwise [runA.sl.v105, runA.sl.v100]
    exact congrArg (_ + ·) (dsk0 hA hB hL hM hK hV hP hZ hG x)
  have H2 : Holds arg8.view (arg8.view.writes (Elt Ideal) arg8.view.junk (runA.sl.H6_3 c i arg2 harg2 arg3 harg3 arg4 harg4 arg5 harg5 arg6 harg6 arg7 harg7 arg8 x0 x1 x2 x3 x4 x5)) (upto (fun _ _ => 0) (cq G Kt) (1024 * (i 1).val) (1024 * (i 1).val + 512)) := by
    refine Holds.rows (b := 1024 * (i 1).val + 256) (b' := 1024 * (i 1).val + 256) (by omega) H1 (by omega) H1 (off1 i 256 (by norm_num)) fun x => ?_
    pointwise [runA.sl.v148, runA.sl.v143, runA.sl.v142]
    exact congrArg (_ + ·) (dsk1 hA hB hL hM hK hV hP hZ hG x)
  have H3 : Holds arg8.view (arg8.view.writes (Elt Ideal) arg8.view.junk (runA.sl.H6_4 c i arg2 harg2 arg3 harg3 arg4 harg4 arg5 harg5 arg6 harg6 arg7 harg7 arg8 x0 x1 x2 x3 x4 x5)) (upto (fun _ _ => 0) (cq G Kt) (1024 * (i 1).val) (1024 * (i 1).val + 768)) := by
    refine Holds.rows (b := 1024 * (i 1).val + 512) (b' := 1024 * (i 1).val + 512) (by omega) H2 (by omega) H2 (off1 i 512 (by norm_num)) fun x => ?_
    pointwise [runA.sl.v191, runA.sl.v186, runA.sl.v185]
    exact congrArg (_ + ·) (dsk2 hA hB hL hM hK hV hP hZ hG x)
  refine Holds.rows (b := 1024 * (i 1).val + 768) (b' := 1024 * (i 1).val + 768) (by omega) H3 (by omega) H3 (off1 i 768 (by norm_num)) fun x => ?_
  have e : ∀ y, runA.sl.v214 c i arg2 harg2 arg3 harg3 arg4 harg4 arg5 harg5 arg6 harg6 arg7 harg7 x0 x1 x2 x3 x4 x5 y = (G (1024 * (i 1).val + 768 + (y 0).val) (y 1).val : EReal) := ds3 hA hB hL hM hK hV hP hZ hG
  have e' : ∀ y, runA.sl.v12 c arg6 harg6 x4 y = (Kt (y 0).val (y 1).val : EReal) := key hK
  pointwise [k0_pay1, runA.sl.v229, runA.sl.v228, e, e', runA.sl.cst_37, f32_scale]
  rfl

/-- The second loop leaves nothing. -/
theorem second {v12 v14 : FVec Ideal S1024x128 .bf16} {w : BitVec 32} {X2 X3 X4 X5 f8 f11 f12} :
    pb_k0_t2 (F := Ideal) Variants.none c none i arg2 harg2 arg3 harg3 arg4 harg4 arg5 harg5 arg6 harg6 arg7 harg7 arg8 harg8 arg9 harg9 arg10 harg10 arg11 harg11 arg12 harg12 v12 v14 w X2 X3 X4 X5 f8 f11 f12
      (Scf.trips (k0_t2_loop i).lb (k0_t2_loop i).ub (k0_t2_loop i).st) = ([], [], []) := by
  rw [show Scf.trips (k0_t2_loop i).lb (k0_t2_loop i).ub (k0_t2_loop i).st = 0 from no_trips i]
  rfl

include hA hB hL hM hK hV hP hZ hG hD in
/-- The queries' gradient after the run at any other point. -/
theorem bodyB_dq {hc : ¬first i} :
    Holds arg8.view (arg8.view.writes (Elt Ideal) (harg8.unread x6) (runB c i arg2 harg2 arg3 harg3 arg4 harg4 arg5 harg5 arg6 harg6 arg7 harg7 arg8 harg8 arg9 harg9 arg10 harg10 arg11 harg11 arg12 harg12 hc x0 x1 x2 x3 x4 x5 x6).1) (upto D (cq G Kt) (1024 * (i 1).val) 8192) := by
  unfold runB
  dsimp only
  rw [second, List.nil_append, View.writes_append]
  have h := (loop (c := c) (D := D) (harg2 := harg2) (harg3 := harg3) (harg4 := harg4) (harg5 := harg5) (harg6 := harg6) (harg7 := harg7) (harg8 := harg8) (harg9 := harg9) (harg10 := harg10) (harg11 := harg11) (harg12 := harg12) (w := runB.sl.v236 i) hA hB hL hM hP hG (key (c := c) (harg6 := harg6) hK) (value (c := c) (harg7 := harg7) hV) (diagB (c := c) (n0 := rows_inb i 0 (by norm_num)) (n1 := rows_inb i 256 (by norm_num)) (n2 := rows_inb i 512 (by norm_num)) (n3 := rows_inb i 768 (by norm_num)) (harg8 := harg8) (harg2 := harg2) (harg3 := harg3) (harg4 := harg4) (harg5 := harg5) (harg6 := harg6) (harg7 := harg7) hA hB hL hM hK hV hP hZ hG hD) (acc_dk (c := c) (harg2 := harg2) (harg3 := harg3) (harg4 := harg4) (harg5 := harg5) (harg6 := harg6) (harg7 := harg7) hA hB hL hM hK hV hP hZ hG) (acc_dv (c := c) (harg2 := harg2) (harg3 := harg3) (harg4 := harg4) (harg6 := harg6) hA hB hL hK hP hZ) (k0_t1_loop i).trips le_rfl _ rfl).1
  rw [end_of_trips] at h
  exact h

include hA hB hL hM hK hV hP hZ hG hD in
/-- The key gradient's block after the run at any other point. -/
theorem bodyB_dk {hc : ¬first i} (y) :
    View.canon (runB c i arg2 harg2 arg3 harg3 arg4 harg4 arg5 harg5 arg6 harg6 arg7 harg7 arg8 harg8 arg9 harg9 arg10 harg10 arg11 harg11 arg12 harg12 hc x0 x1 x2 x3 x4 x5 x6).2.1 y = (part G A (1024 * (i 1).val) 8192 (y 0).val (y 1).val * Real.log 2 : ℝ) := by
  unfold runB
  dsimp only
  refine (canon_all arg9.view y).trans ?_
  have ln2 : Named.named (F := Ideal) (φ := .f32) κ "ln2" 0x3F317218#32 = ((Real.log 2 : ℝ) : EReal) := IdealRules.named_const.ideal_named_scalar _ _ _ _ rfl
  pointwise [k0_pay6, ln2]
  have h := (loop (c := c) (D := D) (harg2 := harg2) (harg3 := harg3) (harg4 := harg4) (harg5 := harg5) (harg6 := harg6) (harg7 := harg7) (harg8 := harg8) (harg9 := harg9) (harg10 := harg10) (harg11 := harg11) (harg12 := harg12) (w := runB.sl.v236 i) hA hB hL hM hP hG (key (c := c) (harg6 := harg6) hK) (value (c := c) (harg7 := harg7) hV) (diagB (c := c) (n0 := rows_inb i 0 (by norm_num)) (n1 := rows_inb i 256 (by norm_num)) (n2 := rows_inb i 512 (by norm_num)) (n3 := rows_inb i 768 (by norm_num)) (harg8 := harg8) (harg2 := harg2) (harg3 := harg3) (harg4 := harg4) (harg5 := harg5) (harg6 := harg6) (harg7 := harg7) hA hB hL hM hK hV hP hZ hG hD) (acc_dk (c := c) (harg2 := harg2) (harg3 := harg3) (harg4 := harg4) (harg5 := harg5) (harg6 := harg6) (harg7 := harg7) hA hB hL hM hK hV hP hZ hG) (acc_dv (c := c) (harg2 := harg2) (harg3 := harg3) (harg4 := harg4) (harg6 := harg6) hA hB hL hK hP hZ) (k0_t1_loop i).trips le_rfl _ rfl).2.1.get (off := ![0, 0]) rfl (inb := inb_S1024x128_S1024x128_0_0) y
  rw [end_of_trips] at h
  simp only [Nat.zero_add] at h
  refine Eq.trans (congrArg (· * _) ?_) (EReal.coe_mul _ _).symm
  unfold runB.sl.v242
  rw [second, List.nil_append]
  show View.readAt _ _ _ (View.writes _ _ _ (_ ++ _)) _ = _
  rw [View.writes_append]
  exact h

include hA hB hL hM hK hV hP hZ hG hD in
/-- The value gradient's block after the run at any other point. -/
theorem bodyB_dv {hc : ¬first i} (y) :
    View.canon (runB c i arg2 harg2 arg3 harg3 arg4 harg4 arg5 harg5 arg6 harg6 arg7 harg7 arg8 harg8 arg9 harg9 arg10 harg10 arg11 harg11 arg12 harg12 hc x0 x1 x2 x3 x4 x5 x6).2.2.1 y = (part P B (1024 * (i 1).val) 8192 (y 0).val (y 1).val : ℝ) := by
  unfold runB
  dsimp only
  refine (canon_all arg10.view y).trans ?_
  have h := (loop (c := c) (D := D) (harg2 := harg2) (harg3 := harg3) (harg4 := harg4) (harg5 := harg5) (harg6 := harg6) (harg7 := harg7) (harg8 := harg8) (harg9 := harg9) (harg10 := harg10) (harg11 := harg11) (harg12 := harg12) (w := runB.sl.v236 i) hA hB hL hM hP hG (key (c := c) (harg6 := harg6) hK) (value (c := c) (harg7 := harg7) hV) (diagB (c := c) (n0 := rows_inb i 0 (by norm_num)) (n1 := rows_inb i 256 (by norm_num)) (n2 := rows_inb i 512 (by norm_num)) (n3 := rows_inb i 768 (by norm_num)) (harg8 := harg8) (harg2 := harg2) (harg3 := harg3) (harg4 := harg4) (harg5 := harg5) (harg6 := harg6) (harg7 := harg7) hA hB hL hM hK hV hP hZ hG hD) (acc_dk (c := c) (harg2 := harg2) (harg3 := harg3) (harg4 := harg4) (harg5 := harg5) (harg6 := harg6) (harg7 := harg7) hA hB hL hM hK hV hP hZ hG) (acc_dv (c := c) (harg2 := harg2) (harg3 := harg3) (harg4 := harg4) (harg6 := harg6) hA hB hL hK hP hZ) (k0_t1_loop i).trips le_rfl _ rfl).2.2.get (off := ![0, 0]) rfl (inb := inb_S1024x128_S1024x128_0_0) y
  rw [end_of_trips] at h
  simp only [Nat.zero_add] at h
  unfold runB.sl.v246
  rw [second, List.nil_append]
  show View.readAt _ _ _ (View.writes _ _ _ (_ ++ _)) _ = _
  rw [View.writes_append]
  exact h

include hA hB hL hM hK hV hP hZ hG in
/-- The queries' gradient after the run at the first tile of a head. -/
theorem bodyA_dq {hc : first i} :
    Holds arg8.view (arg8.view.writes (Elt Ideal) arg8.view.junk (runA c i arg2 harg2 arg3 harg3 arg4 harg4 arg5 harg5 arg6 harg6 arg7 harg7 arg8 harg8 arg9 harg9 arg10 harg10 arg11 harg11 arg12 harg12 hc x0 x1 x2 x3 x4 x5).1) (upto (fun _ _ => 0) (cq G Kt) (1024 * (i 1).val) 8192) := by
  unfold runA
  dsimp only
  rw [second, List.nil_append, View.writes_append]
  have h := (loop (c := c) (D := (fun _ _ => 0)) (harg2 := harg2) (harg3 := harg3) (harg4 := harg4) (harg5 := harg5) (harg6 := harg6) (harg7 := harg7) (harg8 := harg8) (harg9 := harg9) (harg10 := harg10) (harg11 := harg11) (harg12 := harg12) (w := runA.sl.v236 i) hA hB hL hM hP hG (key (c := c) (harg6 := harg6) hK) (value (c := c) (harg7 := harg7) hV) (diagA (c := c) (n0 := rows_inb i 0 (by norm_num)) (n1 := rows_inb i 256 (by norm_num)) (n2 := rows_inb i 512 (by norm_num)) (n3 := rows_inb i 768 (by norm_num)) (n4 := inb_S8192x128_S8192x128_0_0) (harg2 := harg2) (harg3 := harg3) (harg4 := harg4) (harg5 := harg5) (harg6 := harg6) (harg7 := harg7) hA hB hL hM hK hV hP hZ hG) (acc_dk (c := c) (harg2 := harg2) (harg3 := harg3) (harg4 := harg4) (harg5 := harg5) (harg6 := harg6) (harg7 := harg7) hA hB hL hM hK hV hP hZ hG) (acc_dv (c := c) (harg2 := harg2) (harg3 := harg3) (harg4 := harg4) (harg6 := harg6) hA hB hL hK hP hZ) (k0_t1_loop i).trips le_rfl _ rfl).1
  rw [end_of_trips] at h
  exact h

include hA hB hL hM hK hV hP hZ hG in
/-- The key gradient's block after the run at the first tile of a head. -/
theorem bodyA_dk {hc : first i} (y) :
    View.canon (runA c i arg2 harg2 arg3 harg3 arg4 harg4 arg5 harg5 arg6 harg6 arg7 harg7 arg8 harg8 arg9 harg9 arg10 harg10 arg11 harg11 arg12 harg12 hc x0 x1 x2 x3 x4 x5).2.1 y = (part G A (1024 * (i 1).val) 8192 (y 0).val (y 1).val * Real.log 2 : ℝ) := by
  unfold runA
  dsimp only
  refine (canon_all arg9.view y).trans ?_
  have ln2 : Named.named (F := Ideal) (φ := .f32) κ "ln2" 0x3F317218#32 = ((Real.log 2 : ℝ) : EReal) := IdealRules.named_const.ideal_named_scalar _ _ _ _ rfl
  pointwise [k0_pay6, ln2]
  have h := (loop (c := c) (D := (fun _ _ => 0)) (harg2 := harg2) (harg3 := harg3) (harg4 := harg4) (harg5 := harg5) (harg6 := harg6) (harg7 := harg7) (harg8 := harg8) (harg9 := harg9) (harg10 := harg10) (harg11 := harg11) (harg12 := harg12) (w := runA.sl.v236 i) hA hB hL hM hP hG (key (c := c) (harg6 := harg6) hK) (value (c := c) (harg7 := harg7) hV) (diagA (c := c) (n0 := rows_inb i 0 (by norm_num)) (n1 := rows_inb i 256 (by norm_num)) (n2 := rows_inb i 512 (by norm_num)) (n3 := rows_inb i 768 (by norm_num)) (n4 := inb_S8192x128_S8192x128_0_0) (harg2 := harg2) (harg3 := harg3) (harg4 := harg4) (harg5 := harg5) (harg6 := harg6) (harg7 := harg7) hA hB hL hM hK hV hP hZ hG) (acc_dk (c := c) (harg2 := harg2) (harg3 := harg3) (harg4 := harg4) (harg5 := harg5) (harg6 := harg6) (harg7 := harg7) hA hB hL hM hK hV hP hZ hG) (acc_dv (c := c) (harg2 := harg2) (harg3 := harg3) (harg4 := harg4) (harg6 := harg6) hA hB hL hK hP hZ) (k0_t1_loop i).trips le_rfl _ rfl).2.1.get (off := ![0, 0]) rfl (inb := inb_S1024x128_S1024x128_0_0) y
  rw [end_of_trips] at h
  simp only [Nat.zero_add] at h
  refine Eq.trans (congrArg (· * _) ?_) (EReal.coe_mul _ _).symm
  unfold runA.sl.v242
  rw [second, List.nil_append]
  show View.readAt _ _ _ (View.writes _ _ _ (_ ++ _)) _ = _
  rw [View.writes_append]
  exact h

include hA hB hL hM hK hV hP hZ hG in
/-- The value gradient's block after the run at the first tile of a head. -/
theorem bodyA_dv {hc : first i} (y) :
    View.canon (runA c i arg2 harg2 arg3 harg3 arg4 harg4 arg5 harg5 arg6 harg6 arg7 harg7 arg8 harg8 arg9 harg9 arg10 harg10 arg11 harg11 arg12 harg12 hc x0 x1 x2 x3 x4 x5).2.2.1 y = (part P B (1024 * (i 1).val) 8192 (y 0).val (y 1).val : ℝ) := by
  unfold runA
  dsimp only
  refine (canon_all arg10.view y).trans ?_
  have h := (loop (c := c) (D := (fun _ _ => 0)) (harg2 := harg2) (harg3 := harg3) (harg4 := harg4) (harg5 := harg5) (harg6 := harg6) (harg7 := harg7) (harg8 := harg8) (harg9 := harg9) (harg10 := harg10) (harg11 := harg11) (harg12 := harg12) (w := runA.sl.v236 i) hA hB hL hM hP hG (key (c := c) (harg6 := harg6) hK) (value (c := c) (harg7 := harg7) hV) (diagA (c := c) (n0 := rows_inb i 0 (by norm_num)) (n1 := rows_inb i 256 (by norm_num)) (n2 := rows_inb i 512 (by norm_num)) (n3 := rows_inb i 768 (by norm_num)) (n4 := inb_S8192x128_S8192x128_0_0) (harg2 := harg2) (harg3 := harg3) (harg4 := harg4) (harg5 := harg5) (harg6 := harg6) (harg7 := harg7) hA hB hL hM hK hV hP hZ hG) (acc_dk (c := c) (harg2 := harg2) (harg3 := harg3) (harg4 := harg4) (harg5 := harg5) (harg6 := harg6) (harg7 := harg7) hA hB hL hM hK hV hP hZ hG) (acc_dv (c := c) (harg2 := harg2) (harg3 := harg3) (harg4 := harg4) (harg6 := harg6) hA hB hL hK hP hZ) (k0_t1_loop i).trips le_rfl _ rfl).2.2.get (off := ![0, 0]) rfl (inb := inb_S1024x128_S1024x128_0_0) y
  rw [end_of_trips] at h
  simp only [Nat.zero_add] at h
  unfold runA.sl.v246
  rw [second, List.nil_append]
  show View.readAt _ _ _ (View.writes _ _ _ (_ ++ _)) _ = _
  rw [View.writes_append]
  exact h

end Cert.Attn

end
-- ==== Proof.AttnSides.lean ====
/- One head's padded columns: the weights the kernel's powers of two are, and the sums over the rows and the keys. -/
module

public import proofs.«01_k».proof.Proof.AttnBody

@[expose] public section

noncomputable section

open Idealize.ShloMosaic
open Cert.Lift

namespace Cert.Attn

/-- The queries' array scaled for powers of two. -/
def qscaled (Q : ℕ → ℕ → ℕ → ℝ) (i h d : ℕ) : ℝ := Q i h d * (scale / Real.log 2)
/-- The 64 columns of a head behind a one and 63 zeros, head after head. -/
def opad (f : ℕ → ℕ → ℕ → ℝ) (i n : ℕ) : ℝ := if 64 ≤ n % 128 then f i (n / 128) (n % 128 - 64) else if n % 128 = 0 then 1 else 0

variable (Q K V O : ℕ → ℕ → ℕ → ℝ)

/-- The logarithm of a row's sum to base two. -/
def lse (h i : ℕ) : ℝ := top Q K h i / Real.log 2 + Real.log (den Q K h i) / Real.log 2

theorem log_two_pos : 0 < Real.log 2 := Real.log_pos (by norm_num)

theorem rpad_at (f : ℕ → ℕ → ℕ → ℝ) (i h d : ℕ) (hd : d < 128) : rpad f i (128 * h + d) = if d < 96 then f i h d else 0 := by
  unfold rpad
  rw [show (128 * h + d) % 128 = d by omega, show (128 * h + d) / 128 = h by omega]
theorem lpad_at (f : ℕ → ℕ → ℕ → ℝ) (i h d : ℕ) (hd : d < 128) : lpad f i (128 * h + d) = if 64 ≤ d then f i h (d - 64) else 0 := by
  unfold lpad
  rw [show (128 * h + d) % 128 = d by omega, show (128 * h + d) / 128 = h by omega]
theorem opad_at (f : ℕ → ℕ → ℕ → ℝ) (i h d : ℕ) (hd : d < 128) : opad f i (128 * h + d) = if 64 ≤ d then f i h (d - 64) else if d = 0 then 1 else 0 := by
  unfold opad
  rw [show (128 * h + d) % 128 = d by omega, show (128 * h + d) / 128 = h by omega]

/-- The padded scores are the scores. -/
theorem sum_scores (h r j : ℕ) : ∑ d : Fin 128, rpad (qscaled Q) r (128 * h + d) * rpad K j (128 * h + d) = sc Q K h r j / Real.log 2 := by
  have e : ∀ d : Fin 128, rpad (qscaled Q) r (128 * h + d) * rpad K j (128 * h + d) = if d.val < 96 then Q r h d * K j h d * (scale / Real.log 2) else 0 := fun d => by
    rw [rpad_at _ _ _ _ d.isLt, rpad_at _ _ _ _ d.isLt]
    unfold qscaled
    split_ifs <;> ring
  simp only [e]
  rw [Fin.sum_univ_add (a := 96) (b := 32)]
  simp only [Fin.val_castAdd, Fin.val_natAdd, Fin.is_lt, if_true, show ∀ i : Fin 32, ¬(96 + i.val < 96) from fun i => by omega, if_false,
    Finset.sum_const_zero, add_zero]
  rw [← Finset.sum_mul]
  unfold sc
  ring

/-- The padded products of a cotangent row with a value row. -/
theorem sum_dp (h r j : ℕ) : ∑ e : Fin 128, lpad O r (128 * h + e) * opad V j (128 * h + e) = dp V O h r j := by
  have e : ∀ d : Fin 128, lpad O r (128 * h + d) * opad V j (128 * h + d) = if 64 ≤ d.val then O r h (d - 64) * V j h (d - 64) else 0 := fun d => by
    rw [lpad_at _ _ _ _ d.isLt, opad_at _ _ _ _ d.isLt]
    split_ifs <;> ring
  simp only [e]
  rw [Fin.sum_univ_add (a := 64) (b := 64)]
  simp only [Fin.val_castAdd, Fin.val_natAdd, show ∀ i : Fin 64, ¬(64 ≤ i.val) from fun i => by omega, if_false, Nat.le_add_right, if_true,
    Finset.sum_const_zero, zero_add, Nat.add_sub_cancel_left]
  rfl

/-- The power of two of a score less the row's logarithm is the weight. -/
theorem power (h r j : ℕ) (hj : j ≤ r) :
    Real.rpow 2 (∑ d : Fin 128, rpad (qscaled Q) r (128 * h + d) * rpad K j (128 * h + d) - lse Q K h r) = prob Q K h r j := by
  rw [sum_scores]
  have l := log_two_pos
  refine (Real.rpow_def_of_pos (by norm_num) _ : (2 : ℝ) ^ (_ : ℝ) = _).trans ?_
  have e : Real.log 2 * (sc Q K h r j / Real.log 2 - lse Q K h r) = sc Q K h r j - top Q K h r - Real.log (den Q K h r) := by
    unfold lse
    field_simp
    ring
  rw [e, Real.exp_sub, Real.exp_log (den_pos Q K h r)]
  unfold prob ex
  rw [if_pos hj]

/-- The score's cotangent from the padded rows. -/
theorem cotangent (h r j : ℕ) :
    prob Q K h r j * (∑ e : Fin 128, lpad O r (128 * h + e) * opad V j (128 * h + e) - dl Q K V O h r) = ds Q K V O h r j := by
  rw [sum_dp]
  rfl

/-- The queries' gradient from the first `n` keys, padded. -/
def dqs (h n r d : ℕ) : ℝ := (∑ j ∈ Finset.range n, ds Q K V O h r j * rpad K j (128 * h + d)) * scale

theorem dqs_zero (h r d : ℕ) : dqs Q K V O h 0 r d = 0 := by
  unfold dqs; rw [Finset.sum_range_zero, zero_mul]

/-- One more tile of keys. -/
theorem dqs_step (h k r d : ℕ) (hr : r < 8192) :
    upto (dqs Q K V O h (1024 * k)) (cq (fun r j => ds Q K V O h r (1024 * k + j)) fun j d => rpad K (1024 * k + j) (128 * h + d)) (1024 * k) 8192 r d
      = dqs Q K V O h (1024 * k + 1024) r d := by
  unfold upto cq dqs
  rw [Finset.sum_range_add, add_mul, Finset.sum_range (n := 1024)]
  refine congrArg₂ (· + ·) rfl ?_
  split_ifs with g
  · rfl
  · symm
    rw [Finset.sum_eq_zero, zero_mul]
    intro j _
    rw [ds_zero Q K V O (by omega), zero_mul]

/-- After all keys. -/
theorem dqs_all (h r d : ℕ) (hd : d < 128) : dqs Q K V O h 8192 r d = rpad (dq Q K V O) r (128 * h + d) := by
  rw [rpad_at _ _ _ _ hd]
  unfold dqs dq
  rw [Finset.sum_range, Finset.sum_mul]
  simp only [rpad_at _ _ _ _ hd]
  split_ifs
  · rfl
  · simp

/-- A sum over the rows from a tile's first one on, where the rows before add nothing. -/
theorem sum_from {a : ℕ} (ha : a ≤ 8192) (f : ℕ → ℝ) (hf : ∀ r, r < a → f r = 0) : ∑ r ∈ Finset.Ico a 8192, f r = ∑ r : Fin 8192, f r := by
  rw [← Finset.sum_range, ← Finset.sum_range_add_sum_Ico f ha, Finset.sum_eq_zero (fun r hr => hf r (Finset.mem_range.mp hr)), zero_add]

/-- The key gradient's tile. -/
theorem part_dk (h k j d : ℕ) (hk : k < 8) (hd : d < 128) :
    part (fun r j => ds Q K V O h r (1024 * k + j)) (fun r d => rpad (qscaled Q) r (128 * h + d)) (1024 * k) 8192 j d * Real.log 2
      = rpad (dk Q K V O) (1024 * k + j) (128 * h + d) := by
  unfold part
  rw [sum_from (by omega) _ fun r hr => by dsimp only; rw [ds_zero Q K V O (by omega), zero_mul], rpad_at _ _ _ _ hd]
  simp only [rpad_at _ _ _ _ hd]
  split_ifs
  · unfold dk qscaled
    rw [Finset.sum_mul]
    have l := log_two_pos.ne'
    exact Finset.sum_congr rfl fun r _ => by field_simp
  · simp

/-- The value gradient's tile. -/
theorem part_dv (h k j e : ℕ) (hk : k < 8) (he : e < 128) :
    part (fun r j => prob Q K h r (1024 * k + j)) (fun r d => lpad O r (128 * h + d)) (1024 * k) 8192 j e
      = lpad (dv Q K O) (1024 * k + j) (128 * h + e) := by
  unfold part
  rw [sum_from (by omega) _ fun r hr => by dsimp only; rw [prob_zero Q K (by omega), zero_mul], lpad_at _ _ _ _ he]
  simp only [lpad_at _ _ _ _ he]
  split_ifs
  · rfl
  · simp

end Cert.Attn

end
-- ==== Proof.AttnFrame.lean ====
/- The attention's backward kernel terminates and leaves its arguments as they were: what the three result blocks hold
   point by point, the body at a generic point, and the run. -/
module

public import proofs.«01_k».proof.Proof.AttnRunB
public import Idealize.ShloMosaic.Lib.Claim

@[expose] public section

set_option maxRecDepth 16384

noncomputable section

namespace Cert.AttnBwdIdeal.Body

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The points that meet the first tile of a head are the multiples of eight. -/
theorem first_iff (t : Fin cfg0.N) : first (grid0.coords t) ↔ t.val % 8 = 0 := by
  have e : (grid0.coords t 1).val = t.val / 1 % 8 := Pipeline.Grid.coords_val t 1 (by decide) rfl
  simp only [first, e]
  word_cmp

/-- The run of the body at a point that meets the first tile of a head. -/
abbrev atA (c : Dev nD) (t : Fin cfg0.N) (h : t.val % 8 = 0) :=
  runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) ((first_iff t).mpr h) (iblk m c 0 t) (iblk m c 1 t) (iblk m c 2 t) (iblk m c 3 t) (iblk m c 4 t) (iblk m c 5 t)

/-- The run of the body at any other point, the block of the queries' gradient holding `d`. -/
abbrev atB (c : Dev nD) (t : Fin cfg0.N) (h : ¬t.val % 8 = 0) (d : Vec F S8192x128 .f32) :=
  runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (fun g => h ((first_iff t).mp g)) (iblk m c 0 t) (iblk m c 1 t) (iblk m c 2 t) (iblk m c 3 t) (iblk m c 4 t) (iblk m c 5 t) d

/-- The store over the whole block of the queries' gradient meets every place of it. -/
theorem zero_covers (w : Vec F S8192x128 .f32) (y : S8192x128.Idx) :
    y ∈ (⟨Rect.unit ![0, 0] S8192x128.size inb_S8192x128_S8192x128_0_0, w⟩ : View.Piece (Elt F) S8192x128 .f32).1.set := by
  obtain ⟨pc, hm, hy⟩ := View.cover_of_tiledL [(⟨Rect.unit ![0, 0] S8192x128.size inb_S8192x128_S8192x128_0_0, w⟩ : View.Piece (Elt F) S8192x128 .f32)] S8192x128.size (by sl_kernel_rfl) y
  rw [List.mem_singleton] at hm
  exact hm ▸ hy
theorem coverA_dq (c : Dev nD) (t : Fin cfg0.N) (h : t.val % 8 = 0) (y) : ∃ pc ∈ (atA m c t h).1, y ∈ pc.1.set :=
  ⟨_, List.mem_append_right _ (List.mem_append_right _ (List.mem_cons_of_mem _ (List.mem_cons_of_mem _ (List.mem_cons_of_mem _
    (List.mem_cons_of_mem _ (List.mem_singleton_self _)))))), zero_covers _ y⟩
theorem coverA_dk (c : Dev nD) (t : Fin cfg0.N) (h : t.val % 8 = 0) (y) : ∃ pc ∈ (atA m c t h).2.1, y ∈ pc.1.set :=
  View.cover_of_tiledL (atA m c t h).2.1 S1024x128.size (by sl_kernel_rfl) y
theorem coverA_dv (c : Dev nD) (t : Fin cfg0.N) (h : t.val % 8 = 0) (y) : ∃ pc ∈ (atA m c t h).2.2.1, y ∈ pc.1.set :=
  View.cover_of_tiledL (atA m c t h).2.2.1 S1024x128.size (by sl_kernel_rfl) y
theorem coverB_dk (c : Dev nD) (t : Fin cfg0.N) (h : ¬t.val % 8 = 0) (d) (y) : ∃ pc ∈ (atB m c t h d).2.1, y ∈ pc.1.set :=
  View.cover_of_tiledL (atB m c t h d).2.1 S1024x128.size (by sl_kernel_rfl) y
theorem coverB_dv (c : Dev nD) (t : Fin cfg0.N) (h : ¬t.val % 8 = 0) (d) (y) : ∃ pc ∈ (atB m c t h d).2.2.1, y ∈ pc.1.set :=
  View.cover_of_tiledL (atB m c t h d).2.2.1 S1024x128.size (by sl_kernel_rfl) y

/-- What the three result blocks hold after a point that meets the first tile of a head. -/
def leftA (c : Dev nD) (t : Fin cfg0.N) (h : t.val % 8 = 0) : Vec F S8192x128 .f32 × Vec F S1024x128 .f32 × Vec F S1024x128 .f32 :=
  (View.canon (atA m c t h).1, View.canon (atA m c t h).2.1, View.canon (atA m c t h).2.2.1)

/-- What they hold after any other point: the queries' gradient goes on from what the point before left. -/
def leftB (c : Dev nD) (t : Fin cfg0.N) (h : ¬t.val % 8 = 0) (d : Vec F S8192x128 .f32) : Vec F S8192x128 .f32 × Vec F S1024x128 .f32 × Vec F S1024x128 .f32 :=
  (((win0_6.stage (cfg0.slots t 6)) : Memref sig .tc .vmem S8192x128 .f32).view.read (Elt F)
      (((win0_6.stage (cfg0.slots t 6)) : Memref sig .tc .vmem S8192x128 .f32).view.writes (Elt F) ((hstage0_6 ((cfg0.slots t 6).cast nbuf0_6)).unread d) (atB m c t h d).1),
    View.canon (atB m c t h d).2.1, View.canon (atB m c t h d).2.2.1)

/-- What the three result blocks hold after point `n`. -/
def left (c : Dev nD) : (n : ℕ) → n < cfg0.N → Vec F S8192x128 .f32 × Vec F S1024x128 .f32 × Vec F S1024x128 .f32
  | 0, hn => leftA m c ⟨0, hn⟩ (Nat.zero_mod _)
  | n + 1, hn => if h : (n + 1) % 8 = 0 then leftA m c ⟨n + 1, hn⟩ h else leftB m c ⟨n + 1, hn⟩ h (left c n (Nat.lt_of_succ_lt hn)).1

theorem left_A (c : Dev nD) (t : Fin cfg0.N) (h : t.val % 8 = 0) : left m c t.val t.isLt = leftA m c t h := by
  obtain ⟨n, hn⟩ := t
  cases n with
  | zero => rfl
  | succ n => exact dif_pos h

theorem left_B (c : Dev nD) (t : Fin cfg0.N) (h : ¬t.val % 8 = 0) :
    left m c t.val t.isLt = leftB m c t h (left m c (t.val - 1) (Nat.lt_of_le_of_lt (Nat.sub_le _ _) t.isLt)).1 := by
  obtain ⟨n, hn⟩ := t
  cases n with
  | zero => exact absurd (Nat.zero_mod _) h
  | succ n => exact dif_neg h

/-- The pipeline's data: the arrays as the call finds them, after each point the operands' blocks and what `left` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).1
    | ⟨7, _⟩ => (left m c t.val t.isLt).2.1
    | ⟨8, _⟩ => (left m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (left m c t.val t.isLt).1 := by dsimp only [dats]
theorem after_7 (c : Dev nD) (t : Fin cfg0.N) : (dats m 0 c).after 7 t = (left m c t.val t.isLt).2.1 := by dsimp only [dats]
theorem after_8 (c : Dev nD) (t : Fin cfg0.N) : (dats m 0 c).after 8 t = (left m c t.val t.isLt).2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Between two tiles of a head the block of the queries' gradient is not written back: it holds what the point before left. -/
theorem before_6 (c : Dev nD) (t : Fin cfg0.N) (h : ¬t.val % 8 = 0) (d) :
    (dats m 0 c).before 6 t d = (left m c (t.val - 1) (Nat.lt_of_le_of_lt (Nat.sub_le _ _) t.isLt)).1 := by
  have hN : t.val < 128 := lt_of_lt_of_eq t.isLt (show cfg0.N = 128 from N_0)
  rw [Dat.before_out_kept _ 6 rfl t (by omega) (Bool.eq_false_iff.mpr fun g => by have := (flush0_6 _).mp g; dsimp only at this; omega)
    (fun _ => rfl) (fun _ _ => rfl)]
  dsimp only [dats]

/-- What the body needs besides the windows: the two running sums' buffers, whatever they hold, and the generator. -/
theorem scratch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point: the operands' buffers hold their blocks; the point's number says which of the two runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl, show (dats m 0 c).owesAt () t.succ = (dats m 0 c).owesAt () t.castSucc from rfl,
    show (dats m 0 c).Φ t.castSucc = Pipeline.ΦA spec0 c from rfl, scratch_eq,
    after_0, after_1, after_2, after_3, after_4, after_5, after_6, after_7, after_8]
  by_cases h : t.val % 8 = 0
  · rw [left_A m c t h]
    unfold leftA; dsimp only
    iintro ⟨⟨⟨⟨%s0, S0⟩, ⟨%s1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexists _; iexact S0
    isplitl [S1]; · iexists _; iexact S1
    iintro ⟨H0, H1, H2, H3, H4, H5, ⟨%e6, H6⟩, ⟨%e7, H7⟩, ⟨%e8, H8⟩, ⟨%u0, S0⟩, ⟨%u1, S1⟩⟩
    isplitl [S0 S1 Hr]
    · isplitl [S0 S1]
      · isplitl [S0]
        · iexists _; iexact S0
        · iexists _; iexact S1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rw [← View.read_writes_junk_eq_canon (st0_6 t).view]; exact View.read_writes_of_cover _ _ _ _ _ (coverA_dq m c t h)
    isplitl [H7]
    · unfold owns; iexists _; isplitr
      swap; · iexact H7
      ipureintro; rw [← View.read_writes_junk_eq_canon (st0_7 t).view]; exact View.read_writes_of_cover _ _ _ _ _ (coverA_dk m c t h)
    unfold owns; iexists _; isplitr
    swap; · iexact H8
    ipureintro; rw [← View.read_writes_junk_eq_canon (st0_8 t).view]; exact View.read_writes_of_cover _ _ _ _ _ (coverA_dv m c t h)
  · rw [left_B m c t h]
    simp only [before_6 m c t h]
    unfold leftB; dsimp only
    iintro ⟨⟨⟨⟨%s0, S0⟩, ⟨%s1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atB m c t h _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [S0]; · iexists _; iexact S0
    isplitl [S1]; · iexists _; iexact S1
    iintro ⟨H0, H1, H2, H3, H4, H5, H6, ⟨%e7, H7⟩, ⟨%e8, H8⟩, ⟨%u0, S0⟩, ⟨%u1, S1⟩⟩
    isplitl [S0 S1 Hr]
    · isplitl [S0 S1]
      · isplitl [S0]
        · iexists _; iexact S0
        · iexists _; iexact S1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rfl
    isplitl [H7]
    · unfold owns; iexists _; isplitr
      swap; · iexact H7
      ipureintro; rw [← View.read_writes_junk_eq_canon (st0_7 t).view]; exact View.read_writes_of_cover _ _ _ _ _ (coverB_dk m c t h _)
    unfold owns; iexists _; isplitr
    swap; · iexact H8
    ipureintro; rw [← View.read_writes_junk_eq_canon (st0_8 t).view]; exact View.read_writes_of_cover _ _ _ _ _ (coverB_dv m c t h _)

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The whole run: every array ends at what the points' blocks add up to, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The call terminates with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.AttnBwdIdeal.Body

end
-- ==== Proof.AttnHost.lean ====
/- What the lines before the attention's backward call leave in its six operands, on real arguments. -/
module

public import proofs.«01_k».proof.Proof.AttnSides
public import proofs.«01_k».proof.Proof.AttnFrame

@[expose] public section

set_option maxRecDepth 16384

noncomputable section

open Idealize.ShloMosaic Idealize.ShloMosaic.TcCoe Idealize.ShloMosaic.Pipeline Idealize.SL.Sem
open Cert.Lift Cert.AttnBwdIdeal Cert.AttnBwdIdeal.Gen

namespace Cert.Attn

variable {x0 x1 : (⟨S8192x16x96, .f32⟩ : BufTy).Contents (Elt Ideal)} {x2 x3 : (⟨S8192x16x64, .f32⟩ : BufTy).Contents (Elt Ideal)}
  {Q K V O : ℕ → ℕ → ℕ → ℝ}
  (h0 : ∀ i, x0 i = (Q (i 0).val (i 1).val (i 2).val : EReal)) (h1 : ∀ i, x1 i = (K (i 0).val (i 1).val (i 2).val : EReal))
  (h2 : ∀ i, x2 i = (V (i 0).val (i 1).val (i 2).val : EReal)) (h3 : ∀ i, x3 i = (O (i 0).val (i 1).val (i 2).val : EReal))

/-- The scores as the lines before the call compute them. -/
def hSc (x0 x1 : FVec Ideal S8192x16x96 .f32) : FVec Ideal S16x8192x8192 .f32 :=
  mulf (Host.dotGeneral (F := Ideal) (φ₁ := .f32) (φ₂ := .f32) dot_S8192x16x96_S8192x16x96_S16x8192x8192_2_2_0_0_1_1 none x0 x1)
    (broadcastInDim S16x8192x8192 ![] bcast_S_S16x8192x8192 (constant (F := Ideal) S_ .f32 0x3DD105EC#32))
/-- The masked scores. -/
def hMask (x0 x1 : FVec Ideal S8192x16x96 .f32) : FVec Ideal S16x8192x8192 .f32 :=
  select (broadcastInDim S16x8192x8192 ![1, 2] bcast_S8192x8192_S16x8192x8192_1_2 (cmpi .sle (iotaInDim S8192x8192 32 1) (iotaInDim S8192x8192 32 0)))
    (hSc x0 x1) (broadcastInDim S16x8192x8192 ![] bcast_S_S16x8192x8192 (id (constant (F := Ideal) S_ .f32 0xFF800000#32)))
/-- The row maxima. -/
def hMax (x0 x1 : FVec Ideal S8192x16x96 .f32) : FVec Ideal S16x8192 .f32 :=
  Host.reduce (FloatOps.maximumf (F := Ideal) (φ := .f32)) (hMask x0 x1) (constant (F := Ideal) S_ .f32 0xFF800000#32) reducesTo_S16x8192x8192_S16x8192_d2 h_S_
/-- The exponentials. -/
def hEx (x0 x1 : FVec Ideal S8192x16x96 .f32) : FVec Ideal S16x8192x8192 .f32 :=
  Host.exp (subf (hMask x0 x1) (broadcastInDim S16x8192x8192 ![0, 1, 2] bcast_S16x8192x1_S16x8192x8192_0_1_2
    (broadcastInDim S16x8192x1 ![0, 1] bcast_S16x8192_S16x8192x1_0_1 (hMax x0 x1))))
/-- The row sums. -/
def hDen (x0 x1 : FVec Ideal S8192x16x96 .f32) : FVec Ideal S16x8192 .f32 :=
  Host.reduceAdd (hEx x0 x1) (constant (F := Ideal) S_ .f32 0x00000000#32) reducesTo_S16x8192x8192_S16x8192_d2 h_S_
/-- The weights. -/
def hProb (x0 x1 : FVec Ideal S8192x16x96 .f32) : FVec Ideal S16x8192x8192 .f32 :=
  Host.divf (hEx x0 x1) (broadcastInDim S16x8192x8192 ![0, 1, 2] bcast_S16x8192x1_S16x8192x8192_0_1_2
    (broadcastInDim S16x8192x1 ![0, 1] bcast_S16x8192_S16x8192x1_0_1 (hDen x0 x1)))
/-- The attention's output. -/
def hOut (x0 x1 : FVec Ideal S8192x16x96 .f32) (x2 : FVec Ideal S8192x16x64 .f32) : FVec Ideal S8192x16x64 .f32 :=
  transpose S8192x16x64 [2, 0, 1] (Host.dotGeneral (F := Ideal) (φ₁ := .f32) (φ₂ := .f32) dot_S8192x16x64_S16x8192x8192_S16x64x8192_0_2_2_1_1_0 none x2 (hProb x0 x1)) transposes_S16x64x8192_S8192x16x64_2_0_1
/-- The logarithms of the row sums. -/
def hLse (x0 x1 : FVec Ideal S8192x16x96 .f32) : FVec Ideal S16x8192x1 .f32 :=
  addf (Host.divf (broadcastInDim S16x8192x1 ![0, 1] bcast_S16x8192_S16x8192x1_0_1 (hMax x0 x1)) (broadcastInDim S16x8192x1 ![] bcast_S_S16x8192x1 (Host.log (constant (F := Ideal) S_ .f32 0x40000000#32))))
    (Host.divf (Host.log (broadcastInDim S16x8192x1 ![0, 1] bcast_S16x8192_S16x8192x1_0_1 (hDen x0 x1))) (broadcastInDim S16x8192x1 ![] bcast_S_S16x8192x1 (Host.log (constant (F := Ideal) S_ .f32 0x40000000#32))))
/-- The row sums of cotangent times output. -/
def hDelta (x0 x1 : FVec Ideal S8192x16x96 .f32) (x2 x3 : FVec Ideal S8192x16x64 .f32) : FVec Ideal S16x8192x1 .f32 :=
  transpose S16x8192x1 [1, 0, 2] (broadcastInDim S8192x16x1 ![0, 1] bcast_S8192x16_S8192x16x1_0_1
    (Host.reduceAdd (mulf x3 (hOut x0 x1 x2)) (constant (F := Ideal) S_ .f32 0x00000000#32) reducesTo_S8192x16x64_S8192x16_d2 h_S_)) transposes_S8192x16x1_S16x8192x1_1_0_2

include h0 h1 in
theorem hSc_eq (i) : hSc x0 x1 i = (sc Q K (i 0).val (i 1).val (i 2).val : EReal) := by
  pointwise [hSc, h0, h1]
  rfl

include h0 h1 in
theorem hMask_eq (i) : hMask x0 x1 i = masked Q K (i 0).val (i 1).val (i 2).val := by
  pointwise [hMask, hSc_eq h0 h1]
  exact select_le (i 2).isLt (i 1).isLt _ _

include h0 h1 in
theorem hMax_eq (i) : hMax x0 x1 i = (top Q K (i 0).val (i 1).val : EReal) := by
  have e : hMax x0 x1 i = rowmax Q K (i 0).val (i 1).val := by
    pointwise [hMax, hMask_eq h0 h1]
    unfold rowmax
    rfl
  exact e.trans (top_eq Q K _ _)

include h0 h1 in
theorem hEx_eq (i) : hEx x0 x1 i = (ex Q K (i 0).val (i 1).val (i 2).val : EReal) := by
  pointwise [hEx, hMask_eq h0 h1, hMax_eq h0 h1]
  exact exp_masked Q K _ _ _

include h0 h1 in
theorem hDen_eq (i) : hDen x0 x1 i = (den Q K (i 0).val (i 1).val : EReal) := by
  pointwise [hDen, hEx_eq h0 h1]
  exact congrArg Real.toEReal (by unfold den; ring)

include h0 h1 in
theorem hProb_eq (i) : hProb x0 x1 i = (prob Q K (i 0).val (i 1).val (i 2).val : EReal) := by
  pointwise [hProb, hEx_eq h0 h1, hDen_eq h0 h1]
  exact div_real _ (den_pos Q K _ _).ne'

include h0 h1 h2 in
theorem hOut_eq (i) : hOut x0 x1 x2 i = ((∑ j : Fin 8192, V j (i 1).val (i 2).val * prob Q K (i 1).val (i 0).val j : ℝ) : EReal) := by
  pointwise [hOut, h2, hProb_eq h0 h1]

theorem log_real {r : ℝ} (h : 0 < r) : Ideal.log (r : EReal) = ((Real.log r : ℝ) : EReal) := by
  rw [Ideal.log_coe, if_neg (not_le.mpr h)]

include h0 h1 in
theorem hLse_eq (i) : hLse x0 x1 i = (lse Q K (i 0).val (i 1).val : EReal) := by
  pointwise [hLse, hMax_eq h0 h1, hDen_eq h0 h1]
  have l := log_two_pos.ne'
  rw [log_real (den_pos Q K _ _), div_real _ l, div_real _ l]
  rfl

include h0 h1 h2 h3 in
theorem hDelta_eq (i) : hDelta x0 x1 x2 x3 i = (dl Q K V O (i 0).val (i 1).val : EReal) := by
  pointwise [hDelta, h3, hOut_eq h0 h1 h2]
  refine congrArg Real.toEReal ?_
  unfold dl dp
  simp only [Finset.mul_sum, zero_add]
  rw [Finset.sum_comm]
  exact Finset.sum_congr rfl fun _ _ => Finset.sum_congr rfl fun _ _ => by ring

/-- A one and 63 zeros. -/
theorem ones_eq (i : S8192x16x64.Idx) :
    select (cmpi .eq (iotaInDim S8192x16x64 32 2) (broadcastInDim S8192x16x64 ![] bcast_S_S8192x16x64 (constantI S_ 32 0#32)))
      (broadcastInDim S8192x16x64 ![] bcast_S_S8192x16x64 (constant (F := Ideal) S_ .f32 0x3F800000#32))
      (broadcastInDim S8192x16x64 ![] bcast_S_S8192x16x64 (constant (F := Ideal) S_ .f32 0x00000000#32)) i = ((if (i 2).val = 0 then 1 else 0 : ℝ) : EReal) := by
  pointwise
  have e : ∀ k : Fin 64, IntOp.cmpi CmpIPredicate.eq (BitVec.ofNat 32 k.val) 0#32 = if k.val = 0 then 1#1 else 0#1 := by decide
  refine (congrArg (fun w => Scalar.select w _ _) (e (i 2))).trans ?_
  split_ifs <;> rfl

section host

variable (m : (ℓ : Loc nD τ sig) → Buf (Elt Ideal) ℓ)

/-- What the lines before the call leave, one list of them after another. -/
theorem V_eq (c : Dev nD) (b : Ref sig .tc) : Gen.V m c b = StableHlo.after hostOps0_10 (StableHlo.after hostOps0_9 (StableHlo.after hostOps0_8 (StableHlo.after hostOps0_7
    (StableHlo.after hostOps0_6 (StableHlo.after hostOps0_5 (StableHlo.after hostOps0_4 (StableHlo.after hostOps0_3 (StableHlo.after hostOps0_2 (StableHlo.after hostOps0_1
    (StableHlo.after hostOps0 fun b => m (c, b))))))))))) (Proc.devRef .tc b) := by
  unfold Gen.V
  simp only [List.flatten_cons, List.flatten_nil, List.append_nil, StableHlo.after_append]

variable {c : Dev nD}

theorem host_lse : (Gen.V m c main_v24 : Vec Ideal S16x8192x1 .f32) = hLse (m ((c : Thread nD τ).loc main_arg0)) (m ((c : Thread nD τ).loc main_arg1)) := by
  rw [V_eq]
  simp only [StableHlo.after_cons, StableHlo.after_nil]
  after_results_simp
  after_results_loop
  simp -implicitDefEqProofs only [StableHlo.TRef.toBuf, StableHlo.TRef.ofBuf, cast_cast, cast_eq]
  unfold hLse hDen hEx hMax hMask hSc
  rfl

theorem host_delta : (Gen.V m c main_v28 : Vec Ideal S16x8192x1 .f32)
    = hDelta (m ((c : Thread nD τ).loc main_arg0)) (m ((c : Thread nD τ).loc main_arg1)) (m ((c : Thread nD τ).loc main_arg2)) (m ((c : Thread nD τ).loc main_arg3)) := by
  rw [V_eq]
  simp only [StableHlo.after_cons, StableHlo.after_nil]
  after_results_simp
  after_results_loop
  simp -implicitDefEqProofs only [StableHlo.TRef.toBuf, StableHlo.TRef.ofBuf, cast_cast, cast_eq]
  unfold hDelta hOut hProb hDen hEx hMax hMask hSc
  rfl

variable (hQ : ∀ i, m ((c : Thread nD τ).loc main_arg0) i = (Q (i 0).val (i 1).val (i 2).val : EReal))
  (hK : ∀ i, m ((c : Thread nD τ).loc main_arg1) i = (K (i 0).val (i 1).val (i 2).val : EReal))
  (hV : ∀ i, m ((c : Thread nD τ).loc main_arg2) i = (V (i 0).val (i 1).val (i 2).val : EReal))
  (hO : ∀ i, m ((c : Thread nD τ).loc main_arg3) i = (O (i 0).val (i 1).val (i 2).val : EReal))

include hQ in
theorem host_q (i : S8192x2048.Idx) : (Gen.V m c main_v34 : Vec Ideal S8192x2048 .bf16) i = (rpad (qscaled Q) (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hQ]
  have b : (i 1).val < 2048 := (i 1).isLt
  unfold rpad
  by_cases h : (i 1).val % 128 < 96
  · rw [dif_pos (by omega), if_pos h, div_real _ log_two_pos.ne']
    refine congrArg Real.toEReal (congrArg (· * (scale / Real.log 2)) (congr (congrArg₂ _ ?_ ?_) ?_)) <;> omega
  · rw [dif_neg (by omega), if_neg h]
    exact congrArg Real.toEReal Int.cast_zero

include hK in
theorem host_k (i : S8192x2048.Idx) : (Gen.V m c main_v37 : Vec Ideal S8192x2048 .bf16) i = (rpad K (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hK]
  have b : (i 1).val < 2048 := (i 1).isLt
  unfold rpad
  by_cases h : (i 1).val % 128 < 96
  · rw [dif_pos (by omega), if_pos h]
  · rw [dif_neg (by omega), if_neg h]
    exact congrArg Real.toEReal Int.cast_zero

include hO in
theorem host_do (i : S8192x2048.Idx) : (Gen.V m c main_v48 : Vec Ideal S8192x2048 .bf16) i = (lpad O (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hO]
  have b : (i 1).val < 2048 := (i 1).isLt
  unfold lpad
  by_cases h : 64 ≤ (i 1).val % 128
  · rw [dif_pos (by omega), if_pos h]
  · rw [dif_neg (by omega), if_neg h]
    exact congrArg Real.toEReal Int.cast_zero

include hV in
theorem host_v (i : S8192x2048.Idx) : (Gen.V m c main_v45 : Vec Ideal S8192x2048 .bf16) i = (opad V (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hV]
  have b : (i 1).val < 2048 := (i 1).isLt
  unfold opad
  by_cases h : 64 ≤ (i 1).val % 128
  · rw [dif_neg (by omega), if_pos h]
  · rw [dif_pos (by omega), if_neg h]
    exact ones_eq _

end host

end Cert.Attn

end
-- ==== Proof.AttnLeft.lean ====
/- What the three result blocks of the attention's backward call hold point by point, and the arrays they add up to. -/
module

public import proofs.«01_k».proof.Proof.AttnHost

@[expose] public section

set_option maxRecDepth 16384

noncomputable section

open Idealize.ShloMosaic Idealize.ShloMosaic.TcCoe Idealize.ShloMosaic.Pipeline Idealize.SL.Sem
open Cert.Lift Cert.AttnBwdIdeal Cert.AttnBwdIdeal.Gen Cert.AttnBwdIdeal.Body

namespace Cert.Attn

variable (m : (ℓ : Loc nD τ sig) → Buf (Elt Ideal) ℓ) (ρ : Dev nD → PrngReg)

theorem idx : ∀ t : Fin cfg0.N, win0_0.index t = ![0, t.val / 8] ∧ win0_1.index t = ![0, t.val / 8] ∧ win0_2.index t = ![t.val / 8, 0, 0] ∧ win0_3.index t = ![t.val / 8, 0, 0]
    ∧ win0_4.index t = ![t.val % 8, t.val / 8] ∧ win0_5.index t = ![t.val % 8, t.val / 8] ∧ win0_6.index t = ![0, t.val / 8]
    ∧ win0_7.index t = ![t.val % 8, t.val / 8] ∧ win0_8.index t = ![t.val % 8, t.val / 8] :=
  (by decide +kernel : ∀ t : Fin grid0.N, _)

/-- The tile of a point. -/
theorem tile (t : Fin cfg0.N) : (grid0.coords t 1).val = t.val % 8 := by
  have e : (grid0.coords t 1).val = t.val / 1 % 8 := Pipeline.Grid.coords_val t 1 (by decide) rfl
  rw [e, Nat.div_one]

variable {Q K V O : ℕ → ℕ → ℕ → ℝ} {c : Dev nD}
  (hQ : ∀ i, m ((c : Thread nD τ).loc main_arg0) i = (Q (i 0).val (i 1).val (i 2).val : EReal))
  (hK : ∀ i, m ((c : Thread nD τ).loc main_arg1) i = (K (i 0).val (i 1).val (i 2).val : EReal))
  (hV : ∀ i, m ((c : Thread nD τ).loc main_arg2) i = (V (i 0).val (i 1).val (i 2).val : EReal))
  (hO : ∀ i, m ((c : Thread nD τ).loc main_arg3) i = (O (i 0).val (i 1).val (i 2).val : EReal))

include hQ in
theorem blk_q (t : Fin cfg0.N) (y : S8192x128.Idx) : (iblk m c 0 t : Vec Ideal S8192x128 .bf16) y = (rpad (qscaled Q) (y 0).val (128 * (t.val / 8) + (y 1).val) : EReal) := by
  blk_simp [iblk]
  rw [host_q m hQ]
  blk_simp [idx t]
  rw [mul_comm]

include hO in
theorem blk_do (t : Fin cfg0.N) (y : S8192x128.Idx) : (iblk m c 1 t : Vec Ideal S8192x128 .bf16) y = (lpad O (y 0).val (128 * (t.val / 8) + (y 1).val) : EReal) := by
  blk_simp [iblk]
  rw [host_do m hO]
  blk_simp [idx t]
  rw [mul_comm]

include hQ hK in
theorem blk_lse (t : Fin cfg0.N) (y : S1x8192x1.Idx) : (iblk m c 2 t : Vec Ideal S1x8192x1 .f32) y = (lse Q K (t.val / 8) (y 1).val : EReal) := by
  have a : (y 0).val < 1 := (y 0).isLt
  blk_simp [iblk]
  rw [host_lse m, hLse_eq hQ hK]
  blk_simp [idx t]

include hQ hK hV hO in
theorem blk_delta (t : Fin cfg0.N) (y : S1x8192x1.Idx) : (iblk m c 3 t : Vec Ideal S1x8192x1 .f32) y = (dl Q K V O (t.val / 8) (y 1).val : EReal) := by
  have a : (y 0).val < 1 := (y 0).isLt
  blk_simp [iblk]
  rw [host_delta m, hDelta_eq hQ hK hV hO]
  blk_simp [idx t]

include hK in
theorem blk_k (t : Fin cfg0.N) (y : S1024x128.Idx) : (iblk m c 4 t : Vec Ideal S1024x128 .bf16) y
    = (rpad K (1024 * (grid0.coords t 1).val + (y 0).val) (128 * (t.val / 8) + (y 1).val) : EReal) := by
  rw [tile]
  blk_simp [iblk]
  rw [host_k m hK]
  blk_simp [idx t]
  rw [mul_comm, mul_comm 128]

include hV in
theorem blk_v (t : Fin cfg0.N) (y : S1024x128.Idx) : (iblk m c 5 t : Vec Ideal S1024x128 .bf16) y
    = (opad V (1024 * (grid0.coords t 1).val + (y 0).val) (128 * (t.val / 8) + (y 1).val) : EReal) := by
  rw [tile]
  blk_simp [iblk]
  rw [host_v m hV]
  blk_simp [idx t]
  rw [mul_comm, mul_comm 128]

include hQ hK hV hO in
/-- At the first tile of a head. -/
theorem first_tile (t : Fin cfg0.N) (h : t.val % 8 = 0) :
    (∀ y, (leftA m c t h).1 y = (dqs Q K V O (t.val / 8) (1024 * (t.val % 8) + 1024) (y 0).val (y 1).val : EReal))
    ∧ (∀ y, (leftA m c t h).2.1 y = (rpad (dk Q K V O) (1024 * (t.val % 8) + (y 0).val) (128 * (t.val / 8) + (y 1).val) : EReal))
    ∧ ∀ y, (leftA m c t h).2.2 y = (lpad (dv Q K O) (1024 * (t.val % 8) + (y 0).val) (128 * (t.val / 8) + (y 1).val) : EReal) := by
  have hk := Nat.mod_lt t.val (show 0 < 8 by norm_num)
  refine ⟨fun y => ?_, fun y => ?_, fun y => ?_⟩
  · refine (congrFun (View.read_writes_junk_eq_canon ((win0_6.stage (cfg0.slots t 6) : Memref sig .tc .vmem S8192x128 .f32)).view (atA m c t h).1) y).symm.trans ?_
    refine (bodyA_dq (A := fun r d => rpad (qscaled Q) r (128 * (t.val / 8) + d)) (B := fun r d => lpad O r (128 * (t.val / 8) + d)) (Kt := fun j d => rpad K (1024 * (grid0.coords t 1).val + j) (128 * (t.val / 8) + d))
      (Vt := fun j d => opad V (1024 * (grid0.coords t 1).val + j) (128 * (t.val / 8) + d)) (P := fun r j => prob Q K (t.val / 8) r (1024 * (grid0.coords t 1).val + j))
      (G := fun r j => ds Q K V O (t.val / 8) r (1024 * (grid0.coords t 1).val + j)) (L := lse Q K (t.val / 8)) (M := dl Q K V O (t.val / 8)) (blk_q m hQ t) (blk_do m hO t) (blk_lse m hQ hK t) (blk_delta m hQ hK hV hO t) (blk_k m hK t) (blk_v m hV t)
      (fun r j => power Q K (t.val / 8) r (1024 * (grid0.coords t 1).val + j)) (fun r j hr => prob_zero Q K hr) (fun r j => cotangent Q K V O (t.val / 8) r (1024 * (grid0.coords t 1).val + j)) y).trans ?_
    rw [tile, ← dqs_step Q K V O _ _ _ _ (y 0).isLt]
    refine congrArg Real.toEReal ?_
    unfold upto
    rw [h, Nat.mul_zero, dqs_zero]
  · unfold leftA
    dsimp only
    refine (bodyA_dk (A := fun r d => rpad (qscaled Q) r (128 * (t.val / 8) + d)) (B := fun r d => lpad O r (128 * (t.val / 8) + d)) (Kt := fun j d => rpad K (1024 * (grid0.coords t 1).val + j) (128 * (t.val / 8) + d))
      (Vt := fun j d => opad V (1024 * (grid0.coords t 1).val + j) (128 * (t.val / 8) + d)) (P := fun r j => prob Q K (t.val / 8) r (1024 * (grid0.coords t 1).val + j))
      (G := fun r j => ds Q K V O (t.val / 8) r (1024 * (grid0.coords t 1).val + j)) (L := lse Q K (t.val / 8)) (M := dl Q K V O (t.val / 8)) (blk_q m hQ t) (blk_do m hO t) (blk_lse m hQ hK t) (blk_delta m hQ hK hV hO t) (blk_k m hK t) (blk_v m hV t)
      (fun r j => power Q K (t.val / 8) r (1024 * (grid0.coords t 1).val + j)) (fun r j hr => prob_zero Q K hr) (fun r j => cotangent Q K V O (t.val / 8) r (1024 * (grid0.coords t 1).val + j)) y).trans ?_
    rw [tile, part_dk Q K V O _ _ _ _ hk (y 1).isLt]
  · unfold leftA
    dsimp only
    refine (bodyA_dv (A := fun r d => rpad (qscaled Q) r (128 * (t.val / 8) + d)) (B := fun r d => lpad O r (128 * (t.val / 8) + d)) (Kt := fun j d => rpad K (1024 * (grid0.coords t 1).val + j) (128 * (t.val / 8) + d))
      (Vt := fun j d => opad V (1024 * (grid0.coords t 1).val + j) (128 * (t.val / 8) + d)) (P := fun r j => prob Q K (t.val / 8) r (1024 * (grid0.coords t 1).val + j))
      (G := fun r j => ds Q K V O (t.val / 8) r (1024 * (grid0.coords t 1).val + j)) (L := lse Q K (t.val / 8)) (M := dl Q K V O (t.val / 8)) (blk_q m hQ t) (blk_do m hO t) (blk_lse m hQ hK t) (blk_delta m hQ hK hV hO t) (blk_k m hK t) (blk_v m hV t)
      (fun r j => power Q K (t.val / 8) r (1024 * (grid0.coords t 1).val + j)) (fun r j hr => prob_zero Q K hr) (fun r j => cotangent Q K V O (t.val / 8) r (1024 * (grid0.coords t 1).val + j)) y).trans ?_
    rw [tile, part_dv Q K O _ _ _ _ hk (y 1).isLt]

include hQ hK hV hO in
/-- At any other tile. -/
theorem next_tile (t : Fin cfg0.N) (h : ¬t.val % 8 = 0) (d : Vec Ideal S8192x128 .f32)
    (hd : ∀ y, d y = (dqs Q K V O (t.val / 8) (1024 * (t.val % 8)) (y 0).val (y 1).val : EReal)) :
    (∀ y, (leftB m c t h d).1 y = (dqs Q K V O (t.val / 8) (1024 * (t.val % 8) + 1024) (y 0).val (y 1).val : EReal))
    ∧ (∀ y, (leftB m c t h d).2.1 y = (rpad (dk Q K V O) (1024 * (t.val % 8) + (y 0).val) (128 * (t.val / 8) + (y 1).val) : EReal))
    ∧ ∀ y, (leftB m c t h d).2.2 y = (lpad (dv Q K O) (1024 * (t.val % 8) + (y 0).val) (128 * (t.val / 8) + (y 1).val) : EReal) := by
  have hk := Nat.mod_lt t.val (show 0 < 8 by norm_num)
  refine ⟨fun y => ?_, fun y => ?_, fun y => ?_⟩
  · refine (bodyB_dq (A := fun r d => rpad (qscaled Q) r (128 * (t.val / 8) + d)) (B := fun r d => lpad O r (128 * (t.val / 8) + d)) (Kt := fun j d => rpad K (1024 * (grid0.coords t 1).val + j) (128 * (t.val / 8) + d))
      (Vt := fun j d => opad V (1024 * (grid0.coords t 1).val + j) (128 * (t.val / 8) + d)) (P := fun r j => prob Q K (t.val / 8) r (1024 * (grid0.coords t 1).val + j))
      (G := fun r j => ds Q K V O (t.val / 8) r (1024 * (grid0.coords t 1).val + j)) (L := lse Q K (t.val / 8)) (M := dl Q K V O (t.val / 8)) (blk_q m hQ t) (blk_do m hO t) (blk_lse m hQ hK t) (blk_delta m hQ hK hV hO t) (blk_k m hK t) (blk_v m hV t)
      (fun r j => power Q K (t.val / 8) r (1024 * (grid0.coords t 1).val + j)) (fun r j hr => prob_zero Q K hr) (fun r j => cotangent Q K V O (t.val / 8) r (1024 * (grid0.coords t 1).val + j)) hd y).trans ?_
    rw [tile, dqs_step Q K V O _ _ _ _ (y 0).isLt]
  · unfold leftB
    dsimp only
    refine (bodyB_dk (A := fun r d => rpad (qscaled Q) r (128 * (t.val / 8) + d)) (B := fun r d => lpad O r (128 * (t.val / 8) + d)) (Kt := fun j d => rpad K (1024 * (grid0.coords t 1).val + j) (128 * (t.val / 8) + d))
      (Vt := fun j d => opad V (1024 * (grid0.coords t 1).val + j) (128 * (t.val / 8) + d)) (P := fun r j => prob Q K (t.val / 8) r (1024 * (grid0.coords t 1).val + j))
      (G := fun r j => ds Q K V O (t.val / 8) r (1024 * (grid0.coords t 1).val + j)) (L := lse Q K (t.val / 8)) (M := dl Q K V O (t.val / 8)) (blk_q m hQ t) (blk_do m hO t) (blk_lse m hQ hK t) (blk_delta m hQ hK hV hO t) (blk_k m hK t) (blk_v m hV t)
      (fun r j => power Q K (t.val / 8) r (1024 * (grid0.coords t 1).val + j)) (fun r j hr => prob_zero Q K hr) (fun r j => cotangent Q K V O (t.val / 8) r (1024 * (grid0.coords t 1).val + j)) hd y).trans ?_
    rw [tile, part_dk Q K V O _ _ _ _ hk (y 1).isLt]
  · unfold leftB
    dsimp only
    refine (bodyB_dv (A := fun r d => rpad (qscaled Q) r (128 * (t.val / 8) + d)) (B := fun r d => lpad O r (128 * (t.val / 8) + d)) (Kt := fun j d => rpad K (1024 * (grid0.coords t 1).val + j) (128 * (t.val / 8) + d))
      (Vt := fun j d => opad V (1024 * (grid0.coords t 1).val + j) (128 * (t.val / 8) + d)) (P := fun r j => prob Q K (t.val / 8) r (1024 * (grid0.coords t 1).val + j))
      (G := fun r j => ds Q K V O (t.val / 8) r (1024 * (grid0.coords t 1).val + j)) (L := lse Q K (t.val / 8)) (M := dl Q K V O (t.val / 8)) (blk_q m hQ t) (blk_do m hO t) (blk_lse m hQ hK t) (blk_delta m hQ hK hV hO t) (blk_k m hK t) (blk_v m hV t)
      (fun r j => power Q K (t.val / 8) r (1024 * (grid0.coords t 1).val + j)) (fun r j hr => prob_zero Q K hr) (fun r j => cotangent Q K V O (t.val / 8) r (1024 * (grid0.coords t 1).val + j)) hd y).trans ?_
    rw [tile, part_dv Q K O _ _ _ _ hk (y 1).isLt]

include hQ hK hV hO in
/-- The three blocks after any point. -/
theorem left_all (n : ℕ) : ∀ hn : n < cfg0.N,
    (∀ y, (left m c n hn).1 y = (dqs Q K V O (n / 8) (1024 * (n % 8) + 1024) (y 0).val (y 1).val : EReal))
    ∧ (∀ y, (left m c n hn).2.1 y = (rpad (dk Q K V O) (1024 * (n % 8) + (y 0).val) (128 * (n / 8) + (y 1).val) : EReal))
    ∧ ∀ y, (left m c n hn).2.2 y = (lpad (dv Q K O) (1024 * (n % 8) + (y 0).val) (128 * (n / 8) + (y 1).val) : EReal) := by
  induction n with
  | zero =>
    intro hn
    rw [left_A m c ⟨0, hn⟩ (Nat.zero_mod _)]
    exact first_tile m hQ hK hV hO ⟨0, hn⟩ (Nat.zero_mod _)
  | succ n ih =>
    intro hn
    by_cases h : (n + 1) % 8 = 0
    · rw [left_A m c ⟨n + 1, hn⟩ h]
      exact first_tile m hQ hK hV hO ⟨n + 1, hn⟩ h
    · rw [left_B m c ⟨n + 1, hn⟩ h]
      refine next_tile m hQ hK hV hO ⟨n + 1, hn⟩ h _ fun y => ((ih (Nat.lt_of_succ_lt hn)).1 y).trans ?_
      dsimp only
      rw [show (n + 1) / 8 = n / 8 by omega, show 1024 * ((n + 1) % 8) = 1024 * (n % 8) + 1024 by omega]

include hQ hK hV hO in
/-- The queries' gradient after all points. -/
theorem arr_dq (i) : (dats m 0 c).arrAt 6 cfg0.N i = (rpad (dq Q K V O) (i 0).val (i 1).val : EReal) := by
  refine congrFun ((dats m 0 c).arrAt_eq_of_covers 6 (fun i => (rpad (dq Q K V O) (i 0).val (i 1).val : EReal)) (by decide +kernel) fun t ht y => ?_) i
  have h7 : t.val % 8 = 7 := (flush0_6 t).mp ht
  rw [after_6, (left_all m hQ hK hV hO t.val t.isLt).1, h7, show 1024 * 7 + 1024 = 8192 by norm_num, dqs_all Q K V O _ _ _ (y 1).isLt]
  blk_simp [idx t]
  rw [mul_comm]

include hQ hK hV hO in
/-- The keys' gradient after all points. -/
theorem arr_dk (i) : (dats m 0 c).arrAt 7 cfg0.N i = (rpad (dk Q K V O) (i 0).val (i 1).val : EReal) := by
  refine congrFun ((dats m 0 c).arrAt_eq_of_covers 7 (fun i => (rpad (dk Q K V O) (i 0).val (i 1).val : EReal)) (by decide +kernel) fun t _ y => ?_) i
  rw [after_7, (left_all m hQ hK hV hO t.val t.isLt).2.1]
  blk_simp [idx t]
  rw [mul_comm, mul_comm 128]

include hQ hK hV hO in
/-- The values' gradient after all points. -/
theorem arr_dv (i) : (dats m 0 c).arrAt 8 cfg0.N i = (lpad (dv Q K O) (i 0).val (i 1).val : EReal) := by
  refine congrFun ((dats m 0 c).arrAt_eq_of_covers 8 (fun i => (lpad (dv Q K O) (i 0).val (i 1).val : EReal)) (by decide +kernel) fun t _ y => ?_) i
  rw [after_8, (left_all m hQ hK hV hO t.val t.isLt).2.2]
  blk_simp [idx t]
  rw [mul_comm, mul_comm 128]

end Cert.Attn

end
-- ==== Proof.AttnRef.lean ====
/- What the reference of the attention's gradient computes. -/
module

public import proofs.«01_k».proof.Defs
public import proofs.«01_k».proof.Proof.AttnMath
public import proofs.«01_k».proof.Proof.Gen.AttnBwdRefIdeal.Run
public import proofs.«01_k».proof.Proof.Gen.AttnBwdRefIdeal.Read

@[expose] public section

set_option maxRecDepth 16384

noncomputable section

open Idealize.ShloMosaic Idealize.ShloMosaic.TcCoe Idealize.ShloMosaic.Pipeline Idealize.SL.Sem
open Cert.Lift

namespace Cert.Attn
open Cert.AttnBwdRefIdeal Cert.AttnBwdRefIdeal.Read

variable {x0 x1 : (⟨S8192x16x96, .f32⟩ : BufTy).Contents (Elt Ideal)} {x2 x3 : (⟨S8192x16x64, .f32⟩ : BufTy).Contents (Elt Ideal)}
  {Q K V O : ℕ → ℕ → ℕ → ℝ}
  (h0 : ∀ i, x0 i = (Q (i 0).val (i 1).val (i 2).val : EReal)) (h1 : ∀ i, x1 i = (K (i 0).val (i 1).val (i 2).val : EReal))
  (h2 : ∀ i, x2 i = (V (i 0).val (i 1).val (i 2).val : EReal)) (h3 : ∀ i, x3 i = (O (i 0).val (i 1).val (i 2).val : EReal))

attribute [local pointwise] val_main_cst_apply val_main_v1_apply val_main_v3_apply val_main_v4_apply val_main_cst_0_apply val_main_call0_v0_apply
  val_main_v6_1_apply val_main_call0_v2_apply val_main_call0_cst_apply val_main_v6_2_apply val_main_cst_1_apply val_main_cst_3_apply
  val_main_v24_apply val_main_v25_apply val_main_v26_apply val_main_cst_9_apply val_main_v30_apply val_main_cst_10_apply val_main_v33_apply
  val_main_v37_apply val_main_v41_apply val_main_v42_apply val_main_v43_apply val_main_cst_11_apply val_main_v47_apply
  val_main_cst_12_apply val_main_v50_apply val_main_v51_apply val_main_call1_cst_apply val_main_call1_v0_apply
  val_main_cst_13_apply val_main_v54_apply val_main_c_apply val_main_call2_v0_apply val_main_c_14_apply val_main_call3_v0_apply val_main_c_15_apply
  val_main_call4_v0_apply

include h0 h1 in
theorem ref_sc (i) : val_main_v2 (F := Ideal) x0 x1 i = (sc Q K (i 0).val (i 1).val (i 2).val : EReal) := by
  pointwise [val_main_v2_apply, val_main_v0_apply, h0, h1]
  rfl

include h0 h1 in
/-- The reference's masked scores. -/
theorem ref_masked (i) : val_main_v6_0 (F := Ideal) x0 x1 i = masked Q K (i 0).val (i 1).val (i 2).val := by
  pointwise [val_main_v6_0_apply, val_main_v5_apply, ref_sc h0 h1]
  exact select_le (i 2).isLt (i 1).isLt _ _

include h0 h1 in
theorem ref_fold (i) : val_main_v7 (F := Ideal) x0 x1 i = rowmax Q K (i 0).val (i 1).val := by
  pointwise [val_main_v7, ref_masked h0 h1]
  unfold rowmax
  rfl

include h0 h1 in
theorem ref_max (i) : val_main_v7 (F := Ideal) x0 x1 i = (top Q K (i 0).val (i 1).val : EReal) :=
  (ref_fold h0 h1 i).trans (top_eq Q K _ _)

include h0 h1 in
/-- The reference's row maxima. -/
theorem ref_top (i) : val_main_v14 (F := Ideal) x0 x1 i = (top Q K (i 0).val (i 1).val : EReal) := by
  rw [val_main_v14_apply, ref_max h0 h1]
  generalize top Q K _ _ = r
  pointwise [val_main_v13_apply]
  exact max_bot_left r

include h0 h1 in
/-- The reference's exponentials. -/
theorem ref_ex (i) : val_main_v27 (F := Ideal) x0 x1 i = (ex Q K (i 0).val (i 1).val (i 2).val : EReal) := by
  pointwise [val_main_v27_apply, ref_masked h0 h1, ref_top h0 h1]
  exact exp_masked Q K _ _ _

include h0 h1 in
theorem ref_den (i) : val_main_v29 (F := Ideal) x0 x1 i = (den Q K (i 0).val (i 1).val : EReal) := by
  pointwise [val_main_v29_apply, val_main_v28_apply, ref_ex h0 h1]
  exact congrArg Real.toEReal (by unfold den; ring)

include h0 h1 in
/-- The reference's weights. -/
theorem ref_prob (i) : val_main_v31 (F := Ideal) x0 x1 i = (prob Q K (i 0).val (i 1).val (i 2).val : EReal) := by
  pointwise [val_main_v31_apply, ref_ex h0 h1, ref_den h0 h1]
  exact div_real _ (den_pos Q K _ _).ne'

include h2 h3 in
theorem ref_dp (i) : val_main_v38 (F := Ideal) x2 x3 i = (dp V O (i 0).val (i 1).val (i 2).val : EReal) := by
  pointwise [val_main_v38_apply, h2, h3]
  rfl

include h0 h1 in
theorem ref_sq (i) : val_main_v34 (F := Ideal) x0 x1 i = ((1 / (den Q K (i 0).val (i 1).val * den Q K (i 0).val (i 1).val) : ℝ) : EReal) := by
  pointwise [val_main_v34_apply, val_main_v32_apply, ref_den h0 h1]
  have hd := (den_pos Q K (i 0).val (i 1).val).ne'
  exact div_real _ (mul_ne_zero hd hd)

include h0 h1 h2 h3 in
theorem ref_quot (i) : val_main_v48 (F := Ideal) x0 x1 x2 x3 i = ((dp V O (i 0).val (i 1).val (i 2).val / den Q K (i 0).val (i 1).val : ℝ) : EReal) := by
  pointwise [val_main_v48_apply, ref_dp h2 h3, ref_den h0 h1]
  exact div_real _ (den_pos Q K _ _).ne'

include h0 h1 h2 h3 in
/-- The reference's cotangent of the scores. -/
theorem ref_ds (i) : val_main_v53 (F := Ideal) x0 x1 x2 x3 i = (ds Q K V O (i 0).val (i 1).val (i 2).val : EReal) := by
  pointwise [val_main_v53_apply, val_main_v52_apply, val_main_v5_apply, ref_quot h0 h1 h2 h3, val_main_v49_apply, val_main_v46_apply, val_main_v45_apply,
    val_main_v44_apply, ref_dp h2 h3, ref_sq h0 h1, ref_ex h0 h1]
  have a : (i 1).val < 8192 := (i 1).isLt
  rw [select_le (i 2).isLt a, show ((i 0).val * 8192 + (i 1).val) / 8192 = (i 0).val by omega, show ((i 0).val * 8192 + (i 1).val) % 8192 = (i 1).val by omega,
    ds_eq]
  split_ifs with h
  · rfl
  · rw [ds_zero Q K V O (by omega)]; rfl

include h0 h1 h2 h3 in
theorem ref_dsc (i) : val_main_v55 (F := Ideal) x0 x1 x2 x3 i = ((ds Q K V O (i 0).val (i 1).val (i 2).val * scale : ℝ) : EReal) := by
  pointwise [val_main_v55_apply, ref_ds h0 h1 h2 h3]

include h0 h1 h2 h3 in
/-- The reference's gradient of the keys. -/
theorem ref_dk (i) : val_main_v57 (F := Ideal) x0 x1 x2 x3 i = (dk Q K V O (i 0).val (i 1).val (i 2).val : EReal) := by
  pointwise [val_main_v57_apply, val_main_v56_apply, ref_dsc h0 h1 h2 h3, h0]
  exact congrArg Real.toEReal (Finset.sum_congr rfl fun k _ => by ring)

include h0 h1 h2 h3 in
/-- The reference's gradient of the queries. -/
theorem ref_dq (i) : val_main_v59 (F := Ideal) x0 x1 x2 x3 i = (dq Q K V O (i 0).val (i 1).val (i 2).val : EReal) := by
  pointwise [val_main_v59_apply, val_main_v58_apply, ref_dsc h0 h1 h2 h3, h1]
  exact congrArg Real.toEReal (Finset.sum_congr rfl fun k _ => by ring)

include h0 h1 h3 in
/-- The reference's gradient of the values. -/
theorem ref_dv (i) : val_main_v40 (F := Ideal) x0 x1 x3 i = (dv Q K O (i 0).val (i 1).val (i 2).val : EReal) := by
  pointwise [val_main_v40_apply, val_main_v39_apply, ref_prob h0 h1, h3]
  exact congrArg Real.toEReal (Finset.sum_congr rfl fun k _ => by ring)

include h0 h1 h2 h3 in
/-- The reference's first result: the queries' gradient, each head's 96 columns before 32 zeros. -/
theorem ref_res0 (i) : val_main_v61 (F := Ideal) x0 x1 x2 x3 i = (rpad (dq Q K V O) (i 0).val (i 1).val : EReal) := by
  pointwise [val_main_v61_apply, val_main_v60, ref_dq h0 h1 h2 h3]
  have b : (i 1).val < 2048 := (i 1).isLt
  unfold rpad
  by_cases h : (i 1).val % 128 < 96
  · rw [dif_pos (by omega), if_pos h]
    refine congrArg Real.toEReal (congr (congrArg₂ _ ?_ ?_) ?_) <;> omega
  · rw [dif_neg (by omega), if_neg h]
    exact congrArg Real.toEReal (Int.cast_zero)

include h0 h1 h2 h3 in
/-- The second: the keys' gradient, padded alike. -/
theorem ref_res1 (i) : val_main_v63 (F := Ideal) x0 x1 x2 x3 i = (rpad (dk Q K V O) (i 0).val (i 1).val : EReal) := by
  pointwise [val_main_v63_apply, val_main_v62, ref_dk h0 h1 h2 h3]
  have b : (i 1).val < 2048 := (i 1).isLt
  unfold rpad
  by_cases h : (i 1).val % 128 < 96
  · rw [dif_pos (by omega), if_pos h]
    refine congrArg Real.toEReal (congr (congrArg₂ _ ?_ ?_) ?_) <;> omega
  · rw [dif_neg (by omega), if_neg h]
    exact congrArg Real.toEReal (Int.cast_zero)

include h0 h1 h3 in
/-- The third: the values' gradient, each head's 64 columns behind 64 zeros. -/
theorem ref_res2 (i) : val_main_v65 (F := Ideal) x0 x1 x3 i = (lpad (dv Q K O) (i 0).val (i 1).val : EReal) := by
  pointwise [val_main_v65_apply, val_main_v64, ref_dv h0 h1 h3]
  have b : (i 1).val < 2048 := (i 1).isLt
  unfold lpad
  by_cases h : 64 ≤ (i 1).val % 128
  · rw [dif_pos (by omega), if_pos h]
    refine congrArg Real.toEReal (congr (congrArg₂ _ ?_ ?_) ?_) <;> omega
  · rw [dif_neg (by omega), if_neg h]
    exact congrArg Real.toEReal (Int.cast_zero)

end Cert.Attn

end
-- ==== Proof.AttnFrames.lean ====
/- The attention's gradient: the frames of the kernel at both instances and of the reference. -/
module

public import proofs.«01_k».proof.Proof.AttnRef
public import proofs.«01_k».proof.Proof.AttnFrame
public import proofs.«01_k».proof.Proof.AttnBitsFrame

@[expose] public section

noncomputable section

open Idealize.ShloMosaic

namespace Cert.Attn

/-- The reference runs and leaves its arguments as they were. -/
theorem frame_ref : quiescent_AttnBwdRefIdeal := fun m ρ _ =>
  (θ_run AttnBwdRefIdeal.defs _ _).mono (fun r h => ⟨fun c => (h c).2.2.2, sem_eq_zero_of_no_sems (by decide) r.2⟩) (AttnBwdRefIdeal.Value.run m ρ)

end Cert.Attn

end
-- ==== Proof.AttnEq.lean ====
/- The attention's backward kernel and its reference leave the same gradients on finite arguments. -/
module

public import proofs.«01_k».proof.Proof.AttnLeft
public import proofs.«01_k».proof.Proof.AttnFrames
public import proofs.«01_k».proof.Proof.Gen.Pre_finite_at

@[expose] public section

set_option maxRecDepth 16384

noncomputable section

open Idealize.ShloMosaic Idealize.ShloMosaic.TcCoe Idealize.ShloMosaic.Pipeline Idealize.SL.Sem
open Cert.Lift

namespace Cert.Attn

section run
open Cert.AttnBwdIdeal Cert.AttnBwdIdeal.Gen Cert.AttnBwdIdeal.Body

variable (m : (ℓ : Loc nD τ sig) → Buf (Elt Ideal) ℓ) (ρ : Dev nD → PrngReg)

/-- The call ends with its three results at what the points' blocks add up to, and its arguments as they were. -/
theorem run_blocks : θ_run (defs (F := Ideal)) (onTc (τ := τ) (main (F := Ideal))) ⟨m, fun _ => 0, ρ⟩ (fun r => ∀ c : Dev nD,
      r.2.mem ((c.tc : Thread nD τ).loc main_v49_0) = (dats m 0 c).arrAt 6 cfg0.N
      ∧ r.2.mem ((c.tc : Thread nD τ).loc main_v49_1) = (dats m 0 c).arrAt 7 cfg0.N
      ∧ r.2.mem ((c.tc : Thread nD τ).loc main_v49_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 6, (h c).1 7, (h c).1 8,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end run

/-- The precondition says that the arguments are arrays of reals. -/
theorem reals {x0 x1 : FVec Ideal Pre_finite_at.S8192x16x96 .f32} {x2 x3 : FVec Ideal Pre_finite_at.S8192x16x64 .f32}
    (h : Pre_finite_at.fn (F := Ideal) x0 x1 x2 x3 = fun _ => 1#1) :
    (∃ Q : ℕ → ℕ → ℕ → ℝ, ∀ i, x0 i = (Q (i 0).val (i 1).val (i 2).val : EReal)) ∧ (∃ K : ℕ → ℕ → ℕ → ℝ, ∀ i, x1 i = (K (i 0).val (i 1).val (i 2).val : EReal))
      ∧ (∃ V : ℕ → ℕ → ℕ → ℝ, ∀ i, x2 i = (V (i 0).val (i 1).val (i 2).val : EReal)) ∧ ∃ O : ℕ → ℕ → ℕ → ℝ, ∀ i, x3 i = (O (i 0).val (i 1).val (i 2).val : EReal) := by
  have e := congrFun h fun a => a.elim0
  obtain ⟨e, e3⟩ := IntOp.andi_eq_one.1 e
  obtain ⟨e, e2⟩ := IntOp.andi_eq_one.1 e
  obtain ⟨e0, e1⟩ := IntOp.andi_eq_one.1 e
  exact ⟨lift3 _ (real_of_all x0 _ (fun _ => rfl) _ _ _ _ e0), lift3 _ (real_of_all x1 _ (fun _ => rfl) _ _ _ _ e1),
    lift3 _ (real_of_all x2 _ (fun _ => rfl) _ _ _ _ e2), lift3 _ (real_of_all x3 _ (fun _ => rfl) _ _ _ _ e3)⟩

/-- On finite arguments both programs leave the same gradients of the queries, the keys and the values. -/
theorem algebraic : algebraic_AttnBwdIdeal_AttnBwdRefIdeal_pre_finite_at := by
  intro m ρ m' ρ' hpre harg
  refine ⟨fun c => (AttnBwdIdeal.Body.dats m 0 c).arrAt 6 _, fun c => (AttnBwdIdeal.Body.dats m 0 c).arrAt 7 _, fun c => (AttnBwdIdeal.Body.dats m 0 c).arrAt 8 _,
    run_blocks m ρ, ?_⟩
  refine (θ_run AttnBwdRefIdeal.defs _ _).mono (fun r h c => ?_) (AttnBwdRefIdeal.Value.run m' ρ')
  obtain ⟨⟨Q, hQ⟩, ⟨K, hK⟩, ⟨V, hV⟩, O, hO⟩ := reals (hpre c)
  obtain ⟨a0, a1, a2, a3⟩ := harg c
  obtain ⟨r0, r1, r2, k⟩ := h c
  refine ⟨r0.trans ?_, r1.trans ?_, r2.trans ?_, k⟩
  · rw [AttnBwdRefIdeal.Read.val_main_v61_eq]
    simp only [StableHlo.launchContents_devRef, a0, a1, a2, a3]
    exact funext fun i => (ref_res0 hQ hK hV hO i).trans (arr_dq m hQ hK hV hO i).symm
  · rw [AttnBwdRefIdeal.Read.val_main_v63_eq]
    simp only [StableHlo.launchContents_devRef, a0, a1, a2, a3]
    exact funext fun i => (ref_res1 hQ hK hV hO i).trans (arr_dk m hQ hK hV hO i).symm
  · rw [AttnBwdRefIdeal.Read.val_main_v65_eq]
    simp only [StableHlo.launchContents_devRef, a0, a1, a3]
    exact funext fun i => (ref_res2 hQ hK hO i).trans (arr_dv m hQ hK hV hO i).symm

end Cert.Attn

end
-- ==== Proof.ModNorm.lean ====
/- The derivative of the modulated root-mean-square norm: the gradients of its argument, gain, shift and scale for a cotangent of its result. -/
module

public import proofs.«01_k».proof.Proof.Norm

@[expose] public section

noncomputable section

namespace Cert.ModNorm

open Cert.Lift Cert.Norm

variable (H G : ℕ → ℕ → ℝ) (g sc : ℕ → ℝ) (p j : ℕ)

/-- The normalised row. -/
def xn : ℝ := H p j * rr H p
/-- The modulated norm: the normalised row times the gain and one more than the scale, with the shift. -/
def mod (sh : ℕ → ℝ) : ℝ := xn H p j * g j * (1 + sc j) + sh j
/-- The gradient before the modulation, for the cotangent `G`. -/
def dy : ℝ := G p j * (1 + sc j)
/-- The gradient of the normalised row. -/
def dxn : ℝ := dy G sc p j * g j
/-- The gradient of the norm's argument. -/
def dh : ℝ := rr H p * (dxn G g sc p j - xn H p j * ((∑ k : Fin 1024, dxn G g sc p k * xn H p k) / 1024))
/-- What the rows `b * t` up to `b * t + b` add to the gradients of the gain, the shift and the scale. -/
def part (b t i : ℕ) : ℝ :=
  if i = 2 then ∑ q : Fin b, G (b * t + q) j * (xn H (b * t + q) j * g j)
  else if i = 1 then ∑ q : Fin b, G (b * t + q) j
  else if i = 0 then ∑ q : Fin b, dy G sc (b * t + q) j * xn H (b * t + q) j
  else 0
/-- The gradients of the gain, the shift and the scale, one to a row. -/
def sums (i : ℕ) : ℝ :=
  if i = 0 then ∑ q : Fin 8192, dy G sc q j * xn H q j else if i = 1 then ∑ q : Fin 8192, G q j
  else if i = 2 then ∑ q : Fin 8192, G q j * (xn H q j * g j) else 0

/-- The shares of `n` blocks of `b` rows add to the sums over all rows. -/
theorem parts (n b i : ℕ) (h : n * b = 8192) : ∑ s ∈ Finset.range n, part H G g sc j b s i = sums H G g sc j i := by
  unfold part sums
  rw [← h]
  split_ifs <;> first
    | omega
    | exact sum_blocks n b fun q => G q j * (xn H q j * g j)
    | exact sum_blocks n b fun q => G q j
    | exact sum_blocks n b fun q => dy G sc q j * xn H q j
    | exact Finset.sum_const_zero

end Cert.ModNorm

end
-- ==== Proof.FfnRef.lean ====
/- What the reference of the feed-forward block's backward step computes, element by element, on real arrays. -/
module

public import proofs.«01_k».proof.Proof.ModNorm
public import proofs.«01_k».proof.Proof.Gen.FfnRefIdeal.Read

@[expose] public section

set_option maxRecDepth 16384

noncomputable section

open Idealize.ShloMosaic Cert.Lift Cert.Norm Cert.ModNorm Cert.FfnRefIdeal Cert.FfnRefIdeal.Read

namespace Cert.FeedFwd

section real
variable (Y AB W V : ℕ → ℕ → ℝ) (ga : ℕ → ℝ) (p n : ℕ)

/-- The product of the modulated norm and the first weight: the gate's argument in the left half of the columns, the value in the right one. -/
def ab (H W : ℕ → ℕ → ℝ) (g sh sc : ℕ → ℝ) : ℝ := ∑ k : Fin 1024, mod H g sc p k sh * W k n
/-- The gate times the value. -/
def act : ℝ := AB p n * sg (AB p n) * AB p (2816 + n)
/-- The gradient of the gated value: half the gated cotangent times the transposed second weight. -/
def dt : ℝ := ∑ k : Fin 1024, 1 / 2 * ga k * Y p k * V n k
/-- The gradient of the gate's argument. -/
def da : ℝ := dt Y V ga p n * AB p (2816 + n) * (sg (AB p n) * (1 + AB p n * (1 - sg (AB p n))))
/-- The gradient of the value. -/
def db : ℝ := dt Y V ga p n * (AB p n * sg (AB p n))
/-- The gradient of the modulated norm. -/
def du (j : ℕ) : ℝ := ∑ n : Fin 2816, da Y AB V ga p n * W j n + ∑ n : Fin 2816, db Y AB V ga p n * W j (2816 + n)
end real

section reference

variable {x0 x1 : (⟨S8192x1024, .f32⟩ : BufTy).Contents (Elt Ideal)} {x2 x3 x4 x5 : (⟨S1024, .f32⟩ : BufTy).Contents (Elt Ideal)}
  {x6 : (⟨S1024x5632, .f32⟩ : BufTy).Contents (Elt Ideal)} {x7 : (⟨S2816x1024, .f32⟩ : BufTy).Contents (Elt Ideal)}
  {Y H W V : ℕ → ℕ → ℝ} {g sh sc ga : ℕ → ℝ}
  (h0 : ∀ i, x0 i = (Y (i 0).val (i 1).val : EReal)) (h1 : ∀ i, x1 i = (H (i 0).val (i 1).val : EReal))
  (h2 : ∀ i, x2 i = (g (i 0).val : EReal)) (h3 : ∀ i, x3 i = (sh (i 0).val : EReal)) (h4 : ∀ i, x4 i = (sc (i 0).val : EReal))
  (h5 : ∀ i, x5 i = (ga (i 0).val : EReal)) (h6 : ∀ i, x6 i = (W (i 0).val (i 1).val : EReal)) (h7 : ∀ i, x7 i = (V (i 0).val (i 1).val : EReal))

attribute [local pointwise] val_main_cst_apply val_main_v0_apply val_main_v1_apply val_main_cst_0_apply val_main_v2_apply val_main_v3_apply
  val_main_cst_1_apply val_main_v4_apply val_main_v5_apply val_main_cst_2_apply val_main_v6_apply val_main_v9_apply val_main_cst_3_apply
  val_main_v10_apply val_main_v11_apply val_main_v12_apply val_main_v14_apply val_main_v15_apply val_main_v17_apply val_main_cst_4_apply
  val_main_v18_apply val_main_v19_apply val_main_v20_apply val_main_v21_apply val_main_v22_apply val_main_v23_apply
  val_main_v27_apply val_main_v28_apply val_main_call0_v0_apply val_main_call0_v1_apply val_main_call0_cst_apply val_main_call0_v2_apply
  val_main_call0_v3_apply val_main_call0_cst_0_apply val_main_call0_v4_apply val_main_call0_cst_1_apply val_main_call0_v6_apply
  val_main_call0_v7_apply val_main_v29_1_apply val_main_v29_0_apply val_main_v31_apply val_main_cst_5_apply val_main_v32_apply val_main_v33_apply
  val_main_v34_apply val_main_v35_apply val_main_v36_apply val_main_v37_apply val_main_v38_apply val_main_v39_apply val_main_v40_apply
  val_main_v43_apply val_main_call1_v0_apply val_main_call1_v1_apply val_main_call1_v2_apply val_main_cst_6_apply val_main_v47_apply
  val_main_v48_apply val_main_cst_7_apply val_main_v49_apply val_main_v50_apply val_main_cst_8_apply val_main_v51_apply val_main_v52_apply
  val_main_v53_apply val_main_cst_9_apply val_main_v55_apply val_main_v56_apply val_main_cst_10_apply val_main_v57_apply val_main_v58_apply
  val_main_v59_apply val_main_cst_11_apply val_main_v61_apply val_main_v62_apply val_main_cst_12_apply val_main_v63_apply val_main_v64_apply
  val_main_v65_apply val_main_v66_apply val_main_v67_apply val_main_v68_apply val_main_cst_13_apply val_main_v69_apply val_main_v70_apply
  val_main_cst_14_apply val_main_v71_apply val_main_v72_apply val_main_v73_apply val_main_v74_apply val_main_v75_apply val_main_v77_apply
  val_main_v78_apply val_main_v79_apply val_main_v80_apply val_main_v81_apply val_main_v82_apply val_main_v83_apply val_main_v84_apply
  val_main_v85_apply val_main_cst_15_apply val_main_v86_apply

include h1 in
theorem ref_ms (i) : val_main_v7 (F := Ideal) x1 i = (ms H (i 0).val : EReal) := by
  pointwise [val_main_v7_apply, h1]; rfl

include h1 in
theorem ref_rr (i) : val_main_v8 (F := Ideal) x1 i = (rr H (i 0).val : EReal) := by
  pointwise [val_main_v8_apply, ref_ms h1, rsqrt_real (ms_pos H _)]; rfl

include h1 in
theorem ref_xn (i) : val_main_v13 (F := Ideal) x1 i = (xn H (i 0).val (i 1).val : EReal) := by
  pointwise [val_main_v13_apply, ref_rr h1, h1]; rfl

include h1 h2 in
theorem ref_xg (i) : val_main_v16 (F := Ideal) x1 x2 i = (xn H (i 0).val (i 1).val * g (i 1).val : ℝ) := by
  pointwise [val_main_v16_apply, ref_xn h1, h2]

include h1 h2 h3 h4 in
theorem ref_u (i) : val_main_v24 (F := Ideal) x1 x2 x3 x4 i = (mod H g sc (i 0).val (i 1).val sh : EReal) := by
  pointwise [val_main_v24_apply, ref_xg h1 h2, h3, h4]; rfl

include h1 h2 h3 h4 h6

theorem ref_pre (i) : val_main_v25 (F := Ideal) x1 x2 x3 x4 x6 i = (ab (i 0).val (i 1).val H W g sh sc : EReal) := by
  pointwise [val_main_v25_apply, ref_u h1 h2 h3 h4, h6]; rfl

theorem ref_ab (i) : val_main_v26 (F := Ideal) x1 x2 x3 x4 x6 i = (ab (i 0).val (i 1).val H W g sh sc : EReal) := by
  pointwise [val_main_v26_apply, ref_pre h1 h2 h3 h4 h6]

theorem ref_sg (i) : val_main_v29_2 (F := Ideal) x1 x2 x3 x4 x6 i = (sg (ab (i 0).val (i 1).val H W g sh sc) : EReal) := by
  pointwise [val_main_v29_2_apply, ref_ab h1 h2 h3 h4 h6]

/-- The gated value. -/
theorem ref_act (i) : val_main_v30 (F := Ideal) x1 x2 x3 x4 x6 i = (act (fun p n => ab p n H W g sh sc) (i 0).val (i 1).val : EReal) := by
  pointwise [val_main_v30_apply, ref_sg h1 h2 h3 h4 h6, ref_ab h1 h2 h3 h4 h6]; rfl

include h0 h5 h7

omit h1 h2 h3 h4 h6 in
theorem ref_dt (i) : val_main_v41 (F := Ideal) x0 x5 x7 i = (dt Y V ga (i 0).val (i 1).val : EReal) := by
  pointwise [val_main_v41_apply, h0, h5, h7]
  refine congrArg Real.toEReal (Finset.sum_congr rfl fun k _ => ?_)
  rw [show ((i 0).val * 1024 + k.val) / 1024 = (i 0).val by omega, show ((i 0).val * 1024 + k.val) % 1024 = k.val by omega]

/-- The gradient of the gate's argument. -/
theorem ref_da (i) : val_main_v44 (F := Ideal) x0 x1 x2 x3 x4 x5 x6 x7 i = (da Y (fun p n => ab p n H W g sh sc) V ga (i 0).val (i 1).val : EReal) := by
  pointwise [val_main_v44_apply, ref_sg h1 h2 h3 h4 h6, ref_ab h1 h2 h3 h4 h6, ref_dt h0 h5 h7]
  exact congrArg Real.toEReal (by unfold da; ring)

/-- The gradient of the value. -/
theorem ref_db (i) : val_main_v42 (F := Ideal) x0 x1 x2 x3 x4 x5 x6 x7 i = (db Y (fun p n => ab p n H W g sh sc) V ga (i 0).val (i 1).val : EReal) := by
  pointwise [val_main_v42_apply, ref_sg h1 h2 h3 h4 h6, ref_ab h1 h2 h3 h4 h6, ref_dt h0 h5 h7]
  exact congrArg Real.toEReal (by unfold db; ring)

/-- The two gradients side by side. -/
theorem ref_dab (i) : val_main_v45 (F := Ideal) x0 x1 x2 x3 x4 x5 x6 x7 i
    = (if (i 1).val < 2816 then da Y (fun p n => ab p n H W g sh sc) V ga (i 0).val (i 1).val
      else db Y (fun p n => ab p n H W g sh sc) V ga (i 0).val ((i 1).val - 2816) : ℝ) := by
  have a : (i 1).val < 5632 := (i 1).isLt
  by_cases h : (i 1).val < 2816
  · pointwise [val_main_v45, ref_da h0 h1 h2 h3 h4 h5 h6 h7, ref_db h0 h1 h2 h3 h4 h5 h6 h7]
    rw [if_pos h, dif_pos (by omega)]
  · pointwise [val_main_v45, ref_da h0 h1 h2 h3 h4 h5 h6 h7, ref_db h0 h1 h2 h3 h4 h5 h6 h7]
    rw [if_neg h, dif_neg (by omega)]

theorem ref_du (i) : val_main_v46 (F := Ideal) x0 x1 x2 x3 x4 x5 x6 x7 i = (du Y (fun p n => ab p n H W g sh sc) W V ga (i 0).val (i 1).val : EReal) := by
  pointwise [val_main_v46_apply, ref_dab h0 h1 h2 h3 h4 h5 h6 h7, h6]
  rfl

theorem ref_dy (i) : val_main_v54 (F := Ideal) x0 x1 x2 x3 x4 x5 x6 x7 i
    = (dy (du Y (fun p n => ab p n H W g sh sc) W V ga) sc (i 0).val (i 1).val : EReal) := by
  pointwise [val_main_v54_apply, ref_du h0 h1 h2 h3 h4 h5 h6 h7, h4]; rfl

theorem ref_dxn (i) : val_main_v60 (F := Ideal) x0 x1 x2 x3 x4 x5 x6 x7 i
    = (dxn (du Y (fun p n => ab p n H W g sh sc) W V ga) g sc (i 0).val (i 1).val : EReal) := by
  pointwise [val_main_v60_apply, ref_dy h0 h1 h2 h3 h4 h5 h6 h7, h2]; rfl

/-- The gradient of the block's argument. -/
theorem ref_dh (i) : val_main_v76 (F := Ideal) x0 x1 x2 x3 x4 x5 x6 x7 i
    = (Y (i 0).val (i 1).val + dh H (du Y (fun p n => ab p n H W g sh sc) W V ga) g sc (i 0).val (i 1).val : ℝ) := by
  pointwise [val_main_v76_apply, ref_dxn h0 h1 h2 h3 h4 h5 h6 h7, ref_rr h1, ref_ms h1, div_real _ (ms_pos H _).ne', h0, h1]
  refine congrArg Real.toEReal ?_
  have e := bwd H (dxn (du Y (fun p n => ab p n H W g sh sc) W V ga) g sc (i 0).val) (i 0).val (i 1).val
  unfold dh xn
  rw [← e]; ring

/-- The gradients of the gain, the shift and the scale, one to a row of eight, the others zero. -/
theorem ref_sums (i) : val_main_v87 (F := Ideal) x0 x1 x2 x3 x4 x5 x6 x7 i
    = (sums H (du Y (fun p n => ab p n H W g sh sc) W V ga) g sc (i 1).val (i 0).val : EReal) := by
  pointwise [val_main_v87, ref_dy h0 h1 h2 h3 h4 h5 h6 h7, ref_du h0 h1 h2 h3 h4 h5 h6 h7, ref_xn h1, ref_xg h1 h2]
  unfold sums
  split_ifs <;> first | rfl | omega | exact congrArg Real.toEReal (Finset.sum_congr rfl fun q _ => mul_comm _ _)

end reference

end Cert.FeedFwd

end
-- ==== Proof.FfnKer.lean ====
/- What the feed-forward block's backward step computes of one block of rows, on real arrays. -/
module

public import proofs.«01_k».proof.Proof.FfnRef
public import proofs.«01_k».proof.Proof.Gen.FfnIdeal.Value

@[expose] public section

set_option maxRecDepth 16384

noncomputable section

open Idealize.ShloMosaic Idealize.ShloMosaic.TcCoe Idealize.ShloMosaic.Pipeline Idealize.SL.Sem
open Cert.Lift Cert.Norm Cert.ModNorm Cert.FfnIdeal Cert.FfnIdeal.Gen

namespace Cert.FeedFwd

/-- The gradient of the modulated norm from the two runs of columns in which it is added up. -/
theorem du_runs (Y AB W V : ℕ → ℕ → ℝ) (ga : ℕ → ℝ) (p j : ℕ) :
    ((∑ k : Fin 1536, da Y AB V ga p k * W j k) + ∑ k : Fin 1536, db Y AB V ga p k * W j (2816 + k))
        + (∑ k : Fin 1280, da Y AB V ga p (1536 + k) * W j (1536 + k)) + ∑ k : Fin 1280, db Y AB V ga p (1536 + k) * W j (2816 + (1536 + k))
      = du Y AB W V ga p j := by
  unfold du
  rw [Fin.sum_univ_add (a := 1536) (b := 1280) fun n : Fin 2816 => da Y AB V ga p n * W j n,
    Fin.sum_univ_add (a := 1536) (b := 1280) fun n : Fin 2816 => db Y AB V ga p n * W j (2816 + n)]
  simp only [Fin.val_castAdd, Fin.val_natAdd]
  ring

section block

variable {v0 v82 : Vec Ideal S256x1024 .f32} {v1 : Vec Ideal S8x1024 .f32} {v12 v15 : Vec Ideal S256x1536 .bf16} {v18 : Vec Ideal S1536x1024 .bf16}
  {v39 v43 : Vec Ideal S1024x1536 .bf16} {v47 v50 : Vec Ideal S256x1280 .bf16} {v53 : Vec Ideal S1280x1024 .bf16} {v74 v78 : Vec Ideal S1024x1280 .bf16}
  {Y H AB W V : ℕ → ℕ → ℝ} {g sc ga : ℕ → ℝ} {X : ℕ → ℕ → EReal}
  (h0 : ∀ i, v0 i = (Y (i 0).val (i 1).val : EReal)) (h82 : ∀ i, v82 i = (H (i 0).val (i 1).val : EReal))
  (h1 : ∀ i, v1 i = if (i 0).val = 0 then (g (i 1).val : EReal) else if (i 0).val = 2 then (sc (i 1).val : EReal)
    else if (i 0).val = 3 then (ga (i 1).val : EReal) else X (i 0).val (i 1).val)
  (h12 : ∀ i, v12 i = (AB (i 0).val (i 1).val : EReal)) (h15 : ∀ i, v15 i = (AB (i 0).val (2816 + (i 1).val) : EReal))
  (h18 : ∀ i, v18 i = (V (i 0).val (i 1).val : EReal))
  (h39 : ∀ i, v39 i = (W (i 0).val (i 1).val : EReal)) (h43 : ∀ i, v43 i = (W (i 0).val (2816 + (i 1).val) : EReal))
  (h47 : ∀ i, v47 i = (AB (i 0).val (1536 + (i 1).val) : EReal)) (h50 : ∀ i, v50 i = (AB (i 0).val (2816 + (1536 + (i 1).val)) : EReal))
  (h53 : ∀ i, v53 i = (V (1536 + (i 0).val) (i 1).val : EReal))
  (h74 : ∀ i, v74 i = (W (i 0).val (1536 + (i 1).val) : EReal)) (h78 : ∀ i, v78 i = (W (i 0).val (2816 + (1536 + (i 1).val)) : EReal))

include h0 h1 in
theorem pay_dy (i) : k0_pay8 (F := Ideal) v0 v1 i = (1 / 2 * ga (i 1).val * Y (i 0).val (i 1).val : ℝ) := by
  pointwise [k0_pay8, k0_pay6, h0, h1]

include h0 h1 h18 in
theorem pay_dt (i) : k0_pay12 (F := Ideal) v0 v1 v18 i = (dt Y V ga (i 0).val (i 1).val : EReal) := by
  pointwise [k0_pay12, pay_dy h0 h1, h18]; rfl

include h0 h1 h53 in
theorem pay_dt' (i) : k0_pay21 (F := Ideal) (k0_pay8 v0 v1) v53 i = (dt Y V ga (i 0).val (1536 + (i 1).val) : EReal) := by
  pointwise [k0_pay21, pay_dy h0 h1, h53]; rfl

include h12 h15 in
/-- The gated values, in the first run of columns and in the second. -/
theorem pay_act (i) : k0_pay15 (F := Ideal) v12 v15 i = (act AB (i 0).val (i 1).val : EReal) := by
  pointwise [k0_pay15, k0_pay14, k0_pay13, k0_pay10, k0_pay11, h12, h15]; rfl

include h47 h50 in
theorem pay_act' (i) : k0_pay24 (F := Ideal) v47 v50 i = (act AB (i 0).val (1536 + (i 1).val) : EReal) := by
  pointwise [k0_pay24, k0_pay23, k0_pay22, k0_pay19, k0_pay20, h47, h50]; rfl

include h0 h1 h12 h15 h18 in
/-- The gradients of the gate's argument and of the value, in the first run of columns. -/
theorem pay_da (i) : k0_pay16 (F := Ideal) v0 v1 v12 v15 v18 i = (da Y AB V ga (i 0).val (i 1).val : EReal) := by
  pointwise [k0_pay16, k0_pay13, k0_pay10, k0_pay11, pay_dt h0 h1 h18, h12, h15]; rfl

include h0 h1 h12 h18 in
theorem pay_db (i) : k0_pay17 (F := Ideal) v0 v1 v12 v18 i = (db Y AB V ga (i 0).val (i 1).val : EReal) := by
  pointwise [k0_pay17, k0_pay14, k0_pay13, k0_pay10, pay_dt h0 h1 h18, h12]; rfl

include h0 h1 h47 h50 h53 in
/-- The gradients of the gate's argument and of the value, in the second run of columns. -/
theorem pay_da' (i) : k0_pay25 (F := Ideal) (k0_pay8 v0 v1) v47 v50 v53 i = (da Y AB V ga (i 0).val (1536 + (i 1).val) : EReal) := by
  pointwise [k0_pay25, k0_pay22, k0_pay19, k0_pay20, pay_dt' h0 h1 h53, h47, h50]; rfl

include h0 h1 h47 h53 in
theorem pay_db' (i) : k0_pay26 (F := Ideal) (k0_pay8 v0 v1) v47 v53 i = (db Y AB V ga (i 0).val (1536 + (i 1).val) : EReal) := by
  pointwise [k0_pay26, k0_pay23, k0_pay22, k0_pay19, pay_dt' h0 h1 h53, h47]; rfl

include h0 h1 h12 h15 h18 h39 h43 h47 h50 h53 h74 h78 in
theorem pay_du (i) : k0_pay27 (F := Ideal) (k0_pay18 (k0_pay9 (F := Ideal)) (k0_pay16 v0 v1 v12 v15 v18) (k0_pay17 v0 v1 v12 v18) v39 v43)
    (k0_pay25 (k0_pay8 v0 v1) v47 v50 v53) (k0_pay26 (k0_pay8 v0 v1) v47 v53) v74 v78 i = (du Y AB W V ga (i 0).val (i 1).val : EReal) := by
  pointwise [k0_pay27, k0_pay18, k0_pay9, pay_da h0 h1 h12 h15 h18, pay_db h0 h1 h12 h18, pay_da' h0 h1 h47 h50 h53, pay_db' h0 h1 h47 h53, h39, h43, h74, h78]
  exact congrArg Real.toEReal (du_runs Y AB W V ga _ _)

end block

section norm

variable {v0 v46 v82 : Vec Ideal S256x1024 .f32} {v1 : Vec Ideal S8x1024 .f32} {v69 v71 : FVec Ideal S256x1280 .bf16} {v74 v78 : Vec Ideal S1024x1280 .bf16}
  {Y H G : ℕ → ℕ → ℝ} {g sc ga : ℕ → ℝ} {X : ℕ → ℕ → EReal}
  (h0 : ∀ i, v0 i = (Y (i 0).val (i 1).val : EReal)) (h82 : ∀ i, v82 i = (H (i 0).val (i 1).val : EReal))
  (h1 : ∀ i, v1 i = if (i 0).val = 0 then (g (i 1).val : EReal) else if (i 0).val = 2 then (sc (i 1).val : EReal)
    else if (i 0).val = 3 then (ga (i 1).val : EReal) else X (i 0).val (i 1).val)
  (hG : ∀ i, k0_pay27 (F := Ideal) v46 v69 v71 v74 v78 i = (G (i 0).val (i 1).val : EReal))

include h82 in
theorem pay_rr (i) : k0_pay28 (F := Ideal) v82 i = (rr H (i 0).val : EReal) := by
  pointwise [k0_pay28, h82]
  exact rsqrt_real (ms_pos H _)

include h82 in
theorem pay_xn (i) : k0_pay29 (F := Ideal) v82 i = (xn H (i 0).val (i 1).val : EReal) := by
  pointwise [k0_pay29, pay_rr h82, h82]; rfl

include h1 hG

theorem pay_dym (i) : k0_pay31 (F := Ideal) (k0_pay6 v1) v46 v69 v71 v74 v78 i = (dy G sc (i 0).val (i 1).val : EReal) := by
  pointwise [k0_pay31, k0_pay6, hG, h1]; rfl

omit hG in
theorem pay_g (i) : k0_pay30 (F := Ideal) (k0_pay6 v1) i = (g (i 1).val : EReal) := by
  pointwise [k0_pay30, k0_pay6, h1]

theorem pay_dxn (i) : k0_pay35 (F := Ideal) (k0_pay6 v1) v46 v69 v71 v74 v78 i = (dxn G g sc (i 0).val (i 1).val : EReal) := by
  pointwise [k0_pay35, pay_g h1, pay_dym h1 hG]; rfl

include h0 h82 in
/-- The gradient of the block's argument. -/
theorem pay_dh (i) : k0_pay1 (F := Ideal) v0 (k0_pay28 v82) (k0_pay29 v82) (k0_pay35 (k0_pay6 v1) v46 v69 v71 v74 v78) (k0_pay36 (k0_pay6 v1) v46 v69 v71 v74 v78 v82) i
    = (Y (i 0).val (i 1).val + dh H G g sc (i 0).val (i 1).val : ℝ) := by
  pointwise [k0_pay1, k0_pay36, pay_dxn h1 hG, pay_rr h82, pay_xn h82, h0]; rfl

include h82 in
/-- What the block adds to the gradients of the gain, the shift and the scale. -/
theorem pay_row0 (w : Vec Ideal S1x1024 .f32) (i) : k0_pay3 (F := Ideal) (k0_pay34 (k0_pay6 v1) v46 v69 v71 v74 v78 v82) w i
    = w i + (∑ q : Fin 256, dy G sc q (i 1).val * xn H q (i 1).val : ℝ) := by
  pointwise [k0_pay3, k0_pay34, pay_dym h1 hG, pay_xn h82]

omit h1 in
theorem pay_row1 (w : Vec Ideal S1x1024 .f32) (i) : k0_pay4 (F := Ideal) (k0_pay32 v46 v69 v71 v74 v78) w i = w i + (∑ q : Fin 256, G q (i 1).val : ℝ) := by
  pointwise [k0_pay4, k0_pay32, hG]

include h82 in
theorem pay_row2 (w : Vec Ideal S1x1024 .f32) (i) : k0_pay5 (F := Ideal) (k0_pay33 (k0_pay6 v1) v46 v69 v71 v74 v78 v82) w i
    = w i + (∑ q : Fin 256, G q (i 1).val * (xn H q (i 1).val * g (i 1).val) : ℝ) := by
  pointwise [k0_pay5, k0_pay33, hG, pay_g h1, pay_xn h82]

end norm

end Cert.FeedFwd

end
-- ==== Proof.FfnRun.lean ====
/- What the feed-forward block's backward step leaves in its arrays: the blocks it reads, and what each point and all of them write. -/
module

public import proofs.«01_k».proof.Proof.FfnKer
public import proofs.«01_k».proof.Proof.Rows

@[expose] public section

set_option maxRecDepth 16384

noncomputable section

open Idealize.ShloMosaic Idealize.ShloMosaic.TcCoe Idealize.ShloMosaic.Pipeline Idealize.SL.Sem
open Cert.Lift Cert.Norm Cert.ModNorm Cert.FfnIdeal Cert.FfnIdeal.Gen

namespace Cert.FeedFwd

/-- A part of a block, from row `r` and column `k` on. -/
theorem ld_frag {R n : ℕ} {x : Vec Ideal ⟨2, ![R, n]⟩ .bf16} {F : ℕ → ℕ → ℝ} (h : ∀ i, x i = (F (i 0).val (i 1).val : EReal))
    (r k a b : ℕ) (inb) (i : (⟨2, ![a, b]⟩ : Shape).Idx) :
    View.ld x (Rect.unit (s := ⟨2, ![R, n]⟩) ![r, k] ![a, b] inb) i = (F (r + (i 0).val) (k + (i 1).val) : EReal) := by
  refine (h _).trans (congrArg Real.toEReal (congrArg₂ F ?_ ?_))
  · exact Rect.idx_unit_val _ _ _ _ _
  · exact Rect.idx_unit_val _ _ _ _ _

/-- A block stored in two runs of columns. -/
theorem two_runs {F : ℕ → ℕ → ℝ} {p : Vec Ideal ⟨2, ![256, 1280]⟩ .bf16} {q : Vec Ideal ⟨2, ![256, 1536]⟩ .bf16}
    (hp : ∀ i, p i = (F (i 0).val (1536 + (i 1).val) : EReal)) (hq : ∀ i, q i = (F (i 0).val (i 1).val : EReal)) (inb inb') (i : S256x2816.Idx) :
    View.canon (Val := Elt Ideal) [⟨Rect.unit (s := S256x2816) ![0, 1536] ![256, 1280] inb, p⟩, ⟨Rect.unit (s := S256x2816) ![0, 0] ![256, 1536] inb', q⟩] i
      = (F (i 0).val (i 1).val : EReal) := by
  refine View.canon_apply_of_pieces (Val := Elt Ideal) (e := .bf16) (fun i : S256x2816.Idx => (F (i 0).val (i 1).val : EReal)) _ ?_ i ?_
  · simp only [List.forall_mem_cons, List.not_mem_nil, false_imp_iff, implies_true, and_true]
    refine ⟨fun x => (hp x).trans ?_, fun x => (hq x).trans ?_⟩ <;> refine congrArg Real.toEReal (congrArg₂ F ?_ ?_) <;>
      refine Eq.trans ?_ (Rect.idx_unit_val _ _ _ x _).symm <;> simp
  · have a : (i 0).val < 256 := (i 0).isLt
    have b : (i 1).val < 2816 := (i 1).isLt
    by_cases h : (i 1).val < 1536
    · refine ⟨_, List.mem_cons_of_mem _ List.mem_cons_self, (Rect.mem_set_unit (inb := inb')).mpr fun d => ?_⟩
      fin_cases d <;> simp <;> omega
    · refine ⟨_, List.mem_cons_self, (Rect.mem_set_unit (inb := inb)).mpr fun d => ?_⟩
      fin_cases d <;> simp <;> omega

section parts

variable {v0 : Vec Ideal S256x1024 .f32} {v1 : Vec Ideal S8x1024 .f32} {x2 x3 : Vec Ideal S256x2816 .bf16} {x5 : Vec Ideal S1024x5632 .bf16} {x6 : Vec Ideal S2816x1024 .bf16}
  {Y AB W V : ℕ → ℕ → ℝ} {g sc ga : ℕ → ℝ} {X : ℕ → ℕ → EReal}
  (h0 : ∀ i, v0 i = (Y (i 0).val (i 1).val : EReal))
  (h1 : ∀ i, v1 i = if (i 0).val = 0 then (g (i 1).val : EReal) else if (i 0).val = 2 then (sc (i 1).val : EReal)
    else if (i 0).val = 3 then (ga (i 1).val : EReal) else X (i 0).val (i 1).val)
  (h2 : ∀ i, x2 i = (AB (i 0).val (i 1).val : EReal)) (h3 : ∀ i, x3 i = (AB (i 0).val (2816 + (i 1).val) : EReal))
  (h5 : ∀ i, x5 i = (W (i 0).val (i 1).val : EReal)) (h6 : ∀ i, x6 i = (V (i 0).val (i 1).val : EReal))

include h2 in
theorem ld_ab (inb) (i) : View.ld x2 (Rect.unit (s := S256x2816) ![0, 0] ![256, 1536] inb) i = (AB (i 0).val (i 1).val : EReal) := by
  simpa only [Nat.zero_add] using ld_frag h2 0 0 256 1536 inb i

include h2 in
theorem ld_ab' (inb) (i) : View.ld x2 (Rect.unit (s := S256x2816) ![0, 1536] ![256, 1280] inb) i = (AB (i 0).val (1536 + (i 1).val) : EReal) := by
  simpa only [Nat.zero_add] using ld_frag h2 0 1536 256 1280 inb i

include h6 in
theorem ld_v (inb) (i) : View.ld x6 (Rect.unit (s := S2816x1024) ![0, 0] ![1536, 1024] inb) i = (V (i 0).val (i 1).val : EReal) := by
  simpa only [Nat.zero_add] using ld_frag h6 0 0 1536 1024 inb i

include h6 in
theorem ld_v' (inb) (i) : View.ld x6 (Rect.unit (s := S2816x1024) ![1536, 0] ![1280, 1024] inb) i = (V (1536 + (i 0).val) (i 1).val : EReal) := by
  simpa only [Nat.zero_add] using ld_frag h6 1536 0 1280 1024 inb i

include h5 in
theorem ld_w (k n : ℕ) (inb) (i : (⟨2, ![1024, n]⟩ : Shape).Idx) :
    View.ld x5 (Rect.unit (s := S1024x5632) ![0, k] ![1024, n] inb) i = (W (i 0).val (k + (i 1).val) : EReal) := by
  simpa only [Nat.zero_add] using ld_frag h5 0 k 1024 n inb i

include h0 h1 h2 h3 h5 h6 in
/-- The gradient of the modulated norm, from the parts of the blocks that the body loads. -/
theorem du_blk (a b c d e f k l n o) (i) : k0_pay27 (F := Ideal) (k0_pay18 (k0_pay9 (F := Ideal))
        (k0_pay16 v0 v1 (View.ld x2 (Rect.unit (s := S256x2816) ![0, 0] ![256, 1536] a)) (View.ld x3 (Rect.unit (s := S256x2816) ![0, 0] ![256, 1536] b))
          (View.ld x6 (Rect.unit (s := S2816x1024) ![0, 0] ![1536, 1024] c)))
        (k0_pay17 v0 v1 (View.ld x2 (Rect.unit (s := S256x2816) ![0, 0] ![256, 1536] a)) (View.ld x6 (Rect.unit (s := S2816x1024) ![0, 0] ![1536, 1024] c)))
        (View.ld x5 (Rect.unit (s := S1024x5632) ![0, 0] ![1024, 1536] d)) (View.ld x5 (Rect.unit (s := S1024x5632) ![0, 2816] ![1024, 1536] e)))
      (k0_pay25 (k0_pay8 v0 v1) (View.ld x2 (Rect.unit (s := S256x2816) ![0, 1536] ![256, 1280] f)) (View.ld x3 (Rect.unit (s := S256x2816) ![0, 1536] ![256, 1280] k))
        (View.ld x6 (Rect.unit (s := S2816x1024) ![1536, 0] ![1280, 1024] l)))
      (k0_pay26 (k0_pay8 v0 v1) (View.ld x2 (Rect.unit (s := S256x2816) ![0, 1536] ![256, 1280] f)) (View.ld x6 (Rect.unit (s := S2816x1024) ![1536, 0] ![1280, 1024] l)))
      (View.ld x5 (Rect.unit (s := S1024x5632) ![0, 1536] ![1024, 1280] n)) (View.ld x5 (Rect.unit (s := S1024x5632) ![0, 4352] ![1024, 1280] o)) i
    = (du Y AB W V ga (i 0).val (i 1).val : EReal) :=
  pay_du h0 h1 (ld_ab h2 a) (ld_ab (AB := fun p n => AB p (2816 + n)) h3 b) (ld_v h6 c) (fun i => by rw [ld_w h5 0 1536, Nat.zero_add]) (ld_w h5 2816 1536 e)
    (ld_ab' h2 f) (ld_ab' (AB := fun p n => AB p (2816 + n)) h3 k) (ld_v' h6 l) (ld_w h5 1536 1280 n)
    (fun i => by rw [ld_w h5 4352 1280, ← Nat.add_assoc]) i

end parts

section run

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![0, 0] :=
  (by decide +kernel : ∀ t : Fin grid0.N, _)

/-- What the host lines before the call leave, one list of them after another. -/
theorem V_eq (c : Dev nD) (b : Ref sig .tc) : V m c b = StableHlo.after hostOps0 (fun b => m (c, b)) (Proc.devRef .tc b) := by
  unfold V
  simp only [List.flatten_cons, List.flatten_nil, List.append_nil, StableHlo.after_append]

variable {Y H W V' : ℕ → ℕ → ℝ} {g sh sc ga : ℕ → ℝ} {c : Dev nD}
  (hY : ∀ i, m ((c : Thread nD τ).loc main_arg0) i = (Y (i 0).val (i 1).val : EReal))
  (hH : ∀ i, m ((c : Thread nD τ).loc main_arg1) i = (H (i 0).val (i 1).val : EReal))
  (hg : ∀ i, m ((c : Thread nD τ).loc main_arg2) i = (g (i 0).val : EReal))
  (hsh : ∀ i, m ((c : Thread nD τ).loc main_arg3) i = (sh (i 0).val : EReal))
  (hsc : ∀ i, m ((c : Thread nD τ).loc main_arg4) i = (sc (i 0).val : EReal))
  (hga : ∀ i, m ((c : Thread nD τ).loc main_arg5) i = (ga (i 0).val : EReal))
  (hW : ∀ i, m ((c : Thread nD τ).loc main_arg6) i = (W (i 0).val (i 1).val : EReal))
  (hV : ∀ i, m ((c : Thread nD τ).loc main_arg7) i = (V' (i 0).val (i 1).val : EReal))

include hY in
theorem blk_y (t : Fin cfg0.N) (i : S256x1024.Idx) : (iblk m c 0 t : Vec Ideal S256x1024 .f32) i = (Y (256 * t.val + (i 0).val) (i 1).val : EReal) := by
  blk_simp [iblk]
  rw [V_main_arg0, hY]
  blk_simp [idx t]
  rw [mul_comm]

include hH in
theorem blk_h (t : Fin cfg0.N) (i : S256x1024.Idx) : (iblk m c 1 t : Vec Ideal S256x1024 .f32) i = (H (256 * t.val + (i 0).val) (i 1).val : EReal) := by
  blk_simp [iblk]
  rw [V_main_arg1, hH]
  blk_simp [idx t]
  rw [mul_comm]

/-- The left and the right half of the first product, as the host lines before the call leave them. -/
theorem host_a : (V m c main_v24 : Vec Ideal S8192x2816 .bf16)
    = truncf (F := Ideal) (s := S8192x2816) .bf16 (extractStridedSlice (s := S8192x5632) S8192x2816 ![0, 0] (FfnRefIdeal.Read.val_main_v25 (F := Ideal)
      (m ((c : Thread nD τ).loc main_arg1)) (m ((c : Thread nD τ).loc main_arg2)) (m ((c : Thread nD τ).loc main_arg3)) (m ((c : Thread nD τ).loc main_arg4))
      (m ((c : Thread nD τ).loc main_arg6))) slices_S8192x5632_S8192x2816_0_0) bitsLt_bf16_f32 := by
  rw [V_eq]
  simp only [StableHlo.after_cons, StableHlo.after_nil]
  after_results_simp
  after_results_loop
  rfl

theorem host_b : (V m c main_v25 : Vec Ideal S8192x2816 .bf16)
    = truncf (F := Ideal) (s := S8192x2816) .bf16 (extractStridedSlice (s := S8192x5632) S8192x2816 ![0, 2816] (FfnRefIdeal.Read.val_main_v25 (F := Ideal)
      (m ((c : Thread nD τ).loc main_arg1)) (m ((c : Thread nD τ).loc main_arg2)) (m ((c : Thread nD τ).loc main_arg3)) (m ((c : Thread nD τ).loc main_arg4))
      (m ((c : Thread nD τ).loc main_arg6))) slices_S8192x5632_S8192x2816_0_2816) bitsLt_bf16_f32 := by
  rw [V_eq]
  simp only [StableHlo.after_cons, StableHlo.after_nil]
  after_results_simp
  after_results_loop
  rfl

include hH hg hsh hsc hW in
theorem half_a (i : S8192x2816.Idx) : (V m c main_v24 : Vec Ideal S8192x2816 .bf16) i = (ab (i 0).val (i 1).val H W g sh sc : EReal) :=
  by
  rw [host_a]
  pointwise [ref_pre hH hg hsh hsc hW]

include hH hg hsh hsc hW in
theorem blk_a (t : Fin cfg0.N) (i : S256x2816.Idx) : (iblk m c 2 t : Vec Ideal S256x2816 .bf16) i = (ab (256 * t.val + (i 0).val) (i 1).val H W g sh sc : EReal) := by
  blk_simp [iblk]
  rw [half_a m hH hg hsh hsc hW]
  blk_simp [idx t]
  rw [mul_comm]

include hH hg hsh hsc hW in
theorem half_b (i : S8192x2816.Idx) : (V m c main_v25 : Vec Ideal S8192x2816 .bf16) i = (ab (i 0).val (2816 + (i 1).val) H W g sh sc : EReal) :=
  by
  rw [host_b]
  pointwise [ref_pre hH hg hsh hsc hW]

include hH hg hsh hsc hW in
theorem blk_b (t : Fin cfg0.N) (i : S256x2816.Idx) : (iblk m c 3 t : Vec Ideal S256x2816 .bf16) i = (ab (256 * t.val + (i 0).val) (2816 + (i 1).val) H W g sh sc : EReal) := by
  blk_simp [iblk]
  rw [half_b m hH hg hsh hsc hW]
  blk_simp [idx t]
  rw [mul_comm]

/-- One of the rows that the host lines pack, read off the array they make. -/
theorem packed (k : ℕ) (i : S8x1024.Idx) (y : ℕ → ℝ) (h : k = 0 ∧ (∀ i, m ((c : Thread nD τ).loc main_arg2) i = (y (i 0).val : EReal))
      ∨ k = 2 ∧ (∀ i, m ((c : Thread nD τ).loc main_arg4) i = (y (i 0).val : EReal))
      ∨ k = 3 ∧ (∀ i, m ((c : Thread nD τ).loc main_arg5) i = (y (i 0).val : EReal)))
    (a : (i 0).val = k) : (V m c main_v31 : Vec Ideal S8x1024 .f32) i = (y (i 1).val : EReal) := by
  rw [V_eq]
  simp only [StableHlo.after_cons, StableHlo.after_nil]
  after_results_simp
  rcases h with ⟨rfl, h⟩ | ⟨rfl, h⟩ | ⟨rfl, h⟩
  · refine (Cert.Rows.concat_row _ _ i 0 (by simp) _ rfl 0 rfl a).trans ?_
    simp only [Matrix.cons_val]
    after_results_loop
    pointwise [h]
  · refine (Cert.Rows.concat_row _ _ i 2 (by simp) _ rfl 2 rfl a).trans ?_
    simp only [Matrix.cons_val]
    after_results_loop
    pointwise [h]
  · refine (Cert.Rows.concat_row _ _ i 3 (by simp) _ rfl 3 rfl a).trans ?_
    simp only [Matrix.cons_val]
    after_results_loop
    pointwise [h]

include hg hsc hga in
/-- The packed rows: the gain, the scale and the gate are rows 0, 2 and 3. -/
theorem blk_c : ∃ X : ℕ → ℕ → EReal, ∀ (t : Fin cfg0.N) (i : S8x1024.Idx), (iblk m c 4 t : Vec Ideal S8x1024 .f32) i
    = if (i 0).val = 0 then (g (i 1).val : EReal) else if (i 0).val = 2 then (sc (i 1).val : EReal)
      else if (i 0).val = 3 then (ga (i 1).val : EReal) else X (i 0).val (i 1).val := by
  obtain ⟨X, hX⟩ := lift2E (V m c main_v31 : Vec Ideal S8x1024 .f32)
  refine ⟨X, fun t i => ?_⟩
  have e : (iblk m c 4 t : Vec Ideal S8x1024 .f32) i = (V m c main_v31 : Vec Ideal S8x1024 .f32) i := by
    blk_simp [iblk]
    exact congrArg (V m c main_v31 : Vec Ideal S8x1024 .f32) (by blk_ext [idx t])
  rw [e]
  split_ifs with a b d
  · exact packed m 0 i g (.inl ⟨rfl, hg⟩) a
  · exact packed m 2 i sc (.inr (.inl ⟨rfl, hsc⟩)) b
  · exact packed m 3 i ga (.inr (.inr ⟨rfl, hga⟩)) d
  · exact hX i

include hW in
theorem blk_w (t : Fin cfg0.N) (i : S1024x5632.Idx) : (iblk m c 5 t : Vec Ideal S1024x5632 .bf16) i = (W (i 0).val (i 1).val : EReal) := by
  blk_simp [iblk]
  rw [V_eq]
  simp only [StableHlo.after_cons, StableHlo.after_nil]
  after_results_simp
  after_results_loop
  pointwise [hW]
  blk_simp [idx t]

include hV in
theorem blk_v (t : Fin cfg0.N) (i : S2816x1024.Idx) : (iblk m c 6 t : Vec Ideal S2816x1024 .bf16) i = (V' (i 0).val (i 1).val : EReal) := by
  blk_simp [iblk]
  rw [V_eq]
  simp only [StableHlo.after_cons, StableHlo.after_nil]
  after_results_simp
  after_results_loop
  pointwise [hV]
  blk_simp [idx t]

include hY hH hg hsh hsc hga hW hV

/-- What point `t` leaves of the gradient of the block's argument. -/
theorem out_dh (t : Fin cfg0.N) (j) : (outsAt0 m c t.val t.isLt).1 j
    = (Y (256 * t.val + (j 0).val) (j 1).val + dh H (du Y (fun p n => ab p n H W g sh sc) W V' ga) g sc (256 * t.val + (j 0).val) (j 1).val : ℝ) := by
  obtain ⟨X, hX⟩ := blk_c m hg hsc hga
  have hG := du_blk (Y := fun p j => Y (256 * t.val + p) j) (AB := fun p n => ab (256 * t.val + p) n H W g sh sc) (W := W) (V := V') (blk_y m hY t) (hX t)
    (blk_a m hH hg hsh hsc hW t) (blk_b m hH hg hsh hsc hW t) (blk_w m hW t) (blk_v m hV t)
  by_cases h : t.val % 32 = 0
  · rw [outsAt0_A m c t h]; frame_out
    exact pay_dh (Y := fun p j => Y (256 * t.val + p) j) (H := fun p j => H (256 * t.val + p) j) (blk_y m hY t) (blk_h m hH t) (hX t) (hG _ _ _ _ _ _ _ _ _ _) j
  · rw [outsAt0_B m c t h]; frame_out
    exact pay_dh (Y := fun p j => Y (256 * t.val + p) j) (H := fun p j => H (256 * t.val + p) j) (blk_y m hY t) (blk_h m hH t) (hX t) (hG _ _ _ _ _ _ _ _ _ _) j

/-- What point `t` leaves of the gradient of the gate's argument. -/
theorem out_da (t : Fin cfg0.N) (j) : (outsAt0 m c t.val t.isLt).2.1 j = (da Y (fun p n => ab p n H W g sh sc) V' ga (256 * t.val + (j 0).val) (j 1).val : EReal) := by
  obtain ⟨X, hX⟩ := blk_c m hg hsc hga
  by_cases h : t.val % 32 = 0
  · rw [outsAt0_A m c t h]; frame_out
    exact two_runs (F := fun p n => da (fun p j => Y (256 * t.val + p) j) (fun p n => ab (256 * t.val + p) n H W g sh sc) V' ga p n) (pay_da' (Y := fun p j => Y (256 * t.val + p) j) (AB := fun p n => ab (256 * t.val + p) n H W g sh sc) (V := V') (blk_y m hY t) (hX t) (ld_ab' (AB := fun p n => ab (256 * t.val + p) n H W g sh sc) (blk_a m hH hg hsh hsc hW t) _) (ld_ab' (AB := fun p n => ab (256 * t.val + p) (2816 + n) H W g sh sc) (blk_b m hH hg hsh hsc hW t) _) (ld_v' (blk_v m hV t) _)) (pay_da (Y := fun p j => Y (256 * t.val + p) j) (AB := fun p n => ab (256 * t.val + p) n H W g sh sc) (V := V') (blk_y m hY t) (hX t) (ld_ab (AB := fun p n => ab (256 * t.val + p) n H W g sh sc) (blk_a m hH hg hsh hsc hW t) _) (ld_ab (AB := fun p n => ab (256 * t.val + p) (2816 + n) H W g sh sc) (blk_b m hH hg hsh hsc hW t) _) (ld_v (blk_v m hV t) _)) _ _ j
  · rw [outsAt0_B m c t h]; frame_out
    exact two_runs (F := fun p n => da (fun p j => Y (256 * t.val + p) j) (fun p n => ab (256 * t.val + p) n H W g sh sc) V' ga p n) (pay_da' (Y := fun p j => Y (256 * t.val + p) j) (AB := fun p n => ab (256 * t.val + p) n H W g sh sc) (V := V') (blk_y m hY t) (hX t) (ld_ab' (AB := fun p n => ab (256 * t.val + p) n H W g sh sc) (blk_a m hH hg hsh hsc hW t) _) (ld_ab' (AB := fun p n => ab (256 * t.val + p) (2816 + n) H W g sh sc) (blk_b m hH hg hsh hsc hW t) _) (ld_v' (blk_v m hV t) _)) (pay_da (Y := fun p j => Y (256 * t.val + p) j) (AB := fun p n => ab (256 * t.val + p) n H W g sh sc) (V := V') (blk_y m hY t) (hX t) (ld_ab (AB := fun p n => ab (256 * t.val + p) n H W g sh sc) (blk_a m hH hg hsh hsc hW t) _) (ld_ab (AB := fun p n => ab (256 * t.val + p) (2816 + n) H W g sh sc) (blk_b m hH hg hsh hsc hW t) _) (ld_v (blk_v m hV t) _)) _ _ j

/-- What point `t` leaves of the gradient of the gated value. -/
theorem out_db (t : Fin cfg0.N) (j) : (outsAt0 m c t.val t.isLt).2.2.1 j = (db Y (fun p n => ab p n H W g sh sc) V' ga (256 * t.val + (j 0).val) (j 1).val : EReal) := by
  obtain ⟨X, hX⟩ := blk_c m hg hsc hga
  by_cases h : t.val % 32 = 0
  · rw [outsAt0_A m c t h]; frame_out
    exact two_runs (F := fun p n => db (fun p j => Y (256 * t.val + p) j) (fun p n => ab (256 * t.val + p) n H W g sh sc) V' ga p n) (pay_db' (Y := fun p j => Y (256 * t.val + p) j) (AB := fun p n => ab (256 * t.val + p) n H W g sh sc) (V := V') (blk_y m hY t) (hX t) (ld_ab' (AB := fun p n => ab (256 * t.val + p) n H W g sh sc) (blk_a m hH hg hsh hsc hW t) _) (ld_v' (blk_v m hV t) _)) (pay_db (Y := fun p j => Y (256 * t.val + p) j) (AB := fun p n => ab (256 * t.val + p) n H W g sh sc) (V := V') (blk_y m hY t) (hX t) (ld_ab (AB := fun p n => ab (256 * t.val + p) n H W g sh sc) (blk_a m hH hg hsh hsc hW t) _) (ld_v (blk_v m hV t) _)) _ _ j
  · rw [outsAt0_B m c t h]; frame_out
    exact two_runs (F := fun p n => db (fun p j => Y (256 * t.val + p) j) (fun p n => ab (256 * t.val + p) n H W g sh sc) V' ga p n) (pay_db' (Y := fun p j => Y (256 * t.val + p) j) (AB := fun p n => ab (256 * t.val + p) n H W g sh sc) (V := V') (blk_y m hY t) (hX t) (ld_ab' (AB := fun p n => ab (256 * t.val + p) n H W g sh sc) (blk_a m hH hg hsh hsc hW t) _) (ld_v' (blk_v m hV t) _)) (pay_db (Y := fun p j => Y (256 * t.val + p) j) (AB := fun p n => ab (256 * t.val + p) n H W g sh sc) (V := V') (blk_y m hY t) (hX t) (ld_ab (AB := fun p n => ab (256 * t.val + p) n H W g sh sc) (blk_a m hH hg hsh hsc hW t) _) (ld_v (blk_v m hV t) _)) _ _ j

/-- What point `t` leaves of the gated values. -/
theorem out_act (t : Fin cfg0.N) (j) : (outsAt0 m c t.val t.isLt).2.2.2.1 j = (act (fun p n => ab p n H W g sh sc) (256 * t.val + (j 0).val) (j 1).val : EReal) := by
  obtain ⟨X, hX⟩ := blk_c m hg hsc hga
  by_cases h : t.val % 32 = 0
  · rw [outsAt0_A m c t h]; frame_out
    exact two_runs (F := fun p n => act (fun p n => ab (256 * t.val + p) n H W g sh sc) p n) (pay_act' (AB := fun p n => ab (256 * t.val + p) n H W g sh sc) (ld_ab' (AB := fun p n => ab (256 * t.val + p) n H W g sh sc) (blk_a m hH hg hsh hsc hW t) _) (ld_ab' (AB := fun p n => ab (256 * t.val + p) (2816 + n) H W g sh sc) (blk_b m hH hg hsh hsc hW t) _)) (pay_act (AB := fun p n => ab (256 * t.val + p) n H W g sh sc) (ld_ab (AB := fun p n => ab (256 * t.val + p) n H W g sh sc) (blk_a m hH hg hsh hsc hW t) _) (ld_ab (AB := fun p n => ab (256 * t.val + p) (2816 + n) H W g sh sc) (blk_b m hH hg hsh hsc hW t) _)) _ _ j
  · rw [outsAt0_B m c t h]; frame_out
    exact two_runs (F := fun p n => act (fun p n => ab (256 * t.val + p) n H W g sh sc) p n) (pay_act' (AB := fun p n => ab (256 * t.val + p) n H W g sh sc) (ld_ab' (AB := fun p n => ab (256 * t.val + p) n H W g sh sc) (blk_a m hH hg hsh hsc hW t) _) (ld_ab' (AB := fun p n => ab (256 * t.val + p) (2816 + n) H W g sh sc) (blk_b m hH hg hsh hsc hW t) _)) (pay_act (AB := fun p n => ab (256 * t.val + p) n H W g sh sc) (ld_ab (AB := fun p n => ab (256 * t.val + p) n H W g sh sc) (blk_a m hH hg hsh hsc hW t) _) (ld_ab (AB := fun p n => ab (256 * t.val + p) (2816 + n) H W g sh sc) (blk_b m hH hg hsh hsc hW t) _)) _ _ j

omit hH hg hsh hsc hga hW hV in
/-- What point `t` leaves of the rounded cotangent. -/
theorem out_y (t : Fin cfg0.N) (j) : (outsAt0 m c t.val t.isLt).2.2.2.2.1 j = (Y (256 * t.val + (j 0).val) (j 1).val : EReal) := by
  by_cases h : t.val % 32 = 0
  · rw [outsAt0_A m c t h]; frame_out
    pointwise [k0_pay7, blk_y m hY t]
  · rw [outsAt0_B m c t h]; frame_out
    pointwise [k0_pay7, blk_y m hY t]

/-- The first point starts the sums over the rows at zero. -/
theorem out_first (t : Fin cfg0.N) (h : t.val % 32 = 0) (j) : (outsAt0 m c t.val t.isLt).2.2.2.2.2 j = (part H (du Y (fun p n => ab p n H W g sh sc) W V' ga) g sc (j 1).val 256 t.val (j 0).val : EReal) := by
  obtain ⟨X, hX⟩ := blk_c m hg hsc hga
  have hG := du_blk (Y := fun p j => Y (256 * t.val + p) j) (AB := fun p n => ab (256 * t.val + p) n H W g sh sc) (W := W) (V := V') (blk_y m hY t) (hX t)
    (blk_a m hH hg hsh hsc hW t) (blk_b m hH hg hsh hsc hW t) (blk_w m hW t) (blk_v m hV t)
  have hz : ∀ i, (k0_pay2 (F := Ideal)) i = ((0 : ℝ) : EReal) := fun i => by pointwise [k0_pay2]; rfl
  rw [outsAt0_A m c t h]; frame_out
  rw [← View.read_writes_junk_eq_canon (ms0_12 t).view, Cert.Rows.read_row, Cert.Rows.read_row, Cert.Rows.read_row, Cert.Rows.read_all]
  simp (disch := decide) only [View.readCov_skip, View.readCov_cons_toLoadRect, View.readCov_fill]
  simp only [part]
  split_ifs with h2 h1 h0
  · refine (pay_row2 (H := fun p j => H (256 * t.val + p) j) (G := fun p j => du Y (fun p n => ab p n H W g sh sc) W V' ga (256 * t.val + p) j) (blk_h m hH t) (hX t) (hG _ _ _ _ _ _ _ _ _ _) _ _).trans ?_
    rw [Cert.Rows.ld_row _ 2 (by norm_num), hz, ← EReal.coe_add, zero_add]
    rfl
  · refine (pay_row1 (G := fun p j => du Y (fun p n => ab p n H W g sh sc) W V' ga (256 * t.val + p) j) (hG _ _ _ _ _ _ _ _ _ _) _ _).trans ?_
    rw [Cert.Rows.ld_row _ 1 (by norm_num), hz, ← EReal.coe_add, zero_add]
  · refine (pay_row0 (H := fun p j => H (256 * t.val + p) j) (G := fun p j => du Y (fun p n => ab p n H W g sh sc) W V' ga (256 * t.val + p) j) (blk_h m hH t) (hX t) (hG _ _ _ _ _ _ _ _ _ _) _ _).trans ?_
    rw [Cert.Rows.ld_row _ 0 (by norm_num), hz, ← EReal.coe_add, zero_add]
    rfl
  · exact hz j

/-- Every later point adds its block's share. -/
theorem out_next (t : Fin cfg0.N) (h : ¬t.val % 32 = 0) (j) : (outsAt0 m c t.val t.isLt).2.2.2.2.2 j
    = (outsAt0 m c (t.val - 1) (Nat.lt_of_le_of_lt (Nat.sub_le _ _) t.isLt)).2.2.2.2.2 j + (part H (du Y (fun p n => ab p n H W g sh sc) W V' ga) g sc (j 1).val 256 t.val (j 0).val : EReal) := by
  obtain ⟨X, hX⟩ := blk_c m hg hsc hga
  have hG := du_blk (Y := fun p j => Y (256 * t.val + p) j) (AB := fun p n => ab (256 * t.val + p) n H W g sh sc) (W := W) (V := V') (blk_y m hY t) (hX t)
    (blk_a m hH hg hsh hsc hW t) (blk_b m hH hg hsh hsc hW t) (blk_w m hW t) (blk_v m hV t)
  rw [outsAt0_B m c t h]; frame_out
  rw [Cert.Rows.read_row, Cert.Rows.read_row, Cert.Rows.read_row]
  simp only [part]
  split_ifs with h2 h1 h0
  · refine (pay_row2 (H := fun p j => H (256 * t.val + p) j) (G := fun p j => du Y (fun p n => ab p n H W g sh sc) W V' ga (256 * t.val + p) j) (blk_h m hH t) (hX t) (hG _ _ _ _ _ _ _ _ _ _) _ _).trans ?_
    rw [Cert.Rows.ld_row _ 2 (by norm_num), Cert.Rows.ofRow_inRow h2]
    rfl
  · refine (pay_row1 (G := fun p j => du Y (fun p n => ab p n H W g sh sc) W V' ga (256 * t.val + p) j) (hG _ _ _ _ _ _ _ _ _ _) _ _).trans ?_
    rw [Cert.Rows.ld_row _ 1 (by norm_num), Cert.Rows.ofRow_inRow h1]
  · refine (pay_row0 (H := fun p j => H (256 * t.val + p) j) (G := fun p j => du Y (fun p n => ab p n H W g sh sc) W V' ga (256 * t.val + p) j) (blk_h m hH t) (hX t) (hG _ _ _ _ _ _ _ _ _ _) _ _).trans ?_
    rw [Cert.Rows.ld_row _ 0 (by norm_num), Cert.Rows.ofRow_inRow h0]
    rfl
  · rw [EReal.coe_zero, add_zero]
    exact congrFun (Memref.IsWhole.read_unread _ _) j

/-- The running sums after `n` points. -/
theorem out_sum (n : ℕ) (h : n < cfg0.N) (j) : (outsAt0 m c n h).2.2.2.2.2 j
    = ((∑ s ∈ Finset.range (n + 1), part H (du Y (fun p n => ab p n H W g sh sc) W V' ga) g sc (j 1).val 256 s (j 0).val : ℝ) : EReal) := by
  refine fold_real (fun n h j => (outsAt0 m c n h).2.2.2.2.2 j) (fun t j => part H (du Y (fun p n => ab p n H W g sh sc) W V' ga) g sc (j 1).val 256 t (j 0).val) ?_ ?_ n h j
  · exact fun h j => out_first m hY hH hg hsh hsc hga hW hV ⟨0, h⟩ rfl j
  · exact fun n h j => out_next m hY hH hg hsh hsc hga hW hV ⟨n + 1, h⟩ (by have : n + 1 < 32 := h; show ¬(n + 1) % 32 = 0; omega) j

/-- The gradient of the block's argument after all points. -/
theorem arr_dh (i) : (dats m 0 c).arrAt 7 cfg0.N i = ((Y (i 0).val (i 1).val + dh H (du Y (fun p n => ab p n H W g sh sc) W V' ga) g sc (i 0).val (i 1).val : ℝ) : EReal) := by
  refine congrFun ((dats m 0 c).arrAt_eq_of_covers 7 (fun i => ((Y (i 0).val (i 1).val + dh H (du Y (fun p n => ab p n H W g sh sc) W V' ga) g sc (i 0).val (i 1).val : ℝ) : EReal)) (by decide +kernel)
    fun t _ y => ?_) i
  rw [after0_7, out_dh m hY hH hg hsh hsc hga hW hV t]
  blk_simp [idx t]
  rw [mul_comm]

/-- The gradient of the gate's argument after all points. -/
theorem arr_da (i) : (dats m 0 c).arrAt 8 cfg0.N i = (da Y (fun p n => ab p n H W g sh sc) V' ga (i 0).val (i 1).val : EReal) := by
  refine congrFun ((dats m 0 c).arrAt_eq_of_covers 8 (fun i => (da Y (fun p n => ab p n H W g sh sc) V' ga (i 0).val (i 1).val : EReal)) (by decide +kernel) fun t _ y => ?_) i
  rw [after0_8, out_da m hY hH hg hsh hsc hga hW hV t]
  blk_simp [idx t]
  rw [mul_comm]

/-- The gradient of the gated value after all points. -/
theorem arr_db (i) : (dats m 0 c).arrAt 9 cfg0.N i = (db Y (fun p n => ab p n H W g sh sc) V' ga (i 0).val (i 1).val : EReal) := by
  refine congrFun ((dats m 0 c).arrAt_eq_of_covers 9 (fun i => (db Y (fun p n => ab p n H W g sh sc) V' ga (i 0).val (i 1).val : EReal)) (by decide +kernel) fun t _ y => ?_) i
  rw [after0_9, out_db m hY hH hg hsh hsc hga hW hV t]
  blk_simp [idx t]
  rw [mul_comm]

/-- The gated values after all points. -/
theorem arr_act (i) : (dats m 0 c).arrAt 10 cfg0.N i = (act (fun p n => ab p n H W g sh sc) (i 0).val (i 1).val : EReal) := by
  refine congrFun ((dats m 0 c).arrAt_eq_of_covers 10 (fun i => (act (fun p n => ab p n H W g sh sc) (i 0).val (i 1).val : EReal)) (by decide +kernel) fun t _ y => ?_) i
  rw [after0_10, out_act m hY hH hg hsh hsc hga hW hV t]
  blk_simp [idx t]
  rw [mul_comm]

omit hH hg hsh hsc hga hW hV in
/-- The rounded cotangent after all points. -/
theorem arr_y (i) : (dats m 0 c).arrAt 11 cfg0.N i = (Y (i 0).val (i 1).val : EReal) := by
  refine congrFun ((dats m 0 c).arrAt_eq_of_covers 11 (fun i => (Y (i 0).val (i 1).val : EReal)) (by decide +kernel) fun t _ y => ?_) i
  rw [after0_11, out_y m hY t]
  blk_simp [idx t]
  rw [mul_comm]

omit hY hH hg hsh hsc hga hW hV in
/-- The last point. -/
abbrev last : Fin grid0.N := ⟨31, by rw [N_0]; decide⟩

/-- The three sums after all points. -/
theorem arr_sums (i : S8x1024.Idx) : (dats m 0 c).arrAt 12 cfg0.N i = (sums H (du Y (fun p n => ab p n H W g sh sc) W V' ga) g sc (i 1).val (i 0).val : EReal) := by
  refine congrFun ((dats m 0 c).arrAt_eq_of_after_last 12 last (by decide +kernel) (fun i => (sums H (du Y (fun p n => ab p n H W g sh sc) W V' ga) g sc (i 1).val (i 0).val : EReal)) fun j => ?_) i
  rw [after0_12, out_sum m hY hH hg hsh hsc hga hW hV, ← parts H (du Y (fun p n => ab p n H W g sh sc) W V' ga) g sc _ 32 256 _ rfl]
  blk_simp [idx last]

end run

end Cert.FeedFwd

end
-- ==== Proof.FfnEq.lean ====
/- The feed-forward block's backward step and its reference leave the same arrays on finite arguments. -/
module

public import proofs.«01_k».proof.Defs
public import proofs.«01_k».proof.Proof.FfnRun
public import proofs.«01_k».proof.Proof.Gen.Pre_finite_ffn

@[expose] public section

set_option maxRecDepth 16384

noncomputable section

open Idealize.ShloMosaic Cert.Lift

namespace Cert.FeedFwd

/-- The precondition says that the eight arguments are arrays of reals. -/
theorem reals {x0 x1 : FVec Ideal Pre_finite_ffn.S8192x1024 .f32} {x2 x3 x4 x5 : FVec Ideal Pre_finite_ffn.S1024 .f32}
    {x6 : FVec Ideal Pre_finite_ffn.S1024x5632 .f32} {x7 : FVec Ideal Pre_finite_ffn.S2816x1024 .f32}
    (h : Pre_finite_ffn.fn (F := Ideal) x0 x1 x2 x3 x4 x5 x6 x7 = fun _ => 1#1) :
    (∃ Y : ℕ → ℕ → ℝ, ∀ i, x0 i = (Y (i 0).val (i 1).val : EReal)) ∧ (∃ H : ℕ → ℕ → ℝ, ∀ i, x1 i = (H (i 0).val (i 1).val : EReal))
      ∧ (∃ g : ℕ → ℝ, ∀ i, x2 i = (g (i 0).val : EReal)) ∧ (∃ s : ℕ → ℝ, ∀ i, x3 i = (s (i 0).val : EReal))
      ∧ (∃ s : ℕ → ℝ, ∀ i, x4 i = (s (i 0).val : EReal)) ∧ (∃ s : ℕ → ℝ, ∀ i, x5 i = (s (i 0).val : EReal))
      ∧ (∃ W : ℕ → ℕ → ℝ, ∀ i, x6 i = (W (i 0).val (i 1).val : EReal)) ∧ ∃ V : ℕ → ℕ → ℝ, ∀ i, x7 i = (V (i 0).val (i 1).val : EReal) := by
  have e := congrFun h fun a => a.elim0
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨lift2 _ (real_of_all x0 _ (fun _ => rfl) _ _ _ _ e0), lift2 _ (real_of_all x1 _ (fun _ => rfl) _ _ _ _ e1),
    lift1 _ (real_of_all x2 _ (fun _ => rfl) _ _ _ _ e2), lift1 _ (real_of_all x3 _ (fun _ => rfl) _ _ _ _ e3),
    lift1 _ (real_of_all x4 _ (fun _ => rfl) _ _ _ _ e4), lift1 _ (real_of_all x5 _ (fun _ => rfl) _ _ _ _ e5),
    lift2 _ (real_of_all x6 _ (fun _ => rfl) _ _ _ _ e6), lift2 _ (real_of_all x7 _ (fun _ => rfl) _ _ _ _ e7)⟩

/-- The reference runs and leaves its arguments as they were. -/
theorem frame_ref : quiescent_FfnRefIdeal := fun m ρ _ =>
  (θ_run FfnRefIdeal.defs _ _).mono (fun r h => ⟨fun c => (h c).2.2.2.2.2.2, sem_eq_zero_of_no_sems (by decide) r.2⟩) (FfnRefIdeal.Value.run m ρ)

section rounded

open Cert.FfnRefIdeal Cert.FfnRefIdeal.Read

attribute [local pointwise] val_main_v77_apply val_main_v78_apply val_main_v79_apply val_main_v80_apply val_main_v81_apply

variable {x0 x1 : (⟨S8192x1024, .f32⟩ : BufTy).Contents (Elt Ideal)} {x2 x3 x4 x5 : (⟨S1024, .f32⟩ : BufTy).Contents (Elt Ideal)}
  {x6 : (⟨S1024x5632, .f32⟩ : BufTy).Contents (Elt Ideal)} {x7 : (⟨S2816x1024, .f32⟩ : BufTy).Contents (Elt Ideal)}
  {Y H W V : ℕ → ℕ → ℝ} {g sh sc ga : ℕ → ℝ}
  (h0 : ∀ i, x0 i = (Y (i 0).val (i 1).val : EReal)) (h1 : ∀ i, x1 i = (H (i 0).val (i 1).val : EReal))
  (h2 : ∀ i, x2 i = (g (i 0).val : EReal)) (h3 : ∀ i, x3 i = (sh (i 0).val : EReal)) (h4 : ∀ i, x4 i = (sc (i 0).val : EReal))
  (h5 : ∀ i, x5 i = (ga (i 0).val : EReal)) (h6 : ∀ i, x6 i = (W (i 0).val (i 1).val : EReal)) (h7 : ∀ i, x7 i = (V (i 0).val (i 1).val : EReal))

include h0 h1 h2 h3 h4 h5 h6 h7 in
/-- The two gradients and the gated values as the reference returns them. -/
theorem ref_das (i) : val_main_v79 (F := Ideal) x0 x1 x2 x3 x4 x5 x6 x7 i = (da Y (fun p n => ab p n H W g sh sc) V ga (i 0).val (i 1).val : EReal) := by
  pointwise [val_main_v79_apply, ref_dab h0 h1 h2 h3 h4 h5 h6 h7]

include h0 h1 h2 h3 h4 h5 h6 h7 in
theorem ref_dbs (i) : val_main_v80 (F := Ideal) x0 x1 x2 x3 x4 x5 x6 x7 i = (db Y (fun p n => ab p n H W g sh sc) V ga (i 0).val (i 1).val : EReal) := by
  pointwise [val_main_v80_apply, ref_dab h0 h1 h2 h3 h4 h5 h6 h7]

include h1 h2 h3 h4 h6 in
theorem ref_acts (i) : val_main_v81 (F := Ideal) x1 x2 x3 x4 x6 i = (act (fun p n => ab p n H W g sh sc) (i 0).val (i 1).val : EReal) := by
  pointwise [val_main_v81_apply, ref_act h1 h2 h3 h4 h6]

end rounded

set_option maxHeartbeats 1000000 in
/-- On finite arguments both programs leave the same gradients, the same gated values, the same rounded cotangent and the same sums. -/
theorem algebraic : algebraic_FfnIdeal_FfnRefIdeal_pre_finite_ffn := by
  intro m ρ m' ρ' hpre harg
  refine ⟨fun c => (FfnIdeal.Gen.dats m 0 c).arrAt 7 _, fun c => (FfnIdeal.Gen.dats m 0 c).arrAt 8 _, fun c => (FfnIdeal.Gen.dats m 0 c).arrAt 9 _,
    fun c => (FfnIdeal.Gen.dats m 0 c).arrAt 10 _, fun c => (FfnIdeal.Gen.dats m 0 c).arrAt 11 _, fun c => (FfnIdeal.Gen.dats m 0 c).arrAt 12 _,
    FfnIdeal.Value.run_blocks m ρ, ?_⟩
  refine (θ_run FfnRefIdeal.defs _ _).mono (fun r h c => ?_) (FfnRefIdeal.Value.run m' ρ')
  obtain ⟨⟨Y, hY⟩, ⟨H, hH⟩, ⟨g, hg⟩, ⟨sh, hsh⟩, ⟨sc, hsc⟩, ⟨ga, hga⟩, ⟨W, hW⟩, V, hV⟩ := reals (hpre c)
  obtain ⟨a0, a1, a2, a3, a4, a5, a6, a7⟩ := harg c
  obtain ⟨r0, r1, r2, r3, r4, r5, k⟩ := h c
  refine ⟨r0.trans ?_, r1.trans ?_, r2.trans ?_, r3.trans ?_, r4.trans ?_, r5.trans ?_, k⟩
  · rw [FfnRefIdeal.Read.val_main_v76_eq]
    simp only [StableHlo.launchContents_devRef, a0, a1, a2, a3, a4, a5, a6, a7]
    exact funext fun i => (ref_dh hY hH hg hsh hsc hga hW hV i).trans (arr_dh m hY hH hg hsh hsc hga hW hV i).symm
  · rw [FfnRefIdeal.Read.val_main_v79_eq]
    simp only [StableHlo.launchContents_devRef, a0, a1, a2, a3, a4, a5, a6, a7]
    exact funext fun i => (ref_das hY hH hg hsh hsc hga hW hV i).trans (arr_da m hY hH hg hsh hsc hga hW hV i).symm
  · rw [FfnRefIdeal.Read.val_main_v80_eq]
    simp only [StableHlo.launchContents_devRef, a0, a1, a2, a3, a4, a5, a6, a7]
    exact funext fun i => (ref_dbs hY hH hg hsh hsc hga hW hV i).trans (arr_db m hY hH hg hsh hsc hga hW hV i).symm
  · rw [FfnRefIdeal.Read.val_main_v81_eq]
    simp only [StableHlo.launchContents_devRef, a1, a2, a3, a4, a6]
    exact funext fun i => (ref_acts hH hg hsh hsc hW i).trans (arr_act m hY hH hg hsh hsc hga hW hV i).symm
  · exact funext fun i => ((congrFun a0 i).trans (hY i)).trans (arr_y m hY i).symm
  · rw [FfnRefIdeal.Read.val_main_v87_eq]
    simp only [StableHlo.launchContents_devRef, a0, a1, a2, a3, a4, a5, a6, a7]
    exact funext fun i => (ref_sums hY hH hg hsh hsc hga hW hV i).trans (arr_sums m hY hH hg hsh hsc hga hW hV i).symm

end Cert.FeedFwd

end
-- ==== Proof.Rms.lean ====
/- The root-mean-square norm of a row of `n` numbers with a gain, and its derivative. -/
module

public import proofs.«01_k».proof.Proof.Norm

@[expose] public section

noncomputable section

open Idealize.ShloMosaic Cert.Lift Cert.Norm

namespace Cert.Rms

@[pointwise] theorem f32_512 : Ideal.ofBits .f32 0x44000000#32 = ((512 : ℝ) : EReal) := by
  simp [Ideal.ofBits, Ideal.ieee, -EReal.coe_mul]; norm_num
@[pointwise] theorem f32_512_inv : Ideal.ofBits .f32 0x3B000000#32 = ((1 / 512 : ℝ) : EReal) := by
  simp [Ideal.ofBits, Ideal.ieee, -EReal.coe_mul]; norm_num
@[pointwise] theorem div_512 (x : ℝ) : Ideal.div (x : EReal) ((512 : ℝ) : EReal) = ((x / 512 : ℝ) : EReal) := div_real x (by norm_num)
@[pointwise] theorem f32_256 : Ideal.ofBits .f32 0x43800000#32 = ((256 : ℝ) : EReal) := by
  simp [Ideal.ofBits, Ideal.ieee, -EReal.coe_mul]; norm_num
@[pointwise] theorem f32_256_inv : Ideal.ofBits .f32 0x3B800000#32 = ((1 / 256 : ℝ) : EReal) := by
  simp [Ideal.ofBits, Ideal.ieee, -EReal.coe_mul]; norm_num
@[pointwise] theorem div_256 (x : ℝ) : Ideal.div (x : EReal) ((256 : ℝ) : EReal) = ((x / 256 : ℝ) : EReal) := div_real x (by norm_num)

variable (n : ℕ) (c : ℝ) (A D : ℕ → ℕ → ℝ) (g : ℕ → ℝ) (p j : ℕ)

/-- The mean of the squares of row `p` (`c` is the row's length as a real), with the small number added. -/
def msq : ℝ := (∑ k : Fin n, A p k * A p k) / c + eps
/-- The factor by which the norm multiplies row `p`. -/
def fac : ℝ := (√(msq n c A p))⁻¹
/-- The normalised row. -/
def nrm : ℝ := A p j * fac n c A p
/-- The gradient of the norm's argument for the cotangent `D`. -/
def dx : ℝ := fac n c A p * (D p j * g j - nrm n c A p j * ((∑ k : Fin n, D p k * g k * nrm n c A p k) / c))
/-- What the rows `b * t` up to `b * t + b` add to the gradient of the gain, in the first of eight rows, zero in the others. -/
def share (b t i : ℕ) : ℝ := if i = 0 then ∑ q : Fin b, D (b * t + q) j * nrm n c A (b * t + q) j else 0
/-- The gradient of the gain, in the first of eight rows, zero in the others. -/
def gain (i : ℕ) : ℝ := if i = 0 then ∑ q : Fin 8192, D q j * nrm n c A q j else 0

variable {c}

theorem msq_pos (h : 0 < c) : 0 < msq n c A p :=
  add_pos_of_nonneg_of_pos (div_nonneg (Finset.sum_nonneg fun k _ => mul_self_nonneg _) h.le) eps_pos

theorem fac_div (hc : 0 < c) : fac n c A p / msq n c A p = fac n c A p * fac n c A p * fac n c A p := by
  have h : √(msq n c A p) * √(msq n c A p) = msq n c A p := Real.mul_self_sqrt (msq_pos n A p hc).le
  have h0 : √(msq n c A p) ≠ 0 := (Real.sqrt_pos.2 (msq_pos n A p hc)).ne'
  unfold fac
  nth_rw 2 [← h]
  field_simp

/-- The derivative of the norm as the chain rule writes it is the gradient above. -/
theorem chain (hc : 0 < c) :
    D p j * g j * fac n c A p + A p j * ((∑ k : Fin n, A p k * (D p k * g k)) * (-(1 / 2) * (fac n c A p / msq n c A p)) / c)
        + (∑ k : Fin n, A p k * (D p k * g k)) * (-(1 / 2) * (fac n c A p / msq n c A p)) / c * A p j
      = dx n c A D g p j := by
  have h : ∑ k : Fin n, D p k * g k * nrm n c A p k = (∑ k : Fin n, A p k * (D p k * g k)) * fac n c A p := by
    rw [Finset.sum_mul]; exact Finset.sum_congr rfl fun k _ => by unfold nrm; ring
  unfold dx
  rw [h, fac_div n A p hc]; unfold nrm; ring

/-- The shares of `k` blocks of `b` rows add to the gradient of the gain. -/
theorem shares (k b i : ℕ) (h : k * b = 8192) : ∑ s ∈ Finset.range k, share n c A D j b s i = gain n c A D j i := by
  unfold share gain
  rw [← h]
  split_ifs
  · exact sum_blocks k b fun q => D q j * nrm n c A q j
  · exact Finset.sum_const_zero

end Cert.Rms

end
-- ==== Proof.Rope.lean ====
/- The transposed rotation of 32 of a head's columns, by a table of three runs of 128 columns and directly; sums over padded heads. -/
module

public import proofs.«01_k».proof.Proof.Lift

@[expose] public section

noncomputable section

open Cert.Lift

namespace Cert.Rope

/-- The table of a row: ones and cosines; sines, for the columns the rotation takes from 16 further left; negated sines, for those from 16 further right. -/
def tab (cs sn : ℕ → ℝ) (j : ℕ) : ℝ :=
  if j < 64 then 1 else if j < 80 then cs (j - 64) else if j < 96 then cs (j - 80) else if j < 208 then 0
  else if j < 224 then sn (j - 208) else if j < 320 then 0 else if j < 336 then -sn (j - 320) else 0

/-- The transposed rotation of the columns 64 to 95 of a head; the columns before them stay, those after them are zero. -/
def rot (x cs sn : ℕ → ℝ) (l : ℕ) : ℝ :=
  if l < 64 then x l else if l < 80 then x l * cs (l - 64) + x (l + 16) * sn (l - 64)
  else if l < 96 then x l * cs (l - 80) - x (l - 16) * sn (l - 80) else 0

/-- The rotation from the table: three products, the second and the third turned by 16 columns against each other. -/
theorem rot_tab (x cs sn : ℕ → ℝ) (l a b : ℕ) (hl : l < 128) (ha : a = (l + 16) % 128) (hb : b = (l + 112) % 128) :
    x l * tab cs sn l + x a * tab cs sn (128 + a) + x b * tab cs sn (256 + b) = rot x cs sn l := by
  unfold tab rot
  rcases lt_or_ge l 16 with h | h
  · obtain rfl : a = l + 16 := by omega
    obtain rfl : b = l + 112 := by omega
    simp (disch := omega) only [if_pos, if_neg]; ring
  rcases lt_or_ge l 112 with h' | h'
  · obtain rfl : a = l + 16 := by omega
    obtain rfl : b = l - 16 := by omega
    rcases lt_or_ge l 64 with h1 | h1
    · simp (disch := omega) only [if_pos, if_neg]; ring
    rcases lt_or_ge l 80 with h2 | h2
    · simp (disch := omega) only [if_pos, if_neg]
      rw [show 128 + (l + 16) - 208 = l - 64 by omega]; ring
    rcases lt_or_ge l 96 with h3 | h3
    · simp (disch := omega) only [if_pos, if_neg]
      rw [show 256 + (l - 16) - 320 = l - 80 by omega]; ring
    · simp (disch := omega) only [if_pos, if_neg]; ring
  · obtain rfl : a = l - 112 := by omega
    obtain rfl : b = l - 16 := by omega
    simp (disch := omega) only [if_pos, if_neg]; ring

theorem rot_congr {x y cs sn : ℕ → ℝ} {l : ℕ} (h : ∀ k < 96, x k = y k) : rot x cs sn l = rot y cs sn l := by
  unfold rot
  split_ifs
  · exact h l (by omega)
  · rw [h l (by omega), h (l + 16) (by omega)]
  · rw [h l (by omega), h (l - 16) (by omega)]
  · rfl

/-- A sum over 16 heads of 128 columns of which the last 32 are zero is the sum over 16 heads of 96 columns. -/
theorem sum_heads (f : ℕ → ℕ → ℝ) (h : ∀ a l, 96 ≤ l → f a l = 0) :
    ∑ k : Fin 2048, f (k.val / 128) (k.val % 128) = ∑ k : Fin 1536, f (k.val / 96) (k.val % 96) := by
  have e1 := sum_blocks 16 128 fun k => f (k / 128) (k % 128)
  have e2 := sum_blocks 16 96 fun k => f (k / 96) (k % 96)
  rw [show 16 * 128 = 2048 from rfl] at e1
  rw [show 16 * 96 = 1536 from rfl] at e2
  rw [← e1, ← e2]
  refine Finset.sum_congr rfl fun s _ => ?_
  have a : ∀ q : Fin 96, f ((96 * s + q.val) / 96) ((96 * s + q.val) % 96) = f s q.val := fun q => by
    rw [show (96 * s + q.val) / 96 = s by omega, show (96 * s + q.val) % 96 = q.val by omega]
  have b : ∀ q : Fin 128, f ((128 * s + q.val) / 128) ((128 * s + q.val) % 128) = f s q.val := fun q => by
    rw [show (128 * s + q.val) / 128 = s by omega, show (128 * s + q.val) % 128 = q.val by omega]
  rw [Finset.sum_congr rfl fun q _ => a q, Finset.sum_congr rfl fun q _ => b q, Fin.sum_univ_add (a := 96) (b := 32) fun q : Fin 128 => f s q.val]
  simp only [Fin.val_castAdd, Fin.val_natAdd]
  rw [Finset.sum_eq_zero (fun (q : Fin 32) _ => h s (96 + q.val) (by omega)), add_zero]

end Cert.Rope

end
-- ==== Proof.QBwdRef.lean ====
/- What the reference of the queries' backward step computes, element by element, on real arrays. -/
module

public import proofs.«01_k».proof.Proof.ModNorm
public import proofs.«01_k».proof.Proof.Rms
public import proofs.«01_k».proof.Proof.Rope
public import proofs.«01_k».proof.Proof.Gen.QBwdRefIdeal.Read

@[expose] public section

set_option maxRecDepth 16384

noncomputable section

open Idealize.ShloMosaic Cert.Lift Cert.Norm Cert.ModNorm Cert.QBwdRefIdeal Cert.QBwdRefIdeal.Read

namespace Cert.Queries

section real
variable (X : ℕ → ℕ → ℕ → ℝ) (Y H A W B : ℕ → ℕ → ℝ) (C N : ℕ → ℕ → ℝ) (g sh sc gq : ℕ → ℝ) (p : ℕ)

/-- The low-rank queries: the modulated norm times the first weight. -/
def low (a : ℕ) : ℝ := ∑ k : Fin 1024, mod H g sc p k sh * W k a
/-- The gradient of a head's query before the rotation. -/
def turn (a l : ℕ) : ℝ := Rope.rot (X p a) (C p) (N p) l
/-- The gradient of the normalised low-rank queries: the heads' gradients times the transposed second weight. -/
def dn (a : ℕ) : ℝ := ∑ k : Fin 1536, turn X C N p (k.val / 96) (k.val % 96) * B a k
/-- The gradient of the low-rank queries. -/
def da (a : ℕ) : ℝ := Rms.dx 512 512 A (dn X B C N) gq p a
/-- The gradient of the modulated norm. -/
def du (j : ℕ) : ℝ := ∑ k : Fin 512, da X A B C N gq p k * W j k
end real

section reference

variable {x0 : (⟨S8192x16x96, .f32⟩ : BufTy).Contents (Elt Ideal)} {x1 x2 : (⟨S8192x1024, .f32⟩ : BufTy).Contents (Elt Ideal)}
  {x3 x4 x5 : (⟨S1024, .f32⟩ : BufTy).Contents (Elt Ideal)} {x7 : (⟨S1024x512, .f32⟩ : BufTy).Contents (Elt Ideal)}
  {x8 : (⟨S512, .f32⟩ : BufTy).Contents (Elt Ideal)} {x9 : (⟨S512x1536, .f32⟩ : BufTy).Contents (Elt Ideal)}
  {x10 x11 : (⟨S8192x16, .f32⟩ : BufTy).Contents (Elt Ideal)}
  {X : ℕ → ℕ → ℕ → ℝ} {Y H W B C N : ℕ → ℕ → ℝ} {g sh sc gq : ℕ → ℝ}
  (h0 : ∀ i, x0 i = (X (i 0).val (i 1).val (i 2).val : EReal)) (h1 : ∀ i, x1 i = (Y (i 0).val (i 1).val : EReal))
  (h2 : ∀ i, x2 i = (H (i 0).val (i 1).val : EReal)) (h3 : ∀ i, x3 i = (g (i 0).val : EReal)) (h4 : ∀ i, x4 i = (sh (i 0).val : EReal))
  (h5 : ∀ i, x5 i = (sc (i 0).val : EReal)) (h7 : ∀ i, x7 i = (W (i 0).val (i 1).val : EReal)) (h8 : ∀ i, x8 i = (gq (i 0).val : EReal))
  (h9 : ∀ i, x9 i = (B (i 0).val (i 1).val : EReal)) (h10 : ∀ i, x10 i = (C (i 0).val (i 1).val : EReal))
  (h11 : ∀ i, x11 i = (N (i 0).val (i 1).val : EReal))

attribute [local pointwise] val_main_cst_apply val_main_v0_apply val_main_cst_0_apply val_main_v1_apply val_main_v2_apply val_main_cst_1_apply
  val_main_v3_apply val_main_v4_apply val_main_cst_2_apply val_main_v5_apply val_main_v6_apply val_main_cst_3_apply val_main_v7_apply
  val_main_v10_apply val_main_cst_4_apply val_main_v11_apply val_main_v12_apply val_main_v13_apply val_main_v15_apply val_main_v16_apply
  val_main_v18_apply val_main_cst_5_apply val_main_v19_apply val_main_v20_apply val_main_v21_apply val_main_v22_apply val_main_v23_apply
  val_main_v24_apply val_main_v28_apply val_main_cst_6_apply val_main_v29_apply val_main_v30_apply val_main_cst_7_apply val_main_v31_apply
  val_main_v32_apply val_main_cst_8_apply val_main_v33_apply val_main_v36_apply val_main_cst_9_apply val_main_v37_apply val_main_v38_apply
  val_main_v39_apply val_main_v41_apply val_main_v42_apply val_main_v44_apply val_main_v45_apply val_main_v46_apply val_main_v47_apply
  val_main_v48_apply val_main_v49_apply val_main_v50_apply val_main_v51_apply val_main_v52_apply val_main_v53_apply val_main_v54_apply
  val_main_v55_apply val_main_v56_apply val_main_v57_apply val_main_v58_apply val_main_v59_apply val_main_v60_apply val_main_v61_apply
  val_main_v62_apply val_main_v65_apply val_main_v66_apply val_main_v67_apply val_main_v68_apply val_main_v69_apply val_main_v70_apply
  val_main_v71_apply val_main_v72_apply val_main_v73_apply val_main_v74_apply val_main_v75_apply val_main_v77_apply val_main_v78_apply
  val_main_v84_apply val_main_cst_10_apply val_main_v85_apply val_main_v86_apply val_main_v87_apply val_main_cst_11_apply val_main_v89_apply
  val_main_v90_apply val_main_cst_12_apply val_main_v91_apply val_main_v92_apply val_main_v93_apply val_main_v94_apply val_main_v95_apply
  val_main_cst_13_apply val_main_v96_apply val_main_v97_apply val_main_cst_14_apply val_main_v98_apply val_main_v99_apply val_main_v100_apply
  val_main_v101_apply val_main_v102_apply val_main_cst_15_apply val_main_v105_apply val_main_v106_apply val_main_cst_16_apply val_main_v107_apply
  val_main_v108_apply val_main_cst_17_apply val_main_v109_apply val_main_v110_apply val_main_v111_apply val_main_cst_18_apply val_main_v113_apply
  val_main_v114_apply val_main_cst_19_apply val_main_v115_apply val_main_v116_apply val_main_v117_apply val_main_cst_20_apply val_main_v119_apply
  val_main_v120_apply val_main_cst_21_apply val_main_v121_apply val_main_v122_apply val_main_v123_apply val_main_v124_apply val_main_v125_apply
  val_main_v126_apply val_main_cst_22_apply val_main_v127_apply val_main_v128_apply val_main_cst_23_apply val_main_v129_apply val_main_v130_apply
  val_main_v131_apply val_main_v132_apply val_main_v133_apply val_main_v135_apply val_main_c_apply val_main_call0_v0_apply val_main_v137_apply
  val_main_v138_apply val_main_v139_apply val_main_v140_apply val_main_v141_apply val_main_v142_apply val_main_cst_24_apply val_main_v143_apply
  val_main_v145_apply val_main_cst_25_apply val_main_v146_apply

include h2 in
theorem ref_ms (i) : val_main_v8 (F := Ideal) x2 i = (ms H (i 0).val : EReal) := by
  pointwise [val_main_v8_apply, h2]; rfl

include h2 in
theorem ref_rr (i) : val_main_v9 (F := Ideal) x2 i = (rr H (i 0).val : EReal) := by
  pointwise [val_main_v9_apply, ref_ms h2, rsqrt_real (ms_pos H _)]; rfl

include h2 in
theorem ref_xn (i) : val_main_v14 (F := Ideal) x2 i = (xn H (i 0).val (i 1).val : EReal) := by
  pointwise [val_main_v14_apply, ref_rr h2, h2]; rfl

include h2 h3 in
theorem ref_xg (i) : val_main_v17 (F := Ideal) x2 x3 i = (xn H (i 0).val (i 1).val * g (i 1).val : ℝ) := by
  pointwise [val_main_v17_apply, ref_xn h2, h3]

include h2 h3 h4 h5 in
theorem ref_u (i) : val_main_v25 (F := Ideal) x2 x3 x4 x5 i = (mod H g sc (i 0).val (i 1).val sh : EReal) := by
  pointwise [val_main_v25_apply, ref_xg h2 h3, h4, h5]; rfl

include h2 h3 h4 h5 h7

theorem ref_pre (i) : val_main_v26 (F := Ideal) x2 x3 x4 x5 x7 i = (low H W g sh sc (i 0).val (i 1).val : EReal) := by
  pointwise [val_main_v26_apply, ref_u h2 h3 h4 h5, h7]; rfl

theorem ref_low (i) : val_main_v27 (F := Ideal) x2 x3 x4 x5 x7 i = (low H W g sh sc (i 0).val (i 1).val : EReal) := by
  pointwise [val_main_v27_apply, ref_pre h2 h3 h4 h5 h7]

theorem ref_msq (i) : val_main_v34 (F := Ideal) x2 x3 x4 x5 x7 i = (Rms.msq 512 512 (low H W g sh sc) (i 0).val : EReal) := by
  pointwise [val_main_v34_apply, ref_low h2 h3 h4 h5 h7]; rfl

theorem ref_fac (i) : val_main_v35 (F := Ideal) x2 x3 x4 x5 x7 i = (Rms.fac 512 512 (low H W g sh sc) (i 0).val : EReal) := by
  pointwise [val_main_v35_apply, ref_msq h2 h3 h4 h5 h7, rsqrt_real (Rms.msq_pos 512 _ _ (by norm_num : (0 : ℝ) < 512))]; rfl

/-- The normalised low-rank queries. -/
theorem ref_nrm (i) : val_main_v40 (F := Ideal) x2 x3 x4 x5 x7 i = (Rms.nrm 512 512 (low H W g sh sc) (i 0).val (i 1).val : EReal) := by
  pointwise [val_main_v40_apply, ref_fac h2 h3 h4 h5 h7, ref_low h2 h3 h4 h5 h7]; rfl

omit h2 h3 h4 h5 h7
include h0 h10 h11

theorem ref_left (i) : val_main_v79 (F := Ideal) x0 x10 x11 i
    = (X (i 0).val (i 1).val (64 + (16 + (i 2).val)) * N (i 0).val (i 2).val + X (i 0).val (i 1).val (64 + (i 2).val) * C (i 0).val (i 2).val : ℝ) := by
  pointwise [val_main_v79_apply, h0, h10, h11]

theorem ref_right (i) : val_main_v76 (F := Ideal) x0 x10 x11 i
    = (X (i 0).val (i 1).val (64 + (16 + (i 2).val)) * C (i 0).val (i 2).val + -X (i 0).val (i 1).val (64 + (i 2).val) * N (i 0).val (i 2).val : ℝ) := by
  pointwise [val_main_v76_apply, h0, h10, h11]

/-- The gradient of the rotated columns. -/
theorem ref_pair (i) : val_main_v80 (F := Ideal) x0 x10 x11 i = (turn X C N (i 0).val (i 1).val (64 + (i 2).val) : EReal) := by
  have a : (i 2).val < 32 := (i 2).isLt
  by_cases h : (i 2).val < 16
  · have e : turn X C N (i 0).val (i 1).val (64 + (i 2).val) = X (i 0).val (i 1).val (64 + (16 + (i 2).val)) * N (i 0).val (i 2).val
        + X (i 0).val (i 1).val (64 + (i 2).val) * C (i 0).val (i 2).val := by
      unfold turn Rope.rot
      rw [if_neg (by omega), if_pos (by omega), show 64 + (i 2).val - 64 = (i 2).val by omega, show 64 + (16 + (i 2).val) = 64 + (i 2).val + 16 by omega, add_comm]
    rw [e]
    pointwise [val_main_v80, ref_left h0 h10 h11, ref_right h0 h10 h11]
    rw [dif_pos h]
  · have e : turn X C N (i 0).val (i 1).val (64 + (i 2).val) = X (i 0).val (i 1).val (64 + (16 + ((i 2).val - 16))) * C (i 0).val ((i 2).val - 16)
        + -X (i 0).val (i 1).val (64 + ((i 2).val - 16)) * N (i 0).val ((i 2).val - 16) := by
      unfold turn Rope.rot
      rw [if_neg (by omega), if_neg (by omega), if_pos (by omega), show 64 + (i 2).val - 80 = (i 2).val - 16 by omega,
        show 64 + (16 + ((i 2).val - 16)) = 64 + (i 2).val by omega, show 64 + ((i 2).val - 16) = 64 + (i 2).val - 16 by omega]
      ring
    rw [e]
    pointwise [val_main_v80, ref_left h0 h10 h11, ref_right h0 h10 h11]
    rw [dif_neg h]

theorem ref_turn (i) : val_main_v81 (F := Ideal) x0 x10 x11 i = (turn X C N (i 0).val (i 1).val (i 2).val : EReal) := by
  have a : (i 2).val < 96 := (i 2).isLt
  pointwise [val_main_v81, ref_pair h0 h10 h11, h0]
  by_cases h : (i 2).val < 64
  · rw [dif_pos (by omega)]
    exact congrArg Real.toEReal (if_pos h).symm
  · rw [dif_neg (by omega), show 64 + ((i 2).val - 64) = (i 2).val by omega]

theorem ref_flat (i) : val_main_v82 (F := Ideal) x0 x10 x11 i = (turn X C N (i 0).val ((i 1).val / 96) ((i 1).val % 96) : EReal) := by
  have a : (i 1).val < 1536 := (i 1).isLt
  pointwise [val_main_v82_apply, ref_turn h0 h10 h11]
  refine congrArg Real.toEReal (congr (congrArg₂ _ ?_ ?_) ?_) <;> omega

/-- The gradient of the queries before the rotation, each head filled up to 128 columns. -/
theorem ref_wide (i) : val_main_v138 (F := Ideal) x0 x10 x11 i = (turn X C N (i 0).val ((i 1).val / 128) ((i 1).val % 128) : EReal) := by
  have a : (i 1).val < 2048 := (i 1).isLt
  have b : (i 0).val < 8192 := (i 0).isLt
  pointwise [val_main_v138_apply, val_main_v136, ref_flat h0 h10 h11]
  by_cases h : (i 1).val % 128 < 96
  · rw [dif_pos (by omega)]
    refine congrArg Real.toEReal (congr (congrArg₂ _ ?_ ?_) ?_) <;> omega
  · rw [dif_neg (by omega)]
    unfold turn Rope.rot
    rw [if_neg (by omega), if_neg (by omega), if_neg (by omega)]
    exact congrArg Real.toEReal Int.cast_zero

include h9

theorem ref_dn (i) : val_main_v83 (F := Ideal) x0 x9 x10 x11 i = (dn X B C N (i 0).val (i 1).val : EReal) := by
  pointwise [val_main_v83_apply, ref_flat h0 h10 h11, h9]; rfl

include h8 in
theorem ref_dng (i) : val_main_v88 (F := Ideal) x0 x8 x9 x10 x11 i = (dn X B C N (i 0).val (i 1).val * gq (i 1).val : ℝ) := by
  pointwise [val_main_v88_apply, ref_dn h0 h9 h10 h11, h8]

include h2 h3 h4 h5 h7

/-- The gradient of the second norm's gain, in the first of eight rows. -/
theorem ref_gain (i) : val_main_v147 (F := Ideal) x0 x2 x3 x4 x5 x7 x9 x10 x11 i
    = (Rms.gain 512 512 (low H W g sh sc) (dn X B C N) (i 1).val (i 0).val : EReal) := by
  pointwise [val_main_v147, ref_dn h0 h9 h10 h11, ref_nrm h2 h3 h4 h5 h7]
  unfold Rms.gain
  split_ifs <;> first | rfl | omega | exact congrArg Real.toEReal (Finset.sum_congr rfl fun q _ => mul_comm _ _)

include h8

theorem ref_da (i) : val_main_v103 (F := Ideal) x0 x2 x3 x4 x5 x7 x8 x9 x10 x11 i
    = (da X (low H W g sh sc) B C N gq (i 0).val (i 1).val : EReal) := by
  pointwise [val_main_v103_apply, ref_dng h0 h8 h9 h10 h11, ref_fac h2 h3 h4 h5 h7, ref_msq h2 h3 h4 h5 h7, ref_low h2 h3 h4 h5 h7,
    div_real _ (Rms.msq_pos 512 (low H W g sh sc) _ (by norm_num : (0 : ℝ) < 512)).ne']
  refine congrArg Real.toEReal ?_
  have e := Rms.chain 512 (low H W g sh sc) (dn X B C N) gq (i 0).val (i 1).val (by norm_num : (0 : ℝ) < 512)
  unfold da
  rw [← e]

/-- The gradient of the low-rank queries. -/
theorem ref_das (i) : val_main_v139 (F := Ideal) x0 x2 x3 x4 x5 x7 x8 x9 x10 x11 i
    = (da X (low H W g sh sc) B C N gq (i 0).val (i 1).val : EReal) := by
  pointwise [val_main_v139_apply, ref_da h0 h2 h3 h4 h5 h7 h8 h9 h10 h11]

theorem ref_du (i) : val_main_v104 (F := Ideal) x0 x2 x3 x4 x5 x7 x8 x9 x10 x11 i
    = (du X (low H W g sh sc) W B C N gq (i 0).val (i 1).val : EReal) := by
  pointwise [val_main_v104_apply, ref_da h0 h2 h3 h4 h5 h7 h8 h9 h10 h11, h7]; rfl

theorem ref_dy (i) : val_main_v112 (F := Ideal) x0 x2 x3 x4 x5 x7 x8 x9 x10 x11 i
    = (dy (du X (low H W g sh sc) W B C N gq) sc (i 0).val (i 1).val : EReal) := by
  pointwise [val_main_v112_apply, ref_du h0 h2 h3 h4 h5 h7 h8 h9 h10 h11, h5]; rfl

theorem ref_dxn (i) : val_main_v118 (F := Ideal) x0 x2 x3 x4 x5 x7 x8 x9 x10 x11 i
    = (dxn (du X (low H W g sh sc) W B C N gq) g sc (i 0).val (i 1).val : EReal) := by
  pointwise [val_main_v118_apply, ref_dy h0 h2 h3 h4 h5 h7 h8 h9 h10 h11, h3]; rfl

include h1 in
/-- The gradient of the block's argument. -/
theorem ref_dh (i) : val_main_v134 (F := Ideal) x0 x1 x2 x3 x4 x5 x7 x8 x9 x10 x11 i
    = (Y (i 0).val (i 1).val + dh H (du X (low H W g sh sc) W B C N gq) g sc (i 0).val (i 1).val : ℝ) := by
  pointwise [val_main_v134_apply, ref_dxn h0 h2 h3 h4 h5 h7 h8 h9 h10 h11, ref_rr h2, ref_ms h2, div_real _ (ms_pos H _).ne', h1, h2]
  refine congrArg Real.toEReal ?_
  have e := bwd H (dxn (du X (low H W g sh sc) W B C N gq) g sc (i 0).val) (i 0).val (i 1).val
  unfold dh xn
  rw [← e]; ring

/-- The gradients of the gain, the shift and the scale, one to a row of eight, the others zero. -/
theorem ref_sums (i) : val_main_v144 (F := Ideal) x0 x2 x3 x4 x5 x7 x8 x9 x10 x11 i
    = (sums H (du X (low H W g sh sc) W B C N gq) g sc (i 1).val (i 0).val : EReal) := by
  pointwise [val_main_v144, ref_dy h0 h2 h3 h4 h5 h7 h8 h9 h10 h11, ref_du h0 h2 h3 h4 h5 h7 h8 h9 h10 h11, ref_xn h2, ref_xg h2 h3]
  unfold sums
  split_ifs <;> first | rfl | omega | exact congrArg Real.toEReal (Finset.sum_congr rfl fun q _ => mul_comm _ _)

end reference

end Cert.Queries

end
-- ==== Proof.QBwdKer.lean ====
/- What the queries' backward step computes of one block of rows, on real arrays. -/
module

public import proofs.«01_k».proof.Proof.QBwdRef
public import proofs.«01_k».proof.Proof.Gen.QBwdIdeal.Value

@[expose] public section

set_option maxRecDepth 16384

noncomputable section

open Idealize.ShloMosaic Idealize.ShloMosaic.TcCoe Idealize.ShloMosaic.Pipeline Idealize.SL.Sem
open Cert.Lift Cert.Norm Cert.ModNorm Cert.QBwdIdeal Cert.QBwdIdeal.Gen

namespace Cert.Queries

section head

variable {v2 : Vec Ideal S512x384 .f32} {v4 : Vec Ideal S512x128 .f32} {C N Z : ℕ → ℕ → ℝ}
  (h2 : ∀ i, v2 i = (Rope.tab (C (i 0).val) (N (i 0).val) (i 1).val : EReal)) (h4 : ∀ i, v4 i = (Z (i 0).val (i 1).val : EReal))

include h2 in
theorem pay_tab (i) : k0_pay6 (F := Ideal) v2 i = (Rope.tab (C (i 0).val) (N (i 0).val) (i 1).val : EReal) := by
  pointwise [k0_pay6, h2]

include h2 h4

/-- A head's columns, turned by the table: the same lines for each of the sixteen heads. -/
theorem pay_head0 (i) : k0_pay7 (F := Ideal) v2 v4 i = (Rope.rot (Z (i 0).val) (C (i 0).val) (N (i 0).val) (i 1).val : EReal) := by
  have a : (i 1).val < 128 := (i 1).isLt
  pointwise [k0_pay7, pay_tab h2, h4]
  exact congrArg Real.toEReal (Rope.rot_tab _ _ _ _ _ _ a (by omega) (by omega))

theorem pay_head1 (i) : k0_pay8 (F := Ideal) v2 v4 i = (Rope.rot (Z (i 0).val) (C (i 0).val) (N (i 0).val) (i 1).val : EReal) :=
  pay_head0 h2 h4 i

theorem pay_head2 (i) : k0_pay12 (F := Ideal) (k0_pay6 v2) (k0_pay9 v4) (k0_pay10 v2 v4) (k0_pay11 v2 v4) 112#32 i = (Rope.rot (Z (i 0).val) (C (i 0).val) (N (i 0).val) (i 1).val : EReal) :=
  pay_head0 h2 h4 i

theorem pay_head5 (i) : k0_pay17 (F := Ideal) (k0_pay6 v2) (k0_pay15 v4) (k0_pay16 (k0_pay6 v2) v4) i = (Rope.rot (Z (i 0).val) (C (i 0).val) (N (i 0).val) (i 1).val : EReal) :=
  pay_head0 h2 h4 i

theorem pay_head3 (i) : k0_pay13 (F := Ideal) (k0_pay6 v2) v4 i = (Rope.rot (Z (i 0).val) (C (i 0).val) (N (i 0).val) (i 1).val : EReal) :=
  pay_head0 h2 h4 i

theorem pay_head4 (i) : k0_pay14 (F := Ideal) (k0_pay6 v2) v4 i = (Rope.rot (Z (i 0).val) (C (i 0).val) (N (i 0).val) (i 1).val : EReal) :=
  pay_head0 h2 h4 i

theorem pay_head6 (i) : k0_pay18 (F := Ideal) (k0_pay6 v2) v4 i = (Rope.rot (Z (i 0).val) (C (i 0).val) (N (i 0).val) (i 1).val : EReal) :=
  pay_head0 h2 h4 i

theorem pay_head7 (i) : k0_pay19 (F := Ideal) (k0_pay6 v2) v4 i = (Rope.rot (Z (i 0).val) (C (i 0).val) (N (i 0).val) (i 1).val : EReal) :=
  pay_head0 h2 h4 i

theorem pay_head8 (i) : k0_pay20 (F := Ideal) (k0_pay6 v2) v4 i = (Rope.rot (Z (i 0).val) (C (i 0).val) (N (i 0).val) (i 1).val : EReal) :=
  pay_head0 h2 h4 i

theorem pay_head9 (i) : k0_pay21 (F := Ideal) (k0_pay6 v2) v4 i = (Rope.rot (Z (i 0).val) (C (i 0).val) (N (i 0).val) (i 1).val : EReal) :=
  pay_head0 h2 h4 i

theorem pay_head10 (i) : k0_pay22 (F := Ideal) (k0_pay6 v2) v4 i = (Rope.rot (Z (i 0).val) (C (i 0).val) (N (i 0).val) (i 1).val : EReal) :=
  pay_head0 h2 h4 i

theorem pay_head11 (i) : k0_pay23 (F := Ideal) (k0_pay6 v2) v4 i = (Rope.rot (Z (i 0).val) (C (i 0).val) (N (i 0).val) (i 1).val : EReal) :=
  pay_head0 h2 h4 i

theorem pay_head12 (i) : k0_pay24 (F := Ideal) (k0_pay6 v2) v4 i = (Rope.rot (Z (i 0).val) (C (i 0).val) (N (i 0).val) (i 1).val : EReal) :=
  pay_head0 h2 h4 i

theorem pay_head13 (i) : k0_pay25 (F := Ideal) (k0_pay6 v2) v4 i = (Rope.rot (Z (i 0).val) (C (i 0).val) (N (i 0).val) (i 1).val : EReal) :=
  pay_head0 h2 h4 i

theorem pay_head14 (i) : k0_pay26 (F := Ideal) (k0_pay6 v2) v4 i = (Rope.rot (Z (i 0).val) (C (i 0).val) (N (i 0).val) (i 1).val : EReal) :=
  pay_head0 h2 h4 i

theorem pay_head15 (i) : k0_pay27 (F := Ideal) (k0_pay6 v2) v4 i = (Rope.rot (Z (i 0).val) (C (i 0).val) (N (i 0).val) (i 1).val : EReal) :=
  pay_head0 h2 h4 i

end head

section block

variable {q wb : Vec Ideal S512x2048 .bf16} {a : Vec Ideal S512x512 .f32} {gv : Vec Ideal S1x512 .f32} {wa : Vec Ideal S1024x512 .bf16}
  {X : ℕ → ℕ → ℕ → ℝ} {A B W C N : ℕ → ℕ → ℝ} {gq : ℕ → ℝ}
  (hq : ∀ i, q i = (turn X C N (i 0).val ((i 1).val / 128) ((i 1).val % 128) : EReal))
  (hb : ∀ i, wb i = (if (i 1).val % 128 < 96 then B (i 0).val (96 * ((i 1).val / 128) + (i 1).val % 128) else 0 : ℝ))
  (ha : ∀ i, a i = (A (i 0).val (i 1).val : EReal)) (hg : ∀ i, gv i = (gq (i 1).val : EReal)) (hw : ∀ i, wa i = (W (i 0).val (i 1).val : EReal))

include hq hb in
/-- The gradient of the normalised low-rank queries: the padded columns add nothing. -/
theorem pay_dn (i) : k0_pay28 (F := Ideal) q wb i = (dn X B C N (i 0).val (i 1).val : EReal) := by
  pointwise [k0_pay28, hq, hb]
  refine congrArg Real.toEReal ((Rope.sum_heads (fun a l => turn X C N (i 0).val a l * if l < 96 then B (i 1).val (96 * a + l) else 0)
    fun a l h => by rw [if_neg (by omega), mul_zero]).trans (Finset.sum_congr rfl fun k _ => ?_))
  rw [if_pos (Nat.mod_lt _ (by norm_num)), Nat.div_add_mod]

include ha in
theorem pay_a (i) : k0_pay29 (F := Ideal) a i = (A (i 0).val (i 1).val : EReal) := by
  pointwise [k0_pay29, ha]

include ha in
theorem pay_fac (i) : k0_pay31 (F := Ideal) (k0_pay30 a) i = (Rms.fac 512 512 A (i 0).val : EReal) := by
  pointwise [k0_pay31, k0_pay30, pay_a ha]
  exact rsqrt_real (Rms.msq_pos 512 A _ (by norm_num : (0 : ℝ) < 512))

include ha in
theorem pay_nrm (i) : k0_pay32 (F := Ideal) (k0_pay29 a) (k0_pay30 a) i = (Rms.nrm 512 512 A (i 0).val (i 1).val : EReal) := by
  pointwise [k0_pay32, pay_fac ha, pay_a ha]; rfl

include hq hb ha in
/-- What the block adds to the gradient of the second norm's gain. -/
theorem pay_gain (w : Vec Ideal S1x512 .f32) (i) : k0_pay4 (F := Ideal) (k0_pay33 (k0_pay28 q wb) (k0_pay29 a) (k0_pay30 a)) w i
    = w i + (∑ p : Fin 512, dn X B C N p (i 1).val * Rms.nrm 512 512 A p (i 1).val : ℝ) := by
  pointwise [k0_pay4, k0_pay33, pay_dn hq hb, pay_nrm ha]

include hq hb ha hg in
/-- The gradient of the low-rank queries. -/
theorem pay_da (i) : k0_pay34 (F := Ideal) (k0_pay28 q wb) (k0_pay29 a) (k0_pay30 a) gv i = (da X A B C N gq (i 0).val (i 1).val : EReal) := by
  pointwise [k0_pay34, pay_dn hq hb, pay_nrm ha, pay_fac ha, hg]; rfl

include hq hb ha hg hw in
theorem pay_du (i) : k0_pay35 (F := Ideal) (k0_pay28 q wb) (k0_pay29 a) (k0_pay30 a) gv wa i = (du X A W B C N gq (i 0).val (i 1).val : EReal) := by
  pointwise [k0_pay35, pay_da hq hb ha hg, hw]; rfl

end block

section norm

variable {y h : Vec Ideal S512x1024 .f32} {v0 : Vec Ideal S8x1024 .f32} {u : FVec Ideal S512x1024 .f32}
  {Y H G : ℕ → ℕ → ℝ} {g sc : ℕ → ℝ} {E : ℕ → ℕ → EReal}
  (hy : ∀ i, y i = (Y (i 0).val (i 1).val : EReal)) (hh : ∀ i, h i = (H (i 0).val (i 1).val : EReal))
  (h0 : ∀ i, v0 i = if (i 0).val = 0 then (g (i 1).val : EReal) else if (i 0).val = 2 then (sc (i 1).val : EReal) else E (i 0).val (i 1).val)
  (hu : ∀ i, u i = (G (i 0).val (i 1).val : EReal))

include hh in
theorem pay_rr (i) : k0_pay36 (F := Ideal) h i = (rr H (i 0).val : EReal) := by
  pointwise [k0_pay36, hh]
  exact rsqrt_real (ms_pos H _)

include hh in
theorem pay_xn (i) : k0_pay38 (F := Ideal) h (k0_pay37 h) i = (xn H (i 0).val (i 1).val : EReal) := by
  pointwise [k0_pay38, k0_pay37, pay_rr hh, hh]; rfl

include h0 in
theorem pay_g (i) : k0_pay39 (F := Ideal) (k0_pay5 v0) i = (g (i 1).val : EReal) := by
  pointwise [k0_pay39, k0_pay5, h0]

include h0 hu in
theorem pay_dy (i) : k0_pay40 (F := Ideal) (k0_pay5 v0) u i = (dy G sc (i 0).val (i 1).val : EReal) := by
  pointwise [k0_pay40, k0_pay5, hu, h0]; rfl

include hy hh h0 hu in
/-- The gradient of the block's argument. -/
theorem pay_dh (i) : k0_pay43 (F := Ideal) (k0_pay5 v0) u h (k0_pay36 h) (k0_pay37 h) y i
    = (Y (i 0).val (i 1).val + dh H G g sc (i 0).val (i 1).val : ℝ) := by
  pointwise [k0_pay43, pay_dy h0 hu, pay_g h0, pay_rr hh, pay_xn hh, hy]; rfl

include hh h0 hu in
/-- What the block adds to the gradients of the gain, the shift and the scale. -/
theorem pay_row0 (w : Vec Ideal S1x1024 .f32) (i) : k0_pay45 (F := Ideal) (k0_pay5 v0) u h (k0_pay37 h) w i
    = w i + (∑ q : Fin 512, dy G sc q (i 1).val * xn H q (i 1).val : ℝ) := by
  pointwise [k0_pay45, pay_dy h0 hu, pay_xn hh]

include hu in
theorem pay_row1 (w : Vec Ideal S1x1024 .f32) (i) : k0_pay1 (F := Ideal) (k0_pay41 u) w i = w i + (∑ q : Fin 512, G q (i 1).val : ℝ) := by
  pointwise [k0_pay1, k0_pay41, hu]

include hh h0 hu in
theorem pay_row2 (w : Vec Ideal S1x1024 .f32) (i) : k0_pay2 (F := Ideal) (k0_pay42 (k0_pay5 v0) u h (k0_pay37 h)) w i
    = w i + (∑ q : Fin 512, G q (i 1).val * (xn H q (i 1).val * g (i 1).val) : ℝ) := by
  pointwise [k0_pay2, k0_pay42, hu, pay_g h0, pay_xn hh]

end norm

end Cert.Queries

end
-- ==== Proof.QBwdHost.lean ====
/- What the host lines before the queries' backward step leave, and the blocks of it that a point reads. -/
module

public import proofs.«01_k».proof.Proof.QBwdKer
public import proofs.«01_k».proof.Proof.Rows

@[expose] public section

set_option maxRecDepth 16384

noncomputable section

open Idealize.ShloMosaic Idealize.ShloMosaic.TcCoe Idealize.ShloMosaic.Pipeline Idealize.SL.Sem
open Cert.Lift Cert.Norm Cert.ModNorm Cert.QBwdIdeal Cert.QBwdIdeal.Gen

namespace Cert.Queries

/-- The heads' 96 columns, each head filled up to 128 with zeros. -/
def wide (X : ℕ → ℕ → ℕ → ℝ) (p j : ℕ) : ℝ := if j % 128 < 96 then X p (j / 128) (j % 128) else 0

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] ∧ win0_12.index t = ![0, 0] ∧ win0_13.index t = ![0, 0] :=
  (by decide +kernel : ∀ t : Fin grid0.N, _)

/-- What the host lines before the call leave, one list of them after another. -/
theorem V_eq (c : Dev nD) (b : Ref sig .tc) : V m c b = StableHlo.after hostOps0_4 (StableHlo.after hostOps0_3 (StableHlo.after hostOps0_2 (StableHlo.after hostOps0_1
    (StableHlo.after hostOps0 fun b => m (c, b))))) (Proc.devRef .tc b) := by
  unfold V
  simp only [List.flatten_cons, List.flatten_nil, List.append_nil, StableHlo.after_append]

variable {X : ℕ → ℕ → ℕ → ℝ} {Y H W B C N : ℕ → ℕ → ℝ} {g sh sc gq : ℕ → ℝ} {c : Dev nD}
  (hX : ∀ i, m ((c : Thread nD τ).loc main_arg0) i = (X (i 0).val (i 1).val (i 2).val : EReal))
  (hY : ∀ i, m ((c : Thread nD τ).loc main_arg1) i = (Y (i 0).val (i 1).val : EReal))
  (hH : ∀ i, m ((c : Thread nD τ).loc main_arg2) i = (H (i 0).val (i 1).val : EReal))
  (hg : ∀ i, m ((c : Thread nD τ).loc main_arg3) i = (g (i 0).val : EReal))
  (hsh : ∀ i, m ((c : Thread nD τ).loc main_arg4) i = (sh (i 0).val : EReal))
  (hsc : ∀ i, m ((c : Thread nD τ).loc main_arg5) i = (sc (i 0).val : EReal))
  (hW : ∀ i, m ((c : Thread nD τ).loc main_arg7) i = (W (i 0).val (i 1).val : EReal))
  (hq : ∀ i, m ((c : Thread nD τ).loc main_arg8) i = (gq (i 0).val : EReal))
  (hB : ∀ i, m ((c : Thread nD τ).loc main_arg9) i = (B (i 0).val (i 1).val : EReal))
  (hC : ∀ i, m ((c : Thread nD τ).loc main_arg10) i = (C (i 0).val (i 1).val : EReal))
  (hN : ∀ i, m ((c : Thread nD τ).loc main_arg11) i = (N (i 0).val (i 1).val : EReal))

include hX in
theorem host_x (i : S8192x2048.Idx) : (V m c main_v27 : Vec Ideal S8192x2048 .f32) i = (wide X (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hX]
  have a : (i 0).val < 8192 := (i 0).isLt
  have b : (i 1).val < 2048 := (i 1).isLt
  unfold wide
  by_cases h : (i 1).val % 128 < 96
  · rw [dif_pos (by omega), if_pos h]
  · rw [dif_neg (by omega), if_neg h]
    exact congrArg Real.toEReal Int.cast_zero

include hB in
theorem host_b (i : S512x2048.Idx) : (V m c main_v25 : Vec Ideal S512x2048 .bf16) i
    = ((if (i 1).val % 128 < 96 then B (i 0).val (96 * ((i 1).val / 128) + (i 1).val % 128) else 0 : ℝ) : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hB]
  have a : (i 0).val < 512 := (i 0).isLt
  have b : (i 1).val < 2048 := (i 1).isLt
  by_cases h : (i 1).val % 128 < 96
  · rw [dif_pos (by omega), if_pos h]
    refine congrArg Real.toEReal (congrArg₂ _ ?_ ?_) <;> omega
  · rw [dif_neg (by omega), if_neg h]
    exact congrArg Real.toEReal Int.cast_zero

/-- The low-rank queries, as the host lines before the call leave them. -/
theorem host_a : (V m c main_v21 : Vec Ideal S8192x512 .f32) = QBwdRefIdeal.Read.val_main_v26 (F := Ideal)
      (m ((c : Thread nD τ).loc main_arg2)) (m ((c : Thread nD τ).loc main_arg3)) (m ((c : Thread nD τ).loc main_arg4)) (m ((c : Thread nD τ).loc main_arg5))
      (m ((c : Thread nD τ).loc main_arg7)) := by
  rw [V_eq]
  simp only [StableHlo.after_cons, StableHlo.after_nil]
  after_results_simp
  after_results_loop
  rfl

/-- The rotation's table, as the host lines concatenate it: the factors of the columns themselves, of those 16 to the right and of those 16 to the left. -/
def hTab (x y : FVec Ideal S8192x16 .f32) : FVec Ideal S8192x384 .f32 :=
  let o64 := broadcastInDim S8192x64 ![] bcast_S_S8192x64 (constant (F := Ideal) S_ .f32 0x3F800000#32)
  let z64 := broadcastInDim S8192x64 ![] bcast_S_S8192x64 (constant (F := Ideal) S_ .f32 0x00000000#32)
  let z32 := broadcastInDim S8192x32 ![] bcast_S_S8192x32 (constant (F := Ideal) S_ .f32 0x00000000#32)
  let z16 := broadcastInDim S8192x16 ![] bcast_S_S8192x16 (constant (F := Ideal) S_ .f32 0x00000000#32)
  concatenate S8192x384 1 [⟨S8192x64, o64⟩, ⟨S8192x16, x⟩, ⟨S8192x16, x⟩, ⟨S8192x32, z32⟩, ⟨S8192x64, z64⟩, ⟨S8192x16, z16⟩, ⟨S8192x16, y⟩,
    ⟨S8192x32, z32⟩, ⟨S8192x64, z64⟩, ⟨S8192x16, Host.negf y⟩, ⟨S8192x16, z16⟩, ⟨S8192x32, z32⟩] concatenates_S8192x64_S8192x16_S8192x16_S8192x32_S8192x64_S8192x16_S8192x16_S8192x32_S8192x64_S8192x16_S8192x16_S8192x32_S8192x384_d1

set_option maxHeartbeats 2000000 in
/-- The table's numbers, from the cosines and the sines. -/
theorem hTab_eq {x y : FVec Ideal S8192x16 .f32} (hx : ∀ i, x i = (C (i 0).val (i 1).val : EReal)) (hy : ∀ i, y i = (N (i 0).val (i 1).val : EReal)) (i) :
    hTab x y i = (Rope.tab (C (i 0).val) (N (i 0).val) (i 1).val : EReal) := by
  pointwise [hTab, hx, hy]
  have hj : (i 1).val < 384 := (i 1).isLt
  unfold Rope.tab
  generalize (i 1).val = j at hj ⊢
  rcases lt_or_ge j 64 with h | h
  · rw [dif_pos (show j < 64 by omega), if_pos (show j < 64 by omega)]
  rw [dif_neg (show ¬ j < 64 by omega), if_neg (show ¬ j < 64 by omega)]
  rcases lt_or_ge j 80 with h | h
  · rw [dif_pos (show j - 64 < 16 by omega), if_pos (show j < 80 by omega)]
  rw [dif_neg (show ¬ j - 64 < 16 by omega), if_neg (show ¬ j < 80 by omega)]
  rcases lt_or_ge j 96 with h | h
  · rw [dif_pos (show j - 64 - 16 < 16 by omega), if_pos (show j < 96 by omega)]
    exact congrArg Real.toEReal (congrArg _ (by omega))
  rw [dif_neg (show ¬ j - 64 - 16 < 16 by omega), if_neg (show ¬ j < 96 by omega)]
  rcases lt_or_ge j 128 with h | h
  · rw [dif_pos (show j - 64 - 16 - 16 < 32 by omega), if_pos (show j < 208 by omega)]
    rfl
  rw [dif_neg (show ¬ j - 64 - 16 - 16 < 32 by omega)]
  rcases lt_or_ge j 192 with h | h
  · rw [dif_pos (show j - 64 - 16 - 16 - 32 < 64 by omega), if_pos (show j < 208 by omega)]
    rfl
  rw [dif_neg (show ¬ j - 64 - 16 - 16 - 32 < 64 by omega)]
  rcases lt_or_ge j 208 with h | h
  · rw [dif_pos (show j - 64 - 16 - 16 - 32 - 64 < 16 by omega), if_pos (show j < 208 by omega)]
    rfl
  rw [dif_neg (show ¬ j - 64 - 16 - 16 - 32 - 64 < 16 by omega), if_neg (show ¬ j < 208 by omega)]
  rcases lt_or_ge j 224 with h | h
  · rw [dif_pos (show j - 64 - 16 - 16 - 32 - 64 - 16 < 16 by omega), if_pos (show j < 224 by omega)]
    exact congrArg Real.toEReal (congrArg _ (by omega))
  rw [dif_neg (show ¬ j - 64 - 16 - 16 - 32 - 64 - 16 < 16 by omega), if_neg (show ¬ j < 224 by omega)]
  rcases lt_or_ge j 256 with h | h
  · rw [dif_pos (show j - 64 - 16 - 16 - 32 - 64 - 16 - 16 < 32 by omega), if_pos (show j < 320 by omega)]
    rfl
  rw [dif_neg (show ¬ j - 64 - 16 - 16 - 32 - 64 - 16 - 16 < 32 by omega)]
  rcases lt_or_ge j 320 with h | h
  · rw [dif_pos (show j - 64 - 16 - 16 - 32 - 64 - 16 - 16 - 32 < 64 by omega), if_pos (show j < 320 by omega)]
    rfl
  rw [dif_neg (show ¬ j - 64 - 16 - 16 - 32 - 64 - 16 - 16 - 32 < 64 by omega), if_neg (show ¬ j < 320 by omega)]
  rcases lt_or_ge j 336 with h | h
  · rw [dif_pos (show j - 64 - 16 - 16 - 32 - 64 - 16 - 16 - 32 - 64 < 16 by omega), if_pos (show j < 336 by omega)]
    exact congrArg Real.toEReal (congrArg (fun k => -N (i 0).val k) (by omega))
  rw [dif_neg (show ¬ j - 64 - 16 - 16 - 32 - 64 - 16 - 16 - 32 - 64 < 16 by omega), if_neg (show ¬ j < 336 by omega)]
  rcases lt_or_ge j 352 with h | h
  · rw [dif_pos (show j - 64 - 16 - 16 - 32 - 64 - 16 - 16 - 32 - 64 - 16 < 16 by omega)]
    rfl
  rw [dif_neg (show ¬ j - 64 - 16 - 16 - 32 - 64 - 16 - 16 - 32 - 64 - 16 < 16 by omega)]
  rfl

/-- The last of the host lines, from what the lines before it leave. -/
theorem tail (Z) : StableHlo.after (List.drop 22 (hostOps0_4 (F := Ideal))) Z (Proc.devRef .tc main_v43)
    = concatenate S8192x384 1 [⟨S8192x64, (Z (Proc.devRef .tc main_v41) : FVec Ideal S8192x64 .f32)⟩, ⟨S8192x16, (Z (Proc.devRef .tc main_arg10) : FVec Ideal S8192x16 .f32)⟩, ⟨S8192x16, (Z (Proc.devRef .tc main_arg10) : FVec Ideal S8192x16 .f32)⟩, ⟨S8192x32, (Z (Proc.devRef .tc main_v39) : FVec Ideal S8192x32 .f32)⟩, ⟨S8192x64, (Z (Proc.devRef .tc main_v40) : FVec Ideal S8192x64 .f32)⟩, ⟨S8192x16, (Z (Proc.devRef .tc main_v38) : FVec Ideal S8192x16 .f32)⟩, ⟨S8192x16, (Z (Proc.devRef .tc main_arg11) : FVec Ideal S8192x16 .f32)⟩, ⟨S8192x32, (Z (Proc.devRef .tc main_v39) : FVec Ideal S8192x32 .f32)⟩, ⟨S8192x64, (Z (Proc.devRef .tc main_v40) : FVec Ideal S8192x64 .f32)⟩, ⟨S8192x16, (Z (Proc.devRef .tc main_v42) : FVec Ideal S8192x16 .f32)⟩, ⟨S8192x16, (Z (Proc.devRef .tc main_v38) : FVec Ideal S8192x16 .f32)⟩, ⟨S8192x32, (Z (Proc.devRef .tc main_v39) : FVec Ideal S8192x32 .f32)⟩] concatenates_S8192x64_S8192x16_S8192x16_S8192x32_S8192x64_S8192x16_S8192x16_S8192x32_S8192x64_S8192x16_S8192x16_S8192x32_S8192x384_d1 := by
  simp only [List.drop_succ_cons, List.drop_zero, StableHlo.after_cons, StableHlo.after_nil]
  exact StableHlo.nary_result _ _ _ _ _ _

theorem cut : hostOps0_4 (F := Ideal) = List.take 22 (hostOps0_4 (F := Ideal)) ++ List.drop 22 (hostOps0_4 (F := Ideal)) := rfl

theorem piece_v41 (Z) : StableHlo.after (List.take 22 (hostOps0_4 (F := Ideal))) Z (Proc.devRef .tc main_v41) = broadcastInDim S8192x64 ![] bcast_S_S8192x64 (constant (F := Ideal) S_ .f32 0x3F800000#32) := by
  simp only [List.take_succ_cons, List.take_zero, StableHlo.after_cons, StableHlo.after_nil]
  after_results_simp

theorem piece_v40 (Z) : StableHlo.after (List.take 22 (hostOps0_4 (F := Ideal))) Z (Proc.devRef .tc main_v40) = broadcastInDim S8192x64 ![] bcast_S_S8192x64 (constant (F := Ideal) S_ .f32 0x00000000#32) := by
  simp only [List.take_succ_cons, List.take_zero, StableHlo.after_cons, StableHlo.after_nil]
  after_results_simp

theorem piece_v39 (Z) : StableHlo.after (List.take 22 (hostOps0_4 (F := Ideal))) Z (Proc.devRef .tc main_v39) = broadcastInDim S8192x32 ![] bcast_S_S8192x32 (constant (F := Ideal) S_ .f32 0x00000000#32) := by
  simp only [List.take_succ_cons, List.take_zero, StableHlo.after_cons, StableHlo.after_nil]
  after_results_simp

theorem piece_v38 (Z) : StableHlo.after (List.take 22 (hostOps0_4 (F := Ideal))) Z (Proc.devRef .tc main_v38) = broadcastInDim S8192x16 ![] bcast_S_S8192x16 (constant (F := Ideal) S_ .f32 0x00000000#32) := by
  simp only [List.take_succ_cons, List.take_zero, StableHlo.after_cons, StableHlo.after_nil]
  after_results_simp

theorem piece_v42 (Z) : (StableHlo.after (List.take 22 (hostOps0_4 (F := Ideal))) Z (Proc.devRef .tc main_v42) : FVec Ideal S8192x16 .f32) = (Host.negf (Z (Proc.devRef .tc main_arg11) : FVec Ideal S8192x16 .f32) : FVec Ideal S8192x16 .f32) := by
  simp only [List.take_succ_cons, List.take_zero, StableHlo.after_cons, StableHlo.after_nil]
  after_results_simp

theorem piece_arg10 (Z) : StableHlo.after (List.take 22 (hostOps0_4 (F := Ideal))) Z (Proc.devRef .tc main_arg10) = Z (Proc.devRef .tc main_arg10) := by
  simp only [List.take_succ_cons, List.take_zero, StableHlo.after_cons, StableHlo.after_nil]
  after_results_simp

theorem piece_arg11 (Z) : StableHlo.after (List.take 22 (hostOps0_4 (F := Ideal))) Z (Proc.devRef .tc main_arg11) = Z (Proc.devRef .tc main_arg11) := by
  simp only [List.take_succ_cons, List.take_zero, StableHlo.after_cons, StableHlo.after_nil]
  after_results_simp

/-- The two arguments are not written by the lines before. -/
theorem before_arg10 : StableHlo.after hostOps0_3 (StableHlo.after hostOps0_2 (StableHlo.after hostOps0_1 (StableHlo.after hostOps0 fun b => m (c, b)))) (Proc.devRef .tc main_arg10) = m ((c : Thread nD τ).loc main_arg10) := by
  simp only [StableHlo.after_cons, StableHlo.after_nil]
  after_results_simp

theorem before_arg11 : StableHlo.after hostOps0_3 (StableHlo.after hostOps0_2 (StableHlo.after hostOps0_1 (StableHlo.after hostOps0 fun b => m (c, b)))) (Proc.devRef .tc main_arg11) = m ((c : Thread nD τ).loc main_arg11) := by
  simp only [StableHlo.after_cons, StableHlo.after_nil]
  after_results_simp

theorem host_tab : (V m c main_v43 : Vec Ideal S8192x384 .f32) = hTab (m ((c : Thread nD τ).loc main_arg10)) (m ((c : Thread nD τ).loc main_arg11)) := by
  rw [V_eq, cut, StableHlo.after_append, tail, piece_v41, piece_v40, piece_v39, piece_v38, piece_v42, piece_arg10, piece_arg11, before_arg10, before_arg11]
  rfl

include hC hN in
theorem host_t (i : S8192x384.Idx) : (V m c main_v43 : Vec Ideal S8192x384 .f32) i = (Rope.tab (C (i 0).val) (N (i 0).val) (i 1).val : EReal) := by
  rw [host_tab m, hTab_eq hC hN]

include hX in
theorem blk_x (t : Fin cfg0.N) (i : S512x2048.Idx) : (iblk m c 0 t : Vec Ideal S512x2048 .f32) i = (wide X (512 * t.val + (i 0).val) (i 1).val : EReal) := by
  blk_simp [iblk]
  rw [host_x m hX]
  blk_simp [idx t]
  rw [mul_comm]

include hH in
theorem blk_h (t : Fin cfg0.N) (i : S512x1024.Idx) : (iblk m c 1 t : Vec Ideal S512x1024 .f32) i = (H (512 * t.val + (i 0).val) (i 1).val : EReal) := by
  blk_simp [iblk]
  rw [V_main_arg2, hH]
  blk_simp [idx t]
  rw [mul_comm]

include hH hg hsh hsc hW in
theorem blk_a (t : Fin cfg0.N) (i : S512x512.Idx) : (iblk m c 2 t : Vec Ideal S512x512 .f32) i = (low H W g sh sc (512 * t.val + (i 0).val) (i 1).val : EReal) := by
  blk_simp [iblk]
  rw [host_a m, ref_pre hH hg hsh hsc hW]
  blk_simp [idx t]
  rw [mul_comm]

include hY in
theorem blk_y (t : Fin cfg0.N) (i : S512x1024.Idx) : (iblk m c 3 t : Vec Ideal S512x1024 .f32) i = (Y (512 * t.val + (i 0).val) (i 1).val : EReal) := by
  blk_simp [iblk]
  rw [V_main_arg1, hY]
  blk_simp [idx t]
  rw [mul_comm]

/-- One of the rows that the host lines pack, read off the array they make. -/
theorem packed (k : ℕ) (i : S8x1024.Idx) (y : ℕ → ℝ) (h : k = 0 ∧ (∀ i, m ((c : Thread nD τ).loc main_arg3) i = (y (i 0).val : EReal))
      ∨ k = 2 ∧ (∀ i, m ((c : Thread nD τ).loc main_arg5) i = (y (i 0).val : EReal)))
    (a : (i 0).val = k) : (V m c main_v33 : Vec Ideal S8x1024 .f32) i = (y (i 1).val : EReal) := by
  rw [V_eq]
  simp only [StableHlo.after_cons, StableHlo.after_nil]
  after_results_simp
  rcases h with ⟨rfl, h⟩ | ⟨rfl, h⟩
  · refine (Cert.Rows.concat_row _ _ i 0 (by simp) _ rfl 0 rfl a).trans ?_
    simp only [Matrix.cons_val]
    after_results_loop
    pointwise [h]
  · refine (Cert.Rows.concat_row _ _ i 2 (by simp) _ rfl 2 rfl a).trans ?_
    simp only [Matrix.cons_val]
    after_results_loop
    pointwise [h]

include hg hsc in
/-- The packed rows: the gain and the scale are rows 0 and 2. -/
theorem blk_c : ∃ E : ℕ → ℕ → EReal, ∀ (t : Fin cfg0.N) (i : S8x1024.Idx), (iblk m c 4 t : Vec Ideal S8x1024 .f32) i
    = if (i 0).val = 0 then (g (i 1).val : EReal) else if (i 0).val = 2 then (sc (i 1).val : EReal) else E (i 0).val (i 1).val := by
  obtain ⟨E, hE⟩ := lift2E (V m c main_v33 : Vec Ideal S8x1024 .f32)
  refine ⟨E, fun t i => ?_⟩
  have e : (iblk m c 4 t : Vec Ideal S8x1024 .f32) i = (V m c main_v33 : Vec Ideal S8x1024 .f32) i := by
    blk_simp [iblk]
    exact congrArg (V m c main_v33 : Vec Ideal S8x1024 .f32) (by blk_ext [idx t])
  rw [e]
  split_ifs with a b
  · exact packed m 0 i g (.inl ⟨rfl, hg⟩) a
  · exact packed m 2 i sc (.inr ⟨rfl, hsc⟩) b
  · exact hE i

include hW in
theorem blk_w (t : Fin cfg0.N) (i : S1024x512.Idx) : (iblk m c 5 t : Vec Ideal S1024x512 .bf16) i = (W (i 0).val (i 1).val : EReal) := by
  blk_simp [iblk]
  rw [V_eq]
  simp only [StableHlo.after_cons, StableHlo.after_nil]
  after_results_simp
  after_results_loop
  pointwise [hW]
  blk_simp [idx t]

include hq in
theorem host_q (i : S8x512.Idx) (a : (i 0).val = 0) : (V m c main_v37 : Vec Ideal S8x512 .f32) i = (gq (i 1).val : EReal) := by
  rw [V_eq]
  simp only [StableHlo.after_cons, StableHlo.after_nil]
  after_results_simp
  after_results_loop
  refine (Cert.Rows.concat_row _ _ i 0 (by simp) _ rfl 0 rfl a).trans ?_
  pointwise [hq]

include hq in
/-- The second norm's gain, the first of the rows packed for it. -/
theorem blk_q (t : Fin cfg0.N) (inb) (i : S1x512.Idx) :
    View.ld (iblk m c 6 t : Vec Ideal S8x512 .f32) (Rect.unit (s := S8x512) ![0, 0] ![1, 512] inb) i = (gq (i 1).val : EReal) := by
  have e (j : S8x512.Idx) : (iblk m c 6 t : Vec Ideal S8x512 .f32) j = (V m c main_v37 : Vec Ideal S8x512 .f32) j := by
    blk_simp [iblk]
    exact congrArg (V m c main_v37 : Vec Ideal S8x512 .f32) (by blk_ext [idx t])
  rw [Cert.Rows.ld_row _ 0 (by norm_num), e, host_q m hq _ rfl]

include hB in
theorem blk_b (t : Fin cfg0.N) (i : S512x2048.Idx) : (iblk m c 7 t : Vec Ideal S512x2048 .bf16) i
    = ((if (i 1).val % 128 < 96 then B (i 0).val (96 * ((i 1).val / 128) + (i 1).val % 128) else 0 : ℝ) : EReal) := by
  blk_simp [iblk]
  rw [host_b m hB]
  blk_simp [idx t]

include hC hN in
theorem blk_t (t : Fin cfg0.N) (i : S512x384.Idx) : (iblk m c 8 t : Vec Ideal S512x384 .f32) i
    = (Rope.tab (C (512 * t.val + (i 0).val)) (N (512 * t.val + (i 0).val)) (i 1).val : EReal) := by
  blk_simp [iblk]
  rw [host_t m hC hN]
  blk_simp [idx t]
  rw [mul_comm]

end Cert.Queries

end
-- ==== Proof.QBwdHeads.lean ====
/- The sixteen heads' columns as the queries' backward step stores and loads them. -/
module

public import proofs.«01_k».proof.Proof.QBwdHost

@[expose] public section

set_option maxRecDepth 16384

noncomputable section

open Idealize.ShloMosaic Idealize.ShloMosaic.TcCoe Idealize.ShloMosaic.Pipeline Idealize.SL.Sem
open Cert.Lift Cert.Norm Cert.ModNorm Cert.QBwdIdeal Cert.QBwdIdeal.Gen

namespace Cert.Queries

section heads

/-- The 128 columns of a head. -/
abbrev cols (o : ℕ) (inb : ∀ d, (![0, o] : Fin 2 → ℕ) d + (![512, 128] : Fin 2 → ℕ) d ≤ S512x2048.size d) : Rect S512x2048 :=
  Rect.unit (s := S512x2048) ![0, o] ![512, 128] inb

/-- The sixteen heads' columns in the order of their stores, the last one first. -/
abbrev heads (x0 : Vec Ideal S512x2048 .f32) (x8 : Vec Ideal S512x384 .f32) : List (View.Piece (Elt Ideal) S512x2048 .bf16) := [
    ⟨cols 1920 (by decide), k0_pay27 (k0_pay6 x8) (View.ld x0 (cols 1920 (by decide)))⟩,
    ⟨cols 1792 (by decide), k0_pay26 (k0_pay6 x8) (View.ld x0 (cols 1792 (by decide)))⟩,
    ⟨cols 1664 (by decide), k0_pay25 (k0_pay6 x8) (View.ld x0 (cols 1664 (by decide)))⟩,
    ⟨cols 1536 (by decide), k0_pay24 (k0_pay6 x8) (View.ld x0 (cols 1536 (by decide)))⟩,
    ⟨cols 1408 (by decide), k0_pay23 (k0_pay6 x8) (View.ld x0 (cols 1408 (by decide)))⟩,
    ⟨cols 1280 (by decide), k0_pay22 (k0_pay6 x8) (View.ld x0 (cols 1280 (by decide)))⟩,
    ⟨cols 1152 (by decide), k0_pay21 (k0_pay6 x8) (View.ld x0 (cols 1152 (by decide)))⟩,
    ⟨cols 1024 (by decide), k0_pay20 (k0_pay6 x8) (View.ld x0 (cols 1024 (by decide)))⟩,
    ⟨cols 896 (by decide), k0_pay19 (k0_pay6 x8) (View.ld x0 (cols 896 (by decide)))⟩,
    ⟨cols 768 (by decide), k0_pay18 (k0_pay6 x8) (View.ld x0 (cols 768 (by decide)))⟩,
    ⟨cols 640 (by decide), k0_pay17 (k0_pay6 x8) (k0_pay15 (View.ld x0 (cols 640 (by decide)))) (k0_pay16 (k0_pay6 x8) (View.ld x0 (cols 640 (by decide))))⟩,
    ⟨cols 512 (by decide), k0_pay14 (k0_pay6 x8) (View.ld x0 (cols 512 (by decide)))⟩,
    ⟨cols 384 (by decide), k0_pay13 (k0_pay6 x8) (View.ld x0 (cols 384 (by decide)))⟩,
    ⟨cols 256 (by decide), k0_pay12 (k0_pay6 x8) (k0_pay9 (View.ld x0 (cols 256 (by decide)))) (k0_pay10 x8 (View.ld x0 (cols 256 (by decide)))) (k0_pay11 x8 (View.ld x0 (cols 256 (by decide)))) 112#32⟩,
    ⟨cols 128 (by decide), k0_pay8 x8 (View.ld x0 (cols 128 (by decide)))⟩,
    ⟨cols 0 (by decide), k0_pay7 x8 (View.ld x0 (cols 0 (by decide)))⟩]

variable {x0 : Vec Ideal S512x2048 .f32} {x8 : Vec Ideal S512x384 .f32} {X : ℕ → ℕ → ℕ → ℝ} {C N : ℕ → ℕ → ℝ}
  (h0 : ∀ i, x0 i = (wide X (i 0).val (i 1).val : EReal)) (h8 : ∀ i, x8 i = (Rope.tab (C (i 0).val) (N (i 0).val) (i 1).val : EReal))

include h0 in
/-- A head's columns as they are loaded. -/
theorem ld_cols (o : ℕ) (inb) (i : S512x128.Idx) : View.ld x0 (cols o inb) i = (wide X (i 0).val (o + (i 1).val) : EReal) := by
  refine (h0 _).trans (congrArg Real.toEReal (congrArg₂ (wide X) ?_ ?_))
  · exact (Rect.idx_unit_val _ _ _ _ _).trans (Nat.zero_add _)
  · exact Rect.idx_unit_val _ _ _ _ _

/-- A head's turned columns, at the place where they are stored. -/
theorem put_cols (k o : ℕ) (ho : o = 128 * k) (inb) {v : Vec Ideal S512x128 .bf16}
    (hv : ∀ i, v i = (Rope.rot (fun l => wide X (i 0).val (o + l)) (C (i 0).val) (N (i 0).val) (i 1).val : EReal)) (x : S512x128.Idx) :
    v x = (turn X C N ((cols o inb).idx x 0).val (((cols o inb).idx x 1).val / 128) (((cols o inb).idx x 1).val % 128) : EReal) := by
  have a : (x 1).val < 128 := (x 1).isLt
  have e0 : ((cols o inb).idx x 0).val = (x 0).val := (Rect.idx_unit_val _ _ _ _ _).trans (Nat.zero_add _)
  have e1 : ((cols o inb).idx x 1).val = o + (x 1).val := Rect.idx_unit_val _ _ _ _ _
  rw [hv, e0, e1, show (o + (x 1).val) / 128 = k by omega, show (o + (x 1).val) % 128 = (x 1).val by omega]
  refine congrArg Real.toEReal (Rope.rot_congr fun l hl => ?_)
  unfold wide
  rw [show (o + l) / 128 = k by omega, show (o + l) % 128 = l by omega, if_pos hl]

set_option maxHeartbeats 1000000 in
include h0 h8 in
/-- All heads' turned columns. -/
theorem all_heads (i : S512x2048.Idx) : View.canon (Val := Elt Ideal) (heads x0 x8) i = (turn X C N (i 0).val ((i 1).val / 128) ((i 1).val % 128) : EReal) := by
  refine View.canon_apply_of_pieces (Val := Elt Ideal) (e := .bf16) (fun i : S512x2048.Idx => (turn X C N (i 0).val ((i 1).val / 128) ((i 1).val % 128) : EReal)) _ ?_ i
    (View.cover_of_tiledL (heads x0 x8) S512x128.size (by sl_kernel_rfl) i)
  simp only [List.forall_mem_cons, List.not_mem_nil, false_imp_iff, implies_true, and_true]
  exact ⟨
    put_cols 15 1920 rfl _ (pay_head15 (v2 := x8) (v4 := View.ld x0 (cols 1920 (by decide))) (Z := fun p l => wide X p (1920 + l)) h8 (ld_cols h0 1920 _)),
    put_cols 14 1792 rfl _ (pay_head14 (v2 := x8) (v4 := View.ld x0 (cols 1792 (by decide))) (Z := fun p l => wide X p (1792 + l)) h8 (ld_cols h0 1792 _)),
    put_cols 13 1664 rfl _ (pay_head13 (v2 := x8) (v4 := View.ld x0 (cols 1664 (by decide))) (Z := fun p l => wide X p (1664 + l)) h8 (ld_cols h0 1664 _)),
    put_cols 12 1536 rfl _ (pay_head12 (v2 := x8) (v4 := View.ld x0 (cols 1536 (by decide))) (Z := fun p l => wide X p (1536 + l)) h8 (ld_cols h0 1536 _)),
    put_cols 11 1408 rfl _ (pay_head11 (v2 := x8) (v4 := View.ld x0 (cols 1408 (by decide))) (Z := fun p l => wide X p (1408 + l)) h8 (ld_cols h0 1408 _)),
    put_cols 10 1280 rfl _ (pay_head10 (v2 := x8) (v4 := View.ld x0 (cols 1280 (by decide))) (Z := fun p l => wide X p (1280 + l)) h8 (ld_cols h0 1280 _)),
    put_cols 9 1152 rfl _ (pay_head9 (v2 := x8) (v4 := View.ld x0 (cols 1152 (by decide))) (Z := fun p l => wide X p (1152 + l)) h8 (ld_cols h0 1152 _)),
    put_cols 8 1024 rfl _ (pay_head8 (v2 := x8) (v4 := View.ld x0 (cols 1024 (by decide))) (Z := fun p l => wide X p (1024 + l)) h8 (ld_cols h0 1024 _)),
    put_cols 7 896 rfl _ (pay_head7 (v2 := x8) (v4 := View.ld x0 (cols 896 (by decide))) (Z := fun p l => wide X p (896 + l)) h8 (ld_cols h0 896 _)),
    put_cols 6 768 rfl _ (pay_head6 (v2 := x8) (v4 := View.ld x0 (cols 768 (by decide))) (Z := fun p l => wide X p (768 + l)) h8 (ld_cols h0 768 _)),
    put_cols 5 640 rfl _ (pay_head5 (v2 := x8) (v4 := View.ld x0 (cols 640 (by decide))) (Z := fun p l => wide X p (640 + l)) h8 (ld_cols h0 640 _)),
    put_cols 4 512 rfl _ (pay_head4 (v2 := x8) (v4 := View.ld x0 (cols 512 (by decide))) (Z := fun p l => wide X p (512 + l)) h8 (ld_cols h0 512 _)),
    put_cols 3 384 rfl _ (pay_head3 (v2 := x8) (v4 := View.ld x0 (cols 384 (by decide))) (Z := fun p l => wide X p (384 + l)) h8 (ld_cols h0 384 _)),
    put_cols 2 256 rfl _ (pay_head2 (v2 := x8) (v4 := View.ld x0 (cols 256 (by decide))) (Z := fun p l => wide X p (256 + l)) h8 (ld_cols h0 256 _)),
    put_cols 1 128 rfl _ (pay_head1 (v2 := x8) (v4 := View.ld x0 (cols 128 (by decide))) (Z := fun p l => wide X p (128 + l)) h8 (ld_cols h0 128 _)),
    put_cols 0 0 rfl _ (pay_head0 (v2 := x8) (v4 := View.ld x0 (cols 0 (by decide))) (Z := fun p l => wide X p (0 + l)) h8 (ld_cols h0 0 _))⟩

include h0 h8 in
/-- The turned columns as they are loaded again. -/
theorem ld_heads {κ sp} (v : View sig κ sp S512x2048 .bf16) (i : S512x2048.Idx) :
    v.readCov (heads x0 x8) (Rect.unit (s := S512x2048) ![0, 0] ![512, 2048] (by decide)).toLoadRect i
      = (turn X C N (i 0).val ((i 1).val / 128) ((i 1).val % 128) : EReal) := by
  rw [View.readCov_eq_canon_ld _ _ _ fun y => View.cover_of_tiledL (heads x0 x8) S512x128.size (by sl_kernel_rfl) y]
  refine (all_heads h0 h8 _).trans ?_
  rw [Rect.idx_unit_val, Rect.idx_unit_val]
  simp

end heads

end Cert.Queries

end
-- ==== Proof.QBwdRun.lean ====
/- What the queries' backward step leaves in its arrays: what each point and all of them write. -/
module

public import proofs.«01_k».proof.Proof.QBwdHeads
public import proofs.«01_k».proof.Proof.Rows

@[expose] public section

set_option maxRecDepth 16384

noncomputable section

open Idealize.ShloMosaic Idealize.ShloMosaic.TcCoe Idealize.ShloMosaic.Pipeline Idealize.SL.Sem
open Cert.Lift Cert.Norm Cert.ModNorm Cert.QBwdIdeal Cert.QBwdIdeal.Gen

namespace Cert.Queries

section run

variable (m : (ℓ : Loc nD τ sig) → Buf (Elt Ideal) ℓ)
variable {X : ℕ → ℕ → ℕ → ℝ} {Y H W B C N : ℕ → ℕ → ℝ} {g sh sc gq : ℕ → ℝ} {c : Dev nD}
  (hX : ∀ i, m ((c : Thread nD τ).loc main_arg0) i = (X (i 0).val (i 1).val (i 2).val : EReal))
  (hY : ∀ i, m ((c : Thread nD τ).loc main_arg1) i = (Y (i 0).val (i 1).val : EReal))
  (hH : ∀ i, m ((c : Thread nD τ).loc main_arg2) i = (H (i 0).val (i 1).val : EReal))
  (hg : ∀ i, m ((c : Thread nD τ).loc main_arg3) i = (g (i 0).val : EReal))
  (hsh : ∀ i, m ((c : Thread nD τ).loc main_arg4) i = (sh (i 0).val : EReal))
  (hsc : ∀ i, m ((c : Thread nD τ).loc main_arg5) i = (sc (i 0).val : EReal))
  (hW : ∀ i, m ((c : Thread nD τ).loc main_arg7) i = (W (i 0).val (i 1).val : EReal))
  (hq : ∀ i, m ((c : Thread nD τ).loc main_arg8) i = (gq (i 0).val : EReal))
  (hB : ∀ i, m ((c : Thread nD τ).loc main_arg9) i = (B (i 0).val (i 1).val : EReal))
  (hC : ∀ i, m ((c : Thread nD τ).loc main_arg10) i = (C (i 0).val (i 1).val : EReal))
  (hN : ∀ i, m ((c : Thread nD τ).loc main_arg11) i = (N (i 0).val (i 1).val : EReal))

section block

variable (t : Fin cfg0.N) {κ : Kind} {sp : Space} (v : View sig κ sp S512x2048 .bf16)

/-- The turned columns of point `t`, loaded again. -/
abbrev turned (m : (ℓ : Loc nD τ sig) → Buf (Elt Ideal) ℓ) (c : Dev nD) (t : Fin cfg0.N) (v : View sig κ sp S512x2048 .bf16) : Vec Ideal S512x2048 .bf16 :=
  v.readCov (heads (iblk m c 0 t) (iblk m c 8 t)) (Rect.unit (s := S512x2048) ![0, 0] ![512, 2048] (by decide)).toLoadRect

include hX hC hN in
theorem turned_eq (i) : turned m c t v i = (turn X C N (512 * t.val + (i 0).val) ((i 1).val / 128) ((i 1).val % 128) : EReal) :=
  ld_heads (X := fun p => X (512 * t.val + p)) (C := fun p => C (512 * t.val + p)) (N := fun p => N (512 * t.val + p)) (blk_x m hX t) (blk_t m hC hN t) v i

include hX hH hg hsh hsc hW hB hC hN in
/-- What point `t` adds to the gradient of the second norm's gain. -/
theorem gain_blk (w : Vec Ideal S1x512 .f32) (i) : k0_pay4 (F := Ideal) (k0_pay33 (k0_pay28 (turned m c t v) (iblk m c 7 t)) (k0_pay29 (iblk m c 2 t)) (k0_pay30 (iblk m c 2 t))) w i
    = w i + (∑ p : Fin 512, dn X B C N (512 * t.val + p) (i 1).val * Rms.nrm 512 512 (low H W g sh sc) (512 * t.val + p) (i 1).val : ℝ) :=
  pay_gain (X := fun p => X (512 * t.val + p)) (C := fun p => C (512 * t.val + p)) (N := fun p => N (512 * t.val + p)) (A := fun p a => low H W g sh sc (512 * t.val + p) a)
    (turned_eq m hX hC hN t v) (blk_b m hB t) (blk_a m hH hg hsh hsc hW t) w i

include hX hH hg hsh hsc hW hq hB hC hN

/-- The gradient of the low-rank queries of point `t`. -/
theorem da_blk (inb) (i) : k0_pay34 (F := Ideal) (k0_pay28 (turned m c t v) (iblk m c 7 t)) (k0_pay29 (iblk m c 2 t)) (k0_pay30 (iblk m c 2 t))
      (View.ld (iblk m c 6 t : Vec Ideal S8x512 .f32) (Rect.unit (s := S8x512) ![0, 0] ![1, 512] inb)) i
    = (da X (low H W g sh sc) B C N gq (512 * t.val + (i 0).val) (i 1).val : EReal) :=
  pay_da (X := fun p => X (512 * t.val + p)) (C := fun p => C (512 * t.val + p)) (N := fun p => N (512 * t.val + p)) (A := fun p a => low H W g sh sc (512 * t.val + p) a)
    (turned_eq m hX hC hN t v) (blk_b m hB t) (blk_a m hH hg hsh hsc hW t) (blk_q m hq t inb) i

/-- The gradient of the modulated norm of point `t`. -/
theorem du_blk (inb) (i) : k0_pay35 (F := Ideal) (k0_pay28 (turned m c t v) (iblk m c 7 t)) (k0_pay29 (iblk m c 2 t)) (k0_pay30 (iblk m c 2 t))
      (View.ld (iblk m c 6 t : Vec Ideal S8x512 .f32) (Rect.unit (s := S8x512) ![0, 0] ![1, 512] inb)) (iblk m c 5 t) i
    = (du X (low H W g sh sc) W B C N gq (512 * t.val + (i 0).val) (i 1).val : EReal) :=
  pay_du (X := fun p => X (512 * t.val + p)) (C := fun p => C (512 * t.val + p)) (N := fun p => N (512 * t.val + p)) (A := fun p a => low H W g sh sc (512 * t.val + p) a)
    (turned_eq m hX hC hN t v) (blk_b m hB t) (blk_a m hH hg hsh hsc hW t) (blk_q m hq t inb) (blk_w m hW t) i

end block

include hX hC hN in
/-- What point `t` leaves of the gradient of the padded heads. -/
theorem out_dq (t : Fin cfg0.N) (j) : (outsAt0 m c t.val t.isLt).2.1 j = (turn X C N (512 * t.val + (j 0).val) ((j 1).val / 128) ((j 1).val % 128) : EReal) := by
  by_cases h : t.val % 16 = 0
  · rw [outsAt0_A m c t h h]; frame_out
    exact all_heads (X := fun p => X (512 * t.val + p)) (C := fun p => C (512 * t.val + p)) (N := fun p => N (512 * t.val + p)) (blk_x m hX t) (blk_t m hC hN t) j
  · rw [outsAt0_B m c t h h]; frame_out
    exact all_heads (X := fun p => X (512 * t.val + p)) (C := fun p => C (512 * t.val + p)) (N := fun p => N (512 * t.val + p)) (blk_x m hX t) (blk_t m hC hN t) j

include hX hH hg hsh hsc hW hB hC hN in
/-- The first point starts the gradient of the second norm's gain at zero. -/
theorem gain_first (t : Fin cfg0.N) (h : t.val % 16 = 0) (j) : (outsAt0 m c t.val t.isLt).2.2.2.2 j
    = (Rms.share 512 512 (low H W g sh sc) (dn X B C N) (j 1).val 512 t.val (j 0).val : EReal) := by
  have hz : ∀ i, (k0_pay3 (F := Ideal)) i = ((0 : ℝ) : EReal) := fun i => by pointwise [k0_pay3]; rfl
  rw [outsAt0_A m c t h h]; frame_out
  rw [← View.read_writes_junk_eq_canon (ms0_13 t).view, Cert.Rows.read_row, Cert.Rows.read_all]
  simp (disch := decide) only [View.readCov_skip, View.readCov_cons_toLoadRect, View.readCov_fill]
  simp only [Rms.share]
  split_ifs with h0
  · refine (gain_blk m hX hH hg hsh hsc hW hB hC hN t _ _ _).trans ?_
    rw [Cert.Rows.ld_row _ 0 (by norm_num), hz, ← EReal.coe_add, zero_add]
  · exact hz j

include hX hH hg hsh hsc hW hB hC hN in
/-- Every later point adds its block's share. -/
theorem gain_next (t : Fin cfg0.N) (h : ¬t.val % 16 = 0) (j) : (outsAt0 m c t.val t.isLt).2.2.2.2 j
    = (outsAt0 m c (t.val - 1) (Nat.lt_of_le_of_lt (Nat.sub_le _ _) t.isLt)).2.2.2.2 j
      + (Rms.share 512 512 (low H W g sh sc) (dn X B C N) (j 1).val 512 t.val (j 0).val : EReal) := by
  rw [outsAt0_B m c t h h]; frame_out
  rw [Cert.Rows.read_row]
  simp only [Rms.share]
  split_ifs with h0
  · refine (gain_blk m hX hH hg hsh hsc hW hB hC hN t _ _ _).trans ?_
    rw [Cert.Rows.ld_row _ 0 (by norm_num), Cert.Rows.ofRow_inRow h0]
  · rw [EReal.coe_zero, add_zero]
    exact congrFun (Memref.IsWhole.read_unread _ _) j

include hX hH hg hsh hsc hW hB hC hN in
/-- The running gradient of the gain after `n` points. -/
theorem gain_sum (n : ℕ) (h : n < cfg0.N) (j) : (outsAt0 m c n h).2.2.2.2 j
    = ((∑ s ∈ Finset.range (n + 1), Rms.share 512 512 (low H W g sh sc) (dn X B C N) (j 1).val 512 s (j 0).val : ℝ) : EReal) := by
  refine fold_real (fun n h j => (outsAt0 m c n h).2.2.2.2 j) (fun t j => Rms.share 512 512 (low H W g sh sc) (dn X B C N) (j 1).val 512 t (j 0).val) ?_ ?_ n h j
  · exact fun h j => gain_first m hX hH hg hsh hsc hW hB hC hN ⟨0, h⟩ rfl j
  · exact fun n h j => gain_next m hX hH hg hsh hsc hW hB hC hN ⟨n + 1, h⟩ (by have : n + 1 < 16 := h; show ¬(n + 1) % 16 = 0; omega) j

include hX hH hg hsh hsc hW hq hB hC hN

/-- What point `t` leaves of the gradient of the low-rank queries. -/
theorem out_da (t : Fin cfg0.N) (j) : (outsAt0 m c t.val t.isLt).2.2.1 j = (da X (low H W g sh sc) B C N gq (512 * t.val + (j 0).val) (j 1).val : EReal) := by
  by_cases h : t.val % 16 = 0
  · rw [outsAt0_A m c t h h]; frame_out
    exact da_blk m hX hH hg hsh hsc hW hq hB hC hN t _ _ j
  · rw [outsAt0_B m c t h h]; frame_out
    exact da_blk m hX hH hg hsh hsc hW hq hB hC hN t _ _ j

include hY in
/-- What point `t` leaves of the gradient of the block's argument. -/
theorem out_dh (t : Fin cfg0.N) (j) : (outsAt0 m c t.val t.isLt).1 j
    = (Y (512 * t.val + (j 0).val) (j 1).val + dh H (du X (low H W g sh sc) W B C N gq) g sc (512 * t.val + (j 0).val) (j 1).val : ℝ) := by
  obtain ⟨E, hE⟩ := blk_c m hg hsc
  by_cases h : t.val % 16 = 0
  · rw [outsAt0_A m c t h h]; frame_out
    exact pay_dh (Y := fun p j => Y (512 * t.val + p) j) (H := fun p j => H (512 * t.val + p) j) (G := fun p j => du X (low H W g sh sc) W B C N gq (512 * t.val + p) j) (blk_y m hY t) (blk_h m hH t) (hE t) (du_blk m hX hH hg hsh hsc hW hq hB hC hN t _ _) j
  · rw [outsAt0_B m c t h h]; frame_out
    exact pay_dh (Y := fun p j => Y (512 * t.val + p) j) (H := fun p j => H (512 * t.val + p) j) (G := fun p j => du X (low H W g sh sc) W B C N gq (512 * t.val + p) j) (blk_y m hY t) (blk_h m hH t) (hE t) (du_blk m hX hH hg hsh hsc hW hq hB hC hN t _ _) j

/-- The first point starts the sums over the rows at zero. -/
theorem out_first (t : Fin cfg0.N) (h : t.val % 16 = 0) (j) : (outsAt0 m c t.val t.isLt).2.2.2.1 j = (part H (du X (low H W g sh sc) W B C N gq) g sc (j 1).val 512 t.val (j 0).val : EReal) := by
  obtain ⟨E, hE⟩ := blk_c m hg hsc
  have hz : ∀ i, (k0_pay44 (F := Ideal)) i = ((0 : ℝ) : EReal) := fun i => by pointwise [k0_pay44]; rfl
  rw [outsAt0_A m c t h h]; frame_out
  rw [← View.read_writes_junk_eq_canon (ms0_12 t).view, Cert.Rows.read_row, Cert.Rows.read_row, Cert.Rows.read_row, Cert.Rows.read_all]
  simp (disch := decide) only [View.readCov_skip, View.readCov_cons_toLoadRect, View.readCov_fill]
  simp only [part]
  split_ifs with h2 h1 h0
  · refine (pay_row2 (H := fun p j => H (512 * t.val + p) j) (G := fun p j => du X (low H W g sh sc) W B C N gq (512 * t.val + p) j) (blk_h m hH t) (hE t) (du_blk m hX hH hg hsh hsc hW hq hB hC hN t _ _) _ _).trans ?_
    rw [Cert.Rows.ld_row _ 2 (by norm_num), hz, ← EReal.coe_add, zero_add]
    rfl
  · refine (pay_row1 (G := fun p j => du X (low H W g sh sc) W B C N gq (512 * t.val + p) j) (du_blk m hX hH hg hsh hsc hW hq hB hC hN t _ _) _ _).trans ?_
    rw [Cert.Rows.ld_row _ 1 (by norm_num), hz, ← EReal.coe_add, zero_add]
  · refine (pay_row0 (H := fun p j => H (512 * t.val + p) j) (G := fun p j => du X (low H W g sh sc) W B C N gq (512 * t.val + p) j) (blk_h m hH t) (hE t) (du_blk m hX hH hg hsh hsc hW hq hB hC hN t _ _) _ _).trans ?_
    rw [Cert.Rows.ld_row _ 0 (by norm_num), hz, ← EReal.coe_add, zero_add]
    rfl
  · exact hz j

/-- Every later point adds its block's share. -/
theorem out_next (t : Fin cfg0.N) (h : ¬t.val % 16 = 0) (j) : (outsAt0 m c t.val t.isLt).2.2.2.1 j
    = (outsAt0 m c (t.val - 1) (Nat.lt_of_le_of_lt (Nat.sub_le _ _) t.isLt)).2.2.2.1 j + (part H (du X (low H W g sh sc) W B C N gq) g sc (j 1).val 512 t.val (j 0).val : EReal) := by
  obtain ⟨E, hE⟩ := blk_c m hg hsc
  rw [outsAt0_B m c t h h]; frame_out
  rw [Cert.Rows.read_row, Cert.Rows.read_row, Cert.Rows.read_row]
  simp only [part]
  split_ifs with h2 h1 h0
  · refine (pay_row2 (H := fun p j => H (512 * t.val + p) j) (G := fun p j => du X (low H W g sh sc) W B C N gq (512 * t.val + p) j) (blk_h m hH t) (hE t) (du_blk m hX hH hg hsh hsc hW hq hB hC hN t _ _) _ _).trans ?_
    rw [Cert.Rows.ld_row _ 2 (by norm_num), Cert.Rows.ofRow_inRow h2]
    rfl
  · refine (pay_row1 (G := fun p j => du X (low H W g sh sc) W B C N gq (512 * t.val + p) j) (du_blk m hX hH hg hsh hsc hW hq hB hC hN t _ _) _ _).trans ?_
    rw [Cert.Rows.ld_row _ 1 (by norm_num), Cert.Rows.ofRow_inRow h1]
  · refine (pay_row0 (H := fun p j => H (512 * t.val + p) j) (G := fun p j => du X (low H W g sh sc) W B C N gq (512 * t.val + p) j) (blk_h m hH t) (hE t) (du_blk m hX hH hg hsh hsc hW hq hB hC hN t _ _) _ _).trans ?_
    rw [Cert.Rows.ld_row _ 0 (by norm_num), Cert.Rows.ofRow_inRow h0]
    rfl
  · rw [EReal.coe_zero, add_zero]
    exact congrFun (Memref.IsWhole.read_unread _ _) j

/-- The running sums after `n` points. -/
theorem out_sum (n : ℕ) (h : n < cfg0.N) (j) : (outsAt0 m c n h).2.2.2.1 j
    = ((∑ s ∈ Finset.range (n + 1), part H (du X (low H W g sh sc) W B C N gq) g sc (j 1).val 512 s (j 0).val : ℝ) : EReal) := by
  refine fold_real (fun n h j => (outsAt0 m c n h).2.2.2.1 j) (fun t j => part H (du X (low H W g sh sc) W B C N gq) g sc (j 1).val 512 t (j 0).val) ?_ ?_ n h j
  · exact fun h j => out_first m hX hH hg hsh hsc hW hq hB hC hN ⟨0, h⟩ rfl j
  · exact fun n h j => out_next m hX hH hg hsh hsc hW hq hB hC hN ⟨n + 1, h⟩ (by have : n + 1 < 16 := h; show ¬(n + 1) % 16 = 0; omega) j

include hY in
/-- The gradient of the block's argument after all points. -/
theorem arr_dh (i) : (dats m 0 c).arrAt 9 cfg0.N i = ((Y (i 0).val (i 1).val + dh H (du X (low H W g sh sc) W B C N gq) g sc (i 0).val (i 1).val : ℝ) : EReal) := by
  refine congrFun ((dats m 0 c).arrAt_eq_of_covers 9 (fun i => ((Y (i 0).val (i 1).val + dh H (du X (low H W g sh sc) W B C N gq) g sc (i 0).val (i 1).val : ℝ) : EReal)) (by decide +kernel)
    fun t _ y => ?_) i
  rw [after0_9, out_dh m hX hY hH hg hsh hsc hW hq hB hC hN t]
  blk_simp [idx t]
  rw [mul_comm]

/-- The gradient of the low-rank queries after all points. -/
theorem arr_da (i) : (dats m 0 c).arrAt 11 cfg0.N i = (da X (low H W g sh sc) B C N gq (i 0).val (i 1).val : EReal) := by
  refine congrFun ((dats m 0 c).arrAt_eq_of_covers 11 (fun i => (da X (low H W g sh sc) B C N gq (i 0).val (i 1).val : EReal)) (by decide +kernel) fun t _ y => ?_) i
  rw [after0_11, out_da m hX hH hg hsh hsc hW hq hB hC hN t]
  blk_simp [idx t]
  rw [mul_comm]

omit hX hH hg hsh hsc hW hq hB hC hN
/-- The last point. -/
abbrev last : Fin grid0.N := ⟨15, by rw [N_0]; decide⟩

include hX hH hg hsh hsc hW hq hB hC hN in
/-- The three sums after all points. -/
theorem arr_sums (i : S8x1024.Idx) : (dats m 0 c).arrAt 12 cfg0.N i = (sums H (du X (low H W g sh sc) W B C N gq) g sc (i 1).val (i 0).val : EReal) := by
  refine congrFun ((dats m 0 c).arrAt_eq_of_after_last 12 last (by decide +kernel) (fun i => (sums H (du X (low H W g sh sc) W B C N gq) g sc (i 1).val (i 0).val : EReal)) fun j => ?_) i
  rw [after0_12, out_sum m hX hH hg hsh hsc hW hq hB hC hN, ← parts H (du X (low H W g sh sc) W B C N gq) g sc _ 16 512 _ rfl]
  blk_simp [idx last]

include hX hH hg hsh hsc hW hB hC hN in
/-- The gradient of the second norm's gain after all points. -/
theorem arr_gain (i : S8x512.Idx) : (dats m 0 c).arrAt 13 cfg0.N i = (Rms.gain 512 512 (low H W g sh sc) (dn X B C N) (i 1).val (i 0).val : EReal) := by
  refine congrFun ((dats m 0 c).arrAt_eq_of_after_last 13 last (by decide +kernel) (fun i => (Rms.gain 512 512 (low H W g sh sc) (dn X B C N) (i 1).val (i 0).val : EReal)) fun j => ?_) i
  rw [after0_13, gain_sum m hX hH hg hsh hsc hW hB hC hN, ← Rms.shares 512 (low H W g sh sc) (dn X B C N) _ 16 512 _ rfl]
  blk_simp [idx last]

include hX hC hN in
/-- The gradient of the padded heads after all points. -/
theorem arr_dq (i) : (dats m 0 c).arrAt 10 cfg0.N i = (turn X C N (i 0).val ((i 1).val / 128) ((i 1).val % 128) : EReal) := by
  refine congrFun ((dats m 0 c).arrAt_eq_of_covers 10 (fun i => (turn X C N (i 0).val ((i 1).val / 128) ((i 1).val % 128) : EReal)) (by decide +kernel) fun t _ y => ?_) i
  rw [after0_10, out_dq m hX hC hN t]
  blk_simp [idx t]
  rw [mul_comm]

end run

end Cert.Queries

end
-- ==== Proof.QBwdEq.lean ====
/- The queries' backward step and its reference leave the same arrays on finite arguments. -/
module

public import proofs.«01_k».proof.Defs
public import proofs.«01_k».proof.Proof.QBwdRun
public import proofs.«01_k».proof.Proof.AttnMath
public import proofs.«01_k».proof.Proof.Gen.Pre_finite_q

@[expose] public section

set_option maxRecDepth 16384

noncomputable section

open Idealize.ShloMosaic Cert.Lift

namespace Cert.Queries

/-- The precondition says that eleven of the arguments are arrays of reals; the gate is not asked about. -/
theorem reals {x0 : FVec Ideal Pre_finite_q.S8192x16x96 .f32} {x1 x2 : FVec Ideal Pre_finite_q.S8192x1024 .f32} {x3 x4 x5 x6 : FVec Ideal Pre_finite_q.S1024 .f32}
    {x7 : FVec Ideal Pre_finite_q.S1024x512 .f32} {x8 : FVec Ideal Pre_finite_q.S512 .f32} {x9 : FVec Ideal Pre_finite_q.S512x1536 .f32}
    {x10 x11 : FVec Ideal Pre_finite_q.S8192x16 .f32}
    (h : Pre_finite_q.fn (F := Ideal) x0 x1 x2 x3 x4 x5 x6 x7 x8 x9 x10 x11 = fun _ => 1#1) :
    (∃ X : ℕ → ℕ → ℕ → ℝ, ∀ i, x0 i = (X (i 0).val (i 1).val (i 2).val : EReal)) ∧ (∃ Y : ℕ → ℕ → ℝ, ∀ i, x1 i = (Y (i 0).val (i 1).val : EReal))
      ∧ (∃ H : ℕ → ℕ → ℝ, ∀ i, x2 i = (H (i 0).val (i 1).val : EReal)) ∧ (∃ g : ℕ → ℝ, ∀ i, x3 i = (g (i 0).val : EReal))
      ∧ (∃ s : ℕ → ℝ, ∀ i, x4 i = (s (i 0).val : EReal)) ∧ (∃ s : ℕ → ℝ, ∀ i, x5 i = (s (i 0).val : EReal))
      ∧ (∃ W : ℕ → ℕ → ℝ, ∀ i, x7 i = (W (i 0).val (i 1).val : EReal)) ∧ (∃ s : ℕ → ℝ, ∀ i, x8 i = (s (i 0).val : EReal))
      ∧ (∃ B : ℕ → ℕ → ℝ, ∀ i, x9 i = (B (i 0).val (i 1).val : EReal)) ∧ (∃ C : ℕ → ℕ → ℝ, ∀ i, x10 i = (C (i 0).val (i 1).val : EReal))
      ∧ ∃ N : ℕ → ℕ → ℝ, ∀ i, x11 i = (N (i 0).val (i 1).val : EReal) := by
  have e := congrFun h fun a => a.elim0
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Attn.lift3 _ (real_of_all x0 _ (fun _ => rfl) _ _ _ _ e0), lift2 _ (real_of_all x1 _ (fun _ => rfl) _ _ _ _ e1),
    lift2 _ (real_of_all x2 _ (fun _ => rfl) _ _ _ _ e2), lift1 _ (real_of_all x3 _ (fun _ => rfl) _ _ _ _ e3),
    lift1 _ (real_of_all x4 _ (fun _ => rfl) _ _ _ _ e4), lift1 _ (real_of_all x5 _ (fun _ => rfl) _ _ _ _ e5),
    lift2 _ (real_of_all x7 _ (fun _ => rfl) _ _ _ _ e7), lift1 _ (real_of_all x8 _ (fun _ => rfl) _ _ _ _ e8),
    lift2 _ (real_of_all x9 _ (fun _ => rfl) _ _ _ _ e9), lift2 _ (real_of_all x10 _ (fun _ => rfl) _ _ _ _ e10),
    lift2 _ (real_of_all x11 _ (fun _ => rfl) _ _ _ _ e11)⟩

/-- The reference runs and leaves its arguments as they were. -/
theorem frame_ref : quiescent_QBwdRefIdeal := fun m ρ _ =>
  (θ_run QBwdRefIdeal.defs _ _).mono (fun r h => ⟨fun c => (h c).2.2.2.2.2, sem_eq_zero_of_no_sems (by decide) r.2⟩) (QBwdRefIdeal.Value.run m ρ)

set_option maxHeartbeats 1000000 in
/-- On finite arguments both programs leave the same gradients and the same sums. -/
theorem algebraic : algebraic_QBwdIdeal_QBwdRefIdeal_pre_finite_q := by
  intro m ρ m' ρ' hpre harg
  refine ⟨fun c => (QBwdIdeal.Gen.dats m 0 c).arrAt 9 _, fun c => (QBwdIdeal.Gen.dats m 0 c).arrAt 10 _, fun c => (QBwdIdeal.Gen.dats m 0 c).arrAt 11 _,
    fun c => (QBwdIdeal.Gen.dats m 0 c).arrAt 12 _, fun c => (QBwdIdeal.Gen.dats m 0 c).arrAt 13 _, QBwdIdeal.Value.run_blocks m ρ, ?_⟩
  refine (θ_run QBwdRefIdeal.defs _ _).mono (fun r h c => ?_) (QBwdRefIdeal.Value.run m' ρ')
  obtain ⟨⟨X, hX⟩, ⟨Y, hY⟩, ⟨H, hH⟩, ⟨g, hg⟩, ⟨sh, hsh⟩, ⟨sc, hsc⟩, ⟨W, hW⟩, ⟨gq, hq⟩, ⟨B, hB⟩, ⟨C, hC⟩, N, hN⟩ := reals (hpre c)
  obtain ⟨a0, a1, a2, a3, a4, a5, a6, a7, a8, a9, a10, a11⟩ := harg c
  obtain ⟨r0, r1, r2, r3, r4, k⟩ := h c
  refine ⟨r0.trans ?_, r1.trans ?_, r2.trans ?_, r3.trans ?_, r4.trans ?_, k⟩
  · rw [QBwdRefIdeal.Read.val_main_v134_eq]
    simp only [StableHlo.launchContents_devRef, a0, a1, a2, a3, a4, a5, a7, a8, a9, a10, a11]
    exact funext fun i => (ref_dh hX hY hH hg hsh hsc hW hq hB hC hN i).trans (arr_dh m hX hY hH hg hsh hsc hW hq hB hC hN i).symm
  · rw [QBwdRefIdeal.Read.val_main_v138_eq]
    simp only [StableHlo.launchContents_devRef, a0, a10, a11]
    exact funext fun i => (ref_wide hX hC hN i).trans (arr_dq m hX hC hN i).symm
  · rw [QBwdRefIdeal.Read.val_main_v139_eq]
    simp only [StableHlo.launchContents_devRef, a0, a2, a3, a4, a5, a7, a8, a9, a10, a11]
    exact funext fun i => (ref_das hX hH hg hsh hsc hW hq hB hC hN i).trans (arr_da m hX hH hg hsh hsc hW hq hB hC hN i).symm
  · rw [QBwdRefIdeal.Read.val_main_v144_eq]
    simp only [StableHlo.launchContents_devRef, a0, a2, a3, a4, a5, a7, a8, a9, a10, a11]
    exact funext fun i => (ref_sums hX hH hg hsh hsc hW hq hB hC hN i).trans (arr_sums m hX hH hg hsh hsc hW hq hB hC hN i).symm
  · rw [QBwdRefIdeal.Read.val_main_v147_eq]
    simp only [StableHlo.launchContents_devRef, a0, a2, a3, a4, a5, a7, a9, a10, a11]
    exact funext fun i => (ref_gain hX hH hg hsh hsc hW hB hC hN i).trans (arr_gain m hX hH hg hsh hsc hW hB hC hN i).symm

end Cert.Queries

end
-- ==== Proof.KvBwdRef.lean ====
/- What the reference of the keys' and values' backward step computes, element by element, on real arrays. -/
module

public import proofs.«01_k».proof.Proof.QBwdRef
public import proofs.«01_k».proof.Proof.Gen.KvBwdRefIdeal.Read

@[expose] public section

set_option maxRecDepth 16384

noncomputable section

open Idealize.ShloMosaic Cert.Lift Cert.Norm Cert.ModNorm Cert.KvBwdRefIdeal Cert.KvBwdRefIdeal.Read
open Cert.Queries (low)

namespace Cert.Keys

section real
variable (X U : ℕ → ℕ → ℕ → ℝ) (A W B C N : ℕ → ℕ → ℝ) (gk : ℕ → ℝ) (p : ℕ)

/-- A head's 64 columns of the keys' gradient and 64 of the values'. -/
def both (a l : ℕ) : ℝ := if l < 64 then X p a l else U p a (l - 64)
/-- The keys' rotary columns summed over the heads. -/
def heads (l : ℕ) : ℝ := if l < 64 then 0 else ∑ a : Fin 16, X p a l
/-- The gradient of the shared rotary columns before the rotation, at the places 64 to 95 of 128. -/
def pe (l : ℕ) : ℝ := Rope.rot (heads X p) (C p) (N p) l
/-- The gradient of the normalised low-rank rows: the heads' gradients times the transposed second weight. -/
def dn (a : ℕ) : ℝ := ∑ k : Fin 2048, both X U p (k.val / 128) (k.val % 128) * B a k
/-- The gradient of the low-rank rows. -/
def dc (a : ℕ) : ℝ := Rms.dx 256 256 A (dn X U B) gk p a
/-- The gradient of the first product: the low-rank rows, then the rotary columns. -/
def near (k : ℕ) : ℝ := if k < 256 then dc X U A B gk p k else pe X C N p (64 + (k - 256))
/-- The same gradient with the rotary columns in the middle of 128. -/
def far (k : ℕ) : ℝ := if k < 256 then dc X U A B gk p k else pe X C N p (k - 256)
/-- The gradient of the modulated norm. -/
def du (j : ℕ) : ℝ := ∑ k : Fin 288, near X U A B C N gk p k * W j k

theorem pe_low (l : ℕ) (h : l < 64) : pe X C N p l = 0 := by
  unfold pe Rope.rot heads; rw [if_pos h, if_pos h]

theorem pe_high (l : ℕ) (h : 96 ≤ l) : pe X C N p l = 0 := by
  unfold pe Rope.rot; rw [if_neg (by omega), if_neg (by omega), if_neg (by omega)]
end real

section reference

variable {x0 : (⟨S8192x16x96, .f32⟩ : BufTy).Contents (Elt Ideal)} {x1 : (⟨S8192x16x64, .f32⟩ : BufTy).Contents (Elt Ideal)}
  {x2 x3 : (⟨S8192x1024, .f32⟩ : BufTy).Contents (Elt Ideal)}
  {x4 x5 x6 : (⟨S1024, .f32⟩ : BufTy).Contents (Elt Ideal)} {x7 : (⟨S1024x288, .f32⟩ : BufTy).Contents (Elt Ideal)}
  {x8 : (⟨S256, .f32⟩ : BufTy).Contents (Elt Ideal)} {x9 : (⟨S256x2048, .f32⟩ : BufTy).Contents (Elt Ideal)}
  {x10 x11 : (⟨S8192x16, .f32⟩ : BufTy).Contents (Elt Ideal)}
  {X U : ℕ → ℕ → ℕ → ℝ} {Y H W B C N : ℕ → ℕ → ℝ} {g sh sc gk : ℕ → ℝ}
  (h0 : ∀ i, x0 i = (X (i 0).val (i 1).val (i 2).val : EReal)) (h1 : ∀ i, x1 i = (U (i 0).val (i 1).val (i 2).val : EReal))
  (h2 : ∀ i, x2 i = (Y (i 0).val (i 1).val : EReal)) (h3 : ∀ i, x3 i = (H (i 0).val (i 1).val : EReal))
  (h4 : ∀ i, x4 i = (g (i 0).val : EReal)) (h5 : ∀ i, x5 i = (sh (i 0).val : EReal))
  (h6 : ∀ i, x6 i = (sc (i 0).val : EReal)) (h7 : ∀ i, x7 i = (W (i 0).val (i 1).val : EReal)) (h8 : ∀ i, x8 i = (gk (i 0).val : EReal))
  (h9 : ∀ i, x9 i = (B (i 0).val (i 1).val : EReal)) (h10 : ∀ i, x10 i = (C (i 0).val (i 1).val : EReal))
  (h11 : ∀ i, x11 i = (N (i 0).val (i 1).val : EReal))

attribute [local pointwise] val_main_cst_apply val_main_v0_apply val_main_cst_0_apply val_main_v1_apply val_main_v2_apply val_main_cst_1_apply
  val_main_v3_apply val_main_v4_apply val_main_cst_2_apply val_main_v5_apply val_main_v6_apply val_main_cst_3_apply val_main_v7_apply
  val_main_v10_apply val_main_cst_4_apply val_main_v11_apply val_main_v12_apply val_main_v13_apply val_main_v15_apply val_main_v16_apply
  val_main_v18_apply val_main_cst_5_apply val_main_v19_apply val_main_v20_apply val_main_v21_apply val_main_v22_apply val_main_v23_apply
  val_main_v24_apply val_main_v29_apply val_main_v30_apply val_main_cst_6_apply val_main_v31_apply val_main_v32_apply val_main_cst_7_apply
  val_main_v33_apply val_main_v34_apply val_main_cst_8_apply val_main_v35_apply val_main_v38_apply val_main_cst_9_apply val_main_v39_apply
  val_main_v40_apply val_main_v41_apply val_main_v43_apply val_main_v44_apply val_main_v45_apply val_main_v46_apply val_main_v47_apply
  val_main_v48_apply val_main_v49_apply val_main_v50_apply val_main_v51_apply val_main_v52_apply val_main_v53_apply val_main_v54_apply
  val_main_v55_apply val_main_v56_apply val_main_v57_apply val_main_v58_apply val_main_v60_apply val_main_v61_apply val_main_v63_apply
  val_main_v64_apply val_main_cst_10_apply val_main_v66_apply val_main_cst_11_apply val_main_v68_apply val_main_v69_apply val_main_v70_apply
  val_main_v71_apply val_main_v72_apply val_main_v73_apply val_main_v75_apply val_main_v81_apply val_main_cst_12_apply val_main_v82_apply
  val_main_v83_apply val_main_v84_apply val_main_cst_13_apply val_main_v86_apply val_main_v87_apply val_main_cst_14_apply val_main_v88_apply
  val_main_v89_apply val_main_v90_apply val_main_v91_apply val_main_v92_apply val_main_cst_15_apply val_main_v93_apply val_main_v94_apply
  val_main_cst_16_apply val_main_v95_apply val_main_v96_apply val_main_v97_apply val_main_v98_apply val_main_v99_apply val_main_cst_17_apply
  val_main_v103_apply val_main_v104_apply val_main_cst_18_apply val_main_v105_apply val_main_v106_apply val_main_cst_19_apply val_main_v107_apply
  val_main_v108_apply val_main_v109_apply val_main_cst_20_apply val_main_v111_apply val_main_v112_apply val_main_cst_21_apply val_main_v113_apply
  val_main_v114_apply val_main_v115_apply val_main_cst_22_apply val_main_v117_apply val_main_v118_apply val_main_cst_23_apply val_main_v119_apply
  val_main_v120_apply val_main_v121_apply val_main_v122_apply val_main_v123_apply val_main_v124_apply val_main_cst_24_apply val_main_v125_apply
  val_main_v126_apply val_main_cst_25_apply val_main_v127_apply val_main_v128_apply val_main_v129_apply val_main_v130_apply val_main_v131_apply
  val_main_v133_apply val_main_cst_26_apply val_main_v134_apply val_main_v135_apply val_main_cst_27_apply val_main_v136_apply val_main_v140_apply
  val_main_v141_apply val_main_v142_apply val_main_cst_28_apply val_main_v143_apply val_main_v145_apply val_main_cst_29_apply val_main_v146_apply

include h3 in
theorem ref_ms (i) : val_main_v8 (F := Ideal) x3 i = (ms H (i 0).val : EReal) := by
  pointwise [val_main_v8_apply, h3]; rfl

include h3 in
theorem ref_rr (i) : val_main_v9 (F := Ideal) x3 i = (rr H (i 0).val : EReal) := by
  pointwise [val_main_v9_apply, ref_ms h3, rsqrt_real (ms_pos H _)]; rfl

include h3 in
theorem ref_xn (i) : val_main_v14 (F := Ideal) x3 i = (xn H (i 0).val (i 1).val : EReal) := by
  pointwise [val_main_v14_apply, ref_rr h3, h3]; rfl

include h3 h4 in
theorem ref_xg (i) : val_main_v17 (F := Ideal) x3 x4 i = (xn H (i 0).val (i 1).val * g (i 1).val : ℝ) := by
  pointwise [val_main_v17_apply, ref_xn h3, h4]

include h3 h4 h5 h6 in
theorem ref_u (i) : val_main_v25 (F := Ideal) x3 x4 x5 x6 i = (mod H g sc (i 0).val (i 1).val sh : EReal) := by
  pointwise [val_main_v25_apply, ref_xg h3 h4, h5, h6]; rfl

include h3 h4 h5 h6 h7

theorem ref_low (i) : val_main_v28 (F := Ideal) x3 x4 x5 x6 x7 i = (low H W g sh sc (i 0).val (i 1).val : EReal) := by
  pointwise [val_main_v28_apply, val_main_v27_apply, val_main_v26_apply, ref_u h3 h4 h5 h6, h7]; rfl

theorem ref_msq (i) : val_main_v36 (F := Ideal) x3 x4 x5 x6 x7 i = (Rms.msq 256 256 (low H W g sh sc) (i 0).val : EReal) := by
  pointwise [val_main_v36_apply, ref_low h3 h4 h5 h6 h7]; rfl

theorem ref_fac (i) : val_main_v37 (F := Ideal) x3 x4 x5 x6 x7 i = (Rms.fac 256 256 (low H W g sh sc) (i 0).val : EReal) := by
  pointwise [val_main_v37_apply, ref_msq h3 h4 h5 h6 h7, rsqrt_real (Rms.msq_pos 256 _ _ (by norm_num : (0 : ℝ) < 256))]; rfl

/-- The normalised low-rank rows. -/
theorem ref_nrm (i) : val_main_v42 (F := Ideal) x3 x4 x5 x6 x7 i = (Rms.nrm 256 256 (low H W g sh sc) (i 0).val (i 1).val : EReal) := by
  pointwise [val_main_v42_apply, ref_fac h3 h4 h5 h6 h7, ref_low h3 h4 h5 h6 h7]; rfl

omit h3 h4 h5 h6 h7

include h0 in
/-- The rotary columns' gradients summed over the heads. -/
theorem ref_heads (i) : val_main_v67 (F := Ideal) x0 i = (heads X (i 0).val (64 + (i 1).val) : EReal) := by
  pointwise [val_main_v67_apply, val_main_v65_apply, h0]
  unfold heads
  rw [if_neg (by omega)]

include h0 h10 h11 in
theorem ref_left (i) : val_main_v76 (F := Ideal) x0 x10 x11 i
    = (heads X (i 0).val (64 + (16 + (i 1).val)) * N (i 0).val (i 1).val + heads X (i 0).val (64 + (i 1).val) * C (i 0).val (i 1).val : ℝ) := by
  pointwise [val_main_v76_apply, ref_heads h0, h10, h11]

include h0 h10 h11 in
theorem ref_right (i) : val_main_v74 (F := Ideal) x0 x10 x11 i
    = (heads X (i 0).val (64 + (16 + (i 1).val)) * C (i 0).val (i 1).val + -heads X (i 0).val (64 + (i 1).val) * N (i 0).val (i 1).val : ℝ) := by
  pointwise [val_main_v74_apply, ref_heads h0, h10, h11]

include h0 h10 h11 in
/-- The gradient of the shared rotary columns. -/
theorem ref_pe (i) : val_main_v77 (F := Ideal) x0 x10 x11 i = (pe X C N (i 0).val (64 + (i 1).val) : EReal) := by
  have a : (i 1).val < 32 := (i 1).isLt
  by_cases h : (i 1).val < 16
  · have e : pe X C N (i 0).val (64 + (i 1).val) = heads X (i 0).val (64 + (16 + (i 1).val)) * N (i 0).val (i 1).val
        + heads X (i 0).val (64 + (i 1).val) * C (i 0).val (i 1).val := by
      unfold pe Rope.rot
      rw [if_neg (by omega), if_pos (by omega), show 64 + (i 1).val - 64 = (i 1).val by omega, show 64 + (16 + (i 1).val) = 64 + (i 1).val + 16 by omega, add_comm]
    rw [e]
    pointwise [val_main_v77, ref_left h0 h10 h11, ref_right h0 h10 h11]
    rw [dif_pos h]
  · have e : pe X C N (i 0).val (64 + (i 1).val) = heads X (i 0).val (64 + (16 + ((i 1).val - 16))) * C (i 0).val ((i 1).val - 16)
        + -heads X (i 0).val (64 + ((i 1).val - 16)) * N (i 0).val ((i 1).val - 16) := by
      unfold pe Rope.rot
      rw [if_neg (by omega), if_neg (by omega), if_pos (by omega), show 64 + (i 1).val - 80 = (i 1).val - 16 by omega,
        show 64 + (16 + ((i 1).val - 16)) = 64 + (i 1).val by omega, show 64 + ((i 1).val - 16) = 64 + (i 1).val - 16 by omega]
      ring
    rw [e]
    pointwise [val_main_v77, ref_left h0 h10 h11, ref_right h0 h10 h11]
    rw [dif_neg h]

include h0 h1

theorem ref_both (i) : val_main_v78 (F := Ideal) x0 x1 i = (both X U (i 0).val (i 1).val (i 2).val : EReal) := by
  have a : (i 2).val < 128 := (i 2).isLt
  pointwise [val_main_v78, h0, h1]
  unfold both
  by_cases h : (i 2).val < 64
  · rw [dif_pos h, if_pos h]
  · rw [dif_neg h, if_neg h]

theorem ref_flat (i) : val_main_v79 (F := Ideal) x0 x1 i = (both X U (i 0).val ((i 1).val / 128) ((i 1).val % 128) : EReal) := by
  have a : (i 1).val < 2048 := (i 1).isLt
  pointwise [val_main_v79_apply, ref_both h0 h1]
  refine congrArg Real.toEReal (congr (congrArg₂ _ ?_ ?_) ?_) <;> omega

/-- The gradient of the keys' and the values' columns, head after head. -/
theorem ref_kvb (i) : val_main_v139 (F := Ideal) x0 x1 i = (both X U (i 0).val ((i 1).val / 128) ((i 1).val % 128) : EReal) := by
  pointwise [val_main_v139_apply, ref_flat h0 h1]

include h9

theorem ref_dn (i) : val_main_v80 (F := Ideal) x0 x1 x9 i = (dn X U B (i 0).val (i 1).val : EReal) := by
  pointwise [val_main_v80_apply, ref_flat h0 h1, h9]; rfl

include h8 in
theorem ref_dng (i) : val_main_v85 (F := Ideal) x0 x1 x8 x9 i = (dn X U B (i 0).val (i 1).val * gk (i 1).val : ℝ) := by
  pointwise [val_main_v85_apply, ref_dn h0 h1 h9, h8]

include h3 h4 h5 h6 h7

/-- The gradient of the second norm's gain, in the first of eight rows. -/
theorem ref_gain (i) : val_main_v147 (F := Ideal) x0 x1 x3 x4 x5 x6 x7 x9 i
    = (Rms.gain 256 256 (low H W g sh sc) (dn X U B) (i 1).val (i 0).val : EReal) := by
  pointwise [val_main_v147, ref_dn h0 h1 h9, ref_nrm h3 h4 h5 h6 h7]
  unfold Rms.gain
  split_ifs <;> first | rfl | omega | exact congrArg Real.toEReal (Finset.sum_congr rfl fun q _ => mul_comm _ _)

include h8

theorem ref_dc (i) : val_main_v100 (F := Ideal) x0 x1 x3 x4 x5 x6 x7 x8 x9 i
    = (dc X U (low H W g sh sc) B gk (i 0).val (i 1).val : EReal) := by
  pointwise [val_main_v100_apply, ref_dng h0 h1 h8 h9, ref_fac h3 h4 h5 h6 h7, ref_msq h3 h4 h5 h6 h7, ref_low h3 h4 h5 h6 h7,
    div_real _ (Rms.msq_pos 256 (low H W g sh sc) _ (by norm_num : (0 : ℝ) < 256)).ne']
  refine congrArg Real.toEReal ?_
  have e := Rms.chain 256 (low H W g sh sc) (dn X U B) gk (i 0).val (i 1).val (by norm_num : (0 : ℝ) < 256)
  unfold dc
  rw [← e]

include h10 h11

theorem ref_near (i) : val_main_v101 (F := Ideal) x0 x1 x3 x4 x5 x6 x7 x8 x9 x10 x11 i
    = (near X U (low H W g sh sc) B C N gk (i 0).val (i 1).val : EReal) := by
  have a : (i 1).val < 288 := (i 1).isLt
  pointwise [val_main_v101, ref_dc h0 h1 h3 h4 h5 h6 h7 h8 h9, ref_pe h0 h10 h11]
  unfold near
  by_cases h : (i 1).val < 256
  · rw [dif_pos h, if_pos h]
  · rw [dif_neg h, if_neg h]

/-- The gradient of the first product, its rotary columns in the middle of the last 128. -/
theorem ref_far (i) : val_main_v138 (F := Ideal) x0 x1 x3 x4 x5 x6 x7 x8 x9 x10 x11 i
    = (far X U (low H W g sh sc) B C N gk (i 0).val (i 1).val : EReal) := by
  have a : (i 1).val < 384 := (i 1).isLt
  pointwise [val_main_v138_apply, val_main_v137, ref_near h0 h1 h3 h4 h5 h6 h7 h8 h9 h10 h11]
  unfold far
  rcases lt_or_ge (i 1).val 256 with h | h
  · rw [dif_pos h, if_pos h, near, if_pos h]
  rw [dif_neg (show ¬ (i 1).val < 256 by omega), if_neg (show ¬ (i 1).val < 256 by omega)]
  rcases lt_or_ge (i 1).val 320 with h1 | h1
  · rw [dif_pos (show (i 1).val - 256 < 64 by omega), pe_low _ _ _ _ _ (by omega)]; rfl
  rw [dif_neg (show ¬ (i 1).val - 256 < 64 by omega)]
  rcases lt_or_ge (i 1).val 352 with h2 | h2
  · rw [dif_pos (show (i 1).val - 256 - 64 < 32 by omega), near, if_neg (by omega)]
    exact congrArg Real.toEReal (congrArg _ (by omega))
  · rw [dif_neg (show ¬ (i 1).val - 256 - 64 < 32 by omega), pe_high _ _ _ _ _ (by omega)]; rfl

theorem ref_du (i) : val_main_v102 (F := Ideal) x0 x1 x3 x4 x5 x6 x7 x8 x9 x10 x11 i
    = (du X U (low H W g sh sc) W B C N gk (i 0).val (i 1).val : EReal) := by
  pointwise [val_main_v102_apply, ref_near h0 h1 h3 h4 h5 h6 h7 h8 h9 h10 h11, h7]; rfl

theorem ref_dy (i) : val_main_v110 (F := Ideal) x0 x1 x3 x4 x5 x6 x7 x8 x9 x10 x11 i
    = (dy (du X U (low H W g sh sc) W B C N gk) sc (i 0).val (i 1).val : EReal) := by
  pointwise [val_main_v110_apply, ref_du h0 h1 h3 h4 h5 h6 h7 h8 h9 h10 h11, h6]; rfl

theorem ref_dxn (i) : val_main_v116 (F := Ideal) x0 x1 x3 x4 x5 x6 x7 x8 x9 x10 x11 i
    = (dxn (du X U (low H W g sh sc) W B C N gk) g sc (i 0).val (i 1).val : EReal) := by
  pointwise [val_main_v116_apply, ref_dy h0 h1 h3 h4 h5 h6 h7 h8 h9 h10 h11, h4]; rfl

include h2 in
/-- The gradient of the block's argument. -/
theorem ref_dh (i) : val_main_v132 (F := Ideal) x0 x1 x2 x3 x4 x5 x6 x7 x8 x9 x10 x11 i
    = (Y (i 0).val (i 1).val + dh H (du X U (low H W g sh sc) W B C N gk) g sc (i 0).val (i 1).val : ℝ) := by
  pointwise [val_main_v132_apply, ref_dxn h0 h1 h3 h4 h5 h6 h7 h8 h9 h10 h11, ref_rr h3, ref_ms h3, div_real _ (ms_pos H _).ne', h2, h3]
  refine congrArg Real.toEReal ?_
  have e := bwd H (dxn (du X U (low H W g sh sc) W B C N gk) g sc (i 0).val) (i 0).val (i 1).val
  unfold dh xn
  rw [← e]; ring

/-- The gradients of the gain, the shift and the scale, one to a row of eight, the others zero. -/
theorem ref_sums (i) : val_main_v144 (F := Ideal) x0 x1 x3 x4 x5 x6 x7 x8 x9 x10 x11 i
    = (sums H (du X U (low H W g sh sc) W B C N gk) g sc (i 1).val (i 0).val : EReal) := by
  pointwise [val_main_v144, ref_dy h0 h1 h3 h4 h5 h6 h7 h8 h9 h10 h11, ref_du h0 h1 h3 h4 h5 h6 h7 h8 h9 h10 h11, ref_xn h3, ref_xg h3 h4]
  unfold sums
  split_ifs <;> first | rfl | omega | exact congrArg Real.toEReal (Finset.sum_congr rfl fun q _ => mul_comm _ _)

end reference

end Cert.Keys

end
-- ==== Proof.KvBwdKer.lean ====
/- What the keys' and values' backward step computes of one block of rows, on real arrays. -/
module

public import proofs.«01_k».proof.Proof.KvBwdRef
public import proofs.«01_k».proof.Proof.Gen.KvBwdIdeal.Value

@[expose] public section

set_option maxRecDepth 16384

noncomputable section

open Idealize.ShloMosaic Idealize.ShloMosaic.TcCoe Idealize.ShloMosaic.Pipeline Idealize.SL.Sem
open Cert.Lift Cert.Norm Cert.ModNorm Cert.KvBwdIdeal Cert.KvBwdIdeal.Gen

namespace Cert.Keys

/-- The number of each of a head's 128 columns. -/
abbrev lane : IVec S512x128 32 := iota .tc S512x128 32 [1] iota_S512x128_d1_w32

theorem slt_lane : ∀ l : Fin 128, IntOp.cmpi .slt (BitVec.ofNat 32 l.val) 64#32 = if l.val < 64 then 1#1 else 0#1 := by decide +kernel
theorem sge_lane : ∀ l : Fin 128, IntOp.cmpi .sge (BitVec.ofNat 32 l.val) 64#32 = if l.val < 64 then 0#1 else 1#1 := by decide +kernel

/-- A choice between the first 64 columns and the last 64. -/
theorem first {l : ℕ} (h : l < 128) (x y : ℝ) : Scalar.select (IntOp.cmpi .slt (BitVec.ofNat 32 l) 64#32) (x : EReal) (y : EReal) = ((if l < 64 then x else y : ℝ) : EReal) := by
  rw [slt_lane ⟨l, h⟩]
  split_ifs <;> rfl

/-- The last 64 columns, with zeros for the first 64. -/
theorem rest {l : ℕ} (h : l < 128) (x : ℝ) : Scalar.select (IntOp.cmpi .sge (BitVec.ofNat 32 l) 64#32) (x : EReal) 0 = ((if l < 64 then 0 else x : ℝ) : EReal) := by
  rw [sge_lane ⟨l, h⟩]
  split_ifs <;> rfl

section head

variable {v4 v6 : Vec Ideal S512x128 .f32} {Z V : ℕ → ℕ → ℝ}
  (h4 : ∀ i, v4 i = (Z (i 0).val (i 1).val : EReal)) (h6 : ∀ i, v6 i = (V (i 0).val (i 1).val : EReal))

include h4 h6

/-- A head's columns: the keys' first 64, then the values'; the same lines for each of the sixteen heads. -/
theorem pay_head0 (i) : k0_pay9 (F := Ideal) v4 v6 i = ((if (i 1).val < 64 then Z (i 0).val (i 1).val else V (i 0).val (i 1).val : ℝ) : EReal) := by
  have a : (i 1).val < 128 := (i 1).isLt
  pointwise [k0_pay9, k0_pay8, h4, h6, first a]

theorem pay_head1 (i) : k0_pay11 (F := Ideal) v4 v6 i = ((if (i 1).val < 64 then Z (i 0).val (i 1).val else V (i 0).val (i 1).val : ℝ) : EReal) :=
  pay_head0 h4 h6 i

theorem pay_head2 (i) : k0_pay14 (F := Ideal) lane (k0_pay13 v4) v6 i = ((if (i 1).val < 64 then Z (i 0).val (i 1).val else V (i 0).val (i 1).val : ℝ) : EReal) :=
  pay_head0 h4 h6 i

theorem pay_head3 (i) : k0_pay16 (F := Ideal) lane v4 v6 i = ((if (i 1).val < 64 then Z (i 0).val (i 1).val else V (i 0).val (i 1).val : ℝ) : EReal) :=
  pay_head0 h4 h6 i

theorem pay_head4 (i) : k0_pay19 (F := Ideal) lane v4 v6 i = ((if (i 1).val < 64 then Z (i 0).val (i 1).val else V (i 0).val (i 1).val : ℝ) : EReal) :=
  pay_head0 h4 h6 i

theorem pay_head5 (i) : k0_pay21 (F := Ideal) lane v4 v6 i = ((if (i 1).val < 64 then Z (i 0).val (i 1).val else V (i 0).val (i 1).val : ℝ) : EReal) :=
  pay_head0 h4 h6 i

theorem pay_head6 (i) : k0_pay23 (F := Ideal) lane v4 v6 i = ((if (i 1).val < 64 then Z (i 0).val (i 1).val else V (i 0).val (i 1).val : ℝ) : EReal) :=
  pay_head0 h4 h6 i

theorem pay_head7 (i) : k0_pay26 (F := Ideal) lane (k0_pay25 v4) v6 i = ((if (i 1).val < 64 then Z (i 0).val (i 1).val else V (i 0).val (i 1).val : ℝ) : EReal) :=
  pay_head0 h4 h6 i

theorem pay_head8 (i) : k0_pay28 (F := Ideal) lane v4 v6 i = ((if (i 1).val < 64 then Z (i 0).val (i 1).val else V (i 0).val (i 1).val : ℝ) : EReal) :=
  pay_head0 h4 h6 i

theorem pay_head9 (i) : k0_pay31 (F := Ideal) lane v4 v6 i = ((if (i 1).val < 64 then Z (i 0).val (i 1).val else V (i 0).val (i 1).val : ℝ) : EReal) :=
  pay_head0 h4 h6 i

theorem pay_head10 (i) : k0_pay33 (F := Ideal) lane v4 v6 i = ((if (i 1).val < 64 then Z (i 0).val (i 1).val else V (i 0).val (i 1).val : ℝ) : EReal) :=
  pay_head0 h4 h6 i

theorem pay_head11 (i) : k0_pay35 (F := Ideal) lane v4 v6 i = ((if (i 1).val < 64 then Z (i 0).val (i 1).val else V (i 0).val (i 1).val : ℝ) : EReal) :=
  pay_head0 h4 h6 i

theorem pay_head12 (i) : k0_pay38 (F := Ideal) lane (k0_pay37 v4) v6 i = ((if (i 1).val < 64 then Z (i 0).val (i 1).val else V (i 0).val (i 1).val : ℝ) : EReal) :=
  pay_head0 h4 h6 i

theorem pay_head13 (i) : k0_pay40 (F := Ideal) lane v4 v6 i = ((if (i 1).val < 64 then Z (i 0).val (i 1).val else V (i 0).val (i 1).val : ℝ) : EReal) :=
  pay_head0 h4 h6 i

theorem pay_head14 (i) : k0_pay43 (F := Ideal) lane v4 v6 i = ((if (i 1).val < 64 then Z (i 0).val (i 1).val else V (i 0).val (i 1).val : ℝ) : EReal) :=
  pay_head0 h4 h6 i

theorem pay_head15 (i) : k0_pay45 (F := Ideal) lane v4 v6 i = ((if (i 1).val < 64 then Z (i 0).val (i 1).val else V (i 0).val (i 1).val : ℝ) : EReal) :=
  pay_head0 h4 h6 i

end head

section pe

variable {z : Fin 16 → Vec Ideal S512x128 .f32} {tb : Vec Ideal S512x384 .f32} {Z : ℕ → ℕ → ℕ → ℝ} {C N : ℕ → ℕ → ℝ}
  (hz : ∀ k i, z k i = (Z (i 0).val k.val (i 1).val : EReal))
  (ht : ∀ i, tb i = (Rope.tab (C (i 0).val) (N (i 0).val) (i 1).val : EReal))

/-- The last 64 columns of the first `n` heads, added. -/
def add (Z : ℕ → ℕ → ℕ → ℝ) (n p l : ℕ) : ℝ := if l < 64 then 0 else ∑ a ∈ Finset.range n, Z p a l

theorem add_succ (Z : ℕ → ℕ → ℕ → ℝ) (n p l : ℕ) : add Z (n + 1) p l = add Z n p l + if l < 64 then 0 else Z p n l := by
  unfold add
  split_ifs
  · exact (add_zero _).symm
  · exact Finset.sum_range_succ _ _

theorem add_none (Z : ℕ → ℕ → ℕ → ℝ) (p l : ℕ) : add Z 0 p l = 0 := by
  unfold add
  split_ifs <;> rfl

theorem add_all (Z : ℕ → ℕ → ℕ → ℝ) (p l : ℕ) : add Z 16 p l = heads Z p l := by
  unfold add heads
  rw [Finset.sum_range]

include hz

theorem pay_add2 (i) : k0_pay12 (F := Ideal) (z 0) (z 1) i = (add Z 2 (i 0).val (i 1).val : EReal) := by
  have a : (i 1).val < 128 := (i 1).isLt
  pointwise [k0_pay12, k0_pay10, k0_pay8, hz, rest a]
  rw [add_succ Z 1, add_succ Z 0, add_none, zero_add]

theorem pay_add4 (i) : k0_pay17 (F := Ideal) lane (k0_pay12 (z 0) (z 1)) (k0_pay13 (z 2)) (z 3) i = (add Z 4 (i 0).val (i 1).val : EReal) := by
  have a : (i 1).val < 128 := (i 1).isLt
  pointwise [k0_pay17, k0_pay13, k0_pay15, pay_add2 hz, hz, rest a]
  rw [add_succ Z 3, add_succ Z 2]

theorem pay_add7 (i) : k0_pay24 (F := Ideal) lane (k0_pay17 lane (k0_pay12 (z 0) (z 1)) (k0_pay13 (z 2)) (z 3)) (k0_pay18 (z 4)) (z 5) (z 6) i = (add Z 7 (i 0).val (i 1).val : EReal) := by
  have a : (i 1).val < 128 := (i 1).isLt
  pointwise [k0_pay24, k0_pay18, k0_pay20, k0_pay22, pay_add4 hz, hz, rest a]
  rw [add_succ Z 6, add_succ Z 5, add_succ Z 4]

theorem pay_add9 (i) : k0_pay29 (F := Ideal) lane (k0_pay24 lane (k0_pay17 lane (k0_pay12 (z 0) (z 1)) (k0_pay13 (z 2)) (z 3)) (k0_pay18 (z 4)) (z 5) (z 6)) (k0_pay25 (z 7)) (z 8) i = (add Z 9 (i 0).val (i 1).val : EReal) := by
  have a : (i 1).val < 128 := (i 1).isLt
  pointwise [k0_pay29, k0_pay25, k0_pay27, pay_add7 hz, hz, rest a]
  rw [add_succ Z 8, add_succ Z 7]

theorem pay_add12 (i) : k0_pay36 (F := Ideal) lane (k0_pay29 lane (k0_pay24 lane (k0_pay17 lane (k0_pay12 (z 0) (z 1)) (k0_pay13 (z 2)) (z 3)) (k0_pay18 (z 4)) (z 5) (z 6)) (k0_pay25 (z 7)) (z 8)) (k0_pay30 (z 9)) (z 10) (z 11) i = (add Z 12 (i 0).val (i 1).val : EReal) := by
  have a : (i 1).val < 128 := (i 1).isLt
  pointwise [k0_pay36, k0_pay30, k0_pay32, k0_pay34, pay_add9 hz, hz, rest a]
  rw [add_succ Z 11, add_succ Z 10, add_succ Z 9]

theorem pay_add14 (i) : k0_pay41 (F := Ideal) lane (k0_pay36 lane (k0_pay29 lane (k0_pay24 lane (k0_pay17 lane (k0_pay12 (z 0) (z 1)) (k0_pay13 (z 2)) (z 3)) (k0_pay18 (z 4)) (z 5) (z 6)) (k0_pay25 (z 7)) (z 8)) (k0_pay30 (z 9)) (z 10) (z 11)) (k0_pay37 (z 12)) (z 13) i = (add Z 14 (i 0).val (i 1).val : EReal) := by
  have a : (i 1).val < 128 := (i 1).isLt
  pointwise [k0_pay41, k0_pay37, k0_pay39, pay_add12 hz, hz, rest a]
  rw [add_succ Z 13, add_succ Z 12]

include ht in
/-- The gradient of the shared rotary columns. -/
theorem pay_pe (i) : k0_pay46 (F := Ideal) lane (k0_pay41 lane (k0_pay36 lane (k0_pay29 lane (k0_pay24 lane (k0_pay17 lane (k0_pay12 (z 0) (z 1)) (k0_pay13 (z 2)) (z 3)) (k0_pay18 (z 4)) (z 5) (z 6)) (k0_pay25 (z 7)) (z 8)) (k0_pay30 (z 9)) (z 10) (z 11)) (k0_pay37 (z 12)) (z 13)) (k0_pay42 (z 14)) (z 15) tb i = (pe Z C N (i 0).val (i 1).val : EReal) := by
  have a : (i 1).val < 128 := (i 1).isLt
  have b : ((i 1).val + 128 - 112) % 128 < 128 := Nat.mod_lt _ (by norm_num)
  have d : ((i 1).val + 128 - 16) % 128 < 128 := Nat.mod_lt _ (by norm_num)
  pointwise [k0_pay46, k0_pay42, k0_pay44, pay_add14 hz, hz, ht, rest a, rest b, rest d]
  simp only [← add_succ Z 14, ← add_succ Z 15, add_all]
  exact congrArg Real.toEReal (Rope.rot_tab _ _ _ _ _ _ a (by omega) (by omega))

end pe

section block

/-- The first weight with the rotary columns in the middle of the last 128. -/
def wfar (W : ℕ → ℕ → ℝ) (j k : ℕ) : ℝ := if k < 256 then W j k else if k < 320 then 0 else if k < 352 then W j (k - 64) else 0

/-- The columns filled in add nothing to the product with the first weight. -/
theorem sum_far (X U : ℕ → ℕ → ℕ → ℝ) (A W B C N : ℕ → ℕ → ℝ) (gk : ℕ → ℝ) (p j : ℕ) :
    ∑ k : Fin 384, far X U A B C N gk p k * wfar W j k = du X U A W B C N gk p j := by
  have e0 := Fin.sum_univ_add (a := 256) (b := 128) fun k : Fin 384 => far X U A B C N gk p k * wfar W j k
  have e1 := Fin.sum_univ_add (a := 64) (b := 64) fun k : Fin 128 => far X U A B C N gk p (256 + k) * wfar W j (256 + k)
  have e2 := Fin.sum_univ_add (a := 32) (b := 32) fun k : Fin 64 => far X U A B C N gk p (256 + (64 + k)) * wfar W j (256 + (64 + k))
  have e3 := Fin.sum_univ_add (a := 256) (b := 32) fun k : Fin 288 => near X U A B C N gk p k * W j k
  simp only [Fin.val_castAdd, Fin.val_natAdd] at e0 e1 e2 e3
  unfold du
  refine e0.trans ((congrArg₂ _ ?_ ?_).trans e3.symm)
  · exact Finset.sum_congr rfl fun k _ => by unfold far near wfar; rw [if_pos k.isLt, if_pos k.isLt, if_pos k.isLt]
  refine e1.trans ?_
  rw [Finset.sum_eq_zero fun (k : Fin 64) _ => by unfold wfar; rw [if_neg (by omega), if_pos (by omega), mul_zero], zero_add]
  refine e2.trans ?_
  rw [Finset.sum_eq_zero (s := Finset.univ) (f := fun k : Fin 32 => far X U A B C N gk p (256 + (64 + (32 + k.val))) * wfar W j (256 + (64 + (32 + k.val))))
    fun (k : Fin 32) _ => by unfold wfar; rw [if_neg (by omega), if_neg (by omega), if_neg (by omega), mul_zero], add_zero]
  refine Finset.sum_congr rfl fun k _ => ?_
  unfold far near wfar
  rw [if_neg (by omega), if_neg (by omega), if_neg (by omega), if_pos (by omega), if_neg (by omega)]
  rw [show 256 + (64 + k.val) - 256 = 64 + (256 + k.val - 256) by omega, show 256 + (64 + k.val) - 64 = 256 + k.val by omega]

variable {q : Vec Ideal S512x2048 .bf16} {wb : Vec Ideal S256x2048 .bf16} {a : Vec Ideal S512x256 .f32} {gv : Vec Ideal S1x256 .f32} {f : Vec Ideal S512x384 .bf16}
  {wa : Vec Ideal S1024x384 .bf16}
  {X U : ℕ → ℕ → ℕ → ℝ} {A B W C N : ℕ → ℕ → ℝ} {gk : ℕ → ℝ}
  (hq : ∀ i, q i = (both X U (i 0).val ((i 1).val / 128) ((i 1).val % 128) : EReal))
  (hb : ∀ i, wb i = (B (i 0).val (i 1).val : EReal))
  (ha : ∀ i, a i = (A (i 0).val (i 1).val : EReal)) (hg : ∀ i, gv i = (gk (i 1).val : EReal))
  (hf : ∀ i, f i = (far X U A B C N gk (i 0).val (i 1).val : EReal)) (hw : ∀ i, wa i = (wfar W (i 0).val (i 1).val : EReal))

include hq hb in
/-- The gradient of the normalised low-rank rows. -/
theorem pay_dn (i) : k0_pay47 (F := Ideal) q wb i = (dn X U B (i 0).val (i 1).val : EReal) := by
  pointwise [k0_pay47, hq, hb]; rfl

include ha in
theorem pay_a (i) : k0_pay48 (F := Ideal) a i = (A (i 0).val (i 1).val : EReal) := by
  pointwise [k0_pay48, ha]

include ha in
theorem pay_fac (i) : k0_pay49 (F := Ideal) a i = (Rms.fac 256 256 A (i 0).val : EReal) := by
  pointwise [k0_pay49, pay_a ha]
  exact rsqrt_real (Rms.msq_pos 256 A _ (by norm_num : (0 : ℝ) < 256))

include ha in
theorem pay_nrm (i) : k0_pay50 (F := Ideal) a i = (Rms.nrm 256 256 A (i 0).val (i 1).val : EReal) := by
  pointwise [k0_pay50, pay_fac ha, pay_a ha]; rfl

include hq hb ha in
/-- What the block adds to the gradient of the second norm's gain. -/
theorem pay_gain (w : Vec Ideal S1x256 .f32) (i) : k0_pay6 (F := Ideal) (k0_pay51 (k0_pay47 q wb) a) w i
    = w i + (∑ p : Fin 512, dn X U B p (i 1).val * Rms.nrm 256 256 A p (i 1).val : ℝ) := by
  pointwise [k0_pay6, k0_pay51, pay_dn hq hb, pay_nrm ha]

include hq hb ha hg in
/-- The gradient of the low-rank rows. -/
theorem pay_dc (i) : k0_pay52 (F := Ideal) (k0_pay47 q wb) a gv i = (dc X U A B gk (i 0).val (i 1).val : EReal) := by
  pointwise [k0_pay52, pay_dn hq hb, pay_nrm ha, pay_fac ha, hg]; rfl

include hf hw in
theorem pay_du (i) : k0_pay54 (F := Ideal) f wa i = (du X U A W B C N gk (i 0).val (i 1).val : EReal) := by
  pointwise [k0_pay54, hf, hw]
  exact congrArg Real.toEReal (sum_far X U A W B C N gk _ _)

end block

section norm

variable {y h : Vec Ideal S512x1024 .f32} {v0 : Vec Ideal S8x1024 .f32} {u : FVec Ideal S512x1024 .f32}
  {Y H G : ℕ → ℕ → ℝ} {g sc : ℕ → ℝ} {E : ℕ → ℕ → EReal}
  (hy : ∀ i, y i = (Y (i 0).val (i 1).val : EReal)) (hh : ∀ i, h i = (H (i 0).val (i 1).val : EReal))
  (h0 : ∀ i, v0 i = if (i 0).val = 0 then (g (i 1).val : EReal) else if (i 0).val = 2 then (sc (i 1).val : EReal) else E (i 0).val (i 1).val)
  (hu : ∀ i, u i = (G (i 0).val (i 1).val : EReal))

include hh in
theorem pay_rr (i) : k0_pay55 (F := Ideal) h i = (rr H (i 0).val : EReal) := by
  pointwise [k0_pay55, hh]
  exact rsqrt_real (ms_pos H _)

include hh in
theorem pay_xn (i) : k0_pay56 (F := Ideal) h i = (xn H (i 0).val (i 1).val : EReal) := by
  pointwise [k0_pay56, pay_rr hh, hh]; rfl

include h0 in
theorem pay_g (i) : k0_pay57 (F := Ideal) (k0_pay7 v0) i = (g (i 1).val : EReal) := by
  pointwise [k0_pay57, k0_pay7, h0]

include h0 hu in
theorem pay_dy (i) : k0_pay58 (F := Ideal) (k0_pay7 v0) u i = (dy G sc (i 0).val (i 1).val : EReal) := by
  pointwise [k0_pay58, k0_pay7, hu, h0]; rfl

include hy hh h0 hu in
/-- The gradient of the block's argument. -/
theorem pay_dh (i) : k0_pay62 (F := Ideal) (k0_pay7 v0) u h y i
    = (Y (i 0).val (i 1).val + dh H G g sc (i 0).val (i 1).val : ℝ) := by
  pointwise [k0_pay62, pay_dy h0 hu, pay_g h0, pay_rr hh, pay_xn hh, hy]; rfl

include hh h0 hu in
/-- What the block adds to the gradients of the gain, the shift and the scale. -/
theorem pay_row0 (w : Vec Ideal S1x1024 .f32) (i) : k0_pay2 (F := Ideal) (k0_pay61 (k0_pay7 v0) u h) w i
    = w i + (∑ q : Fin 512, dy G sc q (i 1).val * xn H q (i 1).val : ℝ) := by
  pointwise [k0_pay2, k0_pay61, pay_dy h0 hu, pay_xn hh]

include hu in
theorem pay_row1 (w : Vec Ideal S1x1024 .f32) (i) : k0_pay3 (F := Ideal) (k0_pay59 u) w i = w i + (∑ q : Fin 512, G q (i 1).val : ℝ) := by
  pointwise [k0_pay3, k0_pay59, hu]

include hh h0 hu in
theorem pay_row2 (w : Vec Ideal S1x1024 .f32) (i) : k0_pay4 (F := Ideal) (k0_pay60 (k0_pay7 v0) u h) w i
    = w i + (∑ q : Fin 512, G q (i 1).val * (xn H q (i 1).val * g (i 1).val) : ℝ) := by
  pointwise [k0_pay4, k0_pay60, hu, pay_g h0, pay_xn hh]

end norm

end Cert.Keys

end
-- ==== Proof.KvBwdHost.lean ====
/- What the host lines before the keys' and values' backward step leave, and the blocks of it that a point reads. -/
module

public import proofs.«01_k».proof.Proof.KvBwdKer
public import proofs.«01_k».proof.Proof.QBwdHost

@[expose] public section

set_option maxRecDepth 16384

noncomputable section

open Idealize.ShloMosaic Idealize.ShloMosaic.TcCoe Idealize.ShloMosaic.Pipeline Idealize.SL.Sem
open Cert.Lift Cert.Norm Cert.ModNorm Cert.KvBwdIdeal Cert.KvBwdIdeal.Gen
open Cert.Queries (low wide)

namespace Cert.Keys

/-- The values' 64 columns as the last of a head's 128. -/
def back (U : ℕ → ℕ → ℕ → ℝ) (p j : ℕ) : ℝ := if j % 128 < 64 then 0 else U p (j / 128) (j % 128 - 64)

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![0, 0]
    ∧ win0_14.index t = ![0, 0] :=
  (by decide +kernel : ∀ t : Fin grid0.N, _)

/-- What the host lines before the call leave, one list of them after another. -/
theorem V_eq (c : Dev nD) (b : Ref sig .tc) : V m c b = StableHlo.after hostOps0_4 (StableHlo.after hostOps0_3 (StableHlo.after hostOps0_2 (StableHlo.after hostOps0_1
    (StableHlo.after hostOps0 fun b => m (c, b))))) (Proc.devRef .tc b) := by
  unfold V
  simp only [List.flatten_cons, List.flatten_nil, List.append_nil, StableHlo.after_append]

variable {X U : ℕ → ℕ → ℕ → ℝ} {Y H W B C N : ℕ → ℕ → ℝ} {g sh sc gk : ℕ → ℝ} {c : Dev nD}
  (hX : ∀ i, m ((c : Thread nD τ).loc main_arg0) i = (X (i 0).val (i 1).val (i 2).val : EReal))
  (hU : ∀ i, m ((c : Thread nD τ).loc main_arg1) i = (U (i 0).val (i 1).val (i 2).val : EReal))
  (hY : ∀ i, m ((c : Thread nD τ).loc main_arg2) i = (Y (i 0).val (i 1).val : EReal))
  (hH : ∀ i, m ((c : Thread nD τ).loc main_arg3) i = (H (i 0).val (i 1).val : EReal))
  (hg : ∀ i, m ((c : Thread nD τ).loc main_arg4) i = (g (i 0).val : EReal))
  (hsh : ∀ i, m ((c : Thread nD τ).loc main_arg5) i = (sh (i 0).val : EReal))
  (hsc : ∀ i, m ((c : Thread nD τ).loc main_arg6) i = (sc (i 0).val : EReal))
  (hW : ∀ i, m ((c : Thread nD τ).loc main_arg7) i = (W (i 0).val (i 1).val : EReal))
  (hk : ∀ i, m ((c : Thread nD τ).loc main_arg8) i = (gk (i 0).val : EReal))
  (hB : ∀ i, m ((c : Thread nD τ).loc main_arg9) i = (B (i 0).val (i 1).val : EReal))
  (hC : ∀ i, m ((c : Thread nD τ).loc main_arg10) i = (C (i 0).val (i 1).val : EReal))
  (hN : ∀ i, m ((c : Thread nD τ).loc main_arg11) i = (N (i 0).val (i 1).val : EReal))

include hX in
theorem host_x (i : S8192x2048.Idx) : (V m c main_v30 : Vec Ideal S8192x2048 .f32) i = (wide X (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hX]
  have a : (i 0).val < 8192 := (i 0).isLt
  have b : (i 1).val < 2048 := (i 1).isLt
  unfold wide
  by_cases h : (i 1).val % 128 < 96
  · rw [dif_pos (by omega), if_pos h]
  · rw [dif_neg (by omega), if_neg h]
    exact congrArg Real.toEReal Int.cast_zero

include hU in
theorem host_u (i : S8192x2048.Idx) : (V m c main_v32 : Vec Ideal S8192x2048 .f32) i = (back U (i 0).val (i 1).val : EReal) := by
  rw [V_eq]
  simp only [StableHlo.after_cons, StableHlo.after_nil]
  after_results_simp
  after_results_loop
  simp -implicitDefEqProofs only [StableHlo.TRef.toBuf, StableHlo.TRef.ofBuf, cast_cast, cast_eq]
  pointwise [hU]
  have a : (i 0).val < 8192 := (i 0).isLt
  have b : (i 1).val < 2048 := (i 1).isLt
  unfold back
  by_cases h : (i 1).val % 128 < 64
  · rw [dif_neg (by omega), if_pos h]
    exact congrArg Real.toEReal Int.cast_zero
  · rw [dif_pos (by omega), if_neg h]

/-- The rows times the first 256 columns of the weight. -/
def hLow (x : FVec Ideal S8192x1024 .f32) (w : FVec Ideal S1024x288 .f32) : FVec Ideal S8192x256 .f32 :=
  Host.dotGeneral dot_S8192x1024_S1024x256_S8192x256_1_0_0_1_n_n none x (extractStridedSlice S1024x256 ![0, 0] w slices_S1024x288_S1024x256_0_0 : FVec Ideal S1024x256 .f32)

/-- The low-rank rows, as the host lines before the call leave them: the modulated norm times the first 256 columns of the weight. -/
theorem host_a : (V m c main_v22 : Vec Ideal S8192x256 .f32) = hLow
      (KvBwdRefIdeal.Read.val_main_v25 (F := Ideal) (m ((c : Thread nD τ).loc main_arg3)) (m ((c : Thread nD τ).loc main_arg4)) (m ((c : Thread nD τ).loc main_arg5))
        (m ((c : Thread nD τ).loc main_arg6))) (m ((c : Thread nD τ).loc main_arg7)) := by
  rw [V_eq]
  simp only [StableHlo.after_cons, StableHlo.after_nil]
  after_results_simp
  after_results_loop
  rfl

include hH hg hsh hsc hW in
theorem host_low (i : S8192x256.Idx) : (V m c main_v22 : Vec Ideal S8192x256 .f32) i = (low H W g sh sc (i 0).val (i 1).val : EReal) := by
  rw [host_a m]
  pointwise [hLow, ref_u hH hg hsh hsc, hW]; rfl

/-- The first weight's first 256 columns and its last 32. -/
def hLeft (w : FVec Ideal S1024x288 .f32) : FVec Ideal S1024x256 .bf16 :=
  extractStridedSlice S1024x256 ![0, 0] (truncf .bf16 w bitsLt_bf16_f32 : FVec Ideal S1024x288 .bf16) slices_S1024x288_S1024x256_0_0

def hRight (w : FVec Ideal S1024x288 .f32) : FVec Ideal S1024x32 .bf16 :=
  extractStridedSlice S1024x32 ![0, 256] (truncf .bf16 w bitsLt_bf16_f32 : FVec Ideal S1024x288 .bf16) slices_S1024x288_S1024x32_0_256

/-- The first weight's columns with zeros around the last 32. -/
def hFar (w : FVec Ideal S1024x288 .f32) : FVec Ideal S1024x384 .bf16 :=
  concatenate S1024x384 1 [⟨S1024x256, hLeft w⟩,
    ⟨S1024x64, broadcastInDim S1024x64 ![] bcast_S_S1024x64 (constant (F := Ideal) S_ .bf16 0x0000#16)⟩,
    ⟨S1024x32, hRight w⟩,
    ⟨S1024x32, broadcastInDim S1024x32 ![] bcast_S_S1024x32 (constant (F := Ideal) S_ .bf16 0x0000#16)⟩] concatenates_S1024x256_S1024x64_S1024x32_S1024x32_S1024x384_d1

theorem hFar_eq {w : FVec Ideal S1024x288 .f32} {W : ℕ → ℕ → ℝ} (hw : ∀ i, w i = (W (i 0).val (i 1).val : EReal)) (i) :
    hFar w i = (wfar W (i 0).val (i 1).val : EReal) := by
  have a : (i 1).val < 384 := (i 1).isLt
  pointwise [hFar, hLeft, hRight, hw]
  unfold wfar
  rcases lt_or_ge (i 1).val 256 with h | h
  · rw [dif_pos h, if_pos h]
  rw [dif_neg (by omega), if_neg (by omega)]
  rcases lt_or_ge (i 1).val 320 with h | h
  · rw [dif_pos (show (i 1).val - 256 < 64 by omega), if_pos h]
    rfl
  rw [dif_neg (show ¬(i 1).val - 256 < 64 by omega), if_neg (by omega)]
  rcases lt_or_ge (i 1).val 352 with h | h
  · rw [dif_pos (show (i 1).val - 256 - 64 < 32 by omega), if_pos h, show 256 + ((i 1).val - 256 - 64) = (i 1).val - 64 by omega]
  rw [dif_neg (show ¬(i 1).val - 256 - 64 < 32 by omega), if_neg (by omega)]
  rfl

theorem wtail (Z) : StableHlo.after (List.drop 34 (hostOps0 (F := Ideal))) Z (Proc.devRef .tc main_v28)
    = concatenate S1024x384 1 [⟨S1024x256, (Z (Proc.devRef .tc main_v24) : FVec Ideal S1024x256 .bf16)⟩, ⟨S1024x64, (Z (Proc.devRef .tc main_v25) : FVec Ideal S1024x64 .bf16)⟩,
      ⟨S1024x32, (Z (Proc.devRef .tc main_v26) : FVec Ideal S1024x32 .bf16)⟩, ⟨S1024x32, (Z (Proc.devRef .tc main_v27) : FVec Ideal S1024x32 .bf16)⟩]
      concatenates_S1024x256_S1024x64_S1024x32_S1024x32_S1024x384_d1 := by
  simp only [List.drop_succ_cons, List.drop_zero, StableHlo.after_cons, StableHlo.after_nil]
  exact (StableHlo.nullary_result_ne _ _ _ _ (by decide)).trans (StableHlo.nary_result _ _ _ _ _ _)

theorem wcut : hostOps0 (F := Ideal) = List.take 34 (hostOps0 (F := Ideal)) ++ List.drop 34 (hostOps0 (F := Ideal)) := rfl

theorem piece_v24 (Z) : (StableHlo.after (List.take 34 (hostOps0 (F := Ideal))) Z (Proc.devRef .tc main_v24) : FVec Ideal S1024x256 .bf16)
    = hLeft (Z (Proc.devRef .tc main_arg7)) := by
  simp only [List.take_succ_cons, List.take_zero, StableHlo.after_cons, StableHlo.after_nil]
  after_results_simp
  rfl

theorem piece_v25 (Z) : StableHlo.after (List.take 34 (hostOps0 (F := Ideal))) Z (Proc.devRef .tc main_v25)
    = broadcastInDim S1024x64 ![] bcast_S_S1024x64 (constant (F := Ideal) S_ .bf16 0x0000#16) := by
  simp only [List.take_succ_cons, List.take_zero, StableHlo.after_cons, StableHlo.after_nil]
  after_results_simp

theorem piece_v26 (Z) : (StableHlo.after (List.take 34 (hostOps0 (F := Ideal))) Z (Proc.devRef .tc main_v26) : FVec Ideal S1024x32 .bf16)
    = hRight (Z (Proc.devRef .tc main_arg7)) := by
  simp only [List.take_succ_cons, List.take_zero, StableHlo.after_cons, StableHlo.after_nil]
  after_results_simp
  rfl

theorem piece_v27 (Z) : StableHlo.after (List.take 34 (hostOps0 (F := Ideal))) Z (Proc.devRef .tc main_v27)
    = broadcastInDim S1024x32 ![] bcast_S_S1024x32 (constant (F := Ideal) S_ .bf16 0x0000#16) := by
  simp only [List.take_succ_cons, List.take_zero, StableHlo.after_cons, StableHlo.after_nil]
  after_results_simp

/-- The later lines leave the weight's columns as they are. -/
theorem later_v28 (Z) : StableHlo.after hostOps0_4 (StableHlo.after hostOps0_3 (StableHlo.after hostOps0_2 (StableHlo.after (hostOps0_1 (F := Ideal)) Z))) (Proc.devRef .tc main_v28)
    = Z (Proc.devRef .tc main_v28) := by
  simp only [StableHlo.after_cons, StableHlo.after_nil]
  after_results_simp

include hW in
theorem host_w (i : S1024x384.Idx) : (V m c main_v28 : Vec Ideal S1024x384 .bf16) i = (wfar W (i 0).val (i 1).val : EReal) := by
  have e : (V m c main_v28 : Vec Ideal S1024x384 .bf16) = hFar (m ((c : Thread nD τ).loc main_arg7)) := by
    rw [V_eq, later_v28, wcut, StableHlo.after_append, wtail, piece_v24, piece_v25, piece_v26, piece_v27]
    rfl
  rw [e, hFar_eq hW]

/-- The last of the host lines, from what the lines before it leave. -/
theorem tail (Z) : StableHlo.after (List.drop 21 (hostOps0_4 (F := Ideal))) Z (Proc.devRef .tc main_v47)
    = concatenate S8192x384 1 [⟨S8192x64, (Z (Proc.devRef .tc main_v45) : FVec Ideal S8192x64 .f32)⟩, ⟨S8192x16, (Z (Proc.devRef .tc main_arg10) : FVec Ideal S8192x16 .f32)⟩, ⟨S8192x16, (Z (Proc.devRef .tc main_arg10) : FVec Ideal S8192x16 .f32)⟩, ⟨S8192x32, (Z (Proc.devRef .tc main_v43) : FVec Ideal S8192x32 .f32)⟩, ⟨S8192x64, (Z (Proc.devRef .tc main_v44) : FVec Ideal S8192x64 .f32)⟩, ⟨S8192x16, (Z (Proc.devRef .tc main_v42) : FVec Ideal S8192x16 .f32)⟩, ⟨S8192x16, (Z (Proc.devRef .tc main_arg11) : FVec Ideal S8192x16 .f32)⟩, ⟨S8192x32, (Z (Proc.devRef .tc main_v43) : FVec Ideal S8192x32 .f32)⟩, ⟨S8192x64, (Z (Proc.devRef .tc main_v44) : FVec Ideal S8192x64 .f32)⟩, ⟨S8192x16, (Z (Proc.devRef .tc main_v46) : FVec Ideal S8192x16 .f32)⟩, ⟨S8192x16, (Z (Proc.devRef .tc main_v42) : FVec Ideal S8192x16 .f32)⟩, ⟨S8192x32, (Z (Proc.devRef .tc main_v43) : FVec Ideal S8192x32 .f32)⟩] concatenates_S8192x64_S8192x16_S8192x16_S8192x32_S8192x64_S8192x16_S8192x16_S8192x32_S8192x64_S8192x16_S8192x16_S8192x32_S8192x384_d1 := by
  simp only [List.drop_succ_cons, List.drop_zero, StableHlo.after_cons, StableHlo.after_nil]
  exact StableHlo.nary_result _ _ _ _ _ _

theorem cut : hostOps0_4 (F := Ideal) = List.take 21 (hostOps0_4 (F := Ideal)) ++ List.drop 21 (hostOps0_4 (F := Ideal)) := rfl

theorem piece_v45 (Z) : StableHlo.after (List.take 21 (hostOps0_4 (F := Ideal))) Z (Proc.devRef .tc main_v45) = broadcastInDim S8192x64 ![] bcast_S_S8192x64 (constant (F := Ideal) S_ .f32 0x3F800000#32) := by
  simp only [List.take_succ_cons, List.take_zero, StableHlo.after_cons, StableHlo.after_nil]
  after_results_simp

theorem piece_v44 (Z) : StableHlo.after (List.take 21 (hostOps0_4 (F := Ideal))) Z (Proc.devRef .tc main_v44) = broadcastInDim S8192x64 ![] bcast_S_S8192x64 (constant (F := Ideal) S_ .f32 0x00000000#32) := by
  simp only [List.take_succ_cons, List.take_zero, StableHlo.after_cons, StableHlo.after_nil]
  after_results_simp

theorem piece_v43 (Z) : StableHlo.after (List.take 21 (hostOps0_4 (F := Ideal))) Z (Proc.devRef .tc main_v43) = broadcastInDim S8192x32 ![] bcast_S_S8192x32 (constant (F := Ideal) S_ .f32 0x00000000#32) := by
  simp only [List.take_succ_cons, List.take_zero, StableHlo.after_cons, StableHlo.after_nil]
  after_results_simp

theorem piece_v42 (Z) : StableHlo.after (List.take 21 (hostOps0_4 (F := Ideal))) Z (Proc.devRef .tc main_v42) = broadcastInDim S8192x16 ![] bcast_S_S8192x16 (constant (F := Ideal) S_ .f32 0x00000000#32) := by
  simp only [List.take_succ_cons, List.take_zero, StableHlo.after_cons, StableHlo.after_nil]
  after_results_simp

theorem piece_v46 (Z) : (StableHlo.after (List.take 21 (hostOps0_4 (F := Ideal))) Z (Proc.devRef .tc main_v46) : FVec Ideal S8192x16 .f32) = (Host.negf (Z (Proc.devRef .tc main_arg11) : FVec Ideal S8192x16 .f32) : FVec Ideal S8192x16 .f32) := by
  simp only [List.take_succ_cons, List.take_zero, StableHlo.after_cons, StableHlo.after_nil]
  after_results_simp

theorem piece_arg10 (Z) : StableHlo.after (List.take 21 (hostOps0_4 (F := Ideal))) Z (Proc.devRef .tc main_arg10) = Z (Proc.devRef .tc main_arg10) := by
  simp only [List.take_succ_cons, List.take_zero, StableHlo.after_cons, StableHlo.after_nil]
  after_results_simp

theorem piece_arg11 (Z) : StableHlo.after (List.take 21 (hostOps0_4 (F := Ideal))) Z (Proc.devRef .tc main_arg11) = Z (Proc.devRef .tc main_arg11) := by
  simp only [List.take_succ_cons, List.take_zero, StableHlo.after_cons, StableHlo.after_nil]
  after_results_simp

/-- The two arguments are not written by the lines before. -/
theorem before_arg10 : StableHlo.after hostOps0_3 (StableHlo.after hostOps0_2 (StableHlo.after hostOps0_1 (StableHlo.after hostOps0 fun b => m (c, b)))) (Proc.devRef .tc main_arg10) = m ((c : Thread nD τ).loc main_arg10) := by
  simp only [StableHlo.after_cons, StableHlo.after_nil]
  after_results_simp

theorem before_arg11 : StableHlo.after hostOps0_3 (StableHlo.after hostOps0_2 (StableHlo.after hostOps0_1 (StableHlo.after hostOps0 fun b => m (c, b)))) (Proc.devRef .tc main_arg11) = m ((c : Thread nD τ).loc main_arg11) := by
  simp only [StableHlo.after_cons, StableHlo.after_nil]
  after_results_simp

theorem host_tab : (V m c main_v47 : Vec Ideal S8192x384 .f32) = Queries.hTab (m ((c : Thread nD τ).loc main_arg10)) (m ((c : Thread nD τ).loc main_arg11)) := by
  rw [V_eq, cut, StableHlo.after_append, tail, piece_v45, piece_v44, piece_v43, piece_v42, piece_v46, piece_arg10, piece_arg11, before_arg10, before_arg11]
  rfl

include hC hN in
theorem host_t (i : S8192x384.Idx) : (V m c main_v47 : Vec Ideal S8192x384 .f32) i = (Rope.tab (C (i 0).val) (N (i 0).val) (i 1).val : EReal) := by
  rw [host_tab m, Queries.hTab_eq hC hN]

include hX in
theorem blk_x (t : Fin cfg0.N) (i : S512x2048.Idx) : (iblk m c 0 t : Vec Ideal S512x2048 .f32) i = (wide X (512 * t.val + (i 0).val) (i 1).val : EReal) := by
  blk_simp [iblk]
  rw [host_x m hX]
  blk_simp [idx t]
  rw [mul_comm]

include hU in
theorem blk_u (t : Fin cfg0.N) (i : S512x2048.Idx) : (iblk m c 1 t : Vec Ideal S512x2048 .f32) i = (back U (512 * t.val + (i 0).val) (i 1).val : EReal) := by
  blk_simp [iblk]
  rw [host_u m hU]
  blk_simp [idx t]
  rw [mul_comm]

include hH in
theorem blk_h (t : Fin cfg0.N) (i : S512x1024.Idx) : (iblk m c 2 t : Vec Ideal S512x1024 .f32) i = (H (512 * t.val + (i 0).val) (i 1).val : EReal) := by
  blk_simp [iblk]
  rw [V_main_arg3, hH]
  blk_simp [idx t]
  rw [mul_comm]

include hH hg hsh hsc hW in
theorem blk_a (t : Fin cfg0.N) (i : S512x256.Idx) : (iblk m c 3 t : Vec Ideal S512x256 .f32) i = (low H W g sh sc (512 * t.val + (i 0).val) (i 1).val : EReal) := by
  blk_simp [iblk]
  rw [host_low m hH hg hsh hsc hW]
  blk_simp [idx t]
  rw [mul_comm]

include hY in
theorem blk_y (t : Fin cfg0.N) (i : S512x1024.Idx) : (iblk m c 4 t : Vec Ideal S512x1024 .f32) i = (Y (512 * t.val + (i 0).val) (i 1).val : EReal) := by
  blk_simp [iblk]
  rw [V_main_arg2, hY]
  blk_simp [idx t]
  rw [mul_comm]

/-- One of the rows that the host lines pack, read off the array they make. -/
theorem packed (k : ℕ) (i : S8x1024.Idx) (y : ℕ → ℝ) (h : k = 0 ∧ (∀ i, m ((c : Thread nD τ).loc main_arg4) i = (y (i 0).val : EReal))
      ∨ k = 2 ∧ (∀ i, m ((c : Thread nD τ).loc main_arg6) i = (y (i 0).val : EReal)))
    (a : (i 0).val = k) : (V m c main_v37 : Vec Ideal S8x1024 .f32) i = (y (i 1).val : EReal) := by
  rw [V_eq]
  simp only [StableHlo.after_cons, StableHlo.after_nil]
  after_results_simp
  rcases h with ⟨rfl, h⟩ | ⟨rfl, h⟩
  · refine (Cert.Rows.concat_row _ _ i 0 (by simp) _ rfl 0 rfl a).trans ?_
    simp only [Matrix.cons_val]
    after_results_loop
    pointwise [h]
  · refine (Cert.Rows.concat_row _ _ i 2 (by simp) _ rfl 2 rfl a).trans ?_
    simp only [Matrix.cons_val]
    after_results_loop
    pointwise [h]

include hg hsc in
/-- The packed rows: the gain and the scale are rows 0 and 2. -/
theorem blk_c : ∃ E : ℕ → ℕ → EReal, ∀ (t : Fin cfg0.N) (i : S8x1024.Idx), (iblk m c 5 t : Vec Ideal S8x1024 .f32) i
    = if (i 0).val = 0 then (g (i 1).val : EReal) else if (i 0).val = 2 then (sc (i 1).val : EReal) else E (i 0).val (i 1).val := by
  obtain ⟨E, hE⟩ := lift2E (V m c main_v37 : Vec Ideal S8x1024 .f32)
  refine ⟨E, fun t i => ?_⟩
  have e : (iblk m c 5 t : Vec Ideal S8x1024 .f32) i = (V m c main_v37 : Vec Ideal S8x1024 .f32) i := by
    blk_simp [iblk]
    exact congrArg (V m c main_v37 : Vec Ideal S8x1024 .f32) (by blk_ext [idx t])
  rw [e]
  split_ifs with a b
  · exact packed m 0 i g (.inl ⟨rfl, hg⟩) a
  · exact packed m 2 i sc (.inr ⟨rfl, hsc⟩) b
  · exact hE i

include hW in
theorem blk_w (t : Fin cfg0.N) (i : S1024x384.Idx) : (iblk m c 6 t : Vec Ideal S1024x384 .bf16) i = (wfar W (i 0).val (i 1).val : EReal) := by
  blk_simp [iblk]
  rw [host_w m hW]
  blk_simp [idx t]

include hk in
theorem host_k (i : S8x256.Idx) (a : (i 0).val = 0) : (V m c main_v40 : Vec Ideal S8x256 .f32) i = (gk (i 1).val : EReal) := by
  rw [V_eq]
  simp only [StableHlo.after_cons, StableHlo.after_nil]
  after_results_simp
  after_results_loop
  refine (Cert.Rows.concat_row _ _ i 0 (by simp) _ rfl 0 rfl a).trans ?_
  pointwise [hk]

include hk in
/-- The second norm's gain, the first of the rows packed for it. -/
theorem blk_k (t : Fin cfg0.N) (inb) (i : S1x256.Idx) :
    View.ld (iblk m c 7 t : Vec Ideal S8x256 .f32) (Rect.unit (s := S8x256) ![0, 0] ![1, 256] inb) i = (gk (i 1).val : EReal) := by
  have e (j : S8x256.Idx) : (iblk m c 7 t : Vec Ideal S8x256 .f32) j = (V m c main_v40 : Vec Ideal S8x256 .f32) j := by
    blk_simp [iblk]
    exact congrArg (V m c main_v40 : Vec Ideal S8x256 .f32) (by blk_ext [idx t])
  rw [Cert.Rows.ld_row _ 0 (by norm_num), e, host_k m hk _ rfl]

include hB in
theorem blk_b (t : Fin cfg0.N) (i : S256x2048.Idx) : (iblk m c 8 t : Vec Ideal S256x2048 .bf16) i = (B (i 0).val (i 1).val : EReal) := by
  blk_simp [iblk]
  rw [V_eq]
  simp only [StableHlo.after_cons, StableHlo.after_nil]
  after_results_simp
  after_results_loop
  pointwise [hB]
  blk_simp [idx t]

include hC hN in
theorem blk_t (t : Fin cfg0.N) (i : S512x384.Idx) : (iblk m c 9 t : Vec Ideal S512x384 .f32) i
    = (Rope.tab (C (512 * t.val + (i 0).val)) (N (512 * t.val + (i 0).val)) (i 1).val : EReal) := by
  blk_simp [iblk]
  rw [host_t m hC hN]
  blk_simp [idx t]
  rw [mul_comm]

end Cert.Keys

end
-- ==== Proof.KvBwdHeads.lean ====
/- The heads' columns and the first product's columns as the keys' and values' backward step stores and loads them. -/
module

public import proofs.«01_k».proof.Proof.KvBwdHost
public import proofs.«01_k».proof.Proof.QBwdHeads

@[expose] public section

set_option maxRecDepth 16384

noncomputable section

open Idealize.ShloMosaic Idealize.ShloMosaic.TcCoe Idealize.ShloMosaic.Pipeline Idealize.SL.Sem
open Cert.Lift Cert.Norm Cert.ModNorm Cert.KvBwdIdeal Cert.KvBwdIdeal.Gen
open Cert.Queries (wide cols)

namespace Cert.Keys

section heads

/-- The sixteen heads' columns in the order of their stores, the last one first. -/
abbrev stored (x0 x1 : Vec Ideal S512x2048 .f32) : List (View.Piece (Elt Ideal) S512x2048 .bf16) := [
    ⟨cols 1920 (by decide), k0_pay45 lane (View.ld x0 (cols 1920 (by decide))) (View.ld x1 (cols 1920 (by decide)))⟩,
    ⟨cols 1792 (by decide), k0_pay43 lane (View.ld x0 (cols 1792 (by decide))) (View.ld x1 (cols 1792 (by decide)))⟩,
    ⟨cols 1664 (by decide), k0_pay40 lane (View.ld x0 (cols 1664 (by decide))) (View.ld x1 (cols 1664 (by decide)))⟩,
    ⟨cols 1536 (by decide), k0_pay38 lane (k0_pay37 (View.ld x0 (cols 1536 (by decide)))) (View.ld x1 (cols 1536 (by decide)))⟩,
    ⟨cols 1408 (by decide), k0_pay35 lane (View.ld x0 (cols 1408 (by decide))) (View.ld x1 (cols 1408 (by decide)))⟩,
    ⟨cols 1280 (by decide), k0_pay33 lane (View.ld x0 (cols 1280 (by decide))) (View.ld x1 (cols 1280 (by decide)))⟩,
    ⟨cols 1152 (by decide), k0_pay31 lane (View.ld x0 (cols 1152 (by decide))) (View.ld x1 (cols 1152 (by decide)))⟩,
    ⟨cols 1024 (by decide), k0_pay28 lane (View.ld x0 (cols 1024 (by decide))) (View.ld x1 (cols 1024 (by decide)))⟩,
    ⟨cols 896 (by decide), k0_pay26 lane (k0_pay25 (View.ld x0 (cols 896 (by decide)))) (View.ld x1 (cols 896 (by decide)))⟩,
    ⟨cols 768 (by decide), k0_pay23 lane (View.ld x0 (cols 768 (by decide))) (View.ld x1 (cols 768 (by decide)))⟩,
    ⟨cols 640 (by decide), k0_pay21 lane (View.ld x0 (cols 640 (by decide))) (View.ld x1 (cols 640 (by decide)))⟩,
    ⟨cols 512 (by decide), k0_pay19 lane (View.ld x0 (cols 512 (by decide))) (View.ld x1 (cols 512 (by decide)))⟩,
    ⟨cols 384 (by decide), k0_pay16 lane (View.ld x0 (cols 384 (by decide))) (View.ld x1 (cols 384 (by decide)))⟩,
    ⟨cols 256 (by decide), k0_pay14 lane (k0_pay13 (View.ld x0 (cols 256 (by decide)))) (View.ld x1 (cols 256 (by decide)))⟩,
    ⟨cols 128 (by decide), k0_pay11 (View.ld x0 (cols 128 (by decide))) (View.ld x1 (cols 128 (by decide)))⟩,
    ⟨cols 0 (by decide), k0_pay9 (View.ld x0 (cols 0 (by decide))) (View.ld x1 (cols 0 (by decide)))⟩]

/-- A head's columns as they are loaded. -/
theorem ld_cols {x : Vec Ideal S512x2048 .f32} {Z : ℕ → ℕ → ℝ} (hx : ∀ i, x i = (Z (i 0).val (i 1).val : EReal)) (o : ℕ) (inb) (i : S512x128.Idx) :
    View.ld x (cols o inb) i = (Z (i 0).val (o + (i 1).val) : EReal) := by
  refine (hx _).trans (congrArg Real.toEReal (congrArg₂ Z ?_ ?_))
  · exact (Rect.idx_unit_val _ _ _ _ _).trans (Nat.zero_add _)
  · exact Rect.idx_unit_val _ _ _ _ _

variable {x0 x1 : Vec Ideal S512x2048 .f32} {x9 : Vec Ideal S512x384 .f32} {X U : ℕ → ℕ → ℕ → ℝ} {C N : ℕ → ℕ → ℝ}
  (h0 : ∀ i, x0 i = (wide X (i 0).val (i 1).val : EReal)) (h1 : ∀ i, x1 i = (back U (i 0).val (i 1).val : EReal))
  (h9 : ∀ i, x9 i = (Rope.tab (C (i 0).val) (N (i 0).val) (i 1).val : EReal))

/-- A head's keys and values, at the place where they are stored. -/
theorem put_cols (k o : ℕ) (ho : o = 128 * k) (inb) {v : Vec Ideal S512x128 .bf16}
    (hv : ∀ i, v i = ((if (i 1).val < 64 then wide X (i 0).val (o + (i 1).val) else back U (i 0).val (o + (i 1).val) : ℝ) : EReal)) (x : S512x128.Idx) :
    v x = (both X U ((cols o inb).idx x 0).val (((cols o inb).idx x 1).val / 128) (((cols o inb).idx x 1).val % 128) : EReal) := by
  have a : (x 1).val < 128 := (x 1).isLt
  have e0 : ((cols o inb).idx x 0).val = (x 0).val := (Rect.idx_unit_val _ _ _ _ _).trans (Nat.zero_add _)
  have e1 : ((cols o inb).idx x 1).val = o + (x 1).val := Rect.idx_unit_val _ _ _ _ _
  rw [hv, e0, e1, show (o + (x 1).val) / 128 = k by omega, show (o + (x 1).val) % 128 = (x 1).val by omega]
  refine congrArg Real.toEReal ?_
  unfold wide back both
  rw [show (o + (x 1).val) / 128 = k by omega, show (o + (x 1).val) % 128 = (x 1).val by omega]
  by_cases h : (x 1).val < 64
  · rw [if_pos h, if_pos h, if_pos (by omega)]
  · rw [if_neg h, if_neg h, if_neg h]

set_option maxHeartbeats 1000000 in
include h0 h1 in
/-- All heads' keys and values. -/
theorem all_heads (i : S512x2048.Idx) : View.canon (Val := Elt Ideal) (stored x0 x1) i = (both X U (i 0).val ((i 1).val / 128) ((i 1).val % 128) : EReal) := by
  refine View.canon_apply_of_pieces (Val := Elt Ideal) (e := .bf16) (fun i : S512x2048.Idx => (both X U (i 0).val ((i 1).val / 128) ((i 1).val % 128) : EReal)) _ ?_ i
    (View.cover_of_tiledL (stored x0 x1) S512x128.size (by sl_kernel_rfl) i)
  simp only [List.forall_mem_cons, List.not_mem_nil, false_imp_iff, implies_true, and_true]
  exact ⟨
    put_cols 15 1920 rfl _ (pay_head15 (v4 := View.ld x0 (cols 1920 (by decide))) (v6 := View.ld x1 (cols 1920 (by decide))) (Z := fun p l => wide X p (1920 + l)) (V := fun p l => back U p (1920 + l)) (ld_cols h0 1920 _) (ld_cols h1 1920 _)),
    put_cols 14 1792 rfl _ (pay_head14 (v4 := View.ld x0 (cols 1792 (by decide))) (v6 := View.ld x1 (cols 1792 (by decide))) (Z := fun p l => wide X p (1792 + l)) (V := fun p l => back U p (1792 + l)) (ld_cols h0 1792 _) (ld_cols h1 1792 _)),
    put_cols 13 1664 rfl _ (pay_head13 (v4 := View.ld x0 (cols 1664 (by decide))) (v6 := View.ld x1 (cols 1664 (by decide))) (Z := fun p l => wide X p (1664 + l)) (V := fun p l => back U p (1664 + l)) (ld_cols h0 1664 _) (ld_cols h1 1664 _)),
    put_cols 12 1536 rfl _ (pay_head12 (v4 := View.ld x0 (cols 1536 (by decide))) (v6 := View.ld x1 (cols 1536 (by decide))) (Z := fun p l => wide X p (1536 + l)) (V := fun p l => back U p (1536 + l)) (ld_cols h0 1536 _) (ld_cols h1 1536 _)),
    put_cols 11 1408 rfl _ (pay_head11 (v4 := View.ld x0 (cols 1408 (by decide))) (v6 := View.ld x1 (cols 1408 (by decide))) (Z := fun p l => wide X p (1408 + l)) (V := fun p l => back U p (1408 + l)) (ld_cols h0 1408 _) (ld_cols h1 1408 _)),
    put_cols 10 1280 rfl _ (pay_head10 (v4 := View.ld x0 (cols 1280 (by decide))) (v6 := View.ld x1 (cols 1280 (by decide))) (Z := fun p l => wide X p (1280 + l)) (V := fun p l => back U p (1280 + l)) (ld_cols h0 1280 _) (ld_cols h1 1280 _)),
    put_cols 9 1152 rfl _ (pay_head9 (v4 := View.ld x0 (cols 1152 (by decide))) (v6 := View.ld x1 (cols 1152 (by decide))) (Z := fun p l => wide X p (1152 + l)) (V := fun p l => back U p (1152 + l)) (ld_cols h0 1152 _) (ld_cols h1 1152 _)),
    put_cols 8 1024 rfl _ (pay_head8 (v4 := View.ld x0 (cols 1024 (by decide))) (v6 := View.ld x1 (cols 1024 (by decide))) (Z := fun p l => wide X p (1024 + l)) (V := fun p l => back U p (1024 + l)) (ld_cols h0 1024 _) (ld_cols h1 1024 _)),
    put_cols 7 896 rfl _ (pay_head7 (v4 := View.ld x0 (cols 896 (by decide))) (v6 := View.ld x1 (cols 896 (by decide))) (Z := fun p l => wide X p (896 + l)) (V := fun p l => back U p (896 + l)) (ld_cols h0 896 _) (ld_cols h1 896 _)),
    put_cols 6 768 rfl _ (pay_head6 (v4 := View.ld x0 (cols 768 (by decide))) (v6 := View.ld x1 (cols 768 (by decide))) (Z := fun p l => wide X p (768 + l)) (V := fun p l => back U p (768 + l)) (ld_cols h0 768 _) (ld_cols h1 768 _)),
    put_cols 5 640 rfl _ (pay_head5 (v4 := View.ld x0 (cols 640 (by decide))) (v6 := View.ld x1 (cols 640 (by decide))) (Z := fun p l => wide X p (640 + l)) (V := fun p l => back U p (640 + l)) (ld_cols h0 640 _) (ld_cols h1 640 _)),
    put_cols 4 512 rfl _ (pay_head4 (v4 := View.ld x0 (cols 512 (by decide))) (v6 := View.ld x1 (cols 512 (by decide))) (Z := fun p l => wide X p (512 + l)) (V := fun p l => back U p (512 + l)) (ld_cols h0 512 _) (ld_cols h1 512 _)),
    put_cols 3 384 rfl _ (pay_head3 (v4 := View.ld x0 (cols 384 (by decide))) (v6 := View.ld x1 (cols 384 (by decide))) (Z := fun p l => wide X p (384 + l)) (V := fun p l => back U p (384 + l)) (ld_cols h0 384 _) (ld_cols h1 384 _)),
    put_cols 2 256 rfl _ (pay_head2 (v4 := View.ld x0 (cols 256 (by decide))) (v6 := View.ld x1 (cols 256 (by decide))) (Z := fun p l => wide X p (256 + l)) (V := fun p l => back U p (256 + l)) (ld_cols h0 256 _) (ld_cols h1 256 _)),
    put_cols 1 128 rfl _ (pay_head1 (v4 := View.ld x0 (cols 128 (by decide))) (v6 := View.ld x1 (cols 128 (by decide))) (Z := fun p l => wide X p (128 + l)) (V := fun p l => back U p (128 + l)) (ld_cols h0 128 _) (ld_cols h1 128 _)),
    put_cols 0 0 rfl _ (pay_head0 (v4 := View.ld x0 (cols 0 (by decide))) (v6 := View.ld x1 (cols 0 (by decide))) (Z := fun p l => wide X p (0 + l)) (V := fun p l => back U p (0 + l)) (ld_cols h0 0 _) (ld_cols h1 0 _))⟩

include h0 h1 in
/-- The keys and values as they are loaded again. -/
theorem ld_heads {κ sp} (v : View sig κ sp S512x2048 .bf16) (i : S512x2048.Idx) :
    v.readCov (stored x0 x1) (Rect.unit (s := S512x2048) ![0, 0] ![512, 2048] (by decide)).toLoadRect i
      = (both X U (i 0).val ((i 1).val / 128) ((i 1).val % 128) : EReal) := by
  rw [View.readCov_eq_canon_ld _ _ _ fun y => View.cover_of_tiledL (stored x0 x1) S512x128.size (by sl_kernel_rfl) y]
  refine (all_heads h0 h1 _).trans ?_
  rw [Rect.idx_unit_val, Rect.idx_unit_val]
  simp

/-- The gradient of the shared rotary columns from the heads' columns of the keys. -/
abbrev shared (x0 : Vec Ideal S512x2048 .f32) (x9 : Vec Ideal S512x384 .f32) : FVec Ideal S512x128 .f32 :=
  k0_pay46 lane (k0_pay41 lane (k0_pay36 lane (k0_pay29 lane (k0_pay24 lane (k0_pay17 lane (k0_pay12 (View.ld x0 (cols 0 (by decide))) (View.ld x0 (cols 128 (by decide)))) (k0_pay13 (View.ld x0 (cols 256 (by decide)))) (View.ld x0 (cols 384 (by decide)))) (k0_pay18 (View.ld x0 (cols 512 (by decide)))) (View.ld x0 (cols 640 (by decide))) (View.ld x0 (cols 768 (by decide)))) (k0_pay25 (View.ld x0 (cols 896 (by decide)))) (View.ld x0 (cols 1024 (by decide)))) (k0_pay30 (View.ld x0 (cols 1152 (by decide)))) (View.ld x0 (cols 1280 (by decide))) (View.ld x0 (cols 1408 (by decide)))) (k0_pay37 (View.ld x0 (cols 1536 (by decide)))) (View.ld x0 (cols 1664 (by decide)))) (k0_pay42 (View.ld x0 (cols 1792 (by decide)))) (View.ld x0 (cols 1920 (by decide))) x9

/-- The heads' columns of the keys, one head after another. -/
def part16 (x0 : Vec Ideal S512x2048 .f32) (k : Fin 16) : Vec Ideal S512x128 .f32 :=
  View.ld x0 (cols (128 * k.val) (by intro d; have := k.isLt; fin_cases d <;> simp <;> omega))

include h0 h9 in
theorem shared_eq (i) : shared x0 x9 i = (pe X C N (i 0).val (i 1).val : EReal) := by
  refine (pay_pe (z := part16 x0) (Z := fun p k l => wide X p (128 * k + l)) (fun k i => ld_cols h0 _ _ i) h9 i).trans (congrArg Real.toEReal ?_)
  unfold pe
  refine Rope.rot_congr fun l hl => ?_
  unfold heads
  split_ifs
  · rfl
  · refine Finset.sum_congr rfl fun k _ => ?_
    show wide X (i 0).val (128 * k.val + l) = _
    unfold wide
    rw [show (128 * k.val + l) / 128 = k.val by omega, show (128 * k.val + l) % 128 = l by omega, if_pos hl]

end heads

section far

/-- Columns of the first product's gradient. -/
abbrev fcols (o w : ℕ) (inb : ∀ d, (![0, o] : Fin 2 → ℕ) d + (![512, w] : Fin 2 → ℕ) d ≤ S512x384.size d) : Rect S512x384 :=
  Rect.unit (s := S512x384) ![0, o] ![512, w] inb

/-- The two parts in the order of their stores, the last one first. -/
abbrev parts2 (d : Vec Ideal S512x256 .bf16) (r : Vec Ideal S512x128 .bf16) : List (View.Piece (Elt Ideal) S512x384 .bf16) :=
  [⟨fcols 256 128 (by decide), r⟩, ⟨fcols 0 256 (by decide), d⟩]

variable {d : Vec Ideal S512x256 .bf16} {r : Vec Ideal S512x128 .bf16} {X U : ℕ → ℕ → ℕ → ℝ} {A B C N : ℕ → ℕ → ℝ} {gk : ℕ → ℝ}
  (hd : ∀ i, d i = (dc X U A B gk (i 0).val (i 1).val : EReal)) (hr : ∀ i, r i = (pe X C N (i 0).val (i 1).val : EReal))

include hd hr

/-- The gradient of the first product's columns. -/
theorem all_far (i : S512x384.Idx) : View.canon (Val := Elt Ideal) (parts2 d r) i = (far X U A B C N gk (i 0).val (i 1).val : EReal) := by
  refine View.canon_apply_of_pieces (Val := Elt Ideal) (e := .bf16) (fun i : S512x384.Idx => (far X U A B C N gk (i 0).val (i 1).val : EReal)) _ ?_ i
    (View.cover_of_tiledBy (parts2 d r) ![512, 128] (by sl_kernel_rfl) i)
  simp only [List.forall_mem_cons, List.not_mem_nil, false_imp_iff, implies_true, and_true]
  refine ⟨fun x => ?_, fun x => ?_⟩
  · have e0 : ((fcols 256 128 (by decide)).idx x 0).val = (x 0).val := (Rect.idx_unit_val _ _ _ _ _).trans (Nat.zero_add _)
    have e1 : ((fcols 256 128 (by decide)).idx x 1).val = 256 + (x 1).val := Rect.idx_unit_val _ _ _ _ _
    refine (hr x).trans (congrArg Real.toEReal (?_ : _ = far X U A B C N gk ((fcols 256 128 (by decide)).idx x 0).val ((fcols 256 128 (by decide)).idx x 1).val))
    unfold far
    rw [e0, e1, if_neg (show ¬256 + (x 1).val < 256 by omega), show 256 + (x 1).val - 256 = (x 1).val by omega]
  · have a : (x 1).val < 256 := (x 1).isLt
    have e0 : ((fcols 0 256 (by decide)).idx x 0).val = (x 0).val := (Rect.idx_unit_val _ _ _ _ _).trans (Nat.zero_add _)
    have e1 : ((fcols 0 256 (by decide)).idx x 1).val = (x 1).val := (Rect.idx_unit_val _ _ _ _ _).trans (Nat.zero_add _)
    refine (hd x).trans (congrArg Real.toEReal (?_ : _ = far X U A B C N gk ((fcols 0 256 (by decide)).idx x 0).val ((fcols 0 256 (by decide)).idx x 1).val))
    unfold far
    rw [e0, e1, if_pos a]

/-- The same as it is loaded again. -/
theorem ld_far {κ sp} (v : View sig κ sp S512x384 .bf16) (i : S512x384.Idx) :
    v.readCov (parts2 d r) (Rect.unit (s := S512x384) ![0, 0] ![512, 384] (by decide)).toLoadRect i = (far X U A B C N gk (i 0).val (i 1).val : EReal) := by
  rw [View.readCov_eq_canon_ld _ _ _ fun y => View.cover_of_tiledBy (parts2 d r) ![512, 128] (by sl_kernel_rfl) y]
  refine (all_far hd hr _).trans ?_
  rw [Rect.idx_unit_val, Rect.idx_unit_val]
  simp

end far

end Cert.Keys

end
-- ==== Proof.KvBwdRun.lean ====
/- What the keys' and values' backward step leaves in its arrays: what each point and all of them write. -/
module

public import proofs.«01_k».proof.Proof.KvBwdHeads
public import proofs.«01_k».proof.Proof.Rows

@[expose] public section

set_option maxRecDepth 16384

noncomputable section

open Idealize.ShloMosaic Idealize.ShloMosaic.TcCoe Idealize.ShloMosaic.Pipeline Idealize.SL.Sem
open Cert.Lift Cert.Norm Cert.ModNorm Cert.KvBwdIdeal Cert.KvBwdIdeal.Gen
open Cert.Queries (low)

namespace Cert.Keys

section run

variable (m : (ℓ : Loc nD τ sig) → Buf (Elt Ideal) ℓ)
variable {X U : ℕ → ℕ → ℕ → ℝ} {Y H W B C N : ℕ → ℕ → ℝ} {g sh sc gk : ℕ → ℝ} {c : Dev nD}
  (hX : ∀ i, m ((c : Thread nD τ).loc main_arg0) i = (X (i 0).val (i 1).val (i 2).val : EReal))
  (hU : ∀ i, m ((c : Thread nD τ).loc main_arg1) i = (U (i 0).val (i 1).val (i 2).val : EReal))
  (hY : ∀ i, m ((c : Thread nD τ).loc main_arg2) i = (Y (i 0).val (i 1).val : EReal))
  (hH : ∀ i, m ((c : Thread nD τ).loc main_arg3) i = (H (i 0).val (i 1).val : EReal))
  (hg : ∀ i, m ((c : Thread nD τ).loc main_arg4) i = (g (i 0).val : EReal))
  (hsh : ∀ i, m ((c : Thread nD τ).loc main_arg5) i = (sh (i 0).val : EReal))
  (hsc : ∀ i, m ((c : Thread nD τ).loc main_arg6) i = (sc (i 0).val : EReal))
  (hW : ∀ i, m ((c : Thread nD τ).loc main_arg7) i = (W (i 0).val (i 1).val : EReal))
  (hk : ∀ i, m ((c : Thread nD τ).loc main_arg8) i = (gk (i 0).val : EReal))
  (hB : ∀ i, m ((c : Thread nD τ).loc main_arg9) i = (B (i 0).val (i 1).val : EReal))
  (hC : ∀ i, m ((c : Thread nD τ).loc main_arg10) i = (C (i 0).val (i 1).val : EReal))
  (hN : ∀ i, m ((c : Thread nD τ).loc main_arg11) i = (N (i 0).val (i 1).val : EReal))

section block

variable (t : Fin cfg0.N)

section again

variable {κ : Kind} {sp : Space} (v : View sig κ sp S512x2048 .bf16)

/-- The keys' and values' columns of point `t`, loaded again. -/
abbrev again (m : (ℓ : Loc nD τ sig) → Buf (Elt Ideal) ℓ) (c : Dev nD) (t : Fin cfg0.N) (v : View sig κ sp S512x2048 .bf16) : Vec Ideal S512x2048 .bf16 :=
  v.readCov (stored (iblk m c 0 t) (iblk m c 1 t)) (Rect.unit (s := S512x2048) ![0, 0] ![512, 2048] (by decide)).toLoadRect

include hX hU in
theorem again_eq (i) : again m c t v i = (both X U (512 * t.val + (i 0).val) ((i 1).val / 128) ((i 1).val % 128) : EReal) :=
  ld_heads (X := fun p => X (512 * t.val + p)) (U := fun p => U (512 * t.val + p)) (blk_x m hX t) (blk_u m hU t) v i

include hX hC hN in
/-- The gradient of the shared rotary columns of point `t`. -/
theorem pe_blk (i) : k0_pay53 (F := Ideal) (shared (iblk m c 0 t) (iblk m c 9 t)) i = (pe X C N (512 * t.val + (i 0).val) (i 1).val : EReal) :=
  shared_eq (X := fun p => X (512 * t.val + p)) (C := fun p => C (512 * t.val + p)) (N := fun p => N (512 * t.val + p)) (blk_x m hX t) (blk_t m hC hN t) i

include hX hU hH hg hsh hsc hW hB in
/-- What point `t` adds to the gradient of the second norm's gain. -/
theorem gain_blk (w : Vec Ideal S1x256 .f32) (i) : k0_pay6 (F := Ideal) (k0_pay51 (k0_pay47 (again m c t v) (iblk m c 8 t)) (iblk m c 3 t)) w i
    = w i + (∑ p : Fin 512, dn X U B (512 * t.val + p) (i 1).val * Rms.nrm 256 256 (low H W g sh sc) (512 * t.val + p) (i 1).val : ℝ) :=
  pay_gain (X := fun p => X (512 * t.val + p)) (U := fun p => U (512 * t.val + p)) (A := fun p a => low H W g sh sc (512 * t.val + p) a)
    (again_eq m hX hU t v) (blk_b m hB t) (blk_a m hH hg hsh hsc hW t) w i

include hX hU hH hg hsh hsc hW hk hB in
/-- The gradient of the low-rank rows of point `t`. -/
theorem dc_blk (inb) (i) : k0_pay52 (F := Ideal) (k0_pay47 (again m c t v) (iblk m c 8 t)) (iblk m c 3 t)
      (View.ld (iblk m c 7 t : Vec Ideal S8x256 .f32) (Rect.unit (s := S8x256) ![0, 0] ![1, 256] inb)) i
    = (dc X U (low H W g sh sc) B gk (512 * t.val + (i 0).val) (i 1).val : EReal) :=
  pay_dc (X := fun p => X (512 * t.val + p)) (U := fun p => U (512 * t.val + p)) (A := fun p a => low H W g sh sc (512 * t.val + p) a)
    (again_eq m hX hU t v) (blk_b m hB t) (blk_a m hH hg hsh hsc hW t) (blk_k m hk t inb) i

end again

variable {κ κ' : Kind} {sp sp' : Space} (v : View sig κ sp S512x2048 .bf16) (v' : View sig κ' sp' S512x384 .bf16)

/-- The two parts of the first product's gradient of point `t`. -/
abbrev pieces (m : (ℓ : Loc nD τ sig) → Buf (Elt Ideal) ℓ) (c : Dev nD) (t : Fin cfg0.N) (v : View sig κ sp S512x2048 .bf16)
    (inb : ∀ d, (![0, 0] : Fin 2 → ℕ) d + (![1, 256] : Fin 2 → ℕ) d ≤ S8x256.size d) : List (View.Piece (Elt Ideal) S512x384 .bf16) :=
  parts2 (k0_pay52 (k0_pay47 (again m c t v) (iblk m c 8 t)) (iblk m c 3 t) (View.ld (iblk m c 7 t : Vec Ideal S8x256 .f32) (Rect.unit (s := S8x256) ![0, 0] ![1, 256] inb)))
    (k0_pay53 (shared (iblk m c 0 t) (iblk m c 9 t)))

include hX hU hH hg hsh hsc hW hk hB hC hN

/-- The gradient of the first product's columns of point `t`. -/
theorem far_blk (inb) (i) : View.canon (Val := Elt Ideal) (pieces m c t v inb) i = (far X U (low H W g sh sc) B C N gk (512 * t.val + (i 0).val) (i 1).val : EReal) :=
  all_far (X := fun p => X (512 * t.val + p)) (U := fun p => U (512 * t.val + p)) (A := fun p a => low H W g sh sc (512 * t.val + p) a)
    (C := fun p => C (512 * t.val + p)) (N := fun p => N (512 * t.val + p)) (dc_blk m hX hU hH hg hsh hsc hW hk hB t v inb) (pe_blk m hX hC hN t) i

/-- The gradient of the modulated norm of point `t`. -/
theorem du_blk (inb) (i) : k0_pay54 (F := Ideal) (v'.readCov (pieces m c t v inb) (Rect.unit (s := S512x384) ![0, 0] ![512, 384] (by decide)).toLoadRect) (iblk m c 6 t) i
    = (du X U (low H W g sh sc) W B C N gk (512 * t.val + (i 0).val) (i 1).val : EReal) :=
  pay_du (X := fun p => X (512 * t.val + p)) (U := fun p => U (512 * t.val + p)) (A := fun p a => low H W g sh sc (512 * t.val + p) a)
    (C := fun p => C (512 * t.val + p)) (N := fun p => N (512 * t.val + p))
    (ld_far (X := fun p => X (512 * t.val + p)) (U := fun p => U (512 * t.val + p)) (A := fun p a => low H W g sh sc (512 * t.val + p) a)
      (C := fun p => C (512 * t.val + p)) (N := fun p => N (512 * t.val + p)) (dc_blk m hX hU hH hg hsh hsc hW hk hB t v inb) (pe_blk m hX hC hN t) v')
    (blk_w m hW t) i

end block

include hX hU in
/-- What point `t` leaves of the gradient of the heads' keys and values. -/
theorem out_kv (t : Fin cfg0.N) (j) : (outsAt0 m c t.val t.isLt).2.2.1 j = (both X U (512 * t.val + (j 0).val) ((j 1).val / 128) ((j 1).val % 128) : EReal) := by
  by_cases h : t.val % 16 = 0
  · rw [outsAt0_A m c t h h]; frame_out
    exact all_heads (X := fun p => X (512 * t.val + p)) (U := fun p => U (512 * t.val + p)) (blk_x m hX t) (blk_u m hU t) j
  · rw [outsAt0_B m c t h h]; frame_out
    exact all_heads (X := fun p => X (512 * t.val + p)) (U := fun p => U (512 * t.val + p)) (blk_x m hX t) (blk_u m hU t) j

include hX hU hH hg hsh hsc hW hB in
/-- The first point starts the gradient of the second norm's gain at zero. -/
theorem gain_first (t : Fin cfg0.N) (h : t.val % 16 = 0) (j) : (outsAt0 m c t.val t.isLt).2.2.2.2 j
    = (Rms.share 256 256 (low H W g sh sc) (dn X U B) (j 1).val 512 t.val (j 0).val : EReal) := by
  have hz : ∀ i, (k0_pay5 (F := Ideal)) i = ((0 : ℝ) : EReal) := fun i => by pointwise [k0_pay5]; rfl
  rw [outsAt0_A m c t h h]; frame_out
  rw [← View.read_writes_junk_eq_canon (ms0_14 t).view, Cert.Rows.read_row, Cert.Rows.read_all]
  simp (disch := decide) only [View.readCov_skip, View.readCov_cons_toLoadRect, View.readCov_fill]
  simp only [Rms.share]
  split_ifs with h0
  · refine (gain_blk m hX hU hH hg hsh hsc hW hB t _ _ _).trans ?_
    rw [Cert.Rows.ld_row _ 0 (by norm_num), hz, ← EReal.coe_add, zero_add]
  · exact hz j

include hX hU hH hg hsh hsc hW hB in
/-- Every later point adds its block's share. -/
theorem gain_next (t : Fin cfg0.N) (h : ¬t.val % 16 = 0) (j) : (outsAt0 m c t.val t.isLt).2.2.2.2 j
    = (outsAt0 m c (t.val - 1) (Nat.lt_of_le_of_lt (Nat.sub_le _ _) t.isLt)).2.2.2.2 j
      + (Rms.share 256 256 (low H W g sh sc) (dn X U B) (j 1).val 512 t.val (j 0).val : EReal) := by
  rw [outsAt0_B m c t h h]; frame_out
  rw [Cert.Rows.read_row]
  simp only [Rms.share]
  split_ifs with h0
  · refine (gain_blk m hX hU hH hg hsh hsc hW hB t _ _ _).trans ?_
    rw [Cert.Rows.ld_row _ 0 (by norm_num), Cert.Rows.ofRow_inRow h0]
  · rw [EReal.coe_zero, add_zero]
    exact congrFun (Memref.IsWhole.read_unread _ _) j

include hX hU hH hg hsh hsc hW hB in
/-- The running gradient of the gain after `n` points. -/
theorem gain_sum (n : ℕ) (h : n < cfg0.N) (j) : (outsAt0 m c n h).2.2.2.2 j
    = ((∑ s ∈ Finset.range (n + 1), Rms.share 256 256 (low H W g sh sc) (dn X U B) (j 1).val 512 s (j 0).val : ℝ) : EReal) := by
  refine fold_real (fun n h j => (outsAt0 m c n h).2.2.2.2 j) (fun t j => Rms.share 256 256 (low H W g sh sc) (dn X U B) (j 1).val 512 t (j 0).val) ?_ ?_ n h j
  · exact fun h j => gain_first m hX hU hH hg hsh hsc hW hB ⟨0, h⟩ rfl j
  · exact fun n h j => gain_next m hX hU hH hg hsh hsc hW hB ⟨n + 1, h⟩ (by have : n + 1 < 16 := h; show ¬(n + 1) % 16 = 0; omega) j

include hX hU hH hg hsh hsc hW hk hB hC hN

/-- What point `t` leaves of the gradient of the first product's columns. -/
theorem out_far (t : Fin cfg0.N) (j) : (outsAt0 m c t.val t.isLt).2.1 j = (far X U (low H W g sh sc) B C N gk (512 * t.val + (j 0).val) (j 1).val : EReal) := by
  by_cases h : t.val % 16 = 0
  · rw [outsAt0_A m c t h h]; frame_out
    exact far_blk m hX hU hH hg hsh hsc hW hk hB hC hN t _ _ j
  · rw [outsAt0_B m c t h h]; frame_out
    exact far_blk m hX hU hH hg hsh hsc hW hk hB hC hN t _ _ j

omit hX hU hH hg hsh hsc hW hk hB hC hN in
/-- A block of rows of the norm's gradient is the norm's gradient of the block of rows. -/
theorem dh_block (H G : ℕ → ℕ → ℝ) (g sc : ℕ → ℝ) (o p j : ℕ) : dh (fun p j => H (o + p) j) (fun p j => G (o + p) j) g sc p j = dh H G g sc (o + p) j := rfl

include hY in
/-- The gradient of the block's argument of point `t`. -/
theorem dh_blk (t : Fin cfg0.N) {u : FVec Ideal S512x1024 .f32} (hu : ∀ i, u i = (du X U (low H W g sh sc) W B C N gk (512 * t.val + (i 0).val) (i 1).val : EReal)) (j) :
    k0_pay62 (F := Ideal) (k0_pay7 (iblk m c 5 t)) u (iblk m c 2 t) (iblk m c 4 t) j
      = (Y (512 * t.val + (j 0).val) (j 1).val + dh H (du X U (low H W g sh sc) W B C N gk) g sc (512 * t.val + (j 0).val) (j 1).val : ℝ) := by
  obtain ⟨E, hE⟩ := blk_c m hg hsc
  refine (pay_dh (Y := fun p j => Y (512 * t.val + p) j) (H := fun p j => H (512 * t.val + p) j) (G := fun p j => du X U (low H W g sh sc) W B C N gk (512 * t.val + p) j)
    (blk_y m hY t) (blk_h m hH t) (hE t) hu j).trans ?_
  rw [dh_block]

include hY in
/-- What point `t` leaves of the gradient of the block's argument. -/
theorem out_dh (t : Fin cfg0.N) (j) : (outsAt0 m c t.val t.isLt).1 j
    = (Y (512 * t.val + (j 0).val) (j 1).val + dh H (du X U (low H W g sh sc) W B C N gk) g sc (512 * t.val + (j 0).val) (j 1).val : ℝ) := by
  by_cases h : t.val % 16 = 0
  · rw [outsAt0_A m c t h h]; frame_out
    refine dh_blk m hX hU hY hH hg hsh hsc hW hk hB hC hN t (fun i => ?_) j
    exact du_blk m hX hU hH hg hsh hsc hW hk hB hC hN t _ _ _ i
  · rw [outsAt0_B m c t h h]; frame_out
    refine dh_blk m hX hU hY hH hg hsh hsc hW hk hB hC hN t (fun i => ?_) j
    exact du_blk m hX hU hH hg hsh hsc hW hk hB hC hN t _ _ _ i

/-- The first point starts the sums over the rows at zero. -/
theorem out_first (t : Fin cfg0.N) (h : t.val % 16 = 0) (j) : (outsAt0 m c t.val t.isLt).2.2.2.1 j = (part H (du X U (low H W g sh sc) W B C N gk) g sc (j 1).val 512 t.val (j 0).val : EReal) := by
  obtain ⟨E, hE⟩ := blk_c m hg hsc
  have hz : ∀ i, (k0_pay1 (F := Ideal)) i = ((0 : ℝ) : EReal) := fun i => by pointwise [k0_pay1]; rfl
  rw [outsAt0_A m c t h h]; frame_out
  rw [← View.read_writes_junk_eq_canon (ms0_13 t).view, Cert.Rows.read_row, Cert.Rows.read_row, Cert.Rows.read_row, Cert.Rows.read_all]
  simp (disch := decide) only [View.readCov_skip, View.readCov_cons_toLoadRect, View.readCov_fill]
  simp only [part]
  split_ifs with h2 h1 h0
  · refine (pay_row2 (H := fun p j => H (512 * t.val + p) j) (G := fun p j => du X U (low H W g sh sc) W B C N gk (512 * t.val + p) j) (blk_h m hH t) (hE t) (du_blk m hX hU hH hg hsh hsc hW hk hB hC hN t _ _ _) _ _).trans ?_
    rw [Cert.Rows.ld_row _ 2 (by norm_num), hz, ← EReal.coe_add, zero_add]
    rfl
  · refine (pay_row1 (G := fun p j => du X U (low H W g sh sc) W B C N gk (512 * t.val + p) j) (du_blk m hX hU hH hg hsh hsc hW hk hB hC hN t _ _ _) _ _).trans ?_
    rw [Cert.Rows.ld_row _ 1 (by norm_num), hz, ← EReal.coe_add, zero_add]
  · refine (pay_row0 (H := fun p j => H (512 * t.val + p) j) (G := fun p j => du X U (low H W g sh sc) W B C N gk (512 * t.val + p) j) (blk_h m hH t) (hE t) (du_blk m hX hU hH hg hsh hsc hW hk hB hC hN t _ _ _) _ _).trans ?_
    rw [Cert.Rows.ld_row _ 0 (by norm_num), hz, ← EReal.coe_add, zero_add]
    rfl
  · exact hz j

/-- Every later point adds its block's share. -/
theorem out_next (t : Fin cfg0.N) (h : ¬t.val % 16 = 0) (j) : (outsAt0 m c t.val t.isLt).2.2.2.1 j
    = (outsAt0 m c (t.val - 1) (Nat.lt_of_le_of_lt (Nat.sub_le _ _) t.isLt)).2.2.2.1 j + (part H (du X U (low H W g sh sc) W B C N gk) g sc (j 1).val 512 t.val (j 0).val : EReal) := by
  obtain ⟨E, hE⟩ := blk_c m hg hsc
  rw [outsAt0_B m c t h h]; frame_out
  rw [Cert.Rows.read_row, Cert.Rows.read_row, Cert.Rows.read_row]
  simp only [part]
  split_ifs with h2 h1 h0
  · refine (pay_row2 (H := fun p j => H (512 * t.val + p) j) (G := fun p j => du X U (low H W g sh sc) W B C N gk (512 * t.val + p) j) (blk_h m hH t) (hE t) (du_blk m hX hU hH hg hsh hsc hW hk hB hC hN t _ _ _) _ _).trans ?_
    rw [Cert.Rows.ld_row _ 2 (by norm_num), Cert.Rows.ofRow_inRow h2]
    rfl
  · refine (pay_row1 (G := fun p j => du X U (low H W g sh sc) W B C N gk (512 * t.val + p) j) (du_blk m hX hU hH hg hsh hsc hW hk hB hC hN t _ _ _) _ _).trans ?_
    rw [Cert.Rows.ld_row _ 1 (by norm_num), Cert.Rows.ofRow_inRow h1]
  · refine (pay_row0 (H := fun p j => H (512 * t.val + p) j) (G := fun p j => du X U (low H W g sh sc) W B C N gk (512 * t.val + p) j) (blk_h m hH t) (hE t) (du_blk m hX hU hH hg hsh hsc hW hk hB hC hN t _ _ _) _ _).trans ?_
    rw [Cert.Rows.ld_row _ 0 (by norm_num), Cert.Rows.ofRow_inRow h0]
    rfl
  · rw [EReal.coe_zero, add_zero]
    exact congrFun (Memref.IsWhole.read_unread _ _) j

/-- The running sums after `n` points. -/
theorem out_sum (n : ℕ) (h : n < cfg0.N) (j) : (outsAt0 m c n h).2.2.2.1 j
    = ((∑ s ∈ Finset.range (n + 1), part H (du X U (low H W g sh sc) W B C N gk) g sc (j 1).val 512 s (j 0).val : ℝ) : EReal) := by
  refine fold_real (fun n h j => (outsAt0 m c n h).2.2.2.1 j) (fun t j => part H (du X U (low H W g sh sc) W B C N gk) g sc (j 1).val 512 t (j 0).val) ?_ ?_ n h j
  · exact fun h j => out_first m hX hU hH hg hsh hsc hW hk hB hC hN ⟨0, h⟩ rfl j
  · exact fun n h j => out_next m hX hU hH hg hsh hsc hW hk hB hC hN ⟨n + 1, h⟩ (by have : n + 1 < 16 := h; show ¬(n + 1) % 16 = 0; omega) j

include hY in
/-- The gradient of the block's argument after all points. -/
theorem arr_dh (i) : (dats m 0 c).arrAt 10 cfg0.N i = ((Y (i 0).val (i 1).val + dh H (du X U (low H W g sh sc) W B C N gk) g sc (i 0).val (i 1).val : ℝ) : EReal) := by
  refine congrFun ((dats m 0 c).arrAt_eq_of_covers 10 (fun i => ((Y (i 0).val (i 1).val + dh H (du X U (low H W g sh sc) W B C N gk) g sc (i 0).val (i 1).val : ℝ) : EReal)) (by decide +kernel)
    fun t _ y => ?_) i
  rw [after0_10, out_dh m hX hU hY hH hg hsh hsc hW hk hB hC hN t]
  blk_simp [idx t]
  rw [mul_comm]

/-- The gradient of the first product's columns after all points. -/
theorem arr_far (i) : (dats m 0 c).arrAt 11 cfg0.N i = (far X U (low H W g sh sc) B C N gk (i 0).val (i 1).val : EReal) := by
  refine congrFun ((dats m 0 c).arrAt_eq_of_covers 11 (fun i => (far X U (low H W g sh sc) B C N gk (i 0).val (i 1).val : EReal)) (by decide +kernel) fun t _ y => ?_) i
  rw [after0_11, out_far m hX hU hH hg hsh hsc hW hk hB hC hN t]
  blk_simp [idx t]
  rw [mul_comm]

omit hX hU hH hg hsh hsc hW hk hB hC hN
/-- The last point. -/
abbrev last : Fin grid0.N := ⟨15, by rw [N_0]; decide⟩

include hX hU hH hg hsh hsc hW hk hB hC hN in
/-- The three sums after all points. -/
theorem arr_sums (i : S8x1024.Idx) : (dats m 0 c).arrAt 13 cfg0.N i = (sums H (du X U (low H W g sh sc) W B C N gk) g sc (i 1).val (i 0).val : EReal) := by
  refine congrFun ((dats m 0 c).arrAt_eq_of_after_last 13 last (by decide +kernel) (fun i => (sums H (du X U (low H W g sh sc) W B C N gk) g sc (i 1).val (i 0).val : EReal)) fun j => ?_) i
  rw [after0_13, out_sum m hX hU hH hg hsh hsc hW hk hB hC hN, ← parts H (du X U (low H W g sh sc) W B C N gk) g sc _ 16 512 _ rfl]
  blk_simp [idx last]

include hX hU hH hg hsh hsc hW hB in
/-- The gradient of the second norm's gain after all points. -/
theorem arr_gain (i : S8x256.Idx) : (dats m 0 c).arrAt 14 cfg0.N i = (Rms.gain 256 256 (low H W g sh sc) (dn X U B) (i 1).val (i 0).val : EReal) := by
  refine congrFun ((dats m 0 c).arrAt_eq_of_after_last 14 last (by decide +kernel) (fun i => (Rms.gain 256 256 (low H W g sh sc) (dn X U B) (i 1).val (i 0).val : EReal)) fun j => ?_) i
  rw [after0_14, gain_sum m hX hU hH hg hsh hsc hW hB, ← Rms.shares 256 (low H W g sh sc) (dn X U B) _ 16 512 _ rfl]
  blk_simp [idx last]

include hX hU in
/-- The gradient of the heads' keys and values after all points. -/
theorem arr_kv (i) : (dats m 0 c).arrAt 12 cfg0.N i = (both X U (i 0).val ((i 1).val / 128) ((i 1).val % 128) : EReal) := by
  refine congrFun ((dats m 0 c).arrAt_eq_of_covers 12 (fun i => (both X U (i 0).val ((i 1).val / 128) ((i 1).val % 128) : EReal)) (by decide +kernel) fun t _ y => ?_) i
  rw [after0_12, out_kv m hX hU t]
  blk_simp [idx t]
  rw [mul_comm]

end run

end Cert.Keys

end
-- ==== Proof.KvBwdEq.lean ====
/- The keys' and values' backward step and its reference leave the same arrays on finite arguments. -/
module

public import proofs.«01_k».proof.Defs
public import proofs.«01_k».proof.Proof.KvBwdRun
public import proofs.«01_k».proof.Proof.AttnMath
public import proofs.«01_k».proof.Proof.Gen.Pre_finite_kv

@[expose] public section

set_option maxRecDepth 16384

noncomputable section

open Idealize.ShloMosaic Cert.Lift

namespace Cert.Keys

/-- The precondition says that all arguments are arrays of reals. -/
theorem reals {x0 : FVec Ideal Pre_finite_kv.S8192x16x96 .f32} {x1 : FVec Ideal Pre_finite_kv.S8192x16x64 .f32} {x2 x3 : FVec Ideal Pre_finite_kv.S8192x1024 .f32}
    {x4 x5 x6 : FVec Ideal Pre_finite_kv.S1024 .f32} {x7 : FVec Ideal Pre_finite_kv.S1024x288 .f32} {x8 : FVec Ideal Pre_finite_kv.S256 .f32}
    {x9 : FVec Ideal Pre_finite_kv.S256x2048 .f32} {x10 x11 : FVec Ideal Pre_finite_kv.S8192x16 .f32}
    (h : Pre_finite_kv.fn (F := Ideal) x0 x1 x2 x3 x4 x5 x6 x7 x8 x9 x10 x11 = fun _ => 1#1) :
    (∃ X : ℕ → ℕ → ℕ → ℝ, ∀ i, x0 i = (X (i 0).val (i 1).val (i 2).val : EReal)) ∧ (∃ U : ℕ → ℕ → ℕ → ℝ, ∀ i, x1 i = (U (i 0).val (i 1).val (i 2).val : EReal))
      ∧ (∃ Y : ℕ → ℕ → ℝ, ∀ i, x2 i = (Y (i 0).val (i 1).val : EReal))
      ∧ (∃ H : ℕ → ℕ → ℝ, ∀ i, x3 i = (H (i 0).val (i 1).val : EReal)) ∧ (∃ g : ℕ → ℝ, ∀ i, x4 i = (g (i 0).val : EReal))
      ∧ (∃ s : ℕ → ℝ, ∀ i, x5 i = (s (i 0).val : EReal)) ∧ (∃ s : ℕ → ℝ, ∀ i, x6 i = (s (i 0).val : EReal))
      ∧ (∃ W : ℕ → ℕ → ℝ, ∀ i, x7 i = (W (i 0).val (i 1).val : EReal)) ∧ (∃ s : ℕ → ℝ, ∀ i, x8 i = (s (i 0).val : EReal))
      ∧ (∃ B : ℕ → ℕ → ℝ, ∀ i, x9 i = (B (i 0).val (i 1).val : EReal)) ∧ (∃ C : ℕ → ℕ → ℝ, ∀ i, x10 i = (C (i 0).val (i 1).val : EReal))
      ∧ ∃ N : ℕ → ℕ → ℝ, ∀ i, x11 i = (N (i 0).val (i 1).val : EReal) := by
  have e := congrFun h fun a => a.elim0
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Attn.lift3 _ (real_of_all x0 _ (fun _ => rfl) _ _ _ _ e0), Attn.lift3 _ (real_of_all x1 _ (fun _ => rfl) _ _ _ _ e1),
    lift2 _ (real_of_all x2 _ (fun _ => rfl) _ _ _ _ e2), lift2 _ (real_of_all x3 _ (fun _ => rfl) _ _ _ _ e3),
    lift1 _ (real_of_all x4 _ (fun _ => rfl) _ _ _ _ e4), lift1 _ (real_of_all x5 _ (fun _ => rfl) _ _ _ _ e5),
    lift1 _ (real_of_all x6 _ (fun _ => rfl) _ _ _ _ e6),
    lift2 _ (real_of_all x7 _ (fun _ => rfl) _ _ _ _ e7), lift1 _ (real_of_all x8 _ (fun _ => rfl) _ _ _ _ e8),
    lift2 _ (real_of_all x9 _ (fun _ => rfl) _ _ _ _ e9), lift2 _ (real_of_all x10 _ (fun _ => rfl) _ _ _ _ e10),
    lift2 _ (real_of_all x11 _ (fun _ => rfl) _ _ _ _ e11)⟩

/-- The reference runs and leaves its arguments as they were. -/
theorem frame_ref : quiescent_KvBwdRefIdeal := fun m ρ _ =>
  (θ_run KvBwdRefIdeal.defs _ _).mono (fun r h => ⟨fun c => (h c).2.2.2.2.2, sem_eq_zero_of_no_sems (by decide) r.2⟩) (KvBwdRefIdeal.Value.run m ρ)

set_option maxHeartbeats 1000000 in
/-- On finite arguments both programs leave the same gradients and the same sums. -/
theorem algebraic : algebraic_KvBwdIdeal_KvBwdRefIdeal_pre_finite_kv := by
  intro m ρ m' ρ' hpre harg
  refine ⟨fun c => (KvBwdIdeal.Gen.dats m 0 c).arrAt 10 _, fun c => (KvBwdIdeal.Gen.dats m 0 c).arrAt 11 _, fun c => (KvBwdIdeal.Gen.dats m 0 c).arrAt 12 _, fun c => (KvBwdIdeal.Gen.dats m 0 c).arrAt 13 _, fun c => (KvBwdIdeal.Gen.dats m 0 c).arrAt 14 _, KvBwdIdeal.Value.run_blocks m ρ, ?_⟩
  refine (θ_run KvBwdRefIdeal.defs _ _).mono (fun r h c => ?_) (KvBwdRefIdeal.Value.run m' ρ')
  obtain ⟨⟨X, hX⟩, ⟨U, hU⟩, ⟨Y, hY⟩, ⟨H, hH⟩, ⟨g, hg⟩, ⟨sh, hsh⟩, ⟨sc, hsc⟩, ⟨W, hW⟩, ⟨gk, hk⟩, ⟨B, hB⟩, ⟨C, hC⟩, N, hN⟩ := reals (hpre c)
  obtain ⟨a0, a1, a2, a3, a4, a5, a6, a7, a8, a9, a10, a11⟩ := harg c
  obtain ⟨r0, r1, r2, r3, r4, k⟩ := h c
  refine ⟨r0.trans ?_, r1.trans ?_, r2.trans ?_, r3.trans ?_, r4.trans ?_, k⟩
  · rw [KvBwdRefIdeal.Read.val_main_v132_eq]
    simp only [StableHlo.launchContents_devRef, a0, a1, a2, a3, a4, a5, a6, a7, a8, a9, a10, a11]
    exact funext fun i => (ref_dh hX hU hY hH hg hsh hsc hW hk hB hC hN i).trans (arr_dh m hX hU hY hH hg hsh hsc hW hk hB hC hN i).symm
  · rw [KvBwdRefIdeal.Read.val_main_v138_eq]
    simp only [StableHlo.launchContents_devRef, a0, a1, a3, a4, a5, a6, a7, a8, a9, a10, a11]
    exact funext fun i => (ref_far hX hU hH hg hsh hsc hW hk hB hC hN i).trans (arr_far m hX hU hH hg hsh hsc hW hk hB hC hN i).symm
  · rw [KvBwdRefIdeal.Read.val_main_v139_eq]
    simp only [StableHlo.launchContents_devRef, a0, a1]
    exact funext fun i => (ref_kvb hX hU i).trans (arr_kv m hX hU i).symm
  · rw [KvBwdRefIdeal.Read.val_main_v144_eq]
    simp only [StableHlo.launchContents_devRef, a0, a1, a3, a4, a5, a6, a7, a8, a9, a10, a11]
    exact funext fun i => (ref_sums hX hU hH hg hsh hsc hW hk hB hC hN i).trans (arr_sums m hX hU hH hg hsh hsc hW hk hB hC hN i).symm
  · rw [KvBwdRefIdeal.Read.val_main_v147_eq]
    simp only [StableHlo.launchContents_devRef, a0, a1, a3, a4, a5, a6, a7, a9]
    exact funext fun i => (ref_gain hX hU hH hg hsh hsc hW hB i).trans (arr_gain m hX hU hH hg hsh hsc hW hB i).symm

end Cert.Keys

end
-- ==== Proof.ConvInRef.lean ====
/- The reference of the convolution block's input step runs and leaves its arguments as they were. -/
module

public import proofs.«01_k».proof.Defs
public import proofs.«01_k».proof.Proof.Gen.ConvInRefIdeal.Run

@[expose] public section

set_option maxRecDepth 16384

noncomputable section

open Idealize.ShloMosaic

namespace Cert.ConvInput

/-- The reference runs and leaves its arguments as they were. -/
theorem frame_ref : quiescent_ConvInRefIdeal := fun m ρ _ =>
  (θ_run ConvInRefIdeal.defs _ _).mono (fun r h => ⟨fun c => (h c).2.2.2.2.2, sem_eq_zero_of_no_sems (by decide) r.2⟩) (ConvInRefIdeal.Value.run m ρ)

end Cert.ConvInput

end
-- ==== Proof.Whole.lean ====
/- Arrays of extended reals as functions of their positions: what the forward calls compute on any arguments. -/
module

public import proofs.«01_k».proof.Proof.Lift

@[expose] public section

noncomputable section

open Idealize.ShloMosaic Cert.Lift

namespace Cert.Whole

/-- A one-axis array as a function of the position. -/
theorem lift1E {a : ℕ} (x : Shape.Idx ⟨1, ![a]⟩ → EReal) : ∃ X : ℕ → EReal, ∀ i, x i = X (i 0).val := by
  refine ⟨fun p => if hp : p < a then x (fun k => match k with | ⟨0, _⟩ => ⟨p, hp⟩) else 0, fun i => ?_⟩
  have hi : (i 0).val < a := (i 0).isLt
  simp only [hi, dif_pos]
  refine congrArg x (funext fun k => ?_)
  match k with | ⟨0, _⟩ => rfl

/-- Every head's 64 columns behind 64 zeros. -/
def behind (f : ℕ → ℕ → EReal) (i n : ℕ) : EReal := if 64 ≤ n % 128 then f i (64 * (n / 128) + (n % 128 - 64)) else 0

/-- A product over the padded columns is the product over the columns themselves. -/
theorem sum_behind (f g : ℕ → ℕ → EReal) (i j : ℕ) :
    (∑ l : Fin 2048, behind f i l * behind g j l) = ∑ e : Fin 1024, f i e * g j e := by
  have blocks (n b : ℕ) (F : ℕ → EReal) : (∑ p : Fin (n * b), F p.val) = ∑ s ∈ Finset.range n, ∑ q : Fin b, F (b * s + q.val) := by
    rw [← Finset.sum_range F, Finset.sum_range_mul_split]
    exact Finset.sum_congr rfl fun s _ => by rw [Finset.sum_range]; exact Finset.sum_congr rfl fun q _ => by rw [mul_comm]
  refine (blocks 16 128 fun l => behind f i l * behind g j l).trans (Eq.trans (Finset.sum_congr rfl fun s _ => ?_) (blocks 16 64 fun l => f i l * g j l).symm)
  have e := Fin.sum_univ_add (a := 64) (b := 64) fun l : Fin (64 + 64) => behind f i (128 * s + l) * behind g j (128 * s + l)
  refine e.trans ?_
  rw [Finset.sum_eq_zero fun k _ => ?_, zero_add]
  · refine Finset.sum_congr rfl fun k _ => ?_
    have hk := k.isLt
    unfold behind
    rw [Fin.val_natAdd, if_pos (by omega), if_pos (by omega), show 64 * ((128 * s + (64 + k.val)) / 128) + ((128 * s + (64 + k.val)) % 128 - 64) = 64 * s + k.val by omega]
  · have hk := k.isLt
    unfold behind
    rw [Fin.val_castAdd, if_neg (by omega), zero_mul]

/-- The modulated norm of a row. -/
def u (H : ℕ → ℕ → EReal) (g sh sc : ℕ → EReal) (i j : ℕ) : EReal :=
  H i j * Ideal.rsqrt (Ideal.div (∑ k : Fin 1024, H i k * H i k) ((1024 : ℝ) : EReal) + (eps : EReal)) * g j * (((1 : ℝ) : EReal) + sc j) + sh j

/-- A product of two matrices. -/
def ab (U W : ℕ → ℕ → EReal) (i n : ℕ) : EReal := ∑ k : Fin 1024, U i k * W k n

end Cert.Whole

end
-- ==== Proof.OutFwdEq.lean ====
/- The attention's output product with its gate and residual leaves what the reference leaves, on any arguments. -/
module

public import proofs.«01_k».proof.Defs
public import proofs.«01_k».proof.Proof.Whole
public import proofs.«01_k».proof.Proof.Rows
public import proofs.«01_k».proof.Proof.Gen.OutFwdIdeal.Value
public import proofs.«01_k».proof.Proof.Gen.OutFwdRefIdeal.Run
public import proofs.«01_k».proof.Proof.Gen.OutFwdRefIdeal.Read

@[expose] public section

set_option maxRecDepth 16384

noncomputable section

open Idealize.ShloMosaic Idealize.ShloMosaic.TcCoe Idealize.ShloMosaic.Pipeline Idealize.SL.Sem
open Cert.Lift Cert.Whole

namespace Cert.OutForward

/-- The stream behind the attention: the stream and the gated product of the heads' outputs with the weight. -/
def out (O H W : ℕ → ℕ → EReal) (G : ℕ → EReal) (i j : ℕ) : EReal := H i j + G j * ∑ k : Fin 1024, O i k * W k j

section reference
open Cert.OutFwdRefIdeal Cert.OutFwdRefIdeal.Read
variable {x0 x1 : (⟨S8192x1024, .f32⟩ : BufTy).Contents (Elt Ideal)} {x2 : (⟨S1024x1024, .f32⟩ : BufTy).Contents (Elt Ideal)}
  {x3 : (⟨S1024, .f32⟩ : BufTy).Contents (Elt Ideal)} {O H W : ℕ → ℕ → EReal} {G : ℕ → EReal}

attribute [local pointwise] val_main_v0_apply val_main_v2_apply val_main_v3_apply

/-- The reference's result. -/
theorem ref_out (h0 : ∀ i, x0 i = O (i 0).val (i 1).val) (h1 : ∀ i, x1 i = H (i 0).val (i 1).val) (h2 : ∀ i, x2 i = W (i 0).val (i 1).val)
    (h3 : ∀ i, x3 i = G (i 0).val) (i) : val_main_v4 (F := Ideal) x0 x1 x2 x3 i = out O H W G (i 0).val (i 1).val := by
  pointwise [val_main_v4_apply, val_main_v1_apply, h0, h1, h2, h3]
  rfl

end reference

section run
open Cert.OutFwdIdeal Cert.OutFwdIdeal.Gen

theorem out_block {x0 : Vec Ideal S512x2048 .bf16} {x1 : Vec Ideal S512x1024 .f32} {x2 : Vec Ideal S2048x1024 .bf16} {x3 : Vec Ideal S8x1024 .f32}
    {O H W : ℕ → ℕ → EReal} {G : ℕ → EReal} (h0 : ∀ i, x0 i = behind O (i 0).val (i 1).val) (h1 : ∀ i, x1 i = H (i 0).val (i 1).val)
    (h2 : ∀ i, x2 i = behind (fun j n => W n j) (i 1).val (i 0).val) (h3 : ∀ i : S8x1024.Idx, (i 0).val = 3 → x3 i = G (i 1).val) (i) :
    out0_4 (F := Ideal) x0 x1 x2 x3 i = out O H W G (i 0).val (i 1).val := by
  have e : ∀ x : Fin 1024, x3 (ix2 3 x) = G x.val := fun x => h3 _ rfl
  frame_out
  pointwise [k0_pay1, h0, h1, h2, e]
  unfold out
  rw [← sum_behind O (fun j n => W n j)]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![t.val, 0] :=
  (by decide +kernel : ∀ t : Fin grid0.N, _)

/-- What the host lines before the call leave, one list of them after another. -/
theorem V_eq (c : Dev nD) (b : Ref sig .tc) : V m c b = StableHlo.after hostOps0_4 (StableHlo.after hostOps0_3 (StableHlo.after hostOps0_2 (StableHlo.after hostOps0_1
    (StableHlo.after hostOps0 fun b => m (c, b))))) (Proc.devRef .tc b) := by
  unfold V
  rw [List.flatten_cons, List.flatten_cons, List.flatten_cons, List.flatten_cons, List.flatten_cons, List.flatten_nil, List.append_nil,
    StableHlo.after_append, StableHlo.after_append, StableHlo.after_append, StableHlo.after_append]

variable {O H W : ℕ → ℕ → EReal} {G : ℕ → EReal} {c : Dev nD}
  (hO : ∀ i, m ((c : Thread nD τ).loc main_arg0) i = O (i 0).val (i 1).val)
  (hH : ∀ i, m ((c : Thread nD τ).loc main_arg1) i = H (i 0).val (i 1).val)
  (hW : ∀ i, m ((c : Thread nD τ).loc main_arg2) i = W (i 0).val (i 1).val)
  (hG : ∀ i, m ((c : Thread nD τ).loc main_arg3) i = G (i 0).val)

include hO in
theorem host_o (i : S8192x2048.Idx) : (V m c main_v7 : Vec Ideal S8192x2048 .bf16) i = behind O (i 0).val (i 1).val := by
  rw [V_eq]
  simp only [StableHlo.after_cons, StableHlo.after_nil]
  after_results_simp
  after_results_loop
  simp -implicitDefEqProofs only [StableHlo.TRef.toBuf, StableHlo.TRef.ofBuf, cast_cast, cast_eq]
  pointwise [hO]
  have b : (i 1).val < 2048 := (i 1).isLt
  unfold behind
  by_cases h : 64 ≤ (i 1).val % 128
  · rw [dif_pos (by omega), if_pos h]
    refine congrArg₂ _ ?_ ?_ <;> omega
  · rw [dif_neg (by omega), if_neg h]
    exact congrArg Real.toEReal Int.cast_zero

include hO in
theorem blk_o (t : Fin cfg0.N) (i : S512x2048.Idx) : (iblk m c 0 t : Vec Ideal S512x2048 .bf16) i = behind O (512 * t.val + (i 0).val) (i 1).val := by
  blk_simp [iblk]
  rw [host_o m hO]
  blk_simp [idx t]
  rw [mul_comm]

include hH in
theorem blk_h (t : Fin cfg0.N) (i : S512x1024.Idx) : (iblk m c 1 t : Vec Ideal S512x1024 .f32) i = H (512 * t.val + (i 0).val) (i 1).val := by
  blk_simp [iblk]
  rw [V_main_arg1, hH]
  blk_simp [idx t]
  rw [mul_comm]

include hW in
theorem host_w (i : S2048x1024.Idx) : (V m c main_v3 : Vec Ideal S2048x1024 .bf16) i = behind (fun j n => W n j) (i 1).val (i 0).val := by
  rw [V_eq]
  simp only [StableHlo.after_cons, StableHlo.after_nil]
  after_results_simp
  after_results_loop
  simp -implicitDefEqProofs only [StableHlo.TRef.toBuf, StableHlo.TRef.ofBuf, cast_cast, cast_eq]
  pointwise [hW]
  have b : (i 0).val < 2048 := (i 0).isLt
  unfold behind
  by_cases h : 64 ≤ (i 0).val % 128
  · rw [dif_pos (by omega), if_pos h]
    refine congrArg₂ _ ?_ ?_ <;> omega
  · rw [dif_neg (by omega), if_neg h]
    exact congrArg Real.toEReal Int.cast_zero

include hW in
theorem blk_w (t : Fin cfg0.N) (i : S2048x1024.Idx) : (iblk m c 2 t : Vec Ideal S2048x1024 .bf16) i = behind (fun j n => W n j) (i 1).val (i 0).val := by
  blk_simp [iblk]
  rw [host_w m hW]
  blk_simp [idx t]

include hG in
theorem blk_g (t : Fin cfg0.N) (i : S8x1024.Idx) (h : (i 0).val = 3) : (iblk m c 3 t : Vec Ideal S8x1024 .f32) i = G (i 1).val := by
  have e : (iblk m c 3 t : Vec Ideal S8x1024 .f32) i = (V m c main_v14 : Vec Ideal S8x1024 .f32) i := by
    blk_simp [iblk]
    exact congrArg (V m c main_v14 : Vec Ideal S8x1024 .f32) (by blk_ext [idx t])
  rw [e, V_eq]
  simp only [StableHlo.after_cons, StableHlo.after_nil]
  after_results_simp
  refine (Cert.Rows.concat_row _ _ i 3 (by simp) _ rfl 3 rfl h).trans ?_
  simp only [Matrix.cons_val]
  after_results_loop
  pointwise [hG]

include hO hH hW hG in
/-- The kernel's result after all points. -/
theorem arr_out (i) : (dats m 0 c).arrAt 4 cfg0.N i = out O H W G (i 0).val (i 1).val := by
  refine congrFun ((dats m 0 c).arrAt_eq_of_covers 4 (fun i => out O H W G (i 0).val (i 1).val) (by decide +kernel) fun t _ y => ?_) i
  rw [after0_4, out_block (O := fun p j => O (512 * t.val + p) j) (H := fun p j => H (512 * t.val + p) j) (blk_o m hO t) (blk_h m hH t) (blk_w m hW t) (blk_g m hG t)]
  blk_simp [idx t]
  rw [mul_comm]
  rfl

end run

/-- The reference runs and leaves its arguments as they were. -/
theorem frame_ref : quiescent_OutFwdRefIdeal := fun m ρ _ =>
  (θ_run OutFwdRefIdeal.defs _ _).mono (fun r h => ⟨fun c => (h c).2, sem_eq_zero_of_no_sems (by decide) r.2⟩) (OutFwdRefIdeal.Value.run m ρ)

/-- Both programs leave the same stream. -/
theorem algebraic : algebraic_OutFwdIdeal_OutFwdRefIdeal := by
  intro m ρ m' ρ' _ harg
  refine ⟨fun c => (OutFwdIdeal.Gen.dats m 0 c).arrAt 4 _, OutFwdIdeal.Value.run_blocks m ρ, ?_⟩
  refine (θ_run OutFwdRefIdeal.defs _ _).mono (fun r h c => ?_) (OutFwdRefIdeal.Value.run m' ρ')
  obtain ⟨O, hO⟩ := lift2E (m ((c : Thread OutFwdIdeal.nD OutFwdIdeal.τ).loc OutFwdIdeal.main_arg0))
  obtain ⟨H, hH⟩ := lift2E (m ((c : Thread OutFwdIdeal.nD OutFwdIdeal.τ).loc OutFwdIdeal.main_arg1))
  obtain ⟨W, hW⟩ := lift2E (m ((c : Thread OutFwdIdeal.nD OutFwdIdeal.τ).loc OutFwdIdeal.main_arg2))
  obtain ⟨G, hG⟩ := lift1E (m ((c : Thread OutFwdIdeal.nD OutFwdIdeal.τ).loc OutFwdIdeal.main_arg3))
  obtain ⟨a0, a1, a2, a3⟩ := harg c
  obtain ⟨r0, k⟩ := h c
  refine ⟨r0.trans ?_, k⟩
  rw [OutFwdRefIdeal.Read.val_main_v4_eq]
  simp only [StableHlo.launchContents_devRef, a0, a1, a2, a3]
  exact funext fun i => (ref_out hO hH hW hG i).trans (arr_out m hO hH hW hG i).symm

end Cert.OutForward

end
-- ==== Proof.ModFwdEq.lean ====
/- The modulation's products of the activated condition leave what the reference leaves, on any arguments. -/
module

public import proofs.«01_k».proof.Defs
public import proofs.«01_k».proof.Proof.Whole
public import proofs.«01_k».proof.Proof.Gen.ModFwdIdeal.Value
public import proofs.«01_k».proof.Proof.Gen.ModFwdRefIdeal.Run
public import proofs.«01_k».proof.Proof.Gen.ModFwdRefIdeal.Read

@[expose] public section

set_option maxRecDepth 16384

noncomputable section

open Idealize.ShloMosaic Idealize.ShloMosaic.TcCoe Idealize.ShloMosaic.Pipeline Idealize.SL.Sem
open Cert.Lift Cert.Whole

namespace Cert.ModForward

/-- The condition times its logistic. -/
def act (C : ℕ → ℕ → EReal) (i k : ℕ) : EReal := C i k * Ideal.logistic (C i k)

/-- The activated condition times a weight. -/
def prod (C W : ℕ → ℕ → EReal) (i j : ℕ) : EReal := ∑ k : Fin 1024, act C i k * W k j

/-- The three products side by side. -/
def out (C U V W : ℕ → ℕ → EReal) (i j : ℕ) : EReal :=
  if j < 1152 then prod C U i j else if j < 2304 then prod C V i (j - 1152) else prod C W i (j - 2304)

section reference
open Cert.ModFwdRefIdeal Cert.ModFwdRefIdeal.Read
variable {x0 : (⟨S8x1024, .f32⟩ : BufTy).Contents (Elt Ideal)} {x1 x2 : (⟨S1024x1152, .f32⟩ : BufTy).Contents (Elt Ideal)}
  {x3 : (⟨S1024x256, .f32⟩ : BufTy).Contents (Elt Ideal)} {C U V W : ℕ → ℕ → EReal}
  (h0 : ∀ i, x0 i = C (i 0).val (i 1).val) (h1 : ∀ i, x1 i = U (i 0).val (i 1).val) (h2 : ∀ i, x2 i = V (i 0).val (i 1).val)
  (h3 : ∀ i, x3 i = W (i 0).val (i 1).val)

attribute [local pointwise] val_main_call0_v0_apply val_main_call0_v1_apply val_main_call0_cst_apply val_main_call0_v2_apply val_main_call0_v3_apply
  val_main_call0_cst_0_apply val_main_call0_v4_apply val_main_call0_v5_apply

include h0 in
theorem ref_act (i) : val_main_v0 (F := Ideal) x0 i = act C (i 0).val (i 1).val := by
  pointwise [val_main_v0_apply, h0]
  rfl

include h0 h1 h2 h3 in
/-- The reference's result. -/
theorem ref_out (i) : val_main_v4 (F := Ideal) x0 x1 x2 x3 i = out C U V W (i 0).val (i 1).val := by
  have b : (i 1).val < 2560 := (i 1).isLt
  unfold out val_main_v4
  split_ifs with p q
  · refine (concatenate_apply_piece 1 _ _ i 0 (by simp) S8x1152 _ rfl rfl 0 rfl (ix2 (i 0) ⟨(i 1).val, p⟩) ?_ ?_).trans ?_
    · intro d hd; fin_cases d
      · rfl
      · exact absurd rfl hd
    · exact Nat.zero_add _
    · pointwise [val_main_v1_apply, ref_act h0, h1]
      rfl
  · refine (concatenate_apply_piece 1 _ _ i 1 (by simp) S8x1152 _ rfl rfl 1152 rfl (ix2 (i 0) ⟨(i 1).val - 1152, by omega⟩) ?_ ?_).trans ?_
    · intro d hd; fin_cases d
      · rfl
      · exact absurd rfl hd
    · exact Nat.add_sub_cancel' (by omega)
    · pointwise [val_main_v2_apply, ref_act h0, h2]
      rfl
  · refine (concatenate_apply_piece 1 _ _ i 2 (by simp) S8x256 _ rfl rfl 2304 rfl (ix2 (i 0) ⟨(i 1).val - 2304, by omega⟩) ?_ ?_).trans ?_
    · intro d hd; fin_cases d
      · rfl
      · exact absurd rfl hd
    · exact Nat.add_sub_cancel' (by omega)
    · pointwise [val_main_v3_apply, ref_act h0, h3]
      rfl

end reference

section run
open Cert.ModFwdIdeal Cert.ModFwdIdeal.Gen

section block
variable {x0 : Vec Ideal S8x1024 .f32} {x1 x2 : Vec Ideal S1024x1152 .f32} {x3 : Vec Ideal S1024x256 .f32} {C U V W : ℕ → ℕ → EReal}
  (h0 : ∀ i, x0 i = C (i 0).val (i 1).val) (h1 : ∀ i, x1 i = U (i 0).val (i 1).val) (h2 : ∀ i, x2 i = V (i 0).val (i 1).val)
  (h3 : ∀ i, x3 i = W (i 0).val (i 1).val)

include h0 in
theorem pay_act (i) : k0_pay1 (F := Ideal) x0 i = act C (i 0).val (i 1).val := by
  pointwise [k0_pay1, h0]
  rfl

include h0 h1 in
theorem pay_u (i) : k0_pay2 (F := Ideal) x0 x1 i = prod C U (i 0).val (i 1).val := by
  pointwise [k0_pay2, pay_act h0, h1]
  rfl

include h0 h2 in
theorem pay_v (i) : k0_pay3 (F := Ideal) x0 x2 i = prod C V (i 0).val (i 1).val := by
  pointwise [k0_pay3, pay_act h0, h2]
  rfl

include h0 h3 in
theorem pay_w (i) : k0_pay4 (F := Ideal) x0 x3 i = prod C W (i 0).val (i 1).val := by
  pointwise [k0_pay4, pay_act h0, h3]
  rfl

end block

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

variable (m : (ℓ : Loc nD τ sig) → Buf (Elt Ideal) ℓ) {C U V' W : ℕ → ℕ → EReal} {c : Dev nD}
  (hC : ∀ i, m ((c : Thread nD τ).loc main_arg0) i = C (i 0).val (i 1).val)
  (hU : ∀ i, m ((c : Thread nD τ).loc main_arg1) i = U (i 0).val (i 1).val)
  (hV : ∀ i, m ((c : Thread nD τ).loc main_arg2) i = V' (i 0).val (i 1).val)
  (hW : ∀ i, m ((c : Thread nD τ).loc main_arg3) i = W (i 0).val (i 1).val)

include hC in
theorem blk_c (t : Fin cfg0.N) (i : S8x1024.Idx) : (iblk m c 0 t : Vec Ideal S8x1024 .f32) i = C (i 0).val (i 1).val := by
  blk_simp [iblk]
  rw [V_main_arg0, hC]
  blk_simp [idx t]

include hU in
theorem blk_u (t : Fin cfg0.N) (i : S1024x1152.Idx) : (iblk m c 1 t : Vec Ideal S1024x1152 .f32) i = U (i 0).val (i 1).val := by
  blk_simp [iblk]
  rw [V_main_arg1, hU]
  blk_simp [idx t]

include hV in
theorem blk_v (t : Fin cfg0.N) (i : S1024x1152.Idx) : (iblk m c 2 t : Vec Ideal S1024x1152 .f32) i = V' (i 0).val (i 1).val := by
  blk_simp [iblk]
  rw [V_main_arg2, hV]
  blk_simp [idx t]

include hW in
theorem blk_w (t : Fin cfg0.N) (i : S1024x256.Idx) : (iblk m c 3 t : Vec Ideal S1024x256 .f32) i = W (i 0).val (i 1).val := by
  blk_simp [iblk]
  rw [V_main_arg3, hW]
  blk_simp [idx t]

include hC hU hV hW in
theorem out_at (t : Fin cfg0.N) (j) : outsAt0 m c t j = out C U V' W (j 0).val (j 1).val := by
  unfold outsAt0
  frame_out
  refine View.canon_apply_of_pieces (Val := Elt Ideal) (e := .f32) (fun i : S8x2560.Idx => out C U V' W (i 0).val (i 1).val) _ ?_ j
    (View.cover_of_tiledBy _ ![8, 128] (by sl_kernel_rfl) j)
  simp only [List.forall_mem_cons, List.not_mem_nil, false_imp_iff, implies_true, and_true]
  refine ⟨fun x => ?_, fun x => ?_, fun x => ?_⟩
  · refine Eq.trans (pay_w (C := C) (W := W) ?_ ?_ x) ?_
    · exact fun i => (congrFun (Memref.IsWhole.read_unread _ _) i).trans (blk_c m hC t i)
    · exact fun i => (congrFun (Memref.IsWhole.read_unread _ _) i).trans (blk_w m hW t i)
    · have e0 : ((Rect.unit (s := S8x2560) ![0, 2304] ![8, 256] inb_S8x2560_S8x256_0_2304).emb x 0).val = 0 + (x 0).val := Rect.idx_unit_val _ _ _ x _
      have e1 : ((Rect.unit (s := S8x2560) ![0, 2304] ![8, 256] inb_S8x2560_S8x256_0_2304).emb x 1).val = 2304 + (x 1).val := Rect.idx_unit_val _ _ _ x _
      have b : (x 1).val < 256 := (x 1).isLt
      unfold out
      rw [e0, e1, Nat.zero_add, if_neg (by omega), if_neg (by omega), Nat.add_sub_cancel_left]
  · refine Eq.trans (pay_v (C := C) (V := V') ?_ ?_ x) ?_
    · exact fun i => (congrFun (Memref.IsWhole.read_unread _ _) i).trans (blk_c m hC t i)
    · exact fun i => (congrFun (Memref.IsWhole.read_unread _ _) i).trans (blk_v m hV t i)
    · have e0 : ((Rect.unit (s := S8x2560) ![0, 1152] ![8, 1152] inb_S8x2560_S8x1152_0_1152).emb x 0).val = 0 + (x 0).val := Rect.idx_unit_val _ _ _ x _
      have e1 : ((Rect.unit (s := S8x2560) ![0, 1152] ![8, 1152] inb_S8x2560_S8x1152_0_1152).emb x 1).val = 1152 + (x 1).val := Rect.idx_unit_val _ _ _ x _
      have b : (x 1).val < 1152 := (x 1).isLt
      unfold out
      rw [e0, e1, Nat.zero_add, if_neg (by omega), if_pos (by omega), Nat.add_sub_cancel_left]
  · refine Eq.trans (pay_u (C := C) (U := U) ?_ ?_ x) ?_
    · exact fun i => (congrFun (Memref.IsWhole.read_unread _ _) i).trans (blk_c m hC t i)
    · exact fun i => (congrFun (Memref.IsWhole.read_unread _ _) i).trans (blk_u m hU t i)
    · have e0 : ((Rect.unit (s := S8x2560) ![0, 0] ![8, 1152] inb_S8x2560_S8x1152_0_0).emb x 0).val = 0 + (x 0).val := Rect.idx_unit_val _ _ _ x _
      have e1 : ((Rect.unit (s := S8x2560) ![0, 0] ![8, 1152] inb_S8x2560_S8x1152_0_0).emb x 1).val = 0 + (x 1).val := Rect.idx_unit_val _ _ _ x _
      have b : (x 1).val < 1152 := (x 1).isLt
      unfold out
      rw [e0, e1, Nat.zero_add, Nat.zero_add, if_pos b]

include hC hU hV hW in
/-- The kernel's result. -/
theorem arr_out (i) : (dats m 0 c).arrAt 4 cfg0.N i = out C U V' W (i 0).val (i 1).val := by
  refine congrFun ((dats m 0 c).arrAt_eq_of_covers 4 (fun i => out C U V' W (i 0).val (i 1).val) (by decide +kernel) fun t _ y => ?_) i
  rw [after0_4, out_at m hC hU hV hW t]
  blk_simp [idx t]

end run

/-- The reference runs and leaves its arguments as they were. -/
theorem frame_ref : quiescent_ModFwdRefIdeal := fun m ρ _ =>
  (θ_run ModFwdRefIdeal.defs _ _).mono (fun r h => ⟨fun c => (h c).2, sem_eq_zero_of_no_sems (by decide) r.2⟩) (ModFwdRefIdeal.Value.run m ρ)

/-- Both programs leave the same three products side by side. -/
theorem algebraic : algebraic_ModFwdIdeal_ModFwdRefIdeal := by
  intro m ρ m' ρ' _ harg
  refine ⟨fun c => (ModFwdIdeal.Gen.dats m 0 c).arrAt 4 _, ModFwdIdeal.Value.run_blocks m ρ, ?_⟩
  refine (θ_run ModFwdRefIdeal.defs _ _).mono (fun r h c => ?_) (ModFwdRefIdeal.Value.run m' ρ')
  obtain ⟨C, hC⟩ := lift2E (m ((c : Thread ModFwdIdeal.nD ModFwdIdeal.τ).loc ModFwdIdeal.main_arg0))
  obtain ⟨U, hU⟩ := lift2E (m ((c : Thread ModFwdIdeal.nD ModFwdIdeal.τ).loc ModFwdIdeal.main_arg1))
  obtain ⟨V, hV⟩ := lift2E (m ((c : Thread ModFwdIdeal.nD ModFwdIdeal.τ).loc ModFwdIdeal.main_arg2))
  obtain ⟨W, hW⟩ := lift2E (m ((c : Thread ModFwdIdeal.nD ModFwdIdeal.τ).loc ModFwdIdeal.main_arg3))
  obtain ⟨a0, a1, a2, a3⟩ := harg c
  obtain ⟨r0, k⟩ := h c
  refine ⟨r0.trans ?_, k⟩
  rw [ModFwdRefIdeal.Read.val_main_v4_eq]
  simp only [StableHlo.launchContents_devRef, a0, a1, a2, a3]
  exact funext fun i => (ref_out hC hU hV hW i).trans (arr_out m hC hU hV hW i).symm

end Cert.ModForward

end
-- ==== Proof.FfnFwdRef.lean ====
/- The feed-forward block's forward step: its formulas over the extended reals, and what the reference computes. -/
module

public import proofs.«01_k».proof.Defs
public import proofs.«01_k».proof.Proof.Whole
public import proofs.«01_k».proof.Proof.Gen.FfnFwdRefIdeal.Run
public import proofs.«01_k».proof.Proof.Gen.FfnFwdRefIdeal.Read

@[expose] public section

set_option maxRecDepth 16384

noncomputable section

open Idealize.ShloMosaic Idealize.ShloMosaic.TcCoe Idealize.ShloMosaic.Pipeline Idealize.SL.Sem
open Cert.Lift Cert.Whole

namespace Cert.FeedForward

/-- The gated values. -/
def act (AB : ℕ → ℕ → EReal) (i n : ℕ) : EReal := AB i n * Ideal.logistic (AB i n) * AB i (2816 + n)

/-- The stream behind the block. -/
def out (H AB V : ℕ → ℕ → EReal) (ga : ℕ → EReal) (i j : ℕ) : EReal :=
  H i j + ((1 / 2 : ℝ) : EReal) * ga j * ∑ n : Fin 2816, act AB i n * V n j

section reference
open Cert.FfnFwdRefIdeal Cert.FfnFwdRefIdeal.Read
variable {x0 : (⟨S8192x1024, .f32⟩ : BufTy).Contents (Elt Ideal)} {x1 x2 x3 x4 : (⟨S1024, .f32⟩ : BufTy).Contents (Elt Ideal)}
  {x5 : (⟨S1024x5632, .f32⟩ : BufTy).Contents (Elt Ideal)} {x6 : (⟨S2816x1024, .f32⟩ : BufTy).Contents (Elt Ideal)}
  {H W V : ℕ → ℕ → EReal} {g sh sc ga : ℕ → EReal}
  (h0 : ∀ i, x0 i = H (i 0).val (i 1).val) (h1 : ∀ i, x1 i = g (i 0).val) (h2 : ∀ i, x2 i = sh (i 0).val) (h3 : ∀ i, x3 i = sc (i 0).val)
  (h4 : ∀ i, x4 i = ga (i 0).val) (h5 : ∀ i, x5 i = W (i 0).val (i 1).val) (h6 : ∀ i, x6 i = V (i 0).val (i 1).val)

attribute [local pointwise] val_main_v0_apply val_main_cst_apply val_main_v2_apply val_main_cst_0_apply val_main_v3_apply val_main_v4_apply
  val_main_cst_1_apply val_main_v5_apply val_main_v6_apply val_main_v7_apply val_main_v8_apply val_main_v9_apply val_main_v10_apply val_main_v11_apply
  val_main_v12_apply val_main_v13_apply val_main_cst_2_apply val_main_v14_apply val_main_v15_apply val_main_v16_apply val_main_v17_apply
  val_main_v18_apply val_main_v19_apply val_main_v24_apply val_main_cst_3_apply val_main_v25_apply val_main_v26_apply val_main_call0_v0_apply
  val_main_call0_v1_apply val_main_call0_cst_apply val_main_call0_v2_apply val_main_call0_v3_apply val_main_call0_cst_0_apply val_main_call0_v4_apply
  val_main_call0_v5_apply val_main_v27_apply val_main_v30_apply val_main_v31_apply

include h0 h1 h2 h3 in
theorem ref_norm (i) : val_main_v20 (F := Ideal) x0 x1 x2 x3 i = u H g sh sc (i 0).val (i 1).val := by
  pointwise [val_main_v20_apply, val_main_v1_apply, h0, h1, h2, h3]
  rfl

include h0 h1 h2 h3 in
/-- The reference's modulated norm. -/
theorem ref_u (i) : val_main_v33 (F := Ideal) x0 x1 x2 x3 i = u H g sh sc (i 0).val (i 1).val := by
  pointwise [val_main_v33_apply, ref_norm h0 h1 h2 h3]

include h0 h1 h2 h3 h5 in
theorem ref_ab (i) : val_main_v21 (F := Ideal) x0 x1 x2 x3 x5 i = ab (u H g sh sc) W (i 0).val (i 1).val := by
  pointwise [val_main_v21_apply, ref_norm h0 h1 h2 h3, h5]
  rfl

include h0 h1 h2 h3 h5 in
theorem ref_left (i) : val_main_v22 (F := Ideal) x0 x1 x2 x3 x5 i = ab (u H g sh sc) W (i 0).val (i 1).val := by
  pointwise [val_main_v22_apply, ref_ab h0 h1 h2 h3 h5]

include h0 h1 h2 h3 h5 in
theorem ref_right (i) : val_main_v23 (F := Ideal) x0 x1 x2 x3 x5 i = ab (u H g sh sc) W (i 0).val (2816 + (i 1).val) := by
  pointwise [val_main_v23_apply, ref_ab h0 h1 h2 h3 h5]

include h0 h1 h2 h3 h5 in
/-- The reference's gate's argument. -/
theorem ref_a (i) : val_main_v34 (F := Ideal) x0 x1 x2 x3 x5 i = ab (u H g sh sc) W (i 0).val (i 1).val := by
  pointwise [val_main_v34_apply, ref_left h0 h1 h2 h3 h5]

include h0 h1 h2 h3 h5 in
/-- The reference's gated value. -/
theorem ref_b (i) : val_main_v35 (F := Ideal) x0 x1 x2 x3 x5 i = ab (u H g sh sc) W (i 0).val (2816 + (i 1).val) := by
  pointwise [val_main_v35_apply, ref_right h0 h1 h2 h3 h5]

include h0 h1 h2 h3 h5 in
theorem ref_act (i) : val_main_v28 (F := Ideal) x0 x1 x2 x3 x5 i = act (ab (u H g sh sc) W) (i 0).val (i 1).val := by
  pointwise [val_main_v28_apply, ref_left h0 h1 h2 h3 h5, ref_right h0 h1 h2 h3 h5]
  rfl

include h0 h1 h2 h3 h4 h5 h6 in
/-- The reference's stream behind the block. -/
theorem ref_out (i) : val_main_v32 (F := Ideal) x0 x1 x2 x3 x4 x5 x6 i = out H (ab (u H g sh sc) W) V ga (i 0).val (i 1).val := by
  pointwise [val_main_v32_apply, val_main_v29_apply, ref_act h0 h1 h2 h3 h5, h0, h4, h6]
  rfl

end reference

end Cert.FeedForward

end
-- ==== Proof.FfnFwdEq.lean ====
/- The feed-forward block's forward kernel leaves what the reference leaves, on any arguments. -/
module

public import proofs.«01_k».proof.Proof.FfnFwdRef
public import proofs.«01_k».proof.Proof.Rows
public import proofs.«01_k».proof.Proof.Gen.FfnFwdIdeal.Value

@[expose] public section

set_option maxRecDepth 16384

noncomputable section

open Idealize.ShloMosaic Idealize.ShloMosaic.TcCoe Idealize.ShloMosaic.Pipeline Idealize.SL.Sem
open Cert.Lift Cert.Whole

namespace Cert.FeedForward

section run
open Cert.FfnFwdIdeal Cert.FfnFwdIdeal.Gen

/-- A part of a block, from row `r` and column `k` on. -/
theorem ld_frag {R n : ℕ} {x : Vec Ideal ⟨2, ![R, n]⟩ .bf16} {F : ℕ → ℕ → EReal} (h : ∀ i, x i = F (i 0).val (i 1).val)
    (r k a b : ℕ) (inb) (i : (⟨2, ![a, b]⟩ : Shape).Idx) :
    View.ld x (Rect.unit (s := ⟨2, ![R, n]⟩) ![r, k] ![a, b] inb) i = F (r + (i 0).val) (k + (i 1).val) :=
  (h _).trans (congrArg₂ F (Rect.idx_unit_val _ _ _ _ _) (Rect.idx_unit_val _ _ _ _ _))

/-- A block stored in two runs of columns. -/
theorem two_runs {F : ℕ → ℕ → EReal} {p : Vec Ideal ⟨2, ![512, 1280]⟩ .bf16} {q : Vec Ideal ⟨2, ![512, 1536]⟩ .bf16}
    (hp : ∀ i, p i = F (i 0).val (1536 + (i 1).val)) (hq : ∀ i, q i = F (i 0).val (i 1).val) (inb inb') (i : S512x2816.Idx) :
    View.canon (Val := Elt Ideal) [⟨Rect.unit (s := S512x2816) ![0, 1536] ![512, 1280] inb, p⟩, ⟨Rect.unit (s := S512x2816) ![0, 0] ![512, 1536] inb', q⟩] i
      = F (i 0).val (i 1).val := by
  refine View.canon_apply_of_pieces (Val := Elt Ideal) (e := .bf16) (fun i : S512x2816.Idx => F (i 0).val (i 1).val) _ ?_ i ?_
  · simp only [List.forall_mem_cons, List.not_mem_nil, false_imp_iff, implies_true, and_true]
    refine ⟨fun x => (hp x).trans ?_, fun x => (hq x).trans ?_⟩ <;> refine congrArg₂ F ?_ ?_ <;>
      refine Eq.trans ?_ (Rect.idx_unit_val _ _ _ x _).symm <;> simp
  · have a : (i 0).val < 512 := (i 0).isLt
    have b : (i 1).val < 2816 := (i 1).isLt
    by_cases h : (i 1).val < 1536
    · refine ⟨_, List.mem_cons_of_mem _ List.mem_cons_self, (Rect.mem_set_unit (inb := inb')).mpr fun d => ?_⟩
      fin_cases d <;> simp <;> omega
    · refine ⟨_, List.mem_cons_self, (Rect.mem_set_unit (inb := inb)).mpr fun d => ?_⟩
      fin_cases d <;> simp <;> omega

section block

variable {v0 : Vec Ideal S512x1024 .f32} {v1 : Vec Ideal S8x1024 .f32} {v27 v30 : Vec Ideal S1024x1536 .bf16} {v41 : Vec Ideal S1536x1024 .bf16}
  {v45 v48 : Vec Ideal S1024x1280 .bf16} {v59 : Vec Ideal S1280x1024 .bf16}
  {H W V : ℕ → ℕ → EReal} {g sh sc ga : ℕ → EReal}
  (h0 : ∀ i, v0 i = H (i 0).val (i 1).val)
  (h1 : ∀ i : S8x1024.Idx, ((i 0).val = 0 → v1 i = g (i 1).val) ∧ ((i 0).val = 1 → v1 i = sh (i 1).val) ∧ ((i 0).val = 2 → v1 i = sc (i 1).val)
    ∧ ((i 0).val = 3 → v1 i = ga (i 1).val))
  (h27 : ∀ i, v27 i = W (i 0).val (i 1).val) (h30 : ∀ i, v30 i = W (i 0).val (2816 + (i 1).val))
  (h41 : ∀ i, v41 i = V (i 0).val (i 1).val) (h59 : ∀ i, v59 i = V (1536 + (i 0).val) (i 1).val)
  (h45 : ∀ i, v45 i = W (i 0).val (1536 + (i 1).val)) (h48 : ∀ i, v48 i = W (i 0).val (2816 + (1536 + (i 1).val)))

include h0 h1 in
theorem pay_u (i) : k0_pay7 (F := Ideal) v0 v1 i = u H g sh sc (i 0).val (i 1).val := by
  have e0 (x : Fin 1024) : v1 (ix2 0 x) = g x.val := (h1 _).1 rfl
  have e1 (x : Fin 1024) : v1 (ix2 1 x) = sh x.val := (h1 _).2.1 rfl
  have e2 (x : Fin 1024) : v1 (ix2 2 x) = sc x.val := (h1 _).2.2.1 rfl
  pointwise [k0_pay7, k0_pay6, h0, e0, e1, e2]
  rfl

include h0 h1 h27 in
theorem pay_a (i) : k0_pay9 (F := Ideal) v0 v1 v27 i = ab (u H g sh sc) W (i 0).val (i 1).val := by
  pointwise [k0_pay9, pay_u h0 h1, h27]
  rfl

include h0 h1 h30 in
theorem pay_b (i) : k0_pay10 (F := Ideal) v0 v1 v30 i = ab (u H g sh sc) W (i 0).val (2816 + (i 1).val) := by
  pointwise [k0_pay10, pay_u h0 h1, h30]
  rfl

include h0 h1 h45 in
theorem pay_a' (i) : k0_pay1 (F := Ideal) (k0_pay7 v0 v1) v45 i = ab (u H g sh sc) W (i 0).val (1536 + (i 1).val) := by
  pointwise [k0_pay1, pay_u h0 h1, h45]
  rfl

include h0 h1 h48 in
theorem pay_b' (i) : k0_pay2 (F := Ideal) (k0_pay7 v0 v1) v48 i = ab (u H g sh sc) W (i 0).val (2816 + (1536 + (i 1).val)) := by
  pointwise [k0_pay2, pay_u h0 h1, h48]
  rfl

include h0 h1 h27 h30 h41 h45 h48 h59 in
theorem pay_out (i) : k0_pay5 (F := Ideal) v0 (k0_pay6 v1) (k0_pay7 v0 v1) (k0_pay8 (F := Ideal)) (k0_pay9 v0 v1 v27) (k0_pay10 v0 v1 v30) v41 v45 v48 v59 i
    = out H (ab (u H g sh sc) W) V ga (i 0).val (i 1).val := by
  have e3 (x : Fin 1024) : v1 (ix2 3 x) = ga x.val := (h1 _).2.2.2 rfl
  pointwise [k0_pay5, k0_pay6, k0_pay8, pay_a h0 h1 h27, pay_b h0 h1 h30, pay_a' h0 h1 h45, pay_b' h0 h1 h48, h0, h41, h59, e3]
  unfold out
  rw [Fin.sum_univ_add (a := 1536) (b := 1280) fun n : Fin 2816 => act (ab (u H g sh sc) W) (i 0).val n * V n (i 1).val]
  simp only [Fin.val_castAdd, Fin.val_natAdd, EReal.coe_zero, zero_add]
  rfl

end block

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- What the host lines before the call leave. -/
theorem V_eq (c : Dev nD) (b : Ref sig .tc) : V m c b = StableHlo.after hostOps0 (fun b => m (c, b)) (Proc.devRef .tc b) := by
  unfold V
  simp only [List.flatten_cons, List.flatten_nil, List.append_nil, StableHlo.after_append]

variable {H W V' : ℕ → ℕ → EReal} {g sh sc ga : ℕ → EReal} {c : Dev nD}
  (hH : ∀ i, m ((c : Thread nD τ).loc main_arg0) i = H (i 0).val (i 1).val)
  (hg : ∀ i, m ((c : Thread nD τ).loc main_arg1) i = g (i 0).val)
  (hsh : ∀ i, m ((c : Thread nD τ).loc main_arg2) i = sh (i 0).val)
  (hsc : ∀ i, m ((c : Thread nD τ).loc main_arg3) i = sc (i 0).val)
  (hga : ∀ i, m ((c : Thread nD τ).loc main_arg4) i = ga (i 0).val)
  (hW : ∀ i, m ((c : Thread nD τ).loc main_arg5) i = W (i 0).val (i 1).val)
  (hV : ∀ i, m ((c : Thread nD τ).loc main_arg6) i = V' (i 0).val (i 1).val)

include hH in
theorem blk_h (t : Fin cfg0.N) (i : S512x1024.Idx) : (iblk m c 0 t : Vec Ideal S512x1024 .f32) i = H (512 * t.val + (i 0).val) (i 1).val := by
  blk_simp [iblk]
  rw [V_main_arg0, hH]
  blk_simp [idx t]
  rw [mul_comm]

include hg hsh hsc hga in
/-- The packed rows: the gain, the shift, the scale and the gate. -/
theorem blk_c (t : Fin cfg0.N) (i : S8x1024.Idx) : ((i 0).val = 0 → (iblk m c 1 t : Vec Ideal S8x1024 .f32) i = g (i 1).val)
    ∧ ((i 0).val = 1 → (iblk m c 1 t : Vec Ideal S8x1024 .f32) i = sh (i 1).val) ∧ ((i 0).val = 2 → (iblk m c 1 t : Vec Ideal S8x1024 .f32) i = sc (i 1).val)
    ∧ ((i 0).val = 3 → (iblk m c 1 t : Vec Ideal S8x1024 .f32) i = ga (i 1).val) := by
  have e : (iblk m c 1 t : Vec Ideal S8x1024 .f32) i = (V m c main_v5 : Vec Ideal S8x1024 .f32) i := by
    blk_simp [iblk]
    exact congrArg (V m c main_v5 : Vec Ideal S8x1024 .f32) (by blk_ext [idx t])
  rw [e, V_eq]
  simp only [StableHlo.after_cons, StableHlo.after_nil]
  after_results_simp
  refine ⟨fun a => ?_, fun a => ?_, fun a => ?_, fun a => ?_⟩
  · refine (Cert.Rows.concat_row _ _ i 0 (by simp) _ rfl 0 rfl a).trans ?_
    simp only [Matrix.cons_val]
    after_results_loop
    pointwise [hg]
  · refine (Cert.Rows.concat_row _ _ i 1 (by simp) _ rfl 1 rfl a).trans ?_
    simp only [Matrix.cons_val]
    after_results_loop
    pointwise [hsh]
  · refine (Cert.Rows.concat_row _ _ i 2 (by simp) _ rfl 2 rfl a).trans ?_
    simp only [Matrix.cons_val]
    after_results_loop
    pointwise [hsc]
  · refine (Cert.Rows.concat_row _ _ i 3 (by simp) _ rfl 3 rfl a).trans ?_
    simp only [Matrix.cons_val]
    after_results_loop
    pointwise [hga]

include hW in
theorem blk_w (t : Fin cfg0.N) (i : S1024x5632.Idx) : (iblk m c 2 t : Vec Ideal S1024x5632 .bf16) i = W (i 0).val (i 1).val := by
  blk_simp [iblk]
  rw [V_eq]
  simp only [StableHlo.after_cons, StableHlo.after_nil]
  after_results_simp
  after_results_loop
  pointwise [hW]
  blk_simp [idx t]

include hV in
theorem blk_v (t : Fin cfg0.N) (i : S2816x1024.Idx) : (iblk m c 3 t : Vec Ideal S2816x1024 .bf16) i = V' (i 0).val (i 1).val := by
  blk_simp [iblk]
  rw [V_eq]
  simp only [StableHlo.after_cons, StableHlo.after_nil]
  after_results_simp
  after_results_loop
  pointwise [hV]
  blk_simp [idx t]

include hW in
theorem ld_w (t : Fin cfg0.N) (k n : ℕ) (inb) (i : (⟨2, ![1024, n]⟩ : Shape).Idx) :
    View.ld (iblk m c 2 t : Vec Ideal S1024x5632 .bf16) (Rect.unit (s := S1024x5632) ![0, k] ![1024, n] inb) i = W (i 0).val (k + (i 1).val) := by
  simpa only [Nat.zero_add] using ld_frag (blk_w m hW t) 0 k 1024 n inb i

include hV in
theorem ld_v (t : Fin cfg0.N) (k n : ℕ) (inb) (i : (⟨2, ![n, 1024]⟩ : Shape).Idx) :
    View.ld (iblk m c 3 t : Vec Ideal S2816x1024 .bf16) (Rect.unit (s := S2816x1024) ![k, 0] ![n, 1024] inb) i = V' (k + (i 0).val) (i 1).val := by
  simpa only [Nat.zero_add] using ld_frag (blk_v m hV t) k 0 n 1024 inb i

include hH hg hsh hsc hga

theorem out_u (t : Fin cfg0.N) (j) : (outsAt0 m c t).2.1 j = u H g sh sc (512 * t.val + (j 0).val) (j 1).val := by
  unfold outsAt0; frame_out
  exact pay_u (H := fun p j => H (512 * t.val + p) j) (blk_h m hH t) (blk_c m hg hsh hsc hga t) j

include hW

theorem out_a (t : Fin cfg0.N) (j) : (outsAt0 m c t).2.2.1 j = ab (u H g sh sc) W (512 * t.val + (j 0).val) (j 1).val := by
  unfold outsAt0; frame_out
  have h0 := blk_h m hH t
  have h1 := blk_c m hg hsh hsc hga t
  refine two_runs (F := fun p n => ab (u H g sh sc) W (512 * t.val + p) n) (fun i => ?_) (fun i => ?_) _ _ j
  · pointwise [k0_pay3]
    exact pay_a' (H := fun p j => H (512 * t.val + p) j) h0 h1 (ld_w m hW t 1536 1280 _) i
  · pointwise [k0_pay11]
    exact pay_a (H := fun p j => H (512 * t.val + p) j) h0 h1 (fun i => (ld_w m hW t 0 1536 _ i).trans (by rw [Nat.zero_add])) i

theorem out_b (t : Fin cfg0.N) (j) : (outsAt0 m c t).2.2.2 j = ab (u H g sh sc) W (512 * t.val + (j 0).val) (2816 + (j 1).val) := by
  unfold outsAt0; frame_out
  have h0 := blk_h m hH t
  have h1 := blk_c m hg hsh hsc hga t
  refine two_runs (F := fun p n => ab (u H g sh sc) W (512 * t.val + p) (2816 + n)) (fun i => ?_) (fun i => ?_) _ _ j
  · pointwise [k0_pay4]
    exact pay_b' (H := fun p j => H (512 * t.val + p) j) h0 h1 (fun i => (ld_w m hW t 4352 1280 _ i).trans (by rw [← Nat.add_assoc])) i
  · pointwise [k0_pay12]
    exact pay_b (H := fun p j => H (512 * t.val + p) j) h0 h1 (ld_w m hW t 2816 1536 _) i

include hV

theorem out_h (t : Fin cfg0.N) (j) : (outsAt0 m c t).1 j = out H (ab (u H g sh sc) W) V' ga (512 * t.val + (j 0).val) (j 1).val := by
  unfold outsAt0; frame_out
  exact pay_out (H := fun p j => H (512 * t.val + p) j) (blk_h m hH t) (blk_c m hg hsh hsc hga t)
    (fun i => (ld_w m hW t 0 1536 _ i).trans (by rw [Nat.zero_add])) (ld_w m hW t 2816 1536 _)
    (fun i => (ld_v m hV t 0 1536 _ i).trans (by rw [Nat.zero_add])) (ld_v m hV t 1536 1280 _)
    (ld_w m hW t 1536 1280 _) (fun i => (ld_w m hW t 4352 1280 _ i).trans (by rw [← Nat.add_assoc])) j

/-- The kernel's stream behind the block. -/
theorem arr_h (i) : (dats m 0 c).arrAt 4 cfg0.N i = out H (ab (u H g sh sc) W) V' ga (i 0).val (i 1).val := by
  refine congrFun ((dats m 0 c).arrAt_eq_of_covers 4 (fun i => out H (ab (u H g sh sc) W) V' ga (i 0).val (i 1).val) (by decide +kernel) fun t _ y => ?_) i
  rw [after0_4, out_h m hH hg hsh hsc hga hW hV t]
  blk_simp [idx t]
  rw [mul_comm]

omit hV

/-- The kernel's gate's argument. -/
theorem arr_a (i) : (dats m 0 c).arrAt 6 cfg0.N i = ab (u H g sh sc) W (i 0).val (i 1).val := by
  refine congrFun ((dats m 0 c).arrAt_eq_of_covers 6 (fun i => ab (u H g sh sc) W (i 0).val (i 1).val) (by decide +kernel) fun t _ y => ?_) i
  rw [after0_6, out_a m hH hg hsh hsc hga hW t]
  blk_simp [idx t]
  rw [mul_comm]

/-- The kernel's gated value. -/
theorem arr_b (i) : (dats m 0 c).arrAt 7 cfg0.N i = ab (u H g sh sc) W (i 0).val (2816 + (i 1).val) := by
  refine congrFun ((dats m 0 c).arrAt_eq_of_covers 7 (fun i => ab (u H g sh sc) W (i 0).val (2816 + (i 1).val)) (by decide +kernel) fun t _ y => ?_) i
  rw [after0_7, out_b m hH hg hsh hsc hga hW t]
  blk_simp [idx t]
  rw [mul_comm]

omit hW

/-- The kernel's modulated norm. -/
theorem arr_u (i) : (dats m 0 c).arrAt 5 cfg0.N i = u H g sh sc (i 0).val (i 1).val := by
  refine congrFun ((dats m 0 c).arrAt_eq_of_covers 5 (fun i => u H g sh sc (i 0).val (i 1).val) (by decide +kernel) fun t _ y => ?_) i
  rw [after0_5, out_u m hH hg hsh hsc hga t]
  blk_simp [idx t]
  rw [mul_comm]

end run

/-- The reference runs and leaves its arguments as they were. -/
theorem frame_ref : quiescent_FfnFwdRefIdeal := fun m ρ _ =>
  (θ_run FfnFwdRefIdeal.defs _ _).mono (fun r h => ⟨fun c => (h c).2.2.2.2, sem_eq_zero_of_no_sems (by decide) r.2⟩) (FfnFwdRefIdeal.Value.run m ρ)

/-- Both programs leave the same stream and the same saved values. -/
theorem algebraic : algebraic_FfnFwdIdeal_FfnFwdRefIdeal := by
  intro m ρ m' ρ' _ harg
  refine ⟨fun c => (FfnFwdIdeal.Gen.dats m 0 c).arrAt 4 _, fun c => (FfnFwdIdeal.Gen.dats m 0 c).arrAt 5 _, fun c => (FfnFwdIdeal.Gen.dats m 0 c).arrAt 6 _,
    fun c => (FfnFwdIdeal.Gen.dats m 0 c).arrAt 7 _, FfnFwdIdeal.Value.run_blocks m ρ, ?_⟩
  refine (θ_run FfnFwdRefIdeal.defs _ _).mono (fun r h c => ?_) (FfnFwdRefIdeal.Value.run m' ρ')
  obtain ⟨H, hH⟩ := lift2E (m ((c : Thread FfnFwdIdeal.nD FfnFwdIdeal.τ).loc FfnFwdIdeal.main_arg0))
  obtain ⟨g, hg⟩ := lift1E (m ((c : Thread FfnFwdIdeal.nD FfnFwdIdeal.τ).loc FfnFwdIdeal.main_arg1))
  obtain ⟨sh, hsh⟩ := lift1E (m ((c : Thread FfnFwdIdeal.nD FfnFwdIdeal.τ).loc FfnFwdIdeal.main_arg2))
  obtain ⟨sc, hsc⟩ := lift1E (m ((c : Thread FfnFwdIdeal.nD FfnFwdIdeal.τ).loc FfnFwdIdeal.main_arg3))
  obtain ⟨ga, hga⟩ := lift1E (m ((c : Thread FfnFwdIdeal.nD FfnFwdIdeal.τ).loc FfnFwdIdeal.main_arg4))
  obtain ⟨W, hW⟩ := lift2E (m ((c : Thread FfnFwdIdeal.nD FfnFwdIdeal.τ).loc FfnFwdIdeal.main_arg5))
  obtain ⟨V, hV⟩ := lift2E (m ((c : Thread FfnFwdIdeal.nD FfnFwdIdeal.τ).loc FfnFwdIdeal.main_arg6))
  obtain ⟨a0, a1, a2, a3, a4, a5, a6⟩ := harg c
  obtain ⟨r0, r1, r2, r3, k⟩ := h c
  refine ⟨r0.trans ?_, r1.trans ?_, r2.trans ?_, r3.trans ?_, k⟩
  · rw [FfnFwdRefIdeal.Read.val_main_v32_eq]
    simp only [StableHlo.launchContents_devRef, a0, a1, a2, a3, a4, a5, a6]
    exact funext fun i => (ref_out hH hg hsh hsc hga hW hV i).trans (arr_h m hH hg hsh hsc hga hW hV i).symm
  · rw [FfnFwdRefIdeal.Read.val_main_v33_eq]
    simp only [StableHlo.launchContents_devRef, a0, a1, a2, a3]
    exact funext fun i => (ref_u hH hg hsh hsc i).trans (arr_u m hH hg hsh hsc hga i).symm
  · rw [FfnFwdRefIdeal.Read.val_main_v34_eq]
    simp only [StableHlo.launchContents_devRef, a0, a1, a2, a3, a5]
    exact funext fun i => (ref_a hH hg hsh hsc hW i).trans (arr_a m hH hg hsh hsc hga hW i).symm
  · rw [FfnFwdRefIdeal.Read.val_main_v35_eq]
    simp only [StableHlo.launchContents_devRef, a0, a1, a2, a3, a5]
    exact funext fun i => (ref_b hH hg hsh hsc hW i).trans (arr_b m hH hg hsh hsc hga hW i).symm

end Cert.FeedForward

end
-- ==== Proof.ConvInFwdEq.lean ====
/- The convolution block's first forward kernel leaves what the reference leaves, on any arguments. -/
module

public import proofs.«01_k».proof.Defs
public import proofs.«01_k».proof.Proof.Whole
public import proofs.«01_k».proof.Proof.Rows
public import proofs.«01_k».proof.Proof.Gen.ConvInFwdIdeal.Value
public import proofs.«01_k».proof.Proof.Gen.ConvInFwdRefIdeal.Run
public import proofs.«01_k».proof.Proof.Gen.ConvInFwdRefIdeal.Read

@[expose] public section

set_option maxRecDepth 16384

noncomputable section

open Idealize.ShloMosaic Idealize.ShloMosaic.TcCoe Idealize.ShloMosaic.Pipeline Idealize.SL.Sem
open Cert.Lift Cert.Whole

namespace Cert.ConvHead

/-- The convolution block's values before the gate. -/
def pre (U W : ℕ → ℕ → EReal) (b : ℕ → EReal) (i n : ℕ) : EReal := ab U W i n + b n

section reference
open Cert.ConvInFwdRefIdeal Cert.ConvInFwdRefIdeal.Read
variable {x0 : (⟨S8192x1024, .f32⟩ : BufTy).Contents (Elt Ideal)} {x1 x2 x3 : (⟨S1024, .f32⟩ : BufTy).Contents (Elt Ideal)}
  {x5 : (⟨S1024x2048, .f32⟩ : BufTy).Contents (Elt Ideal)} {x6 : (⟨S2048, .f32⟩ : BufTy).Contents (Elt Ideal)}
  {H W : ℕ → ℕ → EReal} {g sh sc b : ℕ → EReal}
  (h0 : ∀ i, x0 i = H (i 0).val (i 1).val) (h1 : ∀ i, x1 i = g (i 0).val) (h2 : ∀ i, x2 i = sh (i 0).val) (h3 : ∀ i, x3 i = sc (i 0).val)
  (h5 : ∀ i, x5 i = W (i 0).val (i 1).val) (h6 : ∀ i, x6 i = b (i 0).val)

attribute [local pointwise] val_main_v0_apply val_main_cst_apply val_main_v2_apply val_main_cst_0_apply val_main_v3_apply val_main_v4_apply
  val_main_cst_1_apply val_main_v5_apply val_main_v6_apply val_main_v7_apply val_main_v8_apply val_main_v9_apply val_main_v10_apply val_main_v11_apply
  val_main_v12_apply val_main_v13_apply val_main_cst_2_apply val_main_v14_apply val_main_v15_apply val_main_v16_apply val_main_v17_apply
  val_main_v18_apply val_main_v19_apply val_main_v23_apply val_main_v24_apply

include h0 h1 h2 h3 in
theorem ref_norm (i) : val_main_v20 (F := Ideal) x0 x1 x2 x3 i = u H g sh sc (i 0).val (i 1).val := by
  pointwise [val_main_v20_apply, val_main_v1_apply, h0, h1, h2, h3]
  rfl

include h0 h1 h2 h3 in
/-- The reference's modulated norm. -/
theorem ref_u (i) : val_main_v21 (F := Ideal) x0 x1 x2 x3 i = u H g sh sc (i 0).val (i 1).val := by
  pointwise [val_main_v21_apply, ref_norm h0 h1 h2 h3]

include h0 h1 h2 h3 h5 h6 in
/-- The reference's values before the gate. -/
theorem ref_pre (i) : val_main_v25 (F := Ideal) x0 x1 x2 x3 x5 x6 i = pre (u H g sh sc) W b (i 0).val (i 1).val := by
  pointwise [val_main_v25_apply, val_main_v22_apply, ref_norm h0 h1 h2 h3, h5, h6]
  rfl

end reference

section run
open Cert.ConvInFwdIdeal Cert.ConvInFwdIdeal.Gen

section block

variable {v0 : Vec Ideal S512x1024 .f32} {v1 : Vec Ideal S8x1024 .f32} {v26 : Vec Ideal S1024x2048 .bf16} {v29 : Vec Ideal S1x2048 .f32}
  {H W : ℕ → ℕ → EReal} {g sh sc b : ℕ → EReal}
  (h0 : ∀ i, v0 i = H (i 0).val (i 1).val)
  (h1 : ∀ i : S8x1024.Idx, ((i 0).val = 0 → v1 i = g (i 1).val) ∧ ((i 0).val = 1 → v1 i = sh (i 1).val) ∧ ((i 0).val = 2 → v1 i = sc (i 1).val))
  (h26 : ∀ i, v26 i = W (i 0).val (i 1).val) (h29 : ∀ i, v29 i = b (i 1).val)

include h0 h1 in
theorem pay_u (i) : k0_pay1 (F := Ideal) v0 v1 i = u H g sh sc (i 0).val (i 1).val := by
  have e0 (x : Fin 1024) : v1 (ix2 0 x) = g x.val := (h1 _).1 rfl
  have e1 (x : Fin 1024) : v1 (ix2 1 x) = sh x.val := (h1 _).2.1 rfl
  have e2 (x : Fin 1024) : v1 (ix2 2 x) = sc x.val := (h1 _).2.2 rfl
  pointwise [k0_pay1, h0, e0, e1, e2]
  rfl

include h0 h1 h26 h29 in
theorem pay_pre (i) : k0_pay2 (F := Ideal) v0 v1 v26 v29 i = pre (u H g sh sc) W b (i 0).val (i 1).val := by
  pointwise [k0_pay2, pay_u h0 h1, h26, h29]
  rfl

end block

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- What the host lines before the call leave. -/
theorem V_eq (c : Dev nD) (b : Ref sig .tc) : V m c b = StableHlo.after hostOps0 (fun b => m (c, b)) (Proc.devRef .tc b) := by
  unfold V
  simp only [List.flatten_cons, List.flatten_nil, List.append_nil, StableHlo.after_append]

variable {H W : ℕ → ℕ → EReal} {g sh sc b : ℕ → EReal} {c : Dev nD}
  (hH : ∀ i, m ((c : Thread nD τ).loc main_arg0) i = H (i 0).val (i 1).val)
  (hg : ∀ i, m ((c : Thread nD τ).loc main_arg1) i = g (i 0).val)
  (hsh : ∀ i, m ((c : Thread nD τ).loc main_arg2) i = sh (i 0).val)
  (hsc : ∀ i, m ((c : Thread nD τ).loc main_arg3) i = sc (i 0).val)
  (hW : ∀ i, m ((c : Thread nD τ).loc main_arg5) i = W (i 0).val (i 1).val)
  (hb : ∀ i, m ((c : Thread nD τ).loc main_arg6) i = b (i 0).val)

include hH in
theorem blk_h (t : Fin cfg0.N) (i : S512x1024.Idx) : (iblk m c 0 t : Vec Ideal S512x1024 .f32) i = H (512 * t.val + (i 0).val) (i 1).val := by
  blk_simp [iblk]
  rw [V_main_arg0, hH]
  blk_simp [idx t]
  rw [mul_comm]

include hg hsh hsc in
/-- The packed rows: the gain, the shift, the scale. -/
theorem blk_c (t : Fin cfg0.N) (i : S8x1024.Idx) : ((i 0).val = 0 → (iblk m c 1 t : Vec Ideal S8x1024 .f32) i = g (i 1).val)
    ∧ ((i 0).val = 1 → (iblk m c 1 t : Vec Ideal S8x1024 .f32) i = sh (i 1).val) ∧ ((i 0).val = 2 → (iblk m c 1 t : Vec Ideal S8x1024 .f32) i = sc (i 1).val) := by
  have e : (iblk m c 1 t : Vec Ideal S8x1024 .f32) i = (V m c main_v5 : Vec Ideal S8x1024 .f32) i := by
    blk_simp [iblk]
    exact congrArg (V m c main_v5 : Vec Ideal S8x1024 .f32) (by blk_ext [idx t])
  rw [e, V_eq]
  simp only [StableHlo.after_cons, StableHlo.after_nil]
  after_results_simp
  refine ⟨fun a => ?_, fun a => ?_, fun a => ?_⟩
  · refine (Cert.Rows.concat_row _ _ i 0 (by simp) _ rfl 0 rfl a).trans ?_
    simp only [Matrix.cons_val]
    after_results_loop
    pointwise [hg]
  · refine (Cert.Rows.concat_row _ _ i 1 (by simp) _ rfl 1 rfl a).trans ?_
    simp only [Matrix.cons_val]
    after_results_loop
    pointwise [hsh]
  · refine (Cert.Rows.concat_row _ _ i 2 (by simp) _ rfl 2 rfl a).trans ?_
    simp only [Matrix.cons_val]
    after_results_loop
    pointwise [hsc]

include hW in
theorem blk_w (t : Fin cfg0.N) (i : S1024x2048.Idx) : (iblk m c 2 t : Vec Ideal S1024x2048 .bf16) i = W (i 0).val (i 1).val := by
  blk_simp [iblk]
  rw [V_eq]
  simp only [StableHlo.after_cons, StableHlo.after_nil]
  after_results_simp
  after_results_loop
  pointwise [hW]
  blk_simp [idx t]

include hb in
/-- The first of the packed bias rows. -/
theorem blk_b (t : Fin cfg0.N) (i : S8x2048.Idx) (a : (i 0).val = 0) : (iblk m c 3 t : Vec Ideal S8x2048 .f32) i = b (i 1).val := by
  have e : (iblk m c 3 t : Vec Ideal S8x2048 .f32) i = (V m c main_v9 : Vec Ideal S8x2048 .f32) i := by
    blk_simp [iblk]
    exact congrArg (V m c main_v9 : Vec Ideal S8x2048 .f32) (by blk_ext [idx t])
  rw [e, V_eq]
  simp only [StableHlo.after_cons, StableHlo.after_nil]
  after_results_simp
  refine (Cert.Rows.concat_row _ _ i 0 (by simp) _ rfl 0 rfl a).trans ?_
  after_results_loop
  pointwise [hb]

include hb in
theorem ld_b (t : Fin cfg0.N) (inb) (i : S1x2048.Idx) :
    View.ld (iblk m c 3 t : Vec Ideal S8x2048 .f32) (Rect.unit (s := S8x2048) ![0, 0] S1x2048.size inb) i = b (i 1).val := by
  have a : (i 0).val < 1 := (i 0).isLt
  refine (blk_b m hb t _ ((Rect.idx_unit_val _ _ _ _ _).trans ?_)).trans (congrArg b ((Rect.idx_unit_val _ _ _ _ _).trans ?_))
  · simpa using a
  · simp

include hH hg hsh hsc

theorem out_u (t : Fin cfg0.N) (j) : out0_4 (F := Ideal) (iblk m c 0 t) (iblk m c 1 t) (iblk m c 2 t) (iblk m c 3 t) j = u H g sh sc (512 * t.val + (j 0).val) (j 1).val := by
  frame_out
  exact pay_u (H := fun p j => H (512 * t.val + p) j) (blk_h m hH t) (blk_c m hg hsh hsc t) j

/-- The kernel's modulated norm. -/
theorem arr_u (i) : (dats m 0 c).arrAt 4 cfg0.N i = u H g sh sc (i 0).val (i 1).val := by
  refine congrFun ((dats m 0 c).arrAt_eq_of_covers 4 (fun i => u H g sh sc (i 0).val (i 1).val) (by decide +kernel) fun t _ y => ?_) i
  rw [after0_4, out_u m hH hg hsh hsc t]
  blk_simp [idx t]
  rw [mul_comm]

include hW hb

theorem out_pre (t : Fin cfg0.N) (j) : out0_5 (F := Ideal) (iblk m c 0 t) (iblk m c 1 t) (iblk m c 2 t) (iblk m c 3 t) j = pre (u H g sh sc) W b (512 * t.val + (j 0).val) (j 1).val := by
  frame_out
  exact pay_pre (H := fun p j => H (512 * t.val + p) j) (blk_h m hH t) (blk_c m hg hsh hsc t) (blk_w m hW t) (ld_b m hb t _) j

/-- The kernel's values before the gate. -/
theorem arr_pre (i) : (dats m 0 c).arrAt 5 cfg0.N i = pre (u H g sh sc) W b (i 0).val (i 1).val := by
  refine congrFun ((dats m 0 c).arrAt_eq_of_covers 5 (fun i => pre (u H g sh sc) W b (i 0).val (i 1).val) (by decide +kernel) fun t _ y => ?_) i
  rw [after0_5, out_pre m hH hg hsh hsc hW hb t]
  blk_simp [idx t]
  rw [mul_comm]

end run

/-- The reference runs and leaves its arguments as they were. -/
theorem frame_ref : quiescent_ConvInFwdRefIdeal := fun m ρ _ =>
  (θ_run ConvInFwdRefIdeal.defs _ _).mono (fun r h => ⟨fun c => (h c).2.2, sem_eq_zero_of_no_sems (by decide) r.2⟩) (ConvInFwdRefIdeal.Value.run m ρ)

/-- Both programs leave the same norm and the same values before the gate. -/
theorem algebraic : algebraic_ConvInFwdIdeal_ConvInFwdRefIdeal := by
  intro m ρ m' ρ' _ harg
  refine ⟨fun c => (ConvInFwdIdeal.Gen.dats m 0 c).arrAt 4 _, fun c => (ConvInFwdIdeal.Gen.dats m 0 c).arrAt 5 _, ConvInFwdIdeal.Value.run_blocks m ρ, ?_⟩
  refine (θ_run ConvInFwdRefIdeal.defs _ _).mono (fun r h c => ?_) (ConvInFwdRefIdeal.Value.run m' ρ')
  obtain ⟨H, hH⟩ := lift2E (m ((c : Thread ConvInFwdIdeal.nD ConvInFwdIdeal.τ).loc ConvInFwdIdeal.main_arg0))
  obtain ⟨g, hg⟩ := lift1E (m ((c : Thread ConvInFwdIdeal.nD ConvInFwdIdeal.τ).loc ConvInFwdIdeal.main_arg1))
  obtain ⟨sh, hsh⟩ := lift1E (m ((c : Thread ConvInFwdIdeal.nD ConvInFwdIdeal.τ).loc ConvInFwdIdeal.main_arg2))
  obtain ⟨sc, hsc⟩ := lift1E (m ((c : Thread ConvInFwdIdeal.nD ConvInFwdIdeal.τ).loc ConvInFwdIdeal.main_arg3))
  obtain ⟨W, hW⟩ := lift2E (m ((c : Thread ConvInFwdIdeal.nD ConvInFwdIdeal.τ).loc ConvInFwdIdeal.main_arg5))
  obtain ⟨b, hb⟩ := lift1E (m ((c : Thread ConvInFwdIdeal.nD ConvInFwdIdeal.τ).loc ConvInFwdIdeal.main_arg6))
  obtain ⟨a0, a1, a2, a3, -, a5, a6⟩ := harg c
  obtain ⟨r0, r1, k⟩ := h c
  refine ⟨r0.trans ?_, r1.trans ?_, k⟩
  · rw [ConvInFwdRefIdeal.Read.val_main_v21_eq]
    simp only [StableHlo.launchContents_devRef, a0, a1, a2, a3]
    exact funext fun i => (ref_u hH hg hsh hsc i).trans (arr_u m hH hg hsh hsc i).symm
  · rw [ConvInFwdRefIdeal.Read.val_main_v25_eq]
    simp only [StableHlo.launchContents_devRef, a0, a1, a2, a3, a5, a6]
    exact funext fun i => (ref_pre hH hg hsh hsc hW hb i).trans (arr_pre m hH hg hsh hsc hW hb i).symm

end Cert.ConvHead

end
-- ==== Proof.QFwdRef.lean ====
/- The queries' forward step: its formulas over the extended reals, and what the reference computes. -/
module

public import proofs.«01_k».proof.Defs
public import proofs.«01_k».proof.Proof.Whole
public import proofs.«01_k».proof.Proof.Gen.QFwdRefIdeal.Run
public import proofs.«01_k».proof.Proof.Gen.QFwdRefIdeal.Read

@[expose] public section

set_option maxRecDepth 16384

noncomputable section

open Idealize.ShloMosaic Idealize.ShloMosaic.TcCoe Idealize.ShloMosaic.Pipeline Idealize.SL.Sem
open Cert.Lift Cert.Whole

namespace Cert.QueryForward

@[pointwise] theorem f32_512 : Ideal.ofBits .f32 0x44000000#32 = ((512 : ℝ) : EReal) := by
  simp [Ideal.ofBits, Ideal.ieee, -EReal.coe_mul]; norm_num

/-- The norm of the low-rank queries. -/
def norm (A : ℕ → ℕ → EReal) (gq : ℕ → EReal) (i j : ℕ) : EReal :=
  A i j * Ideal.rsqrt (Ideal.div (∑ k : Fin 512, A i k * A i k) ((512 : ℝ) : EReal) + (eps : EReal)) * gq j

/-- The second product. -/
def nb (N B : ℕ → ℕ → EReal) (i n : ℕ) : EReal := ∑ k : Fin 512, N i k * B k n

/-- A head's column. -/
def head (N B : ℕ → ℕ → EReal) (i a l : ℕ) : EReal := nb N B i (96 * a + l)

/-- The rotation of the columns 64 to 95 of a head; the columns before them stay, those after them are zero. -/
def rot (x cs sn : ℕ → EReal) (l : ℕ) : EReal :=
  if l < 64 then x l else if l < 80 then x l * cs (l - 64) - x (l + 16) * sn (l - 64)
  else if l < 96 then x l * cs (l - 80) + x (l - 16) * sn (l - 80) else 0

/-- The factor of the scores. -/
def factor : EReal := Ideal.ofBits .f32 0x3E16C740#32

/-- The turned and scaled queries, 128 columns for each head. -/
def turned (N B C S : ℕ → ℕ → EReal) (i j : ℕ) : EReal := rot (head N B i (j / 128)) (C i) (S i) (j % 128) * factor

section reference
open Cert.QFwdRefIdeal Cert.QFwdRefIdeal.Read
variable {x0 : (⟨S8192x1024, .f32⟩ : BufTy).Contents (Elt Ideal)} {x1 x2 x3 : (⟨S1024, .f32⟩ : BufTy).Contents (Elt Ideal)}
  {x5 : (⟨S1024x512, .f32⟩ : BufTy).Contents (Elt Ideal)} {x6 : (⟨S512, .f32⟩ : BufTy).Contents (Elt Ideal)}
  {x7 : (⟨S512x1536, .f32⟩ : BufTy).Contents (Elt Ideal)} {x8 x9 : (⟨S8192x16, .f32⟩ : BufTy).Contents (Elt Ideal)}
  {H W B C N : ℕ → ℕ → EReal} {g sh sc gq : ℕ → EReal}
  (h0 : ∀ i, x0 i = H (i 0).val (i 1).val) (h1 : ∀ i, x1 i = g (i 0).val) (h2 : ∀ i, x2 i = sh (i 0).val) (h3 : ∀ i, x3 i = sc (i 0).val)
  (h5 : ∀ i, x5 i = W (i 0).val (i 1).val) (h6 : ∀ i, x6 i = gq (i 0).val) (h7 : ∀ i, x7 i = B (i 0).val (i 1).val)
  (h8 : ∀ i, x8 i = C (i 0).val (i 1).val) (h9 : ∀ i, x9 i = N (i 0).val (i 1).val)

attribute [local pointwise] val_main_v0_apply val_main_cst_apply val_main_v2_apply val_main_cst_0_apply val_main_v3_apply val_main_v4_apply
  val_main_cst_1_apply val_main_v5_apply val_main_v6_apply val_main_v7_apply val_main_v8_apply val_main_v9_apply val_main_v10_apply val_main_v11_apply
  val_main_v12_apply val_main_v13_apply val_main_cst_2_apply val_main_v14_apply val_main_v15_apply val_main_v16_apply val_main_v17_apply
  val_main_v18_apply val_main_v19_apply val_main_v22_apply val_main_cst_3_apply val_main_v24_apply val_main_cst_4_apply val_main_v25_apply
  val_main_v26_apply val_main_cst_5_apply val_main_v27_apply val_main_v28_apply val_main_v29_apply val_main_v30_apply val_main_v31_apply
  val_main_v32_apply val_main_v33_apply val_main_v37_apply val_main_v38_apply val_main_v39_apply val_main_v40_apply
  val_main_v41_apply val_main_v42_apply val_main_v43_apply val_main_v44_apply val_main_v45_apply val_main_v46_apply val_main_v47_apply
  val_main_v48_apply val_main_v49_apply val_main_v50_apply val_main_v51_apply val_main_v52_apply val_main_cst_6_apply val_main_v55_apply val_main_v56_apply
  val_main_v60_apply val_main_call0_v0_apply

include h0 h1 h2 h3 in
theorem ref_norm (i) : val_main_v20 (F := Ideal) x0 x1 x2 x3 i = u H g sh sc (i 0).val (i 1).val := by
  pointwise [val_main_v20_apply, val_main_v1_apply, h0, h1, h2, h3]
  rfl

include h0 h1 h2 h3 in
/-- The reference's modulated norm. -/
theorem ref_u (i) : val_main_v57 (F := Ideal) x0 x1 x2 x3 i = u H g sh sc (i 0).val (i 1).val := by
  pointwise [val_main_v57_apply, ref_norm h0 h1 h2 h3]

include h0 h1 h2 h3 h5 in
/-- The reference's low-rank queries. -/
theorem ref_low (i) : val_main_v21 (F := Ideal) x0 x1 x2 x3 x5 i = ab (u H g sh sc) W (i 0).val (i 1).val := by
  pointwise [val_main_v21_apply, ref_norm h0 h1 h2 h3, h5]
  rfl

include h0 h1 h2 h3 h5 h6 in
theorem ref_second (i) : val_main_v34 (F := Ideal) x0 x1 x2 x3 x5 x6 i = norm (ab (u H g sh sc) W) gq (i 0).val (i 1).val := by
  pointwise [val_main_v34_apply, val_main_v23_apply, ref_low h0 h1 h2 h3 h5, h6]
  rfl

include h0 h1 h2 h3 h5 h6 in
/-- The reference's norm of the low-rank queries. -/
theorem ref_n (i) : val_main_v58 (F := Ideal) x0 x1 x2 x3 x5 x6 i = norm (ab (u H g sh sc) W) gq (i 0).val (i 1).val := by
  pointwise [val_main_v58_apply, ref_second h0 h1 h2 h3 h5 h6]

include h0 h1 h2 h3 h5 h6 h7 in
theorem ref_q (i) : val_main_v35 (F := Ideal) x0 x1 x2 x3 x5 x6 x7 i = nb (norm (ab (u H g sh sc) W) gq) B (i 0).val (i 1).val := by
  pointwise [val_main_v35_apply, ref_second h0 h1 h2 h3 h5 h6, h7]
  rfl

include h0 h1 h2 h3 h5 h6 h7 in
theorem ref_head (i) : val_main_v36 (F := Ideal) x0 x1 x2 x3 x5 x6 x7 i = head (norm (ab (u H g sh sc) W) gq) B (i 0).val (i 1).val (i 2).val := by
  have b : (i 1).val < 16 := (i 1).isLt
  have c : (i 2).val < 96 := (i 2).isLt
  pointwise [val_main_v36_apply, ref_q h0 h1 h2 h3 h5 h6 h7]
  unfold head
  refine congrArg₂ _ ?_ ?_ <;> omega

include h0 h1 h2 h3 h5 h6 h7 h8 h9 in
theorem ref_rot (i) : val_main_v54 (F := Ideal) x0 x1 x2 x3 x5 x6 x7 x8 x9 i
    = rot (head (norm (ab (u H g sh sc) W) gq) B (i 0).val (i 1).val) (C (i 0).val) (N (i 0).val) (i 2).val := by
  have c : (i 2).val < 96 := (i 2).isLt
  pointwise [val_main_v54, val_main_v53, ref_head h0 h1 h2 h3 h5 h6 h7, h8, h9]
  generalize (i 2).val = l at c ⊢
  unfold rot
  rcases lt_or_ge l 64 with h | h
  · rw [dif_pos h, if_pos h]
  rw [dif_neg (by omega), if_neg (by omega)]
  rcases lt_or_ge l 80 with h' | h'
  · rw [dif_pos (by omega), if_pos h', show 64 + (l - 64) = l by omega, show 64 + (16 + (l - 64)) = l + 16 by omega]
  · rw [dif_neg (by omega), if_neg (by omega), if_pos c, show 64 + (16 + (l - 64 - 16)) = l by omega, show 64 + (l - 64 - 16) = l - 16 by omega,
      show l - 64 - 16 = l - 80 by omega]

include h0 h1 h2 h3 h5 h6 h7 h8 h9 in
/-- The reference's turned and scaled queries. -/
theorem ref_turned (i) : val_main_v61 (F := Ideal) x0 x1 x2 x3 x5 x6 x7 x8 x9 i
    = turned (norm (ab (u H g sh sc) W) gq) B C N (i 0).val (i 1).val := by
  pointwise [val_main_v61_apply, val_main_v59, ref_rot h0 h1 h2 h3 h5 h6 h7 h8 h9]
  have a : (i 0).val < 8192 := (i 0).isLt
  have b : (i 1).val < 2048 := (i 1).isLt
  rw [show ((i 0).val * 2048 + (i 1).val) / 2048 = (i 0).val by omega, show ((i 0).val * 2048 + (i 1).val) / 128 % 16 = (i 1).val / 128 by omega,
    show ((i 0).val * 2048 + (i 1).val) % 128 = (i 1).val % 128 by omega]
  unfold turned
  by_cases h : (i 1).val % 128 < 96
  · rw [dif_pos ⟨a, by omega, h⟩]
    rfl
  · rw [dif_neg (by omega)]
    unfold rot
    rw [if_neg (by omega), if_neg (by omega), if_neg h, zero_mul]
    exact congrArg Real.toEReal Int.cast_zero

end reference

end Cert.QueryForward

end
-- ==== Proof.QFwdKer.lean ====
/- What a block of the queries' forward step computes from its windows' contents. -/
module

public import proofs.«01_k».proof.Proof.QFwdRef
public import proofs.«01_k».proof.Proof.Gen.QFwdIdeal.Value

@[expose] public section

set_option maxRecDepth 16384

noncomputable section

open Idealize.ShloMosaic Idealize.ShloMosaic.TcCoe Idealize.ShloMosaic.Pipeline Idealize.SL.Sem
open Cert.Lift Cert.Whole Cert.QFwdIdeal Cert.QFwdIdeal.Gen

namespace Cert.QueryForward

/-- The rotation's table: the factors of the columns themselves, of those 16 to the left and of those 16 to the right. -/
def tab (cs sn : ℕ → EReal) (j : ℕ) : EReal :=
  if j < 64 then 1 else if j < 80 then cs (j - 64) else if j < 96 then cs (j - 80) else if j < 208 then 0 else if j < 224 then sn (j - 208)
  else if j < 320 then 0 else if j < 336 then -sn (j - 320) else 0

theorem rot_tab (x cs sn : ℕ → EReal) (l a b : ℕ) (hl : l < 128) (ha : a = (l + 112) % 128) (hb : b = (l + 16) % 128) :
    x l * tab cs sn l + x a * tab cs sn (128 + l) + x b * tab cs sn (256 + l) = rot x cs sn l := by
  unfold rot tab
  rcases lt_or_ge l 64 with h | h
  · rw [if_pos h, if_pos h, if_neg (by omega), if_neg (by omega), if_neg (by omega), if_pos (by omega), if_neg (by omega), if_neg (by omega),
      if_neg (by omega), if_neg (by omega), if_neg (by omega), if_pos (by omega)]
    simp
  rw [if_neg (show ¬ l < 64 by omega), if_neg (show ¬ l < 64 by omega), if_neg (show ¬ 128 + l < 64 by omega), if_neg (show ¬ 128 + l < 80 by omega),
    if_neg (show ¬ 128 + l < 96 by omega), if_neg (show ¬ 256 + l < 64 by omega), if_neg (show ¬ 256 + l < 80 by omega), if_neg (show ¬ 256 + l < 96 by omega),
    if_neg (show ¬ 256 + l < 208 by omega), if_neg (show ¬ 256 + l < 224 by omega), if_neg (show ¬ 256 + l < 320 by omega)]
  rcases lt_or_ge l 80 with h' | h'
  · rw [if_pos h', if_pos h', if_pos (by omega), if_pos (by omega), mul_zero, add_zero, mul_neg, sub_eq_add_neg, show b = l + 16 by omega,
      show 256 + l - 320 = l - 64 by omega]
  rw [if_neg (show ¬ l < 80 by omega), if_neg (show ¬ l < 80 by omega), if_neg (show ¬ 128 + l < 208 by omega), if_neg (show ¬ 256 + l < 336 by omega)]
  rcases lt_or_ge l 96 with h | h
  · rw [if_pos h, if_pos h, if_pos (by omega), mul_zero, add_zero, show a = l - 16 by omega, show 128 + l - 208 = l - 80 by omega]
  · rw [if_neg (by omega), if_pos (by omega), if_neg (by omega), if_pos (by omega), if_neg (by omega)]
    simp

/-- The second product's weight with the heads' columns padded to 128. -/
def padded (B : ℕ → ℕ → EReal) (k j : ℕ) : EReal := if j % 128 < 96 then B k (96 * (j / 128) + j % 128) else 0

/-- A head's turned columns depend on its first 96 columns only, which the padding leaves. -/
theorem rot_padded (N B : ℕ → ℕ → EReal) (cs sn : ℕ → EReal) (i k l : ℕ) :
    rot (fun l => nb N (padded B) i (128 * k + l)) cs sn l = rot (head N B i k) cs sn l := by
  have e (l) (h : l < 96) : nb N (padded B) i (128 * k + l) = head N B i k l := by
    unfold head nb padded
    simp only [show (128 * k + l) % 128 = l by omega, show (128 * k + l) / 128 = k by omega, if_pos h]
  unfold rot
  split_ifs <;> first | rfl | simp only [e _ (show l < 96 by omega), e _ (show l + 16 < 96 by omega)] | simp only [e _ (show l < 96 by omega), e _ (show l - 16 < 96 by omega)] | exact e _ (by omega)

section block

variable {v0 : Vec Ideal S512x1024 .f32} {v1 : Vec Ideal S8x1024 .f32} {v26 : Vec Ideal S1024x512 .bf16} {v40 : Vec Ideal S1x512 .f32}
  {v46 : Vec Ideal S512x2048 .bf16} {v49 : Vec Ideal S512x384 .f32} {H W B C N : ℕ → ℕ → EReal} {g sh sc gq : ℕ → EReal}
  (h0 : ∀ i, v0 i = H (i 0).val (i 1).val)
  (h1 : ∀ i : S8x1024.Idx, ((i 0).val = 0 → v1 i = g (i 1).val) ∧ ((i 0).val = 1 → v1 i = sh (i 1).val) ∧ ((i 0).val = 2 → v1 i = sc (i 1).val))
  (h26 : ∀ i, v26 i = W (i 0).val (i 1).val) (h40 : ∀ i, v40 i = gq (i 1).val) (h46 : ∀ i, v46 i = padded B (i 0).val (i 1).val)
  (h49 : ∀ i, v49 i = tab (C (i 0).val) (N (i 0).val) (i 1).val)

include h0 h1 in
theorem pay_u (i) : k0_pay1 (F := Ideal) v0 v1 i = u H g sh sc (i 0).val (i 1).val := by
  have e0 (x : Fin 1024) : v1 (ix2 0 x) = g x.val := (h1 _).1 rfl
  have e1 (x : Fin 1024) : v1 (ix2 1 x) = sh x.val := (h1 _).2.1 rfl
  have e2 (x : Fin 1024) : v1 (ix2 2 x) = sc x.val := (h1 _).2.2 rfl
  pointwise [k0_pay1, h0, e0, e1, e2]
  rfl

include h0 h1 h26 in
theorem pay_low (i) : k0_pay2 (F := Ideal) v0 v1 v26 i = ab (u H g sh sc) W (i 0).val (i 1).val := by
  pointwise [k0_pay2, pay_u h0 h1, h26]
  rfl

include h0 h1 h26 h40 in
theorem pay_n (i) : k0_pay4 (F := Ideal) (k0_pay2 v0 v1 v26) (k0_pay3 v0 v1 v26) v40 i = norm (ab (u H g sh sc) W) gq (i 0).val (i 1).val := by
  pointwise [k0_pay4, k0_pay3, pay_low h0 h1 h26, h40]
  rfl

include h0 h1 h26 h40 h46 in
theorem pay_q (i) : k0_pay5 (F := Ideal) (k0_pay2 v0 v1 v26) (k0_pay3 v0 v1 v26) v40 v46 i
    = nb (norm (ab (u H g sh sc) W) gq) (padded B) (i 0).val (i 1).val := by
  pointwise [k0_pay5, pay_n h0 h1 h26 h40, h46]
  rfl

include h49 in
theorem pay_tab (i) : k0_pay6 (F := Ideal) v49 i = tab (C (i 0).val) (N (i 0).val) (i 1).val := by
  pointwise [k0_pay6, h49]

end block

/-- A head's columns, turned by the table and scaled: the same lines for each of the sixteen heads. -/
def turnCols (o : ℕ) (h : S512x2048.Slices ![0, o] S512x128) (q : FVec Ideal S512x2048 .f32) (t : FVec Ideal S512x384 .f32) : FVec Ideal S512x128 .bf16 :=
  have x : FVec Ideal S512x128 .f32 := extractStridedSlice S512x128 ![0, o] q h
  truncf .bf16 (mulf (addf (addf (mulf x (extractStridedSlice S512x128 ![0, 0] t slices_S512x384_o0_0_S512x128))
    (mulf (dynamicRotate 1 16#32 none x rotates_S512x128_d1) (extractStridedSlice S512x128 ![0, 128] t slices_S512x384_o0_128_S512x128)))
    (mulf (dynamicRotate 1 112#32 none x rotates_S512x128_d1) (extractStridedSlice S512x128 ![0, 256] t slices_S512x384_o0_256_S512x128)))
    (broadcast S512x128 (Scalar.ofBits .f32 0x3E16C740#32))) bitsLt_bf16_f32

section heads

variable {q : FVec Ideal S512x2048 .f32} {t : FVec Ideal S512x384 .f32} {X C N : ℕ → ℕ → EReal}
  (hq : ∀ i, q i = X (i 0).val (i 1).val) (ht : ∀ i, t i = tab (C (i 0).val) (N (i 0).val) (i 1).val)

include hq ht

theorem turn_cols (o : ℕ) (h) (i) : turnCols o h q t i = rot (fun l => X (i 0).val (o + l)) (C (i 0).val) (N (i 0).val) (i 1).val * factor := by
  have a : (i 1).val < 128 := (i 1).isLt
  pointwise [turnCols, hq, ht]
  exact congrArg (· * factor) (rot_tab (fun l => X (i 0).val (o + l)) _ _ _ _ _ a (by omega) (by omega))

/-- A head's turned columns, at the place where they are stored. -/
theorem put_cols (k o : ℕ) (ho : o = 128 * k) (inb) (h) (x : S512x128.Idx) : turnCols o h q t x
    = (fun i : S512x2048.Idx => rot (fun l => X (i 0).val (128 * ((i 1).val / 128) + l)) (C (i 0).val) (N (i 0).val) ((i 1).val % 128) * factor)
      ((Rect.unit (s := S512x2048) ![0, o] ![512, 128] inb).idx x) := by
  have a : (x 1).val < 128 := (x 1).isLt
  have e0 : ((Rect.unit (s := S512x2048) ![0, o] ![512, 128] inb).idx x 0).val = (x 0).val := (Rect.idx_unit_val _ _ _ _ _).trans (Nat.zero_add _)
  have e1 : ((Rect.unit (s := S512x2048) ![0, o] ![512, 128] inb).idx x 1).val = o + (x 1).val := Rect.idx_unit_val _ _ _ _ _
  rw [turn_cols hq ht]
  simp only [e0, e1]
  rw [show (o + (x 1).val) / 128 = k by omega, show (o + (x 1).val) % 128 = (x 1).val by omega, ← ho]

end heads

set_option maxHeartbeats 2000000 in
/-- All heads' turned columns. -/
theorem all_heads {x0 : Vec Ideal S512x1024 .f32} {x1 : Vec Ideal S8x1024 .f32} {x2 : Vec Ideal S1024x512 .bf16} {x3 : Vec Ideal S8x512 .f32}
    {x4 : Vec Ideal S512x2048 .bf16} {x5 : Vec Ideal S512x384 .f32} {X C N : ℕ → ℕ → EReal}
    (hq : ∀ i, k0_pay35 x0 x1 x2 x3 x4 x5 i = X (i 0).val (i 1).val) (ht : ∀ i, k0_pay36 x0 x1 x2 x3 x4 x5 i = tab (C (i 0).val) (N (i 0).val) (i 1).val) (i) :
    out0_9 x0 x1 x2 x3 x4 x5 i = rot (fun l => X (i 0).val (128 * ((i 1).val / 128) + l)) (C (i 0).val) (N (i 0).val) ((i 1).val % 128) * factor := by
  unfold out0_9
  refine View.canon_apply_of_pieces (Val := Elt Ideal) (e := .bf16)
    (fun i : S512x2048.Idx => rot (fun l => X (i 0).val (128 * ((i 1).val / 128) + l)) (C (i 0).val) (N (i 0).val) ((i 1).val % 128) * factor) _ ?_ i
    (cover0_9 _ _ _ _ _ _ _ _ _ _ _ _ _ _ _ _ i)
  simp only [List.forall_mem_cons, List.not_mem_nil, false_imp_iff, implies_true, and_true]
  exact ⟨
    put_cols hq ht 15 1920 rfl _ slices_S512x2048_o0_1920_S512x128,
    put_cols hq ht 14 1792 rfl _ slices_S512x2048_o0_1792_S512x128,
    put_cols hq ht 13 1664 rfl _ slices_S512x2048_o0_1664_S512x128,
    put_cols hq ht 12 1536 rfl _ slices_S512x2048_o0_1536_S512x128,
    put_cols hq ht 11 1408 rfl _ slices_S512x2048_o0_1408_S512x128,
    put_cols hq ht 10 1280 rfl _ slices_S512x2048_o0_1280_S512x128,
    put_cols hq ht 9 1152 rfl _ slices_S512x2048_o0_1152_S512x128,
    put_cols hq ht 8 1024 rfl _ slices_S512x2048_o0_1024_S512x128,
    put_cols hq ht 7 896 rfl _ slices_S512x2048_o0_896_S512x128,
    put_cols hq ht 6 768 rfl _ slices_S512x2048_o0_768_S512x128,
    put_cols hq ht 5 640 rfl _ slices_S512x2048_o0_640_S512x128,
    put_cols hq ht 4 512 rfl _ slices_S512x2048_o0_512_S512x128,
    put_cols hq ht 3 384 rfl _ slices_S512x2048_o0_384_S512x128,
    put_cols hq ht 2 256 rfl _ slices_S512x2048_o0_256_S512x128,
    put_cols hq ht 1 128 rfl _ slices_S512x2048_o0_128_S512x128,
    put_cols hq ht 0 0 rfl _ slices_S512x2048_o0_0_S512x128⟩

end Cert.QueryForward

end
-- ==== Proof.QFwdHost.lean ====
/- What the host lines prepare for the queries' forward step, and its windows' blocks. -/
module

public import proofs.«01_k».proof.Proof.QFwdKer
public import proofs.«01_k».proof.Proof.Rows

@[expose] public section

set_option maxRecDepth 16384

noncomputable section

open Idealize.ShloMosaic Idealize.ShloMosaic.TcCoe Idealize.ShloMosaic.Pipeline Idealize.SL.Sem
open Cert.Lift Cert.Whole Cert.QFwdIdeal Cert.QFwdIdeal.Gen

namespace Cert.QueryForward

/-- The rotation's table, as the host lines concatenate it. -/
def hTab (x y : FVec Ideal S8192x16 .f32) : FVec Ideal S8192x384 .f32 :=
  let o64 := broadcastInDim S8192x64 ![] bcast_S_S8192x64 (constant (F := Ideal) S_ .f32 0x3F800000#32)
  let z64 := broadcastInDim S8192x64 ![] bcast_S_S8192x64 (constant (F := Ideal) S_ .f32 0x00000000#32)
  let z32 := broadcastInDim S8192x32 ![] bcast_S_S8192x32 (constant (F := Ideal) S_ .f32 0x00000000#32)
  let z16 := broadcastInDim S8192x16 ![] bcast_S_S8192x16 (constant (F := Ideal) S_ .f32 0x00000000#32)
  concatenate S8192x384 1 [⟨S8192x64, o64⟩, ⟨S8192x16, x⟩, ⟨S8192x16, x⟩, ⟨S8192x32, z32⟩, ⟨S8192x64, z64⟩, ⟨S8192x16, z16⟩, ⟨S8192x16, y⟩,
    ⟨S8192x32, z32⟩, ⟨S8192x64, z64⟩, ⟨S8192x16, Host.negf y⟩, ⟨S8192x16, z16⟩, ⟨S8192x32, z32⟩] concatenates_S8192x64_S8192x16_S8192x16_S8192x32_S8192x64_S8192x16_S8192x16_S8192x32_S8192x64_S8192x16_S8192x16_S8192x32_S8192x384_d1

set_option maxHeartbeats 2000000 in
/-- The table's numbers, from the cosines and the sines. -/
theorem hTab_eq {C N : ℕ → ℕ → EReal} {x y : FVec Ideal S8192x16 .f32} (hx : ∀ i, x i = C (i 0).val (i 1).val) (hy : ∀ i, y i = N (i 0).val (i 1).val) (i) :
    hTab x y i = tab (C (i 0).val) (N (i 0).val) (i 1).val := by
  pointwise [hTab, hx, hy]
  have hj : (i 1).val < 384 := (i 1).isLt
  unfold tab
  generalize (i 1).val = j at hj ⊢
  rcases lt_or_ge j 64 with h | h
  · rw [dif_pos (show j < 64 by omega), if_pos (show j < 64 by omega)]
    exact EReal.coe_one
  rw [dif_neg (show ¬ j < 64 by omega), if_neg (show ¬ j < 64 by omega)]
  rcases lt_or_ge j 80 with h | h
  · rw [dif_pos (show j - 64 < 16 by omega), if_pos (show j < 80 by omega)]
  rw [dif_neg (show ¬ j - 64 < 16 by omega), if_neg (show ¬ j < 80 by omega)]
  rcases lt_or_ge j 96 with h | h
  · rw [dif_pos (show j - 64 - 16 < 16 by omega), if_pos (show j < 96 by omega)]
    exact congrArg _ (by omega)
  rw [dif_neg (show ¬ j - 64 - 16 < 16 by omega), if_neg (show ¬ j < 96 by omega)]
  rcases lt_or_ge j 128 with h | h
  · rw [dif_pos (show j - 64 - 16 - 16 < 32 by omega), if_pos (show j < 208 by omega)]
  rw [dif_neg (show ¬ j - 64 - 16 - 16 < 32 by omega)]
  rcases lt_or_ge j 192 with h | h
  · rw [dif_pos (show j - 64 - 16 - 16 - 32 < 64 by omega), if_pos (show j < 208 by omega)]
  rw [dif_neg (show ¬ j - 64 - 16 - 16 - 32 < 64 by omega)]
  rcases lt_or_ge j 208 with h | h
  · rw [dif_pos (show j - 64 - 16 - 16 - 32 - 64 < 16 by omega), if_pos (show j < 208 by omega)]
  rw [dif_neg (show ¬ j - 64 - 16 - 16 - 32 - 64 < 16 by omega), if_neg (show ¬ j < 208 by omega)]
  rcases lt_or_ge j 224 with h | h
  · rw [dif_pos (show j - 64 - 16 - 16 - 32 - 64 - 16 < 16 by omega), if_pos (show j < 224 by omega)]
    exact congrArg _ (by omega)
  rw [dif_neg (show ¬ j - 64 - 16 - 16 - 32 - 64 - 16 < 16 by omega), if_neg (show ¬ j < 224 by omega)]
  rcases lt_or_ge j 256 with h | h
  · rw [dif_pos (show j - 64 - 16 - 16 - 32 - 64 - 16 - 16 < 32 by omega), if_pos (show j < 320 by omega)]
  rw [dif_neg (show ¬ j - 64 - 16 - 16 - 32 - 64 - 16 - 16 < 32 by omega)]
  rcases lt_or_ge j 320 with h | h
  · rw [dif_pos (show j - 64 - 16 - 16 - 32 - 64 - 16 - 16 - 32 < 64 by omega), if_pos (show j < 320 by omega)]
  rw [dif_neg (show ¬ j - 64 - 16 - 16 - 32 - 64 - 16 - 16 - 32 < 64 by omega), if_neg (show ¬ j < 320 by omega)]
  rcases lt_or_ge j 336 with h | h
  · rw [dif_pos (show j - 64 - 16 - 16 - 32 - 64 - 16 - 16 - 32 - 64 < 16 by omega), if_pos (show j < 336 by omega)]
    exact congrArg (fun k => -N (i 0).val k) (by omega)
  rw [dif_neg (show ¬ j - 64 - 16 - 16 - 32 - 64 - 16 - 16 - 32 - 64 < 16 by omega), if_neg (show ¬ j < 336 by omega)]
  rcases lt_or_ge j 352 with h | h
  · rw [dif_pos (show j - 64 - 16 - 16 - 32 - 64 - 16 - 16 - 32 - 64 - 16 < 16 by omega)]
  rw [dif_neg (show ¬ j - 64 - 16 - 16 - 32 - 64 - 16 - 16 - 32 - 64 - 16 < 16 by omega)]

/-- The last of the host lines, from what the lines before it leave. -/
theorem tail (Z) : StableHlo.after (List.drop 22 (hostOps0_2 (F := Ideal))) Z (Proc.devRef .tc main_v19)
    = concatenate S8192x384 1 [⟨S8192x64, (Z (Proc.devRef .tc main_v17) : FVec Ideal S8192x64 .f32)⟩, ⟨S8192x16, (Z (Proc.devRef .tc main_arg8) : FVec Ideal S8192x16 .f32)⟩, ⟨S8192x16, (Z (Proc.devRef .tc main_arg8) : FVec Ideal S8192x16 .f32)⟩, ⟨S8192x32, (Z (Proc.devRef .tc main_v15) : FVec Ideal S8192x32 .f32)⟩, ⟨S8192x64, (Z (Proc.devRef .tc main_v16) : FVec Ideal S8192x64 .f32)⟩, ⟨S8192x16, (Z (Proc.devRef .tc main_v14) : FVec Ideal S8192x16 .f32)⟩, ⟨S8192x16, (Z (Proc.devRef .tc main_arg9) : FVec Ideal S8192x16 .f32)⟩, ⟨S8192x32, (Z (Proc.devRef .tc main_v15) : FVec Ideal S8192x32 .f32)⟩, ⟨S8192x64, (Z (Proc.devRef .tc main_v16) : FVec Ideal S8192x64 .f32)⟩, ⟨S8192x16, (Z (Proc.devRef .tc main_v18) : FVec Ideal S8192x16 .f32)⟩, ⟨S8192x16, (Z (Proc.devRef .tc main_v14) : FVec Ideal S8192x16 .f32)⟩, ⟨S8192x32, (Z (Proc.devRef .tc main_v15) : FVec Ideal S8192x32 .f32)⟩] concatenates_S8192x64_S8192x16_S8192x16_S8192x32_S8192x64_S8192x16_S8192x16_S8192x32_S8192x64_S8192x16_S8192x16_S8192x32_S8192x384_d1 := by
  simp only [List.drop_succ_cons, List.drop_zero, StableHlo.after_cons, StableHlo.after_nil]
  exact StableHlo.nary_result _ _ _ _ _ _

theorem cut : hostOps0_2 (F := Ideal) = List.take 22 (hostOps0_2 (F := Ideal)) ++ List.drop 22 (hostOps0_2 (F := Ideal)) := rfl

theorem piece_v17 (Z) : StableHlo.after (List.take 22 (hostOps0_2 (F := Ideal))) Z (Proc.devRef .tc main_v17) = broadcastInDim S8192x64 ![] bcast_S_S8192x64 (constant (F := Ideal) S_ .f32 0x3F800000#32) := by
  simp only [List.take_succ_cons, List.take_zero, StableHlo.after_cons, StableHlo.after_nil]
  after_results_simp

theorem piece_v16 (Z) : StableHlo.after (List.take 22 (hostOps0_2 (F := Ideal))) Z (Proc.devRef .tc main_v16) = broadcastInDim S8192x64 ![] bcast_S_S8192x64 (constant (F := Ideal) S_ .f32 0x00000000#32) := by
  simp only [List.take_succ_cons, List.take_zero, StableHlo.after_cons, StableHlo.after_nil]
  after_results_simp

theorem piece_v15 (Z) : StableHlo.after (List.take 22 (hostOps0_2 (F := Ideal))) Z (Proc.devRef .tc main_v15) = broadcastInDim S8192x32 ![] bcast_S_S8192x32 (constant (F := Ideal) S_ .f32 0x00000000#32) := by
  simp only [List.take_succ_cons, List.take_zero, StableHlo.after_cons, StableHlo.after_nil]
  after_results_simp

theorem piece_v14 (Z) : StableHlo.after (List.take 22 (hostOps0_2 (F := Ideal))) Z (Proc.devRef .tc main_v14) = broadcastInDim S8192x16 ![] bcast_S_S8192x16 (constant (F := Ideal) S_ .f32 0x00000000#32) := by
  simp only [List.take_succ_cons, List.take_zero, StableHlo.after_cons, StableHlo.after_nil]
  after_results_simp

theorem piece_v18 (Z) : (StableHlo.after (List.take 22 (hostOps0_2 (F := Ideal))) Z (Proc.devRef .tc main_v18) : FVec Ideal S8192x16 .f32) = (Host.negf (Z (Proc.devRef .tc main_arg9) : FVec Ideal S8192x16 .f32) : FVec Ideal S8192x16 .f32) := by
  simp only [List.take_succ_cons, List.take_zero, StableHlo.after_cons, StableHlo.after_nil]
  after_results_simp

theorem piece_arg8 (Z) : StableHlo.after (List.take 22 (hostOps0_2 (F := Ideal))) Z (Proc.devRef .tc main_arg8) = Z (Proc.devRef .tc main_arg8) := by
  simp only [List.take_succ_cons, List.take_zero, StableHlo.after_cons, StableHlo.after_nil]
  after_results_simp

theorem piece_arg9 (Z) : StableHlo.after (List.take 22 (hostOps0_2 (F := Ideal))) Z (Proc.devRef .tc main_arg9) = Z (Proc.devRef .tc main_arg9) := by
  simp only [List.take_succ_cons, List.take_zero, StableHlo.after_cons, StableHlo.after_nil]
  after_results_simp

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

/-- What the host lines before the call leave. -/
theorem V_eq (c : Dev nD) (b : Ref sig .tc) : V m c b
    = StableHlo.after hostOps0_2 (StableHlo.after hostOps0_1 (StableHlo.after hostOps0 fun b => m (c, b))) (Proc.devRef .tc b) := by
  unfold V
  simp only [List.flatten_cons, List.flatten_nil, List.append_nil, StableHlo.after_append]

variable {H W B C N : ℕ → ℕ → EReal} {g sh sc gq : ℕ → EReal} {c : Dev nD}
  (hH : ∀ i, m ((c : Thread nD τ).loc main_arg0) i = H (i 0).val (i 1).val)
  (hg : ∀ i, m ((c : Thread nD τ).loc main_arg1) i = g (i 0).val)
  (hsh : ∀ i, m ((c : Thread nD τ).loc main_arg2) i = sh (i 0).val)
  (hsc : ∀ i, m ((c : Thread nD τ).loc main_arg3) i = sc (i 0).val)
  (hW : ∀ i, m ((c : Thread nD τ).loc main_arg5) i = W (i 0).val (i 1).val)
  (hq : ∀ i, m ((c : Thread nD τ).loc main_arg6) i = gq (i 0).val)
  (hB : ∀ i, m ((c : Thread nD τ).loc main_arg7) i = B (i 0).val (i 1).val)
  (hC : ∀ i, m ((c : Thread nD τ).loc main_arg8) i = C (i 0).val (i 1).val)
  (hN : ∀ i, m ((c : Thread nD τ).loc main_arg9) i = N (i 0).val (i 1).val)

/-- The cosines and the sines are not written by the lines before. -/
theorem before_arg8 : StableHlo.after hostOps0_1 (StableHlo.after hostOps0 fun b => m (c, b)) (Proc.devRef .tc main_arg8) = m ((c : Thread nD τ).loc main_arg8) := by
  simp only [StableHlo.after_cons, StableHlo.after_nil]
  after_results_simp

theorem before_arg9 : StableHlo.after hostOps0_1 (StableHlo.after hostOps0 fun b => m (c, b)) (Proc.devRef .tc main_arg9) = m ((c : Thread nD τ).loc main_arg9) := by
  simp only [StableHlo.after_cons, StableHlo.after_nil]
  after_results_simp

theorem host_tab : (V m c main_v19 : Vec Ideal S8192x384 .f32) = hTab (m ((c : Thread nD τ).loc main_arg8)) (m ((c : Thread nD τ).loc main_arg9)) := by
  rw [V_eq, cut, StableHlo.after_append, tail, piece_v17, piece_v16, piece_v15, piece_v14, piece_v18, piece_arg8, piece_arg9, before_arg8, before_arg9]
  rfl

include hC hN in
theorem blk_t (t : Fin cfg0.N) (i : S512x384.Idx) : (iblk m c 5 t : Vec Ideal S512x384 .f32) i
    = tab (C (512 * t.val + (i 0).val)) (N (512 * t.val + (i 0).val)) (i 1).val := by
  blk_simp [iblk]
  rw [host_tab m, hTab_eq hC hN]
  blk_simp [idx t]
  rw [mul_comm]

include hH in
theorem blk_h (t : Fin cfg0.N) (i : S512x1024.Idx) : (iblk m c 0 t : Vec Ideal S512x1024 .f32) i = H (512 * t.val + (i 0).val) (i 1).val := by
  blk_simp [iblk]
  rw [V_main_arg0, hH]
  blk_simp [idx t]
  rw [mul_comm]

include hg hsh hsc in
/-- The packed rows: the gain, the shift and the scale. -/
theorem blk_c (t : Fin cfg0.N) (i : S8x1024.Idx) : ((i 0).val = 0 → (iblk m c 1 t : Vec Ideal S8x1024 .f32) i = g (i 1).val)
    ∧ ((i 0).val = 1 → (iblk m c 1 t : Vec Ideal S8x1024 .f32) i = sh (i 1).val) ∧ ((i 0).val = 2 → (iblk m c 1 t : Vec Ideal S8x1024 .f32) i = sc (i 1).val) := by
  have e : (iblk m c 1 t : Vec Ideal S8x1024 .f32) i = (V m c main_v9 : Vec Ideal S8x1024 .f32) i := by
    blk_simp [iblk]
    exact congrArg (V m c main_v9 : Vec Ideal S8x1024 .f32) (by blk_ext [idx t])
  rw [e, V_eq]
  simp only [StableHlo.after_cons, StableHlo.after_nil]
  after_results_simp
  refine ⟨fun a => ?_, fun a => ?_, fun a => ?_⟩
  · refine (Cert.Rows.concat_row _ _ i 0 (by simp) _ rfl 0 rfl a).trans ?_
    simp only [Matrix.cons_val]
    after_results_loop
    pointwise [hg]
  · refine (Cert.Rows.concat_row _ _ i 1 (by simp) _ rfl 1 rfl a).trans ?_
    simp only [Matrix.cons_val]
    after_results_loop
    pointwise [hsh]
  · refine (Cert.Rows.concat_row _ _ i 2 (by simp) _ rfl 2 rfl a).trans ?_
    simp only [Matrix.cons_val]
    after_results_loop
    pointwise [hsc]

include hW in
theorem blk_w (t : Fin cfg0.N) (i : S1024x512.Idx) : (iblk m c 2 t : Vec Ideal S1024x512 .bf16) i = W (i 0).val (i 1).val := by
  blk_simp [iblk]
  rw [V_eq]
  simp only [StableHlo.after_cons, StableHlo.after_nil]
  after_results_simp
  after_results_loop
  pointwise [hW]
  blk_simp [idx t]

include hq in
/-- The second norm's gain, the first of eight rows. -/
theorem blk_q (t : Fin cfg0.N) (i : S8x512.Idx) (a : (i 0).val = 0) : (iblk m c 3 t : Vec Ideal S8x512 .f32) i = gq (i 1).val := by
  have e : (iblk m c 3 t : Vec Ideal S8x512 .f32) i = (V m c main_v13 : Vec Ideal S8x512 .f32) i := by
    blk_simp [iblk]
    exact congrArg (V m c main_v13 : Vec Ideal S8x512 .f32) (by blk_ext [idx t])
  rw [e, V_eq]
  simp only [StableHlo.after_cons, StableHlo.after_nil]
  after_results_simp
  refine (Cert.Rows.concat_row _ _ i 0 (by simp) _ rfl 0 rfl a).trans ?_
  after_results_loop
  pointwise [hq]

include hB in
/-- The second product's weight, a head's columns padded to 128. -/
theorem host_b (i : S512x2048.Idx) : (V m c main_v3 : Vec Ideal S512x2048 .bf16) i = padded B (i 0).val (i 1).val := by
  rw [V_eq]
  simp only [StableHlo.after_cons, StableHlo.after_nil]
  after_results_simp
  after_results_loop
  simp -implicitDefEqProofs only [StableHlo.TRef.toBuf, StableHlo.TRef.ofBuf, cast_cast, cast_eq]
  pointwise [hB]
  have a : (i 0).val < 512 := (i 0).isLt
  have b : (i 1).val < 2048 := (i 1).isLt
  unfold padded
  by_cases h : (i 1).val % 128 < 96
  · rw [dif_pos (by omega), if_pos h]
    refine congrArg₂ _ ?_ ?_ <;> omega
  · rw [dif_neg (by omega), if_neg h]
    exact congrArg Real.toEReal Int.cast_zero

include hB in
theorem blk_b (t : Fin cfg0.N) (i : S512x2048.Idx) : (iblk m c 4 t : Vec Ideal S512x2048 .bf16) i = padded B (i 0).val (i 1).val := by
  blk_simp [iblk]
  rw [host_b m hB]
  blk_simp [idx t]

end Cert.QueryForward

end
-- ==== Proof.QFwdEq.lean ====
/- The queries' forward kernel leaves what the reference leaves, on any arguments. -/
module

public import proofs.«01_k».proof.Proof.QFwdHost

@[expose] public section

set_option maxRecDepth 16384

noncomputable section

open Idealize.ShloMosaic Idealize.ShloMosaic.TcCoe Idealize.ShloMosaic.Pipeline Idealize.SL.Sem
open Cert.Lift Cert.Whole

namespace Cert.QueryForward

section run
open Cert.QFwdIdeal Cert.QFwdIdeal.Gen

variable (m : (ℓ : Loc nD τ sig) → Buf (Elt Ideal) ℓ) {H W B C N : ℕ → ℕ → EReal} {g sh sc gq : ℕ → EReal} {c : Dev nD}
  (hH : ∀ i, m ((c : Thread nD τ).loc main_arg0) i = H (i 0).val (i 1).val)
  (hg : ∀ i, m ((c : Thread nD τ).loc main_arg1) i = g (i 0).val)
  (hsh : ∀ i, m ((c : Thread nD τ).loc main_arg2) i = sh (i 0).val)
  (hsc : ∀ i, m ((c : Thread nD τ).loc main_arg3) i = sc (i 0).val)
  (hW : ∀ i, m ((c : Thread nD τ).loc main_arg5) i = W (i 0).val (i 1).val)
  (hq : ∀ i, m ((c : Thread nD τ).loc main_arg6) i = gq (i 0).val)
  (hB : ∀ i, m ((c : Thread nD τ).loc main_arg7) i = B (i 0).val (i 1).val)
  (hC : ∀ i, m ((c : Thread nD τ).loc main_arg8) i = C (i 0).val (i 1).val)
  (hN : ∀ i, m ((c : Thread nD τ).loc main_arg9) i = N (i 0).val (i 1).val)

/-- A block loaded whole. -/
theorem ld_whole {a b : ℕ} {e : EltTy} (x : Vec Ideal ⟨2, ![a, b]⟩ e) (inb) :
    View.ld x (Rect.unit (s := ⟨2, ![a, b]⟩) ![0, 0] ![a, b] inb) = x :=
  funext fun i => congrArg x (funext fun d => Fin.ext ((Rect.idx_unit_val _ _ _ _ _).trans (by fin_cases d <;> simp)))

section whole
variable (x0 : Vec Ideal S512x1024 .f32) (x1 : Vec Ideal S8x1024 .f32) (x2 : Vec Ideal S1024x512 .bf16) (x3 : Vec Ideal S8x512 .f32)
  (x4 : Vec Ideal S512x2048 .bf16) (x5 : Vec Ideal S512x384 .f32)

theorem product_whole : k0_pay35 x0 x1 x2 x3 x4 x5 = k0_pay5 (k0_pay2 x0 x1 x2) (k0_pay3 x0 x1 x2) (View.ld x3 r0_4) x4 := by
  have e0 : View.ld x0 r0_0 = x0 := ld_whole x0 _
  have e1 : View.ld x1 r0_1 = x1 := ld_whole x1 _
  have e2 : View.ld x2 r0_2 = x2 := ld_whole x2 _
  have e4 : View.ld x4 r0_5 = x4 := ld_whole x4 _
  unfold k0_pay35 k0_pay33 k0_pay34
  rw [e0, e1, e2, e4]

theorem table_whole : k0_pay36 x0 x1 x2 x3 x4 x5 = k0_pay6 x5 := by
  have e5 : View.ld x5 r0_6 = x5 := ld_whole x5 _
  unfold k0_pay36
  rw [e5]

end whole

include hq in
/-- The second norm's gain as it is loaded. -/
theorem ld_q (t : Fin cfg0.N) (i : S1x512.Idx) : View.ld (iblk m c 3 t : Vec Ideal S8x512 .f32) r0_4 i = gq (i 1).val := by
  have a : (i 0).val = 0 := Nat.lt_one_iff.mp (i 0).isLt
  have e0 : (r0_4.idx i 0).val = (i 0).val := (Rect.idx_unit_val _ _ _ _ _).trans (Nat.zero_add _)
  have e1 : (r0_4.idx i 1).val = (i 1).val := (Rect.idx_unit_val _ _ _ _ _).trans (Nat.zero_add _)
  exact (blk_q m hq t _ (e0.trans a)).trans (congrArg gq e1)

include hH hg hsh hsc

theorem out_u (t : Fin cfg0.N) (j) : out0_6 (F := Ideal) (iblk m c 0 t) (iblk m c 1 t) (iblk m c 2 t) (iblk m c 3 t) (iblk m c 4 t) (iblk m c 5 t) j
    = u H g sh sc (512 * t.val + (j 0).val) (j 1).val := by
  unfold_out out0_6; frame_out
  exact pay_u (H := fun p j => H (512 * t.val + p) j) (blk_h m hH t) (blk_c m hg hsh hsc t) j

include hW

theorem out_low (t : Fin cfg0.N) (j) : out0_7 (F := Ideal) (iblk m c 0 t) (iblk m c 1 t) (iblk m c 2 t) (iblk m c 3 t) (iblk m c 4 t) (iblk m c 5 t) j
    = ab (u H g sh sc) W (512 * t.val + (j 0).val) (j 1).val := by
  unfold_out out0_7; frame_out
  exact pay_low (H := fun p j => H (512 * t.val + p) j) (blk_h m hH t) (blk_c m hg hsh hsc t) (blk_w m hW t) j

include hq

theorem out_n (t : Fin cfg0.N) (j) : out0_8 (F := Ideal) (iblk m c 0 t) (iblk m c 1 t) (iblk m c 2 t) (iblk m c 3 t) (iblk m c 4 t) (iblk m c 5 t) j
    = norm (ab (u H g sh sc) W) gq (512 * t.val + (j 0).val) (j 1).val := by
  unfold_out out0_8; frame_out
  exact pay_n (H := fun p j => H (512 * t.val + p) j) (blk_h m hH t) (blk_c m hg hsh hsc t) (blk_w m hW t) (ld_q m hq t) j

include hB hC hN

theorem out_q (t : Fin cfg0.N) (j) : out0_9 (F := Ideal) (iblk m c 0 t) (iblk m c 1 t) (iblk m c 2 t) (iblk m c 3 t) (iblk m c 4 t) (iblk m c 5 t) j
    = turned (norm (ab (u H g sh sc) W) gq) B C N (512 * t.val + (j 0).val) (j 1).val := by
  refine (all_heads (X := fun p n => nb (norm (ab (u H g sh sc) W) gq) (padded B) (512 * t.val + p) n) (C := fun p => C (512 * t.val + p))
    (N := fun p => N (512 * t.val + p)) (fun i => ?_) (fun i => ?_) j).trans (congrArg (· * factor) (rot_padded _ _ _ _ _ _ _))
  · rw [product_whole]
    exact pay_q (H := fun p j => H (512 * t.val + p) j) (blk_h m hH t) (blk_c m hg hsh hsc t) (blk_w m hW t) (ld_q m hq t) (blk_b m hB t) i
  · rw [table_whole]
    exact pay_tab (C := fun p => C (512 * t.val + p)) (N := fun p => N (512 * t.val + p)) (blk_t m hC hN t) i

/-- The kernel's turned and scaled queries. -/
theorem arr_q (i) : (dats m 0 c).arrAt 9 cfg0.N i = turned (norm (ab (u H g sh sc) W) gq) B C N (i 0).val (i 1).val := by
  refine congrFun ((dats m 0 c).arrAt_eq_of_covers 9 (fun i => turned (norm (ab (u H g sh sc) W) gq) B C N (i 0).val (i 1).val) (by decide +kernel) fun t _ y => ?_) i
  rw [after0_9, out_q m hH hg hsh hsc hW hq hB hC hN t]
  blk_simp [idx t]
  rw [mul_comm]

omit hB hC hN

/-- The kernel's norm of the low-rank queries. -/
theorem arr_n (i) : (dats m 0 c).arrAt 8 cfg0.N i = norm (ab (u H g sh sc) W) gq (i 0).val (i 1).val := by
  refine congrFun ((dats m 0 c).arrAt_eq_of_covers 8 (fun i => norm (ab (u H g sh sc) W) gq (i 0).val (i 1).val) (by decide +kernel) fun t _ y => ?_) i
  rw [after0_8, out_n m hH hg hsh hsc hW hq t]
  blk_simp [idx t]
  rw [mul_comm]

omit hq

/-- The kernel's low-rank queries. -/
theorem arr_low (i) : (dats m 0 c).arrAt 7 cfg0.N i = ab (u H g sh sc) W (i 0).val (i 1).val := by
  refine congrFun ((dats m 0 c).arrAt_eq_of_covers 7 (fun i => ab (u H g sh sc) W (i 0).val (i 1).val) (by decide +kernel) fun t _ y => ?_) i
  rw [after0_7, out_low m hH hg hsh hsc hW t]
  blk_simp [idx t]
  rw [mul_comm]

omit hW

/-- The kernel's modulated norm. -/
theorem arr_u (i) : (dats m 0 c).arrAt 6 cfg0.N i = u H g sh sc (i 0).val (i 1).val := by
  refine congrFun ((dats m 0 c).arrAt_eq_of_covers 6 (fun i => u H g sh sc (i 0).val (i 1).val) (by decide +kernel) fun t _ y => ?_) i
  rw [after0_6, out_u m hH hg hsh hsc t]
  blk_simp [idx t]
  rw [mul_comm]

end run

/-- The reference runs and leaves its arguments as they were. -/
theorem frame_ref : quiescent_QFwdRefIdeal := fun m ρ _ =>
  (θ_run QFwdRefIdeal.defs _ _).mono (fun r h => ⟨fun c => (h c).2.2.2.2, sem_eq_zero_of_no_sems (by decide) r.2⟩) (QFwdRefIdeal.Value.run m ρ)

/-- Both programs leave the same queries and the same saved values. -/
theorem algebraic : algebraic_QFwdIdeal_QFwdRefIdeal := by
  intro m ρ m' ρ' _ harg
  refine ⟨fun c => (QFwdIdeal.Gen.dats m 0 c).arrAt 6 _, fun c => (QFwdIdeal.Gen.dats m 0 c).arrAt 7 _, fun c => (QFwdIdeal.Gen.dats m 0 c).arrAt 8 _,
    fun c => (QFwdIdeal.Gen.dats m 0 c).arrAt 9 _, QFwdIdeal.Value.run_blocks m ρ, ?_⟩
  refine (θ_run QFwdRefIdeal.defs _ _).mono (fun r h c => ?_) (QFwdRefIdeal.Value.run m' ρ')
  obtain ⟨H, hH⟩ := lift2E (m ((c : Thread QFwdIdeal.nD QFwdIdeal.τ).loc QFwdIdeal.main_arg0))
  obtain ⟨g, hg⟩ := lift1E (m ((c : Thread QFwdIdeal.nD QFwdIdeal.τ).loc QFwdIdeal.main_arg1))
  obtain ⟨sh, hsh⟩ := lift1E (m ((c : Thread QFwdIdeal.nD QFwdIdeal.τ).loc QFwdIdeal.main_arg2))
  obtain ⟨sc, hsc⟩ := lift1E (m ((c : Thread QFwdIdeal.nD QFwdIdeal.τ).loc QFwdIdeal.main_arg3))
  obtain ⟨W, hW⟩ := lift2E (m ((c : Thread QFwdIdeal.nD QFwdIdeal.τ).loc QFwdIdeal.main_arg5))
  obtain ⟨gq, hq⟩ := lift1E (m ((c : Thread QFwdIdeal.nD QFwdIdeal.τ).loc QFwdIdeal.main_arg6))
  obtain ⟨B, hB⟩ := lift2E (m ((c : Thread QFwdIdeal.nD QFwdIdeal.τ).loc QFwdIdeal.main_arg7))
  obtain ⟨C, hC⟩ := lift2E (m ((c : Thread QFwdIdeal.nD QFwdIdeal.τ).loc QFwdIdeal.main_arg8))
  obtain ⟨N, hN⟩ := lift2E (m ((c : Thread QFwdIdeal.nD QFwdIdeal.τ).loc QFwdIdeal.main_arg9))
  obtain ⟨a0, a1, a2, a3, a4, a5, a6, a7, a8, a9⟩ := harg c
  obtain ⟨r0, r1, r2, r3, k⟩ := h c
  refine ⟨r0.trans ?_, r1.trans ?_, r2.trans ?_, r3.trans ?_, k⟩
  · rw [QFwdRefIdeal.Read.val_main_v57_eq]
    simp only [StableHlo.launchContents_devRef, a0, a1, a2, a3]
    exact funext fun i => (ref_u hH hg hsh hsc i).trans (arr_u m hH hg hsh hsc i).symm
  · rw [QFwdRefIdeal.Read.val_main_v21_eq]
    simp only [StableHlo.launchContents_devRef, a0, a1, a2, a3, a5]
    exact funext fun i => (ref_low hH hg hsh hsc hW i).trans (arr_low m hH hg hsh hsc hW i).symm
  · rw [QFwdRefIdeal.Read.val_main_v58_eq]
    simp only [StableHlo.launchContents_devRef, a0, a1, a2, a3, a5, a6]
    exact funext fun i => (ref_n hH hg hsh hsc hW hq i).trans (arr_n m hH hg hsh hsc hW hq i).symm
  · rw [QFwdRefIdeal.Read.val_main_v61_eq]
    simp only [StableHlo.launchContents_devRef, a0, a1, a2, a3, a5, a6, a7, a8, a9]
    exact funext fun i => (ref_turned hH hg hsh hsc hW hq hB hC hN i).trans (arr_q m hH hg hsh hsc hW hq hB hC hN i).symm

end Cert.QueryForward

end
-- ==== Proof.lean ====
module

public import proofs.«01_k».proof.Defs
public import proofs.«01_k».proof.Proof.Gen.Final
public import proofs.«01_k».proof.Proof.Gen.FinalIdeal
public import proofs.«01_k».proof.Proof.Gen.FinalRefIdeal
public import proofs.«01_k».proof.Proof.Gen.ConvOut
public import proofs.«01_k».proof.Proof.Gen.ConvOutIdeal
public import proofs.«01_k».proof.Proof.Gen.ConvOutRefIdeal
public import proofs.«01_k».proof.Proof.Gen.WPw
public import proofs.«01_k».proof.Proof.Gen.WPwIdeal
public import proofs.«01_k».proof.Proof.Gen.WPwRefIdeal
public import proofs.«01_k».proof.Proof.Gen.ModW
public import proofs.«01_k».proof.Proof.Gen.ModWIdeal
public import proofs.«01_k».proof.Proof.Gen.ModWRefIdeal
public import proofs.«01_k».proof.Proof.Gen.AttnOut
public import proofs.«01_k».proof.Proof.Gen.AttnOutIdeal
public import proofs.«01_k».proof.Proof.Gen.AttnOutRefIdeal
public import proofs.«01_k».proof.Proof.Gen.Ffn
public import proofs.«01_k».proof.Proof.Gen.FfnIdeal
public import proofs.«01_k».proof.Proof.Gen.FfnRefIdeal
public import proofs.«01_k».proof.Proof.Gen.QBwd
public import proofs.«01_k».proof.Proof.Gen.QBwdIdeal
public import proofs.«01_k».proof.Proof.Gen.QBwdRefIdeal
public import proofs.«01_k».proof.Proof.Gen.KvBwd
public import proofs.«01_k».proof.Proof.Gen.KvBwdIdeal
public import proofs.«01_k».proof.Proof.Gen.KvBwdRefIdeal
public import proofs.«01_k».proof.Proof.Gen.AttnBwd
public import proofs.«01_k».proof.Proof.Gen.AttnBwdIdeal
public import proofs.«01_k».proof.Proof.Gen.AttnBwdRefIdeal
public import proofs.«01_k».proof.Proof.Gen.ConvIn
public import proofs.«01_k».proof.Proof.Gen.ConvInIdeal
public import proofs.«01_k».proof.Proof.Gen.ConvInRefIdeal
public import proofs.«01_k».proof.Proof.Gen.OutFwd
public import proofs.«01_k».proof.Proof.Gen.OutFwdIdeal
public import proofs.«01_k».proof.Proof.Gen.OutFwdRefIdeal
public import proofs.«01_k».proof.Proof.Gen.ModFwd
public import proofs.«01_k».proof.Proof.Gen.ModFwdIdeal
public import proofs.«01_k».proof.Proof.Gen.ModFwdRefIdeal
public import proofs.«01_k».proof.Proof.Gen.FfnFwd
public import proofs.«01_k».proof.Proof.Gen.FfnFwdIdeal
public import proofs.«01_k».proof.Proof.Gen.FfnFwdRefIdeal
public import proofs.«01_k».proof.Proof.Gen.ConvInFwd
public import proofs.«01_k».proof.Proof.Gen.ConvInFwdIdeal
public import proofs.«01_k».proof.Proof.Gen.ConvInFwdRefIdeal
public import proofs.«01_k».proof.Proof.Gen.QFwd
public import proofs.«01_k».proof.Proof.Gen.QFwdIdeal
public import proofs.«01_k».proof.Proof.Gen.QFwdRefIdeal
public import proofs.«01_k».proof.Proof.Gen.Pre_finite_final
public import proofs.«01_k».proof.Proof.Gen.Pre_finite_co
public import proofs.«01_k».proof.Proof.Gen.Pre_finite_wg
public import proofs.«01_k».proof.Proof.Gen.Pre_finite_mw
public import proofs.«01_k».proof.Proof.Gen.Pre_finite_ao
public import proofs.«01_k».proof.Proof.Gen.Pre_finite_ffn
public import proofs.«01_k».proof.Proof.Gen.Pre_finite_q
public import proofs.«01_k».proof.Proof.Gen.Pre_finite_kv
public import proofs.«01_k».proof.Proof.Gen.Pre_finite_at
public import proofs.«01_k».proof.Proof.Gen.Final.Frame
public import proofs.«01_k».proof.Proof.Gen.FinalIdeal.Frame
public import proofs.«01_k».proof.Proof.Gen.ConvOut.Frame
public import proofs.«01_k».proof.Proof.Gen.ConvOutIdeal.Frame
public import proofs.«01_k».proof.Proof.Gen.WPw.Frame
public import proofs.«01_k».proof.Proof.Gen.WPwIdeal.Frame
public import proofs.«01_k».proof.Proof.Gen.ModW.Frame
public import proofs.«01_k».proof.Proof.Gen.ModWIdeal.Frame
public import proofs.«01_k».proof.Proof.Gen.AttnOut.Frame
public import proofs.«01_k».proof.Proof.Gen.AttnOutIdeal.Frame
public import proofs.«01_k».proof.Proof.Gen.Ffn.Frame
public import proofs.«01_k».proof.Proof.Gen.FfnIdeal.Frame
public import proofs.«01_k».proof.Proof.Gen.QBwd.Frame
public import proofs.«01_k».proof.Proof.Gen.QBwdIdeal.Frame
public import proofs.«01_k».proof.Proof.Gen.KvBwd.Frame
public import proofs.«01_k».proof.Proof.Gen.KvBwdIdeal.Frame
public import proofs.«01_k».proof.Proof.Gen.AttnBwd.Frame
public import proofs.«01_k».proof.Proof.Gen.AttnBwdIdeal.Frame
public import proofs.«01_k».proof.Proof.Gen.ConvIn.Frame
public import proofs.«01_k».proof.Proof.Gen.ConvInIdeal.Frame
public import proofs.«01_k».proof.Proof.Gen.OutFwd.Frame
public import proofs.«01_k».proof.Proof.Gen.OutFwdIdeal.Frame
public import proofs.«01_k».proof.Proof.Gen.ModFwd.Frame
public import proofs.«01_k».proof.Proof.Gen.ModFwdIdeal.Frame
public import proofs.«01_k».proof.Proof.Gen.FfnFwd.Frame
public import proofs.«01_k».proof.Proof.Gen.FfnFwdIdeal.Frame
public import proofs.«01_k».proof.Proof.Gen.ConvInFwd.Frame
public import proofs.«01_k».proof.Proof.Gen.ConvInFwdIdeal.Frame
public import proofs.«01_k».proof.Proof.Gen.QFwd.Frame
public import proofs.«01_k».proof.Proof.Gen.QFwdIdeal.Frame
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.ConvOutIdeal.Value
public import proofs.«01_k».proof.Proof.Gen.ConvOutRefIdeal.Run
public import proofs.«01_k».proof.Proof.Gen.ConvOutRefIdeal.Read
public import proofs.«01_k».proof.Proof.Gen.WPwIdeal.Value
public import proofs.«01_k».proof.Proof.Gen.WPwRefIdeal.Run
public import proofs.«01_k».proof.Proof.Gen.WPwRefIdeal.Read
public import proofs.«01_k».proof.Proof.Gen.ModWIdeal.Value
public import proofs.«01_k».proof.Proof.Gen.ModWRefIdeal.Run
public import proofs.«01_k».proof.Proof.Gen.ModWRefIdeal.Read
public import proofs.«01_k».proof.Proof.Gen.AttnOutRefIdeal.Run
public import proofs.«01_k».proof.Proof.Gen.AttnOutRefIdeal.Read
public import proofs.«01_k».proof.Proof.Gen.AttnBwdRefIdeal.Run
public import proofs.«01_k».proof.Proof.Gen.AttnBwdRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.QBwdIdeal.Value
public import proofs.«01_k».proof.Proof.Gen.QBwdRefIdeal.Run
public import proofs.«01_k».proof.Proof.Gen.QBwdRefIdeal.Read
public import proofs.«01_k».proof.Proof.Gen.KvBwdIdeal.Value
public import proofs.«01_k».proof.Proof.Gen.KvBwdRefIdeal.Run
public import proofs.«01_k».proof.Proof.Gen.KvBwdRefIdeal.Read
public import proofs.«01_k».proof.Proof.Gen.ConvInRefIdeal.Run
public import proofs.«01_k».proof.Proof.Gen.ConvInRefIdeal.Read
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.ModFwdIdeal.Value
public import proofs.«01_k».proof.Proof.Gen.ModFwdRefIdeal.Run
public import proofs.«01_k».proof.Proof.Gen.ModFwdRefIdeal.Read
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.ConvInFwdIdeal.Value
public import proofs.«01_k».proof.Proof.Gen.ConvInFwdRefIdeal.Run
public import proofs.«01_k».proof.Proof.Gen.ConvInFwdRefIdeal.Read
public import proofs.«01_k».proof.Proof.Gen.QFwdIdeal.Value
public import proofs.«01_k».proof.Proof.Gen.QFwdRefIdeal.Run
public import proofs.«01_k».proof.Proof.Gen.QFwdRefIdeal.Read
public import proofs.«01_k».proof.Proof.FinalEq
public import proofs.«01_k».proof.Proof.ConvOutEq
public import proofs.«01_k».proof.Proof.WPwEq
public import proofs.«01_k».proof.Proof.ModWEq
public import proofs.«01_k».proof.Proof.AttnOutEq
public import proofs.«01_k».proof.Proof.AttnEq
public import proofs.«01_k».proof.Proof.FfnEq
public import proofs.«01_k».proof.Proof.QBwdEq
public import proofs.«01_k».proof.Proof.KvBwdEq
public import proofs.«01_k».proof.Proof.ConvInRef
public import proofs.«01_k».proof.Proof.OutFwdEq
public import proofs.«01_k».proof.Proof.ModFwdEq
public import proofs.«01_k».proof.Proof.FfnFwdEq
public import proofs.«01_k».proof.Proof.ConvInFwdEq
public import proofs.«01_k».proof.Proof.QFwdEq
public import Idealize.ShloMosaic.Adequacy
public import Idealize.ShloMosaic.Init

@[expose] public section

noncomputable section

namespace Cert.Proof

open Idealize.ShloMosaic Idealize.SL.Sem

theorem claim : Cert.Claim := ⟨Cert.Final.Gen.facts, Cert.FinalIdeal.Gen.facts, Cert.FinalRefIdeal.Gen.facts, Cert.ConvOut.Gen.facts, Cert.ConvOutIdeal.Gen.facts, Cert.ConvOutRefIdeal.Gen.facts, Cert.WPw.Gen.facts, Cert.WPwIdeal.Gen.facts, Cert.WPwRefIdeal.Gen.facts, Cert.ModW.Gen.facts, Cert.ModWIdeal.Gen.facts, Cert.ModWRefIdeal.Gen.facts, Cert.AttnOut.Gen.facts, Cert.AttnOutIdeal.Gen.facts, Cert.AttnOutRefIdeal.Gen.facts, Cert.Ffn.Gen.facts, Cert.FfnIdeal.Gen.facts, Cert.FfnRefIdeal.Gen.facts, Cert.QBwd.Gen.facts, Cert.QBwdIdeal.Gen.facts, Cert.QBwdRefIdeal.Gen.facts, Cert.KvBwd.Gen.facts, Cert.KvBwdIdeal.Gen.facts, Cert.KvBwdRefIdeal.Gen.facts, Cert.AttnBwd.Gen.facts, Cert.AttnBwdIdeal.Gen.facts, Cert.AttnBwdRefIdeal.Gen.facts, Cert.ConvIn.Gen.facts, Cert.ConvInIdeal.Gen.facts, Cert.ConvInRefIdeal.Gen.facts, Cert.OutFwd.Gen.facts, Cert.OutFwdIdeal.Gen.facts, Cert.OutFwdRefIdeal.Gen.facts, Cert.ModFwd.Gen.facts, Cert.ModFwdIdeal.Gen.facts, Cert.ModFwdRefIdeal.Gen.facts, Cert.FfnFwd.Gen.facts, Cert.FfnFwdIdeal.Gen.facts, Cert.FfnFwdRefIdeal.Gen.facts, Cert.ConvInFwd.Gen.facts, Cert.ConvInFwdIdeal.Gen.facts, Cert.ConvInFwdRefIdeal.Gen.facts, Cert.QFwd.Gen.facts, Cert.QFwdIdeal.Gen.facts, Cert.QFwdRefIdeal.Gen.facts, Cert.Pre_finite_final.Gen.facts, Cert.Pre_finite_co.Gen.facts, Cert.Pre_finite_wg.Gen.facts, Cert.Pre_finite_mw.Gen.facts, Cert.Pre_finite_ao.Gen.facts, Cert.Pre_finite_ffn.Gen.facts, Cert.Pre_finite_q.Gen.facts, Cert.Pre_finite_kv.Gen.facts, Cert.Pre_finite_at.Gen.facts,
  fun m ρ _ => Cert.Final.Gen.frame m ρ,
  fun m ρ _ => Cert.FinalIdeal.Gen.frame m ρ,
  fun m ρ _ => Cert.FinalIdeal.Gen.frame m ρ,
  fun m ρ _ => Cert.FinalLoss.frame_ref m ρ trivial,
  fun m ρ _ => Cert.FinalLoss.frame_ref m ρ trivial,
  fun m ρ _ => Cert.ConvOut.Gen.frame m ρ,
  fun m ρ _ => Cert.ConvOutIdeal.Gen.frame m ρ,
  fun m ρ _ => Cert.ConvOutIdeal.Gen.frame m ρ,
  fun m ρ _ => Cert.ConvTail.frame_ref m ρ trivial,
  fun m ρ _ => Cert.ConvTail.frame_ref m ρ trivial,
  fun m ρ _ => Cert.WPw.Gen.frame m ρ,
  fun m ρ _ => Cert.WPwIdeal.Gen.frame m ρ,
  fun m ρ _ => Cert.WPwIdeal.Gen.frame m ρ,
  fun m ρ _ => Cert.ConvWgrad.frame_ref m ρ trivial,
  fun m ρ _ => Cert.ConvWgrad.frame_ref m ρ trivial,
  fun m ρ _ => Cert.ModW.Gen.frame m ρ,
  fun m ρ _ => Cert.ModWIdeal.Gen.frame m ρ,
  fun m ρ _ => Cert.ModWIdeal.Gen.frame m ρ,
  fun m ρ _ => Cert.ModWgrad.frame_ref m ρ trivial,
  fun m ρ _ => Cert.ModWgrad.frame_ref m ρ trivial,
  fun m ρ _ => Cert.AttnOut.Gen.frame m ρ,
  fun m ρ _ => Cert.AttnOutIdeal.Gen.frame m ρ,
  fun m ρ _ => Cert.AttnOutIdeal.Gen.frame m ρ,
  fun m ρ _ => Cert.AttnTail.frame_ref m ρ trivial,
  fun m ρ _ => Cert.AttnTail.frame_ref m ρ trivial,
  fun m ρ _ => Cert.Ffn.Gen.frame m ρ,
  fun m ρ _ => Cert.FfnIdeal.Gen.frame m ρ,
  fun m ρ _ => Cert.FfnIdeal.Gen.frame m ρ,
  fun m ρ _ => Cert.FeedFwd.frame_ref m ρ trivial,
  fun m ρ _ => Cert.FeedFwd.frame_ref m ρ trivial,
  fun m ρ _ => Cert.QBwd.Gen.frame m ρ,
  fun m ρ _ => Cert.QBwdIdeal.Gen.frame m ρ,
  fun m ρ _ => Cert.QBwdIdeal.Gen.frame m ρ,
  fun m ρ _ => Cert.Queries.frame_ref m ρ trivial,
  fun m ρ _ => Cert.Queries.frame_ref m ρ trivial,
  fun m ρ _ => Cert.KvBwd.Gen.frame m ρ,
  fun m ρ _ => Cert.KvBwdIdeal.Gen.frame m ρ,
  fun m ρ _ => Cert.KvBwdIdeal.Gen.frame m ρ,
  fun m ρ _ => Cert.Keys.frame_ref m ρ trivial,
  fun m ρ _ => Cert.Keys.frame_ref m ρ trivial,
  fun m ρ _ => Cert.AttnBwd.Body.frame m ρ,
  fun m ρ _ => Cert.AttnBwdIdeal.Body.frame m ρ,
  fun m ρ _ => Cert.AttnBwdIdeal.Body.frame m ρ,
  fun m ρ _ => Cert.Attn.frame_ref m ρ trivial,
  fun m ρ _ => Cert.Attn.frame_ref m ρ trivial,
  fun m ρ _ => Cert.ConvIn.Gen.frame m ρ,
  fun m ρ _ => Cert.ConvInIdeal.Gen.frame m ρ,
  fun m ρ _ => Cert.ConvInput.frame_ref m ρ trivial,
  fun m ρ _ => Cert.OutFwd.Gen.frame m ρ,
  fun m ρ _ => Cert.OutFwdIdeal.Gen.frame m ρ,
  fun m ρ _ => Cert.OutForward.frame_ref m ρ trivial,
  fun m ρ _ => Cert.ModFwd.Gen.frame m ρ,
  fun m ρ _ => Cert.ModFwdIdeal.Gen.frame m ρ,
  fun m ρ _ => Cert.ModForward.frame_ref m ρ trivial,
  fun m ρ _ => Cert.FfnFwd.Gen.frame m ρ,
  fun m ρ _ => Cert.FfnFwdIdeal.Gen.frame m ρ,
  fun m ρ _ => Cert.FeedForward.frame_ref m ρ trivial,
  fun m ρ _ => Cert.ConvInFwd.Gen.frame m ρ,
  fun m ρ _ => Cert.ConvInFwdIdeal.Gen.frame m ρ,
  fun m ρ _ => Cert.ConvHead.frame_ref m ρ trivial,
  fun m ρ _ => Cert.QFwd.Gen.frame m ρ,
  fun m ρ _ => Cert.QFwdIdeal.Gen.frame m ρ,
  fun m ρ _ => Cert.QueryForward.frame_ref m ρ trivial,
  trivial,
  Cert.FinalLoss.algebraic,
  trivial,
  Cert.ConvTail.algebraic,
  trivial,
  Cert.ConvWgrad.algebraic,
  trivial,
  Cert.ModWgrad.algebraic,
  trivial,
  Cert.AttnTail.algebraic,
  trivial,
  Cert.FeedFwd.algebraic,
  trivial,
  Cert.Queries.algebraic,
  trivial,
  Cert.Keys.algebraic,
  IdealRules.named_const.statement Cert.AttnBwdIdeal.κ "ln2" .f32 0x3F317218#32 ((Real.log 2 : ℝ) : EReal) rfl,
  Cert.Attn.algebraic,
  trivial,
  trivial,
  Cert.OutForward.algebraic,
  trivial,
  Cert.ModForward.algebraic,
  trivial,
  Cert.FeedForward.algebraic,
  trivial,
  Cert.ConvHead.algebraic,
  trivial,
  Cert.QueryForward.algebraic⟩

end Cert.Proof

end
